-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwGlu (m : (ℓ : Loc Cert.DwGlu.nD Cert.DwGlu.τ Cert.DwGlu.sig) → Buf (Elt Bits) ℓ) : Prop :=
  True

def Pre_DwGluIdeal (m : (ℓ : Loc Cert.DwGluIdeal.nD Cert.DwGluIdeal.τ Cert.DwGluIdeal.sig) → Buf (Elt Ideal) ℓ) : Prop :=
  True

def Pre_DwGluRefIdeal (m : (ℓ : Loc Cert.DwGluRefIdeal.nD Cert.DwGluRefIdeal.τ Cert.DwGluRefIdeal.sig) → Buf (Elt Ideal) ℓ) : Prop :=
  True

def Pre_DwPw (m : (ℓ : Loc Cert.DwPw.nD Cert.DwPw.τ Cert.DwPw.sig) → Buf (Elt Bits) ℓ) : Prop :=
  True

def Pre_DwPwIdeal (m : (ℓ : Loc Cert.DwPwIdeal.nD Cert.DwPwIdeal.τ Cert.DwPwIdeal.sig) → Buf (Elt Ideal) ℓ) : Prop :=
  True

def Pre_DwPwRefIdeal (m : (ℓ : Loc Cert.DwPwRefIdeal.nD Cert.DwPwRefIdeal.τ Cert.DwPwRefIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvRefIdeal (m : (ℓ : Loc Cert.DwKvRefIdeal.nD Cert.DwKvRefIdeal.τ Cert.DwKvRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_UpT (m : (ℓ : Loc Cert.UpT.nD Cert.UpT.τ Cert.UpT.sig) → Buf (Elt Bits) ℓ) : Prop :=
  True

def Pre_UpTIdeal (m : (ℓ : Loc Cert.UpTIdeal.nD Cert.UpTIdeal.τ Cert.UpTIdeal.sig) → Buf (Elt Ideal) ℓ) : Prop :=
  True

def Pre_UpTRefIdeal (m : (ℓ : Loc Cert.UpTRefIdeal.nD Cert.UpTRefIdeal.τ Cert.UpTRefIdeal.sig) → Buf (Elt Ideal) ℓ) : Prop :=
  True

def Pre_InT (m : (ℓ : Loc Cert.InT.nD Cert.InT.τ Cert.InT.sig) → Buf (Elt Bits) ℓ) : Prop :=
  True

def Pre_InTIdeal (m : (ℓ : Loc Cert.InTIdeal.nD Cert.InTIdeal.τ Cert.InTIdeal.sig) → Buf (Elt Ideal) ℓ) : Prop :=
  True

def Pre_InTRefIdeal (m : (ℓ : Loc Cert.InTRefIdeal.nD Cert.InTRefIdeal.τ Cert.InTRefIdeal.sig) → Buf (Elt Ideal) ℓ) : Prop :=
  True

def Pre_GluT (m : (ℓ : Loc Cert.GluT.nD Cert.GluT.τ Cert.GluT.sig) → Buf (Elt Bits) ℓ) : Prop :=
  True

def Pre_GluTIdeal (m : (ℓ : Loc Cert.GluTIdeal.nD Cert.GluTIdeal.τ Cert.GluTIdeal.sig) → Buf (Elt Ideal) ℓ) : Prop :=
  True

def Pre_GluTRefIdeal (m : (ℓ : Loc Cert.GluTRefIdeal.nD Cert.GluTRefIdeal.τ Cert.GluTRefIdeal.sig) → Buf (Elt Ideal) ℓ) : Prop :=
  True

def Pre_PwT (m : (ℓ : Loc Cert.PwT.nD Cert.PwT.τ Cert.PwT.sig) → Buf (Elt Bits) ℓ) : Prop :=
  True

def Pre_PwTIdeal (m : (ℓ : Loc Cert.PwTIdeal.nD Cert.PwTIdeal.τ Cert.PwTIdeal.sig) → Buf (Elt Ideal) ℓ) : Prop :=
  True

def Pre_PwTRefIdeal (m : (ℓ : Loc Cert.PwTRefIdeal.nD Cert.PwTRefIdeal.τ Cert.PwTRefIdeal.sig) → Buf (Elt Ideal) ℓ) : Prop :=
  True

def Pre_KvT (m : (ℓ : Loc Cert.KvT.nD Cert.KvT.τ Cert.KvT.sig) → Buf (Elt Bits) ℓ) : Prop :=
  True

def Pre_KvTIdeal (m : (ℓ : Loc Cert.KvTIdeal.nD Cert.KvTIdeal.τ Cert.KvTIdeal.sig) → Buf (Elt Ideal) ℓ) : Prop :=
  True

def Pre_KvTRefIdeal (m : (ℓ : Loc Cert.KvTRefIdeal.nD Cert.KvTRefIdeal.τ Cert.KvTRefIdeal.sig) → Buf (Elt Ideal) ℓ) : Prop :=
  True

def Pre_DownT (m : (ℓ : Loc Cert.DownT.nD Cert.DownT.τ Cert.DownT.sig) → Buf (Elt Bits) ℓ) : Prop :=
  True

def Pre_DownTIdeal (m : (ℓ : Loc Cert.DownTIdeal.nD Cert.DownTIdeal.τ Cert.DownTIdeal.sig) → Buf (Elt Ideal) ℓ) : Prop :=
  True

def Pre_DownTRefIdeal (m : (ℓ : Loc Cert.DownTRefIdeal.nD Cert.DownTRefIdeal.τ Cert.DownTRefIdeal.sig) → Buf (Elt Ideal) ℓ) : Prop :=
  True

def Pre_OutT (m : (ℓ : Loc Cert.OutT.nD Cert.OutT.τ Cert.OutT.sig) → Buf (Elt Bits) ℓ) : Prop :=
  True

def Pre_OutTIdeal (m : (ℓ : Loc Cert.OutTIdeal.nD Cert.OutTIdeal.τ Cert.OutTIdeal.sig) → Buf (Elt Ideal) ℓ) : Prop :=
  True

def Pre_OutTRefIdeal (m : (ℓ : Loc Cert.OutTRefIdeal.nD Cert.OutTRefIdeal.τ Cert.OutTRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Pw (m : (ℓ : Loc Cert.Pw.nD Cert.Pw.τ Cert.Pw.sig) → Buf (Elt Bits) ℓ) : Prop :=
  True

def Pre_PwIdeal (m : (ℓ : Loc Cert.PwIdeal.nD Cert.PwIdeal.τ Cert.PwIdeal.sig) → Buf (Elt Ideal) ℓ) : Prop :=
  True

def Pre_PwRefIdeal (m : (ℓ : Loc Cert.PwRefIdeal.nD Cert.PwRefIdeal.τ Cert.PwRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_Sparse (m : (ℓ : Loc Cert.Sparse.nD Cert.Sparse.τ Cert.Sparse.sig) → Buf (Elt Bits) ℓ) : Prop :=
  True

def Pre_SparseIdeal (m : (ℓ : Loc Cert.SparseIdeal.nD Cert.SparseIdeal.τ Cert.SparseIdeal.sig) → Buf (Elt Ideal) ℓ) : Prop :=
  True

def Pre_SparseRefIdeal (m : (ℓ : Loc Cert.SparseRefIdeal.nD Cert.SparseRefIdeal.τ Cert.SparseRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_LateSum (m : (ℓ : Loc Cert.LateSum.nD Cert.LateSum.τ Cert.LateSum.sig) → Buf (Elt Bits) ℓ) : Prop :=
  True

def Pre_LateSumIdeal (m : (ℓ : Loc Cert.LateSumIdeal.nD Cert.LateSumIdeal.τ Cert.LateSumIdeal.sig) → Buf (Elt Ideal) ℓ) : Prop :=
  True

def Pre_LateSumRefIdeal (m : (ℓ : Loc Cert.LateSumRefIdeal.nD Cert.LateSumRefIdeal.τ Cert.LateSumRefIdeal.sig) → Buf (Elt Ideal) ℓ) : Prop :=
  True

def Pre_AdamDw (m : (ℓ : Loc Cert.AdamDw.nD Cert.AdamDw.τ Cert.AdamDw.sig) → Buf (Elt Bits) ℓ) : Prop :=
  True

def Pre_AdamDwIdeal (m : (ℓ : Loc Cert.AdamDwIdeal.nD Cert.AdamDwIdeal.τ Cert.AdamDwIdeal.sig) → Buf (Elt Ideal) ℓ) : Prop :=
  True

def Pre_AdamDwRefIdeal (m : (ℓ : Loc Cert.AdamDwRefIdeal.nD Cert.AdamDwRefIdeal.τ Cert.AdamDwRefIdeal.sig) → Buf (Elt Ideal) ℓ) : Prop :=
  True

def Pre_AdamPw (m : (ℓ : Loc Cert.AdamPw.nD Cert.AdamPw.τ Cert.AdamPw.sig) → Buf (Elt Bits) ℓ) : Prop :=
  True

def Pre_AdamPwIdeal (m : (ℓ : Loc Cert.AdamPwIdeal.nD Cert.AdamPwIdeal.τ Cert.AdamPwIdeal.sig) → Buf (Elt Ideal) ℓ) : Prop :=
  True

def Pre_AdamPwRefIdeal (m : (ℓ : Loc Cert.AdamPwRefIdeal.nD Cert.AdamPwRefIdeal.τ Cert.AdamPwRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamFdw (m : (ℓ : Loc Cert.AdamFdw.nD Cert.AdamFdw.τ Cert.AdamFdw.sig) → Buf (Elt Bits) ℓ) : Prop :=
  True

def Pre_AdamFdwIdeal (m : (ℓ : Loc Cert.AdamFdwIdeal.nD Cert.AdamFdwIdeal.τ Cert.AdamFdwIdeal.sig) → Buf (Elt Ideal) ℓ) : Prop :=
  True

def Pre_AdamFdwRefIdeal (m : (ℓ : Loc Cert.AdamFdwRefIdeal.nD Cert.AdamFdwRefIdeal.τ Cert.AdamFdwRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdRefIdeal (m : (ℓ : Loc Cert.MemBwdRefIdeal.nD Cert.MemBwdRefIdeal.τ Cert.MemBwdRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwGlu [hDwGlu : Cert.DwGlu.Facts] : Prop :=
  ∀ (m : (ℓ : Loc Cert.DwGlu.nD Cert.DwGlu.τ Cert.DwGlu.sig) → Buf (Elt Bits) ℓ) (g : Dev Cert.DwGlu.nD → PrngReg), Pre_DwGlu m →
    θ_run (Cert.DwGlu.defs (F := Bits)) (onTc (τ := Cert.DwGlu.τ) (Cert.DwGlu.main (F := Bits))) ⟨m, fun _ => 0, g⟩ (fun r => (∀ c : Dev Cert.DwGlu.nD,
      r.2.mem ((c.tc : Thread Cert.DwGlu.nD Cert.DwGlu.τ).loc Cert.DwGlu.main_arg0) = m ((c.tc : Thread Cert.DwGlu.nD Cert.DwGlu.τ).loc Cert.DwGlu.main_arg0)
      ∧ r.2.mem ((c.tc : Thread Cert.DwGlu.nD Cert.DwGlu.τ).loc Cert.DwGlu.main_arg1) = m ((c.tc : Thread Cert.DwGlu.nD Cert.DwGlu.τ).loc Cert.DwGlu.main_arg1))
      ∧ r.2.sem = fun _ => 0)

def quiescent_DwGluIdeal [hDwGluIdeal : Cert.DwGluIdeal.Facts] : Prop :=
  ∀ (m : (ℓ : Loc Cert.DwGluIdeal.nD Cert.DwGluIdeal.τ Cert.DwGluIdeal.sig) → Buf (Elt Ideal) ℓ) (g : Dev Cert.DwGluIdeal.nD → PrngReg), Pre_DwGluIdeal m →
    θ_run (Cert.DwGluIdeal.defs (F := Ideal)) (onTc (τ := Cert.DwGluIdeal.τ) (Cert.DwGluIdeal.main (F := Ideal))) ⟨m, fun _ => 0, g⟩ (fun r => (∀ c : Dev Cert.DwGluIdeal.nD,
      r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
      ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ r.2.sem = fun _ => 0)

def quiescent_DwGluRefIdeal [hDwGluRefIdeal : Cert.DwGluRefIdeal.Facts] : Prop :=
  ∀ (m : (ℓ : Loc Cert.DwGluRefIdeal.nD Cert.DwGluRefIdeal.τ Cert.DwGluRefIdeal.sig) → Buf (Elt Ideal) ℓ) (g : Dev Cert.DwGluRefIdeal.nD → PrngReg), Pre_DwGluRefIdeal m →
    θ_run (Cert.DwGluRefIdeal.defs (F := Ideal)) (onTc (τ := Cert.DwGluRefIdeal.τ) (Cert.DwGluRefIdeal.main (F := Ideal))) ⟨m, fun _ => 0, g⟩ (fun r => (∀ c : Dev Cert.DwGluRefIdeal.nD,
      r.2.mem ((c.tc : Thread Cert.DwGluRefIdeal.nD Cert.DwGluRefIdeal.τ).loc Cert.DwGluRefIdeal.main_arg0) = m ((c.tc : Thread Cert.DwGluRefIdeal.nD Cert.DwGluRefIdeal.τ).loc Cert.DwGluRefIdeal.main_arg0)
      ∧ r.2.mem ((c.tc : Thread Cert.DwGluRefIdeal.nD Cert.DwGluRefIdeal.τ).loc Cert.DwGluRefIdeal.main_arg1) = m ((c.tc : Thread Cert.DwGluRefIdeal.nD Cert.DwGluRefIdeal.τ).loc Cert.DwGluRefIdeal.main_arg1))
      ∧ r.2.sem = fun _ => 0)

def quiescent_DwPw [hDwPw : Cert.DwPw.Facts] : Prop :=
  ∀ (m : (ℓ : Loc Cert.DwPw.nD Cert.DwPw.τ Cert.DwPw.sig) → Buf (Elt Bits) ℓ) (g : Dev Cert.DwPw.nD → PrngReg), Pre_DwPw m →
    θ_run (Cert.DwPw.defs (F := Bits)) (onTc (τ := Cert.DwPw.τ) (Cert.DwPw.main (F := Bits))) ⟨m, fun _ => 0, g⟩ (fun r => (∀ c : Dev Cert.DwPw.nD,
      r.2.mem ((c.tc : Thread Cert.DwPw.nD Cert.DwPw.τ).loc Cert.DwPw.main_arg0) = m ((c.tc : Thread Cert.DwPw.nD Cert.DwPw.τ).loc Cert.DwPw.main_arg0)
      ∧ r.2.mem ((c.tc : Thread Cert.DwPw.nD Cert.DwPw.τ).loc Cert.DwPw.main_arg1) = m ((c.tc : Thread Cert.DwPw.nD Cert.DwPw.τ).loc Cert.DwPw.main_arg1))
      ∧ r.2.sem = fun _ => 0)

def quiescent_DwPwIdeal [hDwPwIdeal : Cert.DwPwIdeal.Facts] : Prop :=
  ∀ (m : (ℓ : Loc Cert.DwPwIdeal.nD Cert.DwPwIdeal.τ Cert.DwPwIdeal.sig) → Buf (Elt Ideal) ℓ) (g : Dev Cert.DwPwIdeal.nD → PrngReg), Pre_DwPwIdeal m →
    θ_run (Cert.DwPwIdeal.defs (F := Ideal)) (onTc (τ := Cert.DwPwIdeal.τ) (Cert.DwPwIdeal.main (F := Ideal))) ⟨m, fun _ => 0, g⟩ (fun r => (∀ c : Dev Cert.DwPwIdeal.nD,
      r.2.mem ((c.tc : Thread Cert.DwPwIdeal.nD Cert.DwPwIdeal.τ).loc Cert.DwPwIdeal.main_arg0) = m ((c.tc : Thread Cert.DwPwIdeal.nD Cert.DwPwIdeal.τ).loc Cert.DwPwIdeal.main_arg0)
      ∧ r.2.mem ((c.tc : Thread Cert.DwPwIdeal.nD Cert.DwPwIdeal.τ).loc Cert.DwPwIdeal.main_arg1) = m ((c.tc : Thread Cert.DwPwIdeal.nD Cert.DwPwIdeal.τ).loc Cert.DwPwIdeal.main_arg1))
      ∧ r.2.sem = fun _ => 0)

def quiescent_DwPwRefIdeal [hDwPwRefIdeal : Cert.DwPwRefIdeal.Facts] : Prop :=
  ∀ (m : (ℓ : Loc Cert.DwPwRefIdeal.nD Cert.DwPwRefIdeal.τ Cert.DwPwRefIdeal.sig) → Buf (Elt Ideal) ℓ) (g : Dev Cert.DwPwRefIdeal.nD → PrngReg), Pre_DwPwRefIdeal m →
    θ_run (Cert.DwPwRefIdeal.defs (F := Ideal)) (onTc (τ := Cert.DwPwRefIdeal.τ) (Cert.DwPwRefIdeal.main (F := Ideal))) ⟨m, fun _ => 0, g⟩ (fun r => (∀ c : Dev Cert.DwPwRefIdeal.nD,
      r.2.mem ((c.tc : Thread Cert.DwPwRefIdeal.nD Cert.DwPwRefIdeal.τ).loc Cert.DwPwRefIdeal.main_arg0) = m ((c.tc : Thread Cert.DwPwRefIdeal.nD Cert.DwPwRefIdeal.τ).loc Cert.DwPwRefIdeal.main_arg0)
      ∧ r.2.mem ((c.tc : Thread Cert.DwPwRefIdeal.nD Cert.DwPwRefIdeal.τ).loc Cert.DwPwRefIdeal.main_arg1) = m ((c.tc : Thread Cert.DwPwRefIdeal.nD Cert.DwPwRefIdeal.τ).loc Cert.DwPwRefIdeal.main_arg1))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ r.2.sem = fun _ => 0)

def quiescent_DwKvRefIdeal [hDwKvRefIdeal : Cert.DwKvRefIdeal.Facts] : Prop :=
  ∀ (m : (ℓ : Loc Cert.DwKvRefIdeal.nD Cert.DwKvRefIdeal.τ Cert.DwKvRefIdeal.sig) → Buf (Elt Ideal) ℓ) (g : Dev Cert.DwKvRefIdeal.nD → PrngReg), Pre_DwKvRefIdeal m →
    θ_run (Cert.DwKvRefIdeal.defs (F := Ideal)) (onTc (τ := Cert.DwKvRefIdeal.τ) (Cert.DwKvRefIdeal.main (F := Ideal))) ⟨m, fun _ => 0, g⟩ (fun r => (∀ c : Dev Cert.DwKvRefIdeal.nD,
      r.2.mem ((c.tc : Thread Cert.DwKvRefIdeal.nD Cert.DwKvRefIdeal.τ).loc Cert.DwKvRefIdeal.main_arg0) = m ((c.tc : Thread Cert.DwKvRefIdeal.nD Cert.DwKvRefIdeal.τ).loc Cert.DwKvRefIdeal.main_arg0)
      ∧ r.2.mem ((c.tc : Thread Cert.DwKvRefIdeal.nD Cert.DwKvRefIdeal.τ).loc Cert.DwKvRefIdeal.main_arg1) = m ((c.tc : Thread Cert.DwKvRefIdeal.nD Cert.DwKvRefIdeal.τ).loc Cert.DwKvRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_UpT [hUpT : Cert.UpT.Facts] : Prop :=
  ∀ (m : (ℓ : Loc Cert.UpT.nD Cert.UpT.τ Cert.UpT.sig) → Buf (Elt Bits) ℓ) (g : Dev Cert.UpT.nD → PrngReg), Pre_UpT m →
    θ_run (Cert.UpT.defs (F := Bits)) (onTc (τ := Cert.UpT.τ) (Cert.UpT.main (F := Bits))) ⟨m, fun _ => 0, g⟩ (fun r => (∀ c : Dev Cert.UpT.nD,
      r.2.mem ((c.tc : Thread Cert.UpT.nD Cert.UpT.τ).loc Cert.UpT.main_arg0) = m ((c.tc : Thread Cert.UpT.nD Cert.UpT.τ).loc Cert.UpT.main_arg0)
      ∧ r.2.mem ((c.tc : Thread Cert.UpT.nD Cert.UpT.τ).loc Cert.UpT.main_arg1) = m ((c.tc : Thread Cert.UpT.nD Cert.UpT.τ).loc Cert.UpT.main_arg1))
      ∧ r.2.sem = fun _ => 0)

def quiescent_UpTIdeal [hUpTIdeal : Cert.UpTIdeal.Facts] : Prop :=
  ∀ (m : (ℓ : Loc Cert.UpTIdeal.nD Cert.UpTIdeal.τ Cert.UpTIdeal.sig) → Buf (Elt Ideal) ℓ) (g : Dev Cert.UpTIdeal.nD → PrngReg), Pre_UpTIdeal m →
    θ_run (Cert.UpTIdeal.defs (F := Ideal)) (onTc (τ := Cert.UpTIdeal.τ) (Cert.UpTIdeal.main (F := Ideal))) ⟨m, fun _ => 0, g⟩ (fun r => (∀ c : Dev Cert.UpTIdeal.nD,
      r.2.mem ((c.tc : Thread Cert.UpTIdeal.nD Cert.UpTIdeal.τ).loc Cert.UpTIdeal.main_arg0) = m ((c.tc : Thread Cert.UpTIdeal.nD Cert.UpTIdeal.τ).loc Cert.UpTIdeal.main_arg0)
      ∧ r.2.mem ((c.tc : Thread Cert.UpTIdeal.nD Cert.UpTIdeal.τ).loc Cert.UpTIdeal.main_arg1) = m ((c.tc : Thread Cert.UpTIdeal.nD Cert.UpTIdeal.τ).loc Cert.UpTIdeal.main_arg1))
      ∧ r.2.sem = fun _ => 0)

def quiescent_UpTRefIdeal [hUpTRefIdeal : Cert.UpTRefIdeal.Facts] : Prop :=
  ∀ (m : (ℓ : Loc Cert.UpTRefIdeal.nD Cert.UpTRefIdeal.τ Cert.UpTRefIdeal.sig) → Buf (Elt Ideal) ℓ) (g : Dev Cert.UpTRefIdeal.nD → PrngReg), Pre_UpTRefIdeal m →
    θ_run (Cert.UpTRefIdeal.defs (F := Ideal)) (onTc (τ := Cert.UpTRefIdeal.τ) (Cert.UpTRefIdeal.main (F := Ideal))) ⟨m, fun _ => 0, g⟩ (fun r => (∀ c : Dev Cert.UpTRefIdeal.nD,
      r.2.mem ((c.tc : Thread Cert.UpTRefIdeal.nD Cert.UpTRefIdeal.τ).loc Cert.UpTRefIdeal.main_arg0) = m ((c.tc : Thread Cert.UpTRefIdeal.nD Cert.UpTRefIdeal.τ).loc Cert.UpTRefIdeal.main_arg0)
      ∧ r.2.mem ((c.tc : Thread Cert.UpTRefIdeal.nD Cert.UpTRefIdeal.τ).loc Cert.UpTRefIdeal.main_arg1) = m ((c.tc : Thread Cert.UpTRefIdeal.nD Cert.UpTRefIdeal.τ).loc Cert.UpTRefIdeal.main_arg1))
      ∧ r.2.sem = fun _ => 0)

def quiescent_InT [hInT : Cert.InT.Facts] : Prop :=
  ∀ (m : (ℓ : Loc Cert.InT.nD Cert.InT.τ Cert.InT.sig) → Buf (Elt Bits) ℓ) (g : Dev Cert.InT.nD → PrngReg), Pre_InT m →
    θ_run (Cert.InT.defs (F := Bits)) (onTc (τ := Cert.InT.τ) (Cert.InT.main (F := Bits))) ⟨m, fun _ => 0, g⟩ (fun r => (∀ c : Dev Cert.InT.nD,
      r.2.mem ((c.tc : Thread Cert.InT.nD Cert.InT.τ).loc Cert.InT.main_arg0) = m ((c.tc : Thread Cert.InT.nD Cert.InT.τ).loc Cert.InT.main_arg0)
      ∧ r.2.mem ((c.tc : Thread Cert.InT.nD Cert.InT.τ).loc Cert.InT.main_arg1) = m ((c.tc : Thread Cert.InT.nD Cert.InT.τ).loc Cert.InT.main_arg1))
      ∧ r.2.sem = fun _ => 0)

def quiescent_InTIdeal [hInTIdeal : Cert.InTIdeal.Facts] : Prop :=
  ∀ (m : (ℓ : Loc Cert.InTIdeal.nD Cert.InTIdeal.τ Cert.InTIdeal.sig) → Buf (Elt Ideal) ℓ) (g : Dev Cert.InTIdeal.nD → PrngReg), Pre_InTIdeal m →
    θ_run (Cert.InTIdeal.defs (F := Ideal)) (onTc (τ := Cert.InTIdeal.τ) (Cert.InTIdeal.main (F := Ideal))) ⟨m, fun _ => 0, g⟩ (fun r => (∀ c : Dev Cert.InTIdeal.nD,
      r.2.mem ((c.tc : Thread Cert.InTIdeal.nD Cert.InTIdeal.τ).loc Cert.InTIdeal.main_arg0) = m ((c.tc : Thread Cert.InTIdeal.nD Cert.InTIdeal.τ).loc Cert.InTIdeal.main_arg0)
      ∧ r.2.mem ((c.tc : Thread Cert.InTIdeal.nD Cert.InTIdeal.τ).loc Cert.InTIdeal.main_arg1) = m ((c.tc : Thread Cert.InTIdeal.nD Cert.InTIdeal.τ).loc Cert.InTIdeal.main_arg1))
      ∧ r.2.sem = fun _ => 0)

def quiescent_InTRefIdeal [hInTRefIdeal : Cert.InTRefIdeal.Facts] : Prop :=
  ∀ (m : (ℓ : Loc Cert.InTRefIdeal.nD Cert.InTRefIdeal.τ Cert.InTRefIdeal.sig) → Buf (Elt Ideal) ℓ) (g : Dev Cert.InTRefIdeal.nD → PrngReg), Pre_InTRefIdeal m →
    θ_run (Cert.InTRefIdeal.defs (F := Ideal)) (onTc (τ := Cert.InTRefIdeal.τ) (Cert.InTRefIdeal.main (F := Ideal))) ⟨m, fun _ => 0, g⟩ (fun r => (∀ c : Dev Cert.InTRefIdeal.nD,
      r.2.mem ((c.tc : Thread Cert.InTRefIdeal.nD Cert.InTRefIdeal.τ).loc Cert.InTRefIdeal.main_arg0) = m ((c.tc : Thread Cert.InTRefIdeal.nD Cert.InTRefIdeal.τ).loc Cert.InTRefIdeal.main_arg0)
      ∧ r.2.mem ((c.tc : Thread Cert.InTRefIdeal.nD Cert.InTRefIdeal.τ).loc Cert.InTRefIdeal.main_arg1) = m ((c.tc : Thread Cert.InTRefIdeal.nD Cert.InTRefIdeal.τ).loc Cert.InTRefIdeal.main_arg1))
      ∧ r.2.sem = fun _ => 0)

def quiescent_GluT [hGluT : Cert.GluT.Facts] : Prop :=
  ∀ (m : (ℓ : Loc Cert.GluT.nD Cert.GluT.τ Cert.GluT.sig) → Buf (Elt Bits) ℓ) (g : Dev Cert.GluT.nD → PrngReg), Pre_GluT m →
    θ_run (Cert.GluT.defs (F := Bits)) (onTc (τ := Cert.GluT.τ) (Cert.GluT.main (F := Bits))) ⟨m, fun _ => 0, g⟩ (fun r => (∀ c : Dev Cert.GluT.nD,
      r.2.mem ((c.tc : Thread Cert.GluT.nD Cert.GluT.τ).loc Cert.GluT.main_arg0) = m ((c.tc : Thread Cert.GluT.nD Cert.GluT.τ).loc Cert.GluT.main_arg0)
      ∧ r.2.mem ((c.tc : Thread Cert.GluT.nD Cert.GluT.τ).loc Cert.GluT.main_arg1) = m ((c.tc : Thread Cert.GluT.nD Cert.GluT.τ).loc Cert.GluT.main_arg1))
      ∧ r.2.sem = fun _ => 0)

def quiescent_GluTIdeal [hGluTIdeal : Cert.GluTIdeal.Facts] : Prop :=
  ∀ (m : (ℓ : Loc Cert.GluTIdeal.nD Cert.GluTIdeal.τ Cert.GluTIdeal.sig) → Buf (Elt Ideal) ℓ) (g : Dev Cert.GluTIdeal.nD → PrngReg), Pre_GluTIdeal m →
    θ_run (Cert.GluTIdeal.defs (F := Ideal)) (onTc (τ := Cert.GluTIdeal.τ) (Cert.GluTIdeal.main (F := Ideal))) ⟨m, fun _ => 0, g⟩ (fun r => (∀ c : Dev Cert.GluTIdeal.nD,
      r.2.mem ((c.tc : Thread Cert.GluTIdeal.nD Cert.GluTIdeal.τ).loc Cert.GluTIdeal.main_arg0) = m ((c.tc : Thread Cert.GluTIdeal.nD Cert.GluTIdeal.τ).loc Cert.GluTIdeal.main_arg0)
      ∧ r.2.mem ((c.tc : Thread Cert.GluTIdeal.nD Cert.GluTIdeal.τ).loc Cert.GluTIdeal.main_arg1) = m ((c.tc : Thread Cert.GluTIdeal.nD Cert.GluTIdeal.τ).loc Cert.GluTIdeal.main_arg1))
      ∧ r.2.sem = fun _ => 0)

def quiescent_GluTRefIdeal [hGluTRefIdeal : Cert.GluTRefIdeal.Facts] : Prop :=
  ∀ (m : (ℓ : Loc Cert.GluTRefIdeal.nD Cert.GluTRefIdeal.τ Cert.GluTRefIdeal.sig) → Buf (Elt Ideal) ℓ) (g : Dev Cert.GluTRefIdeal.nD → PrngReg), Pre_GluTRefIdeal m →
    θ_run (Cert.GluTRefIdeal.defs (F := Ideal)) (onTc (τ := Cert.GluTRefIdeal.τ) (Cert.GluTRefIdeal.main (F := Ideal))) ⟨m, fun _ => 0, g⟩ (fun r => (∀ c : Dev Cert.GluTRefIdeal.nD,
      r.2.mem ((c.tc : Thread Cert.GluTRefIdeal.nD Cert.GluTRefIdeal.τ).loc Cert.GluTRefIdeal.main_arg0) = m ((c.tc : Thread Cert.GluTRefIdeal.nD Cert.GluTRefIdeal.τ).loc Cert.GluTRefIdeal.main_arg0)
      ∧ r.2.mem ((c.tc : Thread Cert.GluTRefIdeal.nD Cert.GluTRefIdeal.τ).loc Cert.GluTRefIdeal.main_arg1) = m ((c.tc : Thread Cert.GluTRefIdeal.nD Cert.GluTRefIdeal.τ).loc Cert.GluTRefIdeal.main_arg1))
      ∧ r.2.sem = fun _ => 0)

def quiescent_PwT [hPwT : Cert.PwT.Facts] : Prop :=
  ∀ (m : (ℓ : Loc Cert.PwT.nD Cert.PwT.τ Cert.PwT.sig) → Buf (Elt Bits) ℓ) (g : Dev Cert.PwT.nD → PrngReg), Pre_PwT m →
    θ_run (Cert.PwT.defs (F := Bits)) (onTc (τ := Cert.PwT.τ) (Cert.PwT.main (F := Bits))) ⟨m, fun _ => 0, g⟩ (fun r => (∀ c : Dev Cert.PwT.nD,
      r.2.mem ((c.tc : Thread Cert.PwT.nD Cert.PwT.τ).loc Cert.PwT.main_arg0) = m ((c.tc : Thread Cert.PwT.nD Cert.PwT.τ).loc Cert.PwT.main_arg0)
      ∧ r.2.mem ((c.tc : Thread Cert.PwT.nD Cert.PwT.τ).loc Cert.PwT.main_arg1) = m ((c.tc : Thread Cert.PwT.nD Cert.PwT.τ).loc Cert.PwT.main_arg1))
      ∧ r.2.sem = fun _ => 0)

def quiescent_PwTIdeal [hPwTIdeal : Cert.PwTIdeal.Facts] : Prop :=
  ∀ (m : (ℓ : Loc Cert.PwTIdeal.nD Cert.PwTIdeal.τ Cert.PwTIdeal.sig) → Buf (Elt Ideal) ℓ) (g : Dev Cert.PwTIdeal.nD → PrngReg), Pre_PwTIdeal m →
    θ_run (Cert.PwTIdeal.defs (F := Ideal)) (onTc (τ := Cert.PwTIdeal.τ) (Cert.PwTIdeal.main (F := Ideal))) ⟨m, fun _ => 0, g⟩ (fun r => (∀ c : Dev Cert.PwTIdeal.nD,
      r.2.mem ((c.tc : Thread Cert.PwTIdeal.nD Cert.PwTIdeal.τ).loc Cert.PwTIdeal.main_arg0) = m ((c.tc : Thread Cert.PwTIdeal.nD Cert.PwTIdeal.τ).loc Cert.PwTIdeal.main_arg0)
      ∧ r.2.mem ((c.tc : Thread Cert.PwTIdeal.nD Cert.PwTIdeal.τ).loc Cert.PwTIdeal.main_arg1) = m ((c.tc : Thread Cert.PwTIdeal.nD Cert.PwTIdeal.τ).loc Cert.PwTIdeal.main_arg1))
      ∧ r.2.sem = fun _ => 0)

def quiescent_PwTRefIdeal [hPwTRefIdeal : Cert.PwTRefIdeal.Facts] : Prop :=
  ∀ (m : (ℓ : Loc Cert.PwTRefIdeal.nD Cert.PwTRefIdeal.τ Cert.PwTRefIdeal.sig) → Buf (Elt Ideal) ℓ) (g : Dev Cert.PwTRefIdeal.nD → PrngReg), Pre_PwTRefIdeal m →
    θ_run (Cert.PwTRefIdeal.defs (F := Ideal)) (onTc (τ := Cert.PwTRefIdeal.τ) (Cert.PwTRefIdeal.main (F := Ideal))) ⟨m, fun _ => 0, g⟩ (fun r => (∀ c : Dev Cert.PwTRefIdeal.nD,
      r.2.mem ((c.tc : Thread Cert.PwTRefIdeal.nD Cert.PwTRefIdeal.τ).loc Cert.PwTRefIdeal.main_arg0) = m ((c.tc : Thread Cert.PwTRefIdeal.nD Cert.PwTRefIdeal.τ).loc Cert.PwTRefIdeal.main_arg0)
      ∧ r.2.mem ((c.tc : Thread Cert.PwTRefIdeal.nD Cert.PwTRefIdeal.τ).loc Cert.PwTRefIdeal.main_arg1) = m ((c.tc : Thread Cert.PwTRefIdeal.nD Cert.PwTRefIdeal.τ).loc Cert.PwTRefIdeal.main_arg1))
      ∧ r.2.sem = fun _ => 0)

def quiescent_KvT [hKvT : Cert.KvT.Facts] : Prop :=
  ∀ (m : (ℓ : Loc Cert.KvT.nD Cert.KvT.τ Cert.KvT.sig) → Buf (Elt Bits) ℓ) (g : Dev Cert.KvT.nD → PrngReg), Pre_KvT m →
    θ_run (Cert.KvT.defs (F := Bits)) (onTc (τ := Cert.KvT.τ) (Cert.KvT.main (F := Bits))) ⟨m, fun _ => 0, g⟩ (fun r => (∀ c : Dev Cert.KvT.nD,
      r.2.mem ((c.tc : Thread Cert.KvT.nD Cert.KvT.τ).loc Cert.KvT.main_arg0) = m ((c.tc : Thread Cert.KvT.nD Cert.KvT.τ).loc Cert.KvT.main_arg0)
      ∧ r.2.mem ((c.tc : Thread Cert.KvT.nD Cert.KvT.τ).loc Cert.KvT.main_arg1) = m ((c.tc : Thread Cert.KvT.nD Cert.KvT.τ).loc Cert.KvT.main_arg1))
      ∧ r.2.sem = fun _ => 0)

def quiescent_KvTIdeal [hKvTIdeal : Cert.KvTIdeal.Facts] : Prop :=
  ∀ (m : (ℓ : Loc Cert.KvTIdeal.nD Cert.KvTIdeal.τ Cert.KvTIdeal.sig) → Buf (Elt Ideal) ℓ) (g : Dev Cert.KvTIdeal.nD → PrngReg), Pre_KvTIdeal m →
    θ_run (Cert.KvTIdeal.defs (F := Ideal)) (onTc (τ := Cert.KvTIdeal.τ) (Cert.KvTIdeal.main (F := Ideal))) ⟨m, fun _ => 0, g⟩ (fun r => (∀ c : Dev Cert.KvTIdeal.nD,
      r.2.mem ((c.tc : Thread Cert.KvTIdeal.nD Cert.KvTIdeal.τ).loc Cert.KvTIdeal.main_arg0) = m ((c.tc : Thread Cert.KvTIdeal.nD Cert.KvTIdeal.τ).loc Cert.KvTIdeal.main_arg0)
      ∧ r.2.mem ((c.tc : Thread Cert.KvTIdeal.nD Cert.KvTIdeal.τ).loc Cert.KvTIdeal.main_arg1) = m ((c.tc : Thread Cert.KvTIdeal.nD Cert.KvTIdeal.τ).loc Cert.KvTIdeal.main_arg1))
      ∧ r.2.sem = fun _ => 0)

def quiescent_KvTRefIdeal [hKvTRefIdeal : Cert.KvTRefIdeal.Facts] : Prop :=
  ∀ (m : (ℓ : Loc Cert.KvTRefIdeal.nD Cert.KvTRefIdeal.τ Cert.KvTRefIdeal.sig) → Buf (Elt Ideal) ℓ) (g : Dev Cert.KvTRefIdeal.nD → PrngReg), Pre_KvTRefIdeal m →
    θ_run (Cert.KvTRefIdeal.defs (F := Ideal)) (onTc (τ := Cert.KvTRefIdeal.τ) (Cert.KvTRefIdeal.main (F := Ideal))) ⟨m, fun _ => 0, g⟩ (fun r => (∀ c : Dev Cert.KvTRefIdeal.nD,
      r.2.mem ((c.tc : Thread Cert.KvTRefIdeal.nD Cert.KvTRefIdeal.τ).loc Cert.KvTRefIdeal.main_arg0) = m ((c.tc : Thread Cert.KvTRefIdeal.nD Cert.KvTRefIdeal.τ).loc Cert.KvTRefIdeal.main_arg0)
      ∧ r.2.mem ((c.tc : Thread Cert.KvTRefIdeal.nD Cert.KvTRefIdeal.τ).loc Cert.KvTRefIdeal.main_arg1) = m ((c.tc : Thread Cert.KvTRefIdeal.nD Cert.KvTRefIdeal.τ).loc Cert.KvTRefIdeal.main_arg1))
      ∧ r.2.sem = fun _ => 0)

def quiescent_DownT [hDownT : Cert.DownT.Facts] : Prop :=
  ∀ (m : (ℓ : Loc Cert.DownT.nD Cert.DownT.τ Cert.DownT.sig) → Buf (Elt Bits) ℓ) (g : Dev Cert.DownT.nD → PrngReg), Pre_DownT m →
    θ_run (Cert.DownT.defs (F := Bits)) (onTc (τ := Cert.DownT.τ) (Cert.DownT.main (F := Bits))) ⟨m, fun _ => 0, g⟩ (fun r => (∀ c : Dev Cert.DownT.nD,
      r.2.mem ((c.tc : Thread Cert.DownT.nD Cert.DownT.τ).loc Cert.DownT.main_arg0) = m ((c.tc : Thread Cert.DownT.nD Cert.DownT.τ).loc Cert.DownT.main_arg0)
      ∧ r.2.mem ((c.tc : Thread Cert.DownT.nD Cert.DownT.τ).loc Cert.DownT.main_arg1) = m ((c.tc : Thread Cert.DownT.nD Cert.DownT.τ).loc Cert.DownT.main_arg1))
      ∧ r.2.sem = fun _ => 0)

def quiescent_DownTIdeal [hDownTIdeal : Cert.DownTIdeal.Facts] : Prop :=
  ∀ (m : (ℓ : Loc Cert.DownTIdeal.nD Cert.DownTIdeal.τ Cert.DownTIdeal.sig) → Buf (Elt Ideal) ℓ) (g : Dev Cert.DownTIdeal.nD → PrngReg), Pre_DownTIdeal m →
    θ_run (Cert.DownTIdeal.defs (F := Ideal)) (onTc (τ := Cert.DownTIdeal.τ) (Cert.DownTIdeal.main (F := Ideal))) ⟨m, fun _ => 0, g⟩ (fun r => (∀ c : Dev Cert.DownTIdeal.nD,
      r.2.mem ((c.tc : Thread Cert.DownTIdeal.nD Cert.DownTIdeal.τ).loc Cert.DownTIdeal.main_arg0) = m ((c.tc : Thread Cert.DownTIdeal.nD Cert.DownTIdeal.τ).loc Cert.DownTIdeal.main_arg0)
      ∧ r.2.mem ((c.tc : Thread Cert.DownTIdeal.nD Cert.DownTIdeal.τ).loc Cert.DownTIdeal.main_arg1) = m ((c.tc : Thread Cert.DownTIdeal.nD Cert.DownTIdeal.τ).loc Cert.DownTIdeal.main_arg1))
      ∧ r.2.sem = fun _ => 0)

def quiescent_DownTRefIdeal [hDownTRefIdeal : Cert.DownTRefIdeal.Facts] : Prop :=
  ∀ (m : (ℓ : Loc Cert.DownTRefIdeal.nD Cert.DownTRefIdeal.τ Cert.DownTRefIdeal.sig) → Buf (Elt Ideal) ℓ) (g : Dev Cert.DownTRefIdeal.nD → PrngReg), Pre_DownTRefIdeal m →
    θ_run (Cert.DownTRefIdeal.defs (F := Ideal)) (onTc (τ := Cert.DownTRefIdeal.τ) (Cert.DownTRefIdeal.main (F := Ideal))) ⟨m, fun _ => 0, g⟩ (fun r => (∀ c : Dev Cert.DownTRefIdeal.nD,
      r.2.mem ((c.tc : Thread Cert.DownTRefIdeal.nD Cert.DownTRefIdeal.τ).loc Cert.DownTRefIdeal.main_arg0) = m ((c.tc : Thread Cert.DownTRefIdeal.nD Cert.DownTRefIdeal.τ).loc Cert.DownTRefIdeal.main_arg0)
      ∧ r.2.mem ((c.tc : Thread Cert.DownTRefIdeal.nD Cert.DownTRefIdeal.τ).loc Cert.DownTRefIdeal.main_arg1) = m ((c.tc : Thread Cert.DownTRefIdeal.nD Cert.DownTRefIdeal.τ).loc Cert.DownTRefIdeal.main_arg1))
      ∧ r.2.sem = fun _ => 0)

def quiescent_OutT [hOutT : Cert.OutT.Facts] : Prop :=
  ∀ (m : (ℓ : Loc Cert.OutT.nD Cert.OutT.τ Cert.OutT.sig) → Buf (Elt Bits) ℓ) (g : Dev Cert.OutT.nD → PrngReg), Pre_OutT m →
    θ_run (Cert.OutT.defs (F := Bits)) (onTc (τ := Cert.OutT.τ) (Cert.OutT.main (F := Bits))) ⟨m, fun _ => 0, g⟩ (fun r => (∀ c : Dev Cert.OutT.nD,
      r.2.mem ((c.tc : Thread Cert.OutT.nD Cert.OutT.τ).loc Cert.OutT.main_arg0) = m ((c.tc : Thread Cert.OutT.nD Cert.OutT.τ).loc Cert.OutT.main_arg0)
      ∧ r.2.mem ((c.tc : Thread Cert.OutT.nD Cert.OutT.τ).loc Cert.OutT.main_arg1) = m ((c.tc : Thread Cert.OutT.nD Cert.OutT.τ).loc Cert.OutT.main_arg1))
      ∧ r.2.sem = fun _ => 0)

def quiescent_OutTIdeal [hOutTIdeal : Cert.OutTIdeal.Facts] : Prop :=
  ∀ (m : (ℓ : Loc Cert.OutTIdeal.nD Cert.OutTIdeal.τ Cert.OutTIdeal.sig) → Buf (Elt Ideal) ℓ) (g : Dev Cert.OutTIdeal.nD → PrngReg), Pre_OutTIdeal m →
    θ_run (Cert.OutTIdeal.defs (F := Ideal)) (onTc (τ := Cert.OutTIdeal.τ) (Cert.OutTIdeal.main (F := Ideal))) ⟨m, fun _ => 0, g⟩ (fun r => (∀ c : Dev Cert.OutTIdeal.nD,
      r.2.mem ((c.tc : Thread Cert.OutTIdeal.nD Cert.OutTIdeal.τ).loc Cert.OutTIdeal.main_arg0) = m ((c.tc : Thread Cert.OutTIdeal.nD Cert.OutTIdeal.τ).loc Cert.OutTIdeal.main_arg0)
      ∧ r.2.mem ((c.tc : Thread Cert.OutTIdeal.nD Cert.OutTIdeal.τ).loc Cert.OutTIdeal.main_arg1) = m ((c.tc : Thread Cert.OutTIdeal.nD Cert.OutTIdeal.τ).loc Cert.OutTIdeal.main_arg1))
      ∧ r.2.sem = fun _ => 0)

def quiescent_OutTRefIdeal [hOutTRefIdeal : Cert.OutTRefIdeal.Facts] : Prop :=
  ∀ (m : (ℓ : Loc Cert.OutTRefIdeal.nD Cert.OutTRefIdeal.τ Cert.OutTRefIdeal.sig) → Buf (Elt Ideal) ℓ) (g : Dev Cert.OutTRefIdeal.nD → PrngReg), Pre_OutTRefIdeal m →
    θ_run (Cert.OutTRefIdeal.defs (F := Ideal)) (onTc (τ := Cert.OutTRefIdeal.τ) (Cert.OutTRefIdeal.main (F := Ideal))) ⟨m, fun _ => 0, g⟩ (fun r => (∀ c : Dev Cert.OutTRefIdeal.nD,
      r.2.mem ((c.tc : Thread Cert.OutTRefIdeal.nD Cert.OutTRefIdeal.τ).loc Cert.OutTRefIdeal.main_arg0) = m ((c.tc : Thread Cert.OutTRefIdeal.nD Cert.OutTRefIdeal.τ).loc Cert.OutTRefIdeal.main_arg0)
      ∧ r.2.mem ((c.tc : Thread Cert.OutTRefIdeal.nD Cert.OutTRefIdeal.τ).loc Cert.OutTRefIdeal.main_arg1) = m ((c.tc : Thread Cert.OutTRefIdeal.nD Cert.OutTRefIdeal.τ).loc Cert.OutTRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Pw [hPw : Cert.Pw.Facts] : Prop :=
  ∀ (m : (ℓ : Loc Cert.Pw.nD Cert.Pw.τ Cert.Pw.sig) → Buf (Elt Bits) ℓ) (g : Dev Cert.Pw.nD → PrngReg), Pre_Pw m →
    θ_run (Cert.Pw.defs (F := Bits)) (onTc (τ := Cert.Pw.τ) (Cert.Pw.main (F := Bits))) ⟨m, fun _ => 0, g⟩ (fun r => (∀ c : Dev Cert.Pw.nD,
      r.2.mem ((c.tc : Thread Cert.Pw.nD Cert.Pw.τ).loc Cert.Pw.main_arg0) = m ((c.tc : Thread Cert.Pw.nD Cert.Pw.τ).loc Cert.Pw.main_arg0)
      ∧ r.2.mem ((c.tc : Thread Cert.Pw.nD Cert.Pw.τ).loc Cert.Pw.main_arg1) = m ((c.tc : Thread Cert.Pw.nD Cert.Pw.τ).loc Cert.Pw.main_arg1))
      ∧ r.2.sem = fun _ => 0)

def quiescent_PwIdeal [hPwIdeal : Cert.PwIdeal.Facts] : Prop :=
  ∀ (m : (ℓ : Loc Cert.PwIdeal.nD Cert.PwIdeal.τ Cert.PwIdeal.sig) → Buf (Elt Ideal) ℓ) (g : Dev Cert.PwIdeal.nD → PrngReg), Pre_PwIdeal m →
    θ_run (Cert.PwIdeal.defs (F := Ideal)) (onTc (τ := Cert.PwIdeal.τ) (Cert.PwIdeal.main (F := Ideal))) ⟨m, fun _ => 0, g⟩ (fun r => (∀ c : Dev Cert.PwIdeal.nD,
      r.2.mem ((c.tc : Thread Cert.PwIdeal.nD Cert.PwIdeal.τ).loc Cert.PwIdeal.main_arg0) = m ((c.tc : Thread Cert.PwIdeal.nD Cert.PwIdeal.τ).loc Cert.PwIdeal.main_arg0)
      ∧ r.2.mem ((c.tc : Thread Cert.PwIdeal.nD Cert.PwIdeal.τ).loc Cert.PwIdeal.main_arg1) = m ((c.tc : Thread Cert.PwIdeal.nD Cert.PwIdeal.τ).loc Cert.PwIdeal.main_arg1))
      ∧ r.2.sem = fun _ => 0)

def quiescent_PwRefIdeal [hPwRefIdeal : Cert.PwRefIdeal.Facts] : Prop :=
  ∀ (m : (ℓ : Loc Cert.PwRefIdeal.nD Cert.PwRefIdeal.τ Cert.PwRefIdeal.sig) → Buf (Elt Ideal) ℓ) (g : Dev Cert.PwRefIdeal.nD → PrngReg), Pre_PwRefIdeal m →
    θ_run (Cert.PwRefIdeal.defs (F := Ideal)) (onTc (τ := Cert.PwRefIdeal.τ) (Cert.PwRefIdeal.main (F := Ideal))) ⟨m, fun _ => 0, g⟩ (fun r => (∀ c : Dev Cert.PwRefIdeal.nD,
      r.2.mem ((c.tc : Thread Cert.PwRefIdeal.nD Cert.PwRefIdeal.τ).loc Cert.PwRefIdeal.main_arg0) = m ((c.tc : Thread Cert.PwRefIdeal.nD Cert.PwRefIdeal.τ).loc Cert.PwRefIdeal.main_arg0)
      ∧ r.2.mem ((c.tc : Thread Cert.PwRefIdeal.nD Cert.PwRefIdeal.τ).loc Cert.PwRefIdeal.main_arg1) = m ((c.tc : Thread Cert.PwRefIdeal.nD Cert.PwRefIdeal.τ).loc Cert.PwRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1))
      ∧ r.2.sem = fun _ => 0)

def quiescent_Sparse [hSparse : Cert.Sparse.Facts] : Prop :=
  ∀ (m : (ℓ : Loc Cert.Sparse.nD Cert.Sparse.τ Cert.Sparse.sig) → Buf (Elt Bits) ℓ) (g : Dev Cert.Sparse.nD → PrngReg), Pre_Sparse m →
    θ_run (Cert.Sparse.defs (F := Bits)) (onTc (τ := Cert.Sparse.τ) (Cert.Sparse.main (F := Bits))) ⟨m, fun _ => 0, g⟩ (fun r => (∀ c : Dev Cert.Sparse.nD,
      r.2.mem ((c.tc : Thread Cert.Sparse.nD Cert.Sparse.τ).loc Cert.Sparse.main_arg0) = m ((c.tc : Thread Cert.Sparse.nD Cert.Sparse.τ).loc Cert.Sparse.main_arg0)
      ∧ r.2.mem ((c.tc : Thread Cert.Sparse.nD Cert.Sparse.τ).loc Cert.Sparse.main_arg1) = m ((c.tc : Thread Cert.Sparse.nD Cert.Sparse.τ).loc Cert.Sparse.main_arg1)
      ∧ r.2.mem ((c.tc : Thread Cert.Sparse.nD Cert.Sparse.τ).loc Cert.Sparse.main_arg2) = m ((c.tc : Thread Cert.Sparse.nD Cert.Sparse.τ).loc Cert.Sparse.main_arg2)
      ∧ r.2.mem ((c.tc : Thread Cert.Sparse.nD Cert.Sparse.τ).loc Cert.Sparse.main_arg3) = m ((c.tc : Thread Cert.Sparse.nD Cert.Sparse.τ).loc Cert.Sparse.main_arg3)
      ∧ r.2.mem ((c.tc : Thread Cert.Sparse.nD Cert.Sparse.τ).loc Cert.Sparse.main_arg4) = m ((c.tc : Thread Cert.Sparse.nD Cert.Sparse.τ).loc Cert.Sparse.main_arg4)
      ∧ r.2.mem ((c.tc : Thread Cert.Sparse.nD Cert.Sparse.τ).loc Cert.Sparse.main_arg5) = m ((c.tc : Thread Cert.Sparse.nD Cert.Sparse.τ).loc Cert.Sparse.main_arg5)
      ∧ r.2.mem ((c.tc : Thread Cert.Sparse.nD Cert.Sparse.τ).loc Cert.Sparse.main_arg6) = m ((c.tc : Thread Cert.Sparse.nD Cert.Sparse.τ).loc Cert.Sparse.main_arg6)
      ∧ r.2.mem ((c.tc : Thread Cert.Sparse.nD Cert.Sparse.τ).loc Cert.Sparse.main_arg7) = m ((c.tc : Thread Cert.Sparse.nD Cert.Sparse.τ).loc Cert.Sparse.main_arg7))
      ∧ r.2.sem = fun _ => 0)

def quiescent_SparseIdeal [hSparseIdeal : Cert.SparseIdeal.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3)
      ∧ r.2.mem ((c.tc : Thread Cert.SparseIdeal.nD Cert.SparseIdeal.τ).loc Cert.SparseIdeal.main_arg4) = m ((c.tc : Thread Cert.SparseIdeal.nD Cert.SparseIdeal.τ).loc Cert.SparseIdeal.main_arg4)
      ∧ r.2.mem ((c.tc : Thread Cert.SparseIdeal.nD Cert.SparseIdeal.τ).loc Cert.SparseIdeal.main_arg5) = m ((c.tc : Thread Cert.SparseIdeal.nD Cert.SparseIdeal.τ).loc Cert.SparseIdeal.main_arg5)
      ∧ r.2.mem ((c.tc : Thread Cert.SparseIdeal.nD Cert.SparseIdeal.τ).loc Cert.SparseIdeal.main_arg6) = m ((c.tc : Thread Cert.SparseIdeal.nD Cert.SparseIdeal.τ).loc Cert.SparseIdeal.main_arg6)
      ∧ r.2.mem ((c.tc : Thread Cert.SparseIdeal.nD Cert.SparseIdeal.τ).loc Cert.SparseIdeal.main_arg7) = m ((c.tc : Thread Cert.SparseIdeal.nD Cert.SparseIdeal.τ).loc Cert.SparseIdeal.main_arg7))
      ∧ r.2.sem = fun _ => 0)

def quiescent_SparseRefIdeal [hSparseRefIdeal : Cert.SparseRefIdeal.Facts] : Prop :=
  ∀ (m : (ℓ : Loc Cert.SparseRefIdeal.nD Cert.SparseRefIdeal.τ Cert.SparseRefIdeal.sig) → Buf (Elt Ideal) ℓ) (g : Dev Cert.SparseRefIdeal.nD → PrngReg), Pre_SparseRefIdeal m →
    θ_run (Cert.SparseRefIdeal.defs (F := Ideal)) (onTc (τ := Cert.SparseRefIdeal.τ) (Cert.SparseRefIdeal.main (F := Ideal))) ⟨m, fun _ => 0, g⟩ (fun r => (∀ c : Dev Cert.SparseRefIdeal.nD,
      r.2.mem ((c.tc : Thread Cert.SparseRefIdeal.nD Cert.SparseRefIdeal.τ).loc Cert.SparseRefIdeal.main_arg0) = m ((c.tc : Thread Cert.SparseRefIdeal.nD Cert.SparseRefIdeal.τ).loc Cert.SparseRefIdeal.main_arg0)
      ∧ r.2.mem ((c.tc : Thread Cert.SparseRefIdeal.nD Cert.SparseRefIdeal.τ).loc Cert.SparseRefIdeal.main_arg1) = m ((c.tc : Thread Cert.SparseRefIdeal.nD Cert.SparseRefIdeal.τ).loc Cert.SparseRefIdeal.main_arg1)
      ∧ r.2.mem ((c.tc : Thread Cert.SparseRefIdeal.nD Cert.SparseRefIdeal.τ).loc Cert.SparseRefIdeal.main_arg2) = m ((c.tc : Thread Cert.SparseRefIdeal.nD Cert.SparseRefIdeal.τ).loc Cert.SparseRefIdeal.main_arg2)
      ∧ r.2.mem ((c.tc : Thread Cert.SparseRefIdeal.nD Cert.SparseRefIdeal.τ).loc Cert.SparseRefIdeal.main_arg3) = m ((c.tc : Thread Cert.SparseRefIdeal.nD Cert.SparseRefIdeal.τ).loc Cert.SparseRefIdeal.main_arg3)
      ∧ r.2.mem ((c.tc : Thread Cert.SparseRefIdeal.nD Cert.SparseRefIdeal.τ).loc Cert.SparseRefIdeal.main_arg4) = m ((c.tc : Thread Cert.SparseRefIdeal.nD Cert.SparseRefIdeal.τ).loc Cert.SparseRefIdeal.main_arg4)
      ∧ r.2.mem ((c.tc : Thread Cert.SparseRefIdeal.nD Cert.SparseRefIdeal.τ).loc Cert.SparseRefIdeal.main_arg5) = m ((c.tc : Thread Cert.SparseRefIdeal.nD Cert.SparseRefIdeal.τ).loc Cert.SparseRefIdeal.main_arg5)
      ∧ r.2.mem ((c.tc : Thread Cert.SparseRefIdeal.nD Cert.SparseRefIdeal.τ).loc Cert.SparseRefIdeal.main_arg6) = m ((c.tc : Thread Cert.SparseRefIdeal.nD Cert.SparseRefIdeal.τ).loc Cert.SparseRefIdeal.main_arg6)
      ∧ r.2.mem ((c.tc : Thread Cert.SparseRefIdeal.nD Cert.SparseRefIdeal.τ).loc Cert.SparseRefIdeal.main_arg7) = m ((c.tc : Thread Cert.SparseRefIdeal.nD Cert.SparseRefIdeal.τ).loc Cert.SparseRefIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_LateSum [hLateSum : Cert.LateSum.Facts] : Prop :=
  ∀ (m : (ℓ : Loc Cert.LateSum.nD Cert.LateSum.τ Cert.LateSum.sig) → Buf (Elt Bits) ℓ) (g : Dev Cert.LateSum.nD → PrngReg), Pre_LateSum m →
    θ_run (Cert.LateSum.defs (F := Bits)) (onTc (τ := Cert.LateSum.τ) (Cert.LateSum.main (F := Bits))) ⟨m, fun _ => 0, g⟩ (fun r => (∀ c : Dev Cert.LateSum.nD,
      r.2.mem ((c.tc : Thread Cert.LateSum.nD Cert.LateSum.τ).loc Cert.LateSum.main_arg0) = m ((c.tc : Thread Cert.LateSum.nD Cert.LateSum.τ).loc Cert.LateSum.main_arg0)
      ∧ r.2.mem ((c.tc : Thread Cert.LateSum.nD Cert.LateSum.τ).loc Cert.LateSum.main_arg1) = m ((c.tc : Thread Cert.LateSum.nD Cert.LateSum.τ).loc Cert.LateSum.main_arg1))
      ∧ r.2.sem = fun _ => 0)

def quiescent_LateSumIdeal [hLateSumIdeal : Cert.LateSumIdeal.Facts] : Prop :=
  ∀ (m : (ℓ : Loc Cert.LateSumIdeal.nD Cert.LateSumIdeal.τ Cert.LateSumIdeal.sig) → Buf (Elt Ideal) ℓ) (g : Dev Cert.LateSumIdeal.nD → PrngReg), Pre_LateSumIdeal m →
    θ_run (Cert.LateSumIdeal.defs (F := Ideal)) (onTc (τ := Cert.LateSumIdeal.τ) (Cert.LateSumIdeal.main (F := Ideal))) ⟨m, fun _ => 0, g⟩ (fun r => (∀ c : Dev Cert.LateSumIdeal.nD,
      r.2.mem ((c.tc : Thread Cert.LateSumIdeal.nD Cert.LateSumIdeal.τ).loc Cert.LateSumIdeal.main_arg0) = m ((c.tc : Thread Cert.LateSumIdeal.nD Cert.LateSumIdeal.τ).loc Cert.LateSumIdeal.main_arg0)
      ∧ r.2.mem ((c.tc : Thread Cert.LateSumIdeal.nD Cert.LateSumIdeal.τ).loc Cert.LateSumIdeal.main_arg1) = m ((c.tc : Thread Cert.LateSumIdeal.nD Cert.LateSumIdeal.τ).loc Cert.LateSumIdeal.main_arg1))
      ∧ r.2.sem = fun _ => 0)

def quiescent_LateSumRefIdeal [hLateSumRefIdeal : Cert.LateSumRefIdeal.Facts] : Prop :=
  ∀ (m : (ℓ : Loc Cert.LateSumRefIdeal.nD Cert.LateSumRefIdeal.τ Cert.LateSumRefIdeal.sig) → Buf (Elt Ideal) ℓ) (g : Dev Cert.LateSumRefIdeal.nD → PrngReg), Pre_LateSumRefIdeal m →
    θ_run (Cert.LateSumRefIdeal.defs (F := Ideal)) (onTc (τ := Cert.LateSumRefIdeal.τ) (Cert.LateSumRefIdeal.main (F := Ideal))) ⟨m, fun _ => 0, g⟩ (fun r => (∀ c : Dev Cert.LateSumRefIdeal.nD,
      r.2.mem ((c.tc : Thread Cert.LateSumRefIdeal.nD Cert.LateSumRefIdeal.τ).loc Cert.LateSumRefIdeal.main_arg0) = m ((c.tc : Thread Cert.LateSumRefIdeal.nD Cert.LateSumRefIdeal.τ).loc Cert.LateSumRefIdeal.main_arg0)
      ∧ r.2.mem ((c.tc : Thread Cert.LateSumRefIdeal.nD Cert.LateSumRefIdeal.τ).loc Cert.LateSumRefIdeal.main_arg1) = m ((c.tc : Thread Cert.LateSumRefIdeal.nD Cert.LateSumRefIdeal.τ).loc Cert.LateSumRefIdeal.main_arg1))
      ∧ r.2.sem = fun _ => 0)

def quiescent_AdamDw [hAdamDw : Cert.AdamDw.Facts] : Prop :=
  ∀ (m : (ℓ : Loc Cert.AdamDw.nD Cert.AdamDw.τ Cert.AdamDw.sig) → Buf (Elt Bits) ℓ) (g : Dev Cert.AdamDw.nD → PrngReg), Pre_AdamDw m →
    θ_run (Cert.AdamDw.defs (F := Bits)) (onTc (τ := Cert.AdamDw.τ) (Cert.AdamDw.main (F := Bits))) ⟨m, fun _ => 0, g⟩ (fun r => (∀ c : Dev Cert.AdamDw.nD,
      r.2.mem ((c.tc : Thread Cert.AdamDw.nD Cert.AdamDw.τ).loc Cert.AdamDw.main_arg0) = m ((c.tc : Thread Cert.AdamDw.nD Cert.AdamDw.τ).loc Cert.AdamDw.main_arg0)
      ∧ r.2.mem ((c.tc : Thread Cert.AdamDw.nD Cert.AdamDw.τ).loc Cert.AdamDw.main_arg1) = m ((c.tc : Thread Cert.AdamDw.nD Cert.AdamDw.τ).loc Cert.AdamDw.main_arg1)
      ∧ r.2.mem ((c.tc : Thread Cert.AdamDw.nD Cert.AdamDw.τ).loc Cert.AdamDw.main_arg2) = m ((c.tc : Thread Cert.AdamDw.nD Cert.AdamDw.τ).loc Cert.AdamDw.main_arg2)
      ∧ r.2.mem ((c.tc : Thread Cert.AdamDw.nD Cert.AdamDw.τ).loc Cert.AdamDw.main_arg3) = m ((c.tc : Thread Cert.AdamDw.nD Cert.AdamDw.τ).loc Cert.AdamDw.main_arg3)
      ∧ r.2.mem ((c.tc : Thread Cert.AdamDw.nD Cert.AdamDw.τ).loc Cert.AdamDw.main_arg4) = m ((c.tc : Thread Cert.AdamDw.nD Cert.AdamDw.τ).loc Cert.AdamDw.main_arg4))
      ∧ r.2.sem = fun _ => 0)

def quiescent_AdamDwIdeal [hAdamDwIdeal : Cert.AdamDwIdeal.Facts] : Prop :=
  ∀ (m : (ℓ : Loc Cert.AdamDwIdeal.nD Cert.AdamDwIdeal.τ Cert.AdamDwIdeal.sig) → Buf (Elt Ideal) ℓ) (g : Dev Cert.AdamDwIdeal.nD → PrngReg), Pre_AdamDwIdeal m →
    θ_run (Cert.AdamDwIdeal.defs (F := Ideal)) (onTc (τ := Cert.AdamDwIdeal.τ) (Cert.AdamDwIdeal.main (F := Ideal))) ⟨m, fun _ => 0, g⟩ (fun r => (∀ c : Dev Cert.AdamDwIdeal.nD,
      r.2.mem ((c.tc : Thread Cert.AdamDwIdeal.nD Cert.AdamDwIdeal.τ).loc Cert.AdamDwIdeal.main_arg0) = m ((c.tc : Thread Cert.AdamDwIdeal.nD Cert.AdamDwIdeal.τ).loc Cert.AdamDwIdeal.main_arg0)
      ∧ r.2.mem ((c.tc : Thread Cert.AdamDwIdeal.nD Cert.AdamDwIdeal.τ).loc Cert.AdamDwIdeal.main_arg1) = m ((c.tc : Thread Cert.AdamDwIdeal.nD Cert.AdamDwIdeal.τ).loc Cert.AdamDwIdeal.main_arg1)
      ∧ r.2.mem ((c.tc : Thread Cert.AdamDwIdeal.nD Cert.AdamDwIdeal.τ).loc Cert.AdamDwIdeal.main_arg2) = m ((c.tc : Thread Cert.AdamDwIdeal.nD Cert.AdamDwIdeal.τ).loc Cert.AdamDwIdeal.main_arg2)
      ∧ r.2.mem ((c.tc : Thread Cert.AdamDwIdeal.nD Cert.AdamDwIdeal.τ).loc Cert.AdamDwIdeal.main_arg3) = m ((c.tc : Thread Cert.AdamDwIdeal.nD Cert.AdamDwIdeal.τ).loc Cert.AdamDwIdeal.main_arg3)
      ∧ r.2.mem ((c.tc : Thread Cert.AdamDwIdeal.nD Cert.AdamDwIdeal.τ).loc Cert.AdamDwIdeal.main_arg4) = m ((c.tc : Thread Cert.AdamDwIdeal.nD Cert.AdamDwIdeal.τ).loc Cert.AdamDwIdeal.main_arg4))
      ∧ r.2.sem = fun _ => 0)

def quiescent_AdamDwRefIdeal [hAdamDwRefIdeal : Cert.AdamDwRefIdeal.Facts] : Prop :=
  ∀ (m : (ℓ : Loc Cert.AdamDwRefIdeal.nD Cert.AdamDwRefIdeal.τ Cert.AdamDwRefIdeal.sig) → Buf (Elt Ideal) ℓ) (g : Dev Cert.AdamDwRefIdeal.nD → PrngReg), Pre_AdamDwRefIdeal m →
    θ_run (Cert.AdamDwRefIdeal.defs (F := Ideal)) (onTc (τ := Cert.AdamDwRefIdeal.τ) (Cert.AdamDwRefIdeal.main (F := Ideal))) ⟨m, fun _ => 0, g⟩ (fun r => (∀ c : Dev Cert.AdamDwRefIdeal.nD,
      r.2.mem ((c.tc : Thread Cert.AdamDwRefIdeal.nD Cert.AdamDwRefIdeal.τ).loc Cert.AdamDwRefIdeal.main_arg0) = m ((c.tc : Thread Cert.AdamDwRefIdeal.nD Cert.AdamDwRefIdeal.τ).loc Cert.AdamDwRefIdeal.main_arg0)
      ∧ r.2.mem ((c.tc : Thread Cert.AdamDwRefIdeal.nD Cert.AdamDwRefIdeal.τ).loc Cert.AdamDwRefIdeal.main_arg1) = m ((c.tc : Thread Cert.AdamDwRefIdeal.nD Cert.AdamDwRefIdeal.τ).loc Cert.AdamDwRefIdeal.main_arg1)
      ∧ r.2.mem ((c.tc : Thread Cert.AdamDwRefIdeal.nD Cert.AdamDwRefIdeal.τ).loc Cert.AdamDwRefIdeal.main_arg2) = m ((c.tc : Thread Cert.AdamDwRefIdeal.nD Cert.AdamDwRefIdeal.τ).loc Cert.AdamDwRefIdeal.main_arg2)
      ∧ r.2.mem ((c.tc : Thread Cert.AdamDwRefIdeal.nD Cert.AdamDwRefIdeal.τ).loc Cert.AdamDwRefIdeal.main_arg3) = m ((c.tc : Thread Cert.AdamDwRefIdeal.nD Cert.AdamDwRefIdeal.τ).loc Cert.AdamDwRefIdeal.main_arg3)
      ∧ r.2.mem ((c.tc : Thread Cert.AdamDwRefIdeal.nD Cert.AdamDwRefIdeal.τ).loc Cert.AdamDwRefIdeal.main_arg4) = m ((c.tc : Thread Cert.AdamDwRefIdeal.nD Cert.AdamDwRefIdeal.τ).loc Cert.AdamDwRefIdeal.main_arg4))
      ∧ r.2.sem = fun _ => 0)

def quiescent_AdamPw [hAdamPw : Cert.AdamPw.Facts] : Prop :=
  ∀ (m : (ℓ : Loc Cert.AdamPw.nD Cert.AdamPw.τ Cert.AdamPw.sig) → Buf (Elt Bits) ℓ) (g : Dev Cert.AdamPw.nD → PrngReg), Pre_AdamPw m →
    θ_run (Cert.AdamPw.defs (F := Bits)) (onTc (τ := Cert.AdamPw.τ) (Cert.AdamPw.main (F := Bits))) ⟨m, fun _ => 0, g⟩ (fun r => (∀ c : Dev Cert.AdamPw.nD,
      r.2.mem ((c.tc : Thread Cert.AdamPw.nD Cert.AdamPw.τ).loc Cert.AdamPw.main_arg0) = m ((c.tc : Thread Cert.AdamPw.nD Cert.AdamPw.τ).loc Cert.AdamPw.main_arg0)
      ∧ r.2.mem ((c.tc : Thread Cert.AdamPw.nD Cert.AdamPw.τ).loc Cert.AdamPw.main_arg1) = m ((c.tc : Thread Cert.AdamPw.nD Cert.AdamPw.τ).loc Cert.AdamPw.main_arg1)
      ∧ r.2.mem ((c.tc : Thread Cert.AdamPw.nD Cert.AdamPw.τ).loc Cert.AdamPw.main_arg2) = m ((c.tc : Thread Cert.AdamPw.nD Cert.AdamPw.τ).loc Cert.AdamPw.main_arg2)
      ∧ r.2.mem ((c.tc : Thread Cert.AdamPw.nD Cert.AdamPw.τ).loc Cert.AdamPw.main_arg3) = m ((c.tc : Thread Cert.AdamPw.nD Cert.AdamPw.τ).loc Cert.AdamPw.main_arg3)
      ∧ r.2.mem ((c.tc : Thread Cert.AdamPw.nD Cert.AdamPw.τ).loc Cert.AdamPw.main_arg4) = m ((c.tc : Thread Cert.AdamPw.nD Cert.AdamPw.τ).loc Cert.AdamPw.main_arg4))
      ∧ r.2.sem = fun _ => 0)

def quiescent_AdamPwIdeal [hAdamPwIdeal : Cert.AdamPwIdeal.Facts] : Prop :=
  ∀ (m : (ℓ : Loc Cert.AdamPwIdeal.nD Cert.AdamPwIdeal.τ Cert.AdamPwIdeal.sig) → Buf (Elt Ideal) ℓ) (g : Dev Cert.AdamPwIdeal.nD → PrngReg), Pre_AdamPwIdeal m →
    θ_run (Cert.AdamPwIdeal.defs (F := Ideal)) (onTc (τ := Cert.AdamPwIdeal.τ) (Cert.AdamPwIdeal.main (F := Ideal))) ⟨m, fun _ => 0, g⟩ (fun r => (∀ c : Dev Cert.AdamPwIdeal.nD,
      r.2.mem ((c.tc : Thread Cert.AdamPwIdeal.nD Cert.AdamPwIdeal.τ).loc Cert.AdamPwIdeal.main_arg0) = m ((c.tc : Thread Cert.AdamPwIdeal.nD Cert.AdamPwIdeal.τ).loc Cert.AdamPwIdeal.main_arg0)
      ∧ r.2.mem ((c.tc : Thread Cert.AdamPwIdeal.nD Cert.AdamPwIdeal.τ).loc Cert.AdamPwIdeal.main_arg1) = m ((c.tc : Thread Cert.AdamPwIdeal.nD Cert.AdamPwIdeal.τ).loc Cert.AdamPwIdeal.main_arg1)
      ∧ r.2.mem ((c.tc : Thread Cert.AdamPwIdeal.nD Cert.AdamPwIdeal.τ).loc Cert.AdamPwIdeal.main_arg2) = m ((c.tc : Thread Cert.AdamPwIdeal.nD Cert.AdamPwIdeal.τ).loc Cert.AdamPwIdeal.main_arg2)
      ∧ r.2.mem ((c.tc : Thread Cert.AdamPwIdeal.nD Cert.AdamPwIdeal.τ).loc Cert.AdamPwIdeal.main_arg3) = m ((c.tc : Thread Cert.AdamPwIdeal.nD Cert.AdamPwIdeal.τ).loc Cert.AdamPwIdeal.main_arg3)
      ∧ r.2.mem ((c.tc : Thread Cert.AdamPwIdeal.nD Cert.AdamPwIdeal.τ).loc Cert.AdamPwIdeal.main_arg4) = m ((c.tc : Thread Cert.AdamPwIdeal.nD Cert.AdamPwIdeal.τ).loc Cert.AdamPwIdeal.main_arg4))
      ∧ r.2.sem = fun _ => 0)

def quiescent_AdamPwRefIdeal [hAdamPwRefIdeal : Cert.AdamPwRefIdeal.Facts] : Prop :=
  ∀ (m : (ℓ : Loc Cert.AdamPwRefIdeal.nD Cert.AdamPwRefIdeal.τ Cert.AdamPwRefIdeal.sig) → Buf (Elt Ideal) ℓ) (g : Dev Cert.AdamPwRefIdeal.nD → PrngReg), Pre_AdamPwRefIdeal m →
    θ_run (Cert.AdamPwRefIdeal.defs (F := Ideal)) (onTc (τ := Cert.AdamPwRefIdeal.τ) (Cert.AdamPwRefIdeal.main (F := Ideal))) ⟨m, fun _ => 0, g⟩ (fun r => (∀ c : Dev Cert.AdamPwRefIdeal.nD,
      r.2.mem ((c.tc : Thread Cert.AdamPwRefIdeal.nD Cert.AdamPwRefIdeal.τ).loc Cert.AdamPwRefIdeal.main_arg0) = m ((c.tc : Thread Cert.AdamPwRefIdeal.nD Cert.AdamPwRefIdeal.τ).loc Cert.AdamPwRefIdeal.main_arg0)
      ∧ r.2.mem ((c.tc : Thread Cert.AdamPwRefIdeal.nD Cert.AdamPwRefIdeal.τ).loc Cert.AdamPwRefIdeal.main_arg1) = m ((c.tc : Thread Cert.AdamPwRefIdeal.nD Cert.AdamPwRefIdeal.τ).loc Cert.AdamPwRefIdeal.main_arg1)
      ∧ r.2.mem ((c.tc : Thread Cert.AdamPwRefIdeal.nD Cert.AdamPwRefIdeal.τ).loc Cert.AdamPwRefIdeal.main_arg2) = m ((c.tc : Thread Cert.AdamPwRefIdeal.nD Cert.AdamPwRefIdeal.τ).loc Cert.AdamPwRefIdeal.main_arg2)
      ∧ r.2.mem ((c.tc : Thread Cert.AdamPwRefIdeal.nD Cert.AdamPwRefIdeal.τ).loc Cert.AdamPwRefIdeal.main_arg3) = m ((c.tc : Thread Cert.AdamPwRefIdeal.nD Cert.AdamPwRefIdeal.τ).loc Cert.AdamPwRefIdeal.main_arg3)
      ∧ r.2.mem ((c.tc : Thread Cert.AdamPwRefIdeal.nD Cert.AdamPwRefIdeal.τ).loc Cert.AdamPwRefIdeal.main_arg4) = m ((c.tc : Thread Cert.AdamPwRefIdeal.nD Cert.AdamPwRefIdeal.τ).loc Cert.AdamPwRefIdeal.main_arg4))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3)
      ∧ r.2.mem ((c.tc : Thread Cert.AdamGlu.nD Cert.AdamGlu.τ).loc Cert.AdamGlu.main_arg4) = m ((c.tc : Thread Cert.AdamGlu.nD Cert.AdamGlu.τ).loc Cert.AdamGlu.main_arg4))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
      ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3)
      ∧ r.2.mem ((c.tc : Thread Cert.AdamGluRefIdeal.nD Cert.AdamGluRefIdeal.τ).loc Cert.AdamGluRefIdeal.main_arg4) = m ((c.tc : Thread Cert.AdamGluRefIdeal.nD Cert.AdamGluRefIdeal.τ).loc Cert.AdamGluRefIdeal.main_arg4))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3)
      ∧ r.2.mem ((c.tc : Thread Cert.AdamKv.nD Cert.AdamKv.τ).loc Cert.AdamKv.main_arg4) = m ((c.tc : Thread Cert.AdamKv.nD Cert.AdamKv.τ).loc Cert.AdamKv.main_arg4))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
      ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3)
      ∧ r.2.mem ((c.tc : Thread Cert.AdamKvRefIdeal.nD Cert.AdamKvRefIdeal.τ).loc Cert.AdamKvRefIdeal.main_arg4) = m ((c.tc : Thread Cert.AdamKvRefIdeal.nD Cert.AdamKvRefIdeal.τ).loc Cert.AdamKvRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamFdw [hAdamFdw : Cert.AdamFdw.Facts] : Prop :=
  ∀ (m : (ℓ : Loc Cert.AdamFdw.nD Cert.AdamFdw.τ Cert.AdamFdw.sig) → Buf (Elt Bits) ℓ) (g : Dev Cert.AdamFdw.nD → PrngReg), Pre_AdamFdw m →
    θ_run (Cert.AdamFdw.defs (F := Bits)) (onTc (τ := Cert.AdamFdw.τ) (Cert.AdamFdw.main (F := Bits))) ⟨m, fun _ => 0, g⟩ (fun r => (∀ c : Dev Cert.AdamFdw.nD,
      r.2.mem ((c.tc : Thread Cert.AdamFdw.nD Cert.AdamFdw.τ).loc Cert.AdamFdw.main_arg0) = m ((c.tc : Thread Cert.AdamFdw.nD Cert.AdamFdw.τ).loc Cert.AdamFdw.main_arg0)
      ∧ r.2.mem ((c.tc : Thread Cert.AdamFdw.nD Cert.AdamFdw.τ).loc Cert.AdamFdw.main_arg1) = m ((c.tc : Thread Cert.AdamFdw.nD Cert.AdamFdw.τ).loc Cert.AdamFdw.main_arg1)
      ∧ r.2.mem ((c.tc : Thread Cert.AdamFdw.nD Cert.AdamFdw.τ).loc Cert.AdamFdw.main_arg2) = m ((c.tc : Thread Cert.AdamFdw.nD Cert.AdamFdw.τ).loc Cert.AdamFdw.main_arg2)
      ∧ r.2.mem ((c.tc : Thread Cert.AdamFdw.nD Cert.AdamFdw.τ).loc Cert.AdamFdw.main_arg3) = m ((c.tc : Thread Cert.AdamFdw.nD Cert.AdamFdw.τ).loc Cert.AdamFdw.main_arg3)
      ∧ r.2.mem ((c.tc : Thread Cert.AdamFdw.nD Cert.AdamFdw.τ).loc Cert.AdamFdw.main_arg4) = m ((c.tc : Thread Cert.AdamFdw.nD Cert.AdamFdw.τ).loc Cert.AdamFdw.main_arg4))
      ∧ r.2.sem = fun _ => 0)

def quiescent_AdamFdwIdeal [hAdamFdwIdeal : Cert.AdamFdwIdeal.Facts] : Prop :=
  ∀ (m : (ℓ : Loc Cert.AdamFdwIdeal.nD Cert.AdamFdwIdeal.τ Cert.AdamFdwIdeal.sig) → Buf (Elt Ideal) ℓ) (g : Dev Cert.AdamFdwIdeal.nD → PrngReg), Pre_AdamFdwIdeal m →
    θ_run (Cert.AdamFdwIdeal.defs (F := Ideal)) (onTc (τ := Cert.AdamFdwIdeal.τ) (Cert.AdamFdwIdeal.main (F := Ideal))) ⟨m, fun _ => 0, g⟩ (fun r => (∀ c : Dev Cert.AdamFdwIdeal.nD,
      r.2.mem ((c.tc : Thread Cert.AdamFdwIdeal.nD Cert.AdamFdwIdeal.τ).loc Cert.AdamFdwIdeal.main_arg0) = m ((c.tc : Thread Cert.AdamFdwIdeal.nD Cert.AdamFdwIdeal.τ).loc Cert.AdamFdwIdeal.main_arg0)
      ∧ r.2.mem ((c.tc : Thread Cert.AdamFdwIdeal.nD Cert.AdamFdwIdeal.τ).loc Cert.AdamFdwIdeal.main_arg1) = m ((c.tc : Thread Cert.AdamFdwIdeal.nD Cert.AdamFdwIdeal.τ).loc Cert.AdamFdwIdeal.main_arg1)
      ∧ r.2.mem ((c.tc : Thread Cert.AdamFdwIdeal.nD Cert.AdamFdwIdeal.τ).loc Cert.AdamFdwIdeal.main_arg2) = m ((c.tc : Thread Cert.AdamFdwIdeal.nD Cert.AdamFdwIdeal.τ).loc Cert.AdamFdwIdeal.main_arg2)
      ∧ r.2.mem ((c.tc : Thread Cert.AdamFdwIdeal.nD Cert.AdamFdwIdeal.τ).loc Cert.AdamFdwIdeal.main_arg3) = m ((c.tc : Thread Cert.AdamFdwIdeal.nD Cert.AdamFdwIdeal.τ).loc Cert.AdamFdwIdeal.main_arg3)
      ∧ r.2.mem ((c.tc : Thread Cert.AdamFdwIdeal.nD Cert.AdamFdwIdeal.τ).loc Cert.AdamFdwIdeal.main_arg4) = m ((c.tc : Thread Cert.AdamFdwIdeal.nD Cert.AdamFdwIdeal.τ).loc Cert.AdamFdwIdeal.main_arg4))
      ∧ r.2.sem = fun _ => 0)

def quiescent_AdamFdwRefIdeal [hAdamFdwRefIdeal : Cert.AdamFdwRefIdeal.Facts] : Prop :=
  ∀ (m : (ℓ : Loc Cert.AdamFdwRefIdeal.nD Cert.AdamFdwRefIdeal.τ Cert.AdamFdwRefIdeal.sig) → Buf (Elt Ideal) ℓ) (g : Dev Cert.AdamFdwRefIdeal.nD → PrngReg), Pre_AdamFdwRefIdeal m →
    θ_run (Cert.AdamFdwRefIdeal.defs (F := Ideal)) (onTc (τ := Cert.AdamFdwRefIdeal.τ) (Cert.AdamFdwRefIdeal.main (F := Ideal))) ⟨m, fun _ => 0, g⟩ (fun r => (∀ c : Dev Cert.AdamFdwRefIdeal.nD,
      r.2.mem ((c.tc : Thread Cert.AdamFdwRefIdeal.nD Cert.AdamFdwRefIdeal.τ).loc Cert.AdamFdwRefIdeal.main_arg0) = m ((c.tc : Thread Cert.AdamFdwRefIdeal.nD Cert.AdamFdwRefIdeal.τ).loc Cert.AdamFdwRefIdeal.main_arg0)
      ∧ r.2.mem ((c.tc : Thread Cert.AdamFdwRefIdeal.nD Cert.AdamFdwRefIdeal.τ).loc Cert.AdamFdwRefIdeal.main_arg1) = m ((c.tc : Thread Cert.AdamFdwRefIdeal.nD Cert.AdamFdwRefIdeal.τ).loc Cert.AdamFdwRefIdeal.main_arg1)
      ∧ r.2.mem ((c.tc : Thread Cert.AdamFdwRefIdeal.nD Cert.AdamFdwRefIdeal.τ).loc Cert.AdamFdwRefIdeal.main_arg2) = m ((c.tc : Thread Cert.AdamFdwRefIdeal.nD Cert.AdamFdwRefIdeal.τ).loc Cert.AdamFdwRefIdeal.main_arg2)
      ∧ r.2.mem ((c.tc : Thread Cert.AdamFdwRefIdeal.nD Cert.AdamFdwRefIdeal.τ).loc Cert.AdamFdwRefIdeal.main_arg3) = m ((c.tc : Thread Cert.AdamFdwRefIdeal.nD Cert.AdamFdwRefIdeal.τ).loc Cert.AdamFdwRefIdeal.main_arg3)
      ∧ r.2.mem ((c.tc : Thread Cert.AdamFdwRefIdeal.nD Cert.AdamFdwRefIdeal.τ).loc Cert.AdamFdwRefIdeal.main_arg4) = m ((c.tc : Thread Cert.AdamFdwRefIdeal.nD Cert.AdamFdwRefIdeal.τ).loc Cert.AdamFdwRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3))
      ∧ r.2.sem = fun _ => 0)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ r.2.sem = fun _ => 0)

def quiescent_MemBwdRefIdeal [hMemBwdRefIdeal : Cert.MemBwdRefIdeal.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3)
      ∧ r.2.mem ((c.tc : Thread Cert.PostBwdRefIdeal.nD Cert.PostBwdRefIdeal.τ).loc Cert.PostBwdRefIdeal.main_arg4) = m ((c.tc : Thread Cert.PostBwdRefIdeal.nD Cert.PostBwdRefIdeal.τ).loc Cert.PostBwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v69) = v0 c
          ∧ r.2.mem ((c.tc : Thread Cert.AttnRefIdeal.nD Cert.AttnRefIdeal.τ).loc Cert.AttnRefIdeal.main_v70) = v1 c
          ∧ r.2.mem ((c.tc : Thread Cert.AttnRefIdeal.nD Cert.AttnRefIdeal.τ).loc Cert.AttnRefIdeal.main_v71) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v8) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwGlu_DwGluIdeal : Prop :=
  True

def algebraic_DwGluIdeal_DwGluRefIdeal [hDwGluIdeal : Cert.DwGluIdeal.Facts] [hDwGluRefIdeal : Cert.DwGluRefIdeal.Facts] : Prop :=
  ∀ (m : (ℓ : Loc Cert.DwGluIdeal.nD Cert.DwGluIdeal.τ Cert.DwGluIdeal.sig) → Buf (Elt Ideal) ℓ) (g : Dev Cert.DwGluIdeal.nD → PrngReg)
    (m' : (ℓ : Loc Cert.DwGluRefIdeal.nD Cert.DwGluRefIdeal.τ Cert.DwGluRefIdeal.sig) → Buf (Elt Ideal) ℓ) (g' : Dev Cert.DwGluRefIdeal.nD → PrngReg), Pre_DwGluIdeal m →
    (∀ c : Dev Cert.DwGluIdeal.nD,
      m' ((c.tc : Thread Cert.DwGluRefIdeal.nD Cert.DwGluRefIdeal.τ).loc Cert.DwGluRefIdeal.main_arg0) = m ((c.tc : Thread Cert.DwGluIdeal.nD Cert.DwGluIdeal.τ).loc Cert.DwGluIdeal.main_arg0)
      ∧ m' ((c.tc : Thread Cert.DwGluRefIdeal.nD Cert.DwGluRefIdeal.τ).loc Cert.DwGluRefIdeal.main_arg1) = m ((c.tc : Thread Cert.DwGluIdeal.nD Cert.DwGluIdeal.τ).loc Cert.DwGluIdeal.main_arg1)) →
    ∃ (v0 : (c : Dev Cert.DwGluIdeal.nD) → Buf (Elt Ideal) ((c.tc : Thread Cert.DwGluIdeal.nD Cert.DwGluIdeal.τ).loc Cert.DwGluIdeal.main_v0)),
      θ_run (Cert.DwGluIdeal.defs (F := Ideal)) (onTc (τ := Cert.DwGluIdeal.τ) (Cert.DwGluIdeal.main (F := Ideal))) ⟨m, fun _ => 0, g⟩ (fun r => ∀ c : Dev Cert.DwGluIdeal.nD,
          r.2.mem ((c.tc : Thread Cert.DwGluIdeal.nD Cert.DwGluIdeal.τ).loc Cert.DwGluIdeal.main_v0) = v0 c
          ∧ r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
          ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ θ_run (Cert.DwGluRefIdeal.defs (F := Ideal)) (onTc (τ := Cert.DwGluRefIdeal.τ) (Cert.DwGluRefIdeal.main (F := Ideal))) ⟨m', fun _ => 0, g'⟩ (fun r => ∀ c : Dev Cert.DwGluRefIdeal.nD,
          r.2.mem ((c.tc : Thread Cert.DwGluRefIdeal.nD Cert.DwGluRefIdeal.τ).loc Cert.DwGluRefIdeal.main_v8) = v0 c
          ∧ r.2.mem ((c.tc : Thread Cert.DwGluRefIdeal.nD Cert.DwGluRefIdeal.τ).loc Cert.DwGluRefIdeal.main_arg0) = m' ((c.tc : Thread Cert.DwGluRefIdeal.nD Cert.DwGluRefIdeal.τ).loc Cert.DwGluRefIdeal.main_arg0)
          ∧ r.2.mem ((c.tc : Thread Cert.DwGluRefIdeal.nD Cert.DwGluRefIdeal.τ).loc Cert.DwGluRefIdeal.main_arg1) = m' ((c.tc : Thread Cert.DwGluRefIdeal.nD Cert.DwGluRefIdeal.τ).loc Cert.DwGluRefIdeal.main_arg1))

def preserves_DwPw_DwPwIdeal : Prop :=
  True

def algebraic_DwPwIdeal_DwPwRefIdeal [hDwPwIdeal : Cert.DwPwIdeal.Facts] [hDwPwRefIdeal : Cert.DwPwRefIdeal.Facts] : Prop :=
  ∀ (m : (ℓ : Loc Cert.DwPwIdeal.nD Cert.DwPwIdeal.τ Cert.DwPwIdeal.sig) → Buf (Elt Ideal) ℓ) (g : Dev Cert.DwPwIdeal.nD → PrngReg)
    (m' : (ℓ : Loc Cert.DwPwRefIdeal.nD Cert.DwPwRefIdeal.τ Cert.DwPwRefIdeal.sig) → Buf (Elt Ideal) ℓ) (g' : Dev Cert.DwPwRefIdeal.nD → PrngReg), Pre_DwPwIdeal m →
    (∀ c : Dev Cert.DwPwIdeal.nD,
      m' ((c.tc : Thread Cert.DwPwRefIdeal.nD Cert.DwPwRefIdeal.τ).loc Cert.DwPwRefIdeal.main_arg0) = m ((c.tc : Thread Cert.DwPwIdeal.nD Cert.DwPwIdeal.τ).loc Cert.DwPwIdeal.main_arg0)
      ∧ m' ((c.tc : Thread Cert.DwPwRefIdeal.nD Cert.DwPwRefIdeal.τ).loc Cert.DwPwRefIdeal.main_arg1) = m ((c.tc : Thread Cert.DwPwIdeal.nD Cert.DwPwIdeal.τ).loc Cert.DwPwIdeal.main_arg1)) →
    ∃ (v0 : (c : Dev Cert.DwPwIdeal.nD) → Buf (Elt Ideal) ((c.tc : Thread Cert.DwPwIdeal.nD Cert.DwPwIdeal.τ).loc Cert.DwPwIdeal.main_v0)),
      θ_run (Cert.DwPwIdeal.defs (F := Ideal)) (onTc (τ := Cert.DwPwIdeal.τ) (Cert.DwPwIdeal.main (F := Ideal))) ⟨m, fun _ => 0, g⟩ (fun r => ∀ c : Dev Cert.DwPwIdeal.nD,
          r.2.mem ((c.tc : Thread Cert.DwPwIdeal.nD Cert.DwPwIdeal.τ).loc Cert.DwPwIdeal.main_v0) = v0 c
          ∧ r.2.mem ((c.tc : Thread Cert.DwPwIdeal.nD Cert.DwPwIdeal.τ).loc Cert.DwPwIdeal.main_arg0) = m ((c.tc : Thread Cert.DwPwIdeal.nD Cert.DwPwIdeal.τ).loc Cert.DwPwIdeal.main_arg0)
          ∧ r.2.mem ((c.tc : Thread Cert.DwPwIdeal.nD Cert.DwPwIdeal.τ).loc Cert.DwPwIdeal.main_arg1) = m ((c.tc : Thread Cert.DwPwIdeal.nD Cert.DwPwIdeal.τ).loc Cert.DwPwIdeal.main_arg1))
      ∧ θ_run (Cert.DwPwRefIdeal.defs (F := Ideal)) (onTc (τ := Cert.DwPwRefIdeal.τ) (Cert.DwPwRefIdeal.main (F := Ideal))) ⟨m', fun _ => 0, g'⟩ (fun r => ∀ c : Dev Cert.DwPwRefIdeal.nD,
          r.2.mem ((c.tc : Thread Cert.DwPwRefIdeal.nD Cert.DwPwRefIdeal.τ).loc Cert.DwPwRefIdeal.main_v8) = v0 c
          ∧ r.2.mem ((c.tc : Thread Cert.DwPwRefIdeal.nD Cert.DwPwRefIdeal.τ).loc Cert.DwPwRefIdeal.main_arg0) = m' ((c.tc : Thread Cert.DwPwRefIdeal.nD Cert.DwPwRefIdeal.τ).loc Cert.DwPwRefIdeal.main_arg0)
          ∧ r.2.mem ((c.tc : Thread Cert.DwPwRefIdeal.nD Cert.DwPwRefIdeal.τ).loc Cert.DwPwRefIdeal.main_arg1) = m' ((c.tc : Thread Cert.DwPwRefIdeal.nD Cert.DwPwRefIdeal.τ).loc Cert.DwPwRefIdeal.main_arg1))

def preserves_DwKv_DwKvIdeal : Prop :=
  True

def algebraic_DwKvIdeal_DwKvRefIdeal [hDwKvIdeal : Cert.DwKvIdeal.Facts] [hDwKvRefIdeal : Cert.DwKvRefIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvRefIdeal.nD Cert.DwKvRefIdeal.τ Cert.DwKvRefIdeal.sig) → Buf (Elt Ideal) ℓ) (g' : Dev Cert.DwKvRefIdeal.nD → PrngReg), Pre_DwKvIdeal m →
    (∀ c : Dev Cert.DwKvIdeal.nD,
      m' ((c.tc : Thread Cert.DwKvRefIdeal.nD Cert.DwKvRefIdeal.τ).loc Cert.DwKvRefIdeal.main_arg0) = m ((c.tc : Thread Cert.DwKvIdeal.nD Cert.DwKvIdeal.τ).loc Cert.DwKvIdeal.main_arg0)
      ∧ m' ((c.tc : Thread Cert.DwKvRefIdeal.nD Cert.DwKvRefIdeal.τ).loc Cert.DwKvRefIdeal.main_arg1) = m ((c.tc : Thread Cert.DwKvIdeal.nD Cert.DwKvIdeal.τ).loc Cert.DwKvIdeal.main_arg1)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ θ_run (Cert.DwKvRefIdeal.defs (F := Ideal)) (onTc (τ := Cert.DwKvRefIdeal.τ) (Cert.DwKvRefIdeal.main (F := Ideal))) ⟨m', fun _ => 0, g'⟩ (fun r => ∀ c : Dev Cert.DwKvRefIdeal.nD,
          r.2.mem ((c.tc : Thread Cert.DwKvRefIdeal.nD Cert.DwKvRefIdeal.τ).loc Cert.DwKvRefIdeal.main_v8) = v0 c
          ∧ r.2.mem ((c.tc : Thread Cert.DwKvRefIdeal.nD Cert.DwKvRefIdeal.τ).loc Cert.DwKvRefIdeal.main_arg0) = m' ((c.tc : Thread Cert.DwKvRefIdeal.nD Cert.DwKvRefIdeal.τ).loc Cert.DwKvRefIdeal.main_arg0)
          ∧ r.2.mem ((c.tc : Thread Cert.DwKvRefIdeal.nD Cert.DwKvRefIdeal.τ).loc Cert.DwKvRefIdeal.main_arg1) = m' ((c.tc : Thread Cert.DwKvRefIdeal.nD Cert.DwKvRefIdeal.τ).loc Cert.DwKvRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_UpT_UpTIdeal : Prop :=
  True

def algebraic_UpTIdeal_UpTRefIdeal [hUpTIdeal : Cert.UpTIdeal.Facts] [hUpTRefIdeal : Cert.UpTRefIdeal.Facts] : Prop :=
  ∀ (m : (ℓ : Loc Cert.UpTIdeal.nD Cert.UpTIdeal.τ Cert.UpTIdeal.sig) → Buf (Elt Ideal) ℓ) (g : Dev Cert.UpTIdeal.nD → PrngReg)
    (m' : (ℓ : Loc Cert.UpTRefIdeal.nD Cert.UpTRefIdeal.τ Cert.UpTRefIdeal.sig) → Buf (Elt Ideal) ℓ) (g' : Dev Cert.UpTRefIdeal.nD → PrngReg), Pre_UpTIdeal m →
    (∀ c : Dev Cert.UpTIdeal.nD,
      m' ((c.tc : Thread Cert.UpTRefIdeal.nD Cert.UpTRefIdeal.τ).loc Cert.UpTRefIdeal.main_arg0) = m ((c.tc : Thread Cert.UpTIdeal.nD Cert.UpTIdeal.τ).loc Cert.UpTIdeal.main_arg0)
      ∧ m' ((c.tc : Thread Cert.UpTRefIdeal.nD Cert.UpTRefIdeal.τ).loc Cert.UpTRefIdeal.main_arg1) = m ((c.tc : Thread Cert.UpTIdeal.nD Cert.UpTIdeal.τ).loc Cert.UpTIdeal.main_arg1)) →
    ∃ (v0 : (c : Dev Cert.UpTIdeal.nD) → Buf (Elt Ideal) ((c.tc : Thread Cert.UpTIdeal.nD Cert.UpTIdeal.τ).loc Cert.UpTIdeal.main_v0)),
      θ_run (Cert.UpTIdeal.defs (F := Ideal)) (onTc (τ := Cert.UpTIdeal.τ) (Cert.UpTIdeal.main (F := Ideal))) ⟨m, fun _ => 0, g⟩ (fun r => ∀ c : Dev Cert.UpTIdeal.nD,
          r.2.mem ((c.tc : Thread Cert.UpTIdeal.nD Cert.UpTIdeal.τ).loc Cert.UpTIdeal.main_v0) = v0 c
          ∧ r.2.mem ((c.tc : Thread Cert.UpTIdeal.nD Cert.UpTIdeal.τ).loc Cert.UpTIdeal.main_arg0) = m ((c.tc : Thread Cert.UpTIdeal.nD Cert.UpTIdeal.τ).loc Cert.UpTIdeal.main_arg0)
          ∧ r.2.mem ((c.tc : Thread Cert.UpTIdeal.nD Cert.UpTIdeal.τ).loc Cert.UpTIdeal.main_arg1) = m ((c.tc : Thread Cert.UpTIdeal.nD Cert.UpTIdeal.τ).loc Cert.UpTIdeal.main_arg1))
      ∧ θ_run (Cert.UpTRefIdeal.defs (F := Ideal)) (onTc (τ := Cert.UpTRefIdeal.τ) (Cert.UpTRefIdeal.main (F := Ideal))) ⟨m', fun _ => 0, g'⟩ (fun r => ∀ c : Dev Cert.UpTRefIdeal.nD,
          r.2.mem ((c.tc : Thread Cert.UpTRefIdeal.nD Cert.UpTRefIdeal.τ).loc Cert.UpTRefIdeal.main_v8) = v0 c
          ∧ r.2.mem ((c.tc : Thread Cert.UpTRefIdeal.nD Cert.UpTRefIdeal.τ).loc Cert.UpTRefIdeal.main_arg0) = m' ((c.tc : Thread Cert.UpTRefIdeal.nD Cert.UpTRefIdeal.τ).loc Cert.UpTRefIdeal.main_arg0)
          ∧ r.2.mem ((c.tc : Thread Cert.UpTRefIdeal.nD Cert.UpTRefIdeal.τ).loc Cert.UpTRefIdeal.main_arg1) = m' ((c.tc : Thread Cert.UpTRefIdeal.nD Cert.UpTRefIdeal.τ).loc Cert.UpTRefIdeal.main_arg1))

def preserves_InT_InTIdeal : Prop :=
  True

def algebraic_InTIdeal_InTRefIdeal [hInTIdeal : Cert.InTIdeal.Facts] [hInTRefIdeal : Cert.InTRefIdeal.Facts] : Prop :=
  ∀ (m : (ℓ : Loc Cert.InTIdeal.nD Cert.InTIdeal.τ Cert.InTIdeal.sig) → Buf (Elt Ideal) ℓ) (g : Dev Cert.InTIdeal.nD → PrngReg)
    (m' : (ℓ : Loc Cert.InTRefIdeal.nD Cert.InTRefIdeal.τ Cert.InTRefIdeal.sig) → Buf (Elt Ideal) ℓ) (g' : Dev Cert.InTRefIdeal.nD → PrngReg), Pre_InTIdeal m →
    (∀ c : Dev Cert.InTIdeal.nD,
      m' ((c.tc : Thread Cert.InTRefIdeal.nD Cert.InTRefIdeal.τ).loc Cert.InTRefIdeal.main_arg0) = m ((c.tc : Thread Cert.InTIdeal.nD Cert.InTIdeal.τ).loc Cert.InTIdeal.main_arg0)
      ∧ m' ((c.tc : Thread Cert.InTRefIdeal.nD Cert.InTRefIdeal.τ).loc Cert.InTRefIdeal.main_arg1) = m ((c.tc : Thread Cert.InTIdeal.nD Cert.InTIdeal.τ).loc Cert.InTIdeal.main_arg1)) →
    ∃ (v0 : (c : Dev Cert.InTIdeal.nD) → Buf (Elt Ideal) ((c.tc : Thread Cert.InTIdeal.nD Cert.InTIdeal.τ).loc Cert.InTIdeal.main_v0)),
      θ_run (Cert.InTIdeal.defs (F := Ideal)) (onTc (τ := Cert.InTIdeal.τ) (Cert.InTIdeal.main (F := Ideal))) ⟨m, fun _ => 0, g⟩ (fun r => ∀ c : Dev Cert.InTIdeal.nD,
          r.2.mem ((c.tc : Thread Cert.InTIdeal.nD Cert.InTIdeal.τ).loc Cert.InTIdeal.main_v0) = v0 c
          ∧ r.2.mem ((c.tc : Thread Cert.InTIdeal.nD Cert.InTIdeal.τ).loc Cert.InTIdeal.main_arg0) = m ((c.tc : Thread Cert.InTIdeal.nD Cert.InTIdeal.τ).loc Cert.InTIdeal.main_arg0)
          ∧ r.2.mem ((c.tc : Thread Cert.InTIdeal.nD Cert.InTIdeal.τ).loc Cert.InTIdeal.main_arg1) = m ((c.tc : Thread Cert.InTIdeal.nD Cert.InTIdeal.τ).loc Cert.InTIdeal.main_arg1))
      ∧ θ_run (Cert.InTRefIdeal.defs (F := Ideal)) (onTc (τ := Cert.InTRefIdeal.τ) (Cert.InTRefIdeal.main (F := Ideal))) ⟨m', fun _ => 0, g'⟩ (fun r => ∀ c : Dev Cert.InTRefIdeal.nD,
          r.2.mem ((c.tc : Thread Cert.InTRefIdeal.nD Cert.InTRefIdeal.τ).loc Cert.InTRefIdeal.main_v8) = v0 c
          ∧ r.2.mem ((c.tc : Thread Cert.InTRefIdeal.nD Cert.InTRefIdeal.τ).loc Cert.InTRefIdeal.main_arg0) = m' ((c.tc : Thread Cert.InTRefIdeal.nD Cert.InTRefIdeal.τ).loc Cert.InTRefIdeal.main_arg0)
          ∧ r.2.mem ((c.tc : Thread Cert.InTRefIdeal.nD Cert.InTRefIdeal.τ).loc Cert.InTRefIdeal.main_arg1) = m' ((c.tc : Thread Cert.InTRefIdeal.nD Cert.InTRefIdeal.τ).loc Cert.InTRefIdeal.main_arg1))

def preserves_GluT_GluTIdeal : Prop :=
  True

def algebraic_GluTIdeal_GluTRefIdeal [hGluTIdeal : Cert.GluTIdeal.Facts] [hGluTRefIdeal : Cert.GluTRefIdeal.Facts] : Prop :=
  ∀ (m : (ℓ : Loc Cert.GluTIdeal.nD Cert.GluTIdeal.τ Cert.GluTIdeal.sig) → Buf (Elt Ideal) ℓ) (g : Dev Cert.GluTIdeal.nD → PrngReg)
    (m' : (ℓ : Loc Cert.GluTRefIdeal.nD Cert.GluTRefIdeal.τ Cert.GluTRefIdeal.sig) → Buf (Elt Ideal) ℓ) (g' : Dev Cert.GluTRefIdeal.nD → PrngReg), Pre_GluTIdeal m →
    (∀ c : Dev Cert.GluTIdeal.nD,
      m' ((c.tc : Thread Cert.GluTRefIdeal.nD Cert.GluTRefIdeal.τ).loc Cert.GluTRefIdeal.main_arg0) = m ((c.tc : Thread Cert.GluTIdeal.nD Cert.GluTIdeal.τ).loc Cert.GluTIdeal.main_arg0)
      ∧ m' ((c.tc : Thread Cert.GluTRefIdeal.nD Cert.GluTRefIdeal.τ).loc Cert.GluTRefIdeal.main_arg1) = m ((c.tc : Thread Cert.GluTIdeal.nD Cert.GluTIdeal.τ).loc Cert.GluTIdeal.main_arg1)) →
    ∃ (v0 : (c : Dev Cert.GluTIdeal.nD) → Buf (Elt Ideal) ((c.tc : Thread Cert.GluTIdeal.nD Cert.GluTIdeal.τ).loc Cert.GluTIdeal.main_v0)),
      θ_run (Cert.GluTIdeal.defs (F := Ideal)) (onTc (τ := Cert.GluTIdeal.τ) (Cert.GluTIdeal.main (F := Ideal))) ⟨m, fun _ => 0, g⟩ (fun r => ∀ c : Dev Cert.GluTIdeal.nD,
          r.2.mem ((c.tc : Thread Cert.GluTIdeal.nD Cert.GluTIdeal.τ).loc Cert.GluTIdeal.main_v0) = v0 c
          ∧ r.2.mem ((c.tc : Thread Cert.GluTIdeal.nD Cert.GluTIdeal.τ).loc Cert.GluTIdeal.main_arg0) = m ((c.tc : Thread Cert.GluTIdeal.nD Cert.GluTIdeal.τ).loc Cert.GluTIdeal.main_arg0)
          ∧ r.2.mem ((c.tc : Thread Cert.GluTIdeal.nD Cert.GluTIdeal.τ).loc Cert.GluTIdeal.main_arg1) = m ((c.tc : Thread Cert.GluTIdeal.nD Cert.GluTIdeal.τ).loc Cert.GluTIdeal.main_arg1))
      ∧ θ_run (Cert.GluTRefIdeal.defs (F := Ideal)) (onTc (τ := Cert.GluTRefIdeal.τ) (Cert.GluTRefIdeal.main (F := Ideal))) ⟨m', fun _ => 0, g'⟩ (fun r => ∀ c : Dev Cert.GluTRefIdeal.nD,
          r.2.mem ((c.tc : Thread Cert.GluTRefIdeal.nD Cert.GluTRefIdeal.τ).loc Cert.GluTRefIdeal.main_v8) = v0 c
          ∧ r.2.mem ((c.tc : Thread Cert.GluTRefIdeal.nD Cert.GluTRefIdeal.τ).loc Cert.GluTRefIdeal.main_arg0) = m' ((c.tc : Thread Cert.GluTRefIdeal.nD Cert.GluTRefIdeal.τ).loc Cert.GluTRefIdeal.main_arg0)
          ∧ r.2.mem ((c.tc : Thread Cert.GluTRefIdeal.nD Cert.GluTRefIdeal.τ).loc Cert.GluTRefIdeal.main_arg1) = m' ((c.tc : Thread Cert.GluTRefIdeal.nD Cert.GluTRefIdeal.τ).loc Cert.GluTRefIdeal.main_arg1))

def preserves_PwT_PwTIdeal : Prop :=
  True

def algebraic_PwTIdeal_PwTRefIdeal [hPwTIdeal : Cert.PwTIdeal.Facts] [hPwTRefIdeal : Cert.PwTRefIdeal.Facts] : Prop :=
  ∀ (m : (ℓ : Loc Cert.PwTIdeal.nD Cert.PwTIdeal.τ Cert.PwTIdeal.sig) → Buf (Elt Ideal) ℓ) (g : Dev Cert.PwTIdeal.nD → PrngReg)
    (m' : (ℓ : Loc Cert.PwTRefIdeal.nD Cert.PwTRefIdeal.τ Cert.PwTRefIdeal.sig) → Buf (Elt Ideal) ℓ) (g' : Dev Cert.PwTRefIdeal.nD → PrngReg), Pre_PwTIdeal m →
    (∀ c : Dev Cert.PwTIdeal.nD,
      m' ((c.tc : Thread Cert.PwTRefIdeal.nD Cert.PwTRefIdeal.τ).loc Cert.PwTRefIdeal.main_arg0) = m ((c.tc : Thread Cert.PwTIdeal.nD Cert.PwTIdeal.τ).loc Cert.PwTIdeal.main_arg0)
      ∧ m' ((c.tc : Thread Cert.PwTRefIdeal.nD Cert.PwTRefIdeal.τ).loc Cert.PwTRefIdeal.main_arg1) = m ((c.tc : Thread Cert.PwTIdeal.nD Cert.PwTIdeal.τ).loc Cert.PwTIdeal.main_arg1)) →
    ∃ (v0 : (c : Dev Cert.PwTIdeal.nD) → Buf (Elt Ideal) ((c.tc : Thread Cert.PwTIdeal.nD Cert.PwTIdeal.τ).loc Cert.PwTIdeal.main_v0)),
      θ_run (Cert.PwTIdeal.defs (F := Ideal)) (onTc (τ := Cert.PwTIdeal.τ) (Cert.PwTIdeal.main (F := Ideal))) ⟨m, fun _ => 0, g⟩ (fun r => ∀ c : Dev Cert.PwTIdeal.nD,
          r.2.mem ((c.tc : Thread Cert.PwTIdeal.nD Cert.PwTIdeal.τ).loc Cert.PwTIdeal.main_v0) = v0 c
          ∧ r.2.mem ((c.tc : Thread Cert.PwTIdeal.nD Cert.PwTIdeal.τ).loc Cert.PwTIdeal.main_arg0) = m ((c.tc : Thread Cert.PwTIdeal.nD Cert.PwTIdeal.τ).loc Cert.PwTIdeal.main_arg0)
          ∧ r.2.mem ((c.tc : Thread Cert.PwTIdeal.nD Cert.PwTIdeal.τ).loc Cert.PwTIdeal.main_arg1) = m ((c.tc : Thread Cert.PwTIdeal.nD Cert.PwTIdeal.τ).loc Cert.PwTIdeal.main_arg1))
      ∧ θ_run (Cert.PwTRefIdeal.defs (F := Ideal)) (onTc (τ := Cert.PwTRefIdeal.τ) (Cert.PwTRefIdeal.main (F := Ideal))) ⟨m', fun _ => 0, g'⟩ (fun r => ∀ c : Dev Cert.PwTRefIdeal.nD,
          r.2.mem ((c.tc : Thread Cert.PwTRefIdeal.nD Cert.PwTRefIdeal.τ).loc Cert.PwTRefIdeal.main_v8) = v0 c
          ∧ r.2.mem ((c.tc : Thread Cert.PwTRefIdeal.nD Cert.PwTRefIdeal.τ).loc Cert.PwTRefIdeal.main_arg0) = m' ((c.tc : Thread Cert.PwTRefIdeal.nD Cert.PwTRefIdeal.τ).loc Cert.PwTRefIdeal.main_arg0)
          ∧ r.2.mem ((c.tc : Thread Cert.PwTRefIdeal.nD Cert.PwTRefIdeal.τ).loc Cert.PwTRefIdeal.main_arg1) = m' ((c.tc : Thread Cert.PwTRefIdeal.nD Cert.PwTRefIdeal.τ).loc Cert.PwTRefIdeal.main_arg1))

def preserves_KvT_KvTIdeal : Prop :=
  True

def algebraic_KvTIdeal_KvTRefIdeal [hKvTIdeal : Cert.KvTIdeal.Facts] [hKvTRefIdeal : Cert.KvTRefIdeal.Facts] : Prop :=
  ∀ (m : (ℓ : Loc Cert.KvTIdeal.nD Cert.KvTIdeal.τ Cert.KvTIdeal.sig) → Buf (Elt Ideal) ℓ) (g : Dev Cert.KvTIdeal.nD → PrngReg)
    (m' : (ℓ : Loc Cert.KvTRefIdeal.nD Cert.KvTRefIdeal.τ Cert.KvTRefIdeal.sig) → Buf (Elt Ideal) ℓ) (g' : Dev Cert.KvTRefIdeal.nD → PrngReg), Pre_KvTIdeal m →
    (∀ c : Dev Cert.KvTIdeal.nD,
      m' ((c.tc : Thread Cert.KvTRefIdeal.nD Cert.KvTRefIdeal.τ).loc Cert.KvTRefIdeal.main_arg0) = m ((c.tc : Thread Cert.KvTIdeal.nD Cert.KvTIdeal.τ).loc Cert.KvTIdeal.main_arg0)
      ∧ m' ((c.tc : Thread Cert.KvTRefIdeal.nD Cert.KvTRefIdeal.τ).loc Cert.KvTRefIdeal.main_arg1) = m ((c.tc : Thread Cert.KvTIdeal.nD Cert.KvTIdeal.τ).loc Cert.KvTIdeal.main_arg1)) →
    ∃ (v0 : (c : Dev Cert.KvTIdeal.nD) → Buf (Elt Ideal) ((c.tc : Thread Cert.KvTIdeal.nD Cert.KvTIdeal.τ).loc Cert.KvTIdeal.main_v0)),
      θ_run (Cert.KvTIdeal.defs (F := Ideal)) (onTc (τ := Cert.KvTIdeal.τ) (Cert.KvTIdeal.main (F := Ideal))) ⟨m, fun _ => 0, g⟩ (fun r => ∀ c : Dev Cert.KvTIdeal.nD,
          r.2.mem ((c.tc : Thread Cert.KvTIdeal.nD Cert.KvTIdeal.τ).loc Cert.KvTIdeal.main_v0) = v0 c
          ∧ r.2.mem ((c.tc : Thread Cert.KvTIdeal.nD Cert.KvTIdeal.τ).loc Cert.KvTIdeal.main_arg0) = m ((c.tc : Thread Cert.KvTIdeal.nD Cert.KvTIdeal.τ).loc Cert.KvTIdeal.main_arg0)
          ∧ r.2.mem ((c.tc : Thread Cert.KvTIdeal.nD Cert.KvTIdeal.τ).loc Cert.KvTIdeal.main_arg1) = m ((c.tc : Thread Cert.KvTIdeal.nD Cert.KvTIdeal.τ).loc Cert.KvTIdeal.main_arg1))
      ∧ θ_run (Cert.KvTRefIdeal.defs (F := Ideal)) (onTc (τ := Cert.KvTRefIdeal.τ) (Cert.KvTRefIdeal.main (F := Ideal))) ⟨m', fun _ => 0, g'⟩ (fun r => ∀ c : Dev Cert.KvTRefIdeal.nD,
          r.2.mem ((c.tc : Thread Cert.KvTRefIdeal.nD Cert.KvTRefIdeal.τ).loc Cert.KvTRefIdeal.main_v8) = v0 c
          ∧ r.2.mem ((c.tc : Thread Cert.KvTRefIdeal.nD Cert.KvTRefIdeal.τ).loc Cert.KvTRefIdeal.main_arg0) = m' ((c.tc : Thread Cert.KvTRefIdeal.nD Cert.KvTRefIdeal.τ).loc Cert.KvTRefIdeal.main_arg0)
          ∧ r.2.mem ((c.tc : Thread Cert.KvTRefIdeal.nD Cert.KvTRefIdeal.τ).loc Cert.KvTRefIdeal.main_arg1) = m' ((c.tc : Thread Cert.KvTRefIdeal.nD Cert.KvTRefIdeal.τ).loc Cert.KvTRefIdeal.main_arg1))

def preserves_DownT_DownTIdeal : Prop :=
  True

def algebraic_DownTIdeal_DownTRefIdeal [hDownTIdeal : Cert.DownTIdeal.Facts] [hDownTRefIdeal : Cert.DownTRefIdeal.Facts] : Prop :=
  ∀ (m : (ℓ : Loc Cert.DownTIdeal.nD Cert.DownTIdeal.τ Cert.DownTIdeal.sig) → Buf (Elt Ideal) ℓ) (g : Dev Cert.DownTIdeal.nD → PrngReg)
    (m' : (ℓ : Loc Cert.DownTRefIdeal.nD Cert.DownTRefIdeal.τ Cert.DownTRefIdeal.sig) → Buf (Elt Ideal) ℓ) (g' : Dev Cert.DownTRefIdeal.nD → PrngReg), Pre_DownTIdeal m →
    (∀ c : Dev Cert.DownTIdeal.nD,
      m' ((c.tc : Thread Cert.DownTRefIdeal.nD Cert.DownTRefIdeal.τ).loc Cert.DownTRefIdeal.main_arg0) = m ((c.tc : Thread Cert.DownTIdeal.nD Cert.DownTIdeal.τ).loc Cert.DownTIdeal.main_arg0)
      ∧ m' ((c.tc : Thread Cert.DownTRefIdeal.nD Cert.DownTRefIdeal.τ).loc Cert.DownTRefIdeal.main_arg1) = m ((c.tc : Thread Cert.DownTIdeal.nD Cert.DownTIdeal.τ).loc Cert.DownTIdeal.main_arg1)) →
    ∃ (v0 : (c : Dev Cert.DownTIdeal.nD) → Buf (Elt Ideal) ((c.tc : Thread Cert.DownTIdeal.nD Cert.DownTIdeal.τ).loc Cert.DownTIdeal.main_v0)),
      θ_run (Cert.DownTIdeal.defs (F := Ideal)) (onTc (τ := Cert.DownTIdeal.τ) (Cert.DownTIdeal.main (F := Ideal))) ⟨m, fun _ => 0, g⟩ (fun r => ∀ c : Dev Cert.DownTIdeal.nD,
          r.2.mem ((c.tc : Thread Cert.DownTIdeal.nD Cert.DownTIdeal.τ).loc Cert.DownTIdeal.main_v0) = v0 c
          ∧ r.2.mem ((c.tc : Thread Cert.DownTIdeal.nD Cert.DownTIdeal.τ).loc Cert.DownTIdeal.main_arg0) = m ((c.tc : Thread Cert.DownTIdeal.nD Cert.DownTIdeal.τ).loc Cert.DownTIdeal.main_arg0)
          ∧ r.2.mem ((c.tc : Thread Cert.DownTIdeal.nD Cert.DownTIdeal.τ).loc Cert.DownTIdeal.main_arg1) = m ((c.tc : Thread Cert.DownTIdeal.nD Cert.DownTIdeal.τ).loc Cert.DownTIdeal.main_arg1))
      ∧ θ_run (Cert.DownTRefIdeal.defs (F := Ideal)) (onTc (τ := Cert.DownTRefIdeal.τ) (Cert.DownTRefIdeal.main (F := Ideal))) ⟨m', fun _ => 0, g'⟩ (fun r => ∀ c : Dev Cert.DownTRefIdeal.nD,
          r.2.mem ((c.tc : Thread Cert.DownTRefIdeal.nD Cert.DownTRefIdeal.τ).loc Cert.DownTRefIdeal.main_v6) = v0 c
          ∧ r.2.mem ((c.tc : Thread Cert.DownTRefIdeal.nD Cert.DownTRefIdeal.τ).loc Cert.DownTRefIdeal.main_arg0) = m' ((c.tc : Thread Cert.DownTRefIdeal.nD Cert.DownTRefIdeal.τ).loc Cert.DownTRefIdeal.main_arg0)
          ∧ r.2.mem ((c.tc : Thread Cert.DownTRefIdeal.nD Cert.DownTRefIdeal.τ).loc Cert.DownTRefIdeal.main_arg1) = m' ((c.tc : Thread Cert.DownTRefIdeal.nD Cert.DownTRefIdeal.τ).loc Cert.DownTRefIdeal.main_arg1))

def preserves_OutT_OutTIdeal : Prop :=
  True

def algebraic_OutTIdeal_OutTRefIdeal [hOutTIdeal : Cert.OutTIdeal.Facts] [hOutTRefIdeal : Cert.OutTRefIdeal.Facts] : Prop :=
  ∀ (m : (ℓ : Loc Cert.OutTIdeal.nD Cert.OutTIdeal.τ Cert.OutTIdeal.sig) → Buf (Elt Ideal) ℓ) (g : Dev Cert.OutTIdeal.nD → PrngReg)
    (m' : (ℓ : Loc Cert.OutTRefIdeal.nD Cert.OutTRefIdeal.τ Cert.OutTRefIdeal.sig) → Buf (Elt Ideal) ℓ) (g' : Dev Cert.OutTRefIdeal.nD → PrngReg), Pre_OutTIdeal m →
    (∀ c : Dev Cert.OutTIdeal.nD,
      m' ((c.tc : Thread Cert.OutTRefIdeal.nD Cert.OutTRefIdeal.τ).loc Cert.OutTRefIdeal.main_arg0) = m ((c.tc : Thread Cert.OutTIdeal.nD Cert.OutTIdeal.τ).loc Cert.OutTIdeal.main_arg0)
      ∧ m' ((c.tc : Thread Cert.OutTRefIdeal.nD Cert.OutTRefIdeal.τ).loc Cert.OutTRefIdeal.main_arg1) = m ((c.tc : Thread Cert.OutTIdeal.nD Cert.OutTIdeal.τ).loc Cert.OutTIdeal.main_arg1)) →
    ∃ (v0 : (c : Dev Cert.OutTIdeal.nD) → Buf (Elt Ideal) ((c.tc : Thread Cert.OutTIdeal.nD Cert.OutTIdeal.τ).loc Cert.OutTIdeal.main_v0)),
      θ_run (Cert.OutTIdeal.defs (F := Ideal)) (onTc (τ := Cert.OutTIdeal.τ) (Cert.OutTIdeal.main (F := Ideal))) ⟨m, fun _ => 0, g⟩ (fun r => ∀ c : Dev Cert.OutTIdeal.nD,
          r.2.mem ((c.tc : Thread Cert.OutTIdeal.nD Cert.OutTIdeal.τ).loc Cert.OutTIdeal.main_v0) = v0 c
          ∧ r.2.mem ((c.tc : Thread Cert.OutTIdeal.nD Cert.OutTIdeal.τ).loc Cert.OutTIdeal.main_arg0) = m ((c.tc : Thread Cert.OutTIdeal.nD Cert.OutTIdeal.τ).loc Cert.OutTIdeal.main_arg0)
          ∧ r.2.mem ((c.tc : Thread Cert.OutTIdeal.nD Cert.OutTIdeal.τ).loc Cert.OutTIdeal.main_arg1) = m ((c.tc : Thread Cert.OutTIdeal.nD Cert.OutTIdeal.τ).loc Cert.OutTIdeal.main_arg1))
      ∧ θ_run (Cert.OutTRefIdeal.defs (F := Ideal)) (onTc (τ := Cert.OutTRefIdeal.τ) (Cert.OutTRefIdeal.main (F := Ideal))) ⟨m', fun _ => 0, g'⟩ (fun r => ∀ c : Dev Cert.OutTRefIdeal.nD,
          r.2.mem ((c.tc : Thread Cert.OutTRefIdeal.nD Cert.OutTRefIdeal.τ).loc Cert.OutTRefIdeal.main_v6) = v0 c
          ∧ r.2.mem ((c.tc : Thread Cert.OutTRefIdeal.nD Cert.OutTRefIdeal.τ).loc Cert.OutTRefIdeal.main_arg0) = m' ((c.tc : Thread Cert.OutTRefIdeal.nD Cert.OutTRefIdeal.τ).loc Cert.OutTRefIdeal.main_arg0)
          ∧ r.2.mem ((c.tc : Thread Cert.OutTRefIdeal.nD Cert.OutTRefIdeal.τ).loc Cert.OutTRefIdeal.main_arg1) = m' ((c.tc : Thread Cert.OutTRefIdeal.nD Cert.OutTRefIdeal.τ).loc Cert.OutTRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v5) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v5) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Pw_PwIdeal : Prop :=
  True

def algebraic_PwIdeal_PwRefIdeal [hPwIdeal : Cert.PwIdeal.Facts] [hPwRefIdeal : Cert.PwRefIdeal.Facts] : Prop :=
  ∀ (m : (ℓ : Loc Cert.PwIdeal.nD Cert.PwIdeal.τ Cert.PwIdeal.sig) → Buf (Elt Ideal) ℓ) (g : Dev Cert.PwIdeal.nD → PrngReg)
    (m' : (ℓ : Loc Cert.PwRefIdeal.nD Cert.PwRefIdeal.τ Cert.PwRefIdeal.sig) → Buf (Elt Ideal) ℓ) (g' : Dev Cert.PwRefIdeal.nD → PrngReg), Pre_PwIdeal m →
    (∀ c : Dev Cert.PwIdeal.nD,
      m' ((c.tc : Thread Cert.PwRefIdeal.nD Cert.PwRefIdeal.τ).loc Cert.PwRefIdeal.main_arg0) = m ((c.tc : Thread Cert.PwIdeal.nD Cert.PwIdeal.τ).loc Cert.PwIdeal.main_arg0)
      ∧ m' ((c.tc : Thread Cert.PwRefIdeal.nD Cert.PwRefIdeal.τ).loc Cert.PwRefIdeal.main_arg1) = m ((c.tc : Thread Cert.PwIdeal.nD Cert.PwIdeal.τ).loc Cert.PwIdeal.main_arg1)) →
    ∃ (v0 : (c : Dev Cert.PwIdeal.nD) → Buf (Elt Ideal) ((c.tc : Thread Cert.PwIdeal.nD Cert.PwIdeal.τ).loc Cert.PwIdeal.main_v0)),
      θ_run (Cert.PwIdeal.defs (F := Ideal)) (onTc (τ := Cert.PwIdeal.τ) (Cert.PwIdeal.main (F := Ideal))) ⟨m, fun _ => 0, g⟩ (fun r => ∀ c : Dev Cert.PwIdeal.nD,
          r.2.mem ((c.tc : Thread Cert.PwIdeal.nD Cert.PwIdeal.τ).loc Cert.PwIdeal.main_v0) = v0 c
          ∧ r.2.mem ((c.tc : Thread Cert.PwIdeal.nD Cert.PwIdeal.τ).loc Cert.PwIdeal.main_arg0) = m ((c.tc : Thread Cert.PwIdeal.nD Cert.PwIdeal.τ).loc Cert.PwIdeal.main_arg0)
          ∧ r.2.mem ((c.tc : Thread Cert.PwIdeal.nD Cert.PwIdeal.τ).loc Cert.PwIdeal.main_arg1) = m ((c.tc : Thread Cert.PwIdeal.nD Cert.PwIdeal.τ).loc Cert.PwIdeal.main_arg1))
      ∧ θ_run (Cert.PwRefIdeal.defs (F := Ideal)) (onTc (τ := Cert.PwRefIdeal.τ) (Cert.PwRefIdeal.main (F := Ideal))) ⟨m', fun _ => 0, g'⟩ (fun r => ∀ c : Dev Cert.PwRefIdeal.nD,
          r.2.mem ((c.tc : Thread Cert.PwRefIdeal.nD Cert.PwRefIdeal.τ).loc Cert.PwRefIdeal.main_v5) = v0 c
          ∧ r.2.mem ((c.tc : Thread Cert.PwRefIdeal.nD Cert.PwRefIdeal.τ).loc Cert.PwRefIdeal.main_arg0) = m' ((c.tc : Thread Cert.PwRefIdeal.nD Cert.PwRefIdeal.τ).loc Cert.PwRefIdeal.main_arg0)
          ∧ r.2.mem ((c.tc : Thread Cert.PwRefIdeal.nD Cert.PwRefIdeal.τ).loc Cert.PwRefIdeal.main_arg1) = m' ((c.tc : Thread Cert.PwRefIdeal.nD Cert.PwRefIdeal.τ).loc Cert.PwRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v6) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v4) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v39) = v0 c
          ∧ r.2.mem ((c.tc : Thread Cert.RmsBwdRefIdeal.nD Cert.RmsBwdRefIdeal.τ).loc Cert.RmsBwdRefIdeal.main_v40) = v1 c
          ∧ r.2.mem ((c.tc : Thread Cert.RmsBwdRefIdeal.nD Cert.RmsBwdRefIdeal.τ).loc Cert.RmsBwdRefIdeal.main_v41) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v15) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)) →
    ∃ (v0 : (c : Dev Cert.RmsMemIdeal.nD) → Buf (Elt Ideal) ((c.tc : Thread Cert.RmsMemIdeal.nD Cert.RmsMemIdeal.τ).loc Cert.RmsMemIdeal.main_v0)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v0) = v0 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v15) = v0 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1))

def preserves_Sparse_SparseIdeal : Prop :=
  True

def algebraic_SparseIdeal_SparseRefIdeal [hSparseIdeal : Cert.SparseIdeal.Facts] [hSparseRefIdeal : Cert.SparseRefIdeal.Facts] : Prop :=
  ∀ (m : (ℓ : Loc Cert.SparseIdeal.nD Cert.SparseIdeal.τ Cert.SparseIdeal.sig) → Buf (Elt Ideal) ℓ) (g : Dev Cert.SparseIdeal.nD → PrngReg)
    (m' : (ℓ : Loc Cert.SparseRefIdeal.nD Cert.SparseRefIdeal.τ Cert.SparseRefIdeal.sig) → Buf (Elt Ideal) ℓ) (g' : Dev Cert.SparseRefIdeal.nD → PrngReg), Pre_SparseIdeal m →
    (∀ c : Dev Cert.SparseIdeal.nD,
      m' ((c.tc : Thread Cert.SparseRefIdeal.nD Cert.SparseRefIdeal.τ).loc Cert.SparseRefIdeal.main_arg0) = m ((c.tc : Thread Cert.SparseIdeal.nD Cert.SparseIdeal.τ).loc Cert.SparseIdeal.main_arg0)
      ∧ m' ((c.tc : Thread Cert.SparseRefIdeal.nD Cert.SparseRefIdeal.τ).loc Cert.SparseRefIdeal.main_arg1) = m ((c.tc : Thread Cert.SparseIdeal.nD Cert.SparseIdeal.τ).loc Cert.SparseIdeal.main_arg1)
      ∧ m' ((c.tc : Thread Cert.SparseRefIdeal.nD Cert.SparseRefIdeal.τ).loc Cert.SparseRefIdeal.main_arg2) = m ((c.tc : Thread Cert.SparseIdeal.nD Cert.SparseIdeal.τ).loc Cert.SparseIdeal.main_arg2)
      ∧ m' ((c.tc : Thread Cert.SparseRefIdeal.nD Cert.SparseRefIdeal.τ).loc Cert.SparseRefIdeal.main_arg3) = m ((c.tc : Thread Cert.SparseIdeal.nD Cert.SparseIdeal.τ).loc Cert.SparseIdeal.main_arg3)
      ∧ m' ((c.tc : Thread Cert.SparseRefIdeal.nD Cert.SparseRefIdeal.τ).loc Cert.SparseRefIdeal.main_arg4) = m ((c.tc : Thread Cert.SparseIdeal.nD Cert.SparseIdeal.τ).loc Cert.SparseIdeal.main_arg4)
      ∧ m' ((c.tc : Thread Cert.SparseRefIdeal.nD Cert.SparseRefIdeal.τ).loc Cert.SparseRefIdeal.main_arg5) = m ((c.tc : Thread Cert.SparseIdeal.nD Cert.SparseIdeal.τ).loc Cert.SparseIdeal.main_arg5)
      ∧ m' ((c.tc : Thread Cert.SparseRefIdeal.nD Cert.SparseRefIdeal.τ).loc Cert.SparseRefIdeal.main_arg6) = m ((c.tc : Thread Cert.SparseIdeal.nD Cert.SparseIdeal.τ).loc Cert.SparseIdeal.main_arg6)
      ∧ m' ((c.tc : Thread Cert.SparseRefIdeal.nD Cert.SparseRefIdeal.τ).loc Cert.SparseRefIdeal.main_arg7) = m ((c.tc : Thread Cert.SparseIdeal.nD Cert.SparseIdeal.τ).loc Cert.SparseIdeal.main_arg7)) →
    ∃ (v0 : (c : Dev Cert.SparseIdeal.nD) → Buf (Elt Ideal) ((c.tc : Thread Cert.SparseIdeal.nD Cert.SparseIdeal.τ).loc Cert.SparseIdeal.main_v0_0)) (v1 : (c : Dev Cert.SparseIdeal.nD) → Buf (Elt Ideal) ((c.tc : Thread Cert.SparseIdeal.nD Cert.SparseIdeal.τ).loc Cert.SparseIdeal.main_v0_1)) (v2 : (c : Dev Cert.SparseIdeal.nD) → Buf (Elt Ideal) ((c.tc : Thread Cert.SparseIdeal.nD Cert.SparseIdeal.τ).loc Cert.SparseIdeal.main_v0_2)) (v3 : (c : Dev Cert.SparseIdeal.nD) → Buf (Elt Ideal) ((c.tc : Thread Cert.SparseIdeal.nD Cert.SparseIdeal.τ).loc Cert.SparseIdeal.main_v0_3)) (v4 : (c : Dev Cert.SparseIdeal.nD) → Buf (Elt Ideal) ((c.tc : Thread Cert.SparseIdeal.nD Cert.SparseIdeal.τ).loc Cert.SparseIdeal.main_v0_4)) (v5 : (c : Dev Cert.SparseIdeal.nD) → Buf (Elt Ideal) ((c.tc : Thread Cert.SparseIdeal.nD Cert.SparseIdeal.τ).loc Cert.SparseIdeal.main_v0_5)),
      θ_run (Cert.SparseIdeal.defs (F := Ideal)) (onTc (τ := Cert.SparseIdeal.τ) (Cert.SparseIdeal.main (F := Ideal))) ⟨m, fun _ => 0, g⟩ (fun r => ∀ c : Dev Cert.SparseIdeal.nD,
          r.2.mem ((c.tc : Thread Cert.SparseIdeal.nD Cert.SparseIdeal.τ).loc Cert.SparseIdeal.main_v0_0) = v0 c
          ∧ r.2.mem ((c.tc : Thread Cert.SparseIdeal.nD Cert.SparseIdeal.τ).loc Cert.SparseIdeal.main_v0_1) = v1 c
          ∧ r.2.mem ((c.tc : Thread Cert.SparseIdeal.nD Cert.SparseIdeal.τ).loc Cert.SparseIdeal.main_v0_2) = v2 c
          ∧ r.2.mem ((c.tc : Thread Cert.SparseIdeal.nD Cert.SparseIdeal.τ).loc Cert.SparseIdeal.main_v0_3) = v3 c
          ∧ r.2.mem ((c.tc : Thread Cert.SparseIdeal.nD Cert.SparseIdeal.τ).loc Cert.SparseIdeal.main_v0_4) = v4 c
          ∧ r.2.mem ((c.tc : Thread Cert.SparseIdeal.nD Cert.SparseIdeal.τ).loc Cert.SparseIdeal.main_v0_5) = v5 c
          ∧ r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
          ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
          ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
          ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3)
          ∧ r.2.mem ((c.tc : Thread Cert.SparseIdeal.nD Cert.SparseIdeal.τ).loc Cert.SparseIdeal.main_arg4) = m ((c.tc : Thread Cert.SparseIdeal.nD Cert.SparseIdeal.τ).loc Cert.SparseIdeal.main_arg4)
          ∧ r.2.mem ((c.tc : Thread Cert.SparseIdeal.nD Cert.SparseIdeal.τ).loc Cert.SparseIdeal.main_arg5) = m ((c.tc : Thread Cert.SparseIdeal.nD Cert.SparseIdeal.τ).loc Cert.SparseIdeal.main_arg5)
          ∧ r.2.mem ((c.tc : Thread Cert.SparseIdeal.nD Cert.SparseIdeal.τ).loc Cert.SparseIdeal.main_arg6) = m ((c.tc : Thread Cert.SparseIdeal.nD Cert.SparseIdeal.τ).loc Cert.SparseIdeal.main_arg6)
          ∧ r.2.mem ((c.tc : Thread Cert.SparseIdeal.nD Cert.SparseIdeal.τ).loc Cert.SparseIdeal.main_arg7) = m ((c.tc : Thread Cert.SparseIdeal.nD Cert.SparseIdeal.τ).loc Cert.SparseIdeal.main_arg7))
      ∧ θ_run (Cert.SparseRefIdeal.defs (F := Ideal)) (onTc (τ := Cert.SparseRefIdeal.τ) (Cert.SparseRefIdeal.main (F := Ideal))) ⟨m', fun _ => 0, g'⟩ (fun r => ∀ c : Dev Cert.SparseRefIdeal.nD,
          r.2.mem ((c.tc : Thread Cert.SparseRefIdeal.nD Cert.SparseRefIdeal.τ).loc Cert.SparseRefIdeal.main_v23) = v0 c
          ∧ r.2.mem ((c.tc : Thread Cert.SparseRefIdeal.nD Cert.SparseRefIdeal.τ).loc Cert.SparseRefIdeal.main_v47) = v1 c
          ∧ r.2.mem ((c.tc : Thread Cert.SparseRefIdeal.nD Cert.SparseRefIdeal.τ).loc Cert.SparseRefIdeal.main_v4) = v2 c
          ∧ r.2.mem ((c.tc : Thread Cert.SparseRefIdeal.nD Cert.SparseRefIdeal.τ).loc Cert.SparseRefIdeal.main_v28) = v3 c
          ∧ r.2.mem ((c.tc : Thread Cert.SparseRefIdeal.nD Cert.SparseRefIdeal.τ).loc Cert.SparseRefIdeal.main_v10) = v4 c
          ∧ r.2.mem ((c.tc : Thread Cert.SparseRefIdeal.nD Cert.SparseRefIdeal.τ).loc Cert.SparseRefIdeal.main_v34) = v5 c
          ∧ r.2.mem ((c.tc : Thread Cert.SparseRefIdeal.nD Cert.SparseRefIdeal.τ).loc Cert.SparseRefIdeal.main_arg0) = m' ((c.tc : Thread Cert.SparseRefIdeal.nD Cert.SparseRefIdeal.τ).loc Cert.SparseRefIdeal.main_arg0)
          ∧ r.2.mem ((c.tc : Thread Cert.SparseRefIdeal.nD Cert.SparseRefIdeal.τ).loc Cert.SparseRefIdeal.main_arg1) = m' ((c.tc : Thread Cert.SparseRefIdeal.nD Cert.SparseRefIdeal.τ).loc Cert.SparseRefIdeal.main_arg1)
          ∧ r.2.mem ((c.tc : Thread Cert.SparseRefIdeal.nD Cert.SparseRefIdeal.τ).loc Cert.SparseRefIdeal.main_arg2) = m' ((c.tc : Thread Cert.SparseRefIdeal.nD Cert.SparseRefIdeal.τ).loc Cert.SparseRefIdeal.main_arg2)
          ∧ r.2.mem ((c.tc : Thread Cert.SparseRefIdeal.nD Cert.SparseRefIdeal.τ).loc Cert.SparseRefIdeal.main_arg3) = m' ((c.tc : Thread Cert.SparseRefIdeal.nD Cert.SparseRefIdeal.τ).loc Cert.SparseRefIdeal.main_arg3)
          ∧ r.2.mem ((c.tc : Thread Cert.SparseRefIdeal.nD Cert.SparseRefIdeal.τ).loc Cert.SparseRefIdeal.main_arg4) = m' ((c.tc : Thread Cert.SparseRefIdeal.nD Cert.SparseRefIdeal.τ).loc Cert.SparseRefIdeal.main_arg4)
          ∧ r.2.mem ((c.tc : Thread Cert.SparseRefIdeal.nD Cert.SparseRefIdeal.τ).loc Cert.SparseRefIdeal.main_arg5) = m' ((c.tc : Thread Cert.SparseRefIdeal.nD Cert.SparseRefIdeal.τ).loc Cert.SparseRefIdeal.main_arg5)
          ∧ r.2.mem ((c.tc : Thread Cert.SparseRefIdeal.nD Cert.SparseRefIdeal.τ).loc Cert.SparseRefIdeal.main_arg6) = m' ((c.tc : Thread Cert.SparseRefIdeal.nD Cert.SparseRefIdeal.τ).loc Cert.SparseRefIdeal.main_arg6)
          ∧ r.2.mem ((c.tc : Thread Cert.SparseRefIdeal.nD Cert.SparseRefIdeal.τ).loc Cert.SparseRefIdeal.main_arg7) = m' ((c.tc : Thread Cert.SparseRefIdeal.nD Cert.SparseRefIdeal.τ).loc Cert.SparseRefIdeal.main_arg7))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v1) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_LateSum_LateSumIdeal : Prop :=
  True

def algebraic_LateSumIdeal_LateSumRefIdeal [hLateSumIdeal : Cert.LateSumIdeal.Facts] [hLateSumRefIdeal : Cert.LateSumRefIdeal.Facts] : Prop :=
  ∀ (m : (ℓ : Loc Cert.LateSumIdeal.nD Cert.LateSumIdeal.τ Cert.LateSumIdeal.sig) → Buf (Elt Ideal) ℓ) (g : Dev Cert.LateSumIdeal.nD → PrngReg)
    (m' : (ℓ : Loc Cert.LateSumRefIdeal.nD Cert.LateSumRefIdeal.τ Cert.LateSumRefIdeal.sig) → Buf (Elt Ideal) ℓ) (g' : Dev Cert.LateSumRefIdeal.nD → PrngReg), Pre_LateSumIdeal m →
    (∀ c : Dev Cert.LateSumIdeal.nD,
      m' ((c.tc : Thread Cert.LateSumRefIdeal.nD Cert.LateSumRefIdeal.τ).loc Cert.LateSumRefIdeal.main_arg0) = m ((c.tc : Thread Cert.LateSumIdeal.nD Cert.LateSumIdeal.τ).loc Cert.LateSumIdeal.main_arg0)
      ∧ m' ((c.tc : Thread Cert.LateSumRefIdeal.nD Cert.LateSumRefIdeal.τ).loc Cert.LateSumRefIdeal.main_arg1) = m ((c.tc : Thread Cert.LateSumIdeal.nD Cert.LateSumIdeal.τ).loc Cert.LateSumIdeal.main_arg1)) →
    ∃ (v0 : (c : Dev Cert.LateSumIdeal.nD) → Buf (Elt Ideal) ((c.tc : Thread Cert.LateSumIdeal.nD Cert.LateSumIdeal.τ).loc Cert.LateSumIdeal.main_v0)),
      θ_run (Cert.LateSumIdeal.defs (F := Ideal)) (onTc (τ := Cert.LateSumIdeal.τ) (Cert.LateSumIdeal.main (F := Ideal))) ⟨m, fun _ => 0, g⟩ (fun r => ∀ c : Dev Cert.LateSumIdeal.nD,
          r.2.mem ((c.tc : Thread Cert.LateSumIdeal.nD Cert.LateSumIdeal.τ).loc Cert.LateSumIdeal.main_v0) = v0 c
          ∧ r.2.mem ((c.tc : Thread Cert.LateSumIdeal.nD Cert.LateSumIdeal.τ).loc Cert.LateSumIdeal.main_arg0) = m ((c.tc : Thread Cert.LateSumIdeal.nD Cert.LateSumIdeal.τ).loc Cert.LateSumIdeal.main_arg0)
          ∧ r.2.mem ((c.tc : Thread Cert.LateSumIdeal.nD Cert.LateSumIdeal.τ).loc Cert.LateSumIdeal.main_arg1) = m ((c.tc : Thread Cert.LateSumIdeal.nD Cert.LateSumIdeal.τ).loc Cert.LateSumIdeal.main_arg1))
      ∧ θ_run (Cert.LateSumRefIdeal.defs (F := Ideal)) (onTc (τ := Cert.LateSumRefIdeal.τ) (Cert.LateSumRefIdeal.main (F := Ideal))) ⟨m', fun _ => 0, g'⟩ (fun r => ∀ c : Dev Cert.LateSumRefIdeal.nD,
          r.2.mem ((c.tc : Thread Cert.LateSumRefIdeal.nD Cert.LateSumRefIdeal.τ).loc Cert.LateSumRefIdeal.main_v3) = v0 c
          ∧ r.2.mem ((c.tc : Thread Cert.LateSumRefIdeal.nD Cert.LateSumRefIdeal.τ).loc Cert.LateSumRefIdeal.main_arg0) = m' ((c.tc : Thread Cert.LateSumRefIdeal.nD Cert.LateSumRefIdeal.τ).loc Cert.LateSumRefIdeal.main_arg0)
          ∧ r.2.mem ((c.tc : Thread Cert.LateSumRefIdeal.nD Cert.LateSumRefIdeal.τ).loc Cert.LateSumRefIdeal.main_arg1) = m' ((c.tc : Thread Cert.LateSumRefIdeal.nD Cert.LateSumRefIdeal.τ).loc Cert.LateSumRefIdeal.main_arg1))

def preserves_AdamDw_AdamDwIdeal : Prop :=
  True

def algebraic_AdamDwIdeal_AdamDwRefIdeal [hAdamDwIdeal : Cert.AdamDwIdeal.Facts] [hAdamDwRefIdeal : Cert.AdamDwRefIdeal.Facts] : Prop :=
  ∀ (m : (ℓ : Loc Cert.AdamDwIdeal.nD Cert.AdamDwIdeal.τ Cert.AdamDwIdeal.sig) → Buf (Elt Ideal) ℓ) (g : Dev Cert.AdamDwIdeal.nD → PrngReg)
    (m' : (ℓ : Loc Cert.AdamDwRefIdeal.nD Cert.AdamDwRefIdeal.τ Cert.AdamDwRefIdeal.sig) → Buf (Elt Ideal) ℓ) (g' : Dev Cert.AdamDwRefIdeal.nD → PrngReg), Pre_AdamDwIdeal m →
    (∀ c : Dev Cert.AdamDwIdeal.nD,
      m' ((c.tc : Thread Cert.AdamDwRefIdeal.nD Cert.AdamDwRefIdeal.τ).loc Cert.AdamDwRefIdeal.main_arg0) = m ((c.tc : Thread Cert.AdamDwIdeal.nD Cert.AdamDwIdeal.τ).loc Cert.AdamDwIdeal.main_arg0)
      ∧ m' ((c.tc : Thread Cert.AdamDwRefIdeal.nD Cert.AdamDwRefIdeal.τ).loc Cert.AdamDwRefIdeal.main_arg1) = m ((c.tc : Thread Cert.AdamDwIdeal.nD Cert.AdamDwIdeal.τ).loc Cert.AdamDwIdeal.main_arg1)
      ∧ m' ((c.tc : Thread Cert.AdamDwRefIdeal.nD Cert.AdamDwRefIdeal.τ).loc Cert.AdamDwRefIdeal.main_arg2) = m ((c.tc : Thread Cert.AdamDwIdeal.nD Cert.AdamDwIdeal.τ).loc Cert.AdamDwIdeal.main_arg2)
      ∧ m' ((c.tc : Thread Cert.AdamDwRefIdeal.nD Cert.AdamDwRefIdeal.τ).loc Cert.AdamDwRefIdeal.main_arg3) = m ((c.tc : Thread Cert.AdamDwIdeal.nD Cert.AdamDwIdeal.τ).loc Cert.AdamDwIdeal.main_arg3)
      ∧ m' ((c.tc : Thread Cert.AdamDwRefIdeal.nD Cert.AdamDwRefIdeal.τ).loc Cert.AdamDwRefIdeal.main_arg4) = m ((c.tc : Thread Cert.AdamDwIdeal.nD Cert.AdamDwIdeal.τ).loc Cert.AdamDwIdeal.main_arg4)) →
    ∃ (v0 : (c : Dev Cert.AdamDwIdeal.nD) → Buf (Elt Ideal) ((c.tc : Thread Cert.AdamDwIdeal.nD Cert.AdamDwIdeal.τ).loc Cert.AdamDwIdeal.main_v1_0)) (v1 : (c : Dev Cert.AdamDwIdeal.nD) → Buf (Elt Ideal) ((c.tc : Thread Cert.AdamDwIdeal.nD Cert.AdamDwIdeal.τ).loc Cert.AdamDwIdeal.main_v1_1)) (v2 : (c : Dev Cert.AdamDwIdeal.nD) → Buf (Elt Ideal) ((c.tc : Thread Cert.AdamDwIdeal.nD Cert.AdamDwIdeal.τ).loc Cert.AdamDwIdeal.main_v1_2)) (v3 : (c : Dev Cert.AdamDwIdeal.nD) → Buf (Elt Ideal) ((c.tc : Thread Cert.AdamDwIdeal.nD Cert.AdamDwIdeal.τ).loc Cert.AdamDwIdeal.main_v1_3)),
      θ_run (Cert.AdamDwIdeal.defs (F := Ideal)) (onTc (τ := Cert.AdamDwIdeal.τ) (Cert.AdamDwIdeal.main (F := Ideal))) ⟨m, fun _ => 0, g⟩ (fun r => ∀ c : Dev Cert.AdamDwIdeal.nD,
          r.2.mem ((c.tc : Thread Cert.AdamDwIdeal.nD Cert.AdamDwIdeal.τ).loc Cert.AdamDwIdeal.main_v1_0) = v0 c
          ∧ r.2.mem ((c.tc : Thread Cert.AdamDwIdeal.nD Cert.AdamDwIdeal.τ).loc Cert.AdamDwIdeal.main_v1_1) = v1 c
          ∧ r.2.mem ((c.tc : Thread Cert.AdamDwIdeal.nD Cert.AdamDwIdeal.τ).loc Cert.AdamDwIdeal.main_v1_2) = v2 c
          ∧ r.2.mem ((c.tc : Thread Cert.AdamDwIdeal.nD Cert.AdamDwIdeal.τ).loc Cert.AdamDwIdeal.main_v1_3) = v3 c
          ∧ r.2.mem ((c.tc : Thread Cert.AdamDwIdeal.nD Cert.AdamDwIdeal.τ).loc Cert.AdamDwIdeal.main_arg0) = m ((c.tc : Thread Cert.AdamDwIdeal.nD Cert.AdamDwIdeal.τ).loc Cert.AdamDwIdeal.main_arg0)
          ∧ r.2.mem ((c.tc : Thread Cert.AdamDwIdeal.nD Cert.AdamDwIdeal.τ).loc Cert.AdamDwIdeal.main_arg1) = m ((c.tc : Thread Cert.AdamDwIdeal.nD Cert.AdamDwIdeal.τ).loc Cert.AdamDwIdeal.main_arg1)
          ∧ r.2.mem ((c.tc : Thread Cert.AdamDwIdeal.nD Cert.AdamDwIdeal.τ).loc Cert.AdamDwIdeal.main_arg2) = m ((c.tc : Thread Cert.AdamDwIdeal.nD Cert.AdamDwIdeal.τ).loc Cert.AdamDwIdeal.main_arg2)
          ∧ r.2.mem ((c.tc : Thread Cert.AdamDwIdeal.nD Cert.AdamDwIdeal.τ).loc Cert.AdamDwIdeal.main_arg3) = m ((c.tc : Thread Cert.AdamDwIdeal.nD Cert.AdamDwIdeal.τ).loc Cert.AdamDwIdeal.main_arg3)
          ∧ r.2.mem ((c.tc : Thread Cert.AdamDwIdeal.nD Cert.AdamDwIdeal.τ).loc Cert.AdamDwIdeal.main_arg4) = m ((c.tc : Thread Cert.AdamDwIdeal.nD Cert.AdamDwIdeal.τ).loc Cert.AdamDwIdeal.main_arg4))
      ∧ θ_run (Cert.AdamDwRefIdeal.defs (F := Ideal)) (onTc (τ := Cert.AdamDwRefIdeal.τ) (Cert.AdamDwRefIdeal.main (F := Ideal))) ⟨m', fun _ => 0, g'⟩ (fun r => ∀ c : Dev Cert.AdamDwRefIdeal.nD,
          r.2.mem ((c.tc : Thread Cert.AdamDwRefIdeal.nD Cert.AdamDwRefIdeal.τ).loc Cert.AdamDwRefIdeal.main_v6) = v0 c
          ∧ r.2.mem ((c.tc : Thread Cert.AdamDwRefIdeal.nD Cert.AdamDwRefIdeal.τ).loc Cert.AdamDwRefIdeal.main_v30) = v1 c
          ∧ r.2.mem ((c.tc : Thread Cert.AdamDwRefIdeal.nD Cert.AdamDwRefIdeal.τ).loc Cert.AdamDwRefIdeal.main_v11) = v2 c
          ∧ r.2.mem ((c.tc : Thread Cert.AdamDwRefIdeal.nD Cert.AdamDwRefIdeal.τ).loc Cert.AdamDwRefIdeal.main_v17) = v3 c
          ∧ r.2.mem ((c.tc : Thread Cert.AdamDwRefIdeal.nD Cert.AdamDwRefIdeal.τ).loc Cert.AdamDwRefIdeal.main_arg0) = m' ((c.tc : Thread Cert.AdamDwRefIdeal.nD Cert.AdamDwRefIdeal.τ).loc Cert.AdamDwRefIdeal.main_arg0)
          ∧ r.2.mem ((c.tc : Thread Cert.AdamDwRefIdeal.nD Cert.AdamDwRefIdeal.τ).loc Cert.AdamDwRefIdeal.main_arg1) = m' ((c.tc : Thread Cert.AdamDwRefIdeal.nD Cert.AdamDwRefIdeal.τ).loc Cert.AdamDwRefIdeal.main_arg1)
          ∧ r.2.mem ((c.tc : Thread Cert.AdamDwRefIdeal.nD Cert.AdamDwRefIdeal.τ).loc Cert.AdamDwRefIdeal.main_arg2) = m' ((c.tc : Thread Cert.AdamDwRefIdeal.nD Cert.AdamDwRefIdeal.τ).loc Cert.AdamDwRefIdeal.main_arg2)
          ∧ r.2.mem ((c.tc : Thread Cert.AdamDwRefIdeal.nD Cert.AdamDwRefIdeal.τ).loc Cert.AdamDwRefIdeal.main_arg3) = m' ((c.tc : Thread Cert.AdamDwRefIdeal.nD Cert.AdamDwRefIdeal.τ).loc Cert.AdamDwRefIdeal.main_arg3)
          ∧ r.2.mem ((c.tc : Thread Cert.AdamDwRefIdeal.nD Cert.AdamDwRefIdeal.τ).loc Cert.AdamDwRefIdeal.main_arg4) = m' ((c.tc : Thread Cert.AdamDwRefIdeal.nD Cert.AdamDwRefIdeal.τ).loc Cert.AdamDwRefIdeal.main_arg4))

def preserves_AdamPw_AdamPwIdeal : Prop :=
  True

def algebraic_AdamPwIdeal_AdamPwRefIdeal [hAdamPwIdeal : Cert.AdamPwIdeal.Facts] [hAdamPwRefIdeal : Cert.AdamPwRefIdeal.Facts] : Prop :=
  ∀ (m : (ℓ : Loc Cert.AdamPwIdeal.nD Cert.AdamPwIdeal.τ Cert.AdamPwIdeal.sig) → Buf (Elt Ideal) ℓ) (g : Dev Cert.AdamPwIdeal.nD → PrngReg)
    (m' : (ℓ : Loc Cert.AdamPwRefIdeal.nD Cert.AdamPwRefIdeal.τ Cert.AdamPwRefIdeal.sig) → Buf (Elt Ideal) ℓ) (g' : Dev Cert.AdamPwRefIdeal.nD → PrngReg), Pre_AdamPwIdeal m →
    (∀ c : Dev Cert.AdamPwIdeal.nD,
      m' ((c.tc : Thread Cert.AdamPwRefIdeal.nD Cert.AdamPwRefIdeal.τ).loc Cert.AdamPwRefIdeal.main_arg0) = m ((c.tc : Thread Cert.AdamPwIdeal.nD Cert.AdamPwIdeal.τ).loc Cert.AdamPwIdeal.main_arg0)
      ∧ m' ((c.tc : Thread Cert.AdamPwRefIdeal.nD Cert.AdamPwRefIdeal.τ).loc Cert.AdamPwRefIdeal.main_arg1) = m ((c.tc : Thread Cert.AdamPwIdeal.nD Cert.AdamPwIdeal.τ).loc Cert.AdamPwIdeal.main_arg1)
      ∧ m' ((c.tc : Thread Cert.AdamPwRefIdeal.nD Cert.AdamPwRefIdeal.τ).loc Cert.AdamPwRefIdeal.main_arg2) = m ((c.tc : Thread Cert.AdamPwIdeal.nD Cert.AdamPwIdeal.τ).loc Cert.AdamPwIdeal.main_arg2)
      ∧ m' ((c.tc : Thread Cert.AdamPwRefIdeal.nD Cert.AdamPwRefIdeal.τ).loc Cert.AdamPwRefIdeal.main_arg3) = m ((c.tc : Thread Cert.AdamPwIdeal.nD Cert.AdamPwIdeal.τ).loc Cert.AdamPwIdeal.main_arg3)
      ∧ m' ((c.tc : Thread Cert.AdamPwRefIdeal.nD Cert.AdamPwRefIdeal.τ).loc Cert.AdamPwRefIdeal.main_arg4) = m ((c.tc : Thread Cert.AdamPwIdeal.nD Cert.AdamPwIdeal.τ).loc Cert.AdamPwIdeal.main_arg4)) →
    ∃ (v0 : (c : Dev Cert.AdamPwIdeal.nD) → Buf (Elt Ideal) ((c.tc : Thread Cert.AdamPwIdeal.nD Cert.AdamPwIdeal.τ).loc Cert.AdamPwIdeal.main_v1_0)) (v1 : (c : Dev Cert.AdamPwIdeal.nD) → Buf (Elt Ideal) ((c.tc : Thread Cert.AdamPwIdeal.nD Cert.AdamPwIdeal.τ).loc Cert.AdamPwIdeal.main_v1_1)) (v2 : (c : Dev Cert.AdamPwIdeal.nD) → Buf (Elt Ideal) ((c.tc : Thread Cert.AdamPwIdeal.nD Cert.AdamPwIdeal.τ).loc Cert.AdamPwIdeal.main_v1_2)) (v3 : (c : Dev Cert.AdamPwIdeal.nD) → Buf (Elt Ideal) ((c.tc : Thread Cert.AdamPwIdeal.nD Cert.AdamPwIdeal.τ).loc Cert.AdamPwIdeal.main_v1_3)),
      θ_run (Cert.AdamPwIdeal.defs (F := Ideal)) (onTc (τ := Cert.AdamPwIdeal.τ) (Cert.AdamPwIdeal.main (F := Ideal))) ⟨m, fun _ => 0, g⟩ (fun r => ∀ c : Dev Cert.AdamPwIdeal.nD,
          r.2.mem ((c.tc : Thread Cert.AdamPwIdeal.nD Cert.AdamPwIdeal.τ).loc Cert.AdamPwIdeal.main_v1_0) = v0 c
          ∧ r.2.mem ((c.tc : Thread Cert.AdamPwIdeal.nD Cert.AdamPwIdeal.τ).loc Cert.AdamPwIdeal.main_v1_1) = v1 c
          ∧ r.2.mem ((c.tc : Thread Cert.AdamPwIdeal.nD Cert.AdamPwIdeal.τ).loc Cert.AdamPwIdeal.main_v1_2) = v2 c
          ∧ r.2.mem ((c.tc : Thread Cert.AdamPwIdeal.nD Cert.AdamPwIdeal.τ).loc Cert.AdamPwIdeal.main_v1_3) = v3 c
          ∧ r.2.mem ((c.tc : Thread Cert.AdamPwIdeal.nD Cert.AdamPwIdeal.τ).loc Cert.AdamPwIdeal.main_arg0) = m ((c.tc : Thread Cert.AdamPwIdeal.nD Cert.AdamPwIdeal.τ).loc Cert.AdamPwIdeal.main_arg0)
          ∧ r.2.mem ((c.tc : Thread Cert.AdamPwIdeal.nD Cert.AdamPwIdeal.τ).loc Cert.AdamPwIdeal.main_arg1) = m ((c.tc : Thread Cert.AdamPwIdeal.nD Cert.AdamPwIdeal.τ).loc Cert.AdamPwIdeal.main_arg1)
          ∧ r.2.mem ((c.tc : Thread Cert.AdamPwIdeal.nD Cert.AdamPwIdeal.τ).loc Cert.AdamPwIdeal.main_arg2) = m ((c.tc : Thread Cert.AdamPwIdeal.nD Cert.AdamPwIdeal.τ).loc Cert.AdamPwIdeal.main_arg2)
          ∧ r.2.mem ((c.tc : Thread Cert.AdamPwIdeal.nD Cert.AdamPwIdeal.τ).loc Cert.AdamPwIdeal.main_arg3) = m ((c.tc : Thread Cert.AdamPwIdeal.nD Cert.AdamPwIdeal.τ).loc Cert.AdamPwIdeal.main_arg3)
          ∧ r.2.mem ((c.tc : Thread Cert.AdamPwIdeal.nD Cert.AdamPwIdeal.τ).loc Cert.AdamPwIdeal.main_arg4) = m ((c.tc : Thread Cert.AdamPwIdeal.nD Cert.AdamPwIdeal.τ).loc Cert.AdamPwIdeal.main_arg4))
      ∧ θ_run (Cert.AdamPwRefIdeal.defs (F := Ideal)) (onTc (τ := Cert.AdamPwRefIdeal.τ) (Cert.AdamPwRefIdeal.main (F := Ideal))) ⟨m', fun _ => 0, g'⟩ (fun r => ∀ c : Dev Cert.AdamPwRefIdeal.nD,
          r.2.mem ((c.tc : Thread Cert.AdamPwRefIdeal.nD Cert.AdamPwRefIdeal.τ).loc Cert.AdamPwRefIdeal.main_v6) = v0 c
          ∧ r.2.mem ((c.tc : Thread Cert.AdamPwRefIdeal.nD Cert.AdamPwRefIdeal.τ).loc Cert.AdamPwRefIdeal.main_v30) = v1 c
          ∧ r.2.mem ((c.tc : Thread Cert.AdamPwRefIdeal.nD Cert.AdamPwRefIdeal.τ).loc Cert.AdamPwRefIdeal.main_v11) = v2 c
          ∧ r.2.mem ((c.tc : Thread Cert.AdamPwRefIdeal.nD Cert.AdamPwRefIdeal.τ).loc Cert.AdamPwRefIdeal.main_v17) = v3 c
          ∧ r.2.mem ((c.tc : Thread Cert.AdamPwRefIdeal.nD Cert.AdamPwRefIdeal.τ).loc Cert.AdamPwRefIdeal.main_arg0) = m' ((c.tc : Thread Cert.AdamPwRefIdeal.nD Cert.AdamPwRefIdeal.τ).loc Cert.AdamPwRefIdeal.main_arg0)
          ∧ r.2.mem ((c.tc : Thread Cert.AdamPwRefIdeal.nD Cert.AdamPwRefIdeal.τ).loc Cert.AdamPwRefIdeal.main_arg1) = m' ((c.tc : Thread Cert.AdamPwRefIdeal.nD Cert.AdamPwRefIdeal.τ).loc Cert.AdamPwRefIdeal.main_arg1)
          ∧ r.2.mem ((c.tc : Thread Cert.AdamPwRefIdeal.nD Cert.AdamPwRefIdeal.τ).loc Cert.AdamPwRefIdeal.main_arg2) = m' ((c.tc : Thread Cert.AdamPwRefIdeal.nD Cert.AdamPwRefIdeal.τ).loc Cert.AdamPwRefIdeal.main_arg2)
          ∧ r.2.mem ((c.tc : Thread Cert.AdamPwRefIdeal.nD Cert.AdamPwRefIdeal.τ).loc Cert.AdamPwRefIdeal.main_arg3) = m' ((c.tc : Thread Cert.AdamPwRefIdeal.nD Cert.AdamPwRefIdeal.τ).loc Cert.AdamPwRefIdeal.main_arg3)
          ∧ r.2.mem ((c.tc : Thread Cert.AdamPwRefIdeal.nD Cert.AdamPwRefIdeal.τ).loc Cert.AdamPwRefIdeal.main_arg4) = m' ((c.tc : Thread Cert.AdamPwRefIdeal.nD Cert.AdamPwRefIdeal.τ).loc Cert.AdamPwRefIdeal.main_arg4))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)
      ∧ m' ((c.tc : Thread Cert.AdamGluRefIdeal.nD Cert.AdamGluRefIdeal.τ).loc Cert.AdamGluRefIdeal.main_arg4) = m ((c.tc : Thread Cert.AdamGluIdeal.nD Cert.AdamGluIdeal.τ).loc Cert.AdamGluIdeal.main_arg4)) →
    ∃ (v0 : (c : Dev Cert.AdamGluIdeal.nD) → Buf (Elt Ideal) ((c.tc : Thread Cert.AdamGluIdeal.nD Cert.AdamGluIdeal.τ).loc Cert.AdamGluIdeal.main_v1_0)) (v1 : (c : Dev Cert.AdamGluIdeal.nD) → Buf (Elt Ideal) ((c.tc : Thread Cert.AdamGluIdeal.nD Cert.AdamGluIdeal.τ).loc Cert.AdamGluIdeal.main_v1_1)) (v2 : (c : Dev Cert.AdamGluIdeal.nD) → Buf (Elt Ideal) ((c.tc : Thread Cert.AdamGluIdeal.nD Cert.AdamGluIdeal.τ).loc Cert.AdamGluIdeal.main_v1_2)) (v3 : (c : Dev Cert.AdamGluIdeal.nD) → Buf (Elt Ideal) ((c.tc : Thread Cert.AdamGluIdeal.nD Cert.AdamGluIdeal.τ).loc Cert.AdamGluIdeal.main_v1_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v1_0) = v0 c
          ∧ r.2.mem ((c.tc : Thread Cert.AdamGluIdeal.nD Cert.AdamGluIdeal.τ).loc Cert.AdamGluIdeal.main_v1_1) = v1 c
          ∧ r.2.mem ((c.tc : Thread Cert.AdamGluIdeal.nD Cert.AdamGluIdeal.τ).loc Cert.AdamGluIdeal.main_v1_2) = v2 c
          ∧ r.2.mem ((c.tc : Thread Cert.AdamGluIdeal.nD Cert.AdamGluIdeal.τ).loc Cert.AdamGluIdeal.main_v1_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
          ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v6) = v0 c
          ∧ r.2.mem ((c.tc : Thread Cert.AdamGluRefIdeal.nD Cert.AdamGluRefIdeal.τ).loc Cert.AdamGluRefIdeal.main_v30) = v1 c
          ∧ r.2.mem ((c.tc : Thread Cert.AdamGluRefIdeal.nD Cert.AdamGluRefIdeal.τ).loc Cert.AdamGluRefIdeal.main_v11) = v2 c
          ∧ r.2.mem ((c.tc : Thread Cert.AdamGluRefIdeal.nD Cert.AdamGluRefIdeal.τ).loc Cert.AdamGluRefIdeal.main_v17) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3)
          ∧ r.2.mem ((c.tc : Thread Cert.AdamGluRefIdeal.nD Cert.AdamGluRefIdeal.τ).loc Cert.AdamGluRefIdeal.main_arg4) = m' ((c.tc : Thread Cert.AdamGluRefIdeal.nD Cert.AdamGluRefIdeal.τ).loc Cert.AdamGluRefIdeal.main_arg4))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)
      ∧ m' ((c.tc : Thread Cert.AdamKvRefIdeal.nD Cert.AdamKvRefIdeal.τ).loc Cert.AdamKvRefIdeal.main_arg4) = m ((c.tc : Thread Cert.AdamKvIdeal.nD Cert.AdamKvIdeal.τ).loc Cert.AdamKvIdeal.main_arg4)) →
    ∃ (v0 : (c : Dev Cert.AdamKvIdeal.nD) → Buf (Elt Ideal) ((c.tc : Thread Cert.AdamKvIdeal.nD Cert.AdamKvIdeal.τ).loc Cert.AdamKvIdeal.main_v1_0)) (v1 : (c : Dev Cert.AdamKvIdeal.nD) → Buf (Elt Ideal) ((c.tc : Thread Cert.AdamKvIdeal.nD Cert.AdamKvIdeal.τ).loc Cert.AdamKvIdeal.main_v1_1)) (v2 : (c : Dev Cert.AdamKvIdeal.nD) → Buf (Elt Ideal) ((c.tc : Thread Cert.AdamKvIdeal.nD Cert.AdamKvIdeal.τ).loc Cert.AdamKvIdeal.main_v1_2)) (v3 : (c : Dev Cert.AdamKvIdeal.nD) → Buf (Elt Ideal) ((c.tc : Thread Cert.AdamKvIdeal.nD Cert.AdamKvIdeal.τ).loc Cert.AdamKvIdeal.main_v1_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v1_0) = v0 c
          ∧ r.2.mem ((c.tc : Thread Cert.AdamKvIdeal.nD Cert.AdamKvIdeal.τ).loc Cert.AdamKvIdeal.main_v1_1) = v1 c
          ∧ r.2.mem ((c.tc : Thread Cert.AdamKvIdeal.nD Cert.AdamKvIdeal.τ).loc Cert.AdamKvIdeal.main_v1_2) = v2 c
          ∧ r.2.mem ((c.tc : Thread Cert.AdamKvIdeal.nD Cert.AdamKvIdeal.τ).loc Cert.AdamKvIdeal.main_v1_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
          ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v6) = v0 c
          ∧ r.2.mem ((c.tc : Thread Cert.AdamKvRefIdeal.nD Cert.AdamKvRefIdeal.τ).loc Cert.AdamKvRefIdeal.main_v30) = v1 c
          ∧ r.2.mem ((c.tc : Thread Cert.AdamKvRefIdeal.nD Cert.AdamKvRefIdeal.τ).loc Cert.AdamKvRefIdeal.main_v11) = v2 c
          ∧ r.2.mem ((c.tc : Thread Cert.AdamKvRefIdeal.nD Cert.AdamKvRefIdeal.τ).loc Cert.AdamKvRefIdeal.main_v17) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3)
          ∧ r.2.mem ((c.tc : Thread Cert.AdamKvRefIdeal.nD Cert.AdamKvRefIdeal.τ).loc Cert.AdamKvRefIdeal.main_arg4) = m' ((c.tc : Thread Cert.AdamKvRefIdeal.nD Cert.AdamKvRefIdeal.τ).loc Cert.AdamKvRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v6) = v0 c
          ∧ r.2.mem ((c.tc : Thread Cert.AdamUpRefIdeal.nD Cert.AdamUpRefIdeal.τ).loc Cert.AdamUpRefIdeal.main_v30) = v1 c
          ∧ r.2.mem ((c.tc : Thread Cert.AdamUpRefIdeal.nD Cert.AdamUpRefIdeal.τ).loc Cert.AdamUpRefIdeal.main_v11) = v2 c
          ∧ r.2.mem ((c.tc : Thread Cert.AdamUpRefIdeal.nD Cert.AdamUpRefIdeal.τ).loc Cert.AdamUpRefIdeal.main_v17) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamFdw_AdamFdwIdeal : Prop :=
  True

def algebraic_AdamFdwIdeal_AdamFdwRefIdeal [hAdamFdwIdeal : Cert.AdamFdwIdeal.Facts] [hAdamFdwRefIdeal : Cert.AdamFdwRefIdeal.Facts] : Prop :=
  ∀ (m : (ℓ : Loc Cert.AdamFdwIdeal.nD Cert.AdamFdwIdeal.τ Cert.AdamFdwIdeal.sig) → Buf (Elt Ideal) ℓ) (g : Dev Cert.AdamFdwIdeal.nD → PrngReg)
    (m' : (ℓ : Loc Cert.AdamFdwRefIdeal.nD Cert.AdamFdwRefIdeal.τ Cert.AdamFdwRefIdeal.sig) → Buf (Elt Ideal) ℓ) (g' : Dev Cert.AdamFdwRefIdeal.nD → PrngReg), Pre_AdamFdwIdeal m →
    (∀ c : Dev Cert.AdamFdwIdeal.nD,
      m' ((c.tc : Thread Cert.AdamFdwRefIdeal.nD Cert.AdamFdwRefIdeal.τ).loc Cert.AdamFdwRefIdeal.main_arg0) = m ((c.tc : Thread Cert.AdamFdwIdeal.nD Cert.AdamFdwIdeal.τ).loc Cert.AdamFdwIdeal.main_arg0)
      ∧ m' ((c.tc : Thread Cert.AdamFdwRefIdeal.nD Cert.AdamFdwRefIdeal.τ).loc Cert.AdamFdwRefIdeal.main_arg1) = m ((c.tc : Thread Cert.AdamFdwIdeal.nD Cert.AdamFdwIdeal.τ).loc Cert.AdamFdwIdeal.main_arg1)
      ∧ m' ((c.tc : Thread Cert.AdamFdwRefIdeal.nD Cert.AdamFdwRefIdeal.τ).loc Cert.AdamFdwRefIdeal.main_arg2) = m ((c.tc : Thread Cert.AdamFdwIdeal.nD Cert.AdamFdwIdeal.τ).loc Cert.AdamFdwIdeal.main_arg2)
      ∧ m' ((c.tc : Thread Cert.AdamFdwRefIdeal.nD Cert.AdamFdwRefIdeal.τ).loc Cert.AdamFdwRefIdeal.main_arg3) = m ((c.tc : Thread Cert.AdamFdwIdeal.nD Cert.AdamFdwIdeal.τ).loc Cert.AdamFdwIdeal.main_arg3)
      ∧ m' ((c.tc : Thread Cert.AdamFdwRefIdeal.nD Cert.AdamFdwRefIdeal.τ).loc Cert.AdamFdwRefIdeal.main_arg4) = m ((c.tc : Thread Cert.AdamFdwIdeal.nD Cert.AdamFdwIdeal.τ).loc Cert.AdamFdwIdeal.main_arg4)) →
    ∃ (v0 : (c : Dev Cert.AdamFdwIdeal.nD) → Buf (Elt Ideal) ((c.tc : Thread Cert.AdamFdwIdeal.nD Cert.AdamFdwIdeal.τ).loc Cert.AdamFdwIdeal.main_v1_0)) (v1 : (c : Dev Cert.AdamFdwIdeal.nD) → Buf (Elt Ideal) ((c.tc : Thread Cert.AdamFdwIdeal.nD Cert.AdamFdwIdeal.τ).loc Cert.AdamFdwIdeal.main_v1_1)) (v2 : (c : Dev Cert.AdamFdwIdeal.nD) → Buf (Elt Ideal) ((c.tc : Thread Cert.AdamFdwIdeal.nD Cert.AdamFdwIdeal.τ).loc Cert.AdamFdwIdeal.main_v1_2)) (v3 : (c : Dev Cert.AdamFdwIdeal.nD) → Buf (Elt Ideal) ((c.tc : Thread Cert.AdamFdwIdeal.nD Cert.AdamFdwIdeal.τ).loc Cert.AdamFdwIdeal.main_v1_3)),
      θ_run (Cert.AdamFdwIdeal.defs (F := Ideal)) (onTc (τ := Cert.AdamFdwIdeal.τ) (Cert.AdamFdwIdeal.main (F := Ideal))) ⟨m, fun _ => 0, g⟩ (fun r => ∀ c : Dev Cert.AdamFdwIdeal.nD,
          r.2.mem ((c.tc : Thread Cert.AdamFdwIdeal.nD Cert.AdamFdwIdeal.τ).loc Cert.AdamFdwIdeal.main_v1_0) = v0 c
          ∧ r.2.mem ((c.tc : Thread Cert.AdamFdwIdeal.nD Cert.AdamFdwIdeal.τ).loc Cert.AdamFdwIdeal.main_v1_1) = v1 c
          ∧ r.2.mem ((c.tc : Thread Cert.AdamFdwIdeal.nD Cert.AdamFdwIdeal.τ).loc Cert.AdamFdwIdeal.main_v1_2) = v2 c
          ∧ r.2.mem ((c.tc : Thread Cert.AdamFdwIdeal.nD Cert.AdamFdwIdeal.τ).loc Cert.AdamFdwIdeal.main_v1_3) = v3 c
          ∧ r.2.mem ((c.tc : Thread Cert.AdamFdwIdeal.nD Cert.AdamFdwIdeal.τ).loc Cert.AdamFdwIdeal.main_arg0) = m ((c.tc : Thread Cert.AdamFdwIdeal.nD Cert.AdamFdwIdeal.τ).loc Cert.AdamFdwIdeal.main_arg0)
          ∧ r.2.mem ((c.tc : Thread Cert.AdamFdwIdeal.nD Cert.AdamFdwIdeal.τ).loc Cert.AdamFdwIdeal.main_arg1) = m ((c.tc : Thread Cert.AdamFdwIdeal.nD Cert.AdamFdwIdeal.τ).loc Cert.AdamFdwIdeal.main_arg1)
          ∧ r.2.mem ((c.tc : Thread Cert.AdamFdwIdeal.nD Cert.AdamFdwIdeal.τ).loc Cert.AdamFdwIdeal.main_arg2) = m ((c.tc : Thread Cert.AdamFdwIdeal.nD Cert.AdamFdwIdeal.τ).loc Cert.AdamFdwIdeal.main_arg2)
          ∧ r.2.mem ((c.tc : Thread Cert.AdamFdwIdeal.nD Cert.AdamFdwIdeal.τ).loc Cert.AdamFdwIdeal.main_arg3) = m ((c.tc : Thread Cert.AdamFdwIdeal.nD Cert.AdamFdwIdeal.τ).loc Cert.AdamFdwIdeal.main_arg3)
          ∧ r.2.mem ((c.tc : Thread Cert.AdamFdwIdeal.nD Cert.AdamFdwIdeal.τ).loc Cert.AdamFdwIdeal.main_arg4) = m ((c.tc : Thread Cert.AdamFdwIdeal.nD Cert.AdamFdwIdeal.τ).loc Cert.AdamFdwIdeal.main_arg4))
      ∧ θ_run (Cert.AdamFdwRefIdeal.defs (F := Ideal)) (onTc (τ := Cert.AdamFdwRefIdeal.τ) (Cert.AdamFdwRefIdeal.main (F := Ideal))) ⟨m', fun _ => 0, g'⟩ (fun r => ∀ c : Dev Cert.AdamFdwRefIdeal.nD,
          r.2.mem ((c.tc : Thread Cert.AdamFdwRefIdeal.nD Cert.AdamFdwRefIdeal.τ).loc Cert.AdamFdwRefIdeal.main_v6) = v0 c
          ∧ r.2.mem ((c.tc : Thread Cert.AdamFdwRefIdeal.nD Cert.AdamFdwRefIdeal.τ).loc Cert.AdamFdwRefIdeal.main_v30) = v1 c
          ∧ r.2.mem ((c.tc : Thread Cert.AdamFdwRefIdeal.nD Cert.AdamFdwRefIdeal.τ).loc Cert.AdamFdwRefIdeal.main_v11) = v2 c
          ∧ r.2.mem ((c.tc : Thread Cert.AdamFdwRefIdeal.nD Cert.AdamFdwRefIdeal.τ).loc Cert.AdamFdwRefIdeal.main_v17) = v3 c
          ∧ r.2.mem ((c.tc : Thread Cert.AdamFdwRefIdeal.nD Cert.AdamFdwRefIdeal.τ).loc Cert.AdamFdwRefIdeal.main_arg0) = m' ((c.tc : Thread Cert.AdamFdwRefIdeal.nD Cert.AdamFdwRefIdeal.τ).loc Cert.AdamFdwRefIdeal.main_arg0)
          ∧ r.2.mem ((c.tc : Thread Cert.AdamFdwRefIdeal.nD Cert.AdamFdwRefIdeal.τ).loc Cert.AdamFdwRefIdeal.main_arg1) = m' ((c.tc : Thread Cert.AdamFdwRefIdeal.nD Cert.AdamFdwRefIdeal.τ).loc Cert.AdamFdwRefIdeal.main_arg1)
          ∧ r.2.mem ((c.tc : Thread Cert.AdamFdwRefIdeal.nD Cert.AdamFdwRefIdeal.τ).loc Cert.AdamFdwRefIdeal.main_arg2) = m' ((c.tc : Thread Cert.AdamFdwRefIdeal.nD Cert.AdamFdwRefIdeal.τ).loc Cert.AdamFdwRefIdeal.main_arg2)
          ∧ r.2.mem ((c.tc : Thread Cert.AdamFdwRefIdeal.nD Cert.AdamFdwRefIdeal.τ).loc Cert.AdamFdwRefIdeal.main_arg3) = m' ((c.tc : Thread Cert.AdamFdwRefIdeal.nD Cert.AdamFdwRefIdeal.τ).loc Cert.AdamFdwRefIdeal.main_arg3)
          ∧ r.2.mem ((c.tc : Thread Cert.AdamFdwRefIdeal.nD Cert.AdamFdwRefIdeal.τ).loc Cert.AdamFdwRefIdeal.main_arg4) = m' ((c.tc : Thread Cert.AdamFdwRefIdeal.nD Cert.AdamFdwRefIdeal.τ).loc Cert.AdamFdwRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v32) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v21) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v24) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)) →
    ∃ (v0 : (c : Dev Cert.MixBwdIdeal.nD) → Buf (Elt Ideal) ((c.tc : Thread Cert.MixBwdIdeal.nD Cert.MixBwdIdeal.τ).loc Cert.MixBwdIdeal.main_v0_0)) (v1 : (c : Dev Cert.MixBwdIdeal.nD) → Buf (Elt Ideal) ((c.tc : Thread Cert.MixBwdIdeal.nD Cert.MixBwdIdeal.τ).loc Cert.MixBwdIdeal.main_v0_1)) (v2 : (c : Dev Cert.MixBwdIdeal.nD) → Buf (Elt Ideal) ((c.tc : Thread Cert.MixBwdIdeal.nD Cert.MixBwdIdeal.τ).loc Cert.MixBwdIdeal.main_v0_2)) (v3 : (c : Dev Cert.MixBwdIdeal.nD) → Buf (Elt Ideal) ((c.tc : Thread Cert.MixBwdIdeal.nD Cert.MixBwdIdeal.τ).loc Cert.MixBwdIdeal.main_v0_3)) (v4 : (c : Dev Cert.MixBwdIdeal.nD) → Buf (Elt Ideal) ((c.tc : Thread Cert.MixBwdIdeal.nD Cert.MixBwdIdeal.τ).loc Cert.MixBwdIdeal.main_v0_4)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0_0) = v0 c
          ∧ r.2.mem ((c.tc : Thread Cert.MixBwdIdeal.nD Cert.MixBwdIdeal.τ).loc Cert.MixBwdIdeal.main_v0_1) = v1 c
          ∧ r.2.mem ((c.tc : Thread Cert.MixBwdIdeal.nD Cert.MixBwdIdeal.τ).loc Cert.MixBwdIdeal.main_v0_2) = v2 c
          ∧ r.2.mem ((c.tc : Thread Cert.MixBwdIdeal.nD Cert.MixBwdIdeal.τ).loc Cert.MixBwdIdeal.main_v0_3) = v3 c
          ∧ r.2.mem ((c.tc : Thread Cert.MixBwdIdeal.nD Cert.MixBwdIdeal.τ).loc Cert.MixBwdIdeal.main_v0_4) = v4 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v39) = v0 c
          ∧ r.2.mem ((c.tc : Thread Cert.MixBwdRefIdeal.nD Cert.MixBwdRefIdeal.τ).loc Cert.MixBwdRefIdeal.main_v41) = v1 c
          ∧ r.2.mem ((c.tc : Thread Cert.MixBwdRefIdeal.nD Cert.MixBwdRefIdeal.τ).loc Cert.MixBwdRefIdeal.main_v42) = v2 c
          ∧ r.2.mem ((c.tc : Thread Cert.MixBwdRefIdeal.nD Cert.MixBwdRefIdeal.τ).loc Cert.MixBwdRefIdeal.main_v44) = v3 c
          ∧ r.2.mem ((c.tc : Thread Cert.MixBwdRefIdeal.nD Cert.MixBwdRefIdeal.τ).loc Cert.MixBwdRefIdeal.main_v46) = v4 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3))

def preserves_MemBwd_MemBwdIdeal : Prop :=
  True

def algebraic_MemBwdIdeal_MemBwdRefIdeal [hMemBwdIdeal : Cert.MemBwdIdeal.Facts] [hMemBwdRefIdeal : Cert.MemBwdRefIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemBwdRefIdeal.nD Cert.MemBwdRefIdeal.τ Cert.MemBwdRefIdeal.sig) → Buf (Elt Ideal) ℓ) (g' : Dev Cert.MemBwdRefIdeal.nD → PrngReg), Pre_MemBwdIdeal m →
    (∀ c : Dev Cert.MemBwdIdeal.nD,
      m' ((c.tc : Thread Cert.MemBwdRefIdeal.nD Cert.MemBwdRefIdeal.τ).loc Cert.MemBwdRefIdeal.main_arg0) = m ((c.tc : Thread Cert.MemBwdIdeal.nD Cert.MemBwdIdeal.τ).loc Cert.MemBwdIdeal.main_arg0)
      ∧ m' ((c.tc : Thread Cert.MemBwdRefIdeal.nD Cert.MemBwdRefIdeal.τ).loc Cert.MemBwdRefIdeal.main_arg1) = m ((c.tc : Thread Cert.MemBwdIdeal.nD Cert.MemBwdIdeal.τ).loc Cert.MemBwdIdeal.main_arg1)
      ∧ m' ((c.tc : Thread Cert.MemBwdRefIdeal.nD Cert.MemBwdRefIdeal.τ).loc Cert.MemBwdRefIdeal.main_arg2) = m ((c.tc : Thread Cert.MemBwdIdeal.nD Cert.MemBwdIdeal.τ).loc Cert.MemBwdIdeal.main_arg2)) →
    ∃ (v0 : (c : Dev Cert.MemBwdIdeal.nD) → Buf (Elt Ideal) ((c.tc : Thread Cert.MemBwdIdeal.nD Cert.MemBwdIdeal.τ).loc Cert.MemBwdIdeal.main_v0)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v0) = v0 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ θ_run (Cert.MemBwdRefIdeal.defs (F := Ideal)) (onTc (τ := Cert.MemBwdRefIdeal.τ) (Cert.MemBwdRefIdeal.main (F := Ideal))) ⟨m', fun _ => 0, g'⟩ (fun r => ∀ c : Dev Cert.MemBwdRefIdeal.nD,
          r.2.mem ((c.tc : Thread Cert.MemBwdRefIdeal.nD Cert.MemBwdRefIdeal.τ).loc Cert.MemBwdRefIdeal.main_v20) = v0 c
          ∧ r.2.mem ((c.tc : Thread Cert.MemBwdRefIdeal.nD Cert.MemBwdRefIdeal.τ).loc Cert.MemBwdRefIdeal.main_arg0) = m' ((c.tc : Thread Cert.MemBwdRefIdeal.nD Cert.MemBwdRefIdeal.τ).loc Cert.MemBwdRefIdeal.main_arg0)
          ∧ r.2.mem ((c.tc : Thread Cert.MemBwdRefIdeal.nD Cert.MemBwdRefIdeal.τ).loc Cert.MemBwdRefIdeal.main_arg1) = m' ((c.tc : Thread Cert.MemBwdRefIdeal.nD Cert.MemBwdRefIdeal.τ).loc Cert.MemBwdRefIdeal.main_arg1)
          ∧ r.2.mem ((c.tc : Thread Cert.MemBwdRefIdeal.nD Cert.MemBwdRefIdeal.τ).loc Cert.MemBwdRefIdeal.main_arg2) = m' ((c.tc : Thread Cert.MemBwdRefIdeal.nD Cert.MemBwdRefIdeal.τ).loc Cert.MemBwdRefIdeal.main_arg2))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)
      ∧ m' ((c.tc : Thread Cert.PostBwdRefIdeal.nD Cert.PostBwdRefIdeal.τ).loc Cert.PostBwdRefIdeal.main_arg3) = m ((c.tc : Thread Cert.PostBwdIdeal.nD Cert.PostBwdIdeal.τ).loc Cert.PostBwdIdeal.main_arg3)
      ∧ m' ((c.tc : Thread Cert.PostBwdRefIdeal.nD Cert.PostBwdRefIdeal.τ).loc Cert.PostBwdRefIdeal.main_arg4) = m ((c.tc : Thread Cert.PostBwdIdeal.nD Cert.PostBwdIdeal.τ).loc Cert.PostBwdIdeal.main_arg4)) →
    ∃ (v0 : (c : Dev Cert.PostBwdIdeal.nD) → Buf (Elt Ideal) ((c.tc : Thread Cert.PostBwdIdeal.nD Cert.PostBwdIdeal.τ).loc Cert.PostBwdIdeal.main_v0_0)) (v1 : (c : Dev Cert.PostBwdIdeal.nD) → Buf (Elt Ideal) ((c.tc : Thread Cert.PostBwdIdeal.nD Cert.PostBwdIdeal.τ).loc Cert.PostBwdIdeal.main_v0_1)) (v2 : (c : Dev Cert.PostBwdIdeal.nD) → Buf (Elt Ideal) ((c.tc : Thread Cert.PostBwdIdeal.nD Cert.PostBwdIdeal.τ).loc Cert.PostBwdIdeal.main_v0_2)) (v3 : (c : Dev Cert.PostBwdIdeal.nD) → Buf (Elt Ideal) ((c.tc : Thread Cert.PostBwdIdeal.nD Cert.PostBwdIdeal.τ).loc Cert.PostBwdIdeal.main_v0_3)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v0_0) = v0 c
          ∧ r.2.mem ((c.tc : Thread Cert.PostBwdIdeal.nD Cert.PostBwdIdeal.τ).loc Cert.PostBwdIdeal.main_v0_1) = v1 c
          ∧ r.2.mem ((c.tc : Thread Cert.PostBwdIdeal.nD Cert.PostBwdIdeal.τ).loc Cert.PostBwdIdeal.main_v0_2) = v2 c
          ∧ r.2.mem ((c.tc : Thread Cert.PostBwdIdeal.nD Cert.PostBwdIdeal.τ).loc Cert.PostBwdIdeal.main_v0_3) = v3 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v67) = v0 c
          ∧ r.2.mem ((c.tc : Thread Cert.PostBwdRefIdeal.nD Cert.PostBwdRefIdeal.τ).loc Cert.PostBwdRefIdeal.main_v71) = v1 c
          ∧ r.2.mem ((c.tc : Thread Cert.PostBwdRefIdeal.nD Cert.PostBwdRefIdeal.τ).loc Cert.PostBwdRefIdeal.main_v72) = v2 c
          ∧ r.2.mem ((c.tc : Thread Cert.PostBwdRefIdeal.nD Cert.PostBwdRefIdeal.τ).loc Cert.PostBwdRefIdeal.main_v73) = v3 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2)
          ∧ r.2.mem ((c.tc : Thread Cert.PostBwdRefIdeal.nD Cert.PostBwdRefIdeal.τ).loc Cert.PostBwdRefIdeal.main_arg3) = m' ((c.tc : Thread Cert.PostBwdRefIdeal.nD Cert.PostBwdRefIdeal.τ).loc Cert.PostBwdRefIdeal.main_arg3)
          ∧ r.2.mem ((c.tc : Thread Cert.PostBwdRefIdeal.nD Cert.PostBwdRefIdeal.τ).loc Cert.PostBwdRefIdeal.main_arg4) = m' ((c.tc : Thread Cert.PostBwdRefIdeal.nD Cert.PostBwdRefIdeal.τ).loc Cert.PostBwdRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v52) = v1 c
          ∧ r.2.mem ((c.tc : Thread Cert.LossHeadRefIdeal.nD Cert.LossHeadRefIdeal.τ).loc Cert.LossHeadRefIdeal.main_v53) = v2 c
          ∧ r.2.mem ((c.tc : Thread Cert.LossHeadRefIdeal.nD Cert.LossHeadRefIdeal.τ).loc Cert.LossHeadRefIdeal.main_v54) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def Claim : Prop :=
  ∃ (hAttn : Cert.Attn.Facts) (hAttnIdeal : Cert.AttnIdeal.Facts) (hAttnRefIdeal : Cert.AttnRefIdeal.Facts) (hDwUp : Cert.DwUp.Facts) (hDwUpIdeal : Cert.DwUpIdeal.Facts) (hDwUpRefIdeal : Cert.DwUpRefIdeal.Facts) (hDwIn : Cert.DwIn.Facts) (hDwInIdeal : Cert.DwInIdeal.Facts) (hDwInRefIdeal : Cert.DwInRefIdeal.Facts) (hDwGlu : Cert.DwGlu.Facts) (hDwGluIdeal : Cert.DwGluIdeal.Facts) (hDwGluRefIdeal : Cert.DwGluRefIdeal.Facts) (hDwPw : Cert.DwPw.Facts) (hDwPwIdeal : Cert.DwPwIdeal.Facts) (hDwPwRefIdeal : Cert.DwPwRefIdeal.Facts) (hDwKv : Cert.DwKv.Facts) (hDwKvIdeal : Cert.DwKvIdeal.Facts) (hDwKvRefIdeal : Cert.DwKvRefIdeal.Facts) (hDwDown : Cert.DwDown.Facts) (hDwDownIdeal : Cert.DwDownIdeal.Facts) (hDwDownRefIdeal : Cert.DwDownRefIdeal.Facts) (hDwOut : Cert.DwOut.Facts) (hDwOutIdeal : Cert.DwOutIdeal.Facts) (hDwOutRefIdeal : Cert.DwOutRefIdeal.Facts) (hUpT : Cert.UpT.Facts) (hUpTIdeal : Cert.UpTIdeal.Facts) (hUpTRefIdeal : Cert.UpTRefIdeal.Facts) (hInT : Cert.InT.Facts) (hInTIdeal : Cert.InTIdeal.Facts) (hInTRefIdeal : Cert.InTRefIdeal.Facts) (hGluT : Cert.GluT.Facts) (hGluTIdeal : Cert.GluTIdeal.Facts) (hGluTRefIdeal : Cert.GluTRefIdeal.Facts) (hPwT : Cert.PwT.Facts) (hPwTIdeal : Cert.PwTIdeal.Facts) (hPwTRefIdeal : Cert.PwTRefIdeal.Facts) (hKvT : Cert.KvT.Facts) (hKvTIdeal : Cert.KvTIdeal.Facts) (hKvTRefIdeal : Cert.KvTRefIdeal.Facts) (hDownT : Cert.DownT.Facts) (hDownTIdeal : Cert.DownTIdeal.Facts) (hDownTRefIdeal : Cert.DownTRefIdeal.Facts) (hOutT : Cert.OutT.Facts) (hOutTIdeal : Cert.OutTIdeal.Facts) (hOutTRefIdeal : Cert.OutTRefIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hGlu : Cert.Glu.Facts) (hGluIdeal : Cert.GluIdeal.Facts) (hGluRefIdeal : Cert.GluRefIdeal.Facts) (hPw : Cert.Pw.Facts) (hPwIdeal : Cert.PwIdeal.Facts) (hPwRefIdeal : Cert.PwRefIdeal.Facts) (hKv : Cert.Kv.Facts) (hKvIdeal : Cert.KvIdeal.Facts) (hKvRefIdeal : Cert.KvRefIdeal.Facts) (hQuery : Cert.Query.Facts) (hQueryIdeal : Cert.QueryIdeal.Facts) (hQueryRefIdeal : Cert.QueryRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hRmsBwd : Cert.RmsBwd.Facts) (hRmsBwdIdeal : Cert.RmsBwdIdeal.Facts) (hRmsBwdRefIdeal : Cert.RmsBwdRefIdeal.Facts) (hRms : Cert.Rms.Facts) (hRmsIdeal : Cert.RmsIdeal.Facts) (hRmsRefIdeal : Cert.RmsRefIdeal.Facts) (hRmsMem : Cert.RmsMem.Facts) (hRmsMemIdeal : Cert.RmsMemIdeal.Facts) (hRmsMemRefIdeal : Cert.RmsMemRefIdeal.Facts) (hSparse : Cert.Sparse.Facts) (hSparseIdeal : Cert.SparseIdeal.Facts) (hSparseRefIdeal : Cert.SparseRefIdeal.Facts) (hAdamIn : Cert.AdamIn.Facts) (hAdamInIdeal : Cert.AdamInIdeal.Facts) (hAdamInRefIdeal : Cert.AdamInRefIdeal.Facts) (hSum : Cert.Sum.Facts) (hSumIdeal : Cert.SumIdeal.Facts) (hSumRefIdeal : Cert.SumRefIdeal.Facts) (hLateSum : Cert.LateSum.Facts) (hLateSumIdeal : Cert.LateSumIdeal.Facts) (hLateSumRefIdeal : Cert.LateSumRefIdeal.Facts) (hAdamDw : Cert.AdamDw.Facts) (hAdamDwIdeal : Cert.AdamDwIdeal.Facts) (hAdamDwRefIdeal : Cert.AdamDwRefIdeal.Facts) (hAdamPw : Cert.AdamPw.Facts) (hAdamPwIdeal : Cert.AdamPwIdeal.Facts) (hAdamPwRefIdeal : Cert.AdamPwRefIdeal.Facts) (hAdamGlu : Cert.AdamGlu.Facts) (hAdamGluIdeal : Cert.AdamGluIdeal.Facts) (hAdamGluRefIdeal : Cert.AdamGluRefIdeal.Facts) (hAdamKv : Cert.AdamKv.Facts) (hAdamKvIdeal : Cert.AdamKvIdeal.Facts) (hAdamKvRefIdeal : Cert.AdamKvRefIdeal.Facts) (hAdamUp : Cert.AdamUp.Facts) (hAdamUpIdeal : Cert.AdamUpIdeal.Facts) (hAdamUpRefIdeal : Cert.AdamUpRefIdeal.Facts) (hAdamFdw : Cert.AdamFdw.Facts) (hAdamFdwIdeal : Cert.AdamFdwIdeal.Facts) (hAdamFdwRefIdeal : Cert.AdamFdwRefIdeal.Facts) (hAdamOut : Cert.AdamOut.Facts) (hAdamOutIdeal : Cert.AdamOutIdeal.Facts) (hAdamOutRefIdeal : Cert.AdamOutRefIdeal.Facts) (hAdamDown : Cert.AdamDown.Facts) (hAdamDownIdeal : Cert.AdamDownIdeal.Facts) (hAdamDownRefIdeal : Cert.AdamDownRefIdeal.Facts) (hPost : Cert.Post.Facts) (hPostIdeal : Cert.PostIdeal.Facts) (hPostRefIdeal : Cert.PostRefIdeal.Facts) (hMix : Cert.Mix.Facts) (hMixIdeal : Cert.MixIdeal.Facts) (hMixRefIdeal : Cert.MixRefIdeal.Facts) (hAttnFwd : Cert.AttnFwd.Facts) (hAttnFwdIdeal : Cert.AttnFwdIdeal.Facts) (hAttnFwdRefIdeal : Cert.AttnFwdRefIdeal.Facts) (hMixBwd : Cert.MixBwd.Facts) (hMixBwdIdeal : Cert.MixBwdIdeal.Facts) (hMixBwdRefIdeal : Cert.MixBwdRefIdeal.Facts) (hMemBwd : Cert.MemBwd.Facts) (hMemBwdIdeal : Cert.MemBwdIdeal.Facts) (hMemBwdRefIdeal : Cert.MemBwdRefIdeal.Facts) (hPostBwd : Cert.PostBwd.Facts) (hPostBwdIdeal : Cert.PostBwdIdeal.Facts) (hPostBwdRefIdeal : Cert.PostBwdRefIdeal.Facts) (hLossHead : Cert.LossHead.Facts) (hLossHeadIdeal : Cert.LossHeadIdeal.Facts) (hLossHeadRefIdeal : Cert.LossHeadRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwGlu (hDwGlu := hDwGlu)
    ∧ quiescent_DwGluIdeal (hDwGluIdeal := hDwGluIdeal)
    ∧ quiescent_DwGluRefIdeal (hDwGluRefIdeal := hDwGluRefIdeal)
    ∧ quiescent_DwPw (hDwPw := hDwPw)
    ∧ quiescent_DwPwIdeal (hDwPwIdeal := hDwPwIdeal)
    ∧ quiescent_DwPwRefIdeal (hDwPwRefIdeal := hDwPwRefIdeal)
    ∧ quiescent_DwKv (hDwKv := hDwKv)
    ∧ quiescent_DwKvIdeal (hDwKvIdeal := hDwKvIdeal)
    ∧ quiescent_DwKvRefIdeal (hDwKvRefIdeal := hDwKvRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_UpT (hUpT := hUpT)
    ∧ quiescent_UpTIdeal (hUpTIdeal := hUpTIdeal)
    ∧ quiescent_UpTRefIdeal (hUpTRefIdeal := hUpTRefIdeal)
    ∧ quiescent_InT (hInT := hInT)
    ∧ quiescent_InTIdeal (hInTIdeal := hInTIdeal)
    ∧ quiescent_InTRefIdeal (hInTRefIdeal := hInTRefIdeal)
    ∧ quiescent_GluT (hGluT := hGluT)
    ∧ quiescent_GluTIdeal (hGluTIdeal := hGluTIdeal)
    ∧ quiescent_GluTRefIdeal (hGluTRefIdeal := hGluTRefIdeal)
    ∧ quiescent_PwT (hPwT := hPwT)
    ∧ quiescent_PwTIdeal (hPwTIdeal := hPwTIdeal)
    ∧ quiescent_PwTRefIdeal (hPwTRefIdeal := hPwTRefIdeal)
    ∧ quiescent_KvT (hKvT := hKvT)
    ∧ quiescent_KvTIdeal (hKvTIdeal := hKvTIdeal)
    ∧ quiescent_KvTRefIdeal (hKvTRefIdeal := hKvTRefIdeal)
    ∧ quiescent_DownT (hDownT := hDownT)
    ∧ quiescent_DownTIdeal (hDownTIdeal := hDownTIdeal)
    ∧ quiescent_DownTRefIdeal (hDownTRefIdeal := hDownTRefIdeal)
    ∧ quiescent_OutT (hOutT := hOutT)
    ∧ quiescent_OutTIdeal (hOutTIdeal := hOutTIdeal)
    ∧ quiescent_OutTRefIdeal (hOutTRefIdeal := hOutTRefIdeal)
    ∧ quiescent_Up (hUp := hUp)
    ∧ quiescent_UpIdeal (hUpIdeal := hUpIdeal)
    ∧ quiescent_UpRefIdeal (hUpRefIdeal := hUpRefIdeal)
    ∧ quiescent_In (hIn := hIn)
    ∧ quiescent_InIdeal (hInIdeal := hInIdeal)
    ∧ quiescent_InRefIdeal (hInRefIdeal := hInRefIdeal)
    ∧ quiescent_Glu (hGlu := hGlu)
    ∧ quiescent_GluIdeal (hGluIdeal := hGluIdeal)
    ∧ quiescent_GluRefIdeal (hGluRefIdeal := hGluRefIdeal)
    ∧ quiescent_Pw (hPw := hPw)
    ∧ quiescent_PwIdeal (hPwIdeal := hPwIdeal)
    ∧ quiescent_PwRefIdeal (hPwRefIdeal := hPwRefIdeal)
    ∧ quiescent_Kv (hKv := hKv)
    ∧ quiescent_KvIdeal (hKvIdeal := hKvIdeal)
    ∧ quiescent_KvRefIdeal (hKvRefIdeal := hKvRefIdeal)
    ∧ quiescent_Query (hQuery := hQuery)
    ∧ quiescent_QueryIdeal (hQueryIdeal := hQueryIdeal)
    ∧ quiescent_QueryRefIdeal (hQueryRefIdeal := hQueryRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_Rms (hRms := hRms)
    ∧ quiescent_RmsIdeal (hRmsIdeal := hRmsIdeal)
    ∧ quiescent_RmsRefIdeal (hRmsRefIdeal := hRmsRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_Sparse (hSparse := hSparse)
    ∧ quiescent_SparseIdeal (hSparseIdeal := hSparseIdeal)
    ∧ quiescent_SparseRefIdeal (hSparseRefIdeal := hSparseRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_Sum (hSum := hSum)
    ∧ quiescent_SumIdeal (hSumIdeal := hSumIdeal)
    ∧ quiescent_SumRefIdeal (hSumRefIdeal := hSumRefIdeal)
    ∧ quiescent_LateSum (hLateSum := hLateSum)
    ∧ quiescent_LateSumIdeal (hLateSumIdeal := hLateSumIdeal)
    ∧ quiescent_LateSumRefIdeal (hLateSumRefIdeal := hLateSumRefIdeal)
    ∧ quiescent_AdamDw (hAdamDw := hAdamDw)
    ∧ quiescent_AdamDwIdeal (hAdamDwIdeal := hAdamDwIdeal)
    ∧ quiescent_AdamDwRefIdeal (hAdamDwRefIdeal := hAdamDwRefIdeal)
    ∧ quiescent_AdamPw (hAdamPw := hAdamPw)
    ∧ quiescent_AdamPwIdeal (hAdamPwIdeal := hAdamPwIdeal)
    ∧ quiescent_AdamPwRefIdeal (hAdamPwRefIdeal := hAdamPwRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamFdw (hAdamFdw := hAdamFdw)
    ∧ quiescent_AdamFdwIdeal (hAdamFdwIdeal := hAdamFdwIdeal)
    ∧ quiescent_AdamFdwRefIdeal (hAdamFdwRefIdeal := hAdamFdwRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_Post (hPost := hPost)
    ∧ quiescent_PostIdeal (hPostIdeal := hPostIdeal)
    ∧ quiescent_PostRefIdeal (hPostRefIdeal := hPostRefIdeal)
    ∧ quiescent_Mix (hMix := hMix)
    ∧ quiescent_MixIdeal (hMixIdeal := hMixIdeal)
    ∧ quiescent_MixRefIdeal (hMixRefIdeal := hMixRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_MemBwd (hMemBwd := hMemBwd)
    ∧ quiescent_MemBwdIdeal (hMemBwdIdeal := hMemBwdIdeal)
    ∧ quiescent_MemBwdRefIdeal (hMemBwdRefIdeal := hMemBwdRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_DwUp_DwUpIdeal
    ∧ algebraic_DwUpIdeal_DwUpRefIdeal (hDwUpIdeal := hDwUpIdeal) (hDwUpRefIdeal := hDwUpRefIdeal)
    ∧ preserves_DwIn_DwInIdeal
    ∧ algebraic_DwInIdeal_DwInRefIdeal (hDwInIdeal := hDwInIdeal) (hDwInRefIdeal := hDwInRefIdeal)
    ∧ preserves_DwGlu_DwGluIdeal
    ∧ algebraic_DwGluIdeal_DwGluRefIdeal (hDwGluIdeal := hDwGluIdeal) (hDwGluRefIdeal := hDwGluRefIdeal)
    ∧ preserves_DwPw_DwPwIdeal
    ∧ algebraic_DwPwIdeal_DwPwRefIdeal (hDwPwIdeal := hDwPwIdeal) (hDwPwRefIdeal := hDwPwRefIdeal)
    ∧ preserves_DwKv_DwKvIdeal
    ∧ algebraic_DwKvIdeal_DwKvRefIdeal (hDwKvIdeal := hDwKvIdeal) (hDwKvRefIdeal := hDwKvRefIdeal)
    ∧ preserves_DwDown_DwDownIdeal
    ∧ algebraic_DwDownIdeal_DwDownRefIdeal (hDwDownIdeal := hDwDownIdeal) (hDwDownRefIdeal := hDwDownRefIdeal)
    ∧ preserves_DwOut_DwOutIdeal
    ∧ algebraic_DwOutIdeal_DwOutRefIdeal (hDwOutIdeal := hDwOutIdeal) (hDwOutRefIdeal := hDwOutRefIdeal)
    ∧ preserves_UpT_UpTIdeal
    ∧ algebraic_UpTIdeal_UpTRefIdeal (hUpTIdeal := hUpTIdeal) (hUpTRefIdeal := hUpTRefIdeal)
    ∧ preserves_InT_InTIdeal
    ∧ algebraic_InTIdeal_InTRefIdeal (hInTIdeal := hInTIdeal) (hInTRefIdeal := hInTRefIdeal)
    ∧ preserves_GluT_GluTIdeal
    ∧ algebraic_GluTIdeal_GluTRefIdeal (hGluTIdeal := hGluTIdeal) (hGluTRefIdeal := hGluTRefIdeal)
    ∧ preserves_PwT_PwTIdeal
    ∧ algebraic_PwTIdeal_PwTRefIdeal (hPwTIdeal := hPwTIdeal) (hPwTRefIdeal := hPwTRefIdeal)
    ∧ preserves_KvT_KvTIdeal
    ∧ algebraic_KvTIdeal_KvTRefIdeal (hKvTIdeal := hKvTIdeal) (hKvTRefIdeal := hKvTRefIdeal)
    ∧ preserves_DownT_DownTIdeal
    ∧ algebraic_DownTIdeal_DownTRefIdeal (hDownTIdeal := hDownTIdeal) (hDownTRefIdeal := hDownTRefIdeal)
    ∧ preserves_OutT_OutTIdeal
    ∧ algebraic_OutTIdeal_OutTRefIdeal (hOutTIdeal := hOutTIdeal) (hOutTRefIdeal := hOutTRefIdeal)
    ∧ preserves_Up_UpIdeal
    ∧ algebraic_UpIdeal_UpRefIdeal (hUpIdeal := hUpIdeal) (hUpRefIdeal := hUpRefIdeal)
    ∧ preserves_In_InIdeal
    ∧ algebraic_InIdeal_InRefIdeal (hInIdeal := hInIdeal) (hInRefIdeal := hInRefIdeal)
    ∧ preserves_Glu_GluIdeal
    ∧ algebraic_GluIdeal_GluRefIdeal (hGluIdeal := hGluIdeal) (hGluRefIdeal := hGluRefIdeal)
    ∧ preserves_Pw_PwIdeal
    ∧ algebraic_PwIdeal_PwRefIdeal (hPwIdeal := hPwIdeal) (hPwRefIdeal := hPwRefIdeal)
    ∧ preserves_Kv_KvIdeal
    ∧ algebraic_KvIdeal_KvRefIdeal (hKvIdeal := hKvIdeal) (hKvRefIdeal := hKvRefIdeal)
    ∧ preserves_Query_QueryIdeal
    ∧ algebraic_QueryIdeal_QueryRefIdeal (hQueryIdeal := hQueryIdeal) (hQueryRefIdeal := hQueryRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_Rms_RmsIdeal
    ∧ algebraic_RmsIdeal_RmsRefIdeal (hRmsIdeal := hRmsIdeal) (hRmsRefIdeal := hRmsRefIdeal)
    ∧ preserves_RmsMem_RmsMemIdeal
    ∧ algebraic_RmsMemIdeal_RmsMemRefIdeal (hRmsMemIdeal := hRmsMemIdeal) (hRmsMemRefIdeal := hRmsMemRefIdeal)
    ∧ preserves_Sparse_SparseIdeal
    ∧ algebraic_SparseIdeal_SparseRefIdeal (hSparseIdeal := hSparseIdeal) (hSparseRefIdeal := hSparseRefIdeal)
    ∧ preserves_AdamIn_AdamInIdeal
    ∧ algebraic_AdamInIdeal_AdamInRefIdeal (hAdamInIdeal := hAdamInIdeal) (hAdamInRefIdeal := hAdamInRefIdeal)
    ∧ preserves_Sum_SumIdeal
    ∧ algebraic_SumIdeal_SumRefIdeal (hSumIdeal := hSumIdeal) (hSumRefIdeal := hSumRefIdeal)
    ∧ preserves_LateSum_LateSumIdeal
    ∧ algebraic_LateSumIdeal_LateSumRefIdeal (hLateSumIdeal := hLateSumIdeal) (hLateSumRefIdeal := hLateSumRefIdeal)
    ∧ preserves_AdamDw_AdamDwIdeal
    ∧ algebraic_AdamDwIdeal_AdamDwRefIdeal (hAdamDwIdeal := hAdamDwIdeal) (hAdamDwRefIdeal := hAdamDwRefIdeal)
    ∧ preserves_AdamPw_AdamPwIdeal
    ∧ algebraic_AdamPwIdeal_AdamPwRefIdeal (hAdamPwIdeal := hAdamPwIdeal) (hAdamPwRefIdeal := hAdamPwRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamFdw_AdamFdwIdeal
    ∧ algebraic_AdamFdwIdeal_AdamFdwRefIdeal (hAdamFdwIdeal := hAdamFdwIdeal) (hAdamFdwRefIdeal := hAdamFdwRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamDown_AdamDownIdeal
    ∧ algebraic_AdamDownIdeal_AdamDownRefIdeal (hAdamDownIdeal := hAdamDownIdeal) (hAdamDownRefIdeal := hAdamDownRefIdeal)
    ∧ preserves_Post_PostIdeal
    ∧ algebraic_PostIdeal_PostRefIdeal (hPostIdeal := hPostIdeal) (hPostRefIdeal := hPostRefIdeal)
    ∧ preserves_Mix_MixIdeal
    ∧ algebraic_MixIdeal_MixRefIdeal (hMixIdeal := hMixIdeal) (hMixRefIdeal := hMixRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_MixBwd_MixBwdIdeal
    ∧ algebraic_MixBwdIdeal_MixBwdRefIdeal (hMixBwdIdeal := hMixBwdIdeal) (hMixBwdRefIdeal := hMixBwdRefIdeal)
    ∧ preserves_MemBwd_MemBwdIdeal
    ∧ algebraic_MemBwdIdeal_MemBwdRefIdeal (hMemBwdIdeal := hMemBwdIdeal) (hMemBwdRefIdeal := hMemBwdRefIdeal)
    ∧ preserves_PostBwd_PostBwdIdeal
    ∧ algebraic_PostBwdIdeal_PostBwdRefIdeal (hPostBwdIdeal := hPostBwdIdeal) (hPostBwdRefIdeal := hPostBwdRefIdeal)
    ∧ preserves_LossHead_LossHeadIdeal
    ∧ algebraic_LossHeadIdeal_LossHeadRefIdeal (hLossHeadIdeal := hLossHeadIdeal) (hLossHeadRefIdeal := hLossHeadRefIdeal)
-- ==== Pre_finite.lean ====
abbrev S4096x2048 : Shape := ⟨2, ![4096, 2048]⟩
abbrev S256x4096 : Shape := ⟨2, ![256, 4096]⟩
abbrev S_ : Shape := ⟨0, ![]⟩
abbrev S256x2048 : Shape := ⟨2, ![256, 2048]⟩

class Facts : Prop where
  bcast_S_S4096x2048 : S_.BroadcastsInDim S4096x2048 (![] : Fin 0 → Fin S4096x2048.rank)
  slices_S256x4096_S256x2048_0_0 : S256x4096.Slices ![0, 0] S256x2048
  bcast_S_S256x2048 : S_.BroadcastsInDim S256x2048 (![] : Fin 0 → Fin S256x2048.rank)

variable [Facts]

def fn {F : FTy → Type} [FloatOps F] (main_arg0 : FVec F S4096x2048 .bf16) (main_arg1 : FVec F S256x4096 .bf16) (main_arg2 : FVec F S4096x2048 .bf16) : IVec S4096x2048 1 × IVec S256x2048 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S256x2048 .bf16 := (extractStridedSlice S256x2048 ![0, 0] · slices_S256x4096_S256x2048_0_0) main_arg1
  let main_v4 : FVec F S256x2048 .bf16 := Host.absf main_v3
  let main_cst_0 : FVec F S_ .bf16 := constant S_ .bf16 0x7F80#16
  let main_v5 : FVec F S256x2048 .bf16 := broadcastInDim S256x2048 ![] bcast_S_S256x2048 main_cst_0
  let main_v6 : IVec S256x2048 1 := cmpf .olt main_v4 main_v5
  (main_v2, main_v6)
-- ==== Attn.lean ====
abbrev S4096x2048 : Shape := ⟨2, ![4096, 2048]⟩
abbrev S256x4096 : Shape := ⟨2, ![256, 4096]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S256x4096, .bf16⟩
  | .hbm, ⟨2, _⟩ => ⟨S4096x2048, .bf16⟩
  | .hbm, ⟨3, _⟩ => ⟨S4096x2048, .bf16⟩
  | .hbm, ⟨4, _⟩ => ⟨S256x2048, .f32⟩
  | .hbm, ⟨5, _⟩ => ⟨S256x2048, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttnRefIdeal.lean ====
abbrev S4096x2048 : Shape := ⟨2, ![4096, 2048]⟩
abbrev S256x4096 : Shape := ⟨2, ![256, 4096]⟩
abbrev S256x2048 : Shape := ⟨2, ![256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩
abbrev S4x512x256 : Shape := ⟨3, ![4, 512, 256]⟩
abbrev S4x256x512 : Shape := ⟨3, ![4, 256, 512]⟩
abbrev S4x4096x512 : Shape := ⟨3, ![4, 4096, 512]⟩

abbrev nBuf : Space → Nat
  | .hbm => 89
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x4096, .bf16⟩
  | .hbm, ⟨2, _⟩ => ⟨S4096x2048, .bf16⟩
  | .hbm, ⟨3, _⟩ => ⟨S4096x2048, .f32⟩
  | .hbm, ⟨4, _⟩ => ⟨S256x4096, .f32⟩
  | .hbm, ⟨5, _⟩ => ⟨S256x2048, .f32⟩
  | .hbm, ⟨6, _⟩ => ⟨S256x2048, .f32⟩
  | .hbm, ⟨7, _⟩ => ⟨S4096x4x512, .f32⟩
  | .hbm, ⟨8, _⟩ => ⟨S256x4x512, .f32⟩
  | .hbm, ⟨9, _⟩ => ⟨S256x4x512, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x512x4096, .f32⟩
  | .hbm, ⟨53, _⟩ => ⟨S4096x4x512, .f32⟩
  | .hbm, ⟨54, _⟩ => ⟨S4096x2048, .f32⟩
  | .hbm, ⟨55, _⟩ => ⟨S4096x2048, .f32⟩
  | .hbm, ⟨56, _⟩ => ⟨S4096x4x512, .f32⟩
  | .hbm, ⟨57, _⟩ => ⟨S4x512x4096, .f32⟩
  | .hbm, ⟨58, _⟩ => ⟨S4x4096x256, .f32⟩
  | .hbm, ⟨59, _⟩ => ⟨S4x512x256, .f32⟩
  | .hbm, ⟨60, _⟩ => ⟨S256x4x512, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x512, .f32⟩
  | .hbm, ⟨79, _⟩ => ⟨S256x4x512, .f32⟩
  | .hbm, ⟨80, _⟩ => ⟨S4x4096x512, .f32⟩
  | .hbm, ⟨81, _⟩ => ⟨S4096x4x512, .f32⟩
  | .hbm, ⟨82, _⟩ => ⟨S256x2048, .f32⟩
  | .hbm, ⟨83, _⟩ => ⟨S256x2048, .f32⟩
  | .hbm, ⟨84, _⟩ => ⟨S4096x2048, .f32⟩
  | .hbm, ⟨85, _⟩ => ⟨S256x4096, .f32⟩
  | .hbm, ⟨86, _⟩ => ⟨S4096x2048, .bf16⟩
  | .hbm, ⟨87, _⟩ => ⟨S256x2048, .f32⟩
  | .hbm, ⟨88, _⟩ => ⟨S256x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== DwUp.lean ====
abbrev S4096x2048 : Shape := ⟨2, ![4096, 2048]⟩
abbrev S4096x11264 : Shape := ⟨2, ![4096, 11264]⟩
abbrev S8x2048x1408 : Shape := ⟨3, ![8, 2048, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S8x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpRefIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x8x1408, .bf16⟩
  | .hbm, ⟨11, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwIn.lean ====
abbrev S4096x2048 : Shape := ⟨2, ![4096, 2048]⟩
abbrev S4096x7168 : Shape := ⟨2, ![4096, 7168]⟩
abbrev S8x2048x896 : Shape := ⟨3, ![8, 2048, 896]⟩
abbrev S4096x512 : Shape := ⟨2, ![4096, 512]⟩
abbrev S4096x896 : Shape := ⟨2, ![4096, 896]⟩
abbrev S1x512x896 : Shape := ⟨3, ![1, 512, 896]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S8x2048x896, .bf16⟩
  | .local _ .vmem, ⟨0, _⟩ => ⟨S4096x512, .bf16⟩
  | .local _ .vmem, ⟨1, _⟩ => ⟨S4096x512, .bf16⟩
  | .local _ .vmem, ⟨2, _⟩ => ⟨S4096x896, .bf16⟩
  | .local _ .vmem, ⟨3, _⟩ => ⟨S4096x896, .bf16⟩
  | .local _ .vmem, ⟨4, _⟩ => ⟨S1x512x896, .bf16⟩
  | .local _ .vmem, ⟨5, _⟩ => ⟨S1x512x896, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInRefIdeal.lean ====
abbrev S4096x2048 : Shape := ⟨2, ![4096, 2048]⟩
abbrev S4096x7168 : Shape := ⟨2, ![4096, 7168]⟩
abbrev S_ : Shape := ⟨0, ![]⟩
abbrev S2048x7168 : Shape := ⟨2, ![2048, 7168]⟩
abbrev S7168x2048 : Shape := ⟨2, ![7168, 2048]⟩
abbrev S2048x8x896 : Shape := ⟨3, ![2048, 8, 896]⟩
abbrev S8x2048x896 : Shape := ⟨3, ![8, 2048, 896]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S_, .f32⟩
  | .hbm, ⟨3, _⟩ => ⟨S2048x7168, .f32⟩
  | .hbm, ⟨4, _⟩ => ⟨S4096x2048, .f32⟩
  | .hbm, ⟨5, _⟩ => ⟨S4096x7168, .f32⟩
  | .hbm, ⟨6, _⟩ => ⟨S4096x7168, .f32⟩
  | .hbm, ⟨7, _⟩ => ⟨S7168x2048, .f32⟩
  | .hbm, ⟨8, _⟩ => ⟨S2048x7168, .f32⟩
  | .hbm, ⟨9, _⟩ => ⟨S2048x7168, .bf16⟩
  | .hbm, ⟨10, _⟩ => ⟨S2048x8x896, .bf16⟩
  | .hbm, ⟨11, _⟩ => ⟨S8x2048x896, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwGlu.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwGluRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwPw.lean ====
abbrev S4096x1024 : Shape := ⟨2, ![4096, 1024]⟩
abbrev S4096x2048 : Shape := ⟨2, ![4096, 2048]⟩
abbrev S8x1024x256 : Shape := ⟨3, ![8, 1024, 256]⟩
abbrev S4096x512 : Shape := ⟨2, ![4096, 512]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S4096x256, .bf16⟩
  | .local _ .vmem, ⟨4, _⟩ => ⟨S1x512x256, .bf16⟩
  | .local _ .vmem, ⟨5, _⟩ => ⟨S1x512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwPwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwKv.lean ====
abbrev S256x2048 : Shape := ⟨2, ![256, 2048]⟩
abbrev S256x4096 : Shape := ⟨2, ![256, 4096]⟩
abbrev S8x2048x512 : Shape := ⟨3, ![8, 2048, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S8x2048x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1x512x512, .bf16⟩
  | .local _ .vmem, ⟨5, _⟩ => ⟨S1x512x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwKvRefIdeal.lean ====
abbrev S256x2048 : Shape := ⟨2, ![256, 2048]⟩
abbrev S256x4096 : Shape := ⟨2, ![256, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S_, .f32⟩
  | .hbm, ⟨3, _⟩ => ⟨S2048x4096, .f32⟩
  | .hbm, ⟨4, _⟩ => ⟨S256x2048, .f32⟩
  | .hbm, ⟨5, _⟩ => ⟨S256x4096, .f32⟩
  | .hbm, ⟨6, _⟩ => ⟨S256x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x8x512, .bf16⟩
  | .hbm, ⟨11, _⟩ => ⟨S8x2048x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwDown.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpT.lean ====
abbrev S4096x11264 : Shape := ⟨2, ![4096, 11264]⟩
abbrev S8x1x2048x1408 : Shape := ⟨4, ![8, 1, 2048, 1408]⟩
abbrev S4096x2048 : Shape := ⟨2, ![4096, 2048]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S8x1x2048x1408, .bf16⟩
  | .hbm, ⟨2, _⟩ => ⟨S4096x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpTRefIdeal.lean ====
abbrev S4096x11264 : Shape := ⟨2, ![4096, 11264]⟩
abbrev S8x1x2048x1408 : Shape := ⟨4, ![8, 1, 2048, 1408]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S8x1x2048x1408, .bf16⟩
  | .hbm, ⟨2, _⟩ => ⟨S8x2048x1408, .bf16⟩
  | .hbm, ⟨3, _⟩ => ⟨S2048x8x1408, .bf16⟩
  | .hbm, ⟨4, _⟩ => ⟨S2048x11264, .bf16⟩
  | .hbm, ⟨5, _⟩ => ⟨S2048x11264, .f32⟩
  | .hbm, ⟨6, _⟩ => ⟨S_, .f32⟩
  | .hbm, ⟨7, _⟩ => ⟨S4096x2048, .f32⟩
  | .hbm, ⟨8, _⟩ => ⟨S4096x11264, .f32⟩
  | .hbm, ⟨9, _⟩ => ⟨S4096x11264, .f32⟩
  | .hbm, ⟨10, _⟩ => ⟨S4096x2048, .f32⟩
  | .hbm, ⟨11, _⟩ => ⟨S4096x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InT.lean ====
abbrev S4096x7168 : Shape := ⟨2, ![4096, 7168]⟩
abbrev S8x1x2048x896 : Shape := ⟨4, ![8, 1, 2048, 896]⟩
abbrev S4096x2048 : Shape := ⟨2, ![4096, 2048]⟩
abbrev S1024x896 : Shape := ⟨2, ![1024, 896]⟩
abbrev S1x1x1024x896 : Shape := ⟨4, ![1, 1, 1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7168, .bf16⟩
  | .hbm, ⟨1, _⟩ => ⟨S8x1x2048x896, .bf16⟩
  | .hbm, ⟨2, _⟩ => ⟨S4096x2048, .bf16⟩
  | .local _ .vmem, ⟨0, _⟩ => ⟨S1024x896, .bf16⟩
  | .local _ .vmem, ⟨1, _⟩ => ⟨S1024x896, .bf16⟩
  | .local _ .vmem, ⟨2, _⟩ => ⟨S1x1x1024x896, .bf16⟩
  | .local _ .vmem, ⟨3, _⟩ => ⟨S1x1x1024x896, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InTRefIdeal.lean ====
abbrev S4096x7168 : Shape := ⟨2, ![4096, 7168]⟩
abbrev S8x1x2048x896 : Shape := ⟨4, ![8, 1, 2048, 896]⟩
abbrev S8x2048x896 : Shape := ⟨3, ![8, 2048, 896]⟩
abbrev S2048x8x896 : Shape := ⟨3, ![2048, 8, 896]⟩
abbrev S2048x7168 : Shape := ⟨2, ![2048, 7168]⟩
abbrev S_ : Shape := ⟨0, ![]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S8x1x2048x896, .bf16⟩
  | .hbm, ⟨2, _⟩ => ⟨S8x2048x896, .bf16⟩
  | .hbm, ⟨3, _⟩ => ⟨S2048x8x896, .bf16⟩
  | .hbm, ⟨4, _⟩ => ⟨S2048x7168, .bf16⟩
  | .hbm, ⟨5, _⟩ => ⟨S2048x7168, .f32⟩
  | .hbm, ⟨6, _⟩ => ⟨S_, .f32⟩
  | .hbm, ⟨7, _⟩ => ⟨S4096x2048, .f32⟩
  | .hbm, ⟨8, _⟩ => ⟨S4096x7168, .f32⟩
  | .hbm, ⟨9, _⟩ => ⟨S4096x7168, .f32⟩
  | .hbm, ⟨10, _⟩ => ⟨S4096x2048, .f32⟩
  | .hbm, ⟨11, _⟩ => ⟨S4096x2048, .bf16⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GluT.lean ====
abbrev S4096x4096 : Shape := ⟨2, ![4096, 4096]⟩
abbrev S8x1x1024x512 : Shape := ⟨4, ![8, 1, 1024, 512]⟩
abbrev S4096x1024 : Shape := ⟨2, ![4096, 1024]⟩
abbrev S1024x512 : Shape := ⟨2, ![1024, 512]⟩
abbrev S1x1x1024x512 : Shape := ⟨4, ![1, 1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x1x1024x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluTRefIdeal.lean ====
abbrev S4096x4096 : Shape := ⟨2, ![4096, 4096]⟩
abbrev S8x1x1024x512 : Shape := ⟨4, ![8, 1, 1024, 512]⟩
abbrev S8x1024x512 : Shape := ⟨3, ![8, 1024, 512]⟩
abbrev S1024x8x512 : Shape := ⟨3, ![1024, 8, 512]⟩
abbrev S1024x4096 : Shape := ⟨2, ![1024, 4096]⟩
abbrev S_ : Shape := ⟨0, ![]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1x1024x512, .bf16⟩
  | .hbm, ⟨2, _⟩ => ⟨S8x1024x512, .bf16⟩
  | .hbm, ⟨3, _⟩ => ⟨S1024x8x512, .bf16⟩
  | .hbm, ⟨4, _⟩ => ⟨S1024x4096, .bf16⟩
  | .hbm, ⟨5, _⟩ => ⟨S1024x4096, .f32⟩
  | .hbm, ⟨6, _⟩ => ⟨S_, .f32⟩
  | .hbm, ⟨7, _⟩ => ⟨S4096x1024, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== PwT.lean ====
abbrev S4096x2048 : Shape := ⟨2, ![4096, 2048]⟩
abbrev S8x1x1024x256 : Shape := ⟨4, ![8, 1, 1024, 256]⟩
abbrev S4096x1024 : Shape := ⟨2, ![4096, 1024]⟩
abbrev S1024x256 : Shape := ⟨2, ![1024, 256]⟩
abbrev S1x1x1024x256 : Shape := ⟨4, ![1, 1, 1024, 256]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x1x1024x256, .bf16⟩
  | .hbm, ⟨2, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PwTRefIdeal.lean ====
abbrev S4096x2048 : Shape := ⟨2, ![4096, 2048]⟩
abbrev S8x1x1024x256 : Shape := ⟨4, ![8, 1, 1024, 256]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1x1024x256, .bf16⟩
  | .hbm, ⟨2, _⟩ => ⟨S8x1024x256, .bf16⟩
  | .hbm, ⟨3, _⟩ => ⟨S1024x8x256, .bf16⟩
  | .hbm, ⟨4, _⟩ => ⟨S1024x2048, .bf16⟩
  | .hbm, ⟨5, _⟩ => ⟨S1024x2048, .f32⟩
  | .hbm, ⟨6, _⟩ => ⟨S_, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x1024, .f32⟩
  | .hbm, ⟨11, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KvT.lean ====
abbrev S256x4096 : Shape := ⟨2, ![256, 4096]⟩
abbrev S8x1x2048x512 : Shape := ⟨4, ![8, 1, 2048, 512]⟩
abbrev S256x2048 : Shape := ⟨2, ![256, 2048]⟩
abbrev S256x512 : Shape := ⟨2, ![256, 512]⟩
abbrev S1x1x1024x512 : Shape := ⟨4, ![1, 1, 1024, 512]⟩
abbrev S256x1024 : Shape := ⟨2, ![256, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .bf16⟩
  | .hbm, ⟨1, _⟩ => ⟨S8x1x2048x512, .bf16⟩
  | .hbm, ⟨2, _⟩ => ⟨S256x2048, .bf16⟩
  | .local _ .vmem, ⟨0, _⟩ => ⟨S256x512, .bf16⟩
  | .local _ .vmem, ⟨1, _⟩ => ⟨S256x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvTRefIdeal.lean ====
abbrev S256x4096 : Shape := ⟨2, ![256, 4096]⟩
abbrev S8x1x2048x512 : Shape := ⟨4, ![8, 1, 2048, 512]⟩
abbrev S8x2048x512 : Shape := ⟨3, ![8, 2048, 512]⟩
abbrev S2048x8x512 : Shape := ⟨3, ![2048, 8, 512]⟩
abbrev S2048x4096 : Shape := ⟨2, ![2048, 4096]⟩
abbrev S_ : Shape := ⟨0, ![]⟩
abbrev S256x2048 : Shape := ⟨2, ![256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S8x1x2048x512, .bf16⟩
  | .hbm, ⟨2, _⟩ => ⟨S8x2048x512, .bf16⟩
  | .hbm, ⟨3, _⟩ => ⟨S2048x8x512, .bf16⟩
  | .hbm, ⟨4, _⟩ => ⟨S2048x4096, .bf16⟩
  | .hbm, ⟨5, _⟩ => ⟨S2048x4096, .f32⟩
  | .hbm, ⟨6, _⟩ => ⟨S_, .f32⟩
  | .hbm, ⟨7, _⟩ => ⟨S256x2048, .f32⟩
  | .hbm, ⟨8, _⟩ => ⟨S256x4096, .f32⟩
  | .hbm, ⟨9, _⟩ => ⟨S256x4096, .f32⟩
  | .hbm, ⟨10, _⟩ => ⟨S256x2048, .f32⟩
  | .hbm, ⟨11, _⟩ => ⟨S256x2048, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownT.lean ====
abbrev S4096x2048 : Shape := ⟨2, ![4096, 2048]⟩
abbrev S1x5632x2048 : Shape := ⟨3, ![1, 5632, 2048]⟩
abbrev S4096x5632 : Shape := ⟨2, ![4096, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownTRefIdeal.lean ====
abbrev S4096x2048 : Shape := ⟨2, ![4096, 2048]⟩
abbrev S1x5632x2048 : Shape := ⟨3, ![1, 5632, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x5632x2048, .bf16⟩
  | .hbm, ⟨2, _⟩ => ⟨S5632x2048, .bf16⟩
  | .hbm, ⟨3, _⟩ => ⟨S5632x2048, .f32⟩
  | .hbm, ⟨4, _⟩ => ⟨S_, .f32⟩
  | .hbm, ⟨5, _⟩ => ⟨S4096x5632, .f32⟩
  | .hbm, ⟨6, _⟩ => ⟨S4096x2048, .f32⟩
  | .hbm, ⟨7, _⟩ => ⟨S4096x2048, .f32⟩
  | .hbm, ⟨8, _⟩ => ⟨S4096x5632, .f32⟩
  | .hbm, ⟨9, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutT.lean ====
abbrev S4096x2048 : Shape := ⟨2, ![4096, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutTRefIdeal.lean ====
abbrev S4096x2048 : Shape := ⟨2, ![4096, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S4096x2048 : Shape := ⟨2, ![4096, 2048]⟩
abbrev S8x1x2048x1408 : Shape := ⟨4, ![8, 1, 2048, 1408]⟩
abbrev S4096x11264 : Shape := ⟨2, ![4096, 11264]⟩
abbrev S1024x2048 : Shape := ⟨2, ![1024, 2048]⟩
abbrev S1x1x2048x1408 : Shape := ⟨4, ![1, 1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x1x2048x1408, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S8x1x2048x1408 : Shape := ⟨4, ![8, 1, 2048, 1408]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1x2048x1408, .bf16⟩
  | .hbm, ⟨2, _⟩ => ⟨S4096x2048, .f32⟩
  | .hbm, ⟨3, _⟩ => ⟨S8x2048x1408, .bf16⟩
  | .hbm, ⟨4, _⟩ => ⟨S2048x8x1408, .bf16⟩
  | .hbm, ⟨5, _⟩ => ⟨S2048x11264, .bf16⟩
  | .hbm, ⟨6, _⟩ => ⟨S2048x11264, .f32⟩
  | .hbm, ⟨7, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== In.lean ====
abbrev S4096x2048 : Shape := ⟨2, ![4096, 2048]⟩
abbrev S8x1x2048x896 : Shape := ⟨4, ![8, 1, 2048, 896]⟩
abbrev S4096x7168 : Shape := ⟨2, ![4096, 7168]⟩
abbrev S1024x2048 : Shape := ⟨2, ![1024, 2048]⟩
abbrev S1x1x2048x896 : Shape := ⟨4, ![1, 1, 2048, 896]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x1x2048x896, .bf16⟩
  | .hbm, ⟨2, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x896, .bf16⟩
  | .local _ .vmem, ⟨3, _⟩ => ⟨S1x1x2048x896, .bf16⟩
  | .local _ .vmem, ⟨4, _⟩ => ⟨S1024x896, .f32⟩
  | .local _ .vmem, ⟨5, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x2048 : Shape := ⟨2, ![4096, 2048]⟩
abbrev S8x1x2048x896 : Shape := ⟨4, ![8, 1, 2048, 896]⟩
abbrev S8x2048x896 : Shape := ⟨3, ![8, 2048, 896]⟩
abbrev S2048x8x896 : Shape := ⟨3, ![2048, 8, 896]⟩
abbrev S2048x7168 : Shape := ⟨2, ![2048, 7168]⟩
abbrev S4096x7168 : Shape := ⟨2, ![4096, 7168]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1x2048x896, .bf16⟩
  | .hbm, ⟨2, _⟩ => ⟨S4096x2048, .f32⟩
  | .hbm, ⟨3, _⟩ => ⟨S8x2048x896, .bf16⟩
  | .hbm, ⟨4, _⟩ => ⟨S2048x8x896, .bf16⟩
  | .hbm, ⟨5, _⟩ => ⟨S2048x7168, .bf16⟩
  | .hbm, ⟨6, _⟩ => ⟨S2048x7168, .f32⟩
  | .hbm, ⟨7, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Glu.lean ====
abbrev S4096x1024 : Shape := ⟨2, ![4096, 1024]⟩
abbrev S8x1x1024x512 : Shape := ⟨4, ![8, 1, 1024, 512]⟩
abbrev S4096x4096 : Shape := ⟨2, ![4096, 4096]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1x1024x512, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluRefIdeal.lean ====
abbrev S4096x1024 : Shape := ⟨2, ![4096, 1024]⟩
abbrev S8x1x1024x512 : Shape := ⟨4, ![8, 1, 1024, 512]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1x1024x512, .bf16⟩
  | .hbm, ⟨2, _⟩ => ⟨S4096x1024, .f32⟩
  | .hbm, ⟨3, _⟩ => ⟨S8x1024x512, .bf16⟩
  | .hbm, ⟨4, _⟩ => ⟨S1024x8x512, .bf16⟩
  | .hbm, ⟨5, _⟩ => ⟨S1024x4096, .bf16⟩
  | .hbm, ⟨6, _⟩ => ⟨S1024x4096, .f32⟩
  | .hbm, ⟨7, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Pw.lean ====
abbrev S4096x1024 : Shape := ⟨2, ![4096, 1024]⟩
abbrev S8x1x1024x256 : Shape := ⟨4, ![8, 1, 1024, 256]⟩
abbrev S4096x2048 : Shape := ⟨2, ![4096, 2048]⟩
abbrev S1024x1024 : Shape := ⟨2, ![1024, 1024]⟩
abbrev S1x1x1024x256 : Shape := ⟨4, ![1, 1, 1024, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1x1024x256, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1024x256, .f32⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PwRefIdeal.lean ====
abbrev S4096x1024 : Shape := ⟨2, ![4096, 1024]⟩
abbrev S8x1x1024x256 : Shape := ⟨4, ![8, 1, 1024, 256]⟩
abbrev S8x1024x256 : Shape := ⟨3, ![8, 1024, 256]⟩
abbrev S1024x8x256 : Shape := ⟨3, ![1024, 8, 256]⟩
abbrev S1024x2048 : Shape := ⟨2, ![1024, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1x1024x256, .bf16⟩
  | .hbm, ⟨2, _⟩ => ⟨S4096x1024, .f32⟩
  | .hbm, ⟨3, _⟩ => ⟨S8x1024x256, .bf16⟩
  | .hbm, ⟨4, _⟩ => ⟨S1024x8x256, .bf16⟩
  | .hbm, ⟨5, _⟩ => ⟨S1024x2048, .bf16⟩
  | .hbm, ⟨6, _⟩ => ⟨S1024x2048, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kv.lean ====
abbrev S256x2048 : Shape := ⟨2, ![256, 2048]⟩
abbrev S8x1x2048x512 : Shape := ⟨4, ![8, 1, 2048, 512]⟩
abbrev S256x4096 : Shape := ⟨2, ![256, 4096]⟩
abbrev S1x1x2048x512 : Shape := ⟨4, ![1, 1, 2048, 512]⟩
abbrev S256x512 : Shape := ⟨2, ![256, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S8x1x2048x512, .bf16⟩
  | .hbm, ⟨2, _⟩ => ⟨S256x4096, .bf16⟩
  | .local _ .vmem, ⟨0, _⟩ => ⟨S256x2048, .bf16⟩
  | .local _ .vmem, ⟨1, _⟩ => ⟨S1x1x2048x512, .bf16⟩
  | .local _ .vmem, ⟨2, _⟩ => ⟨S1x1x2048x512, .bf16⟩
  | .local _ .vmem, ⟨3, _⟩ => ⟨S256x512, .bf16⟩
  | .local _ .vmem, ⟨4, _⟩ => ⟨S256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S256x2048 : Shape := ⟨2, ![256, 2048]⟩
abbrev S8x1x2048x512 : Shape := ⟨4, ![8, 1, 2048, 512]⟩
abbrev S8x2048x512 : Shape := ⟨3, ![8, 2048, 512]⟩
abbrev S2048x8x512 : Shape := ⟨3, ![2048, 8, 512]⟩
abbrev S2048x4096 : Shape := ⟨2, ![2048, 4096]⟩
abbrev S256x4096 : Shape := ⟨2, ![256, 4096]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S8x1x2048x512, .bf16⟩
  | .hbm, ⟨2, _⟩ => ⟨S256x2048, .f32⟩
  | .hbm, ⟨3, _⟩ => ⟨S8x2048x512, .bf16⟩
  | .hbm, ⟨4, _⟩ => ⟨S2048x8x512, .bf16⟩
  | .hbm, ⟨5, _⟩ => ⟨S2048x4096, .bf16⟩
  | .hbm, ⟨6, _⟩ => ⟨S2048x4096, .f32⟩
  | .hbm, ⟨7, _⟩ => ⟨S256x4096, .f32⟩
  | .hbm, ⟨8, _⟩ => ⟨S256x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Query.lean ====
abbrev S4096x2048 : Shape := ⟨2, ![4096, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRefIdeal.lean ====
abbrev S4096x2048 : Shape := ⟨2, ![4096, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S2048x2048, .bf16⟩
  | .hbm, ⟨4, _⟩ => ⟨S2048x2048, .f32⟩
  | .hbm, ⟨5, _⟩ => ⟨S4096x2048, .f32⟩
  | .hbm, ⟨6, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S4096x5632 : Shape := ⟨2, ![4096, 5632]⟩
abbrev S1x5632x2048 : Shape := ⟨3, ![1, 5632, 2048]⟩
abbrev S4096x2048 : Shape := ⟨2, ![4096, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x5632 : Shape := ⟨2, ![4096, 5632]⟩
abbrev S1x5632x2048 : Shape := ⟨3, ![1, 5632, 2048]⟩
abbrev S4096x2048 : Shape := ⟨2, ![4096, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x5632x2048, .bf16⟩
  | .hbm, ⟨2, _⟩ => ⟨S4096x2048, .f32⟩
  | .hbm, ⟨3, _⟩ => ⟨S4096x5632, .f32⟩
  | .hbm, ⟨4, _⟩ => ⟨S5632x2048, .bf16⟩
  | .hbm, ⟨5, _⟩ => ⟨S5632x2048, .f32⟩
  | .hbm, ⟨6, _⟩ => ⟨S4096x2048, .f32⟩
  | .hbm, ⟨7, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S4096x2048 : Shape := ⟨2, ![4096, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x2048 : Shape := ⟨2, ![4096, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .bf16⟩
  | .hbm, ⟨2, _⟩ => ⟨S4096x2048, .f32⟩
  | .hbm, ⟨3, _⟩ => ⟨S4096x2048, .f32⟩
  | .hbm, ⟨4, _⟩ => ⟨S2048x2048, .bf16⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RmsBwd.lean ====
abbrev S4096x2048 : Shape := ⟨2, ![4096, 2048]⟩
abbrev S2x2048 : Shape := ⟨2, ![2, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S2x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v44 : BitVec 1 := Scalar.cmpi .eq arg1 c0_i32
  let v45 : BitVec 32 := Scalar.extui v44
  let c0_i32_19 : BitVec 32 := 0#32
  let v46 : BitVec 1 := Scalar.cmpi .ne v45 c0_i32_19
  v46

def k0_cond2 (i : grid0.Coords) : BitVec 1 :=
  let arg1 : BitVec 32 := BitVec.ofNat 32 (i 1).val
  let c0_i32 : BitVec 32 := 0#32
  let v44 : BitVec 1 := Scalar.cmpi .eq arg1 c0_i32
  let v_true : BitVec 1 := 1#1
  let v47 : BitVec 1 := Scalar.xori v44 v_true
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== RmsBwdRefIdeal.lean ====
abbrev S4096x2048 : Shape := ⟨2, ![4096, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048, .f32⟩
  | .hbm, ⟨2, _⟩ => ⟨S4096x2048, .bf16⟩
  | .hbm, ⟨3, _⟩ => ⟨S4096x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Rms.lean ====
abbrev S4096x2048 : Shape := ⟨2, ![4096, 2048]⟩
abbrev S2x2048 : Shape := ⟨2, ![2, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S2x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RmsIdeal.lean ====
abbrev S4096x2048 : Shape := ⟨2, ![4096, 2048]⟩
abbrev S2x2048 : Shape := ⟨2, ![2, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S2x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RmsRefIdeal.lean ====
abbrev S4096x2048 : Shape := ⟨2, ![4096, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== RmsMem.lean ====
abbrev S256x2048 : Shape := ⟨2, ![256, 2048]⟩
abbrev S2x2048 : Shape := ⟨2, ![2, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2x2048, .f32⟩
  | .hbm, ⟨2, _⟩ => ⟨S256x2048, .bf16⟩
  | .local _ .vmem, ⟨0, _⟩ => ⟨S256x2048, .f32⟩
  | .local _ .vmem, ⟨1, _⟩ => ⟨S2x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== RmsMemRefIdeal.lean ====
abbrev S256x2048 : Shape := ⟨2, ![256, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 21
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Sparse.lean ====
abbrev S2x64x64x16 : Shape := ⟨4, ![2, 64, 64, 16]⟩
abbrev S1x16x64x16 : Shape := ⟨4, ![1, 16, 64, 16]⟩

abbrev nBuf : Space → Nat
  | .hbm => 14
  | .vmem => 28
  | .smem => 0
  | _ => 0

abbrev bufTy : (tb : Table) → Fin (tcTables nBuf tb) → BufTy
  | .hbm, ⟨0, _⟩ => ⟨S2x64x64x16, .f32⟩
  | .hbm, ⟨1, _⟩ => ⟨S2x64x64x16, .f32⟩
  | .hbm, ⟨2, _⟩ => ⟨S2x64x64x16, .f32⟩
  | .hbm, ⟨3, _⟩ => ⟨S2x64x64x16, .f32⟩
  | .hbm, ⟨4, _⟩ => ⟨S2x64x64x16, .f32⟩
  | .hbm, ⟨5, _⟩ => ⟨S2x64x64x16, .f32⟩
  | .hbm, ⟨6, _⟩ => ⟨S2x64x64x16, .f32⟩
  | .hbm, ⟨7, _⟩ => ⟨S2x64x64x16, .f32⟩
  | .hbm, ⟨8, _⟩ => ⟨S2x64x64x16, .f32⟩
  | .hbm, ⟨9, _⟩ => ⟨S2x64x64x16, .f32⟩
  | .hbm, ⟨10, _⟩ => ⟨S2x64x64x16, .f32⟩
  | .hbm, ⟨11, _⟩ => ⟨S2x64x64x16, .f32⟩
  | .hbm, ⟨12, _⟩ => ⟨S2x64x64x16, .f32⟩
  | .hbm, ⟨13, _⟩ => ⟨S2x64x64x16, .f32⟩
  | .local _ .vmem, ⟨0, _⟩ => ⟨S1x16x64x16, .f32⟩
  | .local _ .vmem, ⟨1, _⟩ => ⟨S1x16x64x16, .f32⟩
  | .local _ .vmem, ⟨2, _⟩ => ⟨S1x16x64x16, .f32⟩
  | .local _ .vmem, ⟨3, _⟩ => ⟨S1x16x64x16, .f32⟩
  | .local _ .vmem, ⟨4, _⟩ => ⟨S1x16x64x16, .f32⟩
  | .local _ .vmem, ⟨5, _⟩ => ⟨S1x16x64x16, .f32⟩
  | .local _ .vmem, ⟨6, _⟩ => ⟨S1x16x64x16, .f32⟩
  | .local _ .vmem, ⟨7, _⟩ => ⟨S1x16x64x16, .f32⟩
  | .local _ .vmem, ⟨8, _⟩ => ⟨S1x16x64x16, .f32⟩
  | .local _ .vmem, ⟨9, _⟩ => ⟨S1x16x64x16, .f32⟩
  | .local _ .vmem, ⟨10, _⟩ => ⟨S1x16x64x16, .f32⟩
  | .local _ .vmem, ⟨11, _⟩ => ⟨S1x16x64x16, .f32⟩
  | .local _ .vmem, ⟨12, _⟩ => ⟨S1x16x64x16, .f32⟩
  | .local _ .vmem, ⟨13, _⟩ => ⟨S1x16x64x16, .f32⟩
  | .local _ .vmem, ⟨14, _⟩ => ⟨S1x16x64x16, .f32⟩
  | .local _ .vmem, ⟨15, _⟩ => ⟨S1x16x64x16, .f32⟩
  | .local _ .vmem, ⟨16, _⟩ => ⟨S1x16x64x16, .f32⟩
  | .local _ .vmem, ⟨17, _⟩ => ⟨S1x16x64x16, .f32⟩
  | .local _ .vmem, ⟨18, _⟩ => ⟨S1x16x64x16, .f32⟩
  | .local _ .vmem, ⟨19, _⟩ => ⟨S1x16x64x16, .f32⟩
  | .local _ .vmem, ⟨20, _⟩ => ⟨S1x16x64x16, .f32⟩
  | .local _ .vmem, ⟨21, _⟩ => ⟨S1x16x64x16, .f32⟩
  | .local _ .vmem, ⟨22, _⟩ => ⟨S1x16x64x16, .f32⟩
  | .local _ .vmem, ⟨23, _⟩ => ⟨S1x16x64x16, .f32⟩
  | .local _ .vmem, ⟨24, _⟩ => ⟨S1x16x64x16, .f32⟩
  | .local _ .vmem, ⟨25, _⟩ => ⟨S1x16x64x16, .f32⟩
  | .local _ .vmem, ⟨26, _⟩ => ⟨S1x16x64x16, .f32⟩
  | .local _ .vmem, ⟨27, _⟩ => ⟨S1x16x64x16, .f32⟩
  | _, _ => ⟨S2x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x64x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x64x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x64x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x64x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x64x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x64x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x64x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== SparseRefIdeal.lean ====
abbrev S2x64x64x16 : Shape := ⟨4, ![2, 64, 64, 16]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S2x64x64x16, .f32⟩
  | .hbm, ⟨1, _⟩ => ⟨S2x64x64x16, .f32⟩
  | .hbm, ⟨2, _⟩ => ⟨S2x64x64x16, .f32⟩
  | .hbm, ⟨3, _⟩ => ⟨S2x64x64x16, .f32⟩
  | .hbm, ⟨4, _⟩ => ⟨S2x64x64x16, .f32⟩
  | .hbm, ⟨5, _⟩ => ⟨S2x64x64x16, .f32⟩
  | .hbm, ⟨6, _⟩ => ⟨S2x64x64x16, .f32⟩
  | .hbm, ⟨7, _⟩ => ⟨S2x64x64x16, .f32⟩
  | .hbm, ⟨8, _⟩ => ⟨S_, .f32⟩
  | .hbm, ⟨9, _⟩ => ⟨S2x64x64x16, .f32⟩
  | .hbm, ⟨10, _⟩ => ⟨S2x64x64x16, .f32⟩
  | .hbm, ⟨11, _⟩ => ⟨S_, .f32⟩
  | .hbm, ⟨12, _⟩ => ⟨S2x64x64x16, .f32⟩
  | .hbm, ⟨13, _⟩ => ⟨S2x64x64x16, .f32⟩
  | .hbm, ⟨14, _⟩ => ⟨S2x64x64x16, .f32⟩
  | .hbm, ⟨15, _⟩ => ⟨S_, .f32⟩
  | .hbm, ⟨16, _⟩ => ⟨S2x64x64x16, .f32⟩
  | .hbm, ⟨17, _⟩ => ⟨S2x64x64x16, .f32⟩
  | .hbm, ⟨18, _⟩ => ⟨S2x64x64x16, .f32⟩
  | .hbm, ⟨19, _⟩ => ⟨S_, .f32⟩
  | .hbm, ⟨20, _⟩ => ⟨S2x64x64x16, .f32⟩
  | .hbm, ⟨21, _⟩ => ⟨S2x64x64x16, .f32⟩
  | .hbm, ⟨22, _⟩ => ⟨S2x64x64x16, .f32⟩
  | .hbm, ⟨23, _⟩ => ⟨S_, .f32⟩
  | .hbm, ⟨24, _⟩ => ⟨S2x64x64x16, .f32⟩
  | .hbm, ⟨25, _⟩ => ⟨S2x64x64x16, .f32⟩
  | .hbm, ⟨26, _⟩ => ⟨S_, .f32⟩
  | .hbm, ⟨27, _⟩ => ⟨S2x64x64x16, .f32⟩
  | .hbm, ⟨28, _⟩ => ⟨S2x64x64x16, .f32⟩
  | .hbm, ⟨29, _⟩ => ⟨S2x64x64x16, .f32⟩
  | .hbm, ⟨30, _⟩ => ⟨S_, .f32⟩
  | .hbm, ⟨31, _⟩ => ⟨S2x64x64x16, .f32⟩
  | .hbm, ⟨32, _⟩ => ⟨S2x64x64x16, .f32⟩
  | .hbm, ⟨33, _⟩ => ⟨S2x64x64x16, .f32⟩
  | .hbm, ⟨34, _⟩ => ⟨S_, .f32⟩
  | .hbm, ⟨35, _⟩ => ⟨S2x64x64x16, .f32⟩
  | .hbm, ⟨36, _⟩ => ⟨S2x64x64x16, .f32⟩
  | .hbm, ⟨37, _⟩ => ⟨S2x64x64x16, .f32⟩
  | .hbm, ⟨38, _⟩ => ⟨S_, .f32⟩
  | .hbm, ⟨39, _⟩ => ⟨S2x64x64x16, .f32⟩
  | .hbm, ⟨40, _⟩ => ⟨S2x64x64x16, .f32⟩
  | .hbm, ⟨41, _⟩ => ⟨S_, .f32⟩
  | .hbm, ⟨42, _⟩ => ⟨S2x64x64x16, .f32⟩
  | .hbm, ⟨43, _⟩ => ⟨S2x64x64x16, .f32⟩
  | .hbm, ⟨44, _⟩ => ⟨S_, .f32⟩
  | .hbm, ⟨45, _⟩ => ⟨S2x64x64x16, .f32⟩
  | .hbm, ⟨46, _⟩ => ⟨S2x64x64x16, .f32⟩
  | .hbm, ⟨47, _⟩ => ⟨S2x64x64x16, .f32⟩
  | .hbm, ⟨48, _⟩ => ⟨S_, .f32⟩
  | .hbm, ⟨49, _⟩ => ⟨S2x64x64x16, .f32⟩
  | .hbm, ⟨50, _⟩ => ⟨S2x64x64x16, .f32⟩
  | .hbm, ⟨51, _⟩ => ⟨S2x64x64x16, .f32⟩
  | .hbm, ⟨52, _⟩ => ⟨S_, .f32⟩
  | .hbm, ⟨53, _⟩ => ⟨S2x64x64x16, .f32⟩
  | .hbm, ⟨54, _⟩ => ⟨S2x64x64x16, .f32⟩
  | .hbm, ⟨55, _⟩ => ⟨S2x64x64x16, .f32⟩
  | .hbm, ⟨56, _⟩ => ⟨S_, .f32⟩
  | .hbm, ⟨57, _⟩ => ⟨S2x64x64x16, .f32⟩
  | .hbm, ⟨58, _⟩ => ⟨S2x64x64x16, .f32⟩
  | .hbm, ⟨59, _⟩ => ⟨S_, .f32⟩
  | .hbm, ⟨60, _⟩ => ⟨S2x64x64x16, .f32⟩
  | .hbm, ⟨61, _⟩ => ⟨S2x64x64x16, .f32⟩
  | .hbm, ⟨62, _⟩ => ⟨S2x64x64x16, .f32⟩
  | .hbm, ⟨63, _⟩ => ⟨S_, .f32⟩
  | .hbm, ⟨64, _⟩ => ⟨S2x64x64x16, .f32⟩
  | .hbm, ⟨65, _⟩ => ⟨S2x64x64x16, .f32⟩
  | .hbm, ⟨66, _⟩ => ⟨S2x64x64x16, .f32⟩
  | .hbm, ⟨67, _⟩ => ⟨S_, .f32⟩
  | .hbm, ⟨68, _⟩ => ⟨S2x64x64x16, .f32⟩
  | .hbm, ⟨69, _⟩ => ⟨S2x64x64x16, .f32⟩
  | .hbm, ⟨70, _⟩ => ⟨S2x64x64x16, .f32⟩
  | .hbm, ⟨71, _⟩ => ⟨S_, .f32⟩
  | .hbm, ⟨72, _⟩ => ⟨S2x64x64x16, .f32⟩
  | .hbm, ⟨73, _⟩ => ⟨S2x64x64x16, .f32⟩
  | _, _ => ⟨S2x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== AdamIn.lean ====
abbrev S4x2048x896 : Shape := ⟨3, ![4, 2048, 896]⟩
abbrev S2x2048x896 : Shape := ⟨3, ![2, 2048, 896]⟩
abbrev S1x256x896 : Shape := ⟨3, ![1, 256, 896]⟩
abbrev S256x896 : Shape := ⟨2, ![256, 896]⟩

abbrev nBuf : Space → Nat
  | .hbm => 13
  | .vmem => 44
  | .smem => 0
  | _ => 0

abbrev bufTy : (tb : Table) → Fin (tcTables nBuf tb) → BufTy
  | .hbm, ⟨0, _⟩ => ⟨S4x2048x896, .bf16⟩
  | .hbm, ⟨1, _⟩ => ⟨S4x2048x896, .bf16⟩
  | .hbm, ⟨2, _⟩ => ⟨S2x2048x896, .f32⟩
  | .hbm, ⟨3, _⟩ => ⟨S2x2048x896, .f32⟩
  | .hbm, ⟨4, _⟩ => ⟨S2x2048x896, .f32⟩
  | .hbm, ⟨5, _⟩ => ⟨S2x2048x896, .f32⟩
  | .hbm, ⟨6, _⟩ => ⟨S2x2048x896, .f32⟩
  | .hbm, ⟨7, _⟩ => ⟨S2x2048x896, .f32⟩
  | .hbm, ⟨8, _⟩ => ⟨S2x2048x896, .f32⟩
  | .hbm, ⟨9, _⟩ => ⟨S2x2048x896, .f32⟩
  | .hbm, ⟨10, _⟩ => ⟨S2x2048x896, .f32⟩
  | .hbm, ⟨11, _⟩ => ⟨S2x2048x896, .f32⟩
  | .hbm, ⟨12, _⟩ => ⟨S2x2048x896, .f32⟩
  | .local _ .vmem, ⟨0, _⟩ => ⟨S1x256x896, .bf16⟩
  | .local _ .vmem, ⟨1, _⟩ => ⟨S1x256x896, .bf16⟩
  | .local _ .vmem, ⟨2, _⟩ => ⟨S1x256x896, .bf16⟩
  | .local _ .vmem, ⟨3, _⟩ => ⟨S1x256x896, .bf16⟩
  | .local _ .vmem, ⟨4, _⟩ => ⟨S1x256x896, .bf16⟩
  | .local _ .vmem, ⟨5, _⟩ => ⟨S1x256x896, .bf16⟩
  | .local _ .vmem, ⟨6, _⟩ => ⟨S1x256x896, .bf16⟩
  | .local _ .vmem, ⟨7, _⟩ => ⟨S1x256x896, .bf16⟩
  | .local _ .vmem, ⟨8, _⟩ => ⟨S1x256x896, .f32⟩
  | .local _ .vmem, ⟨9, _⟩ => ⟨S1x256x896, .f32⟩
  | .local _ .vmem, ⟨10, _⟩ => ⟨S1x256x896, .f32⟩
  | .local _ .vmem, ⟨11, _⟩ => ⟨S1x256x896, .f32⟩
  | .local _ .vmem, ⟨12, _⟩ => ⟨S1x256x896, .f32⟩
  | .local _ .vmem, ⟨13, _⟩ => ⟨S1x256x896, .f32⟩
  | .local _ .vmem, ⟨14, _⟩ => ⟨S1x256x896, .f32⟩
  | .local _ .vmem, ⟨15, _⟩ => ⟨S1x256x896, .f32⟩
  | .local _ .vmem, ⟨16, _⟩ => ⟨S1x256x896, .f32⟩
  | .local _ .vmem, ⟨17, _⟩ => ⟨S1x256x896, .f32⟩
  | .local _ .vmem, ⟨18, _⟩ => ⟨S1x256x896, .f32⟩
  | .local _ .vmem, ⟨19, _⟩ => ⟨S1x256x896, .f32⟩
  | .local _ .vmem, ⟨20, _⟩ => ⟨S1x256x896, .f32⟩
  | .local _ .vmem, ⟨21, _⟩ => ⟨S1x256x896, .f32⟩
  | .local _ .vmem, ⟨22, _⟩ => ⟨S1x256x896, .bf16⟩
  | .local _ .vmem, ⟨23, _⟩ => ⟨S1x256x896, .bf16⟩
  | .local _ .vmem, ⟨24, _⟩ => ⟨S1x256x896, .bf16⟩
  | .local _ .vmem, ⟨25, _⟩ => ⟨S1x256x896, .bf16⟩
  | .local _ .vmem, ⟨26, _⟩ => ⟨S1x256x896, .bf16⟩
  | .local _ .vmem, ⟨27, _⟩ => ⟨S1x256x896, .bf16⟩
  | .local _ .vmem, ⟨28, _⟩ => ⟨S1x256x896, .bf16⟩
  | .local _ .vmem, ⟨29, _⟩ => ⟨S1x256x896, .bf16⟩
  | .local _ .vmem, ⟨30, _⟩ => ⟨S1x256x896, .f32⟩
  | .local _ .vmem, ⟨31, _⟩ => ⟨S1x256x896, .f32⟩
  | .local _ .vmem, ⟨32, _⟩ => ⟨S1x256x896, .f32⟩
  | .local _ .vmem, ⟨33, _⟩ => ⟨S1x256x896, .f32⟩
  | .local _ .vmem, ⟨34, _⟩ => ⟨S1x256x896, .f32⟩
  | .local _ .vmem, ⟨35, _⟩ => ⟨S1x256x896, .f32⟩
  | .local _ .vmem, ⟨36, _⟩ => ⟨S1x256x896, .f32⟩
  | .local _ .vmem, ⟨37, _⟩ => ⟨S1x256x896, .f32⟩
  | .local _ .vmem, ⟨38, _⟩ => ⟨S1x256x896, .f32⟩
  | .local _ .vmem, ⟨39, _⟩ => ⟨S1x256x896, .f32⟩
  | .local _ .vmem, ⟨40, _⟩ => ⟨S1x256x896, .f32⟩
  | .local _ .vmem, ⟨41, _⟩ => ⟨S1x256x896, .f32⟩
  | .local _ .vmem, ⟨42, _⟩ => ⟨S1x256x896, .f32⟩
  | .local _ .vmem, ⟨43, _⟩ => ⟨S1x256x896, .f32⟩
  | _, _ => ⟨S4x2048x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x896 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x896 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x896 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x896 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x896 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x896 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x896 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x896 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x896 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256x896 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256x896 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamInIdeal.lean ====
abbrev S4x2048x896 : Shape := ⟨3, ![4, 2048, 896]⟩
abbrev S2x2048x896 : Shape := ⟨3, ![2, 2048, 896]⟩
abbrev S1x256x896 : Shape := ⟨3, ![1, 256, 896]⟩
abbrev S256x896 : Shape := ⟨2, ![256, 896]⟩

abbrev nBuf : Space → Nat
  | .hbm => 13
  | .vmem => 44
  | .smem => 0
  | _ => 0

abbrev bufTy : (tb : Table) → Fin (tcTables nBuf tb) → BufTy
  | .hbm, ⟨0, _⟩ => ⟨S4x2048x896, .bf16⟩
  | .hbm, ⟨1, _⟩ => ⟨S4x2048x896, .bf16⟩
  | .hbm, ⟨2, _⟩ => ⟨S2x2048x896, .f32⟩
  | .hbm, ⟨3, _⟩ => ⟨S2x2048x896, .f32⟩
  | .hbm, ⟨4, _⟩ => ⟨S2x2048x896, .f32⟩
  | .hbm, ⟨5, _⟩ => ⟨S2x2048x896, .f32⟩
  | .hbm, ⟨6, _⟩ => ⟨S2x2048x896, .f32⟩
  | .hbm, ⟨7, _⟩ => ⟨S2x2048x896, .f32⟩
  | .hbm, ⟨8, _⟩ => ⟨S2x2048x896, .f32⟩
  | .hbm, ⟨9, _⟩ => ⟨S2x2048x896, .f32⟩
  | .hbm, ⟨10, _⟩ => ⟨S2x2048x896, .f32⟩
  | .hbm, ⟨11, _⟩ => ⟨S2x2048x896, .f32⟩
  | .hbm, ⟨12, _⟩ => ⟨S2x2048x896, .f32⟩
  | .local _ .vmem, ⟨0, _⟩ => ⟨S1x256x896, .bf16⟩
  | .local _ .vmem, ⟨1, _⟩ => ⟨S1x256x896, .bf16⟩
  | .local _ .vmem, ⟨2, _⟩ => ⟨S1x256x896, .bf16⟩
  | .local _ .vmem, ⟨3, _⟩ => ⟨S1x256x896, .bf16⟩
  | .local _ .vmem, ⟨4, _⟩ => ⟨S1x256x896, .bf16⟩
  | .local _ .vmem, ⟨5, _⟩ => ⟨S1x256x896, .bf16⟩
  | .local _ .vmem, ⟨6, _⟩ => ⟨S1x256x896, .bf16⟩
  | .local _ .vmem, ⟨7, _⟩ => ⟨S1x256x896, .bf16⟩
  | .local _ .vmem, ⟨8, _⟩ => ⟨S1x256x896, .f32⟩
  | .local _ .vmem, ⟨9, _⟩ => ⟨S1x256x896, .f32⟩
  | .local _ .vmem, ⟨10, _⟩ => ⟨S1x256x896, .f32⟩
  | .local _ .vmem, ⟨11, _⟩ => ⟨S1x256x896, .f32⟩
  | .local _ .vmem, ⟨12, _⟩ => ⟨S1x256x896, .f32⟩
  | .local _ .vmem, ⟨13, _⟩ => ⟨S1x256x896, .f32⟩
  | .local _ .vmem, ⟨14, _⟩ => ⟨S1x256x896, .f32⟩
  | .local _ .vmem, ⟨15, _⟩ => ⟨S1x256x896, .f32⟩
  | .local _ .vmem, ⟨16, _⟩ => ⟨S1x256x896, .f32⟩
  | .local _ .vmem, ⟨17, _⟩ => ⟨S1x256x896, .f32⟩
  | .local _ .vmem, ⟨18, _⟩ => ⟨S1x256x896, .f32⟩
  | .local _ .vmem, ⟨19, _⟩ => ⟨S1x256x896, .f32⟩
  | .local _ .vmem, ⟨20, _⟩ => ⟨S1x256x896, .f32⟩
  | .local _ .vmem, ⟨21, _⟩ => ⟨S1x256x896, .f32⟩
  | .local _ .vmem, ⟨22, _⟩ => ⟨S1x256x896, .bf16⟩
  | .local _ .vmem, ⟨23, _⟩ => ⟨S1x256x896, .bf16⟩
  | .local _ .vmem, ⟨24, _⟩ => ⟨S1x256x896, .bf16⟩
  | .local _ .vmem, ⟨25, _⟩ => ⟨S1x256x896, .bf16⟩
  | .local _ .vmem, ⟨26, _⟩ => ⟨S1x256x896, .bf16⟩
  | .local _ .vmem, ⟨27, _⟩ => ⟨S1x256x896, .bf16⟩
  | .local _ .vmem, ⟨28, _⟩ => ⟨S1x256x896, .bf16⟩
  | .local _ .vmem, ⟨29, _⟩ => ⟨S1x256x896, .bf16⟩
  | .local _ .vmem, ⟨30, _⟩ => ⟨S1x256x896, .f32⟩
  | .local _ .vmem, ⟨31, _⟩ => ⟨S1x256x896, .f32⟩
  | .local _ .vmem, ⟨32, _⟩ => ⟨S1x256x896, .f32⟩
  | .local _ .vmem, ⟨33, _⟩ => ⟨S1x256x896, .f32⟩
  | .local _ .vmem, ⟨34, _⟩ => ⟨S1x256x896, .f32⟩
  | .local _ .vmem, ⟨35, _⟩ => ⟨S1x256x896, .f32⟩
  | .local _ .vmem, ⟨36, _⟩ => ⟨S1x256x896, .f32⟩
  | .local _ .vmem, ⟨37, _⟩ => ⟨S1x256x896, .f32⟩
  | .local _ .vmem, ⟨38, _⟩ => ⟨S1x256x896, .f32⟩
  | .local _ .vmem, ⟨39, _⟩ => ⟨S1x256x896, .f32⟩
  | .local _ .vmem, ⟨40, _⟩ => ⟨S1x256x896, .f32⟩
  | .local _ .vmem, ⟨41, _⟩ => ⟨S1x256x896, .f32⟩
  | .local _ .vmem, ⟨42, _⟩ => ⟨S1x256x896, .f32⟩
  | .local _ .vmem, ⟨43, _⟩ => ⟨S1x256x896, .f32⟩
  | _, _ => ⟨S4x2048x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x896 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x896 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x896 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x896 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x896 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x896 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x896 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x896 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x896 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256x896 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256x896 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamInRefIdeal.lean ====
abbrev S4x2048x896 : Shape := ⟨3, ![4, 2048, 896]⟩
abbrev S2x2048x896 : Shape := ⟨3, ![2, 2048, 896]⟩
abbrev S_ : Shape := ⟨0, ![]⟩
abbrev S2048x896 : Shape := ⟨2, ![2048, 896]⟩
abbrev S1x2048x896 : Shape := ⟨3, ![1, 2048, 896]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x896, .bf16⟩
  | .hbm, ⟨1, _⟩ => ⟨S4x2048x896, .bf16⟩
  | .hbm, ⟨2, _⟩ => ⟨S2x2048x896, .f32⟩
  | .hbm, ⟨3, _⟩ => ⟨S2x2048x896, .f32⟩
  | .hbm, ⟨4, _⟩ => ⟨S2x2048x896, .f32⟩
  | .hbm, ⟨5, _⟩ => ⟨S4x2048x896, .f32⟩
  | .hbm, ⟨6, _⟩ => ⟨S_, .f32⟩
  | .hbm, ⟨7, _⟩ => ⟨S2048x896, .f32⟩
  | .hbm, ⟨8, _⟩ => ⟨S4x2048x896, .f32⟩
  | .hbm, ⟨9, _⟩ => ⟨S_, .f32⟩
  | .hbm, ⟨10, _⟩ => ⟨S2048x896, .f32⟩
  | .hbm, ⟨11, _⟩ => ⟨S1x2048x896, .f32⟩
  | .hbm, ⟨12, _⟩ => ⟨S1x2048x896, .f32⟩
  | .hbm, ⟨13, _⟩ => ⟨S2x2048x896, .f32⟩
  | .hbm, ⟨14, _⟩ => ⟨S_, .f32⟩
  | .hbm, ⟨15, _⟩ => ⟨S2x2048x896, .f32⟩
  | .hbm, ⟨16, _⟩ => ⟨S2x2048x896, .f32⟩
  | .hbm, ⟨17, _⟩ => ⟨S_, .f32⟩
  | .hbm, ⟨18, _⟩ => ⟨S2x2048x896, .f32⟩
  | .hbm, ⟨19, _⟩ => ⟨S2x2048x896, .f32⟩
  | .hbm, ⟨20, _⟩ => ⟨S2x2048x896, .f32⟩
  | .hbm, ⟨21, _⟩ => ⟨S_, .f32⟩
  | .hbm, ⟨22, _⟩ => ⟨S2x2048x896, .f32⟩
  | .hbm, ⟨23, _⟩ => ⟨S2x2048x896, .f32⟩
  | .hbm, ⟨24, _⟩ => ⟨S2x2048x896, .f32⟩
  | .hbm, ⟨25, _⟩ => ⟨S_, .f32⟩
  | .hbm, ⟨26, _⟩ => ⟨S2x2048x896, .f32⟩
  | .hbm, ⟨27, _⟩ => ⟨S2x2048x896, .f32⟩
  | .hbm, ⟨28, _⟩ => ⟨S2x2048x896, .f32⟩
  | .hbm, ⟨29, _⟩ => ⟨S_, .f32⟩
  | .hbm, ⟨30, _⟩ => ⟨S2x2048x896, .f32⟩
  | .hbm, ⟨31, _⟩ => ⟨S2x2048x896, .f32⟩
  | .hbm, ⟨32, _⟩ => ⟨S_, .f32⟩
  | .hbm, ⟨33, _⟩ => ⟨S2x2048x896, .f32⟩
  | .hbm, ⟨34, _⟩ => ⟨S2x2048x896, .f32⟩
  | .hbm, ⟨35, _⟩ => ⟨S2x2048x896, .f32⟩
  | .hbm, ⟨36, _⟩ => ⟨S_, .f32⟩
  | .hbm, ⟨37, _⟩ => ⟨S2x2048x896, .f32⟩
  | .hbm, ⟨38, _⟩ => ⟨S2x2048x896, .f32⟩
  | .hbm, ⟨39, _⟩ => ⟨S2x2048x896, .f32⟩
  | .hbm, ⟨40, _⟩ => ⟨S_, .f32⟩
  | .hbm, ⟨41, _⟩ => ⟨S2x2048x896, .f32⟩
  | .hbm, ⟨42, _⟩ => ⟨S2x2048x896, .f32⟩
  | .hbm, ⟨43, _⟩ => ⟨S2x2048x896, .f32⟩
  | .hbm, ⟨44, _⟩ => ⟨S_, .f32⟩
  | .hbm, ⟨45, _⟩ => ⟨S2x2048x896, .f32⟩
  | .hbm, ⟨46, _⟩ => ⟨S2x2048x896, .f32⟩
  | _, _ => ⟨S4x2048x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Sum.lean ====
abbrev S5120x1024 : Shape := ⟨2, ![5120, 1024]⟩
abbrev S640x1024 : Shape := ⟨2, ![640, 1024]⟩
abbrev S128x1024 : Shape := ⟨2, ![128, 1024]⟩

abbrev nBuf : Space → Nat
  | .hbm => 2
  | .vmem => 18
  | .smem => 0
  | _ => 0

abbrev bufTy : (tb : Table) → Fin (tcTables nBuf tb) → BufTy
  | .hbm, ⟨0, _⟩ => ⟨S5120x1024, .f32⟩
  | .hbm, ⟨1, _⟩ => ⟨S640x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S5120x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg1 c5_i32
  let c0_i32 : BitVec 32 := 0#32
  let v1 : BitVec 32 := Scalar.addi c0_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi arg1 c15_i32
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi arg1 c25_i32
  let c0_i32 : BitVec 32 := 0#32
  let v1 : BitVec 32 := Scalar.addi c0_i32 arg0
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi arg1 c30_i32
  let c0_i32 : BitVec 32 := 0#32
  let v1 : BitVec 32 := Scalar.addi c0_i32 arg0
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.addi arg1 c35_i32
  let c0_i32 : BitVec 32 := 0#32
  let v1 : BitVec 32 := Scalar.addi c0_i32 arg0
  let c0_i32_0 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SumRefIdeal.lean ====
abbrev S5120x1024 : Shape := ⟨2, ![5120, 1024]⟩
abbrev S8x640x1024 : Shape := ⟨3, ![8, 640, 1024]⟩
abbrev S_ : Shape := ⟨0, ![]⟩
abbrev S640x1024 : Shape := ⟨2, ![640, 1024]⟩

abbrev nBuf : Space → Nat
  | .hbm => 4
  | .vmem => 0
  | .smem => 0
  | _ => 0

abbrev bufTy : (tb : Table) → Fin (tcTables nBuf tb) → BufTy
  | .hbm, ⟨0, _⟩ => ⟨S5120x1024, .f32⟩
  | .hbm, ⟨1, _⟩ => ⟨S8x640x1024, .f32⟩
  | .hbm, ⟨2, _⟩ => ⟨S_, .f32⟩
  | .hbm, ⟨3, _⟩ => ⟨S640x1024, .f32⟩
  | _, _ => ⟨S5120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LateSum.lean ====
abbrev S640x1024 : Shape := ⟨2, ![640, 1024]⟩
abbrev S64x1024 : Shape := ⟨2, ![64, 1024]⟩
abbrev S8x1024 : Shape := ⟨2, ![8, 1024]⟩

abbrev nBuf : Space → Nat
  | .hbm => 3
  | .vmem => 10
  | .smem => 0
  | _ => 0

abbrev bufTy : (tb : Table) → Fin (tcTables nBuf tb) → BufTy
  | .hbm, ⟨0, _⟩ => ⟨S640x1024, .f32⟩
  | .hbm, ⟨1, _⟩ => ⟨S64x1024, .f32⟩
  | .hbm, ⟨2, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | _, _ => ⟨S640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let v1 : BitVec 32 := Scalar.addi c0_i32 arg0
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg1 c5_i32
  let c0_i32 : BitVec 32 := 0#32
  let v1 : BitVec 32 := Scalar.addi c0_i32 arg0
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let v1 : BitVec 32 := Scalar.addi c0_i32 arg0
  let c0_i32_0 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== LateSumRefIdeal.lean ====
abbrev S640x1024 : Shape := ⟨2, ![640, 1024]⟩
abbrev S64x1024 : Shape := ⟨2, ![64, 1024]⟩
abbrev S8x1024 : Shape := ⟨2, ![8, 1024]⟩
abbrev S8x8x1024 : Shape := ⟨3, ![8, 8, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S640x1024, .f32⟩
  | .hbm, ⟨1, _⟩ => ⟨S64x1024, .f32⟩
  | .hbm, ⟨2, _⟩ => ⟨S8x1024, .f32⟩
  | .hbm, ⟨3, _⟩ => ⟨S8x8x1024, .f32⟩
  | .hbm, ⟨4, _⟩ => ⟨S_, .f32⟩
  | .hbm, ⟨5, _⟩ => ⟨S8x1024, .f32⟩
  | .hbm, ⟨6, _⟩ => ⟨S8x1024, .f32⟩
  | _, _ => ⟨S640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamDw.lean ====
abbrev S4x32x128 : Shape := ⟨3, ![4, 32, 128]⟩
abbrev S2x32x128 : Shape := ⟨3, ![2, 32, 128]⟩
abbrev S1x32x128 : Shape := ⟨3, ![1, 32, 128]⟩
abbrev S32x128 : Shape := ⟨2, ![32, 128]⟩

abbrev nBuf : Space → Nat
  | .hbm => 13
  | .vmem => 22
  | .smem => 0
  | _ => 0

abbrev bufTy : (tb : Table) → Fin (tcTables nBuf tb) → BufTy
  | .hbm, ⟨0, _⟩ => ⟨S4x32x128, .bf16⟩
  | .hbm, ⟨1, _⟩ => ⟨S4x32x128, .bf16⟩
  | .hbm, ⟨2, _⟩ => ⟨S2x32x128, .f32⟩
  | .hbm, ⟨3, _⟩ => ⟨S2x32x128, .f32⟩
  | .hbm, ⟨4, _⟩ => ⟨S2x32x128, .f32⟩
  | .hbm, ⟨5, _⟩ => ⟨S2x32x128, .f32⟩
  | .hbm, ⟨6, _⟩ => ⟨S2x32x128, .f32⟩
  | .hbm, ⟨7, _⟩ => ⟨S2x32x128, .f32⟩
  | .hbm, ⟨8, _⟩ => ⟨S2x32x128, .f32⟩
  | .hbm, ⟨9, _⟩ => ⟨S2x32x128, .f32⟩
  | .hbm, ⟨10, _⟩ => ⟨S2x32x128, .f32⟩
  | .hbm, ⟨11, _⟩ => ⟨S2x32x128, .f32⟩
  | .hbm, ⟨12, _⟩ => ⟨S2x32x128, .f32⟩
  | .local _ .vmem, ⟨0, _⟩ => ⟨S1x32x128, .bf16⟩
  | .local _ .vmem, ⟨1, _⟩ => ⟨S1x32x128, .bf16⟩
  | .local _ .vmem, ⟨2, _⟩ => ⟨S1x32x128, .bf16⟩
  | .local _ .vmem, ⟨3, _⟩ => ⟨S1x32x128, .bf16⟩
  | .local _ .vmem, ⟨4, _⟩ => ⟨S1x32x128, .f32⟩
  | .local _ .vmem, ⟨5, _⟩ => ⟨S1x32x128, .f32⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x32x128, .f32⟩
  | .local _ .vmem, ⟨10, _⟩ => ⟨S1x32x128, .f32⟩
  | .local _ .vmem, ⟨11, _⟩ => ⟨S1x32x128, .bf16⟩
  | .local _ .vmem, ⟨12, _⟩ => ⟨S1x32x128, .bf16⟩
  | .local _ .vmem, ⟨13, _⟩ => ⟨S1x32x128, .bf16⟩
  | .local _ .vmem, ⟨14, _⟩ => ⟨S1x32x128, .bf16⟩
  | .local _ .vmem, ⟨15, _⟩ => ⟨S1x32x128, .f32⟩
  | .local _ .vmem, ⟨16, _⟩ => ⟨S1x32x128, .f32⟩
  | .local _ .vmem, ⟨17, _⟩ => ⟨S1x32x128, .f32⟩
  | .local _ .vmem, ⟨18, _⟩ => ⟨S1x32x128, .f32⟩
  | .local _ .vmem, ⟨19, _⟩ => ⟨S1x32x128, .f32⟩
  | .local _ .vmem, ⟨20, _⟩ => ⟨S1x32x128, .f32⟩
  | .local _ .vmem, ⟨21, _⟩ => ⟨S1x32x128, .f32⟩
  | _, _ => ⟨S4x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x32x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x32x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x32x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x32x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x32x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x32x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x32x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S1x32x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S1x32x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]
-- ==== AdamDwIdeal.lean ====
abbrev S4x32x128 : Shape := ⟨3, ![4, 32, 128]⟩
abbrev S2x32x128 : Shape := ⟨3, ![2, 32, 128]⟩
abbrev S1x32x128 : Shape := ⟨3, ![1, 32, 128]⟩
abbrev S32x128 : Shape := ⟨2, ![32, 128]⟩

abbrev nBuf : Space → Nat
  | .hbm => 13
  | .vmem => 22
  | .smem => 0
  | _ => 0

abbrev bufTy : (tb : Table) → Fin (tcTables nBuf tb) → BufTy
  | .hbm, ⟨0, _⟩ => ⟨S4x32x128, .bf16⟩
  | .hbm, ⟨1, _⟩ => ⟨S4x32x128, .bf16⟩
  | .hbm, ⟨2, _⟩ => ⟨S2x32x128, .f32⟩
  | .hbm, ⟨3, _⟩ => ⟨S2x32x128, .f32⟩
  | .hbm, ⟨4, _⟩ => ⟨S2x32x128, .f32⟩
  | .hbm, ⟨5, _⟩ => ⟨S2x32x128, .f32⟩
  | .hbm, ⟨6, _⟩ => ⟨S2x32x128, .f32⟩
  | .hbm, ⟨7, _⟩ => ⟨S2x32x128, .f32⟩
  | .hbm, ⟨8, _⟩ => ⟨S2x32x128, .f32⟩
  | .hbm, ⟨9, _⟩ => ⟨S2x32x128, .f32⟩
  | .hbm, ⟨10, _⟩ => ⟨S2x32x128, .f32⟩
  | .hbm, ⟨11, _⟩ => ⟨S2x32x128, .f32⟩
  | .hbm, ⟨12, _⟩ => ⟨S2x32x128, .f32⟩
  | .local _ .vmem, ⟨0, _⟩ => ⟨S1x32x128, .bf16⟩
  | .local _ .vmem, ⟨1, _⟩ => ⟨S1x32x128, .bf16⟩
  | .local _ .vmem, ⟨2, _⟩ => ⟨S1x32x128, .bf16⟩
  | .local _ .vmem, ⟨3, _⟩ => ⟨S1x32x128, .bf16⟩
  | .local _ .vmem, ⟨4, _⟩ => ⟨S1x32x128, .f32⟩
  | .local _ .vmem, ⟨5, _⟩ => ⟨S1x32x128, .f32⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x32x128, .f32⟩
  | .local _ .vmem, ⟨10, _⟩ => ⟨S1x32x128, .f32⟩
  | .local _ .vmem, ⟨11, _⟩ => ⟨S1x32x128, .bf16⟩
  | .local _ .vmem, ⟨12, _⟩ => ⟨S1x32x128, .bf16⟩
  | .local _ .vmem, ⟨13, _⟩ => ⟨S1x32x128, .bf16⟩
  | .local _ .vmem, ⟨14, _⟩ => ⟨S1x32x128, .bf16⟩
  | .local _ .vmem, ⟨15, _⟩ => ⟨S1x32x128, .f32⟩
  | .local _ .vmem, ⟨16, _⟩ => ⟨S1x32x128, .f32⟩
  | .local _ .vmem, ⟨17, _⟩ => ⟨S1x32x128, .f32⟩
  | .local _ .vmem, ⟨18, _⟩ => ⟨S1x32x128, .f32⟩
  | .local _ .vmem, ⟨19, _⟩ => ⟨S1x32x128, .f32⟩
  | .local _ .vmem, ⟨20, _⟩ => ⟨S1x32x128, .f32⟩
  | .local _ .vmem, ⟨21, _⟩ => ⟨S1x32x128, .f32⟩
  | _, _ => ⟨S4x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x32x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x32x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x32x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x32x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x32x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x32x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x32x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S1x32x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S1x32x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]
-- ==== AdamDwRefIdeal.lean ====
abbrev S4x32x128 : Shape := ⟨3, ![4, 32, 128]⟩
abbrev S2x32x128 : Shape := ⟨3, ![2, 32, 128]⟩
abbrev S_ : Shape := ⟨0, ![]⟩
abbrev S32x128 : Shape := ⟨2, ![32, 128]⟩
abbrev S1x32x128 : Shape := ⟨3, ![1, 32, 128]⟩

abbrev nBuf : Space → Nat
  | .hbm => 47
  | .vmem => 0
  | .smem => 0
  | _ => 0

abbrev bufTy : (tb : Table) → Fin (tcTables nBuf tb) → BufTy
  | .hbm, ⟨0, _⟩ => ⟨S4x32x128, .bf16⟩
  | .hbm, ⟨1, _⟩ => ⟨S4x32x128, .bf16⟩
  | .hbm, ⟨2, _⟩ => ⟨S2x32x128, .f32⟩
  | .hbm, ⟨3, _⟩ => ⟨S2x32x128, .f32⟩
  | .hbm, ⟨4, _⟩ => ⟨S2x32x128, .f32⟩
  | .hbm, ⟨5, _⟩ => ⟨S4x32x128, .f32⟩
  | .hbm, ⟨6, _⟩ => ⟨S_, .f32⟩
  | .hbm, ⟨7, _⟩ => ⟨S32x128, .f32⟩
  | .hbm, ⟨8, _⟩ => ⟨S4x32x128, .f32⟩
  | .hbm, ⟨9, _⟩ => ⟨S_, .f32⟩
  | .hbm, ⟨10, _⟩ => ⟨S32x128, .f32⟩
  | .hbm, ⟨11, _⟩ => ⟨S1x32x128, .f32⟩
  | .hbm, ⟨12, _⟩ => ⟨S1x32x128, .f32⟩
  | .hbm, ⟨13, _⟩ => ⟨S2x32x128, .f32⟩
  | .hbm, ⟨14, _⟩ => ⟨S_, .f32⟩
  | .hbm, ⟨15, _⟩ => ⟨S2x32x128, .f32⟩
  | .hbm, ⟨16, _⟩ => ⟨S2x32x128, .f32⟩
  | .hbm, ⟨17, _⟩ => ⟨S_, .f32⟩
  | .hbm, ⟨18, _⟩ => ⟨S2x32x128, .f32⟩
  | .hbm, ⟨19, _⟩ => ⟨S2x32x128, .f32⟩
  | .hbm, ⟨20, _⟩ => ⟨S2x32x128, .f32⟩
  | .hbm, ⟨21, _⟩ => ⟨S_, .f32⟩
  | .hbm, ⟨22, _⟩ => ⟨S2x32x128, .f32⟩
  | .hbm, ⟨23, _⟩ => ⟨S2x32x128, .f32⟩
  | .hbm, ⟨24, _⟩ => ⟨S2x32x128, .f32⟩
  | .hbm, ⟨25, _⟩ => ⟨S_, .f32⟩
  | .hbm, ⟨26, _⟩ => ⟨S2x32x128, .f32⟩
  | .hbm, ⟨27, _⟩ => ⟨S2x32x128, .f32⟩
  | .hbm, ⟨28, _⟩ => ⟨S2x32x128, .f32⟩
  | .hbm, ⟨29, _⟩ => ⟨S_, .f32⟩
  | .hbm, ⟨30, _⟩ => ⟨S2x32x128, .f32⟩
  | .hbm, ⟨31, _⟩ => ⟨S2x32x128, .f32⟩
  | .hbm, ⟨32, _⟩ => ⟨S_, .f32⟩
  | .hbm, ⟨33, _⟩ => ⟨S2x32x128, .f32⟩
  | .hbm, ⟨34, _⟩ => ⟨S2x32x128, .f32⟩
  | .hbm, ⟨35, _⟩ => ⟨S2x32x128, .f32⟩
  | .hbm, ⟨36, _⟩ => ⟨S_, .f32⟩
  | .hbm, ⟨37, _⟩ => ⟨S2x32x128, .f32⟩
  | .hbm, ⟨38, _⟩ => ⟨S2x32x128, .f32⟩
  | .hbm, ⟨39, _⟩ => ⟨S2x32x128, .f32⟩
  | .hbm, ⟨40, _⟩ => ⟨S_, .f32⟩
  | .hbm, ⟨41, _⟩ => ⟨S2x32x128, .f32⟩
  | .hbm, ⟨42, _⟩ => ⟨S2x32x128, .f32⟩
  | .hbm, ⟨43, _⟩ => ⟨S2x32x128, .f32⟩
  | .hbm, ⟨44, _⟩ => ⟨S_, .f32⟩
  | .hbm, ⟨45, _⟩ => ⟨S2x32x128, .f32⟩
  | .hbm, ⟨46, _⟩ => ⟨S2x32x128, .f32⟩
  | _, _ => ⟨S4x32x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamPw.lean ====
abbrev S4x1024x256 : Shape := ⟨3, ![4, 1024, 256]⟩
abbrev S2x1024x256 : Shape := ⟨3, ![2, 1024, 256]⟩
abbrev S1x1024x256 : Shape := ⟨3, ![1, 1024, 256]⟩
abbrev S1024x256 : Shape := ⟨2, ![1024, 256]⟩

abbrev nBuf : Space → Nat
  | .hbm => 13
  | .vmem => 22
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | .local _ .vmem, ⟨18, _⟩ => ⟨S1x1024x256, .f32⟩
  | .local _ .vmem, ⟨19, _⟩ => ⟨S1x1024x256, .f32⟩
  | .local _ .vmem, ⟨20, _⟩ => ⟨S1x1024x256, .f32⟩
  | .local _ .vmem, ⟨21, _⟩ => ⟨S1x1024x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x1024x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x1024x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x1024x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x1024x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x1024x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x1024x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x1024x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S1x1024x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S1x1024x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]
-- ==== AdamPwIdeal.lean ====
abbrev S4x1024x256 : Shape := ⟨3, ![4, 1024, 256]⟩
abbrev S2x1024x256 : Shape := ⟨3, ![2, 1024, 256]⟩
abbrev S1x1024x256 : Shape := ⟨3, ![1, 1024, 256]⟩
abbrev S1024x256 : Shape := ⟨2, ![1024, 256]⟩

abbrev nBuf : Space → Nat
  | .hbm => 13
  | .vmem => 22
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | .local _ .vmem, ⟨18, _⟩ => ⟨S1x1024x256, .f32⟩
  | .local _ .vmem, ⟨19, _⟩ => ⟨S1x1024x256, .f32⟩
  | .local _ .vmem, ⟨20, _⟩ => ⟨S1x1024x256, .f32⟩
  | .local _ .vmem, ⟨21, _⟩ => ⟨S1x1024x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x1024x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x1024x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x1024x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x1024x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x1024x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x1024x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x1024x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S1x1024x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S1x1024x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]
-- ==== AdamPwRefIdeal.lean ====
abbrev S4x1024x256 : Shape := ⟨3, ![4, 1024, 256]⟩
abbrev S2x1024x256 : Shape := ⟨3, ![2, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S4x1024x256, .f32⟩
  | .hbm, ⟨6, _⟩ => ⟨S_, .f32⟩
  | .hbm, ⟨7, _⟩ => ⟨S1024x256, .f32⟩
  | .hbm, ⟨8, _⟩ => ⟨S4x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1x1024x256, .f32⟩
  | .hbm, ⟨13, _⟩ => ⟨S2x1024x256, .f32⟩
  | .hbm, ⟨14, _⟩ => ⟨S_, .f32⟩
  | .hbm, ⟨15, _⟩ => ⟨S2x1024x256, .f32⟩
  | .hbm, ⟨16, _⟩ => ⟨S2x1024x256, .f32⟩
  | .hbm, ⟨17, _⟩ => ⟨S_, .f32⟩
  | .hbm, ⟨18, _⟩ => ⟨S2x1024x256, .f32⟩
  | .hbm, ⟨19, _⟩ => ⟨S2x1024x256, .f32⟩
  | .hbm, ⟨20, _⟩ => ⟨S2x1024x256, .f32⟩
  | .hbm, ⟨21, _⟩ => ⟨S_, .f32⟩
  | .hbm, ⟨22, _⟩ => ⟨S2x1024x256, .f32⟩
  | .hbm, ⟨23, _⟩ => ⟨S2x1024x256, .f32⟩
  | .hbm, ⟨24, _⟩ => ⟨S2x1024x256, .f32⟩
  | .hbm, ⟨25, _⟩ => ⟨S_, .f32⟩
  | .hbm, ⟨26, _⟩ => ⟨S2x1024x256, .f32⟩
  | .hbm, ⟨27, _⟩ => ⟨S2x1024x256, .f32⟩
  | .hbm, ⟨28, _⟩ => ⟨S2x1024x256, .f32⟩
  | .hbm, ⟨29, _⟩ => ⟨S_, .f32⟩
  | .hbm, ⟨30, _⟩ => ⟨S2x1024x256, .f32⟩
  | .hbm, ⟨31, _⟩ => ⟨S2x1024x256, .f32⟩
  | .hbm, ⟨32, _⟩ => ⟨S_, .f32⟩
  | .hbm, ⟨33, _⟩ => ⟨S2x1024x256, .f32⟩
  | .hbm, ⟨34, _⟩ => ⟨S2x1024x256, .f32⟩
  | .hbm, ⟨35, _⟩ => ⟨S2x1024x256, .f32⟩
  | .hbm, ⟨36, _⟩ => ⟨S_, .f32⟩
  | .hbm, ⟨37, _⟩ => ⟨S2x1024x256, .f32⟩
  | .hbm, ⟨38, _⟩ => ⟨S2x1024x256, .f32⟩
  | .hbm, ⟨39, _⟩ => ⟨S2x1024x256, .f32⟩
  | .hbm, ⟨40, _⟩ => ⟨S_, .f32⟩
  | .hbm, ⟨41, _⟩ => ⟨S2x1024x256, .f32⟩
  | .hbm, ⟨42, _⟩ => ⟨S2x1024x256, .f32⟩
  | .hbm, ⟨43, _⟩ => ⟨S2x1024x256, .f32⟩
  | .hbm, ⟨44, _⟩ => ⟨S_, .f32⟩
  | .hbm, ⟨45, _⟩ => ⟨S2x1024x256, .f32⟩
  | .hbm, ⟨46, _⟩ => ⟨S2x1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamGlu.lean ====
abbrev S4x1024x512 : Shape := ⟨3, ![4, 1024, 512]⟩
abbrev S2x1024x512 : Shape := ⟨3, ![2, 1024, 512]⟩
abbrev S1x512x512 : Shape := ⟨3, ![1, 512, 512]⟩
abbrev S512x512 : Shape := ⟨2, ![512, 512]⟩

abbrev nBuf : Space → Nat
  | .hbm => 13
  | .vmem => 44
  | .smem => 0
  | _ => 0

abbrev bufTy : (tb : Table) → Fin (tcTables nBuf tb) → BufTy
  | .hbm, ⟨0, _⟩ => ⟨S4x1024x512, .bf16⟩
  | .hbm, ⟨1, _⟩ => ⟨S4x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .f32⟩
  | .local _ .vmem, ⟨31, _⟩ => ⟨S1x512x512, .f32⟩
  | .local _ .vmem, ⟨32, _⟩ => ⟨S1x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | .local _ .vmem, ⟨41, _⟩ => ⟨S1x512x512, .f32⟩
  | .local _ .vmem, ⟨42, _⟩ => ⟨S1x512x512, .f32⟩
  | .local _ .vmem, ⟨43, _⟩ => ⟨S1x512x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamGluIdeal.lean ====
abbrev S4x1024x512 : Shape := ⟨3, ![4, 1024, 512]⟩
abbrev S2x1024x512 : Shape := ⟨3, ![2, 1024, 512]⟩
abbrev S1x512x512 : Shape := ⟨3, ![1, 512, 512]⟩
abbrev S512x512 : Shape := ⟨2, ![512, 512]⟩

abbrev nBuf : Space → Nat
  | .hbm => 13
  | .vmem => 44
  | .smem => 0
  | _ => 0

abbrev bufTy : (tb : Table) → Fin (tcTables nBuf tb) → BufTy
  | .hbm, ⟨0, _⟩ => ⟨S4x1024x512, .bf16⟩
  | .hbm, ⟨1, _⟩ => ⟨S4x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .f32⟩
  | .local _ .vmem, ⟨31, _⟩ => ⟨S1x512x512, .f32⟩
  | .local _ .vmem, ⟨32, _⟩ => ⟨S1x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | .local _ .vmem, ⟨41, _⟩ => ⟨S1x512x512, .f32⟩
  | .local _ .vmem, ⟨42, _⟩ => ⟨S1x512x512, .f32⟩
  | .local _ .vmem, ⟨43, _⟩ => ⟨S1x512x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamGluRefIdeal.lean ====
abbrev S4x1024x512 : Shape := ⟨3, ![4, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S4x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S4x1024x512, .f32⟩
  | .hbm, ⟨6, _⟩ => ⟨S_, .f32⟩
  | .hbm, ⟨7, _⟩ => ⟨S1024x512, .f32⟩
  | .hbm, ⟨8, _⟩ => ⟨S4x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamKv.lean ====
abbrev S4x2048x512 : Shape := ⟨3, ![4, 2048, 512]⟩
abbrev S2x2048x512 : Shape := ⟨3, ![2, 2048, 512]⟩
abbrev S1x512x512 : Shape := ⟨3, ![1, 512, 512]⟩
abbrev S512x512 : Shape := ⟨2, ![512, 512]⟩

abbrev nBuf : Space → Nat
  | .hbm => 13
  | .vmem => 44
  | .smem => 0
  | _ => 0

abbrev bufTy : (tb : Table) → Fin (tcTables nBuf tb) → BufTy
  | .hbm, ⟨0, _⟩ => ⟨S4x2048x512, .bf16⟩
  | .hbm, ⟨1, _⟩ => ⟨S4x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .hbm, ⟨9, _⟩ => ⟨S2x2048x512, .f32⟩
  | .hbm, ⟨10, _⟩ => ⟨S2x2048x512, .f32⟩
  | .hbm, ⟨11, _⟩ => ⟨S2x2048x512, .f32⟩
  | .hbm, ⟨12, _⟩ => ⟨S2x2048x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .f32⟩
  | .local _ .vmem, ⟨31, _⟩ => ⟨S1x512x512, .f32⟩
  | .local _ .vmem, ⟨32, _⟩ => ⟨S1x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | .local _ .vmem, ⟨41, _⟩ => ⟨S1x512x512, .f32⟩
  | .local _ .vmem, ⟨42, _⟩ => ⟨S1x512x512, .f32⟩
  | .local _ .vmem, ⟨43, _⟩ => ⟨S1x512x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamKvIdeal.lean ====
abbrev S4x2048x512 : Shape := ⟨3, ![4, 2048, 512]⟩
abbrev S2x2048x512 : Shape := ⟨3, ![2, 2048, 512]⟩
abbrev S1x512x512 : Shape := ⟨3, ![1, 512, 512]⟩
abbrev S512x512 : Shape := ⟨2, ![512, 512]⟩

abbrev nBuf : Space → Nat
  | .hbm => 13
  | .vmem => 44
  | .smem => 0
  | _ => 0

abbrev bufTy : (tb : Table) → Fin (tcTables nBuf tb) → BufTy
  | .hbm, ⟨0, _⟩ => ⟨S4x2048x512, .bf16⟩
  | .hbm, ⟨1, _⟩ => ⟨S4x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .hbm, ⟨9, _⟩ => ⟨S2x2048x512, .f32⟩
  | .hbm, ⟨10, _⟩ => ⟨S2x2048x512, .f32⟩
  | .hbm, ⟨11, _⟩ => ⟨S2x2048x512, .f32⟩
  | .hbm, ⟨12, _⟩ => ⟨S2x2048x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .f32⟩
  | .local _ .vmem, ⟨31, _⟩ => ⟨S1x512x512, .f32⟩
  | .local _ .vmem, ⟨32, _⟩ => ⟨S1x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | .local _ .vmem, ⟨41, _⟩ => ⟨S1x512x512, .f32⟩
  | .local _ .vmem, ⟨42, _⟩ => ⟨S1x512x512, .f32⟩
  | .local _ .vmem, ⟨43, _⟩ => ⟨S1x512x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamKvRefIdeal.lean ====
abbrev S4x2048x512 : Shape := ⟨3, ![4, 2048, 512]⟩
abbrev S2x2048x512 : Shape := ⟨3, ![2, 2048, 512]⟩
abbrev S_ : Shape := ⟨0, ![]⟩
abbrev S2048x512 : Shape := ⟨2, ![2048, 512]⟩
abbrev S1x2048x512 : Shape := ⟨3, ![1, 2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S4x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S4x2048x512, .f32⟩
  | .hbm, ⟨6, _⟩ => ⟨S_, .f32⟩
  | .hbm, ⟨7, _⟩ => ⟨S2048x512, .f32⟩
  | .hbm, ⟨8, _⟩ => ⟨S4x2048x512, .f32⟩
  | .hbm, ⟨9, _⟩ => ⟨S_, .f32⟩
  | .hbm, ⟨10, _⟩ => ⟨S2048x512, .f32⟩
  | .hbm, ⟨11, _⟩ => ⟨S1x2048x512, .f32⟩
  | .hbm, ⟨12, _⟩ => ⟨S1x2048x512, .f32⟩
  | .hbm, ⟨13, _⟩ => ⟨S2x2048x512, .f32⟩
  | .hbm, ⟨14, _⟩ => ⟨S_, .f32⟩
  | .hbm, ⟨15, _⟩ => ⟨S2x2048x512, .f32⟩
  | .hbm, ⟨16, _⟩ => ⟨S2x2048x512, .f32⟩
  | .hbm, ⟨17, _⟩ => ⟨S_, .f32⟩
  | .hbm, ⟨18, _⟩ => ⟨S2x2048x512, .f32⟩
  | .hbm, ⟨19, _⟩ => ⟨S2x2048x512, .f32⟩
  | .hbm, ⟨20, _⟩ => ⟨S2x2048x512, .f32⟩
  | .hbm, ⟨21, _⟩ => ⟨S_, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S_, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S_, .f32⟩
  | .hbm, ⟨30, _⟩ => ⟨S2x2048x512, .f32⟩
  | .hbm, ⟨31, _⟩ => ⟨S2x2048x512, .f32⟩
  | .hbm, ⟨32, _⟩ => ⟨S_, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S_, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S_, .f32⟩
  | .hbm, ⟨41, _⟩ => ⟨S2x2048x512, .f32⟩
  | .hbm, ⟨42, _⟩ => ⟨S2x2048x512, .f32⟩
  | .hbm, ⟨43, _⟩ => ⟨S2x2048x512, .f32⟩
  | .hbm, ⟨44, _⟩ => ⟨S_, .f32⟩
  | .hbm, ⟨45, _⟩ => ⟨S2x2048x512, .f32⟩
  | .hbm, ⟨46, _⟩ => ⟨S2x2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamUp.lean ====
abbrev S4x2048x1408 : Shape := ⟨3, ![4, 2048, 1408]⟩
abbrev S2x2048x1408 : Shape := ⟨3, ![2, 2048, 1408]⟩
abbrev S1x256x1408 : Shape := ⟨3, ![1, 256, 1408]⟩
abbrev S256x1408 : Shape := ⟨2, ![256, 1408]⟩

abbrev nBuf : Space → Nat
  | .hbm => 13
  | .vmem => 44
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S1x256x1408, .bf16⟩
  | .local _ .vmem, ⟨3, _⟩ => ⟨S1x256x1408, .bf16⟩
  | .local _ .vmem, ⟨4, _⟩ => ⟨S1x256x1408, .bf16⟩
  | .local _ .vmem, ⟨5, _⟩ => ⟨S1x256x1408, .bf16⟩
  | .local _ .vmem, ⟨6, _⟩ => ⟨S1x256x1408, .bf16⟩
  | .local _ .vmem, ⟨7, _⟩ => ⟨S1x256x1408, .bf16⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | .local _ .vmem, ⟨22, _⟩ => ⟨S1x256x1408, .bf16⟩
  | .local _ .vmem, ⟨23, _⟩ => ⟨S1x256x1408, .bf16⟩
  | .local _ .vmem, ⟨24, _⟩ => ⟨S1x256x1408, .bf16⟩
  | .local _ .vmem, ⟨25, _⟩ => ⟨S1x256x1408, .bf16⟩
  | .local _ .vmem, ⟨26, _⟩ => ⟨S1x256x1408, .bf16⟩
  | .local _ .vmem, ⟨27, _⟩ => ⟨S1x256x1408, .bf16⟩
  | .local _ .vmem, ⟨28, _⟩ => ⟨S1x256x1408, .bf16⟩
  | .local _ .vmem, ⟨29, _⟩ => ⟨S1x256x1408, .bf16⟩
  | .local _ .vmem, ⟨30, _⟩ => ⟨S1x256x1408, .f32⟩
  | .local _ .vmem, ⟨31, _⟩ => ⟨S1x256x1408, .f32⟩
  | .local _ .vmem, ⟨32, _⟩ => ⟨S1x256x1408, .f32⟩
  | .local _ .vmem, ⟨33, _⟩ => ⟨S1x256x1408, .f32⟩
  | .local _ .vmem, ⟨34, _⟩ => ⟨S1x256x1408, .f32⟩
  | .local _ .vmem, ⟨35, _⟩ => ⟨S1x256x1408, .f32⟩
  | .local _ .vmem, ⟨36, _⟩ => ⟨S1x256x1408, .f32⟩
  | .local _ .vmem, ⟨37, _⟩ => ⟨S1x256x1408, .f32⟩
  | .local _ .vmem, ⟨38, _⟩ => ⟨S1x256x1408, .f32⟩
  | .local _ .vmem, ⟨39, _⟩ => ⟨S1x256x1408, .f32⟩
  | .local _ .vmem, ⟨40, _⟩ => ⟨S1x256x1408, .f32⟩
  | .local _ .vmem, ⟨41, _⟩ => ⟨S1x256x1408, .f32⟩
  | .local _ .vmem, ⟨42, _⟩ => ⟨S1x256x1408, .f32⟩
  | .local _ .vmem, ⟨43, _⟩ => ⟨S1x256x1408, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x1408 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256x1408 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256x1408 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamUpIdeal.lean ====
abbrev S4x2048x1408 : Shape := ⟨3, ![4, 2048, 1408]⟩
abbrev S2x2048x1408 : Shape := ⟨3, ![2, 2048, 1408]⟩
abbrev S1x256x1408 : Shape := ⟨3, ![1, 256, 1408]⟩
abbrev S256x1408 : Shape := ⟨2, ![256, 1408]⟩

abbrev nBuf : Space → Nat
  | .hbm => 13
  | .vmem => 44
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S1x256x1408, .bf16⟩
  | .local _ .vmem, ⟨3, _⟩ => ⟨S1x256x1408, .bf16⟩
  | .local _ .vmem, ⟨4, _⟩ => ⟨S1x256x1408, .bf16⟩
  | .local _ .vmem, ⟨5, _⟩ => ⟨S1x256x1408, .bf16⟩
  | .local _ .vmem, ⟨6, _⟩ => ⟨S1x256x1408, .bf16⟩
  | .local _ .vmem, ⟨7, _⟩ => ⟨S1x256x1408, .bf16⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | .local _ .vmem, ⟨22, _⟩ => ⟨S1x256x1408, .bf16⟩
  | .local _ .vmem, ⟨23, _⟩ => ⟨S1x256x1408, .bf16⟩
  | .local _ .vmem, ⟨24, _⟩ => ⟨S1x256x1408, .bf16⟩
  | .local _ .vmem, ⟨25, _⟩ => ⟨S1x256x1408, .bf16⟩
  | .local _ .vmem, ⟨26, _⟩ => ⟨S1x256x1408, .bf16⟩
  | .local _ .vmem, ⟨27, _⟩ => ⟨S1x256x1408, .bf16⟩
  | .local _ .vmem, ⟨28, _⟩ => ⟨S1x256x1408, .bf16⟩
  | .local _ .vmem, ⟨29, _⟩ => ⟨S1x256x1408, .bf16⟩
  | .local _ .vmem, ⟨30, _⟩ => ⟨S1x256x1408, .f32⟩
  | .local _ .vmem, ⟨31, _⟩ => ⟨S1x256x1408, .f32⟩
  | .local _ .vmem, ⟨32, _⟩ => ⟨S1x256x1408, .f32⟩
  | .local _ .vmem, ⟨33, _⟩ => ⟨S1x256x1408, .f32⟩
  | .local _ .vmem, ⟨34, _⟩ => ⟨S1x256x1408, .f32⟩
  | .local _ .vmem, ⟨35, _⟩ => ⟨S1x256x1408, .f32⟩
  | .local _ .vmem, ⟨36, _⟩ => ⟨S1x256x1408, .f32⟩
  | .local _ .vmem, ⟨37, _⟩ => ⟨S1x256x1408, .f32⟩
  | .local _ .vmem, ⟨38, _⟩ => ⟨S1x256x1408, .f32⟩
  | .local _ .vmem, ⟨39, _⟩ => ⟨S1x256x1408, .f32⟩
  | .local _ .vmem, ⟨40, _⟩ => ⟨S1x256x1408, .f32⟩
  | .local _ .vmem, ⟨41, _⟩ => ⟨S1x256x1408, .f32⟩
  | .local _ .vmem, ⟨42, _⟩ => ⟨S1x256x1408, .f32⟩
  | .local _ .vmem, ⟨43, _⟩ => ⟨S1x256x1408, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x1408 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256x1408 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256x1408 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamUpRefIdeal.lean ====
abbrev S4x2048x1408 : Shape := ⟨3, ![4, 2048, 1408]⟩
abbrev S2x2048x1408 : Shape := ⟨3, ![2, 2048, 1408]⟩
abbrev S_ : Shape := ⟨0, ![]⟩
abbrev S2048x1408 : Shape := ⟨2, ![2048, 1408]⟩
abbrev S1x2048x1408 : Shape := ⟨3, ![1, 2048, 1408]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S4x2048x1408, .f32⟩
  | .hbm, ⟨6, _⟩ => ⟨S_, .f32⟩
  | .hbm, ⟨7, _⟩ => ⟨S2048x1408, .f32⟩
  | .hbm, ⟨8, _⟩ => ⟨S4x2048x1408, .f32⟩
  | .hbm, ⟨9, _⟩ => ⟨S_, .f32⟩
  | .hbm, ⟨10, _⟩ => ⟨S2048x1408, .f32⟩
  | .hbm, ⟨11, _⟩ => ⟨S1x2048x1408, .f32⟩
  | .hbm, ⟨12, _⟩ => ⟨S1x2048x1408, .f32⟩
  | .hbm, ⟨13, _⟩ => ⟨S2x2048x1408, .f32⟩
  | .hbm, ⟨14, _⟩ => ⟨S_, .f32⟩
  | .hbm, ⟨15, _⟩ => ⟨S2x2048x1408, .f32⟩
  | .hbm, ⟨16, _⟩ => ⟨S2x2048x1408, .f32⟩
  | .hbm, ⟨17, _⟩ => ⟨S_, .f32⟩
  | .hbm, ⟨18, _⟩ => ⟨S2x2048x1408, .f32⟩
  | .hbm, ⟨19, _⟩ => ⟨S2x2048x1408, .f32⟩
  | .hbm, ⟨20, _⟩ => ⟨S2x2048x1408, .f32⟩
  | .hbm, ⟨21, _⟩ => ⟨S_, .f32⟩
  | .hbm, ⟨22, _⟩ => ⟨S2x2048x1408, .f32⟩
  | .hbm, ⟨23, _⟩ => ⟨S2x2048x1408, .f32⟩
  | .hbm, ⟨24, _⟩ => ⟨S2x2048x1408, .f32⟩
  | .hbm, ⟨25, _⟩ => ⟨S_, .f32⟩
  | .hbm, ⟨26, _⟩ => ⟨S2x2048x1408, .f32⟩
  | .hbm, ⟨27, _⟩ => ⟨S2x2048x1408, .f32⟩
  | .hbm, ⟨28, _⟩ => ⟨S2x2048x1408, .f32⟩
  | .hbm, ⟨29, _⟩ => ⟨S_, .f32⟩
  | .hbm, ⟨30, _⟩ => ⟨S2x2048x1408, .f32⟩
  | .hbm, ⟨31, _⟩ => ⟨S2x2048x1408, .f32⟩
  | .hbm, ⟨32, _⟩ => ⟨S_, .f32⟩
  | .hbm, ⟨33, _⟩ => ⟨S2x2048x1408, .f32⟩
  | .hbm, ⟨34, _⟩ => ⟨S2x2048x1408, .f32⟩
  | .hbm, ⟨35, _⟩ => ⟨S2x2048x1408, .f32⟩
  | .hbm, ⟨36, _⟩ => ⟨S_, .f32⟩
  | .hbm, ⟨37, _⟩ => ⟨S2x2048x1408, .f32⟩
  | .hbm, ⟨38, _⟩ => ⟨S2x2048x1408, .f32⟩
  | .hbm, ⟨39, _⟩ => ⟨S2x2048x1408, .f32⟩
  | .hbm, ⟨40, _⟩ => ⟨S_, .f32⟩
  | .hbm, ⟨41, _⟩ => ⟨S2x2048x1408, .f32⟩
  | .hbm, ⟨42, _⟩ => ⟨S2x2048x1408, .f32⟩
  | .hbm, ⟨43, _⟩ => ⟨S2x2048x1408, .f32⟩
  | .hbm, ⟨44, _⟩ => ⟨S_, .f32⟩
  | .hbm, ⟨45, _⟩ => ⟨S2x2048x1408, .f32⟩
  | .hbm, ⟨46, _⟩ => ⟨S2x2048x1408, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamFdw.lean ====
abbrev S4x8x1408 : Shape := ⟨3, ![4, 8, 1408]⟩
abbrev S2x8x1408 : Shape := ⟨3, ![2, 8, 1408]⟩
abbrev S1x8x1408 : Shape := ⟨3, ![1, 8, 1408]⟩
abbrev S8x1408 : Shape := ⟨2, ![8, 1408]⟩

abbrev nBuf : Space → Nat
  | .hbm => 13
  | .vmem => 22
  | .smem => 0
  | _ => 0

abbrev bufTy : (tb : Table) → Fin (tcTables nBuf tb) → BufTy
  | .hbm, ⟨0, _⟩ => ⟨S4x8x1408, .bf16⟩
  | .hbm, ⟨1, _⟩ => ⟨S4x8x1408, .bf16⟩
  | .hbm, ⟨2, _⟩ => ⟨S2x8x1408, .f32⟩
  | .hbm, ⟨3, _⟩ => ⟨S2x8x1408, .f32⟩
  | .hbm, ⟨4, _⟩ => ⟨S2x8x1408, .f32⟩
  | .hbm, ⟨5, _⟩ => ⟨S2x8x1408, .f32⟩
  | .hbm, ⟨6, _⟩ => ⟨S2x8x1408, .f32⟩
  | .hbm, ⟨7, _⟩ => ⟨S2x8x1408, .f32⟩
  | .hbm, ⟨8, _⟩ => ⟨S2x8x1408, .f32⟩
  | .hbm, ⟨9, _⟩ => ⟨S2x8x1408, .f32⟩
  | .hbm, ⟨10, _⟩ => ⟨S2x8x1408, .f32⟩
  | .hbm, ⟨11, _⟩ => ⟨S2x8x1408, .f32⟩
  | .hbm, ⟨12, _⟩ => ⟨S2x8x1408, .f32⟩
  | .local _ .vmem, ⟨0, _⟩ => ⟨S1x8x1408, .bf16⟩
  | .local _ .vmem, ⟨1, _⟩ => ⟨S1x8x1408, .bf16⟩
  | .local _ .vmem, ⟨2, _⟩ => ⟨S1x8x1408, .bf16⟩
  | .local _ .vmem, ⟨3, _⟩ => ⟨S1x8x1408, .bf16⟩
  | .local _ .vmem, ⟨4, _⟩ => ⟨S1x8x1408, .f32⟩
  | .local _ .vmem, ⟨5, _⟩ => ⟨S1x8x1408, .f32⟩
  | .local _ .vmem, ⟨6, _⟩ => ⟨S1x8x1408, .f32⟩
  | .local _ .vmem, ⟨7, _⟩ => ⟨S1x8x1408, .f32⟩
  | .local _ .vmem, ⟨8, _⟩ => ⟨S1x8x1408, .f32⟩
  | .local _ .vmem, ⟨9, _⟩ => ⟨S1x8x1408, .f32⟩
  | .local _ .vmem, ⟨10, _⟩ => ⟨S1x8x1408, .f32⟩
  | .local _ .vmem, ⟨11, _⟩ => ⟨S1x8x1408, .bf16⟩
  | .local _ .vmem, ⟨12, _⟩ => ⟨S1x8x1408, .bf16⟩
  | .local _ .vmem, ⟨13, _⟩ => ⟨S1x8x1408, .bf16⟩
  | .local _ .vmem, ⟨14, _⟩ => ⟨S1x8x1408, .bf16⟩
  | .local _ .vmem, ⟨15, _⟩ => ⟨S1x8x1408, .f32⟩
  | .local _ .vmem, ⟨16, _⟩ => ⟨S1x8x1408, .f32⟩
  | .local _ .vmem, ⟨17, _⟩ => ⟨S1x8x1408, .f32⟩
  | .local _ .vmem, ⟨18, _⟩ => ⟨S1x8x1408, .f32⟩
  | .local _ .vmem, ⟨19, _⟩ => ⟨S1x8x1408, .f32⟩
  | .local _ .vmem, ⟨20, _⟩ => ⟨S1x8x1408, .f32⟩
  | .local _ .vmem, ⟨21, _⟩ => ⟨S1x8x1408, .f32⟩
  | _, _ => ⟨S4x8x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x8x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x8x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x8x1408 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x8x1408 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x8x1408 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x8x1408 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x8x1408 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x8x1408 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x8x1408 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x8x1408 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x8x1408 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x8x1408 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x8x1408 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S1x8x1408 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S1x8x1408 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]
-- ==== AdamFdwIdeal.lean ====
abbrev S4x8x1408 : Shape := ⟨3, ![4, 8, 1408]⟩
abbrev S2x8x1408 : Shape := ⟨3, ![2, 8, 1408]⟩
abbrev S1x8x1408 : Shape := ⟨3, ![1, 8, 1408]⟩
abbrev S8x1408 : Shape := ⟨2, ![8, 1408]⟩

abbrev nBuf : Space → Nat
  | .hbm => 13
  | .vmem => 22
  | .smem => 0
  | _ => 0

abbrev bufTy : (tb : Table) → Fin (tcTables nBuf tb) → BufTy
  | .hbm, ⟨0, _⟩ => ⟨S4x8x1408, .bf16⟩
  | .hbm, ⟨1, _⟩ => ⟨S4x8x1408, .bf16⟩
  | .hbm, ⟨2, _⟩ => ⟨S2x8x1408, .f32⟩
  | .hbm, ⟨3, _⟩ => ⟨S2x8x1408, .f32⟩
  | .hbm, ⟨4, _⟩ => ⟨S2x8x1408, .f32⟩
  | .hbm, ⟨5, _⟩ => ⟨S2x8x1408, .f32⟩
  | .hbm, ⟨6, _⟩ => ⟨S2x8x1408, .f32⟩
  | .hbm, ⟨7, _⟩ => ⟨S2x8x1408, .f32⟩
  | .hbm, ⟨8, _⟩ => ⟨S2x8x1408, .f32⟩
  | .hbm, ⟨9, _⟩ => ⟨S2x8x1408, .f32⟩
  | .hbm, ⟨10, _⟩ => ⟨S2x8x1408, .f32⟩
  | .hbm, ⟨11, _⟩ => ⟨S2x8x1408, .f32⟩
  | .hbm, ⟨12, _⟩ => ⟨S2x8x1408, .f32⟩
  | .local _ .vmem, ⟨0, _⟩ => ⟨S1x8x1408, .bf16⟩
  | .local _ .vmem, ⟨1, _⟩ => ⟨S1x8x1408, .bf16⟩
  | .local _ .vmem, ⟨2, _⟩ => ⟨S1x8x1408, .bf16⟩
  | .local _ .vmem, ⟨3, _⟩ => ⟨S1x8x1408, .bf16⟩
  | .local _ .vmem, ⟨4, _⟩ => ⟨S1x8x1408, .f32⟩
  | .local _ .vmem, ⟨5, _⟩ => ⟨S1x8x1408, .f32⟩
  | .local _ .vmem, ⟨6, _⟩ => ⟨S1x8x1408, .f32⟩
  | .local _ .vmem, ⟨7, _⟩ => ⟨S1x8x1408, .f32⟩
  | .local _ .vmem, ⟨8, _⟩ => ⟨S1x8x1408, .f32⟩
  | .local _ .vmem, ⟨9, _⟩ => ⟨S1x8x1408, .f32⟩
  | .local _ .vmem, ⟨10, _⟩ => ⟨S1x8x1408, .f32⟩
  | .local _ .vmem, ⟨11, _⟩ => ⟨S1x8x1408, .bf16⟩
  | .local _ .vmem, ⟨12, _⟩ => ⟨S1x8x1408, .bf16⟩
  | .local _ .vmem, ⟨13, _⟩ => ⟨S1x8x1408, .bf16⟩
  | .local _ .vmem, ⟨14, _⟩ => ⟨S1x8x1408, .bf16⟩
  | .local _ .vmem, ⟨15, _⟩ => ⟨S1x8x1408, .f32⟩
  | .local _ .vmem, ⟨16, _⟩ => ⟨S1x8x1408, .f32⟩
  | .local _ .vmem, ⟨17, _⟩ => ⟨S1x8x1408, .f32⟩
  | .local _ .vmem, ⟨18, _⟩ => ⟨S1x8x1408, .f32⟩
  | .local _ .vmem, ⟨19, _⟩ => ⟨S1x8x1408, .f32⟩
  | .local _ .vmem, ⟨20, _⟩ => ⟨S1x8x1408, .f32⟩
  | .local _ .vmem, ⟨21, _⟩ => ⟨S1x8x1408, .f32⟩
  | _, _ => ⟨S4x8x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x8x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x8x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x8x1408 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x8x1408 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x8x1408 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x8x1408 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x8x1408 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x8x1408 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x8x1408 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x8x1408 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x8x1408 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x8x1408 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x8x1408 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S1x8x1408 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S1x8x1408 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]
-- ==== AdamFdwRefIdeal.lean ====
abbrev S4x8x1408 : Shape := ⟨3, ![4, 8, 1408]⟩
abbrev S2x8x1408 : Shape := ⟨3, ![2, 8, 1408]⟩
abbrev S_ : Shape := ⟨0, ![]⟩
abbrev S8x1408 : Shape := ⟨2, ![8, 1408]⟩
abbrev S1x8x1408 : Shape := ⟨3, ![1, 8, 1408]⟩

abbrev nBuf : Space → Nat
  | .hbm => 47
  | .vmem => 0
  | .smem => 0
  | _ => 0

abbrev bufTy : (tb : Table) → Fin (tcTables nBuf tb) → BufTy
  | .hbm, ⟨0, _⟩ => ⟨S4x8x1408, .bf16⟩
  | .hbm, ⟨1, _⟩ => ⟨S4x8x1408, .bf16⟩
  | .hbm, ⟨2, _⟩ => ⟨S2x8x1408, .f32⟩
  | .hbm, ⟨3, _⟩ => ⟨S2x8x1408, .f32⟩
  | .hbm, ⟨4, _⟩ => ⟨S2x8x1408, .f32⟩
  | .hbm, ⟨5, _⟩ => ⟨S4x8x1408, .f32⟩
  | .hbm, ⟨6, _⟩ => ⟨S_, .f32⟩
  | .hbm, ⟨7, _⟩ => ⟨S8x1408, .f32⟩
  | .hbm, ⟨8, _⟩ => ⟨S4x8x1408, .f32⟩
  | .hbm, ⟨9, _⟩ => ⟨S_, .f32⟩
  | .hbm, ⟨10, _⟩ => ⟨S8x1408, .f32⟩
  | .hbm, ⟨11, _⟩ => ⟨S1x8x1408, .f32⟩
  | .hbm, ⟨12, _⟩ => ⟨S1x8x1408, .f32⟩
  | .hbm, ⟨13, _⟩ => ⟨S2x8x1408, .f32⟩
  | .hbm, ⟨14, _⟩ => ⟨S_, .f32⟩
  | .hbm, ⟨15, _⟩ => ⟨S2x8x1408, .f32⟩
  | .hbm, ⟨16, _⟩ => ⟨S2x8x1408, .f32⟩
  | .hbm, ⟨17, _⟩ => ⟨S_, .f32⟩
  | .hbm, ⟨18, _⟩ => ⟨S2x8x1408, .f32⟩
  | .hbm, ⟨19, _⟩ => ⟨S2x8x1408, .f32⟩
  | .hbm, ⟨20, _⟩ => ⟨S2x8x1408, .f32⟩
  | .hbm, ⟨21, _⟩ => ⟨S_, .f32⟩
  | .hbm, ⟨22, _⟩ => ⟨S2x8x1408, .f32⟩
  | .hbm, ⟨23, _⟩ => ⟨S2x8x1408, .f32⟩
  | .hbm, ⟨24, _⟩ => ⟨S2x8x1408, .f32⟩
  | .hbm, ⟨25, _⟩ => ⟨S_, .f32⟩
  | .hbm, ⟨26, _⟩ => ⟨S2x8x1408, .f32⟩
  | .hbm, ⟨27, _⟩ => ⟨S2x8x1408, .f32⟩
  | .hbm, ⟨28, _⟩ => ⟨S2x8x1408, .f32⟩
  | .hbm, ⟨29, _⟩ => ⟨S_, .f32⟩
  | .hbm, ⟨30, _⟩ => ⟨S2x8x1408, .f32⟩
  | .hbm, ⟨31, _⟩ => ⟨S2x8x1408, .f32⟩
  | .hbm, ⟨32, _⟩ => ⟨S_, .f32⟩
  | .hbm, ⟨33, _⟩ => ⟨S2x8x1408, .f32⟩
  | .hbm, ⟨34, _⟩ => ⟨S2x8x1408, .f32⟩
  | .hbm, ⟨35, _⟩ => ⟨S2x8x1408, .f32⟩
  | .hbm, ⟨36, _⟩ => ⟨S_, .f32⟩
  | .hbm, ⟨37, _⟩ => ⟨S2x8x1408, .f32⟩
  | .hbm, ⟨38, _⟩ => ⟨S2x8x1408, .f32⟩
  | .hbm, ⟨39, _⟩ => ⟨S2x8x1408, .f32⟩
  | .hbm, ⟨40, _⟩ => ⟨S_, .f32⟩
  | .hbm, ⟨41, _⟩ => ⟨S2x8x1408, .f32⟩
  | .hbm, ⟨42, _⟩ => ⟨S2x8x1408, .f32⟩
  | .hbm, ⟨43, _⟩ => ⟨S2x8x1408, .f32⟩
  | .hbm, ⟨44, _⟩ => ⟨S_, .f32⟩
  | .hbm, ⟨45, _⟩ => ⟨S2x8x1408, .f32⟩
  | .hbm, ⟨46, _⟩ => ⟨S2x8x1408, .f32⟩
  | _, _ => ⟨S4x8x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamOut.lean ====
abbrev S4x256x2048 : Shape := ⟨3, ![4, 256, 2048]⟩
abbrev S2x256x2048 : Shape := ⟨3, ![2, 256, 2048]⟩
abbrev S1x128x2048 : Shape := ⟨3, ![1, 128, 2048]⟩
abbrev S128x2048 : Shape := ⟨2, ![128, 2048]⟩

abbrev nBuf : Space → Nat
  | .hbm => 13
  | .vmem => 44
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .bf16⟩
  | .local _ .vmem, ⟨23, _⟩ => ⟨S1x128x2048, .bf16⟩
  | .local _ .vmem, ⟨24, _⟩ => ⟨S1x128x2048, .bf16⟩
  | .local _ .vmem, ⟨25, _⟩ => ⟨S1x128x2048, .bf16⟩
  | .local _ .vmem, ⟨26, _⟩ => ⟨S1x128x2048, .bf16⟩
  | .local _ .vmem, ⟨27, _⟩ => ⟨S1x128x2048, .bf16⟩
  | .local _ .vmem, ⟨28, _⟩ => ⟨S1x128x2048, .bf16⟩
  | .local _ .vmem, ⟨29, _⟩ => ⟨S1x128x2048, .bf16⟩
  | .local _ .vmem, ⟨30, _⟩ => ⟨S1x128x2048, .f32⟩
  | .local _ .vmem, ⟨31, _⟩ => ⟨S1x128x2048, .f32⟩
  | .local _ .vmem, ⟨32, _⟩ => ⟨S1x128x2048, .f32⟩
  | .local _ .vmem, ⟨33, _⟩ => ⟨S1x128x2048, .f32⟩
  | .local _ .vmem, ⟨34, _⟩ => ⟨S1x128x2048, .f32⟩
  | .local _ .vmem, ⟨35, _⟩ => ⟨S1x128x2048, .f32⟩
  | .local _ .vmem, ⟨36, _⟩ => ⟨S1x128x2048, .f32⟩
  | .local _ .vmem, ⟨37, _⟩ => ⟨S1x128x2048, .f32⟩
  | .local _ .vmem, ⟨38, _⟩ => ⟨S1x128x2048, .f32⟩
  | .local _ .vmem, ⟨39, _⟩ => ⟨S1x128x2048, .f32⟩
  | .local _ .vmem, ⟨40, _⟩ => ⟨S1x128x2048, .f32⟩
  | .local _ .vmem, ⟨41, _⟩ => ⟨S1x128x2048, .f32⟩
  | .local _ .vmem, ⟨42, _⟩ => ⟨S1x128x2048, .f32⟩
  | .local _ .vmem, ⟨43, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x128x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamOutIdeal.lean ====
abbrev S4x256x2048 : Shape := ⟨3, ![4, 256, 2048]⟩
abbrev S2x256x2048 : Shape := ⟨3, ![2, 256, 2048]⟩
abbrev S1x128x2048 : Shape := ⟨3, ![1, 128, 2048]⟩
abbrev S128x2048 : Shape := ⟨2, ![128, 2048]⟩

abbrev nBuf : Space → Nat
  | .hbm => 13
  | .vmem => 44
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .bf16⟩
  | .local _ .vmem, ⟨23, _⟩ => ⟨S1x128x2048, .bf16⟩
  | .local _ .vmem, ⟨24, _⟩ => ⟨S1x128x2048, .bf16⟩
  | .local _ .vmem, ⟨25, _⟩ => ⟨S1x128x2048, .bf16⟩
  | .local _ .vmem, ⟨26, _⟩ => ⟨S1x128x2048, .bf16⟩
  | .local _ .vmem, ⟨27, _⟩ => ⟨S1x128x2048, .bf16⟩
  | .local _ .vmem, ⟨28, _⟩ => ⟨S1x128x2048, .bf16⟩
  | .local _ .vmem, ⟨29, _⟩ => ⟨S1x128x2048, .bf16⟩
  | .local _ .vmem, ⟨30, _⟩ => ⟨S1x128x2048, .f32⟩
  | .local _ .vmem, ⟨31, _⟩ => ⟨S1x128x2048, .f32⟩
  | .local _ .vmem, ⟨32, _⟩ => ⟨S1x128x2048, .f32⟩
  | .local _ .vmem, ⟨33, _⟩ => ⟨S1x128x2048, .f32⟩
  | .local _ .vmem, ⟨34, _⟩ => ⟨S1x128x2048, .f32⟩
  | .local _ .vmem, ⟨35, _⟩ => ⟨S1x128x2048, .f32⟩
  | .local _ .vmem, ⟨36, _⟩ => ⟨S1x128x2048, .f32⟩
  | .local _ .vmem, ⟨37, _⟩ => ⟨S1x128x2048, .f32⟩
  | .local _ .vmem, ⟨38, _⟩ => ⟨S1x128x2048, .f32⟩
  | .local _ .vmem, ⟨39, _⟩ => ⟨S1x128x2048, .f32⟩
  | .local _ .vmem, ⟨40, _⟩ => ⟨S1x128x2048, .f32⟩
  | .local _ .vmem, ⟨41, _⟩ => ⟨S1x128x2048, .f32⟩
  | .local _ .vmem, ⟨42, _⟩ => ⟨S1x128x2048, .f32⟩
  | .local _ .vmem, ⟨43, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x128x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamOutRefIdeal.lean ====
abbrev S4x256x2048 : Shape := ⟨3, ![4, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S4x256x2048, .f32⟩
  | .hbm, ⟨6, _⟩ => ⟨S_, .f32⟩
  | .hbm, ⟨7, _⟩ => ⟨S256x2048, .f32⟩
  | .hbm, ⟨8, _⟩ => ⟨S4x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamDown.lean ====
abbrev S4x704x2048 : Shape := ⟨3, ![4, 704, 2048]⟩
abbrev S2x704x2048 : Shape := ⟨3, ![2, 704, 2048]⟩
abbrev S1x64x2048 : Shape := ⟨3, ![1, 64, 2048]⟩
abbrev S64x2048 : Shape := ⟨2, ![64, 2048]⟩

abbrev nBuf : Space → Nat
  | .hbm => 13
  | .vmem => 44
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x64x2048, .bf16⟩
  | .local _ .vmem, ⟨5, _⟩ => ⟨S1x64x2048, .bf16⟩
  | .local _ .vmem, ⟨6, _⟩ => ⟨S1x64x2048, .bf16⟩
  | .local _ .vmem, ⟨7, _⟩ => ⟨S1x64x2048, .bf16⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S1x64x2048, .bf16⟩
  | .local _ .vmem, ⟨23, _⟩ => ⟨S1x64x2048, .bf16⟩
  | .local _ .vmem, ⟨24, _⟩ => ⟨S1x64x2048, .bf16⟩
  | .local _ .vmem, ⟨25, _⟩ => ⟨S1x64x2048, .bf16⟩
  | .local _ .vmem, ⟨26, _⟩ => ⟨S1x64x2048, .bf16⟩
  | .local _ .vmem, ⟨27, _⟩ => ⟨S1x64x2048, .bf16⟩
  | .local _ .vmem, ⟨28, _⟩ => ⟨S1x64x2048, .bf16⟩
  | .local _ .vmem, ⟨29, _⟩ => ⟨S1x64x2048, .bf16⟩
  | .local _ .vmem, ⟨30, _⟩ => ⟨S1x64x2048, .f32⟩
  | .local _ .vmem, ⟨31, _⟩ => ⟨S1x64x2048, .f32⟩
  | .local _ .vmem, ⟨32, _⟩ => ⟨S1x64x2048, .f32⟩
  | .local _ .vmem, ⟨33, _⟩ => ⟨S1x64x2048, .f32⟩
  | .local _ .vmem, ⟨34, _⟩ => ⟨S1x64x2048, .f32⟩
  | .local _ .vmem, ⟨35, _⟩ => ⟨S1x64x2048, .f32⟩
  | .local _ .vmem, ⟨36, _⟩ => ⟨S1x64x2048, .f32⟩
  | .local _ .vmem, ⟨37, _⟩ => ⟨S1x64x2048, .f32⟩
  | .local _ .vmem, ⟨38, _⟩ => ⟨S1x64x2048, .f32⟩
  | .local _ .vmem, ⟨39, _⟩ => ⟨S1x64x2048, .f32⟩
  | .local _ .vmem, ⟨40, _⟩ => ⟨S1x64x2048, .f32⟩
  | .local _ .vmem, ⟨41, _⟩ => ⟨S1x64x2048, .f32⟩
  | .local _ .vmem, ⟨42, _⟩ => ⟨S1x64x2048, .f32⟩
  | .local _ .vmem, ⟨43, _⟩ => ⟨S1x64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![11], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x64x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x64x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x64x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AdamDownRefIdeal.lean ====
abbrev S4x704x2048 : Shape := ⟨3, ![4, 704, 2048]⟩
abbrev S2x704x2048 : Shape := ⟨3, ![2, 704, 2048]⟩
abbrev S_ : Shape := ⟨0, ![]⟩
abbrev S704x2048 : Shape := ⟨2, ![704, 2048]⟩
abbrev S1x704x2048 : Shape := ⟨3, ![1, 704, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S4x704x2048, .f32⟩
  | .hbm, ⟨6, _⟩ => ⟨S_, .f32⟩
  | .hbm, ⟨7, _⟩ => ⟨S704x2048, .f32⟩
  | .hbm, ⟨8, _⟩ => ⟨S4x704x2048, .f32⟩
  | .hbm, ⟨9, _⟩ => ⟨S_, .f32⟩
  | .hbm, ⟨10, _⟩ => ⟨S704x2048, .f32⟩
  | .hbm, ⟨11, _⟩ => ⟨S1x704x2048, .f32⟩
  | .hbm, ⟨12, _⟩ => ⟨S1x704x2048, .f32⟩
  | .hbm, ⟨13, _⟩ => ⟨S2x704x2048, .f32⟩
  | .hbm, ⟨14, _⟩ => ⟨S_, .f32⟩
  | .hbm, ⟨15, _⟩ => ⟨S2x704x2048, .f32⟩
  | .hbm, ⟨16, _⟩ => ⟨S2x704x2048, .f32⟩
  | .hbm, ⟨17, _⟩ => ⟨S_, .f32⟩
  | .hbm, ⟨18, _⟩ => ⟨S2x704x2048, .f32⟩
  | .hbm, ⟨19, _⟩ => ⟨S2x704x2048, .f32⟩
  | .hbm, ⟨20, _⟩ => ⟨S2x704x2048, .f32⟩
  | .hbm, ⟨21, _⟩ => ⟨S_, .f32⟩
  | .hbm, ⟨22, _⟩ => ⟨S2x704x2048, .f32⟩
  | .hbm, ⟨23, _⟩ => ⟨S2x704x2048, .f32⟩
  | .hbm, ⟨24, _⟩ => ⟨S2x704x2048, .f32⟩
  | .hbm, ⟨25, _⟩ => ⟨S_, .f32⟩
  | .hbm, ⟨26, _⟩ => ⟨S2x704x2048, .f32⟩
  | .hbm, ⟨27, _⟩ => ⟨S2x704x2048, .f32⟩
  | .hbm, ⟨28, _⟩ => ⟨S2x704x2048, .f32⟩
  | .hbm, ⟨29, _⟩ => ⟨S_, .f32⟩
  | .hbm, ⟨30, _⟩ => ⟨S2x704x2048, .f32⟩
  | .hbm, ⟨31, _⟩ => ⟨S2x704x2048, .f32⟩
  | .hbm, ⟨32, _⟩ => ⟨S_, .f32⟩
  | .hbm, ⟨33, _⟩ => ⟨S2x704x2048, .f32⟩
  | .hbm, ⟨34, _⟩ => ⟨S2x704x2048, .f32⟩
  | .hbm, ⟨35, _⟩ => ⟨S2x704x2048, .f32⟩
  | .hbm, ⟨36, _⟩ => ⟨S_, .f32⟩
  | .hbm, ⟨37, _⟩ => ⟨S2x704x2048, .f32⟩
  | .hbm, ⟨38, _⟩ => ⟨S2x704x2048, .f32⟩
  | .hbm, ⟨39, _⟩ => ⟨S2x704x2048, .f32⟩
  | .hbm, ⟨40, _⟩ => ⟨S_, .f32⟩
  | .hbm, ⟨41, _⟩ => ⟨S2x704x2048, .f32⟩
  | .hbm, ⟨42, _⟩ => ⟨S2x704x2048, .f32⟩
  | .hbm, ⟨43, _⟩ => ⟨S2x704x2048, .f32⟩
  | .hbm, ⟨44, _⟩ => ⟨S_, .f32⟩
  | .hbm, ⟨45, _⟩ => ⟨S2x704x2048, .f32⟩
  | .hbm, ⟨46, _⟩ => ⟨S2x704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Post.lean ====
abbrev S4096x1024 : Shape := ⟨2, ![4096, 1024]⟩
abbrev S2x1024 : Shape := ⟨2, ![2, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S256x1024, .bf16⟩
  | .local _ .vmem, ⟨6, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PostRefIdeal.lean ====
abbrev S4096x1024 : Shape := ⟨2, ![4096, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Mix.lean ====
abbrev S4096x7168 : Shape := ⟨2, ![4096, 7168]⟩
abbrev S4096x2048 : Shape := ⟨2, ![4096, 2048]⟩
abbrev S4096x4096 : Shape := ⟨2, ![4096, 4096]⟩
abbrev S256x1024 : Shape := ⟨2, ![256, 1024]⟩

abbrev nBuf : Space → Nat
  | .hbm => 4
  | .vmem => 12
  | .smem => 0
  | _ => 0

abbrev bufTy : (tb : Table) → Fin (tcTables nBuf tb) → BufTy
  | .hbm, ⟨0, _⟩ => ⟨S4096x7168, .f32⟩
  | .hbm, ⟨1, _⟩ => ⟨S4096x2048, .f32⟩
  | .hbm, ⟨2, _⟩ => ⟨S4096x4096, .f32⟩
  | .hbm, ⟨3, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let v1 : BitVec 32 := Scalar.addi c3_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c5_i32 : BitVec 32 := 5#32
  let v1 : BitVec 32 := Scalar.addi c5_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let v1 : BitVec 32 := Scalar.addi c2_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixRefIdeal.lean ====
abbrev S4096x7168 : Shape := ⟨2, ![4096, 7168]⟩
abbrev S4096x2048 : Shape := ⟨2, ![4096, 2048]⟩
abbrev S4096x4096 : Shape := ⟨2, ![4096, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x2048, .f32⟩
  | .hbm, ⟨2, _⟩ => ⟨S4096x4096, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== AttnFwd.lean ====
abbrev S4096x2048 : Shape := ⟨2, ![4096, 2048]⟩
abbrev S256x4096 : Shape := ⟨2, ![256, 4096]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S256x4096, .bf16⟩
  | .hbm, ⟨2, _⟩ => ⟨S4096x2048, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFwdRefIdeal.lean ====
abbrev S4096x2048 : Shape := ⟨2, ![4096, 2048]⟩
abbrev S256x4096 : Shape := ⟨2, ![256, 4096]⟩
abbrev S256x2048 : Shape := ⟨2, ![256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x4096, .bf16⟩
  | .hbm, ⟨2, _⟩ => ⟨S4096x2048, .f32⟩
  | .hbm, ⟨3, _⟩ => ⟨S256x4096, .f32⟩
  | .hbm, ⟨4, _⟩ => ⟨S256x2048, .f32⟩
  | .hbm, ⟨5, _⟩ => ⟨S256x2048, .f32⟩
  | .hbm, ⟨6, _⟩ => ⟨S4096x4x512, .f32⟩
  | .hbm, ⟨7, _⟩ => ⟨S256x4x512, .f32⟩
  | .hbm, ⟨8, _⟩ => ⟨S256x4x512, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x512x4096, .f32⟩
  | .hbm, ⟨28, _⟩ => ⟨S4096x4x512, .f32⟩
  | .hbm, ⟨29, _⟩ => ⟨S4096x2048, .f32⟩
  | .hbm, ⟨30, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== MixBwd.lean ====
abbrev S4096x7168 : Shape := ⟨2, ![4096, 7168]⟩
abbrev S4096x2048 : Shape := ⟨2, ![4096, 2048]⟩
abbrev S4096x4096 : Shape := ⟨2, ![4096, 4096]⟩
abbrev S256x1024 : Shape := ⟨2, ![256, 1024]⟩

abbrev nBuf : Space → Nat
  | .hbm => 9
  | .vmem => 22
  | .smem => 0
  | _ => 0

abbrev bufTy : (tb : Table) → Fin (tcTables nBuf tb) → BufTy
  | .hbm, ⟨0, _⟩ => ⟨S4096x7168, .f32⟩
  | .hbm, ⟨1, _⟩ => ⟨S4096x2048, .f32⟩
  | .hbm, ⟨2, _⟩ => ⟨S4096x4096, .f32⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let v1 : BitVec 32 := Scalar.addi c3_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c5_i32 : BitVec 32 := 5#32
  let v1 : BitVec 32 := Scalar.addi c5_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let v1 : BitVec 32 := Scalar.addi c2_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixBwdRefIdeal.lean ====
abbrev S4096x7168 : Shape := ⟨2, ![4096, 7168]⟩
abbrev S4096x2048 : Shape := ⟨2, ![4096, 2048]⟩
abbrev S4096x4096 : Shape := ⟨2, ![4096, 4096]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x2048, .f32⟩
  | .hbm, ⟨2, _⟩ => ⟨S4096x4096, .f32⟩
  | .hbm, ⟨3, _⟩ => ⟨S4096x2048, .bf16⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x4096, .f32⟩
  | .hbm, ⟨43, _⟩ => ⟨S4096x4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x4096, .f32⟩
  | .hbm, ⟨48, _⟩ => ⟨S4096x2048, .f32⟩
  | .hbm, ⟨49, _⟩ => ⟨S4096x2048, .bf16⟩
  | .hbm, ⟨50, _⟩ => ⟨S4096x2048, .f32⟩
  | .hbm, ⟨51, _⟩ => ⟨S4096x2048, .bf16⟩
  | .hbm, ⟨52, _⟩ => ⟨S4096x2048, .bf16⟩
  | .hbm, ⟨53, _⟩ => ⟨S4096x2048, .f32⟩
  | .hbm, ⟨54, _⟩ => ⟨S4096x2048, .bf16⟩
  | .hbm, ⟨55, _⟩ => ⟨S4096x2048, .f32⟩
  | .hbm, ⟨56, _⟩ => ⟨S4096x2048, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== MemBwd.lean ====
abbrev S256x2048 : Shape := ⟨2, ![256, 2048]⟩
abbrev S2x2048 : Shape := ⟨2, ![2, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 4
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2x2048, .f32⟩
  | .hbm, ⟨2, _⟩ => ⟨S256x2048, .bf16⟩
  | .hbm, ⟨3, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S2x2048, .f32⟩
  | .local _ .vmem, ⟨5, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_7 : BitVec 32 := 0#32
  let v20 : BitVec 1 := Scalar.cmpi .ne v19 c0_i32_7
  v20

def k0_cond2 (i : grid0.Coords) : BitVec 1 :=
  let arg1 : BitVec 32 := BitVec.ofNat 32 (i 1).val
  let c0_i32 : BitVec 32 := 0#32
  let v18 : BitVec 1 := Scalar.cmpi .eq arg1 c0_i32
  let v_true : BitVec 1 := 1#1
  let v21 : BitVec 1 := Scalar.xori v18 v_true
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== MemBwdRefIdeal.lean ====
abbrev S256x2048 : Shape := ⟨2, ![256, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2x2048, .f32⟩
  | .hbm, ⟨2, _⟩ => ⟨S256x2048, .bf16⟩
  | .hbm, ⟨3, _⟩ => ⟨S1x2048, .f32⟩
  | .hbm, ⟨4, _⟩ => ⟨S2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S1x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S_, .f32⟩
  | .hbm, ⟨27, _⟩ => ⟨S2048, .f32⟩
  | .hbm, ⟨28, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== PostBwd.lean ====
abbrev S4096x1024 : Shape := ⟨2, ![4096, 1024]⟩
abbrev S2x1024 : Shape := ⟨2, ![2, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S4096x1024, .bf16⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v93 : BitVec 1 := Scalar.cmpi .eq arg1 c0_i32
  let v94 : BitVec 32 := Scalar.extui v93
  let c0_i32_36 : BitVec 32 := 0#32
  let v95 : BitVec 1 := Scalar.cmpi .ne v94 c0_i32_36
  v95

def k0_cond2 (i : grid0.Coords) : BitVec 1 :=
  let arg1 : BitVec 32 := BitVec.ofNat 32 (i 1).val
  let c0_i32 : BitVec 32 := 0#32
  let v93 : BitVec 1 := Scalar.cmpi .eq arg1 c0_i32
  let v_true : BitVec 1 := 1#1
  let v96 : BitVec 1 := Scalar.xori v93 v_true
  let v97 : BitVec 32 := Scalar.extui v96
  let c0_i32_37 : BitVec 32 := 0#32
  let v98 : BitVec 1 := Scalar.cmpi .ne v97 c0_i32_37
  v98

def k0_cond3 (i : grid0.Coords) : BitVec 1 :=
  let arg1 : BitVec 32 := BitVec.ofNat 32 (i 1).val
  let c0_i32 : BitVec 32 := 0#32
  let v93 : BitVec 1 := Scalar.cmpi .eq arg1 c0_i32
  let v99 : BitVec 32 := Scalar.extui v93
  let c0_i32_38 : BitVec 32 := 0#32
  let v100 : BitVec 1 := Scalar.cmpi .ne v99 c0_i32_38
  v100

def k0_cond4 (i : grid0.Coords) : BitVec 1 :=
  let arg1 : BitVec 32 := BitVec.ofNat 32 (i 1).val
  let c0_i32 : BitVec 32 := 0#32
  let v93 : BitVec 1 := Scalar.cmpi .eq arg1 c0_i32
  let true_39 : BitVec 1 := 1#1
  let v101 : BitVec 1 := Scalar.xori v93 true_39
  let v102 : BitVec 32 := Scalar.extui v101
  let c0_i32_40 : BitVec 32 := 0#32
  let v103 : BitVec 1 := Scalar.cmpi .ne v102 c0_i32_40
  v103

def k0_cond5 (i : grid0.Coords) : BitVec 1 :=
  let arg1 : BitVec 32 := BitVec.ofNat 32 (i 1).val
  let c0_i32 : BitVec 32 := 0#32
  let v93 : BitVec 1 := Scalar.cmpi .eq arg1 c0_i32
  let v104 : BitVec 32 := Scalar.extui v93
  let c0_i32_41 : BitVec 32 := 0#32
  let v105 : BitVec 1 := Scalar.cmpi .ne v104 c0_i32_41
  v105

def k0_cond6 (i : grid0.Coords) : BitVec 1 :=
  let arg1 : BitVec 32 := BitVec.ofNat 32 (i 1).val
  let c0_i32 : BitVec 32 := 0#32
  let v93 : BitVec 1 := Scalar.cmpi .eq arg1 c0_i32
  let true_42 : BitVec 1 := 1#1
  let v106 : BitVec 1 := Scalar.xori v93 true_42
  let v107 : BitVec 32 := Scalar.extui v106
  let c0_i32_43 : BitVec 32 := 0#32
  let v108 : BitVec 1 := Scalar.cmpi .ne v107 c0_i32_43
  v108

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== PostBwdRefIdeal.lean ====
abbrev S4096x1024 : Shape := ⟨2, ![4096, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S4096x1024, .bf16⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S_, .f32⟩
  | .hbm, ⟨108, _⟩ => ⟨S1024, .f32⟩
  | .hbm, ⟨109, _⟩ => ⟨S1x1024, .f32⟩
  | .hbm, ⟨110, _⟩ => ⟨S1x1024, .f32⟩
  | .hbm, ⟨111, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v34_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v34_1 : Ref sig .tc := ⟨.hbm, 56, rfl⟩
abbrev main_v34_0 : Ref sig .tc := ⟨.hbm, 57, rfl⟩
abbrev main_v35 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S8x128 : Shape := ⟨2, ![8, 128]⟩
abbrev S128x2048 : Shape := ⟨2, ![128, 2048]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S8x128, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .bf16⟩
  | .local _ .vmem, ⟨8, _⟩ => ⟨S128x2048, .bf16⟩
  | .local _ .vmem, ⟨9, _⟩ => ⟨S8x128, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![1, 32], ![false, false]⟩

def k0_cond1 (i : grid0.Coords) : BitVec 1 :=
  let arg1 : BitVec 32 := BitVec.ofNat 32 (i 1).val
  let c0_i32 : BitVec 32 := 0#32
  let v65 : BitVec 1 := Scalar.cmpi .eq arg1 c0_i32
  let v66 : BitVec 32 := Scalar.extui v65
  let c0_i32_25 : BitVec 32 := 0#32
  let v67 : BitVec 1 := Scalar.cmpi .ne v66 c0_i32_25
  v67

def k0_cond2 (i : grid0.Coords) : BitVec 1 :=
  let arg1 : BitVec 32 := BitVec.ofNat 32 (i 1).val
  let c0_i32 : BitVec 32 := 0#32
  let v65 : BitVec 1 := Scalar.cmpi .eq arg1 c0_i32
  let v_true : BitVec 1 := 1#1
  let v68 : BitVec 1 := Scalar.xori v65 v_true
  let v69 : BitVec 32 := Scalar.extui v68
  let c0_i32_26 : BitVec 32 := 0#32
  let v70 : BitVec 1 := Scalar.cmpi .ne v69 c0_i32_26
  v70

def k0_cond3 (i : grid0.Coords) : BitVec 1 :=
  let arg1 : BitVec 32 := BitVec.ofNat 32 (i 1).val
  let c0_i32 : BitVec 32 := 0#32
  let v65 : BitVec 1 := Scalar.cmpi .eq arg1 c0_i32
  let v71 : BitVec 32 := Scalar.extui v65
  let c0_i32_27 : BitVec 32 := 0#32
  let v72 : BitVec 1 := Scalar.cmpi .ne v71 c0_i32_27
  v72

def k0_cond4 (i : grid0.Coords) : BitVec 1 :=
  let arg1 : BitVec 32 := BitVec.ofNat 32 (i 1).val
  let c0_i32 : BitVec 32 := 0#32
  let v65 : BitVec 1 := Scalar.cmpi .eq arg1 c0_i32
  let true_28 : BitVec 1 := 1#1
  let v73 : BitVec 1 := Scalar.xori v65 true_28
  let v74 : BitVec 32 := Scalar.extui v73
  let c0_i32_29 : BitVec 32 := 0#32
  let v75 : BitVec 1 := Scalar.cmpi .ne v74 c0_i32_29
  v75

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== LossHeadRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .bf16⟩
  | .hbm, ⟨73, _⟩ => ⟨S8x128, .f32⟩
  | .hbm, ⟨74, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Proof.Carried.lean ====
/-
  A sum that is carried from one point to the next and begun anew every `q` points.
-/
module

public import Idealize.ShloMosaic.PureOps.Ideal.Laws

@[expose] public section

namespace Cert.Carried

/-- If the points that begin a sum leave its first part and the others add theirs, every point leaves the sum of the parts so far. -/
theorem carried {N q : ℕ} (hq : 0 < q) (acc : ∀ n, n < N → EReal) (part : ∀ n, n < N → ℕ → EReal)
    (begins : ∀ n (hn : n < N), n % q = 0 → acc n hn = part n hn (n % q))
    (adds : ∀ n (hn : n + 1 < N), ¬(n + 1) % q = 0 → acc (n + 1) hn = acc n (Nat.lt_of_succ_lt hn) + part (n + 1) hn ((n + 1) % q))
    (same : ∀ n (hn : n + 1 < N), ¬(n + 1) % q = 0 → part n (Nat.lt_of_succ_lt hn) = part (n + 1) hn) :
    ∀ n (hn : n < N), acc n hn = ∑ j ∈ Finset.range (n % q + 1), part n hn j := by
  have start (n : ℕ) (hn : n < N) (h : n % q = 0) : acc n hn = ∑ j ∈ Finset.range (n % q + 1), part n hn j := by
    rw [begins n hn h, h, Finset.sum_range_one]
  intro n
  induction n with
  | zero => exact fun hn => start 0 hn (Nat.zero_mod q)
  | succ n ih =>
    intro hn
    by_cases h : (n + 1) % q = 0
    · exact start _ hn h
    · have e : (n + 1) % q = n % q + 1 := by
        rw [← Nat.mod_add_mod] at h ⊢
        rcases Nat.lt_or_eq_of_le (Nat.succ_le_of_lt (Nat.mod_lt n hq)) with hl | hl
        · exact Nat.mod_eq_of_lt hl
        · exact absurd (by rw [show n % q + 1 = q from hl, Nat.mod_self]) h
      rw [adds n hn h, ih (Nat.lt_of_succ_lt hn), same n hn h, e, Finset.sum_range_succ _ (n % q + 1)]

end Cert.Carried
end
-- ==== Proof.Tiles.lean ====
/-
  How an element of a block of a two-axis array is placed in the array.
-/
module

public import Idealize.ShloMosaic.PureOps.Ideal.Laws
public import Idealize.ShloMosaic.Lib.Pointwise

@[expose] public section

namespace Cert.Tiles

open Idealize.ShloMosaic

variable {R C a b p q : Nat} {at' : Fin 2 → Nat}

/-- An element of block `(p, q)` of an array cut into blocks of `a` rows and `b` columns. -/
theorem tile {α : Type} (A : (⟨2, ![R, C]⟩ : Shape).Idx → α) (e : (⟨2, ![R, C]⟩ : Shape).Idx) {y0 : Fin a} {y1 : Fin b} (h : at' 0 = p ∧ at' 1 = q)
    (r : Fin R) (s : Fin C) (hr : p * a + y0.val = r.val) (hs : q * b + y1.val = s.val)
    (h0 : (e 0).val = at' 0 * a + 1 * y0.val) (h1 : (e 1).val = at' 1 * b + 1 * y1.val) : A e = A (ix2 r s) := by
  rw [h.1] at h0
  rw [h.2] at h1
  refine congrArg A (funext fun x => Fin.ext ?_)
  match x with
  | ⟨0, _⟩ => exact h0.trans (by show p * a + 1 * y0.val = r.val; omega)
  | ⟨1, _⟩ => exact h1.trans (by show q * b + 1 * y1.val = s.val; omega)

/-- The same for blocks of whole rows. -/
theorem tile_rows {α : Type} (A : (⟨2, ![R, C]⟩ : Shape).Idx → α) (e : (⟨2, ![R, C]⟩ : Shape).Idx) {y0 : Fin a} {y1 : Fin b} (h : at' 0 = p ∧ at' 1 = 0)
    (r : Fin R) (s : Fin C) (hr : p * a + y0.val = r.val) (hs : y1.val = s.val)
    (h0 : (e 0).val = at' 0 * a + 1 * y0.val) (h1 : (e 1).val = at' 1 * b + 1 * y1.val) : A e = A (ix2 r s) :=
  tile A e h r s hr (by omega) h0 h1

/-- The indices of block `(p, q)`. -/
theorem within {i : (⟨2, ![R, C]⟩ : Shape).Idx} {o s : Fin 2 → Nat} (h : at' 0 = p ∧ at' 1 = q)
    (h0 : p * a ≤ (i 0).val ∧ (i 0).val < p * a + a) (h1 : q * b ≤ (i 1).val ∧ (i 1).val < q * b + b)
    (o0 : o 0 = at' 0 * a) (o1 : o 1 = at' 1 * b) (s0 : s 0 = a) (s1 : s 1 = b) : ∀ x : Fin 2, o x ≤ (i x).val ∧ (i x).val < o x + s x := by
  intro x
  match x with
  | ⟨0, _⟩ =>
    show o 0 ≤ (i 0).val ∧ (i 0).val < o 0 + s 0
    rw [o0, s0, h.1]; exact h0
  | ⟨1, _⟩ =>
    show o 1 ≤ (i 1).val ∧ (i 1).val < o 1 + s 1
    rw [o1, s1, h.2]; exact h1

end Cert.Tiles
end
-- ==== Proof.Zeros.lean ====
/-
  Offsets that are zero on every axis.
-/
module

public import Idealize.ShloMosaic.Lib.Pointwise

@[expose] public section

namespace Cert

theorem zeros2 : (![0, 0] : Fin 2 → Nat) = fun _ => 0 := funext fun a => by fin_cases a <;> rfl

theorem zeros3 : (![0, 0, 0] : Fin 3 → Nat) = fun _ => 0 := funext fun a => by fin_cases a <;> rfl

theorem zeros4 : (![0, 0, 0, 0] : Fin 4 → Nat) = fun _ => 0 := funext fun a => by fin_cases a <;> rfl

end Cert
end
-- ==== Proof.DownProduct.lean ====
/-
  The down projection, added to its residual.
-/
module

public import proofs.«01_k».proof.Defs
public import proofs.«01_k».proof.Proof.Gen.Down.Frame
public import proofs.«01_k».proof.Proof.Gen.DownIdeal.Value
public import proofs.«01_k».proof.Proof.Gen.DownRefIdeal.Read
public import proofs.«01_k».proof.Proof.Carried
public import proofs.«01_k».proof.Proof.Tiles
public import proofs.«01_k».proof.Proof.Zeros

@[expose] public section

set_option maxRecDepth 16384

noncomputable section

namespace Cert.DownIdeal.Product

open Cert.DownIdeal Cert.DownIdeal.Gen Cert.Carried Cert.Tiles Idealize.ShloMosaic Idealize.ShloMosaic.TcCoe Idealize.SL.Sem

variable (m : (ℓ : Loc nD τ sig) → Buf (Elt Ideal) ℓ)

abbrev arr0 (c : Dev nD) : Vec Ideal S4096x5632 .bf16 := m ((c : Thread nD τ).loc main_arg0)
abbrev arr1 (c : Dev nD) : Vec Ideal S1x5632x2048 .bf16 := m ((c : Thread nD τ).loc main_arg1)
abbrev arr2 (c : Dev nD) : Vec Ideal S4096x2048 .f32 := m ((c : Thread nD τ).loc main_arg2)

/-- The sum over a row of the input times a column of the weights, in 4 parts. -/
def total (c : Dev nD) (l : Fin 4096) (k : Fin 2048) : EReal :=
  ∑ j : Fin 4, ∑ s : Fin 1408, arr0 m c (ix2 l ⟨j.val * 1408 + s.val, by omega⟩) * arr1 m c (ix3 0 ⟨j.val * 1408 + s.val, by omega⟩ k)

/-- The entry of the product: the sum over a row of the input times a column of the weights, with the residual added. -/
def entry (c : Dev nD) (l : Fin 4096) (k : Fin 2048) : EReal :=
  total m c l k + arr2 m c (ix2 l k)

/-- The whole array of entries. -/
def whole (c : Dev nD) : Vec Ideal S4096x2048 .f32 := fun i => entry m c (i 0) (i 1)

theorem bound (t : Fin cfg0.N) : t.val < 32 := t.isLt.trans_eq N_0

theorem index0 : ∀ t : Fin cfg0.N, win0_0.index t 0 = t.val / 8 ∧ win0_0.index t 1 = t.val % 4 := by
  intro (t : Fin grid0.N); revert t; decide +kernel

theorem index1 : ∀ t : Fin cfg0.N, win0_1.index t 0 = 0 ∧ win0_1.index t 1 = t.val % 4 ∧ win0_1.index t 2 = t.val / 4 % 2 := by
  intro (t : Fin grid0.N); revert t; decide +kernel

theorem index2 : ∀ t : Fin cfg0.N, win0_2.index t 0 = t.val / 8 ∧ win0_2.index t 1 = t.val / 4 % 2 := by
  intro (t : Fin grid0.N); revert t; decide +kernel

theorem index3 : ∀ t : Fin cfg0.N, win0_3.index t 0 = t.val / 8 ∧ win0_3.index t 1 = t.val / 4 % 2 := by
  intro (t : Fin grid0.N); revert t; decide +kernel

/-! ### The input blocks of a grid point -/

theorem blk0 (c : Dev nD) (t : Fin cfg0.N) (y0 : Fin 1024) (y1 : Fin 1408) :
    (iblk m c 0 t : Vec Ideal S1024x1408 .bf16) (ix2 y0 y1)
      = arr0 m c (ix2 ⟨t.val / 8 * 1024 + y0.val, by have h := bound t; omega⟩ ⟨t.val % 4 * 1408 + y1.val, by have h := bound t; omega⟩) :=
  (View.read_apply ..).trans (tile (arr0 m c) _ (index0 t) _ _ rfl rfl rfl rfl)

theorem blk1 (c : Dev nD) (t : Fin cfg0.N) (y1 : Fin 1408) (y2 : Fin 1024) :
    (iblk m c 1 t : Vec Ideal S1x1408x1024 .bf16) (ix3 0 y1 y2)
      = arr1 m c (ix3 0 ⟨t.val % 4 * 1408 + y1.val, by have h := bound t; omega⟩ ⟨t.val / 4 % 2 * 1024 + y2.val, by have h := bound t; omega⟩) := by
  refine (View.read_apply ..).trans (congrArg (m _) (funext fun a => Fin.ext ?_))
  match a with
  | ⟨0, _⟩ => show win0_1.index t 0 * 1 + 1 * 0 = 0; rw [(index1 t).1] <;> omega
  | ⟨1, _⟩ => show win0_1.index t 1 * 1408 + 1 * y1.val = t.val % 4 * 1408 + y1.val; rw [(index1 t).2.1] <;> omega
  | ⟨2, _⟩ => show win0_1.index t 2 * 1024 + 1 * y2.val = t.val / 4 % 2 * 1024 + y2.val; rw [(index1 t).2.2] <;> omega

theorem blk2 (c : Dev nD) (t : Fin cfg0.N) (y0 : Fin 1024) (y1 : Fin 1024) :
    (iblk m c 2 t : Vec Ideal S1024x1024 .f32) (ix2 y0 y1)
      = arr2 m c (ix2 ⟨t.val / 8 * 1024 + y0.val, by have h := bound t; omega⟩ ⟨t.val / 4 % 2 * 1024 + y1.val, by have h := bound t; omega⟩) :=
  (View.read_apply ..).trans (tile (arr2 m c) _ (index2 t) _ _ rfl rfl rfl rfl)

/-! ### What a grid point leaves in its output block -/

section
variable (c : Dev nD) (i : grid0.Coords) (a3 : Memref sig .tc .vmem S1024x1408 .bf16) (h3 : a3.IsWhole) (a4 : Memref sig .tc .vmem S1x1408x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x : Vec Ideal S1024x1408 .bf16) (w : Vec Ideal S1x1408x1024 .bf16) (b : Vec Ideal S1024x1024 .f32) (s : Vec Ideal S1024x1024 .f32)

theorem first_acc (hc0 : cond0_0 i) (hc1 : ¬cond0_1 i) (hc2 : ¬cond0_2 i) : sout0_A_0 (F := Ideal) c i a3 h3 a4 h4 a5 h5 a6 h6 a7 h7 hc0 hc1 hc2 x w b = k0_pay2 x w := by
  unfold sout0_A_0
  rw [View.read_writes_eq_canon _ _ _ (fun _ => scover0_A_0 ..)]
  unfold kernelRun0_A
  dsimp only
  sl_unfold_words
  rw [View.canon_unit_zero zeros2]
  simp only [View.readAt_eq_ld, h3.read_unread, h4.read_unread, h5.read_unread, View.ld_unit_zero (S := S1024x1024) zeros2, View.ld_unit_zero (S := S1024x1408) zeros2, View.ld_unit_zero (S := S1x1408x1024) zeros3]

theorem next_acc (hc0 : ¬cond0_0 i) (hc1 : cond0_1 i) (hc2 : ¬cond0_2 i) : sout0_B_0 (F := Ideal) c i a3 h3 a4 h4 a5 h5 a6 h6 a7 h7 hc0 hc1 hc2 x w b s = k0_pay3 x w s := by
  unfold sout0_B_0
  rw [View.read_writes_eq_canon _ _ _ (fun _ => scover0_B_0 ..)]
  unfold kernelRun0_B
  dsimp only
  sl_unfold_words
  rw [View.canon_unit_zero zeros2]
  simp only [View.readAt_eq_ld, h3.read_unread, h4.read_unread, h5.read_unread, h7.read_unread, View.ld_unit_zero (S := S1024x1024) zeros2, View.ld_unit_zero (S := S1024x1408) zeros2, View.ld_unit_zero (S := S1x1408x1024) zeros3]

theorem last_acc (hc0 : ¬cond0_0 i) (hc1 : cond0_1 i) (hc2 : cond0_2 i) : sout0_C_0 (F := Ideal) c i a3 h3 a4 h4 a5 h5 a6 h6 a7 h7 hc0 hc1 hc2 x w b s = k0_pay3 x w s := by
  unfold sout0_C_0
  rw [View.read_writes_eq_canon _ _ _ (fun _ => scover0_C_0 ..)]
  unfold kernelRun0_C
  dsimp only
  sl_unfold_words
  rw [View.canon_unit_zero zeros2]
  simp only [View.readAt_eq_ld, h3.read_unread, h4.read_unread, h5.read_unread, h7.read_unread, View.ld_unit_zero (S := S1024x1024) zeros2, View.ld_unit_zero (S := S1024x1408) zeros2, View.ld_unit_zero (S := S1x1408x1024) zeros3]

theorem last_out (hc0 : ¬cond0_0 i) (hc1 : cond0_1 i) (hc2 : cond0_2 i) : out0_C_3 (F := Ideal) c i a3 h3 a4 h4 a5 h5 a6 h6 a7 h7 hc0 hc1 hc2 x w b s = k0_pay4 (k0_pay3 x w s) b := by
  unfold out0_C_3
  rw [View.read_writes_eq_canon _ _ _ (fun _ => cover0_C_3 ..)]
  unfold kernelRun0_C
  dsimp only
  sl_unfold_words
  rw [View.canon_unit_zero zeros2, View.readCov_unit_zero (S := S1024x1024) _ zeros2]
  simp only [View.readAt_eq_ld, h3.read_unread, h4.read_unread, h5.read_unread, h7.read_unread, View.ld_unit_zero (S := S1024x1024) zeros2, View.ld_unit_zero (S := S1024x1408) zeros2, View.ld_unit_zero (S := S1x1408x1024) zeros3]

end

theorem pay2_at (x : Vec Ideal S1024x1408 .bf16) (w : Vec Ideal S1x1408x1024 .bf16) (l : Fin 1024) (k : Fin 1024) :
    k0_pay2 (F := Ideal) x w (ix2 l k) = ∑ s : Fin 1408, x (ix2 l s) * w (ix3 0 s k) := by
  unfold k0_pay2 k0_pay1
  pointwise

theorem pay3_at (x : Vec Ideal S1024x1408 .bf16) (w : Vec Ideal S1x1408x1024 .bf16) (s : Vec Ideal S1024x1024 .f32) (l : Fin 1024) (k : Fin 1024) :
    k0_pay3 (F := Ideal) x w s (ix2 l k) = s (ix2 l k) + ∑ s : Fin 1408, x (ix2 l s) * w (ix3 0 s k) := by
  unfold k0_pay3 k0_pay1
  pointwise

theorem pay4_at (s : Vec Ideal S1024x1024 .f32) (b : Vec Ideal S1024x1024 .f32) (l : Fin 1024) (k : Fin 1024) :
    k0_pay4 (F := Ideal) s b (ix2 l k) = s (ix2 l k) + b (ix2 l k) := by
  unfold k0_pay4
  pointwise

/-- The row of the result that row `l` of a point's block is. -/
def rowOf (t : Fin cfg0.N) (l : Fin 1024) : Fin 4096 := ⟨t.val / 8 * 1024 + l.val, by have h := bound t; omega⟩
/-- The column of the result that column `k` of a point's block is. -/
def colOf (t : Fin cfg0.N) (k : Fin 1024) : Fin 2048 := ⟨t.val / 4 % 2 * 1024 + k.val, by have h := bound t; omega⟩

/-- The part of an entry's sum that point `j` of its 4 points adds. -/
def part (c : Dev nD) (l : Fin 4096) (k : Fin 2048) (j : ℕ) : EReal :=
  if h : j < 4 then ∑ s : Fin 1408, arr0 m c (ix2 l ⟨j * 1408 + s.val, by omega⟩) * arr1 m c (ix3 0 ⟨j * 1408 + s.val, by omega⟩ k) else 0

theorem part_at (c : Dev nD) (t : Fin cfg0.N) (l : Fin 1024) (k : Fin 1024) (x : Vec Ideal S1024x1408 .bf16) (w : Vec Ideal S1x1408x1024 .bf16)
    (hx : x = iblk m c 0 t) (hw : w = iblk m c 1 t) :
    ∑ s : Fin 1408, x (ix2 l s) * w (ix3 0 s k) = part m c (rowOf t l) (colOf t k) (t.val % 4) := by
  subst hx hw
  unfold part
  rw [dif_pos (Nat.mod_lt _ (by decide))]
  simp only [blk0, blk1]
  rfl

theorem parts (c : Dev nD) (l : Fin 4096) (k : Fin 2048) : ∑ j ∈ Finset.range 4, part m c l k j = total m c l k := by
  rw [← Fin.sum_univ_eq_sum_range]
  unfold total
  refine Finset.sum_congr rfl fun j _ => ?_
  unfold part
  rw [dif_pos j.isLt]

/-- After a point, the carried block holds the sum of the parts so far. -/
theorem acc_at (c : Dev nD) (l : Fin 1024) (k : Fin 1024) : ∀ (n : ℕ) (hn : n < cfg0.N),
    (outsAt0 m c n hn).2 (ix2 l k) = ∑ j ∈ Finset.range (n % 4 + 1), part m c (rowOf ⟨n, hn⟩ l) (colOf ⟨n, hn⟩ k) j := by
  refine carried (by decide) _ (fun n hn => part m c (rowOf ⟨n, hn⟩ l) (colOf ⟨n, hn⟩ k)) (fun n hn h0 => ?_) (fun n hn h0 => ?_) (fun n hn h0 => ?_)
  · rw [outsAt0_A m c ⟨n, hn⟩ h0 (by show ¬1 ≤ n % 4; omega) (by show ¬n % 4 = 3; omega)]
    dsimp only
    rw [first_acc, pay2_at]
    exact part_at m c ⟨n, hn⟩ l k _ _ rfl rfl
  · by_cases h2 : (n + 1) % 4 = 3
    · rw [outsAt0_C m c ⟨n + 1, hn⟩ h0 (by show 1 ≤ (n + 1) % 4; omega) h2]
      dsimp only
      rw [last_acc, pay3_at]
      exact congrArg _ (part_at m c ⟨n + 1, hn⟩ l k _ _ rfl rfl)
    · rw [outsAt0_B m c ⟨n + 1, hn⟩ h0 (by show 1 ≤ (n + 1) % 4; omega) h2]
      dsimp only
      rw [next_acc, pay3_at]
      exact congrArg _ (part_at m c ⟨n + 1, hn⟩ l k _ _ rfl rfl)
  · have hb : n + 1 < 32 := hn.trans_eq N_0
    exact congrArg₂ (part m c) (Fin.ext (by show n / 8 * 1024 + l.val = (n + 1) / 8 * 1024 + l.val; omega)) (Fin.ext (by show n / 4 % 2 * 1024 + k.val = (n + 1) / 4 % 2 * 1024 + k.val; omega))

/-- The block that is written back is the carried block. -/
theorem out_at (c : Dev nD) (t : Fin cfg0.N) (h2 : t.val % 4 = 3) (l : Fin 1024) (k : Fin 1024) :
    (outsAt0 m c t.val t.isLt).1 (ix2 l k) = (outsAt0 m c t.val t.isLt).2 (ix2 l k) + (iblk m c 2 t : Vec Ideal S1024x1024 .f32) (ix2 l k) := by
  rw [outsAt0_C m c t (by omega) (by omega) h2]
  dsimp only
  rw [last_out, last_acc, pay4_at]

theorem flushed_eq (c : Dev nD) (t : Fin cfg0.N) (hf : (cfg0.win 3).flush t = true) :
    (dats m 0 c).flushed 3 t = ((cfg0.win 3).blk t).view.read (Elt Ideal) (whole m c) := by
  have h2 : t.val % 4 = 3 := (flush0_3 t).mp hf
  rw [Value.flushed3]
  show (outsAt0 m c t.val t.isLt).1 = _
  have hb := bound t
  funext y
  idx_vars y
  rw [View.read_apply, out_at m c t h2, acc_at, h2]
  rw [blk2]
  show _ = entry m c _ _
  refine (congrArg (· + _) (parts m c _ _)).trans ?_
  show entry m c ⟨t.val / 8 * 1024 + y0.val, by omega⟩ ⟨t.val / 4 % 2 * 1024 + y1.val, by omega⟩ = _
  refine congrArg₂ (entry m c) (Fin.ext ?_) (Fin.ext ?_)
  · show t.val / 8 * 1024 + y0.val = (win0_3.index t 0 * 1024 + 1 * y0.val); rw [(index3 t).1] <;> omega
  · show t.val / 4 % 2 * 1024 + y1.val = (win0_3.index t 1 * 1024 + 1 * y1.val); rw [(index3 t).2] <;> omega

theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : ((i 0).val / 1024 * 2 + (i 1).val / 1024) * 4 + 3 < cfg0.N := lt_of_lt_of_eq (by omega : ((i 0).val / 1024 * 2 + (i 1).val / 1024) * 4 + 3 < 32) N_0.symm
  refine ⟨⟨((i 0).val / 1024 * 2 + (i 1).val / 1024) * 4 + 3, hN⟩, (flush0_3 _).mpr (by show (((i 0).val / 1024 * 2 + (i 1).val / 1024) * 4 + 3) % 4 = 3; omega), ?_⟩
  refine View.set_slice_whole main_v0 (win0_3.rect ⟨((i 0).val / 1024 * 2 + (i 1).val / 1024) * 4 + 3, hN⟩) ▸ Rect.mem_set_unit.mpr ?_
  exact within (a := 1024) (b := 1024) (index3 _) (by dsimp only; omega) (by dsimp only; omega) rfl rfl rfl rfl

/-- The array after the call. -/
theorem array (c : Dev nD) : (dats m 0 c).arrAt 3 cfg0.N = whole m c :=
  (dats m 0 c).arrAt_eq_of_cover 3 (whole m c) (fun t hf => flushed_eq m c t hf) cover

end Cert.DownIdeal.Product

namespace Cert.DownClaims

open Idealize.ShloMosaic Idealize.ShloMosaic.TcCoe Idealize.SL.Sem Cert.DownRefIdeal.Read Cert.DownIdeal

/-- The reference's result, read at an index. -/
theorem reference_at (c : Dev nD) (m : (ℓ : Loc nD τ sig) → Buf (Elt Ideal) ℓ) :
    val_main_v4 (F := Ideal) (m ((c : Thread nD τ).loc main_arg0)) (m ((c : Thread nD τ).loc main_arg1)) (m ((c : Thread nD τ).loc main_arg2))
      = Product.whole m c := by
  funext i
  idx_vars i
  show _ = Product.entry m c _ _
  unfold Product.entry
  unfold Product.total
  unfold val_main_v4 val_main_v3 val_main_v2 val_main_v1 val_main_v0
  pointwise
  rw [Fin.sum_univ_tiles 4 1408 (by decide)]
  exact add_comm _ _

theorem frame_p : Cert.quiescent_Down := fun m ρ _ => Cert.Down.Gen.frame m ρ
theorem frame_pi : Cert.quiescent_DownIdeal := fun m ρ _ => Cert.DownIdeal.Gen.frame m ρ
theorem frame_ri : Cert.quiescent_DownRefIdeal := fun m ρ _ =>
  (θ_run _ _ _).mono (fun r h => ⟨fun c => (h c).2, sem_eq_zero_of_no_sems (by decide) r.2⟩) (Cert.DownRefIdeal.Value.run (F := Ideal) m ρ)

theorem preserves : Cert.preserves_Down_DownIdeal := trivial

theorem algebraic : Cert.algebraic_DownIdeal_DownRefIdeal := fun m ρ m' ρ' _ hag =>
  ⟨fun c => Product.whole m c,
    (θ_run _ _ _).mono (fun r h c => ⟨(h c).1.trans (Product.array m c), (h c).2⟩)
      (Cert.DownIdeal.Value.run_blocks (F := Ideal) m ρ),
    (θ_run _ _ _).mono (fun r h c => ⟨(h c).1.trans (by
        rw [val_main_v4_eq, (hag c).1, (hag c).2.1, (hag c).2.2]
        exact reference_at c m), (h c).2⟩)
      (Cert.DownRefIdeal.Value.run (F := Ideal) m' ρ')⟩

end Cert.DownClaims
end
-- ==== Proof.DownTProduct.lean ====
/-
  The gradient of the down projection's input.
-/
module

public import proofs.«01_k».proof.Defs
public import proofs.«01_k».proof.Proof.Gen.DownT.Frame
public import proofs.«01_k».proof.Proof.Gen.DownTIdeal.Value
public import proofs.«01_k».proof.Proof.Gen.DownTRefIdeal.Read
public import proofs.«01_k».proof.Proof.Tiles
public import proofs.«01_k».proof.Proof.Zeros

@[expose] public section

set_option maxRecDepth 16384

noncomputable section

namespace Cert.DownTIdeal.Product

open Cert.DownTIdeal Cert.DownTIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x2048 .bf16 := m ((c : Thread nD τ).loc main_arg0)
abbrev arr1 (c : Dev nD) : Vec Ideal S1x5632x2048 .bf16 := m ((c : Thread nD τ).loc main_arg1)

/-- The entry of the input's gradient: the sum over the columns of a row of the product's gradient times a row of the weights. -/
def entry (c : Dev nD) (l : Fin 4096) (k : Fin 5632) : EReal :=
  ∑ s : Fin 2048, arr0 m c (ix2 l s) * arr1 m c (ix3 0 k s)

/-- The whole array of entries. -/
def whole (c : Dev nD) : Vec Ideal S4096x5632 .bf16 := fun i => entry m c (i 0) (i 1)

theorem bound (t : Fin cfg0.N) : t.val < 16 := t.isLt.trans_eq N_0

theorem index0 : ∀ t : Fin cfg0.N, win0_0.index t 0 = t.val / 4 ∧ win0_0.index t 1 = 0 := by
  intro (t : Fin grid0.N); revert t; decide +kernel

theorem index1 : ∀ t : Fin cfg0.N, win0_1.index t 0 = 0 ∧ win0_1.index t 1 = t.val % 4 ∧ win0_1.index t 2 = 0 := by
  intro (t : Fin grid0.N); revert t; decide +kernel

theorem index2 : ∀ t : Fin cfg0.N, win0_2.index t 0 = t.val / 4 ∧ win0_2.index t 1 = t.val % 4 := by
  intro (t : Fin grid0.N); revert t; decide +kernel

/-! ### The input blocks of a grid point -/

theorem blk0 (c : Dev nD) (t : Fin cfg0.N) (y0 : Fin 1024) (y1 : Fin 2048) :
    (iblk m c 0 t : Vec Ideal S1024x2048 .bf16) (ix2 y0 y1)
      = arr0 m c (ix2 ⟨t.val / 4 * 1024 + y0.val, by have h := bound t; omega⟩ y1) :=
  (View.read_apply ..).trans (tile_rows (arr0 m c) _ (index0 t) _ _ rfl rfl rfl rfl)

theorem blk1 (c : Dev nD) (t : Fin cfg0.N) (y1 : Fin 1408) (y2 : Fin 2048) :
    (iblk m c 1 t : Vec Ideal S1x1408x2048 .bf16) (ix3 0 y1 y2)
      = arr1 m c (ix3 0 ⟨t.val % 4 * 1408 + y1.val, by have h := bound t; omega⟩ y2) := by
  refine (View.read_apply ..).trans (congrArg (m _) (funext fun a => Fin.ext ?_))
  match a with
  | ⟨0, _⟩ => show win0_1.index t 0 * 1 + 1 * 0 = 0; rw [(index1 t).1] <;> omega
  | ⟨1, _⟩ => show win0_1.index t 1 * 1408 + 1 * y1.val = t.val % 4 * 1408 + y1.val; rw [(index1 t).2.1] <;> omega
  | ⟨2, _⟩ => show win0_1.index t 2 * 2048 + 1 * y2.val = y2.val; rw [(index1 t).2.2] <;> omega

/-! ### What a grid point leaves in its output block -/

theorem out_eq (x : Vec Ideal S1024x2048 .bf16) (w : Vec Ideal S1x1408x2048 .bf16) : out0_2 (F := Ideal) x w = k0_pay1 x w := by
  unfold out0_2
  rw [View.canon_unit_zero zeros2]
  simp only [View.ld_unit_zero (S := S1024x2048) zeros2, View.ld_unit_zero (S := S1x1408x2048) zeros3]

theorem pay_at (x : Vec Ideal S1024x2048 .bf16) (w : Vec Ideal S1x1408x2048 .bf16) (l : Fin 1024) (k : Fin 1408) :
    k0_pay1 (F := Ideal) x w (ix2 l k) = ∑ s : Fin 2048, x (ix2 l s) * w (ix3 0 k s) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  refine (pay_at _ _ y0 y1).trans ?_
  simp only [blk0, blk1]
  show entry m c ⟨t.val / 4 * 1024 + y0.val, by omega⟩ ⟨t.val % 4 * 1408 + y1.val, by omega⟩ = _
  refine congrArg₂ (entry m c) (Fin.ext ?_) (Fin.ext ?_)
  · show t.val / 4 * 1024 + y0.val = (win0_2.index t 0 * 1024 + 1 * y0.val); rw [(index2 t).1] <;> omega
  · show t.val % 4 * 1408 + y1.val = (win0_2.index t 1 * 1408 + 1 * y1.val); rw [(index2 t).2] <;> omega

theorem cover (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  have hN : (i 0).val / 1024 * 4 + (i 1).val / 1408 < cfg0.N := lt_of_lt_of_eq (by omega : (i 0).val / 1024 * 4 + (i 1).val / 1408 < 16) N_0.symm
  refine ⟨⟨(i 0).val / 1024 * 4 + (i 1).val / 1408, hN⟩, flush0_2 _, ?_⟩
  refine View.set_slice_whole main_v0 (win0_2.rect ⟨(i 0).val / 1024 * 4 + (i 1).val / 1408, hN⟩) ▸ Rect.mem_set_unit.mpr ?_
  exact within (a := 1024) (b := 1408) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.DownTIdeal.Product

namespace Cert.DownTClaims

open Idealize.ShloMosaic Idealize.ShloMosaic.TcCoe Idealize.SL.Sem Cert.DownTRefIdeal.Read Cert.DownTIdeal

/-- The reference's result, read at an index. -/
theorem reference_at (c : Dev nD) (m : (ℓ : Loc nD τ sig) → Buf (Elt Ideal) ℓ) :
    val_main_v6 (F := Ideal) (m ((c : Thread nD τ).loc main_arg0)) (m ((c : Thread nD τ).loc main_arg1))
      = Product.whole m c := by
  funext i
  idx_vars i
  show _ = Product.entry m c _ _
  unfold Product.entry
  unfold val_main_v6 val_main_v5 val_main_v4 val_main_v1 val_main_v0
  pointwise

theorem frame_p : Cert.quiescent_DownT := fun m ρ _ => Cert.DownT.Gen.frame m ρ
theorem frame_pi : Cert.quiescent_DownTIdeal := fun m ρ _ => Cert.DownTIdeal.Gen.frame m ρ
theorem frame_ri : Cert.quiescent_DownTRefIdeal := fun m ρ _ =>
  (θ_run _ _ _).mono (fun r h => ⟨fun c => (h c).2, sem_eq_zero_of_no_sems (by decide) r.2⟩) (Cert.DownTRefIdeal.Value.run (F := Ideal) m ρ)

theorem preserves : Cert.preserves_DownT_DownTIdeal := trivial

theorem algebraic : Cert.algebraic_DownTIdeal_DownTRefIdeal := fun m ρ m' ρ' _ hag =>
  ⟨fun c => Product.whole m c,
    (θ_run _ _ _).mono (fun r h c => ⟨(h c).1.trans (Product.array m c), (h c).2⟩)
      (Cert.DownTIdeal.Value.run_blocks (F := Ideal) m ρ),
    (θ_run _ _ _).mono (fun r h c => ⟨(h c).1.trans (by
        rw [val_main_v6_eq, (hag c).1, (hag c).2]
        exact reference_at c m), (h c).2⟩)
      (Cert.DownTRefIdeal.Value.run (F := Ideal) m' ρ')⟩

end Cert.DownTClaims
end
-- ==== Proof.DwDownProduct.lean ====
/-
  The gradient of the down projection's weights.
-/
module

public import proofs.«01_k».proof.Defs
public import proofs.«01_k».proof.Proof.Gen.DwDown.Frame
public import proofs.«01_k».proof.Proof.Gen.DwDownIdeal.Value
public import proofs.«01_k».proof.Proof.Gen.DwDownRefIdeal.Read
public import proofs.«01_k».proof.Proof.Tiles
public import proofs.«01_k».proof.Proof.Zeros

@[expose] public section

set_option maxRecDepth 16384

noncomputable section

namespace Cert.DwDownIdeal.Product

open Cert.DwDownIdeal Cert.DwDownIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x5632 .bf16 := m ((c : Thread nD τ).loc main_arg0)
abbrev arr1 (c : Dev nD) : Vec Ideal S4096x2048 .bf16 := m ((c : Thread nD τ).loc main_arg1)

/-- The entry of a weight's gradient: the sum over the rows of the input times the gradient of the product. -/
def entry (c : Dev nD) (k : Fin 5632) (n : Fin 2048) : EReal :=
  ∑ s : Fin 4096, arr0 m c (ix2 s k) * arr1 m c (ix2 s n)

/-- The whole array of entries. -/
def whole (c : Dev nD) : Vec Ideal S5632x2048 .bf16 := fun i => entry m c (i 0) (i 1)

theorem bound (t : Fin cfg0.N) : t.val < 22 := t.isLt.trans_eq N_0

theorem index0 : ∀ t : Fin cfg0.N, win0_0.index t 0 = 0 ∧ win0_0.index t 1 = t.val % 11 := by
  intro (t : Fin grid0.N); revert t; decide +kernel

theorem index1 : ∀ t : Fin cfg0.N, win0_1.index t 0 = 0 ∧ win0_1.index t 1 = t.val / 11 := by
  intro (t : Fin grid0.N); revert t; decide +kernel

theorem index2 : ∀ t : Fin cfg0.N, win0_2.index t 0 = t.val % 11 ∧ win0_2.index t 1 = t.val / 11 := by
  intro (t : Fin grid0.N); revert t; decide +kernel

/-! ### The input blocks of a grid point -/

theorem blk0 (c : Dev nD) (t : Fin cfg0.N) (y0 : Fin 4096) (y1 : Fin 512) :
    (iblk m c 0 t : Vec Ideal S4096x512 .bf16) (ix2 y0 y1)
      = arr0 m c (ix2 y0 ⟨t.val % 11 * 512 + y1.val, by have h := bound t; omega⟩) :=
  (View.read_apply ..).trans (tile (arr0 m c) _ (index0 t) _ _ (by show 0 * 4096 + y0.val = y0.val; omega) rfl rfl rfl)

theorem blk1 (c : Dev nD) (t : Fin cfg0.N) (y0 : Fin 4096) (y1 : Fin 1024) :
    (iblk m c 1 t : Vec Ideal S4096x1024 .bf16) (ix2 y0 y1)
      = arr1 m c (ix2 y0 ⟨t.val / 11 * 1024 + y1.val, by have h := bound t; omega⟩) :=
  (View.read_apply ..).trans (tile (arr1 m c) _ (index1 t) _ _ (by show 0 * 4096 + y0.val = y0.val; omega) rfl rfl rfl)

/-! ### What a grid point leaves in its output block -/

theorem out_eq (x : Vec Ideal S4096x512 .bf16) (w : Vec Ideal S4096x1024 .bf16) : out0_2 (F := Ideal) x w = k0_pay1 x w := by
  unfold out0_2
  rw [View.canon_unit_zero zeros2]
  simp only [View.ld_unit_zero (S := S4096x1024) zeros2, View.ld_unit_zero (S := S4096x512) zeros2]

theorem pay_at (x : Vec Ideal S4096x512 .bf16) (w : Vec Ideal S4096x1024 .bf16) (k : Fin 512) (n : Fin 1024) :
    k0_pay1 (F := Ideal) x w (ix2 k n) = ∑ s : Fin 4096, x (ix2 s k) * w (ix2 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  refine (pay_at _ _ y0 y1).trans ?_
  simp only [blk0, blk1]
  show entry m c ⟨t.val % 11 * 512 + y0.val, by omega⟩ ⟨t.val / 11 * 1024 + y1.val, by omega⟩ = _
  refine congrArg₂ (entry m c) (Fin.ext ?_) (Fin.ext ?_)
  · show t.val % 11 * 512 + y0.val = (win0_2.index t 0 * 512 + 1 * y0.val); rw [(index2 t).1] <;> omega
  · show t.val / 11 * 1024 + y1.val = (win0_2.index t 1 * 1024 + 1 * y1.val); rw [(index2 t).2] <;> omega

theorem cover (i : S5632x2048.Idx) : ∃ t : Fin cfg0.N, (cfg0.win 2).flush t = true ∧ i ∈ ((cfg0.win 2).blk t).view.set := by
  have h0 : (i 0).val < 5632 := (i 0).isLt
  have h1 : (i 1).val < 2048 := (i 1).isLt
  have hN : (i 1).val / 1024 * 11 + (i 0).val / 512 < cfg0.N := lt_of_lt_of_eq (by omega : (i 1).val / 1024 * 11 + (i 0).val / 512 < 22) N_0.symm
  refine ⟨⟨(i 1).val / 1024 * 11 + (i 0).val / 512, hN⟩, flush0_2 _, ?_⟩
  refine View.set_slice_whole main_v0 (win0_2.rect ⟨(i 1).val / 1024 * 11 + (i 0).val / 512, hN⟩) ▸ Rect.mem_set_unit.mpr ?_
  exact within (a := 512) (b := 1024) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.DwDownIdeal.Product

namespace Cert.DwDownClaims

open Idealize.ShloMosaic Idealize.ShloMosaic.TcCoe Idealize.SL.Sem Cert.DwDownRefIdeal.Read Cert.DwDownIdeal

/-- The reference's result, read at an index. -/
theorem reference_at (c : Dev nD) (m : (ℓ : Loc nD τ sig) → Buf (Elt Ideal) ℓ) :
    val_main_v6 (F := Ideal) (m ((c : Thread nD τ).loc main_arg0)) (m ((c : Thread nD τ).loc main_arg1))
      = Product.whole m c := by
  funext i
  idx_vars i
  show _ = Product.entry m c _ _
  unfold Product.entry
  unfold val_main_v6 val_main_v5 val_main_v4 val_main_v3 val_main_v1
  pointwise
  exact Finset.sum_congr rfl fun _ _ => mul_comm _ _

theorem frame_p : Cert.quiescent_DwDown := fun m ρ _ => Cert.DwDown.Gen.frame m ρ
theorem frame_pi : Cert.quiescent_DwDownIdeal := fun m ρ _ => Cert.DwDownIdeal.Gen.frame m ρ
theorem frame_ri : Cert.quiescent_DwDownRefIdeal := fun m ρ _ =>
  (θ_run _ _ _).mono (fun r h => ⟨fun c => (h c).2, sem_eq_zero_of_no_sems (by decide) r.2⟩) (Cert.DwDownRefIdeal.Value.run (F := Ideal) m ρ)

theorem preserves : Cert.preserves_DwDown_DwDownIdeal := trivial

theorem algebraic : Cert.algebraic_DwDownIdeal_DwDownRefIdeal := fun m ρ m' ρ' _ hag =>
  ⟨fun c => Product.whole m c,
    (θ_run _ _ _).mono (fun r h c => ⟨(h c).1.trans (Product.array m c), (h c).2⟩)
      (Cert.DwDownIdeal.Value.run_blocks (F := Ideal) m ρ),
    (θ_run _ _ _).mono (fun r h c => ⟨(h c).1.trans (by
        rw [val_main_v6_eq, (hag c).1, (hag c).2]
        exact reference_at c m), (h c).2⟩)
      (Cert.DwDownRefIdeal.Value.run (F := Ideal) m' ρ')⟩

end Cert.DwDownClaims
end
-- ==== Proof.DwGluProduct.lean ====
/-
  The gradient of the weights of the recurrence's gated output projection.
-/
module

public import proofs.«01_k».proof.Defs
public import proofs.«01_k».proof.Proof.Gen.DwGlu.Frame
public import proofs.«01_k».proof.Proof.Gen.DwGluIdeal.Value
public import proofs.«01_k».proof.Proof.Gen.DwGluRefIdeal.Read
public import proofs.«01_k».proof.Proof.Tiles
public import proofs.«01_k».proof.Proof.Zeros

@[expose] public section

set_option maxRecDepth 16384

noncomputable section

namespace Cert.DwGluIdeal.Product

open Cert.DwGluIdeal Cert.DwGluIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x1024 .bf16 := m ((c : Thread nD τ).loc main_arg0)
abbrev arr1 (c : Dev nD) : Vec Ideal S4096x4096 .bf16 := m ((c : Thread nD τ).loc main_arg1)

/-- The entry of a weight's gradient: the sum over the rows of the input times the gradient of the product. -/
def entry (c : Dev nD) (k : Fin 1024) (n : Fin 4096) : EReal :=
  ∑ s : Fin 4096, arr0 m c (ix2 s k) * arr1 m c (ix2 s n)

/-- The whole array of entries. -/
def whole (c : Dev nD) : Vec Ideal S8x1024x512 .bf16 := fun i => entry m c (i 1) ⟨(i 0).val * 512 + (i 2).val, by have h0 : (i 0).val < 8 := (i 0).isLt; have h2 : (i 2).val < 512 := (i 2).isLt; omega⟩

theorem bound (t : Fin cfg0.N) : t.val < 16 := t.isLt.trans_eq N_0

theorem index0 : ∀ t : Fin cfg0.N, win0_0.index t 0 = 0 ∧ win0_0.index t 1 = t.val % 2 := by
  intro (t : Fin grid0.N); revert t; decide +kernel

theorem index1 : ∀ t : Fin cfg0.N, win0_1.index t 0 = 0 ∧ win0_1.index t 1 = t.val / 2 := by
  intro (t : Fin grid0.N); revert t; decide +kernel

theorem index2 : ∀ t : Fin cfg0.N, win0_2.index t 0 = t.val / 2 ∧ win0_2.index t 1 = t.val % 2 ∧ win0_2.index t 2 = 0 := by
  intro (t : Fin grid0.N); revert t; decide +kernel

/-! ### The input blocks of a grid point -/

theorem blk0 (c : Dev nD) (t : Fin cfg0.N) (y0 : Fin 4096) (y1 : Fin 512) :
    (iblk m c 0 t : Vec Ideal S4096x512 .bf16) (ix2 y0 y1)
      = arr0 m c (ix2 y0 ⟨t.val % 2 * 512 + y1.val, by have h := bound t; omega⟩) :=
  (View.read_apply ..).trans (tile (arr0 m c) _ (index0 t) _ _ (by show 0 * 4096 + y0.val = y0.val; omega) rfl rfl rfl)

theorem blk1 (c : Dev nD) (t : Fin cfg0.N) (y0 : Fin 4096) (y1 : Fin 512) :
    (iblk m c 1 t : Vec Ideal S4096x512 .bf16) (ix2 y0 y1)
      = arr1 m c (ix2 y0 ⟨t.val / 2 * 512 + y1.val, by have h := bound t; omega⟩) :=
  (View.read_apply ..).trans (tile (arr1 m c) _ (index1 t) _ _ (by show 0 * 4096 + y0.val = y0.val; omega) rfl rfl rfl)

/-! ### What a grid point leaves in its output block -/

theorem out_eq (x : Vec Ideal S4096x512 .bf16) (w : Vec Ideal S4096x512 .bf16) : out0_2 (F := Ideal) x w = k0_pay1 x w := by
  unfold out0_2
  rw [View.canon_unit_zero zeros3]
  simp only [View.ld_unit_zero (S := S4096x512) zeros2]

theorem pay_at (x : Vec Ideal S4096x512 .bf16) (w : Vec Ideal S4096x512 .bf16) (k : Fin 512) (n : Fin 512) :
    k0_pay1 (F := Ideal) x w (ix3 0 k n) = ∑ s : Fin 4096, x (ix2 s k) * w (ix2 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  obtain rfl : y0 = 0 := Subsingleton.elim _ _
  refine (pay_at _ _ y1 y2).trans ?_
  simp only [blk0, blk1]
  show entry m c ⟨t.val % 2 * 512 + y1.val, by omega⟩ ⟨t.val / 2 * 512 + y2.val, by omega⟩ = _
  refine congrArg₂ (entry m c) (Fin.ext ?_) (Fin.ext ?_)
  · show t.val % 2 * 512 + y1.val = (win0_2.index t 1 * 512 + 1 * y1.val); rw [(index2 t).2.1] <;> omega
  · show t.val / 2 * 512 + y2.val = (win0_2.index t 0 * 1 + 1 * 0) * 512 + (win0_2.index t 2 * 512 + 1 * y2.val); rw [(index2 t).1, (index2 t).2.2] <;> omega

theorem cover (i : S8x1024x512.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 512 := (i 2).isLt
  have hN : (i 0).val * 2 + (i 1).val / 512 < cfg0.N := lt_of_lt_of_eq (by omega : (i 0).val * 2 + (i 1).val / 512 < 16) N_0.symm
  refine ⟨⟨(i 0).val * 2 + (i 1).val / 512, hN⟩, flush0_2 _, ?_⟩
  refine View.set_slice_whole main_v0 (win0_2.rect ⟨(i 0).val * 2 + (i 1).val / 512, hN⟩) ▸ Rect.mem_set_unit.mpr fun a => ?_
  have ht : (⟨(i 0).val * 2 + (i 1).val / 512, hN⟩ : Fin cfg0.N).val = (i 0).val * 2 + (i 1).val / 512 := rfl
  generalize (⟨(i 0).val * 2 + (i 1).val / 512, hN⟩ : Fin cfg0.N) = t at ht
  match a with
  | ⟨0, _⟩ => show win0_2.index t 0 * 1 ≤ (i 0).val ∧ (i 0).val < win0_2.index t 0 * 1 + 1; rw [(index2 t).1] <;> omega
  | ⟨1, _⟩ => show win0_2.index t 1 * 512 ≤ (i 1).val ∧ (i 1).val < win0_2.index t 1 * 512 + 512; rw [(index2 t).2.1] <;> omega
  | ⟨2, _⟩ => show win0_2.index t 2 * 512 ≤ (i 2).val ∧ (i 2).val < win0_2.index t 2 * 512 + 512; rw [(index2 t).2.2] <;> omega

/-- The array after the call. -/
theorem array (c : Dev nD) : (dats m 0 c).arrAt 2 cfg0.N = whole m c :=
  (dats m 0 c).arrAt_eq_of_cover 2 (whole m c) (fun t hf => flushed_eq m c t hf) cover

end Cert.DwGluIdeal.Product

namespace Cert.DwGluClaims

open Idealize.ShloMosaic Idealize.ShloMosaic.TcCoe Idealize.SL.Sem Cert.DwGluRefIdeal.Read Cert.DwGluIdeal

/-- The reference's result, read at an index. -/
theorem reference_at (c : Dev nD) (m : (ℓ : Loc nD τ sig) → Buf (Elt Ideal) ℓ) :
    val_main_v8 (F := Ideal) (m ((c : Thread nD τ).loc main_arg0)) (m ((c : Thread nD τ).loc main_arg1))
      = Product.whole m c := by
  funext i
  idx_vars i
  show _ = Product.entry m c _ _
  unfold Product.entry
  unfold val_main_v8 val_main_v7 val_main_v6 val_main_v5 val_main_v4 val_main_v3 val_main_v1
  pointwise
  exact Finset.sum_congr rfl fun _ _ => mul_comm _ _

theorem frame_p : Cert.quiescent_DwGlu := fun m ρ _ => Cert.DwGlu.Gen.frame m ρ
theorem frame_pi : Cert.quiescent_DwGluIdeal := fun m ρ _ => Cert.DwGluIdeal.Gen.frame m ρ
theorem frame_ri : Cert.quiescent_DwGluRefIdeal := fun m ρ _ =>
  (θ_run _ _ _).mono (fun r h => ⟨fun c => (h c).2, sem_eq_zero_of_no_sems (by decide) r.2⟩) (Cert.DwGluRefIdeal.Value.run (F := Ideal) m ρ)

theorem preserves : Cert.preserves_DwGlu_DwGluIdeal := trivial

theorem algebraic : Cert.algebraic_DwGluIdeal_DwGluRefIdeal := fun m ρ m' ρ' _ hag =>
  ⟨fun c => Product.whole m c,
    (θ_run _ _ _).mono (fun r h c => ⟨(h c).1.trans (Product.array m c), (h c).2⟩)
      (Cert.DwGluIdeal.Value.run_blocks (F := Ideal) m ρ),
    (θ_run _ _ _).mono (fun r h c => ⟨(h c).1.trans (by
        rw [val_main_v8_eq, (hag c).1, (hag c).2]
        exact reference_at c m), (h c).2⟩)
      (Cert.DwGluRefIdeal.Value.run (F := Ideal) m' ρ')⟩

end Cert.DwGluClaims
end
-- ==== Proof.DwInProduct.lean ====
/-
  The gradient of the weights of the mixing layer's input projection.
-/
module

public import proofs.«01_k».proof.Defs
public import proofs.«01_k».proof.Proof.Gen.DwIn.Frame
public import proofs.«01_k».proof.Proof.Gen.DwInIdeal.Value
public import proofs.«01_k».proof.Proof.Gen.DwInRefIdeal.Read
public import proofs.«01_k».proof.Proof.Tiles
public import proofs.«01_k».proof.Proof.Zeros

@[expose] public section

set_option maxRecDepth 16384

noncomputable section

namespace Cert.DwInIdeal.Product

open Cert.DwInIdeal Cert.DwInIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x2048 .bf16 := m ((c : Thread nD τ).loc main_arg0)
abbrev arr1 (c : Dev nD) : Vec Ideal S4096x7168 .bf16 := m ((c : Thread nD τ).loc main_arg1)

/-- The entry of a weight's gradient: the sum over the rows of the input times the gradient of the product. -/
def entry (c : Dev nD) (k : Fin 2048) (n : Fin 7168) : EReal :=
  ∑ s : Fin 4096, arr0 m c (ix2 s k) * arr1 m c (ix2 s n)

/-- The whole array of entries. -/
def whole (c : Dev nD) : Vec Ideal S8x2048x896 .bf16 := fun i => entry m c (i 1) ⟨(i 0).val * 896 + (i 2).val, by have h0 : (i 0).val < 8 := (i 0).isLt; have h2 : (i 2).val < 896 := (i 2).isLt; omega⟩

theorem bound (t : Fin cfg0.N) : t.val < 32 := t.isLt.trans_eq N_0

theorem index0 : ∀ t : Fin cfg0.N, win0_0.index t 0 = 0 ∧ win0_0.index t 1 = t.val % 4 := by
  intro (t : Fin grid0.N); revert t; decide +kernel

theorem index1 : ∀ t : Fin cfg0.N, win0_1.index t 0 = 0 ∧ win0_1.index t 1 = t.val / 4 := by
  intro (t : Fin grid0.N); revert t; decide +kernel

theorem index2 : ∀ t : Fin cfg0.N, win0_2.index t 0 = t.val / 4 ∧ win0_2.index t 1 = t.val % 4 ∧ win0_2.index t 2 = 0 := by
  intro (t : Fin grid0.N); revert t; decide +kernel

/-! ### The input blocks of a grid point -/

theorem blk0 (c : Dev nD) (t : Fin cfg0.N) (y0 : Fin 4096) (y1 : Fin 512) :
    (iblk m c 0 t : Vec Ideal S4096x512 .bf16) (ix2 y0 y1)
      = arr0 m c (ix2 y0 ⟨t.val % 4 * 512 + y1.val, by have h := bound t; omega⟩) :=
  (View.read_apply ..).trans (tile (arr0 m c) _ (index0 t) _ _ (by show 0 * 4096 + y0.val = y0.val; omega) rfl rfl rfl)

theorem blk1 (c : Dev nD) (t : Fin cfg0.N) (y0 : Fin 4096) (y1 : Fin 896) :
    (iblk m c 1 t : Vec Ideal S4096x896 .bf16) (ix2 y0 y1)
      = arr1 m c (ix2 y0 ⟨t.val / 4 * 896 + y1.val, by have h := bound t; omega⟩) :=
  (View.read_apply ..).trans (tile (arr1 m c) _ (index1 t) _ _ (by show 0 * 4096 + y0.val = y0.val; omega) rfl rfl rfl)

/-! ### What a grid point leaves in its output block -/

theorem out_eq (x : Vec Ideal S4096x512 .bf16) (w : Vec Ideal S4096x896 .bf16) : out0_2 (F := Ideal) x w = k0_pay1 x w := by
  unfold out0_2
  rw [View.canon_unit_zero zeros3]
  simp only [View.ld_unit_zero (S := S4096x512) zeros2, View.ld_unit_zero (S := S4096x896) zeros2]

theorem pay_at (x : Vec Ideal S4096x512 .bf16) (w : Vec Ideal S4096x896 .bf16) (k : Fin 512) (n : Fin 896) :
    k0_pay1 (F := Ideal) x w (ix3 0 k n) = ∑ s : Fin 4096, x (ix2 s k) * w (ix2 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  obtain rfl : y0 = 0 := Subsingleton.elim _ _
  refine (pay_at _ _ y1 y2).trans ?_
  simp only [blk0, blk1]
  show entry m c ⟨t.val % 4 * 512 + y1.val, by omega⟩ ⟨t.val / 4 * 896 + y2.val, by omega⟩ = _
  refine congrArg₂ (entry m c) (Fin.ext ?_) (Fin.ext ?_)
  · show t.val % 4 * 512 + y1.val = (win0_2.index t 1 * 512 + 1 * y1.val); rw [(index2 t).2.1] <;> omega
  · show t.val / 4 * 896 + y2.val = (win0_2.index t 0 * 1 + 1 * 0) * 896 + (win0_2.index t 2 * 896 + 1 * y2.val); rw [(index2 t).1, (index2 t).2.2] <;> omega

theorem cover (i : S8x2048x896.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 896 := (i 2).isLt
  have hN : (i 0).val * 4 + (i 1).val / 512 < cfg0.N := lt_of_lt_of_eq (by omega : (i 0).val * 4 + (i 1).val / 512 < 32) N_0.symm
  refine ⟨⟨(i 0).val * 4 + (i 1).val / 512, hN⟩, flush0_2 _, ?_⟩
  refine View.set_slice_whole main_v0 (win0_2.rect ⟨(i 0).val * 4 + (i 1).val / 512, hN⟩) ▸ Rect.mem_set_unit.mpr fun a => ?_
  have ht : (⟨(i 0).val * 4 + (i 1).val / 512, hN⟩ : Fin cfg0.N).val = (i 0).val * 4 + (i 1).val / 512 := rfl
  generalize (⟨(i 0).val * 4 + (i 1).val / 512, hN⟩ : Fin cfg0.N) = t at ht
  match a with
  | ⟨0, _⟩ => show win0_2.index t 0 * 1 ≤ (i 0).val ∧ (i 0).val < win0_2.index t 0 * 1 + 1; rw [(index2 t).1] <;> omega
  | ⟨1, _⟩ => show win0_2.index t 1 * 512 ≤ (i 1).val ∧ (i 1).val < win0_2.index t 1 * 512 + 512; rw [(index2 t).2.1] <;> omega
  | ⟨2, _⟩ => show win0_2.index t 2 * 896 ≤ (i 2).val ∧ (i 2).val < win0_2.index t 2 * 896 + 896; rw [(index2 t).2.2] <;> omega

/-- The array after the call. -/
theorem array (c : Dev nD) : (dats m 0 c).arrAt 2 cfg0.N = whole m c :=
  (dats m 0 c).arrAt_eq_of_cover 2 (whole m c) (fun t hf => flushed_eq m c t hf) cover

end Cert.DwInIdeal.Product

namespace Cert.DwInClaims

open Idealize.ShloMosaic Idealize.ShloMosaic.TcCoe Idealize.SL.Sem Cert.DwInRefIdeal.Read Cert.DwInIdeal

/-- The reference's result, read at an index. -/
theorem reference_at (c : Dev nD) (m : (ℓ : Loc nD τ sig) → Buf (Elt Ideal) ℓ) :
    val_main_v8 (F := Ideal) (m ((c : Thread nD τ).loc main_arg0)) (m ((c : Thread nD τ).loc main_arg1))
      = Product.whole m c := by
  funext i
  idx_vars i
  show _ = Product.entry m c _ _
  unfold Product.entry
  unfold val_main_v8 val_main_v7 val_main_v6 val_main_v5 val_main_v4 val_main_v3 val_main_v1
  pointwise
  exact Finset.sum_congr rfl fun _ _ => mul_comm _ _

theorem frame_p : Cert.quiescent_DwIn := fun m ρ _ => Cert.DwIn.Gen.frame m ρ
theorem frame_pi : Cert.quiescent_DwInIdeal := fun m ρ _ => Cert.DwInIdeal.Gen.frame m ρ
theorem frame_ri : Cert.quiescent_DwInRefIdeal := fun m ρ _ =>
  (θ_run _ _ _).mono (fun r h => ⟨fun c => (h c).2, sem_eq_zero_of_no_sems (by decide) r.2⟩) (Cert.DwInRefIdeal.Value.run (F := Ideal) m ρ)

theorem preserves : Cert.preserves_DwIn_DwInIdeal := trivial

theorem algebraic : Cert.algebraic_DwInIdeal_DwInRefIdeal := fun m ρ m' ρ' _ hag =>
  ⟨fun c => Product.whole m c,
    (θ_run _ _ _).mono (fun r h c => ⟨(h c).1.trans (Product.array m c), (h c).2⟩)
      (Cert.DwInIdeal.Value.run_blocks (F := Ideal) m ρ),
    (θ_run _ _ _).mono (fun r h c => ⟨(h c).1.trans (by
        rw [val_main_v8_eq, (hag c).1, (hag c).2]
        exact reference_at c m), (h c).2⟩)
      (Cert.DwInRefIdeal.Value.run (F := Ideal) m' ρ')⟩

end Cert.DwInClaims
end
-- ==== Proof.DwKvProduct.lean ====
/-
  The gradient of the weights of the attention's keys and values.
-/
module

public import proofs.«01_k».proof.Defs
public import proofs.«01_k».proof.Proof.Gen.DwKv.Frame
public import proofs.«01_k».proof.Proof.Gen.DwKvIdeal.Value
public import proofs.«01_k».proof.Proof.Gen.DwKvRefIdeal.Read
public import proofs.«01_k».proof.Proof.Tiles
public import proofs.«01_k».proof.Proof.Zeros

@[expose] public section

set_option maxRecDepth 16384

noncomputable section

namespace Cert.DwKvIdeal.Product

open Cert.DwKvIdeal Cert.DwKvIdeal.Gen Cert.Tiles Idealize.ShloMosaic Idealize.ShloMosaic.TcCoe Idealize.SL.Sem

variable (m : (ℓ : Loc nD τ sig) → Buf (Elt Ideal) ℓ)

abbrev arr0 (c : Dev nD) : Vec Ideal S256x2048 .bf16 := m ((c : Thread nD τ).loc main_arg0)
abbrev arr1 (c : Dev nD) : Vec Ideal S256x4096 .bf16 := m ((c : Thread nD τ).loc main_arg1)

/-- The entry of a weight's gradient: the sum over the rows of the input times the gradient of the product. -/
def entry (c : Dev nD) (k : Fin 2048) (n : Fin 4096) : EReal :=
  ∑ s : Fin 256, arr0 m c (ix2 s k) * arr1 m c (ix2 s n)

/-- The whole array of entries. -/
def whole (c : Dev nD) : Vec Ideal S8x2048x512 .bf16 := fun i => entry m c (i 1) ⟨(i 0).val * 512 + (i 2).val, by have h0 : (i 0).val < 8 := (i 0).isLt; have h2 : (i 2).val < 512 := (i 2).isLt; omega⟩

theorem bound (t : Fin cfg0.N) : t.val < 32 := t.isLt.trans_eq N_0

theorem index0 : ∀ t : Fin cfg0.N, win0_0.index t 0 = 0 ∧ win0_0.index t 1 = t.val % 4 := by
  intro (t : Fin grid0.N); revert t; decide +kernel

theorem index1 : ∀ t : Fin cfg0.N, win0_1.index t 0 = 0 ∧ win0_1.index t 1 = t.val / 4 := by
  intro (t : Fin grid0.N); revert t; decide +kernel

theorem index2 : ∀ t : Fin cfg0.N, win0_2.index t 0 = t.val / 4 ∧ win0_2.index t 1 = t.val % 4 ∧ win0_2.index t 2 = 0 := by
  intro (t : Fin grid0.N); revert t; decide +kernel

/-! ### The input blocks of a grid point -/

theorem blk0 (c : Dev nD) (t : Fin cfg0.N) (y0 : Fin 256) (y1 : Fin 512) :
    (iblk m c 0 t : Vec Ideal S256x512 .bf16) (ix2 y0 y1)
      = arr0 m c (ix2 y0 ⟨t.val % 4 * 512 + y1.val, by have h := bound t; omega⟩) :=
  (View.read_apply ..).trans (tile (arr0 m c) _ (index0 t) _ _ (by show 0 * 256 + y0.val = y0.val; omega) rfl rfl rfl)

theorem blk1 (c : Dev nD) (t : Fin cfg0.N) (y0 : Fin 256) (y1 : Fin 512) :
    (iblk m c 1 t : Vec Ideal S256x512 .bf16) (ix2 y0 y1)
      = arr1 m c (ix2 y0 ⟨t.val / 4 * 512 + y1.val, by have h := bound t; omega⟩) :=
  (View.read_apply ..).trans (tile (arr1 m c) _ (index1 t) _ _ (by show 0 * 256 + y0.val = y0.val; omega) rfl rfl rfl)

/-! ### What a grid point leaves in its output block -/

theorem out_eq (x : Vec Ideal S256x512 .bf16) (w : Vec Ideal S256x512 .bf16) : out0_2 (F := Ideal) x w = k0_pay1 x w := by
  unfold out0_2
  rw [View.canon_unit_zero zeros3]
  simp only [View.ld_unit_zero (S := S256x512) zeros2]

theorem pay_at (x : Vec Ideal S256x512 .bf16) (w : Vec Ideal S256x512 .bf16) (k : Fin 512) (n : Fin 512) :
    k0_pay1 (F := Ideal) x w (ix3 0 k n) = ∑ s : Fin 256, x (ix2 s k) * w (ix2 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  obtain rfl : y0 = 0 := Subsingleton.elim _ _
  refine (pay_at _ _ y1 y2).trans ?_
  simp only [blk0, blk1]
  show entry m c ⟨t.val % 4 * 512 + y1.val, by omega⟩ ⟨t.val / 4 * 512 + y2.val, by omega⟩ = _
  refine congrArg₂ (entry m c) (Fin.ext ?_) (Fin.ext ?_)
  · show t.val % 4 * 512 + y1.val = (win0_2.index t 1 * 512 + 1 * y1.val); rw [(index2 t).2.1] <;> omega
  · show t.val / 4 * 512 + y2.val = (win0_2.index t 0 * 1 + 1 * 0) * 512 + (win0_2.index t 2 * 512 + 1 * y2.val); rw [(index2 t).1, (index2 t).2.2] <;> omega

theorem cover (i : S8x2048x512.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 512 := (i 2).isLt
  have hN : (i 0).val * 4 + (i 1).val / 512 < cfg0.N := lt_of_lt_of_eq (by omega : (i 0).val * 4 + (i 1).val / 512 < 32) N_0.symm
  refine ⟨⟨(i 0).val * 4 + (i 1).val / 512, hN⟩, flush0_2 _, ?_⟩
  refine View.set_slice_whole main_v0 (win0_2.rect ⟨(i 0).val * 4 + (i 1).val / 512, hN⟩) ▸ Rect.mem_set_unit.mpr fun a => ?_
  have ht : (⟨(i 0).val * 4 + (i 1).val / 512, hN⟩ : Fin cfg0.N).val = (i 0).val * 4 + (i 1).val / 512 := rfl
  generalize (⟨(i 0).val * 4 + (i 1).val / 512, hN⟩ : Fin cfg0.N) = t at ht
  match a with
  | ⟨0, _⟩ => show win0_2.index t 0 * 1 ≤ (i 0).val ∧ (i 0).val < win0_2.index t 0 * 1 + 1; rw [(index2 t).1] <;> omega
  | ⟨1, _⟩ => show win0_2.index t 1 * 512 ≤ (i 1).val ∧ (i 1).val < win0_2.index t 1 * 512 + 512; rw [(index2 t).2.1] <;> omega
  | ⟨2, _⟩ => show win0_2.index t 2 * 512 ≤ (i 2).val ∧ (i 2).val < win0_2.index t 2 * 512 + 512; rw [(index2 t).2.2] <;> omega

/-- The array after the call. -/
theorem array (c : Dev nD) : (dats m 0 c).arrAt 2 cfg0.N = whole m c :=
  (dats m 0 c).arrAt_eq_of_cover 2 (whole m c) (fun t hf => flushed_eq m c t hf) cover

end Cert.DwKvIdeal.Product

namespace Cert.DwKvClaims

open Idealize.ShloMosaic Idealize.ShloMosaic.TcCoe Idealize.SL.Sem Cert.DwKvRefIdeal.Read Cert.DwKvIdeal

/-- The reference's result, read at an index. -/
theorem reference_at (c : Dev nD) (m : (ℓ : Loc nD τ sig) → Buf (Elt Ideal) ℓ) :
    val_main_v8 (F := Ideal) (m ((c : Thread nD τ).loc main_arg0)) (m ((c : Thread nD τ).loc main_arg1))
      = Product.whole m c := by
  funext i
  idx_vars i
  show _ = Product.entry m c _ _
  unfold Product.entry
  unfold val_main_v8 val_main_v7 val_main_v6 val_main_v5 val_main_v4 val_main_v3 val_main_v1
  pointwise
  exact Finset.sum_congr rfl fun _ _ => mul_comm _ _

theorem frame_p : Cert.quiescent_DwKv := fun m ρ _ => Cert.DwKv.Gen.frame m ρ
theorem frame_pi : Cert.quiescent_DwKvIdeal := fun m ρ _ => Cert.DwKvIdeal.Gen.frame m ρ
theorem frame_ri : Cert.quiescent_DwKvRefIdeal := fun m ρ _ =>
  (θ_run _ _ _).mono (fun r h => ⟨fun c => (h c).2, sem_eq_zero_of_no_sems (by decide) r.2⟩) (Cert.DwKvRefIdeal.Value.run (F := Ideal) m ρ)

theorem preserves : Cert.preserves_DwKv_DwKvIdeal := trivial

theorem algebraic : Cert.algebraic_DwKvIdeal_DwKvRefIdeal := fun m ρ m' ρ' _ hag =>
  ⟨fun c => Product.whole m c,
    (θ_run _ _ _).mono (fun r h c => ⟨(h c).1.trans (Product.array m c), (h c).2⟩)
      (Cert.DwKvIdeal.Value.run_blocks (F := Ideal) m ρ),
    (θ_run _ _ _).mono (fun r h c => ⟨(h c).1.trans (by
        rw [val_main_v8_eq, (hag c).1, (hag c).2]
        exact reference_at c m), (h c).2⟩)
      (Cert.DwKvRefIdeal.Value.run (F := Ideal) m' ρ')⟩

end Cert.DwKvClaims
end
-- ==== Proof.DwOutProduct.lean ====
/-
  The gradient of a square projection's weights.
-/
module

public import proofs.«01_k».proof.Defs
public import proofs.«01_k».proof.Proof.Gen.DwOut.Frame
public import proofs.«01_k».proof.Proof.Gen.DwOutIdeal.Value
public import proofs.«01_k».proof.Proof.Gen.DwOutRefIdeal.Read
public import proofs.«01_k».proof.Proof.Tiles
public import proofs.«01_k».proof.Proof.Zeros

@[expose] public section

set_option maxRecDepth 16384

noncomputable section

namespace Cert.DwOutIdeal.Product

open Cert.DwOutIdeal Cert.DwOutIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x2048 .bf16 := m ((c : Thread nD τ).loc main_arg0)
abbrev arr1 (c : Dev nD) : Vec Ideal S4096x2048 .bf16 := m ((c : Thread nD τ).loc main_arg1)

/-- The entry of a weight's gradient: the sum over the rows of the input times the gradient of the product. -/
def entry (c : Dev nD) (k : Fin 2048) (n : Fin 2048) : EReal :=
  ∑ s : Fin 4096, arr0 m c (ix2 s k) * arr1 m c (ix2 s n)

/-- The whole array of entries. -/
def whole (c : Dev nD) : Vec Ideal S2048x2048 .bf16 := fun i => entry m c (i 0) (i 1)

theorem bound (t : Fin cfg0.N) : t.val < 8 := t.isLt.trans_eq N_0

theorem index0 : ∀ t : Fin cfg0.N, win0_0.index t 0 = 0 ∧ win0_0.index t 1 = t.val % 4 := by
  intro (t : Fin grid0.N); revert t; decide +kernel

theorem index1 : ∀ t : Fin cfg0.N, win0_1.index t 0 = 0 ∧ win0_1.index t 1 = t.val / 4 := by
  intro (t : Fin grid0.N); revert t; decide +kernel

theorem index2 : ∀ t : Fin cfg0.N, win0_2.index t 0 = t.val % 4 ∧ win0_2.index t 1 = t.val / 4 := by
  intro (t : Fin grid0.N); revert t; decide +kernel

/-! ### The input blocks of a grid point -/

theorem blk0 (c : Dev nD) (t : Fin cfg0.N) (y0 : Fin 4096) (y1 : Fin 512) :
    (iblk m c 0 t : Vec Ideal S4096x512 .bf16) (ix2 y0 y1)
      = arr0 m c (ix2 y0 ⟨t.val % 4 * 512 + y1.val, by have h := bound t; omega⟩) :=
  (View.read_apply ..).trans (tile (arr0 m c) _ (index0 t) _ _ (by show 0 * 4096 + y0.val = y0.val; omega) rfl rfl rfl)

theorem blk1 (c : Dev nD) (t : Fin cfg0.N) (y0 : Fin 4096) (y1 : Fin 1024) :
    (iblk m c 1 t : Vec Ideal S4096x1024 .bf16) (ix2 y0 y1)
      = arr1 m c (ix2 y0 ⟨t.val / 4 * 1024 + y1.val, by have h := bound t; omega⟩) :=
  (View.read_apply ..).trans (tile (arr1 m c) _ (index1 t) _ _ (by show 0 * 4096 + y0.val = y0.val; omega) rfl rfl rfl)

/-! ### What a grid point leaves in its output block -/

theorem out_eq (x : Vec Ideal S4096x512 .bf16) (w : Vec Ideal S4096x1024 .bf16) : out0_2 (F := Ideal) x w = k0_pay1 x w := by
  unfold out0_2
  rw [View.canon_unit_zero zeros2]
  simp only [View.ld_unit_zero (S := S4096x1024) zeros2, View.ld_unit_zero (S := S4096x512) zeros2]

theorem pay_at (x : Vec Ideal S4096x512 .bf16) (w : Vec Ideal S4096x1024 .bf16) (k : Fin 512) (n : Fin 1024) :
    k0_pay1 (F := Ideal) x w (ix2 k n) = ∑ s : Fin 4096, x (ix2 s k) * w (ix2 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  refine (pay_at _ _ y0 y1).trans ?_
  simp only [blk0, blk1]
  show entry m c ⟨t.val % 4 * 512 + y0.val, by omega⟩ ⟨t.val / 4 * 1024 + y1.val, by omega⟩ = _
  refine congrArg₂ (entry m c) (Fin.ext ?_) (Fin.ext ?_)
  · show t.val % 4 * 512 + y0.val = (win0_2.index t 0 * 512 + 1 * y0.val); rw [(index2 t).1] <;> omega
  · show t.val / 4 * 1024 + y1.val = (win0_2.index t 1 * 1024 + 1 * y1.val); rw [(index2 t).2] <;> omega

theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have hN : (i 1).val / 1024 * 4 + (i 0).val / 512 < cfg0.N := lt_of_lt_of_eq (by omega : (i 1).val / 1024 * 4 + (i 0).val / 512 < 8) N_0.symm
  refine ⟨⟨(i 1).val / 1024 * 4 + (i 0).val / 512, hN⟩, flush0_2 _, ?_⟩
  refine View.set_slice_whole main_v0 (win0_2.rect ⟨(i 1).val / 1024 * 4 + (i 0).val / 512, hN⟩) ▸ Rect.mem_set_unit.mpr ?_
  exact within (a := 512) (b := 1024) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.DwOutIdeal.Product

namespace Cert.DwOutClaims

open Idealize.ShloMosaic Idealize.ShloMosaic.TcCoe Idealize.SL.Sem Cert.DwOutRefIdeal.Read Cert.DwOutIdeal

/-- The reference's result, read at an index. -/
theorem reference_at (c : Dev nD) (m : (ℓ : Loc nD τ sig) → Buf (Elt Ideal) ℓ) :
    val_main_v6 (F := Ideal) (m ((c : Thread nD τ).loc main_arg0)) (m ((c : Thread nD τ).loc main_arg1))
      = Product.whole m c := by
  funext i
  idx_vars i
  show _ = Product.entry m c _ _
  unfold Product.entry
  unfold val_main_v6 val_main_v5 val_main_v4 val_main_v3 val_main_v1
  pointwise
  exact Finset.sum_congr rfl fun _ _ => mul_comm _ _

theorem frame_p : Cert.quiescent_DwOut := fun m ρ _ => Cert.DwOut.Gen.frame m ρ
theorem frame_pi : Cert.quiescent_DwOutIdeal := fun m ρ _ => Cert.DwOutIdeal.Gen.frame m ρ
theorem frame_ri : Cert.quiescent_DwOutRefIdeal := fun m ρ _ =>
  (θ_run _ _ _).mono (fun r h => ⟨fun c => (h c).2, sem_eq_zero_of_no_sems (by decide) r.2⟩) (Cert.DwOutRefIdeal.Value.run (F := Ideal) m ρ)

theorem preserves : Cert.preserves_DwOut_DwOutIdeal := trivial

theorem algebraic : Cert.algebraic_DwOutIdeal_DwOutRefIdeal := fun m ρ m' ρ' _ hag =>
  ⟨fun c => Product.whole m c,
    (θ_run _ _ _).mono (fun r h c => ⟨(h c).1.trans (Product.array m c), (h c).2⟩)
      (Cert.DwOutIdeal.Value.run_blocks (F := Ideal) m ρ),
    (θ_run _ _ _).mono (fun r h c => ⟨(h c).1.trans (by
        rw [val_main_v6_eq, (hag c).1, (hag c).2]
        exact reference_at c m), (h c).2⟩)
      (Cert.DwOutRefIdeal.Value.run (F := Ideal) m' ρ')⟩

end Cert.DwOutClaims
end
-- ==== Proof.DwPwProduct.lean ====
/-
  The gradient of the weights of the convolution branch's output projection.
-/
module

public import proofs.«01_k».proof.Defs
public import proofs.«01_k».proof.Proof.Gen.DwPw.Frame
public import proofs.«01_k».proof.Proof.Gen.DwPwIdeal.Value
public import proofs.«01_k».proof.Proof.Gen.DwPwRefIdeal.Read
public import proofs.«01_k».proof.Proof.Tiles
public import proofs.«01_k».proof.Proof.Zeros

@[expose] public section

set_option maxRecDepth 16384

noncomputable section

namespace Cert.DwPwIdeal.Product

open Cert.DwPwIdeal Cert.DwPwIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x1024 .bf16 := m ((c : Thread nD τ).loc main_arg0)
abbrev arr1 (c : Dev nD) : Vec Ideal S4096x2048 .bf16 := m ((c : Thread nD τ).loc main_arg1)

/-- The entry of a weight's gradient: the sum over the rows of the input times the gradient of the product. -/
def entry (c : Dev nD) (k : Fin 1024) (n : Fin 2048) : EReal :=
  ∑ s : Fin 4096, arr0 m c (ix2 s k) * arr1 m c (ix2 s n)

/-- The whole array of entries. -/
def whole (c : Dev nD) : Vec Ideal S8x1024x256 .bf16 := fun i => entry m c (i 1) ⟨(i 0).val * 256 + (i 2).val, by have h0 : (i 0).val < 8 := (i 0).isLt; have h2 : (i 2).val < 256 := (i 2).isLt; omega⟩

theorem bound (t : Fin cfg0.N) : t.val < 16 := t.isLt.trans_eq N_0

theorem index0 : ∀ t : Fin cfg0.N, win0_0.index t 0 = 0 ∧ win0_0.index t 1 = t.val % 2 := by
  intro (t : Fin grid0.N); revert t; decide +kernel

theorem index1 : ∀ t : Fin cfg0.N, win0_1.index t 0 = 0 ∧ win0_1.index t 1 = t.val / 2 := by
  intro (t : Fin grid0.N); revert t; decide +kernel

theorem index2 : ∀ t : Fin cfg0.N, win0_2.index t 0 = t.val / 2 ∧ win0_2.index t 1 = t.val % 2 ∧ win0_2.index t 2 = 0 := by
  intro (t : Fin grid0.N); revert t; decide +kernel

/-! ### The input blocks of a grid point -/

theorem blk0 (c : Dev nD) (t : Fin cfg0.N) (y0 : Fin 4096) (y1 : Fin 512) :
    (iblk m c 0 t : Vec Ideal S4096x512 .bf16) (ix2 y0 y1)
      = arr0 m c (ix2 y0 ⟨t.val % 2 * 512 + y1.val, by have h := bound t; omega⟩) :=
  (View.read_apply ..).trans (tile (arr0 m c) _ (index0 t) _ _ (by show 0 * 4096 + y0.val = y0.val; omega) rfl rfl rfl)

theorem blk1 (c : Dev nD) (t : Fin cfg0.N) (y0 : Fin 4096) (y1 : Fin 256) :
    (iblk m c 1 t : Vec Ideal S4096x256 .bf16) (ix2 y0 y1)
      = arr1 m c (ix2 y0 ⟨t.val / 2 * 256 + y1.val, by have h := bound t; omega⟩) :=
  (View.read_apply ..).trans (tile (arr1 m c) _ (index1 t) _ _ (by show 0 * 4096 + y0.val = y0.val; omega) rfl rfl rfl)

/-! ### What a grid point leaves in its output block -/

theorem out_eq (x : Vec Ideal S4096x512 .bf16) (w : Vec Ideal S4096x256 .bf16) : out0_2 (F := Ideal) x w = k0_pay1 x w := by
  unfold out0_2
  rw [View.canon_unit_zero zeros3]
  simp only [View.ld_unit_zero (S := S4096x256) zeros2, View.ld_unit_zero (S := S4096x512) zeros2]

theorem pay_at (x : Vec Ideal S4096x512 .bf16) (w : Vec Ideal S4096x256 .bf16) (k : Fin 512) (n : Fin 256) :
    k0_pay1 (F := Ideal) x w (ix3 0 k n) = ∑ s : Fin 4096, x (ix2 s k) * w (ix2 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  obtain rfl : y0 = 0 := Subsingleton.elim _ _
  refine (pay_at _ _ y1 y2).trans ?_
  simp only [blk0, blk1]
  show entry m c ⟨t.val % 2 * 512 + y1.val, by omega⟩ ⟨t.val / 2 * 256 + y2.val, by omega⟩ = _
  refine congrArg₂ (entry m c) (Fin.ext ?_) (Fin.ext ?_)
  · show t.val % 2 * 512 + y1.val = (win0_2.index t 1 * 512 + 1 * y1.val); rw [(index2 t).2.1] <;> omega
  · show t.val / 2 * 256 + y2.val = (win0_2.index t 0 * 1 + 1 * 0) * 256 + (win0_2.index t 2 * 256 + 1 * y2.val); rw [(index2 t).1, (index2 t).2.2] <;> omega

theorem cover (i : S8x1024x256.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 256 := (i 2).isLt
  have hN : (i 0).val * 2 + (i 1).val / 512 < cfg0.N := lt_of_lt_of_eq (by omega : (i 0).val * 2 + (i 1).val / 512 < 16) N_0.symm
  refine ⟨⟨(i 0).val * 2 + (i 1).val / 512, hN⟩, flush0_2 _, ?_⟩
  refine View.set_slice_whole main_v0 (win0_2.rect ⟨(i 0).val * 2 + (i 1).val / 512, hN⟩) ▸ Rect.mem_set_unit.mpr fun a => ?_
  have ht : (⟨(i 0).val * 2 + (i 1).val / 512, hN⟩ : Fin cfg0.N).val = (i 0).val * 2 + (i 1).val / 512 := rfl
  generalize (⟨(i 0).val * 2 + (i 1).val / 512, hN⟩ : Fin cfg0.N) = t at ht
  match a with
  | ⟨0, _⟩ => show win0_2.index t 0 * 1 ≤ (i 0).val ∧ (i 0).val < win0_2.index t 0 * 1 + 1; rw [(index2 t).1] <;> omega
  | ⟨1, _⟩ => show win0_2.index t 1 * 512 ≤ (i 1).val ∧ (i 1).val < win0_2.index t 1 * 512 + 512; rw [(index2 t).2.1] <;> omega
  | ⟨2, _⟩ => show win0_2.index t 2 * 256 ≤ (i 2).val ∧ (i 2).val < win0_2.index t 2 * 256 + 256; rw [(index2 t).2.2] <;> omega

/-- The array after the call. -/
theorem array (c : Dev nD) : (dats m 0 c).arrAt 2 cfg0.N = whole m c :=
  (dats m 0 c).arrAt_eq_of_cover 2 (whole m c) (fun t hf => flushed_eq m c t hf) cover

end Cert.DwPwIdeal.Product

namespace Cert.DwPwClaims

open Idealize.ShloMosaic Idealize.ShloMosaic.TcCoe Idealize.SL.Sem Cert.DwPwRefIdeal.Read Cert.DwPwIdeal

/-- The reference's result, read at an index. -/
theorem reference_at (c : Dev nD) (m : (ℓ : Loc nD τ sig) → Buf (Elt Ideal) ℓ) :
    val_main_v8 (F := Ideal) (m ((c : Thread nD τ).loc main_arg0)) (m ((c : Thread nD τ).loc main_arg1))
      = Product.whole m c := by
  funext i
  idx_vars i
  show _ = Product.entry m c _ _
  unfold Product.entry
  unfold val_main_v8 val_main_v7 val_main_v6 val_main_v5 val_main_v4 val_main_v3 val_main_v1
  pointwise
  exact Finset.sum_congr rfl fun _ _ => mul_comm _ _

theorem frame_p : Cert.quiescent_DwPw := fun m ρ _ => Cert.DwPw.Gen.frame m ρ
theorem frame_pi : Cert.quiescent_DwPwIdeal := fun m ρ _ => Cert.DwPwIdeal.Gen.frame m ρ
theorem frame_ri : Cert.quiescent_DwPwRefIdeal := fun m ρ _ =>
  (θ_run _ _ _).mono (fun r h => ⟨fun c => (h c).2, sem_eq_zero_of_no_sems (by decide) r.2⟩) (Cert.DwPwRefIdeal.Value.run (F := Ideal) m ρ)

theorem preserves : Cert.preserves_DwPw_DwPwIdeal := trivial

theorem algebraic : Cert.algebraic_DwPwIdeal_DwPwRefIdeal := fun m ρ m' ρ' _ hag =>
  ⟨fun c => Product.whole m c,
    (θ_run _ _ _).mono (fun r h c => ⟨(h c).1.trans (Product.array m c), (h c).2⟩)
      (Cert.DwPwIdeal.Value.run_blocks (F := Ideal) m ρ),
    (θ_run _ _ _).mono (fun r h c => ⟨(h c).1.trans (by
        rw [val_main_v8_eq, (hag c).1, (hag c).2]
        exact reference_at c m), (h c).2⟩)
      (Cert.DwPwRefIdeal.Value.run (F := Ideal) m' ρ')⟩

end Cert.DwPwClaims
end
-- ==== Proof.DwUpProduct.lean ====
/-
  The gradient of the up projection's weights.
-/
module

public import proofs.«01_k».proof.Defs
public import proofs.«01_k».proof.Proof.Gen.DwUp.Frame
public import proofs.«01_k».proof.Proof.Gen.DwUpIdeal.Value
public import proofs.«01_k».proof.Proof.Gen.DwUpRefIdeal.Read
public import proofs.«01_k».proof.Proof.Tiles
public import proofs.«01_k».proof.Proof.Zeros

@[expose] public section

set_option maxRecDepth 16384

noncomputable section

namespace Cert.DwUpIdeal.Product

open Cert.DwUpIdeal Cert.DwUpIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x2048 .bf16 := m ((c : Thread nD τ).loc main_arg0)
abbrev arr1 (c : Dev nD) : Vec Ideal S4096x11264 .bf16 := m ((c : Thread nD τ).loc main_arg1)

/-- The entry of a weight's gradient: the sum over the rows of the input times the gradient of the product. -/
def entry (c : Dev nD) (k : Fin 2048) (n : Fin 11264) : EReal :=
  ∑ s : Fin 4096, arr0 m c (ix2 s k) * arr1 m c (ix2 s n)

/-- The whole array of entries. -/
def whole (c : Dev nD) : Vec Ideal S8x2048x1408 .bf16 := fun i => entry m c (i 1) ⟨(i 0).val * 1408 + (i 2).val, by have h0 : (i 0).val < 8 := (i 0).isLt; have h2 : (i 2).val < 1408 := (i 2).isLt; omega⟩

theorem bound (t : Fin cfg0.N) : t.val < 32 := t.isLt.trans_eq N_0

theorem index0 : ∀ t : Fin cfg0.N, win0_0.index t 0 = 0 ∧ win0_0.index t 1 = t.val % 4 := by
  intro (t : Fin grid0.N); revert t; decide +kernel

theorem index1 : ∀ t : Fin cfg0.N, win0_1.index t 0 = 0 ∧ win0_1.index t 1 = t.val / 4 := by
  intro (t : Fin grid0.N); revert t; decide +kernel

theorem index2 : ∀ t : Fin cfg0.N, win0_2.index t 0 = t.val / 4 ∧ win0_2.index t 1 = t.val % 4 ∧ win0_2.index t 2 = 0 := by
  intro (t : Fin grid0.N); revert t; decide +kernel

/-! ### The input blocks of a grid point -/

theorem blk0 (c : Dev nD) (t : Fin cfg0.N) (y0 : Fin 4096) (y1 : Fin 512) :
    (iblk m c 0 t : Vec Ideal S4096x512 .bf16) (ix2 y0 y1)
      = arr0 m c (ix2 y0 ⟨t.val % 4 * 512 + y1.val, by have h := bound t; omega⟩) :=
  (View.read_apply ..).trans (tile (arr0 m c) _ (index0 t) _ _ (by show 0 * 4096 + y0.val = y0.val; omega) rfl rfl rfl)

theorem blk1 (c : Dev nD) (t : Fin cfg0.N) (y0 : Fin 4096) (y1 : Fin 1408) :
    (iblk m c 1 t : Vec Ideal S4096x1408 .bf16) (ix2 y0 y1)
      = arr1 m c (ix2 y0 ⟨t.val / 4 * 1408 + y1.val, by have h := bound t; omega⟩) :=
  (View.read_apply ..).trans (tile (arr1 m c) _ (index1 t) _ _ (by show 0 * 4096 + y0.val = y0.val; omega) rfl rfl rfl)

/-! ### What a grid point leaves in its output block -/

theorem out_eq (x : Vec Ideal S4096x512 .bf16) (w : Vec Ideal S4096x1408 .bf16) : out0_2 (F := Ideal) x w = k0_pay1 x w := by
  unfold out0_2
  rw [View.canon_unit_zero zeros3]
  simp only [View.ld_unit_zero (S := S4096x1408) zeros2, View.ld_unit_zero (S := S4096x512) zeros2]

theorem pay_at (x : Vec Ideal S4096x512 .bf16) (w : Vec Ideal S4096x1408 .bf16) (k : Fin 512) (n : Fin 1408) :
    k0_pay1 (F := Ideal) x w (ix3 0 k n) = ∑ s : Fin 4096, x (ix2 s k) * w (ix2 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  obtain rfl : y0 = 0 := Subsingleton.elim _ _
  refine (pay_at _ _ y1 y2).trans ?_
  simp only [blk0, blk1]
  show entry m c ⟨t.val % 4 * 512 + y1.val, by omega⟩ ⟨t.val / 4 * 1408 + y2.val, by omega⟩ = _
  refine congrArg₂ (entry m c) (Fin.ext ?_) (Fin.ext ?_)
  · show t.val % 4 * 512 + y1.val = (win0_2.index t 1 * 512 + 1 * y1.val); rw [(index2 t).2.1] <;> omega
  · show t.val / 4 * 1408 + y2.val = (win0_2.index t 0 * 1 + 1 * 0) * 1408 + (win0_2.index t 2 * 1408 + 1 * y2.val); rw [(index2 t).1, (index2 t).2.2] <;> omega

theorem cover (i : S8x2048x1408.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 1408 := (i 2).isLt
  have hN : (i 0).val * 4 + (i 1).val / 512 < cfg0.N := lt_of_lt_of_eq (by omega : (i 0).val * 4 + (i 1).val / 512 < 32) N_0.symm
  refine ⟨⟨(i 0).val * 4 + (i 1).val / 512, hN⟩, flush0_2 _, ?_⟩
  refine View.set_slice_whole main_v0 (win0_2.rect ⟨(i 0).val * 4 + (i 1).val / 512, hN⟩) ▸ Rect.mem_set_unit.mpr fun a => ?_
  have ht : (⟨(i 0).val * 4 + (i 1).val / 512, hN⟩ : Fin cfg0.N).val = (i 0).val * 4 + (i 1).val / 512 := rfl
  generalize (⟨(i 0).val * 4 + (i 1).val / 512, hN⟩ : Fin cfg0.N) = t at ht
  match a with
  | ⟨0, _⟩ => show win0_2.index t 0 * 1 ≤ (i 0).val ∧ (i 0).val < win0_2.index t 0 * 1 + 1; rw [(index2 t).1] <;> omega
  | ⟨1, _⟩ => show win0_2.index t 1 * 512 ≤ (i 1).val ∧ (i 1).val < win0_2.index t 1 * 512 + 512; rw [(index2 t).2.1] <;> omega
  | ⟨2, _⟩ => show win0_2.index t 2 * 1408 ≤ (i 2).val ∧ (i 2).val < win0_2.index t 2 * 1408 + 1408; rw [(index2 t).2.2] <;> omega

/-- The array after the call. -/
theorem array (c : Dev nD) : (dats m 0 c).arrAt 2 cfg0.N = whole m c :=
  (dats m 0 c).arrAt_eq_of_cover 2 (whole m c) (fun t hf => flushed_eq m c t hf) cover

end Cert.DwUpIdeal.Product

namespace Cert.DwUpClaims

open Idealize.ShloMosaic Idealize.ShloMosaic.TcCoe Idealize.SL.Sem Cert.DwUpRefIdeal.Read Cert.DwUpIdeal

/-- The reference's result, read at an index. -/
theorem reference_at (c : Dev nD) (m : (ℓ : Loc nD τ sig) → Buf (Elt Ideal) ℓ) :
    val_main_v8 (F := Ideal) (m ((c : Thread nD τ).loc main_arg0)) (m ((c : Thread nD τ).loc main_arg1))
      = Product.whole m c := by
  funext i
  idx_vars i
  show _ = Product.entry m c _ _
  unfold Product.entry
  unfold val_main_v8 val_main_v7 val_main_v6 val_main_v5 val_main_v4 val_main_v3 val_main_v1
  pointwise
  exact Finset.sum_congr rfl fun _ _ => mul_comm _ _

theorem frame_p : Cert.quiescent_DwUp := fun m ρ _ => Cert.DwUp.Gen.frame m ρ
theorem frame_pi : Cert.quiescent_DwUpIdeal := fun m ρ _ => Cert.DwUpIdeal.Gen.frame m ρ
theorem frame_ri : Cert.quiescent_DwUpRefIdeal := fun m ρ _ =>
  (θ_run _ _ _).mono (fun r h => ⟨fun c => (h c).2, sem_eq_zero_of_no_sems (by decide) r.2⟩) (Cert.DwUpRefIdeal.Value.run (F := Ideal) m ρ)

theorem preserves : Cert.preserves_DwUp_DwUpIdeal := trivial

theorem algebraic : Cert.algebraic_DwUpIdeal_DwUpRefIdeal := fun m ρ m' ρ' _ hag =>
  ⟨fun c => Product.whole m c,
    (θ_run _ _ _).mono (fun r h c => ⟨(h c).1.trans (Product.array m c), (h c).2⟩)
      (Cert.DwUpIdeal.Value.run_blocks (F := Ideal) m ρ),
    (θ_run _ _ _).mono (fun r h c => ⟨(h c).1.trans (by
        rw [val_main_v8_eq, (hag c).1, (hag c).2]
        exact reference_at c m), (h c).2⟩)
      (Cert.DwUpRefIdeal.Value.run (F := Ideal) m' ρ')⟩

end Cert.DwUpClaims
end
-- ==== Proof.GluProduct.lean ====
/-
  The recurrence's gated output projection.
-/
module

public import proofs.«01_k».proof.Defs
public import proofs.«01_k».proof.Proof.Gen.Glu.Frame
public import proofs.«01_k».proof.Proof.Gen.GluIdeal.Value
public import proofs.«01_k».proof.Proof.Gen.GluRefIdeal.Read
public import proofs.«01_k».proof.Proof.Tiles
public import proofs.«01_k».proof.Proof.Zeros

@[expose] public section

set_option maxRecDepth 16384

noncomputable section

namespace Cert.GluIdeal.Product

open Cert.GluIdeal Cert.GluIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x1024 .bf16 := m ((c : Thread nD τ).loc main_arg0)
abbrev arr1 (c : Dev nD) : Vec Ideal S8x1x1024x512 .bf16 := m ((c : Thread nD τ).loc main_arg1)

/-- The entry of the product: the sum over a row of the input times a column of the weights. -/
def entry (c : Dev nD) (l : Fin 4096) (n : Fin 8 × Fin 512) : EReal :=
  ∑ s : Fin 1024, arr0 m c (ix2 l s) * arr1 m c (ix4 n.1 0 s n.2)

/-- The whole array of entries. -/
def whole (c : Dev nD) : Vec Ideal S4096x4096 .f32 := fun i => entry m c (i 0) (⟨(i 1).val / 512, by have h : (i 1).val < 4096 := (i 1).isLt; omega⟩, ⟨(i 1).val % 512, by omega⟩)

theorem bound (t : Fin cfg0.N) : t.val < 32 := t.isLt.trans_eq N_0

theorem index0 : ∀ t : Fin cfg0.N, win0_0.index t 0 = t.val / 8 ∧ win0_0.index t 1 = 0 := by
  intro (t : Fin grid0.N); revert t; decide +kernel

theorem index1 : ∀ t : Fin cfg0.N, win0_1.index t 0 = t.val % 8 ∧ win0_1.index t 1 = 0 ∧ win0_1.index t 2 = 0 ∧ win0_1.index t 3 = 0 := by
  intro (t : Fin grid0.N); revert t; decide +kernel

theorem index2 : ∀ t : Fin cfg0.N, win0_2.index t 0 = t.val / 8 ∧ win0_2.index t 1 = t.val % 8 := by
  intro (t : Fin grid0.N); revert t; decide +kernel

/-! ### The input blocks of a grid point -/

theorem blk0 (c : Dev nD) (t : Fin cfg0.N) (y0 : Fin 1024) (y1 : Fin 1024) :
    (iblk m c 0 t : Vec Ideal S1024x1024 .bf16) (ix2 y0 y1)
      = arr0 m c (ix2 ⟨t.val / 8 * 1024 + y0.val, by have h := bound t; omega⟩ y1) :=
  (View.read_apply ..).trans (tile_rows (arr0 m c) _ (index0 t) _ _ rfl rfl rfl rfl)

theorem blk1 (c : Dev nD) (t : Fin cfg0.N) (y2 : Fin 1024) (y3 : Fin 512) :
    (iblk m c 1 t : Vec Ideal S1x1x1024x512 .bf16) (ix4 0 0 y2 y3)
      = arr1 m c (ix4 ⟨t.val % 8, by have h := bound t; omega⟩ 0 y2 y3) := by
  refine (View.read_apply ..).trans (congrArg (m _) (funext fun a => Fin.ext ?_))
  match a with
  | ⟨0, _⟩ => show win0_1.index t 0 * 1 + 1 * 0 = t.val % 8; rw [(index1 t).1] <;> omega
  | ⟨1, _⟩ => show win0_1.index t 1 * 1 + 1 * 0 = 0; rw [(index1 t).2.1] <;> omega
  | ⟨2, _⟩ => show win0_1.index t 2 * 1024 + 1 * y2.val = y2.val; rw [(index1 t).2.2.1] <;> omega
  | ⟨3, _⟩ => show win0_1.index t 3 * 512 + 1 * y3.val = y3.val; rw [(index1 t).2.2.2] <;> omega

/-! ### What a grid point leaves in its output block -/

theorem out_eq (x : Vec Ideal S1024x1024 .bf16) (w : Vec Ideal S1x1x1024x512 .bf16) : out0_2 (F := Ideal) x w = k0_pay1 x w := by
  unfold out0_2
  rw [View.canon_unit_zero zeros2]
  simp only [View.ld_unit_zero (S := S1024x1024) zeros2, View.ld_unit_zero (S := S1x1x1024x512) zeros4]

theorem pay_at (x : Vec Ideal S1024x1024 .bf16) (w : Vec Ideal S1x1x1024x512 .bf16) (l : Fin 1024) (n : Fin 512) :
    k0_pay1 (F := Ideal) x w (ix2 l n) = ∑ s : Fin 1024, x (ix2 l s) * w (ix4 0 0 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  refine (pay_at _ _ y0 y1).trans ?_
  simp only [blk0, blk1]
  show entry m c ⟨t.val / 8 * 1024 + y0.val, by omega⟩ (⟨t.val % 8, by omega⟩, y1) = _
  refine congrArg₂ (entry m c) (Fin.ext ?_) (Prod.ext (Fin.ext ?_) (Fin.ext ?_))
  · show t.val / 8 * 1024 + y0.val = win0_2.index t 0 * 1024 + 1 * y0.val; rw [(index2 t).1] <;> omega
  · show t.val % 8 = (win0_2.index t 1 * 512 + 1 * y1.val) / 512; rw [(index2 t).2] <;> omega
  · show y1.val = (win0_2.index t 1 * 512 + 1 * y1.val) % 512; rw [(index2 t).2] <;> omega

theorem cover (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  have hN : (i 0).val / 1024 * 8 + (i 1).val / 512 < cfg0.N := lt_of_lt_of_eq (by omega : (i 0).val / 1024 * 8 + (i 1).val / 512 < 32) N_0.symm
  refine ⟨⟨(i 0).val / 1024 * 8 + (i 1).val / 512, hN⟩, flush0_2 _, ?_⟩
  refine View.set_slice_whole main_v0 (win0_2.rect ⟨(i 0).val / 1024 * 8 + (i 1).val / 512, hN⟩) ▸ Rect.mem_set_unit.mpr ?_
  exact within (a := 1024) (b := 512) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.GluIdeal.Product

namespace Cert.GluClaims

open Idealize.ShloMosaic Idealize.ShloMosaic.TcCoe Idealize.SL.Sem Cert.GluRefIdeal.Read Cert.GluIdeal

/-- The reference's result, read at an index. -/
theorem reference_at (c : Dev nD) (m : (ℓ : Loc nD τ sig) → Buf (Elt Ideal) ℓ) :
    val_main_v5 (F := Ideal) (m ((c : Thread nD τ).loc main_arg0)) (m ((c : Thread nD τ).loc main_arg1))
      = Product.whole m c := by
  funext i
  idx_vars i
  show _ = Product.entry m c _ _
  unfold Product.entry
  unfold val_main_v5 val_main_v4 val_main_v3 val_main_v2 val_main_v1 val_main_v0
  pointwise

theorem frame_p : Cert.quiescent_Glu := fun m ρ _ => Cert.Glu.Gen.frame m ρ
theorem frame_pi : Cert.quiescent_GluIdeal := fun m ρ _ => Cert.GluIdeal.Gen.frame m ρ
theorem frame_ri : Cert.quiescent_GluRefIdeal := fun m ρ _ =>
  (θ_run _ _ _).mono (fun r h => ⟨fun c => (h c).2, sem_eq_zero_of_no_sems (by decide) r.2⟩) (Cert.GluRefIdeal.Value.run (F := Ideal) m ρ)

theorem preserves : Cert.preserves_Glu_GluIdeal := trivial

theorem algebraic : Cert.algebraic_GluIdeal_GluRefIdeal := fun m ρ m' ρ' _ hag =>
  ⟨fun c => Product.whole m c,
    (θ_run _ _ _).mono (fun r h c => ⟨(h c).1.trans (Product.array m c), (h c).2⟩)
      (Cert.GluIdeal.Value.run_blocks (F := Ideal) m ρ),
    (θ_run _ _ _).mono (fun r h c => ⟨(h c).1.trans (by
        rw [val_main_v5_eq, (hag c).1, (hag c).2]
        exact reference_at c m), (h c).2⟩)
      (Cert.GluRefIdeal.Value.run (F := Ideal) m' ρ')⟩

end Cert.GluClaims
end
-- ==== Proof.GluTProduct.lean ====
/-
  The gradient of the input of the recurrence's gated output projection.
-/
module

public import proofs.«01_k».proof.Defs
public import proofs.«01_k».proof.Proof.Gen.GluT.Frame
public import proofs.«01_k».proof.Proof.Gen.GluTIdeal.Value
public import proofs.«01_k».proof.Proof.Gen.GluTRefIdeal.Read
public import proofs.«01_k».proof.Proof.Carried
public import proofs.«01_k».proof.Proof.Tiles
public import proofs.«01_k».proof.Proof.Zeros

@[expose] public section

set_option maxRecDepth 16384

noncomputable section

namespace Cert.GluTIdeal.Product

open Cert.GluTIdeal Cert.GluTIdeal.Gen Cert.Carried Cert.Tiles Idealize.ShloMosaic Idealize.ShloMosaic.TcCoe Idealize.SL.Sem

variable (m : (ℓ : Loc nD τ sig) → Buf (Elt Ideal) ℓ)

abbrev arr0 (c : Dev nD) : Vec Ideal S4096x4096 .bf16 := m ((c : Thread nD τ).loc main_arg0)
abbrev arr1 (c : Dev nD) : Vec Ideal S8x1x1024x512 .bf16 := m ((c : Thread nD τ).loc main_arg1)

/-- The sum over the columns, which lie on 8 devices. -/
def total (c : Dev nD) (l : Fin 4096) (k : Fin 1024) : EReal :=
  ∑ j : Fin 8, ∑ s : Fin 512, arr0 m c (ix2 l ⟨j.val * 512 + s.val, by omega⟩) * arr1 m c (ix4 j 0 k s)

/-- The entry of the input's gradient: the sum over the columns of a row of the product's gradient times a row of the weights. -/
def entry (c : Dev nD) (l : Fin 4096) (k : Fin 1024) : EReal :=
  total m c l k

/-- The whole array of entries. -/
def whole (c : Dev nD) : Vec Ideal S4096x1024 .bf16 := fun i => entry m c (i 0) (i 1)

theorem bound (t : Fin cfg0.N) : t.val < 32 := t.isLt.trans_eq N_0

theorem index0 : ∀ t : Fin cfg0.N, win0_0.index t 0 = t.val / 8 ∧ win0_0.index t 1 = t.val % 8 := by
  intro (t : Fin grid0.N); revert t; decide +kernel

theorem index1 : ∀ t : Fin cfg0.N, win0_1.index t 0 = t.val % 8 ∧ win0_1.index t 1 = 0 ∧ win0_1.index t 2 = 0 ∧ win0_1.index t 3 = 0 := by
  intro (t : Fin grid0.N); revert t; decide +kernel

theorem index2 : ∀ t : Fin cfg0.N, win0_2.index t 0 = t.val / 8 ∧ win0_2.index t 1 = 0 := by
  intro (t : Fin grid0.N); revert t; decide +kernel

/-! ### The input blocks of a grid point -/

theorem blk0 (c : Dev nD) (t : Fin cfg0.N) (y0 : Fin 1024) (y1 : Fin 512) :
    (iblk m c 0 t : Vec Ideal S1024x512 .bf16) (ix2 y0 y1)
      = arr0 m c (ix2 ⟨t.val / 8 * 1024 + y0.val, by have h := bound t; omega⟩ ⟨t.val % 8 * 512 + y1.val, by have h := bound t; omega⟩) :=
  (View.read_apply ..).trans (tile (arr0 m c) _ (index0 t) _ _ rfl rfl rfl rfl)

theorem blk1 (c : Dev nD) (t : Fin cfg0.N) (y2 : Fin 1024) (y3 : Fin 512) :
    (iblk m c 1 t : Vec Ideal S1x1x1024x512 .bf16) (ix4 0 0 y2 y3)
      = arr1 m c (ix4 ⟨t.val % 8, by have h := bound t; omega⟩ 0 y2 y3) := by
  refine (View.read_apply ..).trans (congrArg (m _) (funext fun a => Fin.ext ?_))
  match a with
  | ⟨0, _⟩ => show win0_1.index t 0 * 1 + 1 * 0 = t.val % 8; rw [(index1 t).1] <;> omega
  | ⟨1, _⟩ => show win0_1.index t 1 * 1 + 1 * 0 = 0; rw [(index1 t).2.1] <;> omega
  | ⟨2, _⟩ => show win0_1.index t 2 * 1024 + 1 * y2.val = y2.val; rw [(index1 t).2.2.1] <;> omega
  | ⟨3, _⟩ => show win0_1.index t 3 * 512 + 1 * y3.val = y3.val; rw [(index1 t).2.2.2] <;> omega

/-! ### What a grid point leaves in its output block -/

section
variable (c : Dev nD) (i : grid0.Coords) (a3 : Memref sig .tc .vmem S1024x512 .bf16) (h3 : a3.IsWhole) (a4 : Memref sig .tc .vmem S1x1x1024x512 .bf16) (h4 : a4.IsWhole) (a5 : Memref sig .tc .vmem S1024x1024 .bf16) (h5 : a5.IsWhole) (a6 : Memref sig .tc .vmem S1024x1024 .f32) (h6 : a6.IsWhole)
  (x : Vec Ideal S1024x512 .bf16) (w : Vec Ideal S1x1x1024x512 .bf16) (s : Vec Ideal S1024x1024 .f32)

theorem first_acc (hc0 : cond0_0 i) (hc1 : ¬cond0_1 i) (hc2 : ¬cond0_2 i) : sout0_A_0 (F := Ideal) c i a3 h3 a4 h4 a5 h5 a6 h6 hc0 hc1 hc2 x w = k0_pay2 x w := by
  unfold sout0_A_0
  rw [View.read_writes_eq_canon _ _ _ (fun _ => scover0_A_0 ..)]
  unfold kernelRun0_A
  dsimp only
  sl_unfold_words
  rw [View.canon_unit_zero zeros2]
  simp only [View.readAt_eq_ld, h3.read_unread, h4.read_unread, View.ld_unit_zero (S := S1024x1024) zeros2, View.ld_unit_zero (S := S1024x512) zeros2, View.ld_unit_zero (S := S1x1x1024x512) zeros4]

theorem next_acc (hc0 : ¬cond0_0 i) (hc1 : cond0_1 i) (hc2 : ¬cond0_2 i) : sout0_B_0 (F := Ideal) c i a3 h3 a4 h4 a5 h5 a6 h6 hc0 hc1 hc2 x w s = k0_pay3 x w s := by
  unfold sout0_B_0
  rw [View.read_writes_eq_canon _ _ _ (fun _ => scover0_B_0 ..)]
  unfold kernelRun0_B
  dsimp only
  sl_unfold_words
  rw [View.canon_unit_zero zeros2]
  simp only [View.readAt_eq_ld, h3.read_unread, h4.read_unread, h6.read_unread, View.ld_unit_zero (S := S1024x1024) zeros2, View.ld_unit_zero (S := S1024x512) zeros2, View.ld_unit_zero (S := S1x1x1024x512) zeros4]

theorem last_acc (hc0 : ¬cond0_0 i) (hc1 : cond0_1 i) (hc2 : cond0_2 i) : sout0_C_0 (F := Ideal) c i a3 h3 a4 h4 a5 h5 a6 h6 hc0 hc1 hc2 x w s = k0_pay3 x w s := by
  unfold sout0_C_0
  rw [View.read_writes_eq_canon _ _ _ (fun _ => scover0_C_0 ..)]
  unfold kernelRun0_C
  dsimp only
  sl_unfold_words
  rw [View.canon_unit_zero zeros2]
  simp only [View.readAt_eq_ld, h3.read_unread, h4.read_unread, h6.read_unread, View.ld_unit_zero (S := S1024x1024) zeros2, View.ld_unit_zero (S := S1024x512) zeros2, View.ld_unit_zero (S := S1x1x1024x512) zeros4]

theorem last_out (hc0 : ¬cond0_0 i) (hc1 : cond0_1 i) (hc2 : cond0_2 i) : out0_C_2 (F := Ideal) c i a3 h3 a4 h4 a5 h5 a6 h6 hc0 hc1 hc2 x w s = k0_pay4 (k0_pay3 x w s) := by
  unfold out0_C_2
  rw [View.read_writes_eq_canon _ _ _ (fun _ => cover0_C_2 ..)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S1024x1024) zeros2, View.ld_unit_zero (S := S1024x512) zeros2, View.ld_unit_zero (S := S1x1x1024x512) zeros4]

end

theorem pay2_at (x : Vec Ideal S1024x512 .bf16) (w : Vec Ideal S1x1x1024x512 .bf16) (l : Fin 1024) (k : Fin 1024) :
    k0_pay2 (F := Ideal) x w (ix2 l k) = ∑ s : Fin 512, x (ix2 l s) * w (ix4 0 0 k s) := by
  unfold k0_pay2 k0_pay1
  pointwise

theorem pay3_at (x : Vec Ideal S1024x512 .bf16) (w : Vec Ideal S1x1x1024x512 .bf16) (s : Vec Ideal S1024x1024 .f32) (l : Fin 1024) (k : Fin 1024) :
    k0_pay3 (F := Ideal) x w s (ix2 l k) = s (ix2 l k) + ∑ s : Fin 512, x (ix2 l s) * w (ix4 0 0 k s) := by
  unfold k0_pay3 k0_pay1
  pointwise

theorem pay4_at (s : Vec Ideal S1024x1024 .f32) (l : Fin 1024) (k : Fin 1024) :
    k0_pay4 (F := Ideal) s (ix2 l k) = s (ix2 l k) := by
  unfold k0_pay4
  pointwise

/-- The row of the result that row `l` of a point's block is. -/
def rowOf (t : Fin cfg0.N) (l : Fin 1024) : Fin 4096 := ⟨t.val / 8 * 1024 + l.val, by have h := bound t; omega⟩
/-- The column of the result that column `k` of a point's block is. -/
def colOf (t : Fin cfg0.N) (k : Fin 1024) : Fin 1024 := ⟨k.val, by have h := bound t; omega⟩

/-- The part of an entry's sum that point `j` of its 8 points adds. -/
def part (c : Dev nD) (l : Fin 4096) (k : Fin 1024) (j : ℕ) : EReal :=
  if h : j < 8 then ∑ s : Fin 512, arr0 m c (ix2 l ⟨j * 512 + s.val, by omega⟩) * arr1 m c (ix4 ⟨j, h⟩ 0 k s) else 0

theorem part_at (c : Dev nD) (t : Fin cfg0.N) (l : Fin 1024) (k : Fin 1024) (x : Vec Ideal S1024x512 .bf16) (w : Vec Ideal S1x1x1024x512 .bf16)
    (hx : x = iblk m c 0 t) (hw : w = iblk m c 1 t) :
    ∑ s : Fin 512, x (ix2 l s) * w (ix4 0 0 k s) = part m c (rowOf t l) (colOf t k) (t.val % 8) := by
  subst hx hw
  unfold part
  rw [dif_pos (Nat.mod_lt _ (by decide))]
  simp only [blk0, blk1]
  rfl

theorem parts (c : Dev nD) (l : Fin 4096) (k : Fin 1024) : ∑ j ∈ Finset.range 8, part m c l k j = total m c l k := by
  rw [← Fin.sum_univ_eq_sum_range]
  unfold total
  refine Finset.sum_congr rfl fun j _ => ?_
  unfold part
  rw [dif_pos j.isLt]

/-- After a point, the carried block holds the sum of the parts so far. -/
theorem acc_at (c : Dev nD) (l : Fin 1024) (k : Fin 1024) : ∀ (n : ℕ) (hn : n < cfg0.N),
    (outsAt0 m c n hn).2 (ix2 l k) = ∑ j ∈ Finset.range (n % 8 + 1), part m c (rowOf ⟨n, hn⟩ l) (colOf ⟨n, hn⟩ k) j := by
  refine carried (by decide) _ (fun n hn => part m c (rowOf ⟨n, hn⟩ l) (colOf ⟨n, hn⟩ k)) (fun n hn h0 => ?_) (fun n hn h0 => ?_) (fun n hn h0 => ?_)
  · rw [outsAt0_A m c ⟨n, hn⟩ h0 (by show ¬1 ≤ n % 8; omega) (by show ¬n % 8 = 7; omega)]
    dsimp only
    rw [first_acc, pay2_at]
    exact part_at m c ⟨n, hn⟩ l k _ _ rfl rfl
  · by_cases h2 : (n + 1) % 8 = 7
    · rw [outsAt0_C m c ⟨n + 1, hn⟩ h0 (by show 1 ≤ (n + 1) % 8; omega) h2]
      dsimp only
      rw [last_acc, pay3_at]
      exact congrArg _ (part_at m c ⟨n + 1, hn⟩ l k _ _ rfl rfl)
    · rw [outsAt0_B m c ⟨n + 1, hn⟩ h0 (by show 1 ≤ (n + 1) % 8; omega) h2]
      dsimp only
      rw [next_acc, pay3_at]
      exact congrArg _ (part_at m c ⟨n + 1, hn⟩ l k _ _ rfl rfl)
  · have hb : n + 1 < 32 := hn.trans_eq N_0
    exact congrArg₂ (part m c) (Fin.ext (by show n / 8 * 1024 + l.val = (n + 1) / 8 * 1024 + l.val; omega)) (Fin.ext (by show k.val = k.val; omega))

/-- The block that is written back is the carried block. -/
theorem out_at (c : Dev nD) (t : Fin cfg0.N) (h2 : t.val % 8 = 7) (l : Fin 1024) (k : Fin 1024) :
    (outsAt0 m c t.val t.isLt).1 (ix2 l k) = (outsAt0 m c t.val t.isLt).2 (ix2 l k) := by
  rw [outsAt0_C m c t (by omega) (by omega) h2]
  dsimp only
  rw [last_out, last_acc, pay4_at]

theorem flushed_eq (c : Dev nD) (t : Fin cfg0.N) (hf : (cfg0.win 2).flush t = true) :
    (dats m 0 c).flushed 2 t = ((cfg0.win 2).blk t).view.read (Elt Ideal) (whole m c) := by
  have h2 : t.val % 8 = 7 := (flush0_2 t).mp hf
  rw [Value.flushed2]
  show (outsAt0 m c t.val t.isLt).1 = _
  have hb := bound t
  funext y
  idx_vars y
  rw [View.read_apply, out_at m c t h2, acc_at, h2]
  show _ = entry m c _ _
  refine ((parts m c _ _)).trans ?_
  show entry m c ⟨t.val / 8 * 1024 + y0.val, by omega⟩ ⟨y1.val, by omega⟩ = _
  refine congrArg₂ (entry m c) (Fin.ext ?_) (Fin.ext ?_)
  · show t.val / 8 * 1024 + y0.val = (win0_2.index t 0 * 1024 + 1 * y0.val); rw [(index2 t).1] <;> omega
  · show y1.val = (win0_2.index t 1 * 1024 + 1 * y1.val); rw [(index2 t).2] <;> omega

theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have hN : ((i 0).val / 1024) * 8 + 7 < cfg0.N := lt_of_lt_of_eq (by omega : ((i 0).val / 1024) * 8 + 7 < 32) N_0.symm
  refine ⟨⟨((i 0).val / 1024) * 8 + 7, hN⟩, (flush0_2 _).mpr (by show (((i 0).val / 1024) * 8 + 7) % 8 = 7; omega), ?_⟩
  refine View.set_slice_whole main_v0 (win0_2.rect ⟨((i 0).val / 1024) * 8 + 7, hN⟩) ▸ Rect.mem_set_unit.mpr ?_
  exact within (a := 1024) (b := 1024) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.GluTIdeal.Product

namespace Cert.GluTClaims

open Idealize.ShloMosaic Idealize.ShloMosaic.TcCoe Idealize.SL.Sem Cert.GluTRefIdeal.Read Cert.GluTIdeal

/-- The reference's result, read at an index. -/
theorem reference_at (c : Dev nD) (m : (ℓ : Loc nD τ sig) → Buf (Elt Ideal) ℓ) :
    val_main_v8 (F := Ideal) (m ((c : Thread nD τ).loc main_arg0)) (m ((c : Thread nD τ).loc main_arg1))
      = Product.whole m c := by
  funext i
  idx_vars i
  show _ = Product.entry m c _ _
  unfold Product.entry
  unfold Product.total
  unfold val_main_v8 val_main_v7 val_main_v6 val_main_v3 val_main_v2 val_main_v1 val_main_v0
  pointwise
  rw [Fin.sum_univ_tiles 8 512 (by decide)]
  refine Finset.sum_congr rfl fun j _ => Finset.sum_congr rfl fun s _ => ?_
  refine congrArg₂ (· * ·) rfl (congrArg _ ?_)
  refine congrArg₂ (fun a b => ix4 a 0 _ b) (Fin.ext ?_) (Fin.ext ?_)
  · show (j.val * 512 + s.val) / 512 = j.val; omega
  · show (j.val * 512 + s.val) % 512 = s.val; omega

theorem frame_p : Cert.quiescent_GluT := fun m ρ _ => Cert.GluT.Gen.frame m ρ
theorem frame_pi : Cert.quiescent_GluTIdeal := fun m ρ _ => Cert.GluTIdeal.Gen.frame m ρ
theorem frame_ri : Cert.quiescent_GluTRefIdeal := fun m ρ _ =>
  (θ_run _ _ _).mono (fun r h => ⟨fun c => (h c).2, sem_eq_zero_of_no_sems (by decide) r.2⟩) (Cert.GluTRefIdeal.Value.run (F := Ideal) m ρ)

theorem preserves : Cert.preserves_GluT_GluTIdeal := trivial

theorem algebraic : Cert.algebraic_GluTIdeal_GluTRefIdeal := fun m ρ m' ρ' _ hag =>
  ⟨fun c => Product.whole m c,
    (θ_run _ _ _).mono (fun r h c => ⟨(h c).1.trans (Product.array m c), (h c).2⟩)
      (Cert.GluTIdeal.Value.run_blocks (F := Ideal) m ρ),
    (θ_run _ _ _).mono (fun r h c => ⟨(h c).1.trans (by
        rw [val_main_v8_eq, (hag c).1, (hag c).2]
        exact reference_at c m), (h c).2⟩)
      (Cert.GluTRefIdeal.Value.run (F := Ideal) m' ρ')⟩

end Cert.GluTClaims
end
-- ==== Proof.InProduct.lean ====
/-
  The mixing layer's input projection.
-/
module

public import proofs.«01_k».proof.Defs
public import proofs.«01_k».proof.Proof.Gen.In.Frame
public import proofs.«01_k».proof.Proof.Gen.InIdeal.Value
public import proofs.«01_k».proof.Proof.Gen.InRefIdeal.Read
public import proofs.«01_k».proof.Proof.Tiles
public import proofs.«01_k».proof.Proof.Zeros

@[expose] public section

set_option maxRecDepth 16384

noncomputable section

namespace Cert.InIdeal.Product

open Cert.InIdeal Cert.InIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x2048 .bf16 := m ((c : Thread nD τ).loc main_arg0)
abbrev arr1 (c : Dev nD) : Vec Ideal S8x1x2048x896 .bf16 := m ((c : Thread nD τ).loc main_arg1)

/-- The entry of the product: the sum over a row of the input times a column of the weights. -/
def entry (c : Dev nD) (l : Fin 4096) (n : Fin 8 × Fin 896) : EReal :=
  ∑ s : Fin 2048, arr0 m c (ix2 l s) * arr1 m c (ix4 n.1 0 s n.2)

/-- The whole array of entries. -/
def whole (c : Dev nD) : Vec Ideal S4096x7168 .f32 := fun i => entry m c (i 0) (⟨(i 1).val / 896, by have h : (i 1).val < 7168 := (i 1).isLt; omega⟩, ⟨(i 1).val % 896, by omega⟩)

theorem bound (t : Fin cfg0.N) : t.val < 32 := t.isLt.trans_eq N_0

theorem index0 : ∀ t : Fin cfg0.N, win0_0.index t 0 = t.val / 8 ∧ win0_0.index t 1 = 0 := by
  intro (t : Fin grid0.N); revert t; decide +kernel

theorem index1 : ∀ t : Fin cfg0.N, win0_1.index t 0 = t.val % 8 ∧ win0_1.index t 1 = 0 ∧ win0_1.index t 2 = 0 ∧ win0_1.index t 3 = 0 := by
  intro (t : Fin grid0.N); revert t; decide +kernel

theorem index2 : ∀ t : Fin cfg0.N, win0_2.index t 0 = t.val / 8 ∧ win0_2.index t 1 = t.val % 8 := by
  intro (t : Fin grid0.N); revert t; decide +kernel

/-! ### The input blocks of a grid point -/

theorem blk0 (c : Dev nD) (t : Fin cfg0.N) (y0 : Fin 1024) (y1 : Fin 2048) :
    (iblk m c 0 t : Vec Ideal S1024x2048 .bf16) (ix2 y0 y1)
      = arr0 m c (ix2 ⟨t.val / 8 * 1024 + y0.val, by have h := bound t; omega⟩ y1) :=
  (View.read_apply ..).trans (tile_rows (arr0 m c) _ (index0 t) _ _ rfl rfl rfl rfl)

theorem blk1 (c : Dev nD) (t : Fin cfg0.N) (y2 : Fin 2048) (y3 : Fin 896) :
    (iblk m c 1 t : Vec Ideal S1x1x2048x896 .bf16) (ix4 0 0 y2 y3)
      = arr1 m c (ix4 ⟨t.val % 8, by have h := bound t; omega⟩ 0 y2 y3) := by
  refine (View.read_apply ..).trans (congrArg (m _) (funext fun a => Fin.ext ?_))
  match a with
  | ⟨0, _⟩ => show win0_1.index t 0 * 1 + 1 * 0 = t.val % 8; rw [(index1 t).1] <;> omega
  | ⟨1, _⟩ => show win0_1.index t 1 * 1 + 1 * 0 = 0; rw [(index1 t).2.1] <;> omega
  | ⟨2, _⟩ => show win0_1.index t 2 * 2048 + 1 * y2.val = y2.val; rw [(index1 t).2.2.1] <;> omega
  | ⟨3, _⟩ => show win0_1.index t 3 * 896 + 1 * y3.val = y3.val; rw [(index1 t).2.2.2] <;> omega

/-! ### What a grid point leaves in its output block -/

theorem out_eq (x : Vec Ideal S1024x2048 .bf16) (w : Vec Ideal S1x1x2048x896 .bf16) : out0_2 (F := Ideal) x w = k0_pay1 x w := by
  unfold out0_2
  rw [View.canon_unit_zero zeros2]
  simp only [View.ld_unit_zero (S := S1024x2048) zeros2, View.ld_unit_zero (S := S1x1x2048x896) zeros4]

theorem pay_at (x : Vec Ideal S1024x2048 .bf16) (w : Vec Ideal S1x1x2048x896 .bf16) (l : Fin 1024) (n : Fin 896) :
    k0_pay1 (F := Ideal) x w (ix2 l n) = ∑ s : Fin 2048, x (ix2 l s) * w (ix4 0 0 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  refine (pay_at _ _ y0 y1).trans ?_
  simp only [blk0, blk1]
  show entry m c ⟨t.val / 8 * 1024 + y0.val, by omega⟩ (⟨t.val % 8, by omega⟩, y1) = _
  refine congrArg₂ (entry m c) (Fin.ext ?_) (Prod.ext (Fin.ext ?_) (Fin.ext ?_))
  · show t.val / 8 * 1024 + y0.val = win0_2.index t 0 * 1024 + 1 * y0.val; rw [(index2 t).1] <;> omega
  · show t.val % 8 = (win0_2.index t 1 * 896 + 1 * y1.val) / 896; rw [(index2 t).2] <;> omega
  · show y1.val = (win0_2.index t 1 * 896 + 1 * y1.val) % 896; rw [(index2 t).2] <;> omega

theorem cover (i : S4096x7168.Idx) : ∃ t : Fin cfg0.N, (cfg0.win 2).flush t = true ∧ i ∈ ((cfg0.win 2).blk t).view.set := by
  have h0 : (i 0).val < 4096 := (i 0).isLt
  have h1 : (i 1).val < 7168 := (i 1).isLt
  have hN : (i 0).val / 1024 * 8 + (i 1).val / 896 < cfg0.N := lt_of_lt_of_eq (by omega : (i 0).val / 1024 * 8 + (i 1).val / 896 < 32) N_0.symm
  refine ⟨⟨(i 0).val / 1024 * 8 + (i 1).val / 896, hN⟩, flush0_2 _, ?_⟩
  refine View.set_slice_whole main_v0 (win0_2.rect ⟨(i 0).val / 1024 * 8 + (i 1).val / 896, hN⟩) ▸ Rect.mem_set_unit.mpr ?_
  exact within (a := 1024) (b := 896) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.InIdeal.Product

namespace Cert.InClaims

open Idealize.ShloMosaic Idealize.ShloMosaic.TcCoe Idealize.SL.Sem Cert.InRefIdeal.Read Cert.InIdeal

/-- The reference's result, read at an index. -/
theorem reference_at (c : Dev nD) (m : (ℓ : Loc nD τ sig) → Buf (Elt Ideal) ℓ) :
    val_main_v5 (F := Ideal) (m ((c : Thread nD τ).loc main_arg0)) (m ((c : Thread nD τ).loc main_arg1))
      = Product.whole m c := by
  funext i
  idx_vars i
  show _ = Product.entry m c _ _
  unfold Product.entry
  unfold val_main_v5 val_main_v4 val_main_v3 val_main_v2 val_main_v1 val_main_v0
  pointwise

theorem frame_p : Cert.quiescent_In := fun m ρ _ => Cert.In.Gen.frame m ρ
theorem frame_pi : Cert.quiescent_InIdeal := fun m ρ _ => Cert.InIdeal.Gen.frame m ρ
theorem frame_ri : Cert.quiescent_InRefIdeal := fun m ρ _ =>
  (θ_run _ _ _).mono (fun r h => ⟨fun c => (h c).2, sem_eq_zero_of_no_sems (by decide) r.2⟩) (Cert.InRefIdeal.Value.run (F := Ideal) m ρ)

theorem preserves : Cert.preserves_In_InIdeal := trivial

theorem algebraic : Cert.algebraic_InIdeal_InRefIdeal := fun m ρ m' ρ' _ hag =>
  ⟨fun c => Product.whole m c,
    (θ_run _ _ _).mono (fun r h c => ⟨(h c).1.trans (Product.array m c), (h c).2⟩)
      (Cert.InIdeal.Value.run_blocks (F := Ideal) m ρ),
    (θ_run _ _ _).mono (fun r h c => ⟨(h c).1.trans (by
        rw [val_main_v5_eq, (hag c).1, (hag c).2]
        exact reference_at c m), (h c).2⟩)
      (Cert.InRefIdeal.Value.run (F := Ideal) m' ρ')⟩

end Cert.InClaims
end
-- ==== Proof.InTProduct.lean ====
/-
  The gradient of the input of the mixing layer's input projection.
-/
module

public import proofs.«01_k».proof.Defs
public import proofs.«01_k».proof.Proof.Gen.InT.Frame
public import proofs.«01_k».proof.Proof.Gen.InTIdeal.Value
public import proofs.«01_k».proof.Proof.Gen.InTRefIdeal.Read
public import proofs.«01_k».proof.Proof.Carried
public import proofs.«01_k».proof.Proof.Tiles
public import proofs.«01_k».proof.Proof.Zeros

@[expose] public section

set_option maxRecDepth 16384

noncomputable section

namespace Cert.InTIdeal.Product

open Cert.InTIdeal Cert.InTIdeal.Gen Cert.Carried Cert.Tiles Idealize.ShloMosaic Idealize.ShloMosaic.TcCoe Idealize.SL.Sem

variable (m : (ℓ : Loc nD τ sig) → Buf (Elt Ideal) ℓ)

abbrev arr0 (c : Dev nD) : Vec Ideal S4096x7168 .bf16 := m ((c : Thread nD τ).loc main_arg0)
abbrev arr1 (c : Dev nD) : Vec Ideal S8x1x2048x896 .bf16 := m ((c : Thread nD τ).loc main_arg1)

/-- The sum over the columns, which lie on 8 devices. -/
def total (c : Dev nD) (l : Fin 4096) (k : Fin 2048) : EReal :=
  ∑ j : Fin 8, ∑ s : Fin 896, arr0 m c (ix2 l ⟨j.val * 896 + s.val, by omega⟩) * arr1 m c (ix4 j 0 k s)

/-- The entry of the input's gradient: the sum over the columns of a row of the product's gradient times a row of the weights. -/
def entry (c : Dev nD) (l : Fin 4096) (k : Fin 2048) : EReal :=
  total m c l k

/-- The whole array of entries. -/
def whole (c : Dev nD) : Vec Ideal S4096x2048 .bf16 := fun i => entry m c (i 0) (i 1)

theorem bound (t : Fin cfg0.N) : t.val < 64 := t.isLt.trans_eq N_0

theorem index0 : ∀ t : Fin cfg0.N, win0_0.index t 0 = t.val / 16 ∧ win0_0.index t 1 = t.val % 8 := by
  intro (t : Fin grid0.N); revert t; decide +kernel

theorem index1 : ∀ t : Fin cfg0.N, win0_1.index t 0 = t.val % 8 ∧ win0_1.index t 1 = 0 ∧ win0_1.index t 2 = t.val / 8 % 2 ∧ win0_1.index t 3 = 0 := by
  intro (t : Fin grid0.N); revert t; decide +kernel

theorem index2 : ∀ t : Fin cfg0.N, win0_2.index t 0 = t.val / 16 ∧ win0_2.index t 1 = t.val / 8 % 2 := by
  intro (t : Fin grid0.N); revert t; decide +kernel

/-! ### The input blocks of a grid point -/

theorem blk0 (c : Dev nD) (t : Fin cfg0.N) (y0 : Fin 1024) (y1 : Fin 896) :
    (iblk m c 0 t : Vec Ideal S1024x896 .bf16) (ix2 y0 y1)
      = arr0 m c (ix2 ⟨t.val / 16 * 1024 + y0.val, by have h := bound t; omega⟩ ⟨t.val % 8 * 896 + y1.val, by have h := bound t; omega⟩) :=
  (View.read_apply ..).trans (tile (arr0 m c) _ (index0 t) _ _ rfl rfl rfl rfl)

theorem blk1 (c : Dev nD) (t : Fin cfg0.N) (y2 : Fin 1024) (y3 : Fin 896) :
    (iblk m c 1 t : Vec Ideal S1x1x1024x896 .bf16) (ix4 0 0 y2 y3)
      = arr1 m c (ix4 ⟨t.val % 8, by have h := bound t; omega⟩ 0 ⟨t.val / 8 % 2 * 1024 + y2.val, by have h := bound t; omega⟩ y3) := by
  refine (View.read_apply ..).trans (congrArg (m _) (funext fun a => Fin.ext ?_))
  match a with
  | ⟨0, _⟩ => show win0_1.index t 0 * 1 + 1 * 0 = t.val % 8; rw [(index1 t).1] <;> omega
  | ⟨1, _⟩ => show win0_1.index t 1 * 1 + 1 * 0 = 0; rw [(index1 t).2.1] <;> omega
  | ⟨2, _⟩ => show win0_1.index t 2 * 1024 + 1 * y2.val = t.val / 8 % 2 * 1024 + y2.val; rw [(index1 t).2.2.1] <;> omega
  | ⟨3, _⟩ => show win0_1.index t 3 * 896 + 1 * y3.val = y3.val; rw [(index1 t).2.2.2] <;> omega

/-! ### What a grid point leaves in its output block -/

section
variable (c : Dev nD) (i : grid0.Coords) (a3 : Memref sig .tc .vmem S1024x896 .bf16) (h3 : a3.IsWhole) (a4 : Memref sig .tc .vmem S1x1x1024x896 .bf16) (h4 : a4.IsWhole) (a5 : Memref sig .tc .vmem S1024x1024 .bf16) (h5 : a5.IsWhole) (a6 : Memref sig .tc .vmem S1024x1024 .f32) (h6 : a6.IsWhole)
  (x : Vec Ideal S1024x896 .bf16) (w : Vec Ideal S1x1x1024x896 .bf16) (s : Vec Ideal S1024x1024 .f32)

theorem first_acc (hc0 : cond0_0 i) (hc1 : ¬cond0_1 i) (hc2 : ¬cond0_2 i) : sout0_A_0 (F := Ideal) c i a3 h3 a4 h4 a5 h5 a6 h6 hc0 hc1 hc2 x w = k0_pay2 x w := by
  unfold sout0_A_0
  rw [View.read_writes_eq_canon _ _ _ (fun _ => scover0_A_0 ..)]
  unfold kernelRun0_A
  dsimp only
  sl_unfold_words
  rw [View.canon_unit_zero zeros2]
  simp only [View.readAt_eq_ld, h3.read_unread, h4.read_unread, View.ld_unit_zero (S := S1024x1024) zeros2, View.ld_unit_zero (S := S1024x896) zeros2, View.ld_unit_zero (S := S1x1x1024x896) zeros4]

theorem next_acc (hc0 : ¬cond0_0 i) (hc1 : cond0_1 i) (hc2 : ¬cond0_2 i) : sout0_B_0 (F := Ideal) c i a3 h3 a4 h4 a5 h5 a6 h6 hc0 hc1 hc2 x w s = k0_pay3 x w s := by
  unfold sout0_B_0
  rw [View.read_writes_eq_canon _ _ _ (fun _ => scover0_B_0 ..)]
  unfold kernelRun0_B
  dsimp only
  sl_unfold_words
  rw [View.canon_unit_zero zeros2]
  simp only [View.readAt_eq_ld, h3.read_unread, h4.read_unread, h6.read_unread, View.ld_unit_zero (S := S1024x1024) zeros2, View.ld_unit_zero (S := S1024x896) zeros2, View.ld_unit_zero (S := S1x1x1024x896) zeros4]

theorem last_acc (hc0 : ¬cond0_0 i) (hc1 : cond0_1 i) (hc2 : cond0_2 i) : sout0_C_0 (F := Ideal) c i a3 h3 a4 h4 a5 h5 a6 h6 hc0 hc1 hc2 x w s = k0_pay3 x w s := by
  unfold sout0_C_0
  rw [View.read_writes_eq_canon _ _ _ (fun _ => scover0_C_0 ..)]
  unfold kernelRun0_C
  dsimp only
  sl_unfold_words
  rw [View.canon_unit_zero zeros2]
  simp only [View.readAt_eq_ld, h3.read_unread, h4.read_unread, h6.read_unread, View.ld_unit_zero (S := S1024x1024) zeros2, View.ld_unit_zero (S := S1024x896) zeros2, View.ld_unit_zero (S := S1x1x1024x896) zeros4]

theorem last_out (hc0 : ¬cond0_0 i) (hc1 : cond0_1 i) (hc2 : cond0_2 i) : out0_C_2 (F := Ideal) c i a3 h3 a4 h4 a5 h5 a6 h6 hc0 hc1 hc2 x w s = k0_pay4 (k0_pay3 x w s) := by
  unfold out0_C_2
  rw [View.read_writes_eq_canon _ _ _ (fun _ => cover0_C_2 ..)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S1024x1024) zeros2, View.ld_unit_zero (S := S1024x896) zeros2, View.ld_unit_zero (S := S1x1x1024x896) zeros4]

end

theorem pay2_at (x : Vec Ideal S1024x896 .bf16) (w : Vec Ideal S1x1x1024x896 .bf16) (l : Fin 1024) (k : Fin 1024) :
    k0_pay2 (F := Ideal) x w (ix2 l k) = ∑ s : Fin 896, x (ix2 l s) * w (ix4 0 0 k s) := by
  unfold k0_pay2 k0_pay1
  pointwise

theorem pay3_at (x : Vec Ideal S1024x896 .bf16) (w : Vec Ideal S1x1x1024x896 .bf16) (s : Vec Ideal S1024x1024 .f32) (l : Fin 1024) (k : Fin 1024) :
    k0_pay3 (F := Ideal) x w s (ix2 l k) = s (ix2 l k) + ∑ s : Fin 896, x (ix2 l s) * w (ix4 0 0 k s) := by
  unfold k0_pay3 k0_pay1
  pointwise

theorem pay4_at (s : Vec Ideal S1024x1024 .f32) (l : Fin 1024) (k : Fin 1024) :
    k0_pay4 (F := Ideal) s (ix2 l k) = s (ix2 l k) := by
  unfold k0_pay4
  pointwise

/-- The row of the result that row `l` of a point's block is. -/
def rowOf (t : Fin cfg0.N) (l : Fin 1024) : Fin 4096 := ⟨t.val / 16 * 1024 + l.val, by have h := bound t; omega⟩
/-- The column of the result that column `k` of a point's block is. -/
def colOf (t : Fin cfg0.N) (k : Fin 1024) : Fin 2048 := ⟨t.val / 8 % 2 * 1024 + k.val, by have h := bound t; omega⟩

/-- The part of an entry's sum that point `j` of its 8 points adds. -/
def part (c : Dev nD) (l : Fin 4096) (k : Fin 2048) (j : ℕ) : EReal :=
  if h : j < 8 then ∑ s : Fin 896, arr0 m c (ix2 l ⟨j * 896 + s.val, by omega⟩) * arr1 m c (ix4 ⟨j, h⟩ 0 k s) else 0

theorem part_at (c : Dev nD) (t : Fin cfg0.N) (l : Fin 1024) (k : Fin 1024) (x : Vec Ideal S1024x896 .bf16) (w : Vec Ideal S1x1x1024x896 .bf16)
    (hx : x = iblk m c 0 t) (hw : w = iblk m c 1 t) :
    ∑ s : Fin 896, x (ix2 l s) * w (ix4 0 0 k s) = part m c (rowOf t l) (colOf t k) (t.val % 8) := by
  subst hx hw
  unfold part
  rw [dif_pos (Nat.mod_lt _ (by decide))]
  simp only [blk0, blk1]
  rfl

theorem parts (c : Dev nD) (l : Fin 4096) (k : Fin 2048) : ∑ j ∈ Finset.range 8, part m c l k j = total m c l k := by
  rw [← Fin.sum_univ_eq_sum_range]
  unfold total
  refine Finset.sum_congr rfl fun j _ => ?_
  unfold part
  rw [dif_pos j.isLt]

/-- After a point, the carried block holds the sum of the parts so far. -/
theorem acc_at (c : Dev nD) (l : Fin 1024) (k : Fin 1024) : ∀ (n : ℕ) (hn : n < cfg0.N),
    (outsAt0 m c n hn).2 (ix2 l k) = ∑ j ∈ Finset.range (n % 8 + 1), part m c (rowOf ⟨n, hn⟩ l) (colOf ⟨n, hn⟩ k) j := by
  refine carried (by decide) _ (fun n hn => part m c (rowOf ⟨n, hn⟩ l) (colOf ⟨n, hn⟩ k)) (fun n hn h0 => ?_) (fun n hn h0 => ?_) (fun n hn h0 => ?_)
  · rw [outsAt0_A m c ⟨n, hn⟩ h0 (by show ¬1 ≤ n % 8; omega) (by show ¬n % 8 = 7; omega)]
    dsimp only
    rw [first_acc, pay2_at]
    exact part_at m c ⟨n, hn⟩ l k _ _ rfl rfl
  · by_cases h2 : (n + 1) % 8 = 7
    · rw [outsAt0_C m c ⟨n + 1, hn⟩ h0 (by show 1 ≤ (n + 1) % 8; omega) h2]
      dsimp only
      rw [last_acc, pay3_at]
      exact congrArg _ (part_at m c ⟨n + 1, hn⟩ l k _ _ rfl rfl)
    · rw [outsAt0_B m c ⟨n + 1, hn⟩ h0 (by show 1 ≤ (n + 1) % 8; omega) h2]
      dsimp only
      rw [next_acc, pay3_at]
      exact congrArg _ (part_at m c ⟨n + 1, hn⟩ l k _ _ rfl rfl)
  · have hb : n + 1 < 64 := hn.trans_eq N_0
    exact congrArg₂ (part m c) (Fin.ext (by show n / 16 * 1024 + l.val = (n + 1) / 16 * 1024 + l.val; omega)) (Fin.ext (by show n / 8 % 2 * 1024 + k.val = (n + 1) / 8 % 2 * 1024 + k.val; omega))

/-- The block that is written back is the carried block. -/
theorem out_at (c : Dev nD) (t : Fin cfg0.N) (h2 : t.val % 8 = 7) (l : Fin 1024) (k : Fin 1024) :
    (outsAt0 m c t.val t.isLt).1 (ix2 l k) = (outsAt0 m c t.val t.isLt).2 (ix2 l k) := by
  rw [outsAt0_C m c t (by omega) (by omega) h2]
  dsimp only
  rw [last_out, last_acc, pay4_at]

theorem flushed_eq (c : Dev nD) (t : Fin cfg0.N) (hf : (cfg0.win 2).flush t = true) :
    (dats m 0 c).flushed 2 t = ((cfg0.win 2).blk t).view.read (Elt Ideal) (whole m c) := by
  have h2 : t.val % 8 = 7 := (flush0_2 t).mp hf
  rw [Value.flushed2]
  show (outsAt0 m c t.val t.isLt).1 = _
  have hb := bound t
  funext y
  idx_vars y
  rw [View.read_apply, out_at m c t h2, acc_at, h2]
  show _ = entry m c _ _
  refine ((parts m c _ _)).trans ?_
  show entry m c ⟨t.val / 16 * 1024 + y0.val, by omega⟩ ⟨t.val / 8 % 2 * 1024 + y1.val, by omega⟩ = _
  refine congrArg₂ (entry m c) (Fin.ext ?_) (Fin.ext ?_)
  · show t.val / 16 * 1024 + y0.val = (win0_2.index t 0 * 1024 + 1 * y0.val); rw [(index2 t).1] <;> omega
  · show t.val / 8 % 2 * 1024 + y1.val = (win0_2.index t 1 * 1024 + 1 * y1.val); rw [(index2 t).2] <;> omega

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : ((i 0).val / 1024 * 2 + (i 1).val / 1024) * 8 + 7 < cfg0.N := lt_of_lt_of_eq (by omega : ((i 0).val / 1024 * 2 + (i 1).val / 1024) * 8 + 7 < 64) N_0.symm
  refine ⟨⟨((i 0).val / 1024 * 2 + (i 1).val / 1024) * 8 + 7, hN⟩, (flush0_2 _).mpr (by show (((i 0).val / 1024 * 2 + (i 1).val / 1024) * 8 + 7) % 8 = 7; omega), ?_⟩
  refine View.set_slice_whole main_v0 (win0_2.rect ⟨((i 0).val / 1024 * 2 + (i 1).val / 1024) * 8 + 7, hN⟩) ▸ Rect.mem_set_unit.mpr ?_
  exact within (a := 1024) (b := 1024) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.InTIdeal.Product

namespace Cert.InTClaims

open Idealize.ShloMosaic Idealize.ShloMosaic.TcCoe Idealize.SL.Sem Cert.InTRefIdeal.Read Cert.InTIdeal

/-- The reference's result, read at an index. -/
theorem reference_at (c : Dev nD) (m : (ℓ : Loc nD τ sig) → Buf (Elt Ideal) ℓ) :
    val_main_v8 (F := Ideal) (m ((c : Thread nD τ).loc main_arg0)) (m ((c : Thread nD τ).loc main_arg1))
      = Product.whole m c := by
  funext i
  idx_vars i
  show _ = Product.entry m c _ _
  unfold Product.entry
  unfold Product.total
  unfold val_main_v8 val_main_v7 val_main_v6 val_main_v3 val_main_v2 val_main_v1 val_main_v0
  pointwise
  rw [Fin.sum_univ_tiles 8 896 (by decide)]
  refine Finset.sum_congr rfl fun j _ => Finset.sum_congr rfl fun s _ => ?_
  refine congrArg₂ (· * ·) rfl (congrArg _ ?_)
  refine congrArg₂ (fun a b => ix4 a 0 _ b) (Fin.ext ?_) (Fin.ext ?_)
  · show (j.val * 896 + s.val) / 896 = j.val; omega
  · show (j.val * 896 + s.val) % 896 = s.val; omega

theorem frame_p : Cert.quiescent_InT := fun m ρ _ => Cert.InT.Gen.frame m ρ
theorem frame_pi : Cert.quiescent_InTIdeal := fun m ρ _ => Cert.InTIdeal.Gen.frame m ρ
theorem frame_ri : Cert.quiescent_InTRefIdeal := fun m ρ _ =>
  (θ_run _ _ _).mono (fun r h => ⟨fun c => (h c).2, sem_eq_zero_of_no_sems (by decide) r.2⟩) (Cert.InTRefIdeal.Value.run (F := Ideal) m ρ)

theorem preserves : Cert.preserves_InT_InTIdeal := trivial

theorem algebraic : Cert.algebraic_InTIdeal_InTRefIdeal := fun m ρ m' ρ' _ hag =>
  ⟨fun c => Product.whole m c,
    (θ_run _ _ _).mono (fun r h c => ⟨(h c).1.trans (Product.array m c), (h c).2⟩)
      (Cert.InTIdeal.Value.run_blocks (F := Ideal) m ρ),
    (θ_run _ _ _).mono (fun r h c => ⟨(h c).1.trans (by
        rw [val_main_v8_eq, (hag c).1, (hag c).2]
        exact reference_at c m), (h c).2⟩)
      (Cert.InTRefIdeal.Value.run (F := Ideal) m' ρ')⟩

end Cert.InTClaims
end
-- ==== Proof.KvProduct.lean ====
/-
  The projection to the attention's keys and values.
-/
module

public import proofs.«01_k».proof.Defs
public import proofs.«01_k».proof.Proof.Gen.Kv.Frame
public import proofs.«01_k».proof.Proof.Gen.KvIdeal.Value
public import proofs.«01_k».proof.Proof.Gen.KvRefIdeal.Read
public import proofs.«01_k».proof.Proof.Tiles
public import proofs.«01_k».proof.Proof.Zeros

@[expose] public section

set_option maxRecDepth 16384

noncomputable section

namespace Cert.KvIdeal.Product

open Cert.KvIdeal Cert.KvIdeal.Gen Cert.Tiles Idealize.ShloMosaic Idealize.ShloMosaic.TcCoe Idealize.SL.Sem

variable (m : (ℓ : Loc nD τ sig) → Buf (Elt Ideal) ℓ)

abbrev arr0 (c : Dev nD) : Vec Ideal S256x2048 .bf16 := m ((c : Thread nD τ).loc main_arg0)
abbrev arr1 (c : Dev nD) : Vec Ideal S8x1x2048x512 .bf16 := m ((c : Thread nD τ).loc main_arg1)

/-- The entry of the product: the sum over a row of the input times a column of the weights. -/
def entry (c : Dev nD) (l : Fin 256) (n : Fin 8 × Fin 512) : EReal :=
  ∑ s : Fin 2048, arr0 m c (ix2 l s) * arr1 m c (ix4 n.1 0 s n.2)

/-- The whole array of entries. -/
def whole (c : Dev nD) : Vec Ideal S256x4096 .bf16 := fun i => entry m c (i 0) (⟨(i 1).val / 512, by have h : (i 1).val < 4096 := (i 1).isLt; omega⟩, ⟨(i 1).val % 512, by omega⟩)

theorem bound (t : Fin cfg0.N) : t.val < 8 := t.isLt.trans_eq N_0

theorem index0 : ∀ t : Fin cfg0.N, win0_0.index t 0 = 0 ∧ win0_0.index t 1 = 0 := by
  intro (t : Fin grid0.N); revert t; decide +kernel

theorem index1 : ∀ t : Fin cfg0.N, win0_1.index t 0 = t.val ∧ win0_1.index t 1 = 0 ∧ win0_1.index t 2 = 0 ∧ win0_1.index t 3 = 0 := by
  intro (t : Fin grid0.N); revert t; decide +kernel

theorem index2 : ∀ t : Fin cfg0.N, win0_2.index t 0 = 0 ∧ win0_2.index t 1 = t.val := by
  intro (t : Fin grid0.N); revert t; decide +kernel

/-! ### The input blocks of a grid point -/

theorem blk0 (c : Dev nD) (t : Fin cfg0.N) (y0 : Fin 256) (y1 : Fin 2048) :
    (iblk m c 0 t : Vec Ideal S256x2048 .bf16) (ix2 y0 y1)
      = arr0 m c (ix2 y0 y1) :=
  (View.read_apply ..).trans (tile_rows (arr0 m c) _ (index0 t) _ _ (by show 0 * 256 + y0.val = y0.val; omega) rfl rfl rfl)

theorem blk1 (c : Dev nD) (t : Fin cfg0.N) (y2 : Fin 2048) (y3 : Fin 512) :
    (iblk m c 1 t : Vec Ideal S1x1x2048x512 .bf16) (ix4 0 0 y2 y3)
      = arr1 m c (ix4 ⟨t.val, by have h := bound t; omega⟩ 0 y2 y3) := by
  refine (View.read_apply ..).trans (congrArg (m _) (funext fun a => Fin.ext ?_))
  match a with
  | ⟨0, _⟩ => show win0_1.index t 0 * 1 + 1 * 0 = t.val; rw [(index1 t).1] <;> omega
  | ⟨1, _⟩ => show win0_1.index t 1 * 1 + 1 * 0 = 0; rw [(index1 t).2.1] <;> omega
  | ⟨2, _⟩ => show win0_1.index t 2 * 2048 + 1 * y2.val = y2.val; rw [(index1 t).2.2.1] <;> omega
  | ⟨3, _⟩ => show win0_1.index t 3 * 512 + 1 * y3.val = y3.val; rw [(index1 t).2.2.2] <;> omega

/-! ### What a grid point leaves in its output block -/

theorem out_eq (x : Vec Ideal S256x2048 .bf16) (w : Vec Ideal S1x1x2048x512 .bf16) : out0_2 (F := Ideal) x w = k0_pay1 x w := by
  unfold out0_2
  rw [View.canon_unit_zero zeros2]
  simp only [View.ld_unit_zero (S := S1x1x2048x512) zeros4, View.ld_unit_zero (S := S256x2048) zeros2]

theorem pay_at (x : Vec Ideal S256x2048 .bf16) (w : Vec Ideal S1x1x2048x512 .bf16) (l : Fin 256) (n : Fin 512) :
    k0_pay1 (F := Ideal) x w (ix2 l n) = ∑ s : Fin 2048, x (ix2 l s) * w (ix4 0 0 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  refine (pay_at _ _ y0 y1).trans ?_
  simp only [blk0, blk1]
  show entry m c ⟨y0.val, by omega⟩ (⟨t.val, by omega⟩, y1) = _
  refine congrArg₂ (entry m c) (Fin.ext ?_) (Prod.ext (Fin.ext ?_) (Fin.ext ?_))
  · show y0.val = win0_2.index t 0 * 256 + 1 * y0.val; rw [(index2 t).1] <;> omega
  · show t.val = (win0_2.index t 1 * 512 + 1 * y1.val) / 512; rw [(index2 t).2] <;> omega
  · show y1.val = (win0_2.index t 1 * 512 + 1 * y1.val) % 512; rw [(index2 t).2] <;> omega

theorem cover (i : S256x4096.Idx) : ∃ t : Fin cfg0.N, (cfg0.win 2).flush t = true ∧ i ∈ ((cfg0.win 2).blk t).view.set := by
  have h0 : (i 0).val < 256 := (i 0).isLt
  have h1 : (i 1).val < 4096 := (i 1).isLt
  have hN : (i 1).val / 512 < cfg0.N := lt_of_lt_of_eq (by omega : (i 1).val / 512 < 8) N_0.symm
  refine ⟨⟨(i 1).val / 512, hN⟩, flush0_2 _, ?_⟩
  refine View.set_slice_whole main_v0 (win0_2.rect ⟨(i 1).val / 512, hN⟩) ▸ Rect.mem_set_unit.mpr ?_
  exact within (a := 256) (b := 512) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.KvIdeal.Product

namespace Cert.KvClaims

open Idealize.ShloMosaic Idealize.ShloMosaic.TcCoe Idealize.SL.Sem Cert.KvRefIdeal.Read Cert.KvIdeal

/-- The reference's result, read at an index. -/
theorem reference_at (c : Dev nD) (m : (ℓ : Loc nD τ sig) → Buf (Elt Ideal) ℓ) :
    val_main_v6 (F := Ideal) (m ((c : Thread nD τ).loc main_arg0)) (m ((c : Thread nD τ).loc main_arg1))
      = Product.whole m c := by
  funext i
  idx_vars i
  show _ = Product.entry m c _ _
  unfold Product.entry
  unfold val_main_v6 val_main_v5 val_main_v4 val_main_v3 val_main_v2 val_main_v1 val_main_v0
  pointwise

theorem frame_p : Cert.quiescent_Kv := fun m ρ _ => Cert.Kv.Gen.frame m ρ
theorem frame_pi : Cert.quiescent_KvIdeal := fun m ρ _ => Cert.KvIdeal.Gen.frame m ρ
theorem frame_ri : Cert.quiescent_KvRefIdeal := fun m ρ _ =>
  (θ_run _ _ _).mono (fun r h => ⟨fun c => (h c).2, sem_eq_zero_of_no_sems (by decide) r.2⟩) (Cert.KvRefIdeal.Value.run (F := Ideal) m ρ)

theorem preserves : Cert.preserves_Kv_KvIdeal := trivial

theorem algebraic : Cert.algebraic_KvIdeal_KvRefIdeal := fun m ρ m' ρ' _ hag =>
  ⟨fun c => Product.whole m c,
    (θ_run _ _ _).mono (fun r h c => ⟨(h c).1.trans (Product.array m c), (h c).2⟩)
      (Cert.KvIdeal.Value.run_blocks (F := Ideal) m ρ),
    (θ_run _ _ _).mono (fun r h c => ⟨(h c).1.trans (by
        rw [val_main_v6_eq, (hag c).1, (hag c).2]
        exact reference_at c m), (h c).2⟩)
      (Cert.KvRefIdeal.Value.run (F := Ideal) m' ρ')⟩

end Cert.KvClaims
end
-- ==== Proof.KvTProduct.lean ====
/-
  The gradient of the input of the attention's keys and values.
-/
module

public import proofs.«01_k».proof.Defs
public import proofs.«01_k».proof.Proof.Gen.KvT.Frame
public import proofs.«01_k».proof.Proof.Gen.KvTIdeal.Value
public import proofs.«01_k».proof.Proof.Gen.KvTRefIdeal.Read
public import proofs.«01_k».proof.Proof.Carried
public import proofs.«01_k».proof.Proof.Tiles
public import proofs.«01_k».proof.Proof.Zeros

@[expose] public section

set_option maxRecDepth 16384

noncomputable section

namespace Cert.KvTIdeal.Product

open Cert.KvTIdeal Cert.KvTIdeal.Gen Cert.Carried Cert.Tiles Idealize.ShloMosaic Idealize.ShloMosaic.TcCoe Idealize.SL.Sem

variable (m : (ℓ : Loc nD τ sig) → Buf (Elt Ideal) ℓ)

abbrev arr0 (c : Dev nD) : Vec Ideal S256x4096 .bf16 := m ((c : Thread nD τ).loc main_arg0)
abbrev arr1 (c : Dev nD) : Vec Ideal S8x1x2048x512 .bf16 := m ((c : Thread nD τ).loc main_arg1)

/-- The sum over the columns, which lie on 8 devices. -/
def total (c : Dev nD) (l : Fin 256) (k : Fin 2048) : EReal :=
  ∑ j : Fin 8, ∑ s : Fin 512, arr0 m c (ix2 l ⟨j.val * 512 + s.val, by omega⟩) * arr1 m c (ix4 j 0 k s)

/-- The entry of the input's gradient: the sum over the columns of a row of the product's gradient times a row of the weights. -/
def entry (c : Dev nD) (l : Fin 256) (k : Fin 2048) : EReal :=
  total m c l k

/-- The whole array of entries. -/
def whole (c : Dev nD) : Vec Ideal S256x2048 .bf16 := fun i => entry m c (i 0) (i 1)

theorem bound (t : Fin cfg0.N) : t.val < 16 := t.isLt.trans_eq N_0

theorem index0 : ∀ t : Fin cfg0.N, win0_0.index t 0 = 0 ∧ win0_0.index t 1 = t.val % 8 := by
  intro (t : Fin grid0.N); revert t; decide +kernel

theorem index1 : ∀ t : Fin cfg0.N, win0_1.index t 0 = t.val % 8 ∧ win0_1.index t 1 = 0 ∧ win0_1.index t 2 = t.val / 8 % 2 ∧ win0_1.index t 3 = 0 := by
  intro (t : Fin grid0.N); revert t; decide +kernel

theorem index2 : ∀ t : Fin cfg0.N, win0_2.index t 0 = 0 ∧ win0_2.index t 1 = t.val / 8 % 2 := by
  intro (t : Fin grid0.N); revert t; decide +kernel

/-! ### The input blocks of a grid point -/

theorem blk0 (c : Dev nD) (t : Fin cfg0.N) (y0 : Fin 256) (y1 : Fin 512) :
    (iblk m c 0 t : Vec Ideal S256x512 .bf16) (ix2 y0 y1)
      = arr0 m c (ix2 y0 ⟨t.val % 8 * 512 + y1.val, by have h := bound t; omega⟩) :=
  (View.read_apply ..).trans (tile (arr0 m c) _ (index0 t) _ _ (by show 0 * 256 + y0.val = y0.val; omega) rfl rfl rfl)

theorem blk1 (c : Dev nD) (t : Fin cfg0.N) (y2 : Fin 1024) (y3 : Fin 512) :
    (iblk m c 1 t : Vec Ideal S1x1x1024x512 .bf16) (ix4 0 0 y2 y3)
      = arr1 m c (ix4 ⟨t.val % 8, by have h := bound t; omega⟩ 0 ⟨t.val / 8 % 2 * 1024 + y2.val, by have h := bound t; omega⟩ y3) := by
  refine (View.read_apply ..).trans (congrArg (m _) (funext fun a => Fin.ext ?_))
  match a with
  | ⟨0, _⟩ => show win0_1.index t 0 * 1 + 1 * 0 = t.val % 8; rw [(index1 t).1] <;> omega
  | ⟨1, _⟩ => show win0_1.index t 1 * 1 + 1 * 0 = 0; rw [(index1 t).2.1] <;> omega
  | ⟨2, _⟩ => show win0_1.index t 2 * 1024 + 1 * y2.val = t.val / 8 % 2 * 1024 + y2.val; rw [(index1 t).2.2.1] <;> omega
  | ⟨3, _⟩ => show win0_1.index t 3 * 512 + 1 * y3.val = y3.val; rw [(index1 t).2.2.2] <;> omega

/-! ### What a grid point leaves in its output block -/

section
variable (c : Dev nD) (i : grid0.Coords) (a3 : Memref sig .tc .vmem S256x512 .bf16) (h3 : a3.IsWhole) (a4 : Memref sig .tc .vmem S1x1x1024x512 .bf16) (h4 : a4.IsWhole) (a5 : Memref sig .tc .vmem S256x1024 .bf16) (h5 : a5.IsWhole) (a6 : Memref sig .tc .vmem S256x1024 .f32) (h6 : a6.IsWhole)
  (x : Vec Ideal S256x512 .bf16) (w : Vec Ideal S1x1x1024x512 .bf16) (s : Vec Ideal S256x1024 .f32)

theorem first_acc (hc0 : cond0_0 i) (hc1 : ¬cond0_1 i) (hc2 : ¬cond0_2 i) : sout0_A_0 (F := Ideal) c i a3 h3 a4 h4 a5 h5 a6 h6 hc0 hc1 hc2 x w = k0_pay2 x w := by
  unfold sout0_A_0
  rw [View.read_writes_eq_canon _ _ _ (fun _ => scover0_A_0 ..)]
  unfold kernelRun0_A
  dsimp only
  sl_unfold_words
  rw [View.canon_unit_zero zeros2]
  simp only [View.readAt_eq_ld, h3.read_unread, h4.read_unread, View.ld_unit_zero (S := S1x1x1024x512) zeros4, View.ld_unit_zero (S := S256x1024) zeros2, View.ld_unit_zero (S := S256x512) zeros2]

theorem next_acc (hc0 : ¬cond0_0 i) (hc1 : cond0_1 i) (hc2 : ¬cond0_2 i) : sout0_B_0 (F := Ideal) c i a3 h3 a4 h4 a5 h5 a6 h6 hc0 hc1 hc2 x w s = k0_pay3 x w s := by
  unfold sout0_B_0
  rw [View.read_writes_eq_canon _ _ _ (fun _ => scover0_B_0 ..)]
  unfold kernelRun0_B
  dsimp only
  sl_unfold_words
  rw [View.canon_unit_zero zeros2]
  simp only [View.readAt_eq_ld, h3.read_unread, h4.read_unread, h6.read_unread, View.ld_unit_zero (S := S1x1x1024x512) zeros4, View.ld_unit_zero (S := S256x1024) zeros2, View.ld_unit_zero (S := S256x512) zeros2]

theorem last_acc (hc0 : ¬cond0_0 i) (hc1 : cond0_1 i) (hc2 : cond0_2 i) : sout0_C_0 (F := Ideal) c i a3 h3 a4 h4 a5 h5 a6 h6 hc0 hc1 hc2 x w s = k0_pay3 x w s := by
  unfold sout0_C_0
  rw [View.read_writes_eq_canon _ _ _ (fun _ => scover0_C_0 ..)]
  unfold kernelRun0_C
  dsimp only
  sl_unfold_words
  rw [View.canon_unit_zero zeros2]
  simp only [View.readAt_eq_ld, h3.read_unread, h4.read_unread, h6.read_unread, View.ld_unit_zero (S := S1x1x1024x512) zeros4, View.ld_unit_zero (S := S256x1024) zeros2, View.ld_unit_zero (S := S256x512) zeros2]

theorem last_out (hc0 : ¬cond0_0 i) (hc1 : cond0_1 i) (hc2 : cond0_2 i) : out0_C_2 (F := Ideal) c i a3 h3 a4 h4 a5 h5 a6 h6 hc0 hc1 hc2 x w s = k0_pay4 (k0_pay3 x w s) := by
  unfold out0_C_2
  rw [View.read_writes_eq_canon _ _ _ (fun _ => cover0_C_2 ..)]
  unfold kernelRun0_C
  dsimp only
  sl_unfold_words
  rw [View.canon_unit_zero zeros2, View.readCov_unit_zero (S := S256x1024) _ zeros2]
  simp only [View.readAt_eq_ld, h3.read_unread, h4.read_unread, h6.read_unread, View.ld_unit_zero (S := S1x1x1024x512) zeros4, View.ld_unit_zero (S := S256x1024) zeros2, View.ld_unit_zero (S := S256x512) zeros2]

end

theorem pay2_at (x : Vec Ideal S256x512 .bf16) (w : Vec Ideal S1x1x1024x512 .bf16) (l : Fin 256) (k : Fin 1024) :
    k0_pay2 (F := Ideal) x w (ix2 l k) = ∑ s : Fin 512, x (ix2 l s) * w (ix4 0 0 k s) := by
  unfold k0_pay2 k0_pay1
  pointwise

theorem pay3_at (x : Vec Ideal S256x512 .bf16) (w : Vec Ideal S1x1x1024x512 .bf16) (s : Vec Ideal S256x1024 .f32) (l : Fin 256) (k : Fin 1024) :
    k0_pay3 (F := Ideal) x w s (ix2 l k) = s (ix2 l k) + ∑ s : Fin 512, x (ix2 l s) * w (ix4 0 0 k s) := by
  unfold k0_pay3 k0_pay1
  pointwise

theorem pay4_at (s : Vec Ideal S256x1024 .f32) (l : Fin 256) (k : Fin 1024) :
    k0_pay4 (F := Ideal) s (ix2 l k) = s (ix2 l k) := by
  unfold k0_pay4
  pointwise

/-- The row of the result that row `l` of a point's block is. -/
def rowOf (t : Fin cfg0.N) (l : Fin 256) : Fin 256 := ⟨l.val, by have h := bound t; omega⟩
/-- The column of the result that column `k` of a point's block is. -/
def colOf (t : Fin cfg0.N) (k : Fin 1024) : Fin 2048 := ⟨t.val / 8 % 2 * 1024 + k.val, by have h := bound t; omega⟩

/-- The part of an entry's sum that point `j` of its 8 points adds. -/
def part (c : Dev nD) (l : Fin 256) (k : Fin 2048) (j : ℕ) : EReal :=
  if h : j < 8 then ∑ s : Fin 512, arr0 m c (ix2 l ⟨j * 512 + s.val, by omega⟩) * arr1 m c (ix4 ⟨j, h⟩ 0 k s) else 0

theorem part_at (c : Dev nD) (t : Fin cfg0.N) (l : Fin 256) (k : Fin 1024) (x : Vec Ideal S256x512 .bf16) (w : Vec Ideal S1x1x1024x512 .bf16)
    (hx : x = iblk m c 0 t) (hw : w = iblk m c 1 t) :
    ∑ s : Fin 512, x (ix2 l s) * w (ix4 0 0 k s) = part m c (rowOf t l) (colOf t k) (t.val % 8) := by
  subst hx hw
  unfold part
  rw [dif_pos (Nat.mod_lt _ (by decide))]
  simp only [blk0, blk1]
  rfl

theorem parts (c : Dev nD) (l : Fin 256) (k : Fin 2048) : ∑ j ∈ Finset.range 8, part m c l k j = total m c l k := by
  rw [← Fin.sum_univ_eq_sum_range]
  unfold total
  refine Finset.sum_congr rfl fun j _ => ?_
  unfold part
  rw [dif_pos j.isLt]

/-- After a point, the carried block holds the sum of the parts so far. -/
theorem acc_at (c : Dev nD) (l : Fin 256) (k : Fin 1024) : ∀ (n : ℕ) (hn : n < cfg0.N),
    (outsAt0 m c n hn).2 (ix2 l k) = ∑ j ∈ Finset.range (n % 8 + 1), part m c (rowOf ⟨n, hn⟩ l) (colOf ⟨n, hn⟩ k) j := by
  refine carried (by decide) _ (fun n hn => part m c (rowOf ⟨n, hn⟩ l) (colOf ⟨n, hn⟩ k)) (fun n hn h0 => ?_) (fun n hn h0 => ?_) (fun n hn h0 => ?_)
  · rw [outsAt0_A m c ⟨n, hn⟩ h0 (by show ¬1 ≤ n % 8; omega) (by show ¬n % 8 = 7; omega)]
    dsimp only
    rw [first_acc, pay2_at]
    exact part_at m c ⟨n, hn⟩ l k _ _ rfl rfl
  · by_cases h2 : (n + 1) % 8 = 7
    · rw [outsAt0_C m c ⟨n + 1, hn⟩ h0 (by show 1 ≤ (n + 1) % 8; omega) h2]
      dsimp only
      rw [last_acc, pay3_at]
      exact congrArg _ (part_at m c ⟨n + 1, hn⟩ l k _ _ rfl rfl)
    · rw [outsAt0_B m c ⟨n + 1, hn⟩ h0 (by show 1 ≤ (n + 1) % 8; omega) h2]
      dsimp only
      rw [next_acc, pay3_at]
      exact congrArg _ (part_at m c ⟨n + 1, hn⟩ l k _ _ rfl rfl)
  · have hb : n + 1 < 16 := hn.trans_eq N_0
    exact congrArg₂ (part m c) (Fin.ext (by show l.val = l.val; omega)) (Fin.ext (by show n / 8 % 2 * 1024 + k.val = (n + 1) / 8 % 2 * 1024 + k.val; omega))

/-- The block that is written back is the carried block. -/
theorem out_at (c : Dev nD) (t : Fin cfg0.N) (h2 : t.val % 8 = 7) (l : Fin 256) (k : Fin 1024) :
    (outsAt0 m c t.val t.isLt).1 (ix2 l k) = (outsAt0 m c t.val t.isLt).2 (ix2 l k) := by
  rw [outsAt0_C m c t (by omega) (by omega) h2]
  dsimp only
  rw [last_out, last_acc, pay4_at]

theorem flushed_eq (c : Dev nD) (t : Fin cfg0.N) (hf : (cfg0.win 2).flush t = true) :
    (dats m 0 c).flushed 2 t = ((cfg0.win 2).blk t).view.read (Elt Ideal) (whole m c) := by
  have h2 : t.val % 8 = 7 := (flush0_2 t).mp hf
  rw [Value.flushed2]
  show (outsAt0 m c t.val t.isLt).1 = _
  have hb := bound t
  funext y
  idx_vars y
  rw [View.read_apply, out_at m c t h2, acc_at, h2]
  show _ = entry m c _ _
  refine ((parts m c _ _)).trans ?_
  show entry m c ⟨y0.val, by omega⟩ ⟨t.val / 8 % 2 * 1024 + y1.val, by omega⟩ = _
  refine congrArg₂ (entry m c) (Fin.ext ?_) (Fin.ext ?_)
  · show y0.val = (win0_2.index t 0 * 256 + 1 * y0.val); rw [(index2 t).1] <;> omega
  · show t.val / 8 % 2 * 1024 + y1.val = (win0_2.index t 1 * 1024 + 1 * y1.val); rw [(index2 t).2] <;> omega

theorem cover (i : S256x2048.Idx) : ∃ t : Fin cfg0.N, (cfg0.win 2).flush t = true ∧ i ∈ ((cfg0.win 2).blk t).view.set := by
  have h0 : (i 0).val < 256 := (i 0).isLt
  have h1 : (i 1).val < 2048 := (i 1).isLt
  have hN : ((i 1).val / 1024) * 8 + 7 < cfg0.N := lt_of_lt_of_eq (by omega : ((i 1).val / 1024) * 8 + 7 < 16) N_0.symm
  refine ⟨⟨((i 1).val / 1024) * 8 + 7, hN⟩, (flush0_2 _).mpr (by show (((i 1).val / 1024) * 8 + 7) % 8 = 7; omega), ?_⟩
  refine View.set_slice_whole main_v0 (win0_2.rect ⟨((i 1).val / 1024) * 8 + 7, hN⟩) ▸ Rect.mem_set_unit.mpr ?_
  exact within (a := 256) (b := 1024) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.KvTIdeal.Product

namespace Cert.KvTClaims

open Idealize.ShloMosaic Idealize.ShloMosaic.TcCoe Idealize.SL.Sem Cert.KvTRefIdeal.Read Cert.KvTIdeal

/-- The reference's result, read at an index. -/
theorem reference_at (c : Dev nD) (m : (ℓ : Loc nD τ sig) → Buf (Elt Ideal) ℓ) :
    val_main_v8 (F := Ideal) (m ((c : Thread nD τ).loc main_arg0)) (m ((c : Thread nD τ).loc main_arg1))
      = Product.whole m c := by
  funext i
  idx_vars i
  show _ = Product.entry m c _ _
  unfold Product.entry
  unfold Product.total
  unfold val_main_v8 val_main_v7 val_main_v6 val_main_v3 val_main_v2 val_main_v1 val_main_v0
  pointwise
  rw [Fin.sum_univ_tiles 8 512 (by decide)]
  refine Finset.sum_congr rfl fun j _ => Finset.sum_congr rfl fun s _ => ?_
  refine congrArg₂ (· * ·) rfl (congrArg _ ?_)
  refine congrArg₂ (fun a b => ix4 a 0 _ b) (Fin.ext ?_) (Fin.ext ?_)
  · show (j.val * 512 + s.val) / 512 = j.val; omega
  · show (j.val * 512 + s.val) % 512 = s.val; omega

theorem frame_p : Cert.quiescent_KvT := fun m ρ _ => Cert.KvT.Gen.frame m ρ
theorem frame_pi : Cert.quiescent_KvTIdeal := fun m ρ _ => Cert.KvTIdeal.Gen.frame m ρ
theorem frame_ri : Cert.quiescent_KvTRefIdeal := fun m ρ _ =>
  (θ_run _ _ _).mono (fun r h => ⟨fun c => (h c).2, sem_eq_zero_of_no_sems (by decide) r.2⟩) (Cert.KvTRefIdeal.Value.run (F := Ideal) m ρ)

theorem preserves : Cert.preserves_KvT_KvTIdeal := trivial

theorem algebraic : Cert.algebraic_KvTIdeal_KvTRefIdeal := fun m ρ m' ρ' _ hag =>
  ⟨fun c => Product.whole m c,
    (θ_run _ _ _).mono (fun r h c => ⟨(h c).1.trans (Product.array m c), (h c).2⟩)
      (Cert.KvTIdeal.Value.run_blocks (F := Ideal) m ρ),
    (θ_run _ _ _).mono (fun r h c => ⟨(h c).1.trans (by
        rw [val_main_v8_eq, (hag c).1, (hag c).2]
        exact reference_at c m), (h c).2⟩)
      (Cert.KvTRefIdeal.Value.run (F := Ideal) m' ρ')⟩

end Cert.KvTClaims
end
-- ==== Proof.OutProduct.lean ====
/-
  A square projection, added to its residual.
-/
module

public import proofs.«01_k».proof.Defs
public import proofs.«01_k».proof.Proof.Gen.Out.Frame
public import proofs.«01_k».proof.Proof.Gen.OutIdeal.Value
public import proofs.«01_k».proof.Proof.Gen.OutRefIdeal.Read
public import proofs.«01_k».proof.Proof.Tiles
public import proofs.«01_k».proof.Proof.Zeros

@[expose] public section

set_option maxRecDepth 16384

noncomputable section

namespace Cert.OutIdeal.Product

open Cert.OutIdeal Cert.OutIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x2048 .bf16 := m ((c : Thread nD τ).loc main_arg0)
abbrev arr1 (c : Dev nD) : Vec Ideal S1x2048x2048 .bf16 := m ((c : Thread nD τ).loc main_arg1)
abbrev arr2 (c : Dev nD) : Vec Ideal S4096x2048 .f32 := m ((c : Thread nD τ).loc main_arg2)

/-- The entry of the product: the sum over a row of the input times a column of the weights, with the residual added. -/
def entry (c : Dev nD) (l : Fin 4096) (n : Fin 2048) : EReal :=
  (∑ s : Fin 2048, arr0 m c (ix2 l s) * arr1 m c (ix3 0 s n)) + arr2 m c (ix2 l n)

/-- The whole array of entries. -/
def whole (c : Dev nD) : Vec Ideal S4096x2048 .f32 := fun i => entry m c (i 0) (i 1)

theorem bound (t : Fin cfg0.N) : t.val < 8 := t.isLt.trans_eq N_0

theorem index0 : ∀ t : Fin cfg0.N, win0_0.index t 0 = t.val / 2 ∧ win0_0.index t 1 = 0 := by
  intro (t : Fin grid0.N); revert t; decide +kernel

theorem index1 : ∀ t : Fin cfg0.N, win0_1.index t 0 = 0 ∧ win0_1.index t 1 = 0 ∧ win0_1.index t 2 = t.val % 2 := by
  intro (t : Fin grid0.N); revert t; decide +kernel

theorem index2 : ∀ t : Fin cfg0.N, win0_2.index t 0 = t.val / 2 ∧ win0_2.index t 1 = t.val % 2 := by
  intro (t : Fin grid0.N); revert t; decide +kernel

theorem index3 : ∀ t : Fin cfg0.N, win0_3.index t 0 = t.val / 2 ∧ win0_3.index t 1 = t.val % 2 := by
  intro (t : Fin grid0.N); revert t; decide +kernel

/-! ### The input blocks of a grid point -/

theorem blk0 (c : Dev nD) (t : Fin cfg0.N) (y0 : Fin 1024) (y1 : Fin 2048) :
    (iblk m c 0 t : Vec Ideal S1024x2048 .bf16) (ix2 y0 y1)
      = arr0 m c (ix2 ⟨t.val / 2 * 1024 + y0.val, by have h := bound t; omega⟩ y1) :=
  (View.read_apply ..).trans (tile_rows (arr0 m c) _ (index0 t) _ _ rfl rfl rfl rfl)

theorem blk1 (c : Dev nD) (t : Fin cfg0.N) (y1 : Fin 2048) (y2 : Fin 1024) :
    (iblk m c 1 t : Vec Ideal S1x2048x1024 .bf16) (ix3 0 y1 y2)
      = arr1 m c (ix3 0 y1 ⟨t.val % 2 * 1024 + y2.val, by have h := bound t; omega⟩) := by
  refine (View.read_apply ..).trans (congrArg (m _) (funext fun a => Fin.ext ?_))
  match a with
  | ⟨0, _⟩ => show win0_1.index t 0 * 1 + 1 * 0 = 0; rw [(index1 t).1] <;> omega
  | ⟨1, _⟩ => show win0_1.index t 1 * 2048 + 1 * y1.val = y1.val; rw [(index1 t).2.1] <;> omega
  | ⟨2, _⟩ => show win0_1.index t 2 * 1024 + 1 * y2.val = t.val % 2 * 1024 + y2.val; rw [(index1 t).2.2] <;> omega

theorem blk2 (c : Dev nD) (t : Fin cfg0.N) (y0 : Fin 1024) (y1 : Fin 1024) :
    (iblk m c 2 t : Vec Ideal S1024x1024 .f32) (ix2 y0 y1)
      = arr2 m c (ix2 ⟨t.val / 2 * 1024 + y0.val, by have h := bound t; omega⟩ ⟨t.val % 2 * 1024 + y1.val, by have h := bound t; omega⟩) :=
  (View.read_apply ..).trans (tile (arr2 m c) _ (index2 t) _ _ rfl rfl rfl rfl)

/-! ### What a grid point leaves in its output block -/

theorem out_eq (x : Vec Ideal S1024x2048 .bf16) (w : Vec Ideal S1x2048x1024 .bf16) (b : Vec Ideal S1024x1024 .f32) : out0_3 (F := Ideal) x w b = k0_pay1 x w b := by
  unfold out0_3
  rw [View.canon_unit_zero zeros2]
  simp only [View.ld_unit_zero (S := S1024x1024) zeros2, View.ld_unit_zero (S := S1024x2048) zeros2, View.ld_unit_zero (S := S1x2048x1024) zeros3]

theorem pay_at (x : Vec Ideal S1024x2048 .bf16) (w : Vec Ideal S1x2048x1024 .bf16) (b : Vec Ideal S1024x1024 .f32) (l : Fin 1024) (n : Fin 1024) :
    k0_pay1 (F := Ideal) x w b (ix2 l n) = (∑ s : Fin 2048, x (ix2 l s) * w (ix3 0 s n)) + b (ix2 l n) := by
  unfold k0_pay1
  pointwise

theorem flushed_eq (c : Dev nD) (t : Fin cfg0.N) (hf : (cfg0.win 3).flush t = true) :
    (dats m 0 c).flushed 3 t = ((cfg0.win 3).blk t).view.read (Elt Ideal) (whole m c) := by
  rw [Value.flushed3, out_eq]
  show k0_pay1 (F := Ideal) (iblk m c 0 t) (iblk m c 1 t) (iblk m c 2 t) = _
  have hb := bound t
  funext y
  idx_vars y
  rw [View.read_apply]
  show _ = entry m c _ _
  refine (pay_at _ _ _ y0 y1).trans ?_
  simp only [blk0, blk1, blk2]
  show entry m c ⟨t.val / 2 * 1024 + y0.val, by omega⟩ ⟨t.val % 2 * 1024 + y1.val, by omega⟩ = _
  refine congrArg₂ (entry m c) (Fin.ext ?_) (Fin.ext ?_)
  · show t.val / 2 * 1024 + y0.val = (win0_3.index t 0 * 1024 + 1 * y0.val); rw [(index3 t).1] <;> omega
  · show t.val % 2 * 1024 + y1.val = (win0_3.index t 1 * 1024 + 1 * y1.val); rw [(index3 t).2] <;> omega

theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : (i 0).val / 1024 * 2 + (i 1).val / 1024 < cfg0.N := lt_of_lt_of_eq (by omega : (i 0).val / 1024 * 2 + (i 1).val / 1024 < 8) N_0.symm
  refine ⟨⟨(i 0).val / 1024 * 2 + (i 1).val / 1024, hN⟩, flush0_3 _, ?_⟩
  refine View.set_slice_whole main_v0 (win0_3.rect ⟨(i 0).val / 1024 * 2 + (i 1).val / 1024, hN⟩) ▸ Rect.mem_set_unit.mpr ?_
  exact within (a := 1024) (b := 1024) (index3 _) (by dsimp only; omega) (by dsimp only; omega) rfl rfl rfl rfl

/-- The array after the call. -/
theorem array (c : Dev nD) : (dats m 0 c).arrAt 3 cfg0.N = whole m c :=
  (dats m 0 c).arrAt_eq_of_cover 3 (whole m c) (fun t hf => flushed_eq m c t hf) cover

end Cert.OutIdeal.Product

namespace Cert.OutClaims

open Idealize.ShloMosaic Idealize.ShloMosaic.TcCoe Idealize.SL.Sem Cert.OutRefIdeal.Read Cert.OutIdeal

/-- The reference's result, read at an index. -/
theorem reference_at (c : Dev nD) (m : (ℓ : Loc nD τ sig) → Buf (Elt Ideal) ℓ) :
    val_main_v4 (F := Ideal) (m ((c : Thread nD τ).loc main_arg0)) (m ((c : Thread nD τ).loc main_arg1)) (m ((c : Thread nD τ).loc main_arg2))
      = Product.whole m c := by
  funext i
  idx_vars i
  show _ = Product.entry m c _ _
  unfold Product.entry
  unfold val_main_v4 val_main_v3 val_main_v2 val_main_v1 val_main_v0
  pointwise
  exact add_comm _ _

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ =>
  (θ_run _ _ _).mono (fun r h => ⟨fun c => (h c).2, sem_eq_zero_of_no_sems (by decide) r.2⟩) (Cert.OutRefIdeal.Value.run (F := Ideal) m ρ)

theorem preserves : Cert.preserves_Out_OutIdeal := trivial

theorem algebraic : Cert.algebraic_OutIdeal_OutRefIdeal := fun m ρ m' ρ' _ hag =>
  ⟨fun c => Product.whole m c,
    (θ_run _ _ _).mono (fun r h c => ⟨(h c).1.trans (Product.array m c), (h c).2⟩)
      (Cert.OutIdeal.Value.run_blocks (F := Ideal) m ρ),
    (θ_run _ _ _).mono (fun r h c => ⟨(h c).1.trans (by
        rw [val_main_v4_eq, (hag c).1, (hag c).2.1, (hag c).2.2]
        exact reference_at c m), (h c).2⟩)
      (Cert.OutRefIdeal.Value.run (F := Ideal) m' ρ')⟩

end Cert.OutClaims
end
-- ==== Proof.OutTProduct.lean ====
/-
  The gradient of a square projection's input.
-/
module

public import proofs.«01_k».proof.Defs
public import proofs.«01_k».proof.Proof.Gen.OutT.Frame
public import proofs.«01_k».proof.Proof.Gen.OutTIdeal.Value
public import proofs.«01_k».proof.Proof.Gen.OutTRefIdeal.Read
public import proofs.«01_k».proof.Proof.Tiles
public import proofs.«01_k».proof.Proof.Zeros

@[expose] public section

set_option maxRecDepth 16384

noncomputable section

namespace Cert.OutTIdeal.Product

open Cert.OutTIdeal Cert.OutTIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x2048 .bf16 := m ((c : Thread nD τ).loc main_arg0)
abbrev arr1 (c : Dev nD) : Vec Ideal S1x2048x2048 .bf16 := m ((c : Thread nD τ).loc main_arg1)

/-- The entry of the input's gradient: the sum over the columns of a row of the product's gradient times a row of the weights. -/
def entry (c : Dev nD) (l : Fin 4096) (k : Fin 2048) : EReal :=
  ∑ s : Fin 2048, arr0 m c (ix2 l s) * arr1 m c (ix3 0 k s)

/-- The whole array of entries. -/
def whole (c : Dev nD) : Vec Ideal S4096x2048 .bf16 := fun i => entry m c (i 0) (i 1)

theorem bound (t : Fin cfg0.N) : t.val < 8 := t.isLt.trans_eq N_0

theorem index0 : ∀ t : Fin cfg0.N, win0_0.index t 0 = t.val / 2 ∧ win0_0.index t 1 = 0 := by
  intro (t : Fin grid0.N); revert t; decide +kernel

theorem index1 : ∀ t : Fin cfg0.N, win0_1.index t 0 = 0 ∧ win0_1.index t 1 = t.val % 2 ∧ win0_1.index t 2 = 0 := by
  intro (t : Fin grid0.N); revert t; decide +kernel

theorem index2 : ∀ t : Fin cfg0.N, win0_2.index t 0 = t.val / 2 ∧ win0_2.index t 1 = t.val % 2 := by
  intro (t : Fin grid0.N); revert t; decide +kernel

/-! ### The input blocks of a grid point -/

theorem blk0 (c : Dev nD) (t : Fin cfg0.N) (y0 : Fin 1024) (y1 : Fin 2048) :
    (iblk m c 0 t : Vec Ideal S1024x2048 .bf16) (ix2 y0 y1)
      = arr0 m c (ix2 ⟨t.val / 2 * 1024 + y0.val, by have h := bound t; omega⟩ y1) :=
  (View.read_apply ..).trans (tile_rows (arr0 m c) _ (index0 t) _ _ rfl rfl rfl rfl)

theorem blk1 (c : Dev nD) (t : Fin cfg0.N) (y1 : Fin 1024) (y2 : Fin 2048) :
    (iblk m c 1 t : Vec Ideal S1x1024x2048 .bf16) (ix3 0 y1 y2)
      = arr1 m c (ix3 0 ⟨t.val % 2 * 1024 + y1.val, by have h := bound t; omega⟩ y2) := by
  refine (View.read_apply ..).trans (congrArg (m _) (funext fun a => Fin.ext ?_))
  match a with
  | ⟨0, _⟩ => show win0_1.index t 0 * 1 + 1 * 0 = 0; rw [(index1 t).1] <;> omega
  | ⟨1, _⟩ => show win0_1.index t 1 * 1024 + 1 * y1.val = t.val % 2 * 1024 + y1.val; rw [(index1 t).2.1] <;> omega
  | ⟨2, _⟩ => show win0_1.index t 2 * 2048 + 1 * y2.val = y2.val; rw [(index1 t).2.2] <;> omega

/-! ### What a grid point leaves in its output block -/

theorem out_eq (x : Vec Ideal S1024x2048 .bf16) (w : Vec Ideal S1x1024x2048 .bf16) : out0_2 (F := Ideal) x w = k0_pay1 x w := by
  unfold out0_2
  rw [View.canon_unit_zero zeros2]
  simp only [View.ld_unit_zero (S := S1024x2048) zeros2, View.ld_unit_zero (S := S1x1024x2048) zeros3]

theorem pay_at (x : Vec Ideal S1024x2048 .bf16) (w : Vec Ideal S1x1024x2048 .bf16) (l : Fin 1024) (k : Fin 1024) :
    k0_pay1 (F := Ideal) x w (ix2 l k) = ∑ s : Fin 2048, x (ix2 l s) * w (ix3 0 k s) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  refine (pay_at _ _ y0 y1).trans ?_
  simp only [blk0, blk1]
  show entry m c ⟨t.val / 2 * 1024 + y0.val, by omega⟩ ⟨t.val % 2 * 1024 + y1.val, by omega⟩ = _
  refine congrArg₂ (entry m c) (Fin.ext ?_) (Fin.ext ?_)
  · show t.val / 2 * 1024 + y0.val = (win0_2.index t 0 * 1024 + 1 * y0.val); rw [(index2 t).1] <;> omega
  · show t.val % 2 * 1024 + y1.val = (win0_2.index t 1 * 1024 + 1 * y1.val); rw [(index2 t).2] <;> omega

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : (i 0).val / 1024 * 2 + (i 1).val / 1024 < cfg0.N := lt_of_lt_of_eq (by omega : (i 0).val / 1024 * 2 + (i 1).val / 1024 < 8) N_0.symm
  refine ⟨⟨(i 0).val / 1024 * 2 + (i 1).val / 1024, hN⟩, flush0_2 _, ?_⟩
  refine View.set_slice_whole main_v0 (win0_2.rect ⟨(i 0).val / 1024 * 2 + (i 1).val / 1024, hN⟩) ▸ Rect.mem_set_unit.mpr ?_
  exact within (a := 1024) (b := 1024) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.OutTIdeal.Product

namespace Cert.OutTClaims

open Idealize.ShloMosaic Idealize.ShloMosaic.TcCoe Idealize.SL.Sem Cert.OutTRefIdeal.Read Cert.OutTIdeal

/-- The reference's result, read at an index. -/
theorem reference_at (c : Dev nD) (m : (ℓ : Loc nD τ sig) → Buf (Elt Ideal) ℓ) :
    val_main_v6 (F := Ideal) (m ((c : Thread nD τ).loc main_arg0)) (m ((c : Thread nD τ).loc main_arg1))
      = Product.whole m c := by
  funext i
  idx_vars i
  show _ = Product.entry m c _ _
  unfold Product.entry
  unfold val_main_v6 val_main_v5 val_main_v4 val_main_v1 val_main_v0
  pointwise

theorem frame_p : Cert.quiescent_OutT := fun m ρ _ => Cert.OutT.Gen.frame m ρ
theorem frame_pi : Cert.quiescent_OutTIdeal := fun m ρ _ => Cert.OutTIdeal.Gen.frame m ρ
theorem frame_ri : Cert.quiescent_OutTRefIdeal := fun m ρ _ =>
  (θ_run _ _ _).mono (fun r h => ⟨fun c => (h c).2, sem_eq_zero_of_no_sems (by decide) r.2⟩) (Cert.OutTRefIdeal.Value.run (F := Ideal) m ρ)

theorem preserves : Cert.preserves_OutT_OutTIdeal := trivial

theorem algebraic : Cert.algebraic_OutTIdeal_OutTRefIdeal := fun m ρ m' ρ' _ hag =>
  ⟨fun c => Product.whole m c,
    (θ_run _ _ _).mono (fun r h c => ⟨(h c).1.trans (Product.array m c), (h c).2⟩)
      (Cert.OutTIdeal.Value.run_blocks (F := Ideal) m ρ),
    (θ_run _ _ _).mono (fun r h c => ⟨(h c).1.trans (by
        rw [val_main_v6_eq, (hag c).1, (hag c).2]
        exact reference_at c m), (h c).2⟩)
      (Cert.OutTRefIdeal.Value.run (F := Ideal) m' ρ')⟩

end Cert.OutTClaims
end
-- ==== Proof.PwProduct.lean ====
/-
  The convolution branch's output projection.
-/
module

public import proofs.«01_k».proof.Defs
public import proofs.«01_k».proof.Proof.Gen.Pw.Frame
public import proofs.«01_k».proof.Proof.Gen.PwIdeal.Value
public import proofs.«01_k».proof.Proof.Gen.PwRefIdeal.Read
public import proofs.«01_k».proof.Proof.Tiles
public import proofs.«01_k».proof.Proof.Zeros

@[expose] public section

set_option maxRecDepth 16384

noncomputable section

namespace Cert.PwIdeal.Product

open Cert.PwIdeal Cert.PwIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x1024 .bf16 := m ((c : Thread nD τ).loc main_arg0)
abbrev arr1 (c : Dev nD) : Vec Ideal S8x1x1024x256 .bf16 := m ((c : Thread nD τ).loc main_arg1)

/-- The entry of the product: the sum over a row of the input times a column of the weights. -/
def entry (c : Dev nD) (l : Fin 4096) (n : Fin 8 × Fin 256) : EReal :=
  ∑ s : Fin 1024, arr0 m c (ix2 l s) * arr1 m c (ix4 n.1 0 s n.2)

/-- The whole array of entries. -/
def whole (c : Dev nD) : Vec Ideal S4096x2048 .f32 := fun i => entry m c (i 0) (⟨(i 1).val / 256, by have h : (i 1).val < 2048 := (i 1).isLt; omega⟩, ⟨(i 1).val % 256, by omega⟩)

theorem bound (t : Fin cfg0.N) : t.val < 32 := t.isLt.trans_eq N_0

theorem index0 : ∀ t : Fin cfg0.N, win0_0.index t 0 = t.val / 8 ∧ win0_0.index t 1 = 0 := by
  intro (t : Fin grid0.N); revert t; decide +kernel

theorem index1 : ∀ t : Fin cfg0.N, win0_1.index t 0 = t.val % 8 ∧ win0_1.index t 1 = 0 ∧ win0_1.index t 2 = 0 ∧ win0_1.index t 3 = 0 := by
  intro (t : Fin grid0.N); revert t; decide +kernel

theorem index2 : ∀ t : Fin cfg0.N, win0_2.index t 0 = t.val / 8 ∧ win0_2.index t 1 = t.val % 8 := by
  intro (t : Fin grid0.N); revert t; decide +kernel

/-! ### The input blocks of a grid point -/

theorem blk0 (c : Dev nD) (t : Fin cfg0.N) (y0 : Fin 1024) (y1 : Fin 1024) :
    (iblk m c 0 t : Vec Ideal S1024x1024 .bf16) (ix2 y0 y1)
      = arr0 m c (ix2 ⟨t.val / 8 * 1024 + y0.val, by have h := bound t; omega⟩ y1) :=
  (View.read_apply ..).trans (tile_rows (arr0 m c) _ (index0 t) _ _ rfl rfl rfl rfl)

theorem blk1 (c : Dev nD) (t : Fin cfg0.N) (y2 : Fin 1024) (y3 : Fin 256) :
    (iblk m c 1 t : Vec Ideal S1x1x1024x256 .bf16) (ix4 0 0 y2 y3)
      = arr1 m c (ix4 ⟨t.val % 8, by have h := bound t; omega⟩ 0 y2 y3) := by
  refine (View.read_apply ..).trans (congrArg (m _) (funext fun a => Fin.ext ?_))
  match a with
  | ⟨0, _⟩ => show win0_1.index t 0 * 1 + 1 * 0 = t.val % 8; rw [(index1 t).1] <;> omega
  | ⟨1, _⟩ => show win0_1.index t 1 * 1 + 1 * 0 = 0; rw [(index1 t).2.1] <;> omega
  | ⟨2, _⟩ => show win0_1.index t 2 * 1024 + 1 * y2.val = y2.val; rw [(index1 t).2.2.1] <;> omega
  | ⟨3, _⟩ => show win0_1.index t 3 * 256 + 1 * y3.val = y3.val; rw [(index1 t).2.2.2] <;> omega

/-! ### What a grid point leaves in its output block -/

theorem out_eq (x : Vec Ideal S1024x1024 .bf16) (w : Vec Ideal S1x1x1024x256 .bf16) : out0_2 (F := Ideal) x w = k0_pay1 x w := by
  unfold out0_2
  rw [View.canon_unit_zero zeros2]
  simp only [View.ld_unit_zero (S := S1024x1024) zeros2, View.ld_unit_zero (S := S1x1x1024x256) zeros4]

theorem pay_at (x : Vec Ideal S1024x1024 .bf16) (w : Vec Ideal S1x1x1024x256 .bf16) (l : Fin 1024) (n : Fin 256) :
    k0_pay1 (F := Ideal) x w (ix2 l n) = ∑ s : Fin 1024, x (ix2 l s) * w (ix4 0 0 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  refine (pay_at _ _ y0 y1).trans ?_
  simp only [blk0, blk1]
  show entry m c ⟨t.val / 8 * 1024 + y0.val, by omega⟩ (⟨t.val % 8, by omega⟩, y1) = _
  refine congrArg₂ (entry m c) (Fin.ext ?_) (Prod.ext (Fin.ext ?_) (Fin.ext ?_))
  · show t.val / 8 * 1024 + y0.val = win0_2.index t 0 * 1024 + 1 * y0.val; rw [(index2 t).1] <;> omega
  · show t.val % 8 = (win0_2.index t 1 * 256 + 1 * y1.val) / 256; rw [(index2 t).2] <;> omega
  · show y1.val = (win0_2.index t 1 * 256 + 1 * y1.val) % 256; rw [(index2 t).2] <;> omega

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : (i 0).val / 1024 * 8 + (i 1).val / 256 < cfg0.N := lt_of_lt_of_eq (by omega : (i 0).val / 1024 * 8 + (i 1).val / 256 < 32) N_0.symm
  refine ⟨⟨(i 0).val / 1024 * 8 + (i 1).val / 256, hN⟩, flush0_2 _, ?_⟩
  refine View.set_slice_whole main_v0 (win0_2.rect ⟨(i 0).val / 1024 * 8 + (i 1).val / 256, hN⟩) ▸ Rect.mem_set_unit.mpr ?_
  exact within (a := 1024) (b := 256) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.PwIdeal.Product

namespace Cert.PwClaims

open Idealize.ShloMosaic Idealize.ShloMosaic.TcCoe Idealize.SL.Sem Cert.PwRefIdeal.Read Cert.PwIdeal

/-- The reference's result, read at an index. -/
theorem reference_at (c : Dev nD) (m : (ℓ : Loc nD τ sig) → Buf (Elt Ideal) ℓ) :
    val_main_v5 (F := Ideal) (m ((c : Thread nD τ).loc main_arg0)) (m ((c : Thread nD τ).loc main_arg1))
      = Product.whole m c := by
  funext i
  idx_vars i
  show _ = Product.entry m c _ _
  unfold Product.entry
  unfold val_main_v5 val_main_v4 val_main_v3 val_main_v2 val_main_v1 val_main_v0
  pointwise

theorem frame_p : Cert.quiescent_Pw := fun m ρ _ => Cert.Pw.Gen.frame m ρ
theorem frame_pi : Cert.quiescent_PwIdeal := fun m ρ _ => Cert.PwIdeal.Gen.frame m ρ
theorem frame_ri : Cert.quiescent_PwRefIdeal := fun m ρ _ =>
  (θ_run _ _ _).mono (fun r h => ⟨fun c => (h c).2, sem_eq_zero_of_no_sems (by decide) r.2⟩) (Cert.PwRefIdeal.Value.run (F := Ideal) m ρ)

theorem preserves : Cert.preserves_Pw_PwIdeal := trivial

theorem algebraic : Cert.algebraic_PwIdeal_PwRefIdeal := fun m ρ m' ρ' _ hag =>
  ⟨fun c => Product.whole m c,
    (θ_run _ _ _).mono (fun r h c => ⟨(h c).1.trans (Product.array m c), (h c).2⟩)
      (Cert.PwIdeal.Value.run_blocks (F := Ideal) m ρ),
    (θ_run _ _ _).mono (fun r h c => ⟨(h c).1.trans (by
        rw [val_main_v5_eq, (hag c).1, (hag c).2]
        exact reference_at c m), (h c).2⟩)
      (Cert.PwRefIdeal.Value.run (F := Ideal) m' ρ')⟩

end Cert.PwClaims
end
-- ==== Proof.PwTProduct.lean ====
/-
  The gradient of the input of the convolution branch's output projection.
-/
module

public import proofs.«01_k».proof.Defs
public import proofs.«01_k».proof.Proof.Gen.PwT.Frame
public import proofs.«01_k».proof.Proof.Gen.PwTIdeal.Value
public import proofs.«01_k».proof.Proof.Gen.PwTRefIdeal.Read
public import proofs.«01_k».proof.Proof.Carried
public import proofs.«01_k».proof.Proof.Tiles
public import proofs.«01_k».proof.Proof.Zeros

@[expose] public section

set_option maxRecDepth 16384

noncomputable section

namespace Cert.PwTIdeal.Product

open Cert.PwTIdeal Cert.PwTIdeal.Gen Cert.Carried Cert.Tiles Idealize.ShloMosaic Idealize.ShloMosaic.TcCoe Idealize.SL.Sem

variable (m : (ℓ : Loc nD τ sig) → Buf (Elt Ideal) ℓ)

abbrev arr0 (c : Dev nD) : Vec Ideal S4096x2048 .bf16 := m ((c : Thread nD τ).loc main_arg0)
abbrev arr1 (c : Dev nD) : Vec Ideal S8x1x1024x256 .bf16 := m ((c : Thread nD τ).loc main_arg1)

/-- The sum over the columns, which lie on 8 devices. -/
def total (c : Dev nD) (l : Fin 4096) (k : Fin 1024) : EReal :=
  ∑ j : Fin 8, ∑ s : Fin 256, arr0 m c (ix2 l ⟨j.val * 256 + s.val, by omega⟩) * arr1 m c (ix4 j 0 k s)

/-- The entry of the input's gradient: the sum over the columns of a row of the product's gradient times a row of the weights. -/
def entry (c : Dev nD) (l : Fin 4096) (k : Fin 1024) : EReal :=
  total m c l k

/-- The whole array of entries. -/
def whole (c : Dev nD) : Vec Ideal S4096x1024 .bf16 := fun i => entry m c (i 0) (i 1)

theorem bound (t : Fin cfg0.N) : t.val < 32 := t.isLt.trans_eq N_0

theorem index0 : ∀ t : Fin cfg0.N, win0_0.index t 0 = t.val / 8 ∧ win0_0.index t 1 = t.val % 8 := by
  intro (t : Fin grid0.N); revert t; decide +kernel

theorem index1 : ∀ t : Fin cfg0.N, win0_1.index t 0 = t.val % 8 ∧ win0_1.index t 1 = 0 ∧ win0_1.index t 2 = 0 ∧ win0_1.index t 3 = 0 := by
  intro (t : Fin grid0.N); revert t; decide +kernel

theorem index2 : ∀ t : Fin cfg0.N, win0_2.index t 0 = t.val / 8 ∧ win0_2.index t 1 = 0 := by
  intro (t : Fin grid0.N); revert t; decide +kernel

/-! ### The input blocks of a grid point -/

theorem blk0 (c : Dev nD) (t : Fin cfg0.N) (y0 : Fin 1024) (y1 : Fin 256) :
    (iblk m c 0 t : Vec Ideal S1024x256 .bf16) (ix2 y0 y1)
      = arr0 m c (ix2 ⟨t.val / 8 * 1024 + y0.val, by have h := bound t; omega⟩ ⟨t.val % 8 * 256 + y1.val, by have h := bound t; omega⟩) :=
  (View.read_apply ..).trans (tile (arr0 m c) _ (index0 t) _ _ rfl rfl rfl rfl)

theorem blk1 (c : Dev nD) (t : Fin cfg0.N) (y2 : Fin 1024) (y3 : Fin 256) :
    (iblk m c 1 t : Vec Ideal S1x1x1024x256 .bf16) (ix4 0 0 y2 y3)
      = arr1 m c (ix4 ⟨t.val % 8, by have h := bound t; omega⟩ 0 y2 y3) := by
  refine (View.read_apply ..).trans (congrArg (m _) (funext fun a => Fin.ext ?_))
  match a with
  | ⟨0, _⟩ => show win0_1.index t 0 * 1 + 1 * 0 = t.val % 8; rw [(index1 t).1] <;> omega
  | ⟨1, _⟩ => show win0_1.index t 1 * 1 + 1 * 0 = 0; rw [(index1 t).2.1] <;> omega
  | ⟨2, _⟩ => show win0_1.index t 2 * 1024 + 1 * y2.val = y2.val; rw [(index1 t).2.2.1] <;> omega
  | ⟨3, _⟩ => show win0_1.index t 3 * 256 + 1 * y3.val = y3.val; rw [(index1 t).2.2.2] <;> omega

/-! ### What a grid point leaves in its output block -/

section
variable (c : Dev nD) (i : grid0.Coords) (a3 : Memref sig .tc .vmem S1024x256 .bf16) (h3 : a3.IsWhole) (a4 : Memref sig .tc .vmem S1x1x1024x256 .bf16) (h4 : a4.IsWhole) (a5 : Memref sig .tc .vmem S1024x1024 .bf16) (h5 : a5.IsWhole) (a6 : Memref sig .tc .vmem S1024x1024 .f32) (h6 : a6.IsWhole)
  (x : Vec Ideal S1024x256 .bf16) (w : Vec Ideal S1x1x1024x256 .bf16) (s : Vec Ideal S1024x1024 .f32)

theorem first_acc (hc0 : cond0_0 i) (hc1 : ¬cond0_1 i) (hc2 : ¬cond0_2 i) : sout0_A_0 (F := Ideal) c i a3 h3 a4 h4 a5 h5 a6 h6 hc0 hc1 hc2 x w = k0_pay2 x w := by
  unfold sout0_A_0
  rw [View.read_writes_eq_canon _ _ _ (fun _ => scover0_A_0 ..)]
  unfold kernelRun0_A
  dsimp only
  sl_unfold_words
  rw [View.canon_unit_zero zeros2]
  simp only [View.readAt_eq_ld, h3.read_unread, h4.read_unread, View.ld_unit_zero (S := S1024x1024) zeros2, View.ld_unit_zero (S := S1024x256) zeros2, View.ld_unit_zero (S := S1x1x1024x256) zeros4]

theorem next_acc (hc0 : ¬cond0_0 i) (hc1 : cond0_1 i) (hc2 : ¬cond0_2 i) : sout0_B_0 (F := Ideal) c i a3 h3 a4 h4 a5 h5 a6 h6 hc0 hc1 hc2 x w s = k0_pay3 x w s := by
  unfold sout0_B_0
  rw [View.read_writes_eq_canon _ _ _ (fun _ => scover0_B_0 ..)]
  unfold kernelRun0_B
  dsimp only
  sl_unfold_words
  rw [View.canon_unit_zero zeros2]
  simp only [View.readAt_eq_ld, h3.read_unread, h4.read_unread, h6.read_unread, View.ld_unit_zero (S := S1024x1024) zeros2, View.ld_unit_zero (S := S1024x256) zeros2, View.ld_unit_zero (S := S1x1x1024x256) zeros4]

theorem last_acc (hc0 : ¬cond0_0 i) (hc1 : cond0_1 i) (hc2 : cond0_2 i) : sout0_C_0 (F := Ideal) c i a3 h3 a4 h4 a5 h5 a6 h6 hc0 hc1 hc2 x w s = k0_pay3 x w s := by
  unfold sout0_C_0
  rw [View.read_writes_eq_canon _ _ _ (fun _ => scover0_C_0 ..)]
  unfold kernelRun0_C
  dsimp only
  sl_unfold_words
  rw [View.canon_unit_zero zeros2]
  simp only [View.readAt_eq_ld, h3.read_unread, h4.read_unread, h6.read_unread, View.ld_unit_zero (S := S1024x1024) zeros2, View.ld_unit_zero (S := S1024x256) zeros2, View.ld_unit_zero (S := S1x1x1024x256) zeros4]

theorem last_out (hc0 : ¬cond0_0 i) (hc1 : cond0_1 i) (hc2 : cond0_2 i) : out0_C_2 (F := Ideal) c i a3 h3 a4 h4 a5 h5 a6 h6 hc0 hc1 hc2 x w s = k0_pay4 (k0_pay3 x w s) := by
  unfold out0_C_2
  rw [View.read_writes_eq_canon _ _ _ (fun _ => cover0_C_2 ..)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S1024x1024) zeros2, View.ld_unit_zero (S := S1024x256) zeros2, View.ld_unit_zero (S := S1x1x1024x256) zeros4]

end

theorem pay2_at (x : Vec Ideal S1024x256 .bf16) (w : Vec Ideal S1x1x1024x256 .bf16) (l : Fin 1024) (k : Fin 1024) :
    k0_pay2 (F := Ideal) x w (ix2 l k) = ∑ s : Fin 256, x (ix2 l s) * w (ix4 0 0 k s) := by
  unfold k0_pay2 k0_pay1
  pointwise

theorem pay3_at (x : Vec Ideal S1024x256 .bf16) (w : Vec Ideal S1x1x1024x256 .bf16) (s : Vec Ideal S1024x1024 .f32) (l : Fin 1024) (k : Fin 1024) :
    k0_pay3 (F := Ideal) x w s (ix2 l k) = s (ix2 l k) + ∑ s : Fin 256, x (ix2 l s) * w (ix4 0 0 k s) := by
  unfold k0_pay3 k0_pay1
  pointwise

theorem pay4_at (s : Vec Ideal S1024x1024 .f32) (l : Fin 1024) (k : Fin 1024) :
    k0_pay4 (F := Ideal) s (ix2 l k) = s (ix2 l k) := by
  unfold k0_pay4
  pointwise

/-- The row of the result that row `l` of a point's block is. -/
def rowOf (t : Fin cfg0.N) (l : Fin 1024) : Fin 4096 := ⟨t.val / 8 * 1024 + l.val, by have h := bound t; omega⟩
/-- The column of the result that column `k` of a point's block is. -/
def colOf (t : Fin cfg0.N) (k : Fin 1024) : Fin 1024 := ⟨k.val, by have h := bound t; omega⟩

/-- The part of an entry's sum that point `j` of its 8 points adds. -/
def part (c : Dev nD) (l : Fin 4096) (k : Fin 1024) (j : ℕ) : EReal :=
  if h : j < 8 then ∑ s : Fin 256, arr0 m c (ix2 l ⟨j * 256 + s.val, by omega⟩) * arr1 m c (ix4 ⟨j, h⟩ 0 k s) else 0

theorem part_at (c : Dev nD) (t : Fin cfg0.N) (l : Fin 1024) (k : Fin 1024) (x : Vec Ideal S1024x256 .bf16) (w : Vec Ideal S1x1x1024x256 .bf16)
    (hx : x = iblk m c 0 t) (hw : w = iblk m c 1 t) :
    ∑ s : Fin 256, x (ix2 l s) * w (ix4 0 0 k s) = part m c (rowOf t l) (colOf t k) (t.val % 8) := by
  subst hx hw
  unfold part
  rw [dif_pos (Nat.mod_lt _ (by decide))]
  simp only [blk0, blk1]
  rfl

theorem parts (c : Dev nD) (l : Fin 4096) (k : Fin 1024) : ∑ j ∈ Finset.range 8, part m c l k j = total m c l k := by
  rw [← Fin.sum_univ_eq_sum_range]
  unfold total
  refine Finset.sum_congr rfl fun j _ => ?_
  unfold part
  rw [dif_pos j.isLt]

/-- After a point, the carried block holds the sum of the parts so far. -/
theorem acc_at (c : Dev nD) (l : Fin 1024) (k : Fin 1024) : ∀ (n : ℕ) (hn : n < cfg0.N),
    (outsAt0 m c n hn).2 (ix2 l k) = ∑ j ∈ Finset.range (n % 8 + 1), part m c (rowOf ⟨n, hn⟩ l) (colOf ⟨n, hn⟩ k) j := by
  refine carried (by decide) _ (fun n hn => part m c (rowOf ⟨n, hn⟩ l) (colOf ⟨n, hn⟩ k)) (fun n hn h0 => ?_) (fun n hn h0 => ?_) (fun n hn h0 => ?_)
  · rw [outsAt0_A m c ⟨n, hn⟩ h0 (by show ¬1 ≤ n % 8; omega) (by show ¬n % 8 = 7; omega)]
    dsimp only
    rw [first_acc, pay2_at]
    exact part_at m c ⟨n, hn⟩ l k _ _ rfl rfl
  · by_cases h2 : (n + 1) % 8 = 7
    · rw [outsAt0_C m c ⟨n + 1, hn⟩ h0 (by show 1 ≤ (n + 1) % 8; omega) h2]
      dsimp only
      rw [last_acc, pay3_at]
      exact congrArg _ (part_at m c ⟨n + 1, hn⟩ l k _ _ rfl rfl)
    · rw [outsAt0_B m c ⟨n + 1, hn⟩ h0 (by show 1 ≤ (n + 1) % 8; omega) h2]
      dsimp only
      rw [next_acc, pay3_at]
      exact congrArg _ (part_at m c ⟨n + 1, hn⟩ l k _ _ rfl rfl)
  · have hb : n + 1 < 32 := hn.trans_eq N_0
    exact congrArg₂ (part m c) (Fin.ext (by show n / 8 * 1024 + l.val = (n + 1) / 8 * 1024 + l.val; omega)) (Fin.ext (by show k.val = k.val; omega))

/-- The block that is written back is the carried block. -/
theorem out_at (c : Dev nD) (t : Fin cfg0.N) (h2 : t.val % 8 = 7) (l : Fin 1024) (k : Fin 1024) :
    (outsAt0 m c t.val t.isLt).1 (ix2 l k) = (outsAt0 m c t.val t.isLt).2 (ix2 l k) := by
  rw [outsAt0_C m c t (by omega) (by omega) h2]
  dsimp only
  rw [last_out, last_acc, pay4_at]

theorem flushed_eq (c : Dev nD) (t : Fin cfg0.N) (hf : (cfg0.win 2).flush t = true) :
    (dats m 0 c).flushed 2 t = ((cfg0.win 2).blk t).view.read (Elt Ideal) (whole m c) := by
  have h2 : t.val % 8 = 7 := (flush0_2 t).mp hf
  rw [Value.flushed2]
  show (outsAt0 m c t.val t.isLt).1 = _
  have hb := bound t
  funext y
  idx_vars y
  rw [View.read_apply, out_at m c t h2, acc_at, h2]
  show _ = entry m c _ _
  refine ((parts m c _ _)).trans ?_
  show entry m c ⟨t.val / 8 * 1024 + y0.val, by omega⟩ ⟨y1.val, by omega⟩ = _
  refine congrArg₂ (entry m c) (Fin.ext ?_) (Fin.ext ?_)
  · show t.val / 8 * 1024 + y0.val = (win0_2.index t 0 * 1024 + 1 * y0.val); rw [(index2 t).1] <;> omega
  · show y1.val = (win0_2.index t 1 * 1024 + 1 * y1.val); rw [(index2 t).2] <;> omega

theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have hN : ((i 0).val / 1024) * 8 + 7 < cfg0.N := lt_of_lt_of_eq (by omega : ((i 0).val / 1024) * 8 + 7 < 32) N_0.symm
  refine ⟨⟨((i 0).val / 1024) * 8 + 7, hN⟩, (flush0_2 _).mpr (by show (((i 0).val / 1024) * 8 + 7) % 8 = 7; omega), ?_⟩
  refine View.set_slice_whole main_v0 (win0_2.rect ⟨((i 0).val / 1024) * 8 + 7, hN⟩) ▸ Rect.mem_set_unit.mpr ?_
  exact within (a := 1024) (b := 1024) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.PwTIdeal.Product

namespace Cert.PwTClaims

open Idealize.ShloMosaic Idealize.ShloMosaic.TcCoe Idealize.SL.Sem Cert.PwTRefIdeal.Read Cert.PwTIdeal

/-- The reference's result, read at an index. -/
theorem reference_at (c : Dev nD) (m : (ℓ : Loc nD τ sig) → Buf (Elt Ideal) ℓ) :
    val_main_v8 (F := Ideal) (m ((c : Thread nD τ).loc main_arg0)) (m ((c : Thread nD τ).loc main_arg1))
      = Product.whole m c := by
  funext i
  idx_vars i
  show _ = Product.entry m c _ _
  unfold Product.entry
  unfold Product.total
  unfold val_main_v8 val_main_v7 val_main_v6 val_main_v3 val_main_v2 val_main_v1 val_main_v0
  pointwise
  rw [Fin.sum_univ_tiles 8 256 (by decide)]
  refine Finset.sum_congr rfl fun j _ => Finset.sum_congr rfl fun s _ => ?_
  refine congrArg₂ (· * ·) rfl (congrArg _ ?_)
  refine congrArg₂ (fun a b => ix4 a 0 _ b) (Fin.ext ?_) (Fin.ext ?_)
  · show (j.val * 256 + s.val) / 256 = j.val; omega
  · show (j.val * 256 + s.val) % 256 = s.val; omega

theorem frame_p : Cert.quiescent_PwT := fun m ρ _ => Cert.PwT.Gen.frame m ρ
theorem frame_pi : Cert.quiescent_PwTIdeal := fun m ρ _ => Cert.PwTIdeal.Gen.frame m ρ
theorem frame_ri : Cert.quiescent_PwTRefIdeal := fun m ρ _ =>
  (θ_run _ _ _).mono (fun r h => ⟨fun c => (h c).2, sem_eq_zero_of_no_sems (by decide) r.2⟩) (Cert.PwTRefIdeal.Value.run (F := Ideal) m ρ)

theorem preserves : Cert.preserves_PwT_PwTIdeal := trivial

theorem algebraic : Cert.algebraic_PwTIdeal_PwTRefIdeal := fun m ρ m' ρ' _ hag =>
  ⟨fun c => Product.whole m c,
    (θ_run _ _ _).mono (fun r h c => ⟨(h c).1.trans (Product.array m c), (h c).2⟩)
      (Cert.PwTIdeal.Value.run_blocks (F := Ideal) m ρ),
    (θ_run _ _ _).mono (fun r h c => ⟨(h c).1.trans (by
        rw [val_main_v8_eq, (hag c).1, (hag c).2]
        exact reference_at c m), (h c).2⟩)
      (Cert.PwTRefIdeal.Value.run (F := Ideal) m' ρ')⟩

end Cert.PwTClaims
end
-- ==== Proof.QueryProduct.lean ====
/-
  The projection to the attention's queries.
-/
module

public import proofs.«01_k».proof.Defs
public import proofs.«01_k».proof.Proof.Gen.Query.Frame
public import proofs.«01_k».proof.Proof.Gen.QueryIdeal.Value
public import proofs.«01_k».proof.Proof.Gen.QueryRefIdeal.Read
public import proofs.«01_k».proof.Proof.Tiles
public import proofs.«01_k».proof.Proof.Zeros

@[expose] public section

set_option maxRecDepth 16384

noncomputable section

namespace Cert.QueryIdeal.Product

open Cert.QueryIdeal Cert.QueryIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x2048 .bf16 := m ((c : Thread nD τ).loc main_arg0)
abbrev arr1 (c : Dev nD) : Vec Ideal S1x2048x2048 .bf16 := m ((c : Thread nD τ).loc main_arg1)

/-- The entry of the product: the sum over a row of the input times a column of the weights. -/
def entry (c : Dev nD) (l : Fin 4096) (n : Fin 2048) : EReal :=
  ∑ s : Fin 2048, arr0 m c (ix2 l s) * arr1 m c (ix3 0 s n)

/-- The whole array of entries. -/
def whole (c : Dev nD) : Vec Ideal S4096x2048 .bf16 := fun i => entry m c (i 0) (i 1)

theorem bound (t : Fin cfg0.N) : t.val < 8 := t.isLt.trans_eq N_0

theorem index0 : ∀ t : Fin cfg0.N, win0_0.index t 0 = t.val / 2 ∧ win0_0.index t 1 = 0 := by
  intro (t : Fin grid0.N); revert t; decide +kernel

theorem index1 : ∀ t : Fin cfg0.N, win0_1.index t 0 = 0 ∧ win0_1.index t 1 = 0 ∧ win0_1.index t 2 = t.val % 2 := by
  intro (t : Fin grid0.N); revert t; decide +kernel

theorem index2 : ∀ t : Fin cfg0.N, win0_2.index t 0 = t.val / 2 ∧ win0_2.index t 1 = t.val % 2 := by
  intro (t : Fin grid0.N); revert t; decide +kernel

/-! ### The input blocks of a grid point -/

theorem blk0 (c : Dev nD) (t : Fin cfg0.N) (y0 : Fin 1024) (y1 : Fin 2048) :
    (iblk m c 0 t : Vec Ideal S1024x2048 .bf16) (ix2 y0 y1)
      = arr0 m c (ix2 ⟨t.val / 2 * 1024 + y0.val, by have h := bound t; omega⟩ y1) :=
  (View.read_apply ..).trans (tile_rows (arr0 m c) _ (index0 t) _ _ rfl rfl rfl rfl)

theorem blk1 (c : Dev nD) (t : Fin cfg0.N) (y1 : Fin 2048) (y2 : Fin 1024) :
    (iblk m c 1 t : Vec Ideal S1x2048x1024 .bf16) (ix3 0 y1 y2)
      = arr1 m c (ix3 0 y1 ⟨t.val % 2 * 1024 + y2.val, by have h := bound t; omega⟩) := by
  refine (View.read_apply ..).trans (congrArg (m _) (funext fun a => Fin.ext ?_))
  match a with
  | ⟨0, _⟩ => show win0_1.index t 0 * 1 + 1 * 0 = 0; rw [(index1 t).1] <;> omega
  | ⟨1, _⟩ => show win0_1.index t 1 * 2048 + 1 * y1.val = y1.val; rw [(index1 t).2.1] <;> omega
  | ⟨2, _⟩ => show win0_1.index t 2 * 1024 + 1 * y2.val = t.val % 2 * 1024 + y2.val; rw [(index1 t).2.2] <;> omega

/-! ### What a grid point leaves in its output block -/

theorem out_eq (x : Vec Ideal S1024x2048 .bf16) (w : Vec Ideal S1x2048x1024 .bf16) : out0_2 (F := Ideal) x w = k0_pay1 x w := by
  unfold out0_2
  rw [View.canon_unit_zero zeros2]
  simp only [View.ld_unit_zero (S := S1024x2048) zeros2, View.ld_unit_zero (S := S1x2048x1024) zeros3]

theorem pay_at (x : Vec Ideal S1024x2048 .bf16) (w : Vec Ideal S1x2048x1024 .bf16) (l : Fin 1024) (n : Fin 1024) :
    k0_pay1 (F := Ideal) x w (ix2 l n) = ∑ s : Fin 2048, x (ix2 l s) * w (ix3 0 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  refine (pay_at _ _ y0 y1).trans ?_
  simp only [blk0, blk1]
  show entry m c ⟨t.val / 2 * 1024 + y0.val, by omega⟩ ⟨t.val % 2 * 1024 + y1.val, by omega⟩ = _
  refine congrArg₂ (entry m c) (Fin.ext ?_) (Fin.ext ?_)
  · show t.val / 2 * 1024 + y0.val = (win0_2.index t 0 * 1024 + 1 * y0.val); rw [(index2 t).1] <;> omega
  · show t.val % 2 * 1024 + y1.val = (win0_2.index t 1 * 1024 + 1 * y1.val); rw [(index2 t).2] <;> omega

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : (i 0).val / 1024 * 2 + (i 1).val / 1024 < cfg0.N := lt_of_lt_of_eq (by omega : (i 0).val / 1024 * 2 + (i 1).val / 1024 < 8) N_0.symm
  refine ⟨⟨(i 0).val / 1024 * 2 + (i 1).val / 1024, hN⟩, flush0_2 _, ?_⟩
  refine View.set_slice_whole main_v0 (win0_2.rect ⟨(i 0).val / 1024 * 2 + (i 1).val / 1024, hN⟩) ▸ Rect.mem_set_unit.mpr ?_
  exact within (a := 1024) (b := 1024) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.QueryIdeal.Product

namespace Cert.QueryClaims

open Idealize.ShloMosaic Idealize.ShloMosaic.TcCoe Idealize.SL.Sem Cert.QueryRefIdeal.Read Cert.QueryIdeal

/-- The reference's result, read at an index. -/
theorem reference_at (c : Dev nD) (m : (ℓ : Loc nD τ sig) → Buf (Elt Ideal) ℓ) :
    val_main_v4 (F := Ideal) (m ((c : Thread nD τ).loc main_arg0)) (m ((c : Thread nD τ).loc main_arg1))
      = Product.whole m c := by
  funext i
  idx_vars i
  show _ = Product.entry m c _ _
  unfold Product.entry
  unfold val_main_v4 val_main_v3 val_main_v2 val_main_v1 val_main_v0
  pointwise

theorem frame_p : Cert.quiescent_Query := fun m ρ _ => Cert.Query.Gen.frame m ρ
theorem frame_pi : Cert.quiescent_QueryIdeal := fun m ρ _ => Cert.QueryIdeal.Gen.frame m ρ
theorem frame_ri : Cert.quiescent_QueryRefIdeal := fun m ρ _ =>
  (θ_run _ _ _).mono (fun r h => ⟨fun c => (h c).2, sem_eq_zero_of_no_sems (by decide) r.2⟩) (Cert.QueryRefIdeal.Value.run (F := Ideal) m ρ)

theorem preserves : Cert.preserves_Query_QueryIdeal := trivial

theorem algebraic : Cert.algebraic_QueryIdeal_QueryRefIdeal := fun m ρ m' ρ' _ hag =>
  ⟨fun c => Product.whole m c,
    (θ_run _ _ _).mono (fun r h c => ⟨(h c).1.trans (Product.array m c), (h c).2⟩)
      (Cert.QueryIdeal.Value.run_blocks (F := Ideal) m ρ),
    (θ_run _ _ _).mono (fun r h c => ⟨(h c).1.trans (by
        rw [val_main_v4_eq, (hag c).1, (hag c).2]
        exact reference_at c m), (h c).2⟩)
      (Cert.QueryRefIdeal.Value.run (F := Ideal) m' ρ')⟩

end Cert.QueryClaims
end
-- ==== Proof.UpProduct.lean ====
/-
  The up projection.
-/
module

public import proofs.«01_k».proof.Defs
public import proofs.«01_k».proof.Proof.Gen.Up.Frame
public import proofs.«01_k».proof.Proof.Gen.UpIdeal.Value
public import proofs.«01_k».proof.Proof.Gen.UpRefIdeal.Read
public import proofs.«01_k».proof.Proof.Tiles
public import proofs.«01_k».proof.Proof.Zeros

@[expose] public section

set_option maxRecDepth 16384

noncomputable section

namespace Cert.UpIdeal.Product

open Cert.UpIdeal Cert.UpIdeal.Gen Cert.Tiles Idealize.ShloMosaic Idealize.ShloMosaic.TcCoe Idealize.SL.Sem

variable (m : (ℓ : Loc nD τ sig) → Buf (Elt Ideal) ℓ)

abbrev arr0 (c : Dev nD) : Vec Ideal S4096x2048 .bf16 := m ((c : Thread nD τ).loc main_arg0)
abbrev arr1 (c : Dev nD) : Vec Ideal S8x1x2048x1408 .bf16 := m ((c : Thread nD τ).loc main_arg1)

/-- The entry of the product: the sum over a row of the input times a column of the weights. -/
def entry (c : Dev nD) (l : Fin 4096) (n : Fin 8 × Fin 1408) : EReal :=
  ∑ s : Fin 2048, arr0 m c (ix2 l s) * arr1 m c (ix4 n.1 0 s n.2)

/-- The whole array of entries. -/
def whole (c : Dev nD) : Vec Ideal S4096x11264 .f32 := fun i => entry m c (i 0) (⟨(i 1).val / 1408, by have h : (i 1).val < 11264 := (i 1).isLt; omega⟩, ⟨(i 1).val % 1408, by omega⟩)

theorem bound (t : Fin cfg0.N) : t.val < 32 := t.isLt.trans_eq N_0

theorem index0 : ∀ t : Fin cfg0.N, win0_0.index t 0 = t.val / 8 ∧ win0_0.index t 1 = 0 := by
  intro (t : Fin grid0.N); revert t; decide +kernel

theorem index1 : ∀ t : Fin cfg0.N, win0_1.index t 0 = t.val % 8 ∧ win0_1.index t 1 = 0 ∧ win0_1.index t 2 = 0 ∧ win0_1.index t 3 = 0 := by
  intro (t : Fin grid0.N); revert t; decide +kernel

theorem index2 : ∀ t : Fin cfg0.N, win0_2.index t 0 = t.val / 8 ∧ win0_2.index t 1 = t.val % 8 := by
  intro (t : Fin grid0.N); revert t; decide +kernel

/-! ### The input blocks of a grid point -/

theorem blk0 (c : Dev nD) (t : Fin cfg0.N) (y0 : Fin 1024) (y1 : Fin 2048) :
    (iblk m c 0 t : Vec Ideal S1024x2048 .bf16) (ix2 y0 y1)
      = arr0 m c (ix2 ⟨t.val / 8 * 1024 + y0.val, by have h := bound t; omega⟩ y1) :=
  (View.read_apply ..).trans (tile_rows (arr0 m c) _ (index0 t) _ _ rfl rfl rfl rfl)

theorem blk1 (c : Dev nD) (t : Fin cfg0.N) (y2 : Fin 2048) (y3 : Fin 1408) :
    (iblk m c 1 t : Vec Ideal S1x1x2048x1408 .bf16) (ix4 0 0 y2 y3)
      = arr1 m c (ix4 ⟨t.val % 8, by have h := bound t; omega⟩ 0 y2 y3) := by
  refine (View.read_apply ..).trans (congrArg (m _) (funext fun a => Fin.ext ?_))
  match a with
  | ⟨0, _⟩ => show win0_1.index t 0 * 1 + 1 * 0 = t.val % 8; rw [(index1 t).1] <;> omega
  | ⟨1, _⟩ => show win0_1.index t 1 * 1 + 1 * 0 = 0; rw [(index1 t).2.1] <;> omega
  | ⟨2, _⟩ => show win0_1.index t 2 * 2048 + 1 * y2.val = y2.val; rw [(index1 t).2.2.1] <;> omega
  | ⟨3, _⟩ => show win0_1.index t 3 * 1408 + 1 * y3.val = y3.val; rw [(index1 t).2.2.2] <;> omega

/-! ### What a grid point leaves in its output block -/

theorem out_eq (x : Vec Ideal S1024x2048 .bf16) (w : Vec Ideal S1x1x2048x1408 .bf16) : out0_2 (F := Ideal) x w = k0_pay1 x w := by
  unfold out0_2
  rw [View.canon_unit_zero zeros2]
  simp only [View.ld_unit_zero (S := S1024x2048) zeros2, View.ld_unit_zero (S := S1x1x2048x1408) zeros4]

theorem pay_at (x : Vec Ideal S1024x2048 .bf16) (w : Vec Ideal S1x1x2048x1408 .bf16) (l : Fin 1024) (n : Fin 1408) :
    k0_pay1 (F := Ideal) x w (ix2 l n) = ∑ s : Fin 2048, x (ix2 l s) * w (ix4 0 0 s n) := by
  unfold k0_pay1
  pointwise

theorem flushed_eq (c : Dev nD) (t : Fin cfg0.N) (hf : (cfg0.win 2).flush t = true) :
    (dats m 0 c).flushed 2 t = ((cfg0.win 2).blk t).view.read (Elt Ideal) (whole m c) := by
  rw [Value.flushed2, out_eq]
  show k0_pay1 (F := Ideal) (iblk m c 0 t) (iblk m c 1 t) = _
  have hb := bound t
  funext y
  idx_vars y
  rw [View.read_apply]
  show _ = entry m c _ _
  refine (pay_at _ _ y0 y1).trans ?_
  simp only [blk0, blk1]
  show entry m c ⟨t.val / 8 * 1024 + y0.val, by omega⟩ (⟨t.val % 8, by omega⟩, y1) = _
  refine congrArg₂ (entry m c) (Fin.ext ?_) (Prod.ext (Fin.ext ?_) (Fin.ext ?_))
  · show t.val / 8 * 1024 + y0.val = win0_2.index t 0 * 1024 + 1 * y0.val; rw [(index2 t).1] <;> omega
  · show t.val % 8 = (win0_2.index t 1 * 1408 + 1 * y1.val) / 1408; rw [(index2 t).2] <;> omega
  · show y1.val = (win0_2.index t 1 * 1408 + 1 * y1.val) % 1408; rw [(index2 t).2] <;> omega

theorem cover (i : S4096x11264.Idx) : ∃ t : Fin cfg0.N, (cfg0.win 2).flush t = true ∧ i ∈ ((cfg0.win 2).blk t).view.set := by
  have h0 : (i 0).val < 4096 := (i 0).isLt
  have h1 : (i 1).val < 11264 := (i 1).isLt
  have hN : (i 0).val / 1024 * 8 + (i 1).val / 1408 < cfg0.N := lt_of_lt_of_eq (by omega : (i 0).val / 1024 * 8 + (i 1).val / 1408 < 32) N_0.symm
  refine ⟨⟨(i 0).val / 1024 * 8 + (i 1).val / 1408, hN⟩, flush0_2 _, ?_⟩
  refine View.set_slice_whole main_v0 (win0_2.rect ⟨(i 0).val / 1024 * 8 + (i 1).val / 1408, hN⟩) ▸ Rect.mem_set_unit.mpr ?_
  exact within (a := 1024) (b := 1408) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.UpIdeal.Product

namespace Cert.UpClaims

open Idealize.ShloMosaic Idealize.ShloMosaic.TcCoe Idealize.SL.Sem Cert.UpRefIdeal.Read Cert.UpIdeal

/-- The reference's result, read at an index. -/
theorem reference_at (c : Dev nD) (m : (ℓ : Loc nD τ sig) → Buf (Elt Ideal) ℓ) :
    val_main_v5 (F := Ideal) (m ((c : Thread nD τ).loc main_arg0)) (m ((c : Thread nD τ).loc main_arg1))
      = Product.whole m c := by
  funext i
  idx_vars i
  show _ = Product.entry m c _ _
  unfold Product.entry
  unfold val_main_v5 val_main_v4 val_main_v3 val_main_v2 val_main_v1 val_main_v0
  pointwise

theorem frame_p : Cert.quiescent_Up := fun m ρ _ => Cert.Up.Gen.frame m ρ
theorem frame_pi : Cert.quiescent_UpIdeal := fun m ρ _ => Cert.UpIdeal.Gen.frame m ρ
theorem frame_ri : Cert.quiescent_UpRefIdeal := fun m ρ _ =>
  (θ_run _ _ _).mono (fun r h => ⟨fun c => (h c).2, sem_eq_zero_of_no_sems (by decide) r.2⟩) (Cert.UpRefIdeal.Value.run (F := Ideal) m ρ)

theorem preserves : Cert.preserves_Up_UpIdeal := trivial

theorem algebraic : Cert.algebraic_UpIdeal_UpRefIdeal := fun m ρ m' ρ' _ hag =>
  ⟨fun c => Product.whole m c,
    (θ_run _ _ _).mono (fun r h c => ⟨(h c).1.trans (Product.array m c), (h c).2⟩)
      (Cert.UpIdeal.Value.run_blocks (F := Ideal) m ρ),
    (θ_run _ _ _).mono (fun r h c => ⟨(h c).1.trans (by
        rw [val_main_v5_eq, (hag c).1, (hag c).2]
        exact reference_at c m), (h c).2⟩)
      (Cert.UpRefIdeal.Value.run (F := Ideal) m' ρ')⟩

end Cert.UpClaims
end
-- ==== Proof.UpTProduct.lean ====
/-
  The gradient of the up projection's input.
-/
module

public import proofs.«01_k».proof.Defs
public import proofs.«01_k».proof.Proof.Gen.UpT.Frame
public import proofs.«01_k».proof.Proof.Gen.UpTIdeal.Value
public import proofs.«01_k».proof.Proof.Gen.UpTRefIdeal.Read
public import proofs.«01_k».proof.Proof.Carried
public import proofs.«01_k».proof.Proof.Tiles
public import proofs.«01_k».proof.Proof.Zeros

@[expose] public section

set_option maxRecDepth 16384

noncomputable section

namespace Cert.UpTIdeal.Product

open Cert.UpTIdeal Cert.UpTIdeal.Gen Cert.Carried Cert.Tiles Idealize.ShloMosaic Idealize.ShloMosaic.TcCoe Idealize.SL.Sem

variable (m : (ℓ : Loc nD τ sig) → Buf (Elt Ideal) ℓ)

abbrev arr0 (c : Dev nD) : Vec Ideal S4096x11264 .bf16 := m ((c : Thread nD τ).loc main_arg0)
abbrev arr1 (c : Dev nD) : Vec Ideal S8x1x2048x1408 .bf16 := m ((c : Thread nD τ).loc main_arg1)

/-- The sum over the columns, which lie on 8 devices. -/
def total (c : Dev nD) (l : Fin 4096) (k : Fin 2048) : EReal :=
  ∑ j : Fin 8, ∑ s : Fin 1408, arr0 m c (ix2 l ⟨j.val * 1408 + s.val, by omega⟩) * arr1 m c (ix4 j 0 k s)

/-- The entry of the input's gradient: the sum over the columns of a row of the product's gradient times a row of the weights. -/
def entry (c : Dev nD) (l : Fin 4096) (k : Fin 2048) : EReal :=
  total m c l k

/-- The whole array of entries. -/
def whole (c : Dev nD) : Vec Ideal S4096x2048 .bf16 := fun i => entry m c (i 0) (i 1)

theorem bound (t : Fin cfg0.N) : t.val < 64 := t.isLt.trans_eq N_0

theorem index0 : ∀ t : Fin cfg0.N, win0_0.index t 0 = t.val / 16 ∧ win0_0.index t 1 = t.val % 8 := by
  intro (t : Fin grid0.N); revert t; decide +kernel

theorem index1 : ∀ t : Fin cfg0.N, win0_1.index t 0 = t.val % 8 ∧ win0_1.index t 1 = 0 ∧ win0_1.index t 2 = t.val / 8 % 2 ∧ win0_1.index t 3 = 0 := by
  intro (t : Fin grid0.N); revert t; decide +kernel

theorem index2 : ∀ t : Fin cfg0.N, win0_2.index t 0 = t.val / 16 ∧ win0_2.index t 1 = t.val / 8 % 2 := by
  intro (t : Fin grid0.N); revert t; decide +kernel

/-! ### The input blocks of a grid point -/

theorem blk0 (c : Dev nD) (t : Fin cfg0.N) (y0 : Fin 1024) (y1 : Fin 1408) :
    (iblk m c 0 t : Vec Ideal S1024x1408 .bf16) (ix2 y0 y1)
      = arr0 m c (ix2 ⟨t.val / 16 * 1024 + y0.val, by have h := bound t; omega⟩ ⟨t.val % 8 * 1408 + y1.val, by have h := bound t; omega⟩) :=
  (View.read_apply ..).trans (tile (arr0 m c) _ (index0 t) _ _ rfl rfl rfl rfl)

theorem blk1 (c : Dev nD) (t : Fin cfg0.N) (y2 : Fin 1024) (y3 : Fin 1408) :
    (iblk m c 1 t : Vec Ideal S1x1x1024x1408 .bf16) (ix4 0 0 y2 y3)
      = arr1 m c (ix4 ⟨t.val % 8, by have h := bound t; omega⟩ 0 ⟨t.val / 8 % 2 * 1024 + y2.val, by have h := bound t; omega⟩ y3) := by
  refine (View.read_apply ..).trans (congrArg (m _) (funext fun a => Fin.ext ?_))
  match a with
  | ⟨0, _⟩ => show win0_1.index t 0 * 1 + 1 * 0 = t.val % 8; rw [(index1 t).1] <;> omega
  | ⟨1, _⟩ => show win0_1.index t 1 * 1 + 1 * 0 = 0; rw [(index1 t).2.1] <;> omega
  | ⟨2, _⟩ => show win0_1.index t 2 * 1024 + 1 * y2.val = t.val / 8 % 2 * 1024 + y2.val; rw [(index1 t).2.2.1] <;> omega
  | ⟨3, _⟩ => show win0_1.index t 3 * 1408 + 1 * y3.val = y3.val; rw [(index1 t).2.2.2] <;> omega

/-! ### What a grid point leaves in its output block -/

section
variable (c : Dev nD) (i : grid0.Coords) (a3 : Memref sig .tc .vmem S1024x1408 .bf16) (h3 : a3.IsWhole) (a4 : Memref sig .tc .vmem S1x1x1024x1408 .bf16) (h4 : a4.IsWhole) (a5 : Memref sig .tc .vmem S1024x1024 .bf16) (h5 : a5.IsWhole) (a6 : Memref sig .tc .vmem S1024x1024 .f32) (h6 : a6.IsWhole)
  (x : Vec Ideal S1024x1408 .bf16) (w : Vec Ideal S1x1x1024x1408 .bf16) (s : Vec Ideal S1024x1024 .f32)

theorem first_acc (hc0 : cond0_0 i) (hc1 : ¬cond0_1 i) (hc2 : ¬cond0_2 i) : sout0_A_0 (F := Ideal) c i a3 h3 a4 h4 a5 h5 a6 h6 hc0 hc1 hc2 x w = k0_pay2 x w := by
  unfold sout0_A_0
  rw [View.read_writes_eq_canon _ _ _ (fun _ => scover0_A_0 ..)]
  unfold kernelRun0_A
  dsimp only
  sl_unfold_words
  rw [View.canon_unit_zero zeros2]
  simp only [View.readAt_eq_ld, h3.read_unread, h4.read_unread, View.ld_unit_zero (S := S1024x1024) zeros2, View.ld_unit_zero (S := S1024x1408) zeros2, View.ld_unit_zero (S := S1x1x1024x1408) zeros4]

theorem next_acc (hc0 : ¬cond0_0 i) (hc1 : cond0_1 i) (hc2 : ¬cond0_2 i) : sout0_B_0 (F := Ideal) c i a3 h3 a4 h4 a5 h5 a6 h6 hc0 hc1 hc2 x w s = k0_pay3 x w s := by
  unfold sout0_B_0
  rw [View.read_writes_eq_canon _ _ _ (fun _ => scover0_B_0 ..)]
  unfold kernelRun0_B
  dsimp only
  sl_unfold_words
  rw [View.canon_unit_zero zeros2]
  simp only [View.readAt_eq_ld, h3.read_unread, h4.read_unread, h6.read_unread, View.ld_unit_zero (S := S1024x1024) zeros2, View.ld_unit_zero (S := S1024x1408) zeros2, View.ld_unit_zero (S := S1x1x1024x1408) zeros4]

theorem last_acc (hc0 : ¬cond0_0 i) (hc1 : cond0_1 i) (hc2 : cond0_2 i) : sout0_C_0 (F := Ideal) c i a3 h3 a4 h4 a5 h5 a6 h6 hc0 hc1 hc2 x w s = k0_pay3 x w s := by
  unfold sout0_C_0
  rw [View.read_writes_eq_canon _ _ _ (fun _ => scover0_C_0 ..)]
  unfold kernelRun0_C
  dsimp only
  sl_unfold_words
  rw [View.canon_unit_zero zeros2]
  simp only [View.readAt_eq_ld, h3.read_unread, h4.read_unread, h6.read_unread, View.ld_unit_zero (S := S1024x1024) zeros2, View.ld_unit_zero (S := S1024x1408) zeros2, View.ld_unit_zero (S := S1x1x1024x1408) zeros4]

theorem last_out (hc0 : ¬cond0_0 i) (hc1 : cond0_1 i) (hc2 : cond0_2 i) : out0_C_2 (F := Ideal) c i a3 h3 a4 h4 a5 h5 a6 h6 hc0 hc1 hc2 x w s = k0_pay4 (k0_pay3 x w s) := by
  unfold out0_C_2
  rw [View.read_writes_eq_canon _ _ _ (fun _ => cover0_C_2 ..)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S1024x1024) zeros2, View.ld_unit_zero (S := S1024x1408) zeros2, View.ld_unit_zero (S := S1x1x1024x1408) zeros4]

end

theorem pay2_at (x : Vec Ideal S1024x1408 .bf16) (w : Vec Ideal S1x1x1024x1408 .bf16) (l : Fin 1024) (k : Fin 1024) :
    k0_pay2 (F := Ideal) x w (ix2 l k) = ∑ s : Fin 1408, x (ix2 l s) * w (ix4 0 0 k s) := by
  unfold k0_pay2 k0_pay1
  pointwise

theorem pay3_at (x : Vec Ideal S1024x1408 .bf16) (w : Vec Ideal S1x1x1024x1408 .bf16) (s : Vec Ideal S1024x1024 .f32) (l : Fin 1024) (k : Fin 1024) :
    k0_pay3 (F := Ideal) x w s (ix2 l k) = s (ix2 l k) + ∑ s : Fin 1408, x (ix2 l s) * w (ix4 0 0 k s) := by
  unfold k0_pay3 k0_pay1
  pointwise

theorem pay4_at (s : Vec Ideal S1024x1024 .f32) (l : Fin 1024) (k : Fin 1024) :
    k0_pay4 (F := Ideal) s (ix2 l k) = s (ix2 l k) := by
  unfold k0_pay4
  pointwise

/-- The row of the result that row `l` of a point's block is. -/
def rowOf (t : Fin cfg0.N) (l : Fin 1024) : Fin 4096 := ⟨t.val / 16 * 1024 + l.val, by have h := bound t; omega⟩
/-- The column of the result that column `k` of a point's block is. -/
def colOf (t : Fin cfg0.N) (k : Fin 1024) : Fin 2048 := ⟨t.val / 8 % 2 * 1024 + k.val, by have h := bound t; omega⟩

/-- The part of an entry's sum that point `j` of its 8 points adds. -/
def part (c : Dev nD) (l : Fin 4096) (k : Fin 2048) (j : ℕ) : EReal :=
  if h : j < 8 then ∑ s : Fin 1408, arr0 m c (ix2 l ⟨j * 1408 + s.val, by omega⟩) * arr1 m c (ix4 ⟨j, h⟩ 0 k s) else 0

theorem part_at (c : Dev nD) (t : Fin cfg0.N) (l : Fin 1024) (k : Fin 1024) (x : Vec Ideal S1024x1408 .bf16) (w : Vec Ideal S1x1x1024x1408 .bf16)
    (hx : x = iblk m c 0 t) (hw : w = iblk m c 1 t) :
    ∑ s : Fin 1408, x (ix2 l s) * w (ix4 0 0 k s) = part m c (rowOf t l) (colOf t k) (t.val % 8) := by
  subst hx hw
  unfold part
  rw [dif_pos (Nat.mod_lt _ (by decide))]
  simp only [blk0, blk1]
  rfl

theorem parts (c : Dev nD) (l : Fin 4096) (k : Fin 2048) : ∑ j ∈ Finset.range 8, part m c l k j = total m c l k := by
  rw [← Fin.sum_univ_eq_sum_range]
  unfold total
  refine Finset.sum_congr rfl fun j _ => ?_
  unfold part
  rw [dif_pos j.isLt]

/-- After a point, the carried block holds the sum of the parts so far. -/
theorem acc_at (c : Dev nD) (l : Fin 1024) (k : Fin 1024) : ∀ (n : ℕ) (hn : n < cfg0.N),
    (outsAt0 m c n hn).2 (ix2 l k) = ∑ j ∈ Finset.range (n % 8 + 1), part m c (rowOf ⟨n, hn⟩ l) (colOf ⟨n, hn⟩ k) j := by
  refine carried (by decide) _ (fun n hn => part m c (rowOf ⟨n, hn⟩ l) (colOf ⟨n, hn⟩ k)) (fun n hn h0 => ?_) (fun n hn h0 => ?_) (fun n hn h0 => ?_)
  · rw [outsAt0_A m c ⟨n, hn⟩ h0 (by show ¬1 ≤ n % 8; omega) (by show ¬n % 8 = 7; omega)]
    dsimp only
    rw [first_acc, pay2_at]
    exact part_at m c ⟨n, hn⟩ l k _ _ rfl rfl
  · by_cases h2 : (n + 1) % 8 = 7
    · rw [outsAt0_C m c ⟨n + 1, hn⟩ h0 (by show 1 ≤ (n + 1) % 8; omega) h2]
      dsimp only
      rw [last_acc, pay3_at]
      exact congrArg _ (part_at m c ⟨n + 1, hn⟩ l k _ _ rfl rfl)
    · rw [outsAt0_B m c ⟨n + 1, hn⟩ h0 (by show 1 ≤ (n + 1) % 8; omega) h2]
      dsimp only
      rw [next_acc, pay3_at]
      exact congrArg _ (part_at m c ⟨n + 1, hn⟩ l k _ _ rfl rfl)
  · have hb : n + 1 < 64 := hn.trans_eq N_0
    exact congrArg₂ (part m c) (Fin.ext (by show n / 16 * 1024 + l.val = (n + 1) / 16 * 1024 + l.val; omega)) (Fin.ext (by show n / 8 % 2 * 1024 + k.val = (n + 1) / 8 % 2 * 1024 + k.val; omega))

/-- The block that is written back is the carried block. -/
theorem out_at (c : Dev nD) (t : Fin cfg0.N) (h2 : t.val % 8 = 7) (l : Fin 1024) (k : Fin 1024) :
    (outsAt0 m c t.val t.isLt).1 (ix2 l k) = (outsAt0 m c t.val t.isLt).2 (ix2 l k) := by
  rw [outsAt0_C m c t (by omega) (by omega) h2]
  dsimp only
  rw [last_out, last_acc, pay4_at]

theorem flushed_eq (c : Dev nD) (t : Fin cfg0.N) (hf : (cfg0.win 2).flush t = true) :
    (dats m 0 c).flushed 2 t = ((cfg0.win 2).blk t).view.read (Elt Ideal) (whole m c) := by
  have h2 : t.val % 8 = 7 := (flush0_2 t).mp hf
  rw [Value.flushed2]
  show (outsAt0 m c t.val t.isLt).1 = _
  have hb := bound t
  funext y
  idx_vars y
  rw [View.read_apply, out_at m c t h2, acc_at, h2]
  show _ = entry m c _ _
  refine ((parts m c _ _)).trans ?_
  show entry m c ⟨t.val / 16 * 1024 + y0.val, by omega⟩ ⟨t.val / 8 % 2 * 1024 + y1.val, by omega⟩ = _
  refine congrArg₂ (entry m c) (Fin.ext ?_) (Fin.ext ?_)
  · show t.val / 16 * 1024 + y0.val = (win0_2.index t 0 * 1024 + 1 * y0.val); rw [(index2 t).1] <;> omega
  · show t.val / 8 % 2 * 1024 + y1.val = (win0_2.index t 1 * 1024 + 1 * y1.val); rw [(index2 t).2] <;> omega

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : ((i 0).val / 1024 * 2 + (i 1).val / 1024) * 8 + 7 < cfg0.N := lt_of_lt_of_eq (by omega : ((i 0).val / 1024 * 2 + (i 1).val / 1024) * 8 + 7 < 64) N_0.symm
  refine ⟨⟨((i 0).val / 1024 * 2 + (i 1).val / 1024) * 8 + 7, hN⟩, (flush0_2 _).mpr (by show (((i 0).val / 1024 * 2 + (i 1).val / 1024) * 8 + 7) % 8 = 7; omega), ?_⟩
  refine View.set_slice_whole main_v0 (win0_2.rect ⟨((i 0).val / 1024 * 2 + (i 1).val / 1024) * 8 + 7, hN⟩) ▸ Rect.mem_set_unit.mpr ?_
  exact within (a := 1024) (b := 1024) (index2 _) (by dsimp only; omega) (by dsimp only; omega) rfl rfl rfl rfl

/-- The array after the call. -/
theorem array (c : Dev nD) : (dats m 0 c).arrAt 2 cfg0.N = whole m c :=
  (dats m 0 c).arrAt_eq_of_cover 2 (whole m c) (fun t hf => flushed_eq m c t hf) cover

end Cert.UpTIdeal.Product

namespace Cert.UpTClaims

open Idealize.ShloMosaic Idealize.ShloMosaic.TcCoe Idealize.SL.Sem Cert.UpTRefIdeal.Read Cert.UpTIdeal

/-- The reference's result, read at an index. -/
theorem reference_at (c : Dev nD) (m : (ℓ : Loc nD τ sig) → Buf (Elt Ideal) ℓ) :
    val_main_v8 (F := Ideal) (m ((c : Thread nD τ).loc main_arg0)) (m ((c : Thread nD τ).loc main_arg1))
      = Product.whole m c := by
  funext i
  idx_vars i
  show _ = Product.entry m c _ _
  unfold Product.entry
  unfold Product.total
  unfold val_main_v8 val_main_v7 val_main_v6 val_main_v3 val_main_v2 val_main_v1 val_main_v0
  pointwise
  rw [Fin.sum_univ_tiles 8 1408 (by decide)]
  refine Finset.sum_congr rfl fun j _ => Finset.sum_congr rfl fun s _ => ?_
  refine congrArg₂ (· * ·) rfl (congrArg _ ?_)
  refine congrArg₂ (fun a b => ix4 a 0 _ b) (Fin.ext ?_) (Fin.ext ?_)
  · show (j.val * 1408 + s.val) / 1408 = j.val; omega
  · show (j.val * 1408 + s.val) % 1408 = s.val; omega

theorem frame_p : Cert.quiescent_UpT := fun m ρ _ => Cert.UpT.Gen.frame m ρ
theorem frame_pi : Cert.quiescent_UpTIdeal := fun m ρ _ => Cert.UpTIdeal.Gen.frame m ρ
theorem frame_ri : Cert.quiescent_UpTRefIdeal := fun m ρ _ =>
  (θ_run _ _ _).mono (fun r h => ⟨fun c => (h c).2, sem_eq_zero_of_no_sems (by decide) r.2⟩) (Cert.UpTRefIdeal.Value.run (F := Ideal) m ρ)

theorem preserves : Cert.preserves_UpT_UpTIdeal := trivial

theorem algebraic : Cert.algebraic_UpTIdeal_UpTRefIdeal := fun m ρ m' ρ' _ hag =>
  ⟨fun c => Product.whole m c,
    (θ_run _ _ _).mono (fun r h c => ⟨(h c).1.trans (Product.array m c), (h c).2⟩)
      (Cert.UpTIdeal.Value.run_blocks (F := Ideal) m ρ),
    (θ_run _ _ _).mono (fun r h c => ⟨(h c).1.trans (by
        rw [val_main_v8_eq, (hag c).1, (hag c).2]
        exact reference_at c m), (h c).2⟩)
      (Cert.UpTRefIdeal.Value.run (F := Ideal) m' ρ')⟩

end Cert.UpTClaims
end
-- ==== Proof.Runs.lean ====
/-
  A program of several grids ends with the contents its last boundary names.
-/
module

public import Idealize.ShloMosaic.Lib.Pipeline.FrameSuffix
public import Idealize.ShloMosaic.Lib.Pipeline.RegionsLoop
public import Idealize.ShloMosaic.Lib.Pipeline.Value
public import Idealize.ShloMosaic.PureOps.Ideal.Laws

@[expose] public section

noncomputable section

namespace Cert.Runs

open Idealize.ShloMosaic Idealize.ShloMosaic.TcCoe Idealize.SL.Sem
open Idealize.SL Idealize.SL.RA Idealize.SL.BI Idealize.SL.BI.BIBase Idealize.SL.BI.Laws Idealize.SL.ProofMode Idealize.ShloMosaic.Rounds
open Idealize.ShloMosaic.Pipeline
open scoped Idealize.SL.BI

variable {nD : Nat} {τ : Topo} {sig : RefSig} {Λ₀ : Labels} {P : Type} [Fintype P] [DecidableEq P]

local notation "𝕄" => MT nD τ sig Unit (Elt Ideal) ℕ (UR sig nD τ) ℕ

set_option backward.isDefEq.respectTransparency.types false in
/-- Every run ends with the last boundary's contents in every buffer the arguments and results live in. -/
theorem run (pcs : P → PCfg sig Λ₀ (Elt Ideal)) (a : (p : P) → (pcs p).Adm)
    (pdats : (p : P) → (c : Dev nD) → Dat τ (Elt Ideal) Unit ℕ (UR sig nD τ) ℕ (pin pcs a p) c)
    (phinj : Function.Injective (cellOf (nD := nD) (τ := τ) (pin pcs a))) (defs₀ : Defs nD τ sig (Elt Ideal) Λ₀)
    (m : (ℓ : Loc nD τ sig) → Buf (Elt Ideal) ℓ) (g : Dev nD → PrngReg)
    (main : Dev nD → Prog (TpuEff nD τ sig (Elt Ideal) (Sig Λ₀ P fun p => (pcs p).Adm) .tc) PUnit)
    (segs : List (Seg pcs a pdats () defs₀ Variants.none (fun _ => ∅) (fun _ _ => 0)))
    (hmain : ∀ c, main c = Seg.run segs) (hnd : (Seg.pipes segs).Nodup) (W : Dev nD → Valuation τ sig (Elt Ideal))
    (hch : Seg.Chains (fun c => iprop(StableHlo.held (c : Thread nD τ) (ucRefs τ sig) (fun b => m ((c : Dev nD), b)) ∗ (∃ r, prngReg c r) ∗ ∃ W, owes (c : Thread nD τ) (0 : CellTallies nD τ sig Unit) W)) segs
      fun c => iprop((StableHlo.held (c : Thread nD τ) (ucRefs τ sig) (W c) ∗ ∃ r, prngReg c r) ∗ ∃ W, owes (c : Thread nD τ) (0 : CellTallies nD τ sig Unit) W)) :
    θ_run (Pipeline.defs pcs defs₀) (onTc main) ⟨m, fun _ => 0, g⟩ fun r => ∀ c : Dev nD, ∀ b ∈ ucRefs τ sig, r.2.mem ((c : Dev nD), b) = W c b :=
  Pipeline.θ_run_regions_kit_sems pcs a pdats () phinj emb₁ defs₀ Variants.none (fun _ => ∅) (fun _ _ => 0) m g main segs
  (fun c Q => by rw [hmain c]) hnd
  (O₀ := 0) (hL := fun _ _ => rfl) (G := fun _ => iprop(emp))
  (u₀ := initOf (Pipeline.cells (pin pcs a) phinj) (Pipeline.launchToks (pin pcs a) phinj))
    (hu₀ := by
      iintro Hu; imodintro
      isplitl [Hu]
      · iapply (show (ownU (initOf (Pipeline.cells (pin pcs a) phinj) (Pipeline.launchToks (pin pcs a) phinj)) : sProp 𝕄)
            ⊢ BI.own (emb₁ (initOf (Pipeline.cells (pin pcs a) phinj) (Pipeline.launchToks (pin pcs a) phinj))) from .rfl)
        iexact Hu
      iapply (show (BI.emp : sProp 𝕄) ⊢ bigSep Finset.univ (fun _ : Dev nD => (BI.emp : sProp 𝕄)) from by rw [BI.bigSep_emp_const])
      iempintro)
  (T₀ := _) (Tₙ := _) (hch := hch)
  (hinit := by
      refine Pipeline.initEach _ _ fun c => ?_
      rw [show unscopedBufs c (fun b => m ((c : Thread nD τ).loc b)) = StableHlo.held (c : Thread nD τ) (Pipeline.ucRefs τ sig) (fun b => m ((c : Dev nD), b))
        from Pipeline.unscopedBufs_held c (fun b => m ((c : Dev nD), b))]
      iintro ⟨⟨Hh, -, HO, -, Hp, -⟩, -⟩
      imodintro
      isplitl [Hh]; · iexact Hh
      isplitl [Hp]; · iexists _; iexact Hp
      iexists ∅; iexact HO)
  (QY := fun c s => ∀ b ∈ Pipeline.ucRefs τ sig, s.mem (((c : Thread nD τ)).1, b) = W c b)
  (hfin := fun c s' => by
      iintro ⟨⟨Hh, -⟩, HSI⟩
      unfold StableHlo.held
      imodintro
      iapply (pointsTo_read_all (Pipeline.ucRefs τ sig) (fun b => (((c : Thread nD τ)).1, b)) (W c) s')
      isplitl [Hh] <;> iassumption)
  (hQ := fun s h hz c b hb => h c b hb)

section
variable {c : Dev nD} {cfg : Cfg sig Λ₀} (d : Dat τ (Elt Ideal) Unit ℕ (UR sig nD τ) ℕ cfg c) (w : Fin cfg.W) (G : Buf (Elt Ideal) ((cfg.win w).arr.view.loc (c.tc : Thread nD τ)))
  (hG : ∀ t, d.flushed w t = ((cfg.win w).blk t).view.read (Elt Ideal) G) (hf : ∀ t, (cfg.win w).flush t = true)
include hG hf

/-- Where a block of a grid is written back, its array holds what the grid's blocks are read from. -/
theorem covered {i : ((cfg.win w).arr.view.loc (c.tc : Thread nD τ)).2.ty.Idx} (hi : ∃ t, i ∈ ((cfg.win w).blk t).view.set) : d.arrAt w cfg.N i = G i :=
  let ⟨t, h⟩ := hi
  d.arrAt_apply_of_mem w G (fun t _ => hG t) cfg.N t i t.isLt (hf t) h

/-- So does the whole array, if it held that before wherever no block is. -/
theorem joined {p : ((cfg.win w).arr.view.loc (c.tc : Thread nD τ)).2.ty.Idx → Prop} (h1 : ∀ i, p i → ∃ t, i ∈ ((cfg.win w).blk t).view.set)
    (h2 : ∀ i, ¬p i → ∀ t, i ∉ ((cfg.win w).blk t).view.set) (hA : ∀ i, ¬p i → d.A w i = G i) : d.arrAt w cfg.N = G := by
  funext i
  by_cases h : p i
  · exact covered d w G hG hf (h1 i h)
  · exact (d.arrAt_apply_of_forall_not_mem w cfg.N i fun t _ _ => h2 i h t).trans (hA i h)

end

end Cert.Runs
end
-- ==== Proof.AdamStep.lean ====
/-
  One element's step of the optimiser from the four devices' parts of its gradient, and how an element of a slab of a
  three-axis array is placed in the array.
-/
module

public import Idealize.ShloMosaic.PureOps.Ideal.Laws
public import Idealize.ShloMosaic.Lib.Pointwise

@[expose] public section

noncomputable section

namespace Cert.AdamStep

open Idealize.ShloMosaic

/-- A function of an element's four parts, weight and two means. -/
abbrev Step := EReal → EReal → EReal → EReal → EReal → EReal → EReal → EReal

/-- The reduced gradient. -/
def grad (a b c d w p q : EReal) : EReal := a + b + c + d
/-- The running mean of the gradient. -/
def mean (a b c d w p q : EReal) : EReal :=
  Ideal.ofBits FTy.f32 1063675494#32 * p + Ideal.ofBits FTy.f32 1036831949#32 * (a + b + c + d)
/-- The running mean of the gradient's square. -/
def square (a b c d w p q : EReal) : EReal :=
  Ideal.ofBits FTy.f32 1065336439#32 * q + Ideal.ofBits FTy.f32 981668463#32 * ((a + b + c + d) * (a + b + c + d))

/-- The change of the weight. -/
def delta (a b c d w p q : EReal) : EReal :=
  Ideal.ofBits FTy.f32 3129152111#32 *
    (Ideal.div (Ideal.div (mean a b c d w p q) (Ideal.ofBits FTy.f32 1059503362#32))
        (Ideal.sqrt (Ideal.div (square a b c d w p q) (Ideal.ofBits FTy.f32 1008933580#32)) + Ideal.ofBits FTy.f32 841731191#32)
      + Ideal.ofBits FTy.f32 1008981770#32 * w)

/-- An element of block `(l, n, 0)` of an array cut into blocks of one layer and `T` rows is the array's element of layer
    `l` and of the row the block starts at plus its own. -/
theorem slab {α : Type} {L R C T : Nat} (A : (⟨3, ![L, R, C]⟩ : Shape).Idx → α) (e : (⟨3, ![L, R, C]⟩ : Shape).Idx) {at' : Fin 3 → Nat}
    {n : Nat} (l : Fin L) (r : Fin R) {y1 : Fin T} {y2 : Fin C} (h : at' = ![l.val, n, 0]) (hr : r.val = n * T + y1.val)
    (h0 : (e 0).val = at' 0 * 1 + 1 * 0) (h1 : (e 1).val = at' 1 * T + 1 * y1.val) (h2 : (e 2).val = at' 2 * C + 1 * y2.val) :
    A e = A (ix3 l r y2) := by
  subst h
  refine congrArg A (funext fun a => Fin.ext ?_)
  match a with
  | ⟨0, _⟩ => exact h0.trans (by show l.val * 1 + 1 * 0 = l.val; omega)
  | ⟨1, _⟩ => exact h1.trans (by show n * T + 1 * y1.val = r.val; omega)
  | ⟨2, _⟩ => exact h2.trans (by show 0 * C + 1 * y2.val = y2.val; omega)

/-- The indices of block `(l, n, 0)`. -/
theorem inside {L R C T n : Nat} {i : (⟨3, ![L, R, C]⟩ : Shape).Idx} {at' o s : Fin 3 → Nat} {l : Nat} (h : at' = ![l, n, 0])
    (h0 : (i 0).val = l) (h1 : n * T ≤ (i 1).val ∧ (i 1).val < n * T + T) (h2 : (i 2).val < C)
    (e0 : o 0 = at' 0 * 1) (e1 : o 1 = at' 1 * T) (e2 : o 2 = at' 2 * C) (s0 : s 0 = 1) (s1 : s 1 = T) (s2 : s 2 = C) :
    ∀ a : Fin 3, o a ≤ (i a).val ∧ (i a).val < o a + s a := by
  subst h
  intro a
  match a with
  | ⟨0, _⟩ =>
    have e : o 0 = l * 1 := e0
    show o 0 ≤ (i 0).val ∧ (i 0).val < o 0 + s 0
    rw [e, s0, h0]; omega
  | ⟨1, _⟩ =>
    have e : o 1 = n * T := e1
    show o 1 ≤ (i 1).val ∧ (i 1).val < o 1 + s 1
    rw [e, s1]; exact h1
  | ⟨2, _⟩ =>
    have e : o 2 = 0 * C := e2
    show o 2 ≤ (i 2).val ∧ (i 2).val < o 2 + s 2
    rw [e, s2]; omega

/-- The blocks `(l, 0, 0)`, `(l, 1, 0)`, … hold every index of layer `l`. -/
theorem reach {N L R C T : Nat} {S : Fin N → Prop} {i : (⟨3, ![L, R, C]⟩ : Shape).Idx} {at' o s : Fin N → Fin 3 → Nat} {l : Nat}
    (hS : ∀ t, (∀ a : Fin 3, o t a ≤ (i a).val ∧ (i a).val < o t a + s t a) → S t) (h : ∀ t : Fin N, at' t = ![l, t.val, 0]) (h0 : (i 0).val = l) (hR : R = T * N)
    (e : ∀ t, o t 0 = at' t 0 * 1 ∧ o t 1 = at' t 1 * T ∧ o t 2 = at' t 2 * C ∧ s t 0 = 1 ∧ s t 1 = T ∧ s t 2 = C) : ∃ t, S t := by
  have h1 : (i 1).val < T * N := (i 1).isLt.trans_eq hR
  have hT : 0 < T := Nat.pos_of_ne_zero fun h => by rw [h] at h1; omega
  refine ⟨⟨(i 1).val / T, Nat.div_lt_of_lt_mul h1⟩, hS _ ?_⟩
  obtain ⟨e0, e1, e2, s0, s1, s2⟩ := e ⟨(i 1).val / T, Nat.div_lt_of_lt_mul h1⟩
  exact inside (h _) h0 ⟨Nat.div_mul_le_self _ _, Nat.lt_div_mul_add hT⟩ (i 2).isLt e0 e1 e2 s0 s1 s2

/-- A block of layer 0 has no element of layer 1. -/
theorem apart {n i : Nat} {at' : Fin 3 → Nat} (h : at' = ![0, n, 0]) (hi : i ≠ 0) : ¬ (at' 0 * 1 ≤ i ∧ i < at' 0 * 1 + 1) := by
  subst h
  show ¬ (0 * 1 ≤ i ∧ i < 0 * 1 + 1)
  omega

theorem seven (f : Step) {x0 x1 x2 x3 x4 x5 x6 a0 a1 a2 a3 a4 a5 a6 : EReal}
    (h0 : x0 = a0) (h1 : x1 = a1) (h2 : x2 = a2) (h3 : x3 = a3) (h4 : x4 = a4) (h5 : x5 = a5) (h6 : x6 = a6) :
    f x0 x1 x2 x3 x4 x5 x6 = f a0 a1 a2 a3 a4 a5 a6 := by
  subst h0 h1 h2 h3 h4 h5 h6
  rfl

theorem chain {o x a r p : EReal} (h : o = x) (hx : x = a) (hr : r = a) (hp : p = r) : o = p :=
  h.trans (hx.trans (hr.symm.trans hp.symm))

end Cert.AdamStep
end
-- ==== Proof.AdamDownProduct.lean ====
/-
  The optimiser's step on both layers' weights of the feed-forward down.
-/
module

public import proofs.«01_k».proof.Defs
public import proofs.«01_k».proof.Proof.Gen.AdamDown.Frame
public import proofs.«01_k».proof.Proof.Gen.AdamDownIdeal.Frame
public import proofs.«01_k».proof.Proof.Gen.AdamDownRefIdeal.Read
public import proofs.«01_k».proof.Proof.Runs
public import proofs.«01_k».proof.Proof.AdamStep
public import proofs.«01_k».proof.Proof.Zeros

@[expose] public section

set_option maxRecDepth 16384

noncomputable section

namespace Cert.AdamDownIdeal.Product

open Cert.AdamDownIdeal Cert.AdamDownIdeal.Gen Idealize.ShloMosaic Idealize.ShloMosaic.TcCoe Idealize.SL.Sem
open Cert.AdamStep Cert.AdamDownRefIdeal.Read

local notation "Part" => Vec Ideal S1x64x2048 EltTy.bf16
abbrev PartRef := Memref sig .tc .vmem S1x64x2048 EltTy.bf16
abbrev BlockRef := Memref sig .tc .vmem S1x64x2048 EltTy.f32
local notation "Block" => Vec Ideal S1x64x2048 EltTy.f32
local notation "Parts" => Vec Ideal S4x704x2048 EltTy.bf16
local notation "Whole" => Vec Ideal S2x704x2048 EltTy.f32

variable (m : (ℓ : Loc nD τ sig) → Buf (Elt Ideal) ℓ) (ρ : Dev nD → PrngReg)

abbrev arr0 (c : Dev nD) : Parts := m ((c : Thread nD τ).loc main_arg0)
abbrev arr1 (c : Dev nD) : Parts := m ((c : Thread nD τ).loc main_arg1)
abbrev arr2 (c : Dev nD) : Whole := m ((c : Thread nD τ).loc main_arg2)
abbrev arr3 (c : Dev nD) : Whole := m ((c : Thread nD τ).loc main_arg3)
abbrev arr4 (c : Dev nD) : Whole := m ((c : Thread nD τ).loc main_arg4)
def whole0 (c : Dev nD) : Whole := val_main_v6 (F := Ideal) (arr0 m c) (arr1 m c)
def whole1 (c : Dev nD) : Whole := val_main_v30 (F := Ideal) (arr0 m c) (arr1 m c) (arr2 m c) (arr3 m c) (arr4 m c)
def whole2 (c : Dev nD) : Whole := val_main_v11 (F := Ideal) (arr0 m c) (arr1 m c) (arr3 m c)
def whole3 (c : Dev nD) : Whole := val_main_v17 (F := Ideal) (arr0 m c) (arr1 m c) (arr4 m c)

section
variable (x0 x1 x2 x3 : Part) (x4 x5 x6 : Block)

abbrev pt (y1 : Fin 64) (y2 : Fin 2048) (f : Step) : EReal :=
  f (x0 (ix3 0 y1 y2)) (x1 (ix3 0 y1 y2)) (x2 (ix3 0 y1 y2)) (x3 (ix3 0 y1 y2)) (x4 (ix3 0 y1 y2)) (x5 (ix3 0 y1 y2)) (x6 (ix3 0 y1 y2))

theorem step7 (y1 : Fin 64) (y2 : Fin 2048) : out0_7 x0 x1 x2 x3 x4 x5 x6 (ix3 0 y1 y2) = pt x0 x1 x2 x3 x4 x5 x6 y1 y2 grad := by
  unfold out0_7
  rw [View.canon_unit_zero zeros3]
  unfold k0_pay5 k0_pay1
  simp only [View.ld_unit_zero (S := S1x64x2048) zeros3]
  pointwise
  simp only [pt, grad, ← add_assoc]

theorem step8 (y1 : Fin 64) (y2 : Fin 2048) : out0_8 x0 x1 x2 x3 x4 x5 x6 (ix3 0 y1 y2) = pt x0 x1 x2 x3 x4 x5 x6 y1 y2 delta := by
  unfold out0_8
  rw [View.canon_unit_zero zeros3]
  unfold k0_pay9 k0_pay11 k0_pay8 k0_pay10 k0_pay7 k0_pay5 k0_pay6 k0_pay2
  simp only [View.ld_unit_zero (S := S1x64x2048) zeros3]
  pointwise
  simp only [pt, delta, mean, square, ← add_assoc]

theorem step9 (y1 : Fin 64) (y2 : Fin 2048) : out0_9 x0 x1 x2 x3 x4 x5 x6 (ix3 0 y1 y2) = pt x0 x1 x2 x3 x4 x5 x6 y1 y2 mean := by
  unfold out0_9
  rw [View.canon_unit_zero zeros3]
  unfold k0_pay10 k0_pay7 k0_pay5 k0_pay3
  simp only [View.ld_unit_zero (S := S1x64x2048) zeros3]
  pointwise
  simp only [pt, mean, ← add_assoc]

theorem step10 (y1 : Fin 64) (y2 : Fin 2048) : out0_10 x0 x1 x2 x3 x4 x5 x6 (ix3 0 y1 y2) = pt x0 x1 x2 x3 x4 x5 x6 y1 y2 square := by
  unfold out0_10
  rw [View.canon_unit_zero zeros3]
  unfold k0_pay11 k0_pay8 k0_pay5 k0_pay4
  simp only [View.ld_unit_zero (S := S1x64x2048) zeros3]
  pointwise
  simp only [pt, square, ← add_assoc]

variable (c : Dev nD) (i : grid1.Coords) (p1 p2 p3 p4 : PartRef) (p5 p6 p7 p8 p9 p10 p11 : BlockRef) (h1 : p1.IsWhole) (h2 : p2.IsWhole) (h3 : p3.IsWhole) (h4 : p4.IsWhole) (h5 : p5.IsWhole) (h6 : p6.IsWhole) (h7 : p7.IsWhole) (h8 : p8.IsWhole) (h9 : p9.IsWhole) (h10 : p10.IsWhole) (h11 : p11.IsWhole)

set_option maxHeartbeats 1000000 in
theorem last : out1_A_7 c i p1 h1 p2 h2 p3 h3 p4 h4 p5 h5 p6 h6 p7 h7 p8 h8 p9 h9 p10 h10 p11 h11 x0 x1 x2 x3 x4 x5 x6 = out0_7 x0 x1 x2 x3 x4 x5 x6 ∧
    out1_A_8 c i p1 h1 p2 h2 p3 h3 p4 h4 p5 h5 p6 h6 p7 h7 p8 h8 p9 h9 p10 h10 p11 h11 x0 x1 x2 x3 x4 x5 x6 = out0_8 x0 x1 x2 x3 x4 x5 x6 ∧
    out1_A_9 c i p1 h1 p2 h2 p3 h3 p4 h4 p5 h5 p6 h6 p7 h7 p8 h8 p9 h9 p10 h10 p11 h11 x0 x1 x2 x3 x4 x5 x6 = out0_9 x0 x1 x2 x3 x4 x5 x6 ∧
    out1_A_10 c i p1 h1 p2 h2 p3 h3 p4 h4 p5 h5 p6 h6 p7 h7 p8 h8 p9 h9 p10 h10 p11 h11 x0 x1 x2 x3 x4 x5 x6 = out0_10 x0 x1 x2 x3 x4 x5 x6 := by
  unfold out1_A_7 out1_A_8 out1_A_9 out1_A_10
  rw [View.read_writes_eq_canon _ _ _ (fun _ => cover1_A_7 ..), View.read_writes_eq_canon _ _ _ (fun _ => cover1_A_8 ..), View.read_writes_eq_canon _ _ _ (fun _ => cover1_A_9 ..), View.read_writes_eq_canon _ _ _ (fun _ => cover1_A_10 ..)]
  unfold kernelRun1_A
  dsimp only
  sl_unfold_words
  unfold out0_7 out0_8 out0_9 out0_10
  simp only [View.canon_unit_zero (S := S1x64x2048) zeros3, View.readAt_eq_ld, h1.read_unread, h2.read_unread, h3.read_unread, h4.read_unread, h5.read_unread, h6.read_unread, h7.read_unread]
  exact ⟨rfl, rfl, rfl, rfl⟩

end

/-- A function of the second call's blocks at a point. -/
abbrev on (c : Dev nD) (t : Fin cfg1.N) (f : Part → Part → Part → Part → Block → Block → Block → Block) : Block :=
  f (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t)

theorem entry7 (c : Dev nD) (t : Fin cfg1.N) : (dat1 (V2 m ρ) c).after 7 t = on m ρ c t out0_7 := by
  rw [after1_7]; unfold outsAt1; dsimp only; rw [(last ..).1]
theorem entry8 (c : Dev nD) (t : Fin cfg1.N) : (dat1 (V2 m ρ) c).after 8 t = on m ρ c t out0_8 := by
  rw [after1_8]; unfold outsAt1; dsimp only; rw [(last ..).2.1]
theorem entry9 (c : Dev nD) (t : Fin cfg1.N) : (dat1 (V2 m ρ) c).after 9 t = on m ρ c t out0_9 := by
  rw [after1_9]; unfold outsAt1; dsimp only; rw [(last ..).2.2.1]
theorem entry10 (c : Dev nD) (t : Fin cfg1.N) : (dat1 (V2 m ρ) c).after 10 t = on m ρ c t out0_10 := by
  rw [after1_10]; unfold outsAt1; dsimp only; rw [(last ..).2.2.2]

section
variable (a0 a1 : Parts) (a2 a3 a4 : Whole) (r : Fin 704) (s : Fin 2048)
abbrev lay (l : Fin 2) (f : Step) : EReal :=
  f (a0 (ix3 0 r s)) (a0 (ix3 1 r s)) (a0 (ix3 2 r s)) (a0 (ix3 3 r s)) (a2 (ix3 l r s)) (a3 (ix3 l r s)) (a4 (ix3 l r s))

theorem reference7 : val_main_v6 (F := Ideal) a0 a1 (ix3 0 r s) = lay a0 a2 a3 a4 r s 0 grad ∧
    val_main_v6 (F := Ideal) a0 a1 (ix3 1 r s) = lay a1 a2 a3 a4 r s 1 grad := by
  unfold val_main_v6 val_main_v5 val_main_v3 val_main_cst_0 val_main_v2 val_main_v4 val_main_v1 val_main_cst val_main_v0
  constructor <;> pointwise <;> simp only [lay, grad, Fin.sum_univ_four, Fin.isValue, zero_add]

theorem reference9 : val_main_v11 (F := Ideal) a0 a1 a3 (ix3 0 r s) = lay a0 a2 a3 a4 r s 0 mean ∧
    val_main_v11 (F := Ideal) a0 a1 a3 (ix3 1 r s) = lay a1 a2 a3 a4 r s 1 mean := by
  unfold val_main_v11 val_main_v10 val_main_v9 val_main_cst_2 val_main_v8 val_main_v7 val_main_cst_1
  constructor <;> pointwise <;> simp only [lay, mean, grad, reference7 a0 a1 a2 a3 a4 r s]

theorem reference10 : val_main_v17 (F := Ideal) a0 a1 a4 (ix3 0 r s) = lay a0 a2 a3 a4 r s 0 square ∧
    val_main_v17 (F := Ideal) a0 a1 a4 (ix3 1 r s) = lay a1 a2 a3 a4 r s 1 square := by
  unfold val_main_v17 val_main_v16 val_main_v14 val_main_v15 val_main_cst_4 val_main_v13 val_main_v12 val_main_cst_3
  constructor <;> pointwise <;> simp only [lay, square, grad, reference7 a0 a1 a2 a3 a4 r s]

theorem reference8 : val_main_v30 (F := Ideal) a0 a1 a2 a3 a4 (ix3 0 r s) = lay a0 a2 a3 a4 r s 0 delta ∧
    val_main_v30 (F := Ideal) a0 a1 a2 a3 a4 (ix3 1 r s) = lay a1 a2 a3 a4 r s 1 delta := by
  unfold val_main_v30 val_main_v28 val_main_v27 val_main_v26 val_main_cst_8 val_main_v25 val_main_v24 val_main_v23 val_main_cst_7 val_main_v22 val_main_v21 val_main_v20 val_main_cst_6 val_main_v19 val_main_v18 val_main_cst_5 val_main_v29 val_main_cst_9
  constructor <;> pointwise <;> simp only [lay, delta, reference9 a0 a1 a2 a3 a4 r s, reference10 a0 a1 a2 a3 a4 r s]

end

theorem bound0 (t : Fin cfg0.N) : t.val < 11 := t.isLt.trans_eq N_0

theorem inputs0 : ∀ t : Fin cfg0.N, win0_0.index t = ![0, t.val, 0] ∧ win0_1.index t = ![1, t.val, 0] ∧ win0_2.index t = ![2, t.val, 0] ∧ win0_3.index t = ![3, t.val, 0] ∧ win0_4.index t = ![1, t.val, 0] ∧ win0_5.index t = ![1, t.val, 0] ∧ win0_6.index t = ![1, t.val, 0] := by
  intro (t : Fin grid0.N); revert t; decide +kernel

theorem output0 : ∀ t : Fin cfg0.N, win0_7.index t = ![1, t.val, 0] := by
  intro (t : Fin grid0.N); revert t; decide +kernel

theorem read0 (c : Dev nD) (t : Fin cfg0.N) (y1 : Fin 64) (y2 : Fin 2048) (r : Fin 704) (hr : r.val = t.val * 64 + y1.val) (f : Step) :
    pt (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) y1 y2 f = lay (arr1 m c) (arr2 m c) (arr3 m c) (arr4 m c) r y2 1 f := by
  obtain ⟨a0, a1, a2, a3, a4, a5, a6⟩ := inputs0 t
  refine seven f ?_ ?_ ?_ ?_ ?_ ?_ ?_ <;> unfold iblk0 <;> rw [View.read_apply]
  · exact slab (arr1 m c) _ _ r a0 hr rfl rfl rfl
  · exact slab (arr1 m c) _ _ r a1 hr rfl rfl rfl
  · exact slab (arr1 m c) _ _ r a2 hr rfl rfl rfl
  · exact slab (arr1 m c) _ _ r a3 hr rfl rfl rfl
  · exact slab (arr2 m c) _ _ r a4 hr rfl rfl rfl
  · exact slab (arr3 m c) _ _ r a5 hr rfl rfl rfl
  · exact slab (arr4 m c) _ _ r a6 hr rfl rfl rfl

theorem flushed0 (c : Dev nD) (t : Fin cfg0.N) : (dat0 (V0 m ρ) c).flushed 7 t = ((cfg0.win 7).blk t).view.read (Elt Ideal) (whole0 m c) ∧
    (dat0 (V0 m ρ) c).flushed 8 t = ((cfg0.win 8).blk t).view.read (Elt Ideal) (whole1 m c) ∧
    (dat0 (V0 m ρ) c).flushed 9 t = ((cfg0.win 9).blk t).view.read (Elt Ideal) (whole2 m c) ∧
    (dat0 (V0 m ρ) c).flushed 10 t = ((cfg0.win 10).blk t).view.read (Elt Ideal) (whole3 m c) := by
  have hb := bound0 t
  have a7 := output0 t
  refine ⟨(after0_7 (V0 m ρ) c t).trans ?_, (after0_8 (V0 m ρ) c t).trans ?_, (after0_9 (V0 m ρ) c t).trans ?_, (after0_10 (V0 m ρ) c t).trans ?_⟩ <;>
    (funext y
     idx_vars y
     obtain rfl : y0 = 0 := Subsingleton.elim _ _
     rw [View.read_apply]
     obtain ⟨r, hr⟩ : ∃ r : Fin 704, r.val = t.val * 64 + y1.val := ⟨⟨_, by omega⟩, rfl⟩
     have h := read0 m ρ c t y1 y2 r hr)
  · exact chain (step7 ..) (h _) (reference7 ..).2 (slab (whole0 m c) _ 1 r a7 hr rfl rfl rfl)
  · exact chain (step8 ..) (h _) (reference8 ..).2 (slab (whole1 m c) _ 1 r a7 hr rfl rfl rfl)
  · exact chain (step9 ..) (h _) (reference9 ..).2 (slab (whole2 m c) _ 1 r a7 hr rfl rfl rfl)
  · exact chain (step10 ..) (h _) (reference10 ..).2 (slab (whole3 m c) _ 1 r a7 hr rfl rfl rfl)

theorem covered0 (i : S2x704x2048.Idx) (h : ¬(i 0).val = 0) : ∃ t : Fin cfg0.N, i ∈ ((cfg0.win 7).blk t).view.set :=
  reach (T := 64) (fun t ht => View.set_slice_whole main_v0_0 (win0_7.rect t) ▸ Rect.mem_set_unit.mpr ht) output0 (by have h0 : (i 0).val < 2 := (i 0).isLt; omega) (congrArg (64 * ·) N_0.symm) fun _ => ⟨rfl, rfl, rfl, rfl, rfl, rfl⟩

theorem bound1 (t : Fin cfg1.N) : t.val < 11 := t.isLt.trans_eq N_1

theorem inputs1 : ∀ t : Fin cfg1.N, win1_0.index t = ![0, t.val, 0] ∧ win1_1.index t = ![1, t.val, 0] ∧ win1_2.index t = ![2, t.val, 0] ∧ win1_3.index t = ![3, t.val, 0] ∧ win1_4.index t = ![0, t.val, 0] ∧ win1_5.index t = ![0, t.val, 0] ∧ win1_6.index t = ![0, t.val, 0] := by
  intro (t : Fin grid1.N); revert t; decide +kernel

theorem output1 : ∀ t : Fin cfg1.N, win1_7.index t = ![0, t.val, 0] := by
  intro (t : Fin grid1.N); revert t; decide +kernel

theorem read1 (c : Dev nD) (t : Fin cfg1.N) (y1 : Fin 64) (y2 : Fin 2048) (r : Fin 704) (hr : r.val = t.val * 64 + y1.val) (f : Step) :
    pt (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) y1 y2 f = lay (arr0 m c) (arr2 m c) (arr3 m c) (arr4 m c) r y2 0 f := by
  obtain ⟨a0, a1, a2, a3, a4, a5, a6⟩ := inputs1 t
  have p := congrFun (W2_args m ρ c main_arg0 (by decide))
  refine seven f ?_ ?_ ?_ ?_ ?_ ?_ ?_ <;> unfold iblk1 <;> rw [View.read_apply]
  · exact (p _).trans (slab (arr0 m c) _ _ r a0 hr rfl rfl rfl)
  · exact (p _).trans (slab (arr0 m c) _ _ r a1 hr rfl rfl rfl)
  · exact (p _).trans (slab (arr0 m c) _ _ r a2 hr rfl rfl rfl)
  · exact (p _).trans (slab (arr0 m c) _ _ r a3 hr rfl rfl rfl)
  · exact (congrFun (W2_args m ρ c main_arg2 (by decide)) _).trans (slab (arr2 m c) _ _ r a4 hr rfl rfl rfl)
  · exact (congrFun (W2_args m ρ c main_arg3 (by decide)) _).trans (slab (arr3 m c) _ _ r a5 hr rfl rfl rfl)
  · exact (congrFun (W2_args m ρ c main_arg4 (by decide)) _).trans (slab (arr4 m c) _ _ r a6 hr rfl rfl rfl)

theorem flushed1 (c : Dev nD) (t : Fin cfg1.N) : (dat1 (V2 m ρ) c).flushed 7 t = ((cfg1.win 7).blk t).view.read (Elt Ideal) (whole0 m c) ∧
    (dat1 (V2 m ρ) c).flushed 8 t = ((cfg1.win 8).blk t).view.read (Elt Ideal) (whole1 m c) ∧
    (dat1 (V2 m ρ) c).flushed 9 t = ((cfg1.win 9).blk t).view.read (Elt Ideal) (whole2 m c) ∧
    (dat1 (V2 m ρ) c).flushed 10 t = ((cfg1.win 10).blk t).view.read (Elt Ideal) (whole3 m c) := by
  have hb := bound1 t
  have a7 := output1 t
  refine ⟨(entry7 m ρ c t).trans ?_, (entry8 m ρ c t).trans ?_, (entry9 m ρ c t).trans ?_, (entry10 m ρ c t).trans ?_⟩ <;>
    (funext y
     idx_vars y
     obtain rfl : y0 = 0 := Subsingleton.elim _ _
     rw [View.read_apply]
     obtain ⟨r, hr⟩ : ∃ r : Fin 704, r.val = t.val * 64 + y1.val := ⟨⟨_, by omega⟩, rfl⟩
     have h := read1 m ρ c t y1 y2 r hr)
  · exact chain (step7 ..) (h _) (reference7 ..).1 (slab (whole0 m c) _ 0 r a7 hr rfl rfl rfl)
  · exact chain (step8 ..) (h _) (reference8 ..).1 (slab (whole1 m c) _ 0 r a7 hr rfl rfl rfl)
  · exact chain (step9 ..) (h _) (reference9 ..).1 (slab (whole2 m c) _ 0 r a7 hr rfl rfl rfl)
  · exact chain (step10 ..) (h _) (reference10 ..).1 (slab (whole3 m c) _ 0 r a7 hr rfl rfl rfl)

theorem covered1 (i : S2x704x2048.Idx) (h : (i 0).val = 0) : ∃ t : Fin cfg1.N, i ∈ ((cfg1.win 7).blk t).view.set :=
  reach (T := 64) (fun t ht => View.set_slice_whole main_v1_0 (win1_7.rect t) ▸ Rect.mem_set_unit.mpr ht) output1 h (congrArg (64 * ·) N_1.symm) fun _ => ⟨rfl, rfl, rfl, rfl, rfl, rfl⟩

theorem away (i : S2x704x2048.Idx) (h : ¬(i 0).val = 0) (t : Fin cfg1.N) : i ∉ ((cfg1.win 7).blk t).view.set := fun hm =>
  apart (output1 t) h (Rect.mem_set_unit.mp (View.set_slice_whole main_v1_0 (win1_7.rect t) ▸ hm : i ∈ (win1_7.rect t).set) 0)

/-- The second call's results start as the first call's. -/
theorem handed (c : Dev nD) : W2 m ρ c (Proc.devRef .tc main_v1_0) = W1 m ρ c (Proc.devRef .tc main_v0_0) ∧ W2 m ρ c (Proc.devRef .tc main_v1_1) = W1 m ρ c (Proc.devRef .tc main_v0_1) ∧ W2 m ρ c (Proc.devRef .tc main_v1_2) = W1 m ρ c (Proc.devRef .tc main_v0_2) ∧ W2 m ρ c (Proc.devRef .tc main_v1_3) = W1 m ρ c (Proc.devRef .tc main_v0_3) := by
  refine ⟨?_, ?_, ?_, ?_⟩ <;> (show StableHlo.after hostOps1 (W1 m ρ c) _ = _; after_results_simp <;> rfl)

theorem results (c : Dev nD) : W3 m ρ c (Proc.devRef .tc main_v1_0) = whole0 m c ∧ W3 m ρ c (Proc.devRef .tc main_v1_1) = whole1 m c ∧ W3 m ρ c (Proc.devRef .tc main_v1_2) = whole2 m c ∧ W3 m ρ c (Proc.devRef .tc main_v1_3) = whole3 m c :=
  ⟨(W3_arr m ρ c 7).trans (Runs.joined (dat1 (V2 m ρ) c) 7 (whole0 m c) (fun t => (flushed1 m ρ c t).1) flush1_7 covered1 away fun i h => (congrFun ((A_eq1 (V2 m ρ) c 7).trans ((handed m ρ c).1.trans (W1_arr m ρ c 7))) i).trans
      (Runs.covered (dat0 (V0 m ρ) c) 7 (whole0 m c) (fun t => (flushed0 m ρ c t).1) flush0_7 (covered0 i h))),
    (W3_arr m ρ c 8).trans (Runs.joined (dat1 (V2 m ρ) c) 8 (whole1 m c) (fun t => (flushed1 m ρ c t).2.1) flush1_8 covered1 away fun i h => (congrFun ((A_eq1 (V2 m ρ) c 8).trans ((handed m ρ c).2.1.trans (W1_arr m ρ c 8))) i).trans
      (Runs.covered (dat0 (V0 m ρ) c) 8 (whole1 m c) (fun t => (flushed0 m ρ c t).2.1) flush0_8 (covered0 i h))),
    (W3_arr m ρ c 9).trans (Runs.joined (dat1 (V2 m ρ) c) 9 (whole2 m c) (fun t => (flushed1 m ρ c t).2.2.1) flush1_9 covered1 away fun i h => (congrFun ((A_eq1 (V2 m ρ) c 9).trans ((handed m ρ c).2.2.1.trans (W1_arr m ρ c 9))) i).trans
      (Runs.covered (dat0 (V0 m ρ) c) 9 (whole2 m c) (fun t => (flushed0 m ρ c t).2.2.1) flush0_9 (covered0 i h))),
    (W3_arr m ρ c 10).trans (Runs.joined (dat1 (V2 m ρ) c) 10 (whole3 m c) (fun t => (flushed1 m ρ c t).2.2.2) flush1_10 covered1 away fun i h => (congrFun ((A_eq1 (V2 m ρ) c 10).trans ((handed m ρ c).2.2.2.trans (W1_arr m ρ c 10))) i).trans
      (Runs.covered (dat0 (V0 m ρ) c) 10 (whole3 m c) (fun t => (flushed0 m ρ c t).2.2.2) flush0_10 (covered0 i h)))⟩

set_option backward.isDefEq.respectTransparency.types false in
/-- Every run ends with the last boundary's contents in every buffer the arguments and results live in. -/
theorem run : θ_run defs (onTc (τ := τ) (main (F := Ideal))) ⟨m, fun _ => 0, ρ⟩ (fun r => ∀ c : Dev nD,
    ∀ b ∈ Pipeline.ucRefs τ sig, r.2.mem ((c : Dev nD), b) = W3 m ρ c b) :=
  Runs.run pcfgs adm (pdats m ρ) cellOf_inj defs₀ m ρ main (segs m ρ) (main_run m ρ)
  (by simp only [segs, Pipeline.Seg.pipes_host, Pipeline.Seg.pipes_region, Pipeline.Seg.pipes_nil]; decide)
  (W3 m ρ) ⟨fun _ => .rfl, fun _ => .rfl, fun _ => .rfl, fun _ => .rfl⟩

end Cert.AdamDownIdeal.Product

namespace Cert.AdamDownClaims

open Idealize.ShloMosaic Idealize.ShloMosaic.TcCoe Idealize.SL.Sem Cert.AdamDownIdeal Cert.AdamDownIdeal.Gen Cert.AdamDownRefIdeal.Read

theorem frame_p : Cert.quiescent_AdamDown := fun m ρ _ => Cert.AdamDown.Gen.frame m ρ
theorem frame_pi : Cert.quiescent_AdamDownIdeal := fun m ρ _ => Cert.AdamDownIdeal.Gen.frame m ρ
theorem frame_ri : Cert.quiescent_AdamDownRefIdeal := fun m ρ _ =>
  (θ_run _ _ _).mono (fun r h => ⟨fun c => (h c).2.2.2.2, sem_eq_zero_of_no_sems (by decide) r.2⟩) (Cert.AdamDownRefIdeal.Value.run (F := Ideal) m ρ)

theorem preserves : Cert.preserves_AdamDown_AdamDownIdeal := trivial

theorem algebraic : Cert.algebraic_AdamDownIdeal_AdamDownRefIdeal := fun m ρ m' ρ' _ hag =>
  ⟨fun c => Product.whole0 m c, fun c => Product.whole1 m c, fun c => Product.whole2 m c, fun c => Product.whole3 m c,
    (θ_run _ _ _).mono (fun r h c => ⟨(h c _ (mem_uc _ (by decide))).trans (Product.results m ρ c).1,
      (h c _ (mem_uc _ (by decide))).trans (Product.results m ρ c).2.1,
      (h c _ (mem_uc _ (by decide))).trans (Product.results m ρ c).2.2.1,
      (h c _ (mem_uc _ (by decide))).trans (Product.results m ρ c).2.2.2,
      (h c _ (mem_uc _ (by decide))).trans (W3_main_arg0 m ρ c),
      (h c _ (mem_uc _ (by decide))).trans (W3_main_arg1 m ρ c),
      (h c _ (mem_uc _ (by decide))).trans (W3_main_arg2 m ρ c),
      (h c _ (mem_uc _ (by decide))).trans (W3_main_arg3 m ρ c),
      (h c _ (mem_uc _ (by decide))).trans (W3_main_arg4 m ρ c)⟩)
      (Product.run m ρ),
    (θ_run _ _ _).mono (fun r h c => ⟨(h c).1.trans (by rw [val_main_v6_eq, (hag c).1, (hag c).2.1]; rfl),
      (h c).2.1.trans (by rw [val_main_v30_eq, (hag c).1, (hag c).2.1, (hag c).2.2.1, (hag c).2.2.2.1, (hag c).2.2.2.2]; rfl),
      (h c).2.2.1.trans (by rw [val_main_v11_eq, (hag c).1, (hag c).2.1, (hag c).2.2.2.1]; rfl),
      (h c).2.2.2.1.trans (by rw [val_main_v17_eq, (hag c).1, (hag c).2.1, (hag c).2.2.2.2]; rfl), (h c).2.2.2.2⟩)
      (Cert.AdamDownRefIdeal.Value.run (F := Ideal) m' ρ')⟩

end Cert.AdamDownClaims
end
-- ==== Proof.AdamDwProduct.lean ====
/-
  The optimiser's step on both layers' weights of the depthwise convolution.
-/
module

public import proofs.«01_k».proof.Defs
public import proofs.«01_k».proof.Proof.Gen.AdamDw.Frame
public import proofs.«01_k».proof.Proof.Gen.AdamDwIdeal.Frame
public import proofs.«01_k».proof.Proof.Gen.AdamDwRefIdeal.Read
public import proofs.«01_k».proof.Proof.Runs
public import proofs.«01_k».proof.Proof.AdamStep
public import proofs.«01_k».proof.Proof.Zeros

@[expose] public section

set_option maxRecDepth 16384

noncomputable section

namespace Cert.AdamDwIdeal.Product

open Cert.AdamDwIdeal Cert.AdamDwIdeal.Gen Idealize.ShloMosaic Idealize.ShloMosaic.TcCoe Idealize.SL.Sem
open Cert.AdamStep Cert.AdamDwRefIdeal.Read

local notation "Part" => Vec Ideal S1x32x128 EltTy.bf16
abbrev PartRef := Memref sig .tc .vmem S1x32x128 EltTy.bf16
abbrev BlockRef := Memref sig .tc .vmem S1x32x128 EltTy.f32
local notation "Block" => Vec Ideal S1x32x128 EltTy.f32
local notation "Parts" => Vec Ideal S4x32x128 EltTy.bf16
local notation "Whole" => Vec Ideal S2x32x128 EltTy.f32

variable (m : (ℓ : Loc nD τ sig) → Buf (Elt Ideal) ℓ) (ρ : Dev nD → PrngReg)

abbrev arr0 (c : Dev nD) : Parts := m ((c : Thread nD τ).loc main_arg0)
abbrev arr1 (c : Dev nD) : Parts := m ((c : Thread nD τ).loc main_arg1)
abbrev arr2 (c : Dev nD) : Whole := m ((c : Thread nD τ).loc main_arg2)
abbrev arr3 (c : Dev nD) : Whole := m ((c : Thread nD τ).loc main_arg3)
abbrev arr4 (c : Dev nD) : Whole := m ((c : Thread nD τ).loc main_arg4)
def whole0 (c : Dev nD) : Whole := val_main_v6 (F := Ideal) (arr0 m c) (arr1 m c)
def whole1 (c : Dev nD) : Whole := val_main_v30 (F := Ideal) (arr0 m c) (arr1 m c) (arr2 m c) (arr3 m c) (arr4 m c)
def whole2 (c : Dev nD) : Whole := val_main_v11 (F := Ideal) (arr0 m c) (arr1 m c) (arr3 m c)
def whole3 (c : Dev nD) : Whole := val_main_v17 (F := Ideal) (arr0 m c) (arr1 m c) (arr4 m c)

section
variable (x0 x1 x2 x3 : Part) (x4 x5 x6 : Block)

abbrev pt (y1 : Fin 32) (y2 : Fin 128) (f : Step) : EReal :=
  f (x0 (ix3 0 y1 y2)) (x1 (ix3 0 y1 y2)) (x2 (ix3 0 y1 y2)) (x3 (ix3 0 y1 y2)) (x4 (ix3 0 y1 y2)) (x5 (ix3 0 y1 y2)) (x6 (ix3 0 y1 y2))

theorem step7 (y1 : Fin 32) (y2 : Fin 128) : out0_7 x0 x1 x2 x3 x4 x5 x6 (ix3 0 y1 y2) = pt x0 x1 x2 x3 x4 x5 x6 y1 y2 grad := by
  unfold out0_7
  rw [View.canon_unit_zero zeros3]
  unfold k0_pay5 k0_pay1
  simp only [View.ld_unit_zero (S := S1x32x128) zeros3]
  pointwise
  simp only [pt, grad, ← add_assoc]

theorem step8 (y1 : Fin 32) (y2 : Fin 128) : out0_8 x0 x1 x2 x3 x4 x5 x6 (ix3 0 y1 y2) = pt x0 x1 x2 x3 x4 x5 x6 y1 y2 delta := by
  unfold out0_8
  rw [View.canon_unit_zero zeros3]
  unfold k0_pay9 k0_pay11 k0_pay8 k0_pay10 k0_pay7 k0_pay5 k0_pay6 k0_pay2
  simp only [View.ld_unit_zero (S := S1x32x128) zeros3]
  pointwise
  simp only [pt, delta, mean, square, ← add_assoc]

theorem step9 (y1 : Fin 32) (y2 : Fin 128) : out0_9 x0 x1 x2 x3 x4 x5 x6 (ix3 0 y1 y2) = pt x0 x1 x2 x3 x4 x5 x6 y1 y2 mean := by
  unfold out0_9
  rw [View.canon_unit_zero zeros3]
  unfold k0_pay10 k0_pay7 k0_pay5 k0_pay3
  simp only [View.ld_unit_zero (S := S1x32x128) zeros3]
  pointwise
  simp only [pt, mean, ← add_assoc]

theorem step10 (y1 : Fin 32) (y2 : Fin 128) : out0_10 x0 x1 x2 x3 x4 x5 x6 (ix3 0 y1 y2) = pt x0 x1 x2 x3 x4 x5 x6 y1 y2 square := by
  unfold out0_10
  rw [View.canon_unit_zero zeros3]
  unfold k0_pay11 k0_pay8 k0_pay5 k0_pay4
  simp only [View.ld_unit_zero (S := S1x32x128) zeros3]
  pointwise
  simp only [pt, square, ← add_assoc]

variable (c : Dev nD) (i : grid1.Coords) (p1 p2 p3 p4 : PartRef) (p5 p6 p7 p8 p9 p10 p11 : BlockRef) (h1 : p1.IsWhole) (h2 : p2.IsWhole) (h3 : p3.IsWhole) (h4 : p4.IsWhole) (h5 : p5.IsWhole) (h6 : p6.IsWhole) (h7 : p7.IsWhole) (h8 : p8.IsWhole) (h9 : p9.IsWhole) (h10 : p10.IsWhole) (h11 : p11.IsWhole)

set_option maxHeartbeats 1000000 in
theorem last : out1_A_7 c i p1 h1 p2 h2 p3 h3 p4 h4 p5 h5 p6 h6 p7 h7 p8 h8 p9 h9 p10 h10 p11 h11 x0 x1 x2 x3 x4 x5 x6 = out0_7 x0 x1 x2 x3 x4 x5 x6 ∧
    out1_A_8 c i p1 h1 p2 h2 p3 h3 p4 h4 p5 h5 p6 h6 p7 h7 p8 h8 p9 h9 p10 h10 p11 h11 x0 x1 x2 x3 x4 x5 x6 = out0_8 x0 x1 x2 x3 x4 x5 x6 ∧
    out1_A_9 c i p1 h1 p2 h2 p3 h3 p4 h4 p5 h5 p6 h6 p7 h7 p8 h8 p9 h9 p10 h10 p11 h11 x0 x1 x2 x3 x4 x5 x6 = out0_9 x0 x1 x2 x3 x4 x5 x6 ∧
    out1_A_10 c i p1 h1 p2 h2 p3 h3 p4 h4 p5 h5 p6 h6 p7 h7 p8 h8 p9 h9 p10 h10 p11 h11 x0 x1 x2 x3 x4 x5 x6 = out0_10 x0 x1 x2 x3 x4 x5 x6 := by
  unfold out1_A_7 out1_A_8 out1_A_9 out1_A_10
  rw [View.read_writes_eq_canon _ _ _ (fun _ => cover1_A_7 ..), View.read_writes_eq_canon _ _ _ (fun _ => cover1_A_8 ..), View.read_writes_eq_canon _ _ _ (fun _ => cover1_A_9 ..), View.read_writes_eq_canon _ _ _ (fun _ => cover1_A_10 ..)]
  unfold kernelRun1_A
  dsimp only
  sl_unfold_words
  unfold out0_7 out0_8 out0_9 out0_10
  simp only [View.canon_unit_zero (S := S1x32x128) zeros3, View.readAt_eq_ld, h1.read_unread, h2.read_unread, h3.read_unread, h4.read_unread, h5.read_unread, h6.read_unread, h7.read_unread]
  exact ⟨rfl, rfl, rfl, rfl⟩

end

/-- A function of the second call's blocks at a point. -/
abbrev on (c : Dev nD) (t : Fin cfg1.N) (f : Part → Part → Part → Part → Block → Block → Block → Block) : Block :=
  f (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t)

theorem entry7 (c : Dev nD) (t : Fin cfg1.N) : (dat1 (V2 m ρ) c).after 7 t = on m ρ c t out0_7 := by
  rw [after1_7]; unfold outsAt1; dsimp only; rw [(last ..).1]
theorem entry8 (c : Dev nD) (t : Fin cfg1.N) : (dat1 (V2 m ρ) c).after 8 t = on m ρ c t out0_8 := by
  rw [after1_8]; unfold outsAt1; dsimp only; rw [(last ..).2.1]
theorem entry9 (c : Dev nD) (t : Fin cfg1.N) : (dat1 (V2 m ρ) c).after 9 t = on m ρ c t out0_9 := by
  rw [after1_9]; unfold outsAt1; dsimp only; rw [(last ..).2.2.1]
theorem entry10 (c : Dev nD) (t : Fin cfg1.N) : (dat1 (V2 m ρ) c).after 10 t = on m ρ c t out0_10 := by
  rw [after1_10]; unfold outsAt1; dsimp only; rw [(last ..).2.2.2]

section
variable (a0 a1 : Parts) (a2 a3 a4 : Whole) (r : Fin 32) (s : Fin 128)
abbrev lay (l : Fin 2) (f : Step) : EReal :=
  f (a0 (ix3 0 r s)) (a0 (ix3 1 r s)) (a0 (ix3 2 r s)) (a0 (ix3 3 r s)) (a2 (ix3 l r s)) (a3 (ix3 l r s)) (a4 (ix3 l r s))

theorem reference7 : val_main_v6 (F := Ideal) a0 a1 (ix3 0 r s) = lay a0 a2 a3 a4 r s 0 grad ∧
    val_main_v6 (F := Ideal) a0 a1 (ix3 1 r s) = lay a1 a2 a3 a4 r s 1 grad := by
  unfold val_main_v6 val_main_v5 val_main_v3 val_main_cst_0 val_main_v2 val_main_v4 val_main_v1 val_main_cst val_main_v0
  constructor <;> pointwise <;> simp only [lay, grad, Fin.sum_univ_four, Fin.isValue, zero_add]

theorem reference9 : val_main_v11 (F := Ideal) a0 a1 a3 (ix3 0 r s) = lay a0 a2 a3 a4 r s 0 mean ∧
    val_main_v11 (F := Ideal) a0 a1 a3 (ix3 1 r s) = lay a1 a2 a3 a4 r s 1 mean := by
  unfold val_main_v11 val_main_v10 val_main_v9 val_main_cst_2 val_main_v8 val_main_v7 val_main_cst_1
  constructor <;> pointwise <;> simp only [lay, mean, grad, reference7 a0 a1 a2 a3 a4 r s]

theorem reference10 : val_main_v17 (F := Ideal) a0 a1 a4 (ix3 0 r s) = lay a0 a2 a3 a4 r s 0 square ∧
    val_main_v17 (F := Ideal) a0 a1 a4 (ix3 1 r s) = lay a1 a2 a3 a4 r s 1 square := by
  unfold val_main_v17 val_main_v16 val_main_v14 val_main_v15 val_main_cst_4 val_main_v13 val_main_v12 val_main_cst_3
  constructor <;> pointwise <;> simp only [lay, square, grad, reference7 a0 a1 a2 a3 a4 r s]

theorem reference8 : val_main_v30 (F := Ideal) a0 a1 a2 a3 a4 (ix3 0 r s) = lay a0 a2 a3 a4 r s 0 delta ∧
    val_main_v30 (F := Ideal) a0 a1 a2 a3 a4 (ix3 1 r s) = lay a1 a2 a3 a4 r s 1 delta := by
  unfold val_main_v30 val_main_v28 val_main_v27 val_main_v26 val_main_cst_8 val_main_v25 val_main_v24 val_main_v23 val_main_cst_7 val_main_v22 val_main_v21 val_main_v20 val_main_cst_6 val_main_v19 val_main_v18 val_main_cst_5 val_main_v29 val_main_cst_9
  constructor <;> pointwise <;> simp only [lay, delta, reference9 a0 a1 a2 a3 a4 r s, reference10 a0 a1 a2 a3 a4 r s]

end

theorem bound0 (t : Fin cfg0.N) : t.val < 1 := t.isLt.trans_eq N_0

theorem inputs0 : ∀ t : Fin cfg0.N, win0_0.index t = ![0, 0, 0] ∧ win0_1.index t = ![1, 0, 0] ∧ win0_2.index t = ![2, 0, 0] ∧ win0_3.index t = ![3, 0, 0] ∧ win0_4.index t = ![1, 0, 0] ∧ win0_5.index t = ![1, 0, 0] ∧ win0_6.index t = ![1, 0, 0] := by
  intro (t : Fin grid0.N); revert t; decide +kernel

theorem output0 : ∀ t : Fin cfg0.N, win0_7.index t = ![1, 0, 0] := by
  intro (t : Fin grid0.N); revert t; decide +kernel

theorem read0 (c : Dev nD) (t : Fin cfg0.N) (y1 : Fin 32) (y2 : Fin 128) (r : Fin 32) (hr : r.val = 0 * 32 + y1.val) (f : Step) :
    pt (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) y1 y2 f = lay (arr1 m c) (arr2 m c) (arr3 m c) (arr4 m c) r y2 1 f := by
  obtain ⟨a0, a1, a2, a3, a4, a5, a6⟩ := inputs0 t
  refine seven f ?_ ?_ ?_ ?_ ?_ ?_ ?_ <;> unfold iblk0 <;> rw [View.read_apply]
  · exact slab (arr1 m c) _ _ r a0 hr rfl rfl rfl
  · exact slab (arr1 m c) _ _ r a1 hr rfl rfl rfl
  · exact slab (arr1 m c) _ _ r a2 hr rfl rfl rfl
  · exact slab (arr1 m c) _ _ r a3 hr rfl rfl rfl
  · exact slab (arr2 m c) _ _ r a4 hr rfl rfl rfl
  · exact slab (arr3 m c) _ _ r a5 hr rfl rfl rfl
  · exact slab (arr4 m c) _ _ r a6 hr rfl rfl rfl

theorem flushed0 (c : Dev nD) (t : Fin cfg0.N) : (dat0 (V0 m ρ) c).flushed 7 t = ((cfg0.win 7).blk t).view.read (Elt Ideal) (whole0 m c) ∧
    (dat0 (V0 m ρ) c).flushed 8 t = ((cfg0.win 8).blk t).view.read (Elt Ideal) (whole1 m c) ∧
    (dat0 (V0 m ρ) c).flushed 9 t = ((cfg0.win 9).blk t).view.read (Elt Ideal) (whole2 m c) ∧
    (dat0 (V0 m ρ) c).flushed 10 t = ((cfg0.win 10).blk t).view.read (Elt Ideal) (whole3 m c) := by
  have hb := bound0 t
  have a7 := output0 t
  refine ⟨(after0_7 (V0 m ρ) c t).trans ?_, (after0_8 (V0 m ρ) c t).trans ?_, (after0_9 (V0 m ρ) c t).trans ?_, (after0_10 (V0 m ρ) c t).trans ?_⟩ <;>
    (funext y
     idx_vars y
     obtain rfl : y0 = 0 := Subsingleton.elim _ _
     rw [View.read_apply]
     obtain ⟨r, hr⟩ : ∃ r : Fin 32, r.val = 0 * 32 + y1.val := ⟨⟨_, by omega⟩, rfl⟩
     have h := read0 m ρ c t y1 y2 r hr)
  · exact chain (step7 ..) (h _) (reference7 ..).2 (slab (whole0 m c) _ 1 r a7 hr rfl rfl rfl)
  · exact chain (step8 ..) (h _) (reference8 ..).2 (slab (whole1 m c) _ 1 r a7 hr rfl rfl rfl)
  · exact chain (step9 ..) (h _) (reference9 ..).2 (slab (whole2 m c) _ 1 r a7 hr rfl rfl rfl)
  · exact chain (step10 ..) (h _) (reference10 ..).2 (slab (whole3 m c) _ 1 r a7 hr rfl rfl rfl)

theorem covered0 (i : S2x32x128.Idx) (h : ¬(i 0).val = 0) : ∃ t : Fin cfg0.N, i ∈ ((cfg0.win 7).blk t).view.set :=
  reach (T := 32) (fun t ht => View.set_slice_whole main_v0_0 (win0_7.rect t) ▸ Rect.mem_set_unit.mpr ht) (fun t => by rw [output0 t, Nat.lt_one_iff.mp (bound0 t)]) (by have h0 : (i 0).val < 2 := (i 0).isLt; omega) (congrArg (32 * ·) N_0.symm) fun _ => ⟨rfl, rfl, rfl, rfl, rfl, rfl⟩

theorem bound1 (t : Fin cfg1.N) : t.val < 1 := t.isLt.trans_eq N_1

theorem inputs1 : ∀ t : Fin cfg1.N, win1_0.index t = ![0, 0, 0] ∧ win1_1.index t = ![1, 0, 0] ∧ win1_2.index t = ![2, 0, 0] ∧ win1_3.index t = ![3, 0, 0] ∧ win1_4.index t = ![0, 0, 0] ∧ win1_5.index t = ![0, 0, 0] ∧ win1_6.index t = ![0, 0, 0] := by
  intro (t : Fin grid1.N); revert t; decide +kernel

theorem output1 : ∀ t : Fin cfg1.N, win1_7.index t = ![0, 0, 0] := by
  intro (t : Fin grid1.N); revert t; decide +kernel

theorem read1 (c : Dev nD) (t : Fin cfg1.N) (y1 : Fin 32) (y2 : Fin 128) (r : Fin 32) (hr : r.val = 0 * 32 + y1.val) (f : Step) :
    pt (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) y1 y2 f = lay (arr0 m c) (arr2 m c) (arr3 m c) (arr4 m c) r y2 0 f := by
  obtain ⟨a0, a1, a2, a3, a4, a5, a6⟩ := inputs1 t
  have p := congrFun (W2_args m ρ c main_arg0 (by decide))
  refine seven f ?_ ?_ ?_ ?_ ?_ ?_ ?_ <;> unfold iblk1 <;> rw [View.read_apply]
  · exact (p _).trans (slab (arr0 m c) _ _ r a0 hr rfl rfl rfl)
  · exact (p _).trans (slab (arr0 m c) _ _ r a1 hr rfl rfl rfl)
  · exact (p _).trans (slab (arr0 m c) _ _ r a2 hr rfl rfl rfl)
  · exact (p _).trans (slab (arr0 m c) _ _ r a3 hr rfl rfl rfl)
  · exact (congrFun (W2_args m ρ c main_arg2 (by decide)) _).trans (slab (arr2 m c) _ _ r a4 hr rfl rfl rfl)
  · exact (congrFun (W2_args m ρ c main_arg3 (by decide)) _).trans (slab (arr3 m c) _ _ r a5 hr rfl rfl rfl)
  · exact (congrFun (W2_args m ρ c main_arg4 (by decide)) _).trans (slab (arr4 m c) _ _ r a6 hr rfl rfl rfl)

theorem flushed1 (c : Dev nD) (t : Fin cfg1.N) : (dat1 (V2 m ρ) c).flushed 7 t = ((cfg1.win 7).blk t).view.read (Elt Ideal) (whole0 m c) ∧
    (dat1 (V2 m ρ) c).flushed 8 t = ((cfg1.win 8).blk t).view.read (Elt Ideal) (whole1 m c) ∧
    (dat1 (V2 m ρ) c).flushed 9 t = ((cfg1.win 9).blk t).view.read (Elt Ideal) (whole2 m c) ∧
    (dat1 (V2 m ρ) c).flushed 10 t = ((cfg1.win 10).blk t).view.read (Elt Ideal) (whole3 m c) := by
  have hb := bound1 t
  have a7 := output1 t
  refine ⟨(entry7 m ρ c t).trans ?_, (entry8 m ρ c t).trans ?_, (entry9 m ρ c t).trans ?_, (entry10 m ρ c t).trans ?_⟩ <;>
    (funext y
     idx_vars y
     obtain rfl : y0 = 0 := Subsingleton.elim _ _
     rw [View.read_apply]
     obtain ⟨r, hr⟩ : ∃ r : Fin 32, r.val = 0 * 32 + y1.val := ⟨⟨_, by omega⟩, rfl⟩
     have h := read1 m ρ c t y1 y2 r hr)
  · exact chain (step7 ..) (h _) (reference7 ..).1 (slab (whole0 m c) _ 0 r a7 hr rfl rfl rfl)
  · exact chain (step8 ..) (h _) (reference8 ..).1 (slab (whole1 m c) _ 0 r a7 hr rfl rfl rfl)
  · exact chain (step9 ..) (h _) (reference9 ..).1 (slab (whole2 m c) _ 0 r a7 hr rfl rfl rfl)
  · exact chain (step10 ..) (h _) (reference10 ..).1 (slab (whole3 m c) _ 0 r a7 hr rfl rfl rfl)

theorem covered1 (i : S2x32x128.Idx) (h : (i 0).val = 0) : ∃ t : Fin cfg1.N, i ∈ ((cfg1.win 7).blk t).view.set :=
  reach (T := 32) (fun t ht => View.set_slice_whole main_v1_0 (win1_7.rect t) ▸ Rect.mem_set_unit.mpr ht) (fun t => by rw [output1 t, Nat.lt_one_iff.mp (bound1 t)]) h (congrArg (32 * ·) N_1.symm) fun _ => ⟨rfl, rfl, rfl, rfl, rfl, rfl⟩

theorem away (i : S2x32x128.Idx) (h : ¬(i 0).val = 0) (t : Fin cfg1.N) : i ∉ ((cfg1.win 7).blk t).view.set := fun hm =>
  apart (output1 t) h (Rect.mem_set_unit.mp (View.set_slice_whole main_v1_0 (win1_7.rect t) ▸ hm : i ∈ (win1_7.rect t).set) 0)

/-- The second call's results start as the first call's. -/
theorem handed (c : Dev nD) : W2 m ρ c (Proc.devRef .tc main_v1_0) = W1 m ρ c (Proc.devRef .tc main_v0_0) ∧ W2 m ρ c (Proc.devRef .tc main_v1_1) = W1 m ρ c (Proc.devRef .tc main_v0_1) ∧ W2 m ρ c (Proc.devRef .tc main_v1_2) = W1 m ρ c (Proc.devRef .tc main_v0_2) ∧ W2 m ρ c (Proc.devRef .tc main_v1_3) = W1 m ρ c (Proc.devRef .tc main_v0_3) := by
  refine ⟨?_, ?_, ?_, ?_⟩ <;> (show StableHlo.after hostOps1 (W1 m ρ c) _ = _; after_results_simp <;> rfl)

theorem results (c : Dev nD) : W3 m ρ c (Proc.devRef .tc main_v1_0) = whole0 m c ∧ W3 m ρ c (Proc.devRef .tc main_v1_1) = whole1 m c ∧ W3 m ρ c (Proc.devRef .tc main_v1_2) = whole2 m c ∧ W3 m ρ c (Proc.devRef .tc main_v1_3) = whole3 m c :=
  ⟨(W3_arr m ρ c 7).trans (Runs.joined (dat1 (V2 m ρ) c) 7 (whole0 m c) (fun t => (flushed1 m ρ c t).1) flush1_7 covered1 away fun i h => (congrFun ((A_eq1 (V2 m ρ) c 7).trans ((handed m ρ c).1.trans (W1_arr m ρ c 7))) i).trans
      (Runs.covered (dat0 (V0 m ρ) c) 7 (whole0 m c) (fun t => (flushed0 m ρ c t).1) flush0_7 (covered0 i h))),
    (W3_arr m ρ c 8).trans (Runs.joined (dat1 (V2 m ρ) c) 8 (whole1 m c) (fun t => (flushed1 m ρ c t).2.1) flush1_8 covered1 away fun i h => (congrFun ((A_eq1 (V2 m ρ) c 8).trans ((handed m ρ c).2.1.trans (W1_arr m ρ c 8))) i).trans
      (Runs.covered (dat0 (V0 m ρ) c) 8 (whole1 m c) (fun t => (flushed0 m ρ c t).2.1) flush0_8 (covered0 i h))),
    (W3_arr m ρ c 9).trans (Runs.joined (dat1 (V2 m ρ) c) 9 (whole2 m c) (fun t => (flushed1 m ρ c t).2.2.1) flush1_9 covered1 away fun i h => (congrFun ((A_eq1 (V2 m ρ) c 9).trans ((handed m ρ c).2.2.1.trans (W1_arr m ρ c 9))) i).trans
      (Runs.covered (dat0 (V0 m ρ) c) 9 (whole2 m c) (fun t => (flushed0 m ρ c t).2.2.1) flush0_9 (covered0 i h))),
    (W3_arr m ρ c 10).trans (Runs.joined (dat1 (V2 m ρ) c) 10 (whole3 m c) (fun t => (flushed1 m ρ c t).2.2.2) flush1_10 covered1 away fun i h => (congrFun ((A_eq1 (V2 m ρ) c 10).trans ((handed m ρ c).2.2.2.trans (W1_arr m ρ c 10))) i).trans
      (Runs.covered (dat0 (V0 m ρ) c) 10 (whole3 m c) (fun t => (flushed0 m ρ c t).2.2.2) flush0_10 (covered0 i h)))⟩

set_option backward.isDefEq.respectTransparency.types false in
/-- Every run ends with the last boundary's contents in every buffer the arguments and results live in. -/
theorem run : θ_run defs (onTc (τ := τ) (main (F := Ideal))) ⟨m, fun _ => 0, ρ⟩ (fun r => ∀ c : Dev nD,
    ∀ b ∈ Pipeline.ucRefs τ sig, r.2.mem ((c : Dev nD), b) = W3 m ρ c b) :=
  Runs.run pcfgs adm (pdats m ρ) cellOf_inj defs₀ m ρ main (segs m ρ) (main_run m ρ)
  (by simp only [segs, Pipeline.Seg.pipes_host, Pipeline.Seg.pipes_region, Pipeline.Seg.pipes_nil]; decide)
  (W3 m ρ) ⟨fun _ => .rfl, fun _ => .rfl, fun _ => .rfl, fun _ => .rfl⟩

end Cert.AdamDwIdeal.Product

namespace Cert.AdamDwClaims

open Idealize.ShloMosaic Idealize.ShloMosaic.TcCoe Idealize.SL.Sem Cert.AdamDwIdeal Cert.AdamDwIdeal.Gen Cert.AdamDwRefIdeal.Read

theorem frame_p : Cert.quiescent_AdamDw := fun m ρ _ => Cert.AdamDw.Gen.frame m ρ
theorem frame_pi : Cert.quiescent_AdamDwIdeal := fun m ρ _ => Cert.AdamDwIdeal.Gen.frame m ρ
theorem frame_ri : Cert.quiescent_AdamDwRefIdeal := fun m ρ _ =>
  (θ_run _ _ _).mono (fun r h => ⟨fun c => (h c).2.2.2.2, sem_eq_zero_of_no_sems (by decide) r.2⟩) (Cert.AdamDwRefIdeal.Value.run (F := Ideal) m ρ)

theorem preserves : Cert.preserves_AdamDw_AdamDwIdeal := trivial

theorem algebraic : Cert.algebraic_AdamDwIdeal_AdamDwRefIdeal := fun m ρ m' ρ' _ hag =>
  ⟨fun c => Product.whole0 m c, fun c => Product.whole1 m c, fun c => Product.whole2 m c, fun c => Product.whole3 m c,
    (θ_run _ _ _).mono (fun r h c => ⟨(h c _ (mem_uc _ (by decide))).trans (Product.results m ρ c).1,
      (h c _ (mem_uc _ (by decide))).trans (Product.results m ρ c).2.1,
      (h c _ (mem_uc _ (by decide))).trans (Product.results m ρ c).2.2.1,
      (h c _ (mem_uc _ (by decide))).trans (Product.results m ρ c).2.2.2,
      (h c _ (mem_uc _ (by decide))).trans (W3_main_arg0 m ρ c),
      (h c _ (mem_uc _ (by decide))).trans (W3_main_arg1 m ρ c),
      (h c _ (mem_uc _ (by decide))).trans (W3_main_arg2 m ρ c),
      (h c _ (mem_uc _ (by decide))).trans (W3_main_arg3 m ρ c),
      (h c _ (mem_uc _ (by decide))).trans (W3_main_arg4 m ρ c)⟩)
      (Product.run m ρ),
    (θ_run _ _ _).mono (fun r h c => ⟨(h c).1.trans (by rw [val_main_v6_eq, (hag c).1, (hag c).2.1]; rfl),
      (h c).2.1.trans (by rw [val_main_v30_eq, (hag c).1, (hag c).2.1, (hag c).2.2.1, (hag c).2.2.2.1, (hag c).2.2.2.2]; rfl),
      (h c).2.2.1.trans (by rw [val_main_v11_eq, (hag c).1, (hag c).2.1, (hag c).2.2.2.1]; rfl),
      (h c).2.2.2.1.trans (by rw [val_main_v17_eq, (hag c).1, (hag c).2.1, (hag c).2.2.2.2]; rfl), (h c).2.2.2.2⟩)
      (Cert.AdamDwRefIdeal.Value.run (F := Ideal) m' ρ')⟩

end Cert.AdamDwClaims
end
-- ==== Proof.AdamFdwProduct.lean ====
/-
  The optimiser's step on both layers' weights of the feed-forward convolution.
-/
module

public import proofs.«01_k».proof.Defs
public import proofs.«01_k».proof.Proof.Gen.AdamFdw.Frame
public import proofs.«01_k».proof.Proof.Gen.AdamFdwIdeal.Frame
public import proofs.«01_k».proof.Proof.Gen.AdamFdwRefIdeal.Read
public import proofs.«01_k».proof.Proof.Runs
public import proofs.«01_k».proof.Proof.AdamStep
public import proofs.«01_k».proof.Proof.Zeros

@[expose] public section

set_option maxRecDepth 16384

noncomputable section

namespace Cert.AdamFdwIdeal.Product

open Cert.AdamFdwIdeal Cert.AdamFdwIdeal.Gen Idealize.ShloMosaic Idealize.ShloMosaic.TcCoe Idealize.SL.Sem
open Cert.AdamStep Cert.AdamFdwRefIdeal.Read

local notation "Part" => Vec Ideal S1x8x1408 EltTy.bf16
abbrev PartRef := Memref sig .tc .vmem S1x8x1408 EltTy.bf16
abbrev BlockRef := Memref sig .tc .vmem S1x8x1408 EltTy.f32
local notation "Block" => Vec Ideal S1x8x1408 EltTy.f32
local notation "Parts" => Vec Ideal S4x8x1408 EltTy.bf16
local notation "Whole" => Vec Ideal S2x8x1408 EltTy.f32

variable (m : (ℓ : Loc nD τ sig) → Buf (Elt Ideal) ℓ) (ρ : Dev nD → PrngReg)

abbrev arr0 (c : Dev nD) : Parts := m ((c : Thread nD τ).loc main_arg0)
abbrev arr1 (c : Dev nD) : Parts := m ((c : Thread nD τ).loc main_arg1)
abbrev arr2 (c : Dev nD) : Whole := m ((c : Thread nD τ).loc main_arg2)
abbrev arr3 (c : Dev nD) : Whole := m ((c : Thread nD τ).loc main_arg3)
abbrev arr4 (c : Dev nD) : Whole := m ((c : Thread nD τ).loc main_arg4)
def whole0 (c : Dev nD) : Whole := val_main_v6 (F := Ideal) (arr0 m c) (arr1 m c)
def whole1 (c : Dev nD) : Whole := val_main_v30 (F := Ideal) (arr0 m c) (arr1 m c) (arr2 m c) (arr3 m c) (arr4 m c)
def whole2 (c : Dev nD) : Whole := val_main_v11 (F := Ideal) (arr0 m c) (arr1 m c) (arr3 m c)
def whole3 (c : Dev nD) : Whole := val_main_v17 (F := Ideal) (arr0 m c) (arr1 m c) (arr4 m c)

section
variable (x0 x1 x2 x3 : Part) (x4 x5 x6 : Block)

abbrev pt (y1 : Fin 8) (y2 : Fin 1408) (f : Step) : EReal :=
  f (x0 (ix3 0 y1 y2)) (x1 (ix3 0 y1 y2)) (x2 (ix3 0 y1 y2)) (x3 (ix3 0 y1 y2)) (x4 (ix3 0 y1 y2)) (x5 (ix3 0 y1 y2)) (x6 (ix3 0 y1 y2))

theorem step7 (y1 : Fin 8) (y2 : Fin 1408) : out0_7 x0 x1 x2 x3 x4 x5 x6 (ix3 0 y1 y2) = pt x0 x1 x2 x3 x4 x5 x6 y1 y2 grad := by
  unfold out0_7
  rw [View.canon_unit_zero zeros3]
  unfold k0_pay5 k0_pay1
  simp only [View.ld_unit_zero (S := S1x8x1408) zeros3]
  pointwise
  simp only [pt, grad, ← add_assoc]

theorem step8 (y1 : Fin 8) (y2 : Fin 1408) : out0_8 x0 x1 x2 x3 x4 x5 x6 (ix3 0 y1 y2) = pt x0 x1 x2 x3 x4 x5 x6 y1 y2 delta := by
  unfold out0_8
  rw [View.canon_unit_zero zeros3]
  unfold k0_pay9 k0_pay11 k0_pay8 k0_pay10 k0_pay7 k0_pay5 k0_pay6 k0_pay2
  simp only [View.ld_unit_zero (S := S1x8x1408) zeros3]
  pointwise
  simp only [pt, delta, mean, square, ← add_assoc]

theorem step9 (y1 : Fin 8) (y2 : Fin 1408) : out0_9 x0 x1 x2 x3 x4 x5 x6 (ix3 0 y1 y2) = pt x0 x1 x2 x3 x4 x5 x6 y1 y2 mean := by
  unfold out0_9
  rw [View.canon_unit_zero zeros3]
  unfold k0_pay10 k0_pay7 k0_pay5 k0_pay3
  simp only [View.ld_unit_zero (S := S1x8x1408) zeros3]
  pointwise
  simp only [pt, mean, ← add_assoc]

theorem step10 (y1 : Fin 8) (y2 : Fin 1408) : out0_10 x0 x1 x2 x3 x4 x5 x6 (ix3 0 y1 y2) = pt x0 x1 x2 x3 x4 x5 x6 y1 y2 square := by
  unfold out0_10
  rw [View.canon_unit_zero zeros3]
  unfold k0_pay11 k0_pay8 k0_pay5 k0_pay4
  simp only [View.ld_unit_zero (S := S1x8x1408) zeros3]
  pointwise
  simp only [pt, square, ← add_assoc]

variable (c : Dev nD) (i : grid1.Coords) (p1 p2 p3 p4 : PartRef) (p5 p6 p7 p8 p9 p10 p11 : BlockRef) (h1 : p1.IsWhole) (h2 : p2.IsWhole) (h3 : p3.IsWhole) (h4 : p4.IsWhole) (h5 : p5.IsWhole) (h6 : p6.IsWhole) (h7 : p7.IsWhole) (h8 : p8.IsWhole) (h9 : p9.IsWhole) (h10 : p10.IsWhole) (h11 : p11.IsWhole)

set_option maxHeartbeats 1000000 in
theorem last : out1_A_7 c i p1 h1 p2 h2 p3 h3 p4 h4 p5 h5 p6 h6 p7 h7 p8 h8 p9 h9 p10 h10 p11 h11 x0 x1 x2 x3 x4 x5 x6 = out0_7 x0 x1 x2 x3 x4 x5 x6 ∧
    out1_A_8 c i p1 h1 p2 h2 p3 h3 p4 h4 p5 h5 p6 h6 p7 h7 p8 h8 p9 h9 p10 h10 p11 h11 x0 x1 x2 x3 x4 x5 x6 = out0_8 x0 x1 x2 x3 x4 x5 x6 ∧
    out1_A_9 c i p1 h1 p2 h2 p3 h3 p4 h4 p5 h5 p6 h6 p7 h7 p8 h8 p9 h9 p10 h10 p11 h11 x0 x1 x2 x3 x4 x5 x6 = out0_9 x0 x1 x2 x3 x4 x5 x6 ∧
    out1_A_10 c i p1 h1 p2 h2 p3 h3 p4 h4 p5 h5 p6 h6 p7 h7 p8 h8 p9 h9 p10 h10 p11 h11 x0 x1 x2 x3 x4 x5 x6 = out0_10 x0 x1 x2 x3 x4 x5 x6 := by
  unfold out1_A_7 out1_A_8 out1_A_9 out1_A_10
  rw [View.read_writes_eq_canon _ _ _ (fun _ => cover1_A_7 ..), View.read_writes_eq_canon _ _ _ (fun _ => cover1_A_8 ..), View.read_writes_eq_canon _ _ _ (fun _ => cover1_A_9 ..), View.read_writes_eq_canon _ _ _ (fun _ => cover1_A_10 ..)]
  unfold kernelRun1_A
  dsimp only
  sl_unfold_words
  unfold out0_7 out0_8 out0_9 out0_10
  simp only [View.canon_unit_zero (S := S1x8x1408) zeros3, View.readAt_eq_ld, h1.read_unread, h2.read_unread, h3.read_unread, h4.read_unread, h5.read_unread, h6.read_unread, h7.read_unread]
  exact ⟨rfl, rfl, rfl, rfl⟩

end

/-- A function of the second call's blocks at a point. -/
abbrev on (c : Dev nD) (t : Fin cfg1.N) (f : Part → Part → Part → Part → Block → Block → Block → Block) : Block :=
  f (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t)

theorem entry7 (c : Dev nD) (t : Fin cfg1.N) : (dat1 (V2 m ρ) c).after 7 t = on m ρ c t out0_7 := by
  rw [after1_7]; unfold outsAt1; dsimp only; rw [(last ..).1]
theorem entry8 (c : Dev nD) (t : Fin cfg1.N) : (dat1 (V2 m ρ) c).after 8 t = on m ρ c t out0_8 := by
  rw [after1_8]; unfold outsAt1; dsimp only; rw [(last ..).2.1]
theorem entry9 (c : Dev nD) (t : Fin cfg1.N) : (dat1 (V2 m ρ) c).after 9 t = on m ρ c t out0_9 := by
  rw [after1_9]; unfold outsAt1; dsimp only; rw [(last ..).2.2.1]
theorem entry10 (c : Dev nD) (t : Fin cfg1.N) : (dat1 (V2 m ρ) c).after 10 t = on m ρ c t out0_10 := by
  rw [after1_10]; unfold outsAt1; dsimp only; rw [(last ..).2.2.2]

section
variable (a0 a1 : Parts) (a2 a3 a4 : Whole) (r : Fin 8) (s : Fin 1408)
abbrev lay (l : Fin 2) (f : Step) : EReal :=
  f (a0 (ix3 0 r s)) (a0 (ix3 1 r s)) (a0 (ix3 2 r s)) (a0 (ix3 3 r s)) (a2 (ix3 l r s)) (a3 (ix3 l r s)) (a4 (ix3 l r s))

theorem reference7 : val_main_v6 (F := Ideal) a0 a1 (ix3 0 r s) = lay a0 a2 a3 a4 r s 0 grad ∧
    val_main_v6 (F := Ideal) a0 a1 (ix3 1 r s) = lay a1 a2 a3 a4 r s 1 grad := by
  unfold val_main_v6 val_main_v5 val_main_v3 val_main_cst_0 val_main_v2 val_main_v4 val_main_v1 val_main_cst val_main_v0
  constructor <;> pointwise <;> simp only [lay, grad, Fin.sum_univ_four, Fin.isValue, zero_add]

theorem reference9 : val_main_v11 (F := Ideal) a0 a1 a3 (ix3 0 r s) = lay a0 a2 a3 a4 r s 0 mean ∧
    val_main_v11 (F := Ideal) a0 a1 a3 (ix3 1 r s) = lay a1 a2 a3 a4 r s 1 mean := by
  unfold val_main_v11 val_main_v10 val_main_v9 val_main_cst_2 val_main_v8 val_main_v7 val_main_cst_1
  constructor <;> pointwise <;> simp only [lay, mean, grad, reference7 a0 a1 a2 a3 a4 r s]

theorem reference10 : val_main_v17 (F := Ideal) a0 a1 a4 (ix3 0 r s) = lay a0 a2 a3 a4 r s 0 square ∧
    val_main_v17 (F := Ideal) a0 a1 a4 (ix3 1 r s) = lay a1 a2 a3 a4 r s 1 square := by
  unfold val_main_v17 val_main_v16 val_main_v14 val_main_v15 val_main_cst_4 val_main_v13 val_main_v12 val_main_cst_3
  constructor <;> pointwise <;> simp only [lay, square, grad, reference7 a0 a1 a2 a3 a4 r s]

theorem reference8 : val_main_v30 (F := Ideal) a0 a1 a2 a3 a4 (ix3 0 r s) = lay a0 a2 a3 a4 r s 0 delta ∧
    val_main_v30 (F := Ideal) a0 a1 a2 a3 a4 (ix3 1 r s) = lay a1 a2 a3 a4 r s 1 delta := by
  unfold val_main_v30 val_main_v28 val_main_v27 val_main_v26 val_main_cst_8 val_main_v25 val_main_v24 val_main_v23 val_main_cst_7 val_main_v22 val_main_v21 val_main_v20 val_main_cst_6 val_main_v19 val_main_v18 val_main_cst_5 val_main_v29 val_main_cst_9
  constructor <;> pointwise <;> simp only [lay, delta, reference9 a0 a1 a2 a3 a4 r s, reference10 a0 a1 a2 a3 a4 r s]

end

theorem bound0 (t : Fin cfg0.N) : t.val < 1 := t.isLt.trans_eq N_0

theorem inputs0 : ∀ t : Fin cfg0.N, win0_0.index t = ![0, 0, 0] ∧ win0_1.index t = ![1, 0, 0] ∧ win0_2.index t = ![2, 0, 0] ∧ win0_3.index t = ![3, 0, 0] ∧ win0_4.index t = ![1, 0, 0] ∧ win0_5.index t = ![1, 0, 0] ∧ win0_6.index t = ![1, 0, 0] := by
  intro (t : Fin grid0.N); revert t; decide +kernel

theorem output0 : ∀ t : Fin cfg0.N, win0_7.index t = ![1, 0, 0] := by
  intro (t : Fin grid0.N); revert t; decide +kernel

theorem read0 (c : Dev nD) (t : Fin cfg0.N) (y1 : Fin 8) (y2 : Fin 1408) (r : Fin 8) (hr : r.val = 0 * 8 + y1.val) (f : Step) :
    pt (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) y1 y2 f = lay (arr1 m c) (arr2 m c) (arr3 m c) (arr4 m c) r y2 1 f := by
  obtain ⟨a0, a1, a2, a3, a4, a5, a6⟩ := inputs0 t
  refine seven f ?_ ?_ ?_ ?_ ?_ ?_ ?_ <;> unfold iblk0 <;> rw [View.read_apply]
  · exact slab (arr1 m c) _ _ r a0 hr rfl rfl rfl
  · exact slab (arr1 m c) _ _ r a1 hr rfl rfl rfl
  · exact slab (arr1 m c) _ _ r a2 hr rfl rfl rfl
  · exact slab (arr1 m c) _ _ r a3 hr rfl rfl rfl
  · exact slab (arr2 m c) _ _ r a4 hr rfl rfl rfl
  · exact slab (arr3 m c) _ _ r a5 hr rfl rfl rfl
  · exact slab (arr4 m c) _ _ r a6 hr rfl rfl rfl

theorem flushed0 (c : Dev nD) (t : Fin cfg0.N) : (dat0 (V0 m ρ) c).flushed 7 t = ((cfg0.win 7).blk t).view.read (Elt Ideal) (whole0 m c) ∧
    (dat0 (V0 m ρ) c).flushed 8 t = ((cfg0.win 8).blk t).view.read (Elt Ideal) (whole1 m c) ∧
    (dat0 (V0 m ρ) c).flushed 9 t = ((cfg0.win 9).blk t).view.read (Elt Ideal) (whole2 m c) ∧
    (dat0 (V0 m ρ) c).flushed 10 t = ((cfg0.win 10).blk t).view.read (Elt Ideal) (whole3 m c) := by
  have hb := bound0 t
  have a7 := output0 t
  refine ⟨(after0_7 (V0 m ρ) c t).trans ?_, (after0_8 (V0 m ρ) c t).trans ?_, (after0_9 (V0 m ρ) c t).trans ?_, (after0_10 (V0 m ρ) c t).trans ?_⟩ <;>
    (funext y
     idx_vars y
     obtain rfl : y0 = 0 := Subsingleton.elim _ _
     rw [View.read_apply]
     obtain ⟨r, hr⟩ : ∃ r : Fin 8, r.val = 0 * 8 + y1.val := ⟨⟨_, by omega⟩, rfl⟩
     have h := read0 m ρ c t y1 y2 r hr)
  · exact chain (step7 ..) (h _) (reference7 ..).2 (slab (whole0 m c) _ 1 r a7 hr rfl rfl rfl)
  · exact chain (step8 ..) (h _) (reference8 ..).2 (slab (whole1 m c) _ 1 r a7 hr rfl rfl rfl)
  · exact chain (step9 ..) (h _) (reference9 ..).2 (slab (whole2 m c) _ 1 r a7 hr rfl rfl rfl)
  · exact chain (step10 ..) (h _) (reference10 ..).2 (slab (whole3 m c) _ 1 r a7 hr rfl rfl rfl)

theorem covered0 (i : S2x8x1408.Idx) (h : ¬(i 0).val = 0) : ∃ t : Fin cfg0.N, i ∈ ((cfg0.win 7).blk t).view.set :=
  reach (T := 8) (fun t ht => View.set_slice_whole main_v0_0 (win0_7.rect t) ▸ Rect.mem_set_unit.mpr ht) (fun t => by rw [output0 t, Nat.lt_one_iff.mp (bound0 t)]) (by have h0 : (i 0).val < 2 := (i 0).isLt; omega) (congrArg (8 * ·) N_0.symm) fun _ => ⟨rfl, rfl, rfl, rfl, rfl, rfl⟩

theorem bound1 (t : Fin cfg1.N) : t.val < 1 := t.isLt.trans_eq N_1

theorem inputs1 : ∀ t : Fin cfg1.N, win1_0.index t = ![0, 0, 0] ∧ win1_1.index t = ![1, 0, 0] ∧ win1_2.index t = ![2, 0, 0] ∧ win1_3.index t = ![3, 0, 0] ∧ win1_4.index t = ![0, 0, 0] ∧ win1_5.index t = ![0, 0, 0] ∧ win1_6.index t = ![0, 0, 0] := by
  intro (t : Fin grid1.N); revert t; decide +kernel

theorem output1 : ∀ t : Fin cfg1.N, win1_7.index t = ![0, 0, 0] := by
  intro (t : Fin grid1.N); revert t; decide +kernel

theorem read1 (c : Dev nD) (t : Fin cfg1.N) (y1 : Fin 8) (y2 : Fin 1408) (r : Fin 8) (hr : r.val = 0 * 8 + y1.val) (f : Step) :
    pt (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) y1 y2 f = lay (arr0 m c) (arr2 m c) (arr3 m c) (arr4 m c) r y2 0 f := by
  obtain ⟨a0, a1, a2, a3, a4, a5, a6⟩ := inputs1 t
  have p := congrFun (W2_args m ρ c main_arg0 (by decide))
  refine seven f ?_ ?_ ?_ ?_ ?_ ?_ ?_ <;> unfold iblk1 <;> rw [View.read_apply]
  · exact (p _).trans (slab (arr0 m c) _ _ r a0 hr rfl rfl rfl)
  · exact (p _).trans (slab (arr0 m c) _ _ r a1 hr rfl rfl rfl)
  · exact (p _).trans (slab (arr0 m c) _ _ r a2 hr rfl rfl rfl)
  · exact (p _).trans (slab (arr0 m c) _ _ r a3 hr rfl rfl rfl)
  · exact (congrFun (W2_args m ρ c main_arg2 (by decide)) _).trans (slab (arr2 m c) _ _ r a4 hr rfl rfl rfl)
  · exact (congrFun (W2_args m ρ c main_arg3 (by decide)) _).trans (slab (arr3 m c) _ _ r a5 hr rfl rfl rfl)
  · exact (congrFun (W2_args m ρ c main_arg4 (by decide)) _).trans (slab (arr4 m c) _ _ r a6 hr rfl rfl rfl)

theorem flushed1 (c : Dev nD) (t : Fin cfg1.N) : (dat1 (V2 m ρ) c).flushed 7 t = ((cfg1.win 7).blk t).view.read (Elt Ideal) (whole0 m c) ∧
    (dat1 (V2 m ρ) c).flushed 8 t = ((cfg1.win 8).blk t).view.read (Elt Ideal) (whole1 m c) ∧
    (dat1 (V2 m ρ) c).flushed 9 t = ((cfg1.win 9).blk t).view.read (Elt Ideal) (whole2 m c) ∧
    (dat1 (V2 m ρ) c).flushed 10 t = ((cfg1.win 10).blk t).view.read (Elt Ideal) (whole3 m c) := by
  have hb := bound1 t
  have a7 := output1 t
  refine ⟨(entry7 m ρ c t).trans ?_, (entry8 m ρ c t).trans ?_, (entry9 m ρ c t).trans ?_, (entry10 m ρ c t).trans ?_⟩ <;>
    (funext y
     idx_vars y
     obtain rfl : y0 = 0 := Subsingleton.elim _ _
     rw [View.read_apply]
     obtain ⟨r, hr⟩ : ∃ r : Fin 8, r.val = 0 * 8 + y1.val := ⟨⟨_, by omega⟩, rfl⟩
     have h := read1 m ρ c t y1 y2 r hr)
  · exact chain (step7 ..) (h _) (reference7 ..).1 (slab (whole0 m c) _ 0 r a7 hr rfl rfl rfl)
  · exact chain (step8 ..) (h _) (reference8 ..).1 (slab (whole1 m c) _ 0 r a7 hr rfl rfl rfl)
  · exact chain (step9 ..) (h _) (reference9 ..).1 (slab (whole2 m c) _ 0 r a7 hr rfl rfl rfl)
  · exact chain (step10 ..) (h _) (reference10 ..).1 (slab (whole3 m c) _ 0 r a7 hr rfl rfl rfl)

theorem covered1 (i : S2x8x1408.Idx) (h : (i 0).val = 0) : ∃ t : Fin cfg1.N, i ∈ ((cfg1.win 7).blk t).view.set :=
  reach (T := 8) (fun t ht => View.set_slice_whole main_v1_0 (win1_7.rect t) ▸ Rect.mem_set_unit.mpr ht) (fun t => by rw [output1 t, Nat.lt_one_iff.mp (bound1 t)]) h (congrArg (8 * ·) N_1.symm) fun _ => ⟨rfl, rfl, rfl, rfl, rfl, rfl⟩

theorem away (i : S2x8x1408.Idx) (h : ¬(i 0).val = 0) (t : Fin cfg1.N) : i ∉ ((cfg1.win 7).blk t).view.set := fun hm =>
  apart (output1 t) h (Rect.mem_set_unit.mp (View.set_slice_whole main_v1_0 (win1_7.rect t) ▸ hm : i ∈ (win1_7.rect t).set) 0)

/-- The second call's results start as the first call's. -/
theorem handed (c : Dev nD) : W2 m ρ c (Proc.devRef .tc main_v1_0) = W1 m ρ c (Proc.devRef .tc main_v0_0) ∧ W2 m ρ c (Proc.devRef .tc main_v1_1) = W1 m ρ c (Proc.devRef .tc main_v0_1) ∧ W2 m ρ c (Proc.devRef .tc main_v1_2) = W1 m ρ c (Proc.devRef .tc main_v0_2) ∧ W2 m ρ c (Proc.devRef .tc main_v1_3) = W1 m ρ c (Proc.devRef .tc main_v0_3) := by
  refine ⟨?_, ?_, ?_, ?_⟩ <;> (show StableHlo.after hostOps1 (W1 m ρ c) _ = _; after_results_simp <;> rfl)

theorem results (c : Dev nD) : W3 m ρ c (Proc.devRef .tc main_v1_0) = whole0 m c ∧ W3 m ρ c (Proc.devRef .tc main_v1_1) = whole1 m c ∧ W3 m ρ c (Proc.devRef .tc main_v1_2) = whole2 m c ∧ W3 m ρ c (Proc.devRef .tc main_v1_3) = whole3 m c :=
  ⟨(W3_arr m ρ c 7).trans (Runs.joined (dat1 (V2 m ρ) c) 7 (whole0 m c) (fun t => (flushed1 m ρ c t).1) flush1_7 covered1 away fun i h => (congrFun ((A_eq1 (V2 m ρ) c 7).trans ((handed m ρ c).1.trans (W1_arr m ρ c 7))) i).trans
      (Runs.covered (dat0 (V0 m ρ) c) 7 (whole0 m c) (fun t => (flushed0 m ρ c t).1) flush0_7 (covered0 i h))),
    (W3_arr m ρ c 8).trans (Runs.joined (dat1 (V2 m ρ) c) 8 (whole1 m c) (fun t => (flushed1 m ρ c t).2.1) flush1_8 covered1 away fun i h => (congrFun ((A_eq1 (V2 m ρ) c 8).trans ((handed m ρ c).2.1.trans (W1_arr m ρ c 8))) i).trans
      (Runs.covered (dat0 (V0 m ρ) c) 8 (whole1 m c) (fun t => (flushed0 m ρ c t).2.1) flush0_8 (covered0 i h))),
    (W3_arr m ρ c 9).trans (Runs.joined (dat1 (V2 m ρ) c) 9 (whole2 m c) (fun t => (flushed1 m ρ c t).2.2.1) flush1_9 covered1 away fun i h => (congrFun ((A_eq1 (V2 m ρ) c 9).trans ((handed m ρ c).2.2.1.trans (W1_arr m ρ c 9))) i).trans
      (Runs.covered (dat0 (V0 m ρ) c) 9 (whole2 m c) (fun t => (flushed0 m ρ c t).2.2.1) flush0_9 (covered0 i h))),
    (W3_arr m ρ c 10).trans (Runs.joined (dat1 (V2 m ρ) c) 10 (whole3 m c) (fun t => (flushed1 m ρ c t).2.2.2) flush1_10 covered1 away fun i h => (congrFun ((A_eq1 (V2 m ρ) c 10).trans ((handed m ρ c).2.2.2.trans (W1_arr m ρ c 10))) i).trans
      (Runs.covered (dat0 (V0 m ρ) c) 10 (whole3 m c) (fun t => (flushed0 m ρ c t).2.2.2) flush0_10 (covered0 i h)))⟩

set_option backward.isDefEq.respectTransparency.types false in
/-- Every run ends with the last boundary's contents in every buffer the arguments and results live in. -/
theorem run : θ_run defs (onTc (τ := τ) (main (F := Ideal))) ⟨m, fun _ => 0, ρ⟩ (fun r => ∀ c : Dev nD,
    ∀ b ∈ Pipeline.ucRefs τ sig, r.2.mem ((c : Dev nD), b) = W3 m ρ c b) :=
  Runs.run pcfgs adm (pdats m ρ) cellOf_inj defs₀ m ρ main (segs m ρ) (main_run m ρ)
  (by simp only [segs, Pipeline.Seg.pipes_host, Pipeline.Seg.pipes_region, Pipeline.Seg.pipes_nil]; decide)
  (W3 m ρ) ⟨fun _ => .rfl, fun _ => .rfl, fun _ => .rfl, fun _ => .rfl⟩

end Cert.AdamFdwIdeal.Product

namespace Cert.AdamFdwClaims

open Idealize.ShloMosaic Idealize.ShloMosaic.TcCoe Idealize.SL.Sem Cert.AdamFdwIdeal Cert.AdamFdwIdeal.Gen Cert.AdamFdwRefIdeal.Read

theorem frame_p : Cert.quiescent_AdamFdw := fun m ρ _ => Cert.AdamFdw.Gen.frame m ρ
theorem frame_pi : Cert.quiescent_AdamFdwIdeal := fun m ρ _ => Cert.AdamFdwIdeal.Gen.frame m ρ
theorem frame_ri : Cert.quiescent_AdamFdwRefIdeal := fun m ρ _ =>
  (θ_run _ _ _).mono (fun r h => ⟨fun c => (h c).2.2.2.2, sem_eq_zero_of_no_sems (by decide) r.2⟩) (Cert.AdamFdwRefIdeal.Value.run (F := Ideal) m ρ)

theorem preserves : Cert.preserves_AdamFdw_AdamFdwIdeal := trivial

theorem algebraic : Cert.algebraic_AdamFdwIdeal_AdamFdwRefIdeal := fun m ρ m' ρ' _ hag =>
  ⟨fun c => Product.whole0 m c, fun c => Product.whole1 m c, fun c => Product.whole2 m c, fun c => Product.whole3 m c,
    (θ_run _ _ _).mono (fun r h c => ⟨(h c _ (mem_uc _ (by decide))).trans (Product.results m ρ c).1,
      (h c _ (mem_uc _ (by decide))).trans (Product.results m ρ c).2.1,
      (h c _ (mem_uc _ (by decide))).trans (Product.results m ρ c).2.2.1,
      (h c _ (mem_uc _ (by decide))).trans (Product.results m ρ c).2.2.2,
      (h c _ (mem_uc _ (by decide))).trans (W3_main_arg0 m ρ c),
      (h c _ (mem_uc _ (by decide))).trans (W3_main_arg1 m ρ c),
      (h c _ (mem_uc _ (by decide))).trans (W3_main_arg2 m ρ c),
      (h c _ (mem_uc _ (by decide))).trans (W3_main_arg3 m ρ c),
      (h c _ (mem_uc _ (by decide))).trans (W3_main_arg4 m ρ c)⟩)
      (Product.run m ρ),
    (θ_run _ _ _).mono (fun r h c => ⟨(h c).1.trans (by rw [val_main_v6_eq, (hag c).1, (hag c).2.1]; rfl),
      (h c).2.1.trans (by rw [val_main_v30_eq, (hag c).1, (hag c).2.1, (hag c).2.2.1, (hag c).2.2.2.1, (hag c).2.2.2.2]; rfl),
      (h c).2.2.1.trans (by rw [val_main_v11_eq, (hag c).1, (hag c).2.1, (hag c).2.2.2.1]; rfl),
      (h c).2.2.2.1.trans (by rw [val_main_v17_eq, (hag c).1, (hag c).2.1, (hag c).2.2.2.2]; rfl), (h c).2.2.2.2⟩)
      (Cert.AdamFdwRefIdeal.Value.run (F := Ideal) m' ρ')⟩

end Cert.AdamFdwClaims
end
-- ==== Proof.AdamGluProduct.lean ====
/-
  The optimiser's step on both layers' weights of the gated unit.
-/
module

public import proofs.«01_k».proof.Defs
public import proofs.«01_k».proof.Proof.Gen.AdamGlu.Frame
public import proofs.«01_k».proof.Proof.Gen.AdamGluIdeal.Frame
public import proofs.«01_k».proof.Proof.Gen.AdamGluRefIdeal.Read
public import proofs.«01_k».proof.Proof.Runs
public import proofs.«01_k».proof.Proof.AdamStep
public import proofs.«01_k».proof.Proof.Zeros

@[expose] public section

set_option maxRecDepth 16384

noncomputable section

namespace Cert.AdamGluIdeal.Product

open Cert.AdamGluIdeal Cert.AdamGluIdeal.Gen Idealize.ShloMosaic Idealize.ShloMosaic.TcCoe Idealize.SL.Sem
open Cert.AdamStep Cert.AdamGluRefIdeal.Read

local notation "Part" => Vec Ideal S1x512x512 EltTy.bf16
abbrev PartRef := Memref sig .tc .vmem S1x512x512 EltTy.bf16
abbrev BlockRef := Memref sig .tc .vmem S1x512x512 EltTy.f32
local notation "Block" => Vec Ideal S1x512x512 EltTy.f32
local notation "Parts" => Vec Ideal S4x1024x512 EltTy.bf16
local notation "Whole" => Vec Ideal S2x1024x512 EltTy.f32

variable (m : (ℓ : Loc nD τ sig) → Buf (Elt Ideal) ℓ) (ρ : Dev nD → PrngReg)

abbrev arr0 (c : Dev nD) : Parts := m ((c : Thread nD τ).loc main_arg0)
abbrev arr1 (c : Dev nD) : Parts := m ((c : Thread nD τ).loc main_arg1)
abbrev arr2 (c : Dev nD) : Whole := m ((c : Thread nD τ).loc main_arg2)
abbrev arr3 (c : Dev nD) : Whole := m ((c : Thread nD τ).loc main_arg3)
abbrev arr4 (c : Dev nD) : Whole := m ((c : Thread nD τ).loc main_arg4)
def whole0 (c : Dev nD) : Whole := val_main_v6 (F := Ideal) (arr0 m c) (arr1 m c)
def whole1 (c : Dev nD) : Whole := val_main_v30 (F := Ideal) (arr0 m c) (arr1 m c) (arr2 m c) (arr3 m c) (arr4 m c)
def whole2 (c : Dev nD) : Whole := val_main_v11 (F := Ideal) (arr0 m c) (arr1 m c) (arr3 m c)
def whole3 (c : Dev nD) : Whole := val_main_v17 (F := Ideal) (arr0 m c) (arr1 m c) (arr4 m c)

section
variable (x0 x1 x2 x3 : Part) (x4 x5 x6 : Block)

abbrev pt (y1 : Fin 512) (y2 : Fin 512) (f : Step) : EReal :=
  f (x0 (ix3 0 y1 y2)) (x1 (ix3 0 y1 y2)) (x2 (ix3 0 y1 y2)) (x3 (ix3 0 y1 y2)) (x4 (ix3 0 y1 y2)) (x5 (ix3 0 y1 y2)) (x6 (ix3 0 y1 y2))

theorem step7 (y1 : Fin 512) (y2 : Fin 512) : out0_7 x0 x1 x2 x3 x4 x5 x6 (ix3 0 y1 y2) = pt x0 x1 x2 x3 x4 x5 x6 y1 y2 grad := by
  unfold out0_7
  rw [View.canon_unit_zero zeros3]
  unfold k0_pay5 k0_pay1
  simp only [View.ld_unit_zero (S := S1x512x512) zeros3]
  pointwise
  simp only [pt, grad, ← add_assoc]

theorem step8 (y1 : Fin 512) (y2 : Fin 512) : out0_8 x0 x1 x2 x3 x4 x5 x6 (ix3 0 y1 y2) = pt x0 x1 x2 x3 x4 x5 x6 y1 y2 delta := by
  unfold out0_8
  rw [View.canon_unit_zero zeros3]
  unfold k0_pay9 k0_pay11 k0_pay8 k0_pay10 k0_pay7 k0_pay5 k0_pay6 k0_pay2
  simp only [View.ld_unit_zero (S := S1x512x512) zeros3]
  pointwise
  simp only [pt, delta, mean, square, ← add_assoc]

theorem step9 (y1 : Fin 512) (y2 : Fin 512) : out0_9 x0 x1 x2 x3 x4 x5 x6 (ix3 0 y1 y2) = pt x0 x1 x2 x3 x4 x5 x6 y1 y2 mean := by
  unfold out0_9
  rw [View.canon_unit_zero zeros3]
  unfold k0_pay10 k0_pay7 k0_pay5 k0_pay3
  simp only [View.ld_unit_zero (S := S1x512x512) zeros3]
  pointwise
  simp only [pt, mean, ← add_assoc]

theorem step10 (y1 : Fin 512) (y2 : Fin 512) : out0_10 x0 x1 x2 x3 x4 x5 x6 (ix3 0 y1 y2) = pt x0 x1 x2 x3 x4 x5 x6 y1 y2 square := by
  unfold out0_10
  rw [View.canon_unit_zero zeros3]
  unfold k0_pay11 k0_pay8 k0_pay5 k0_pay4
  simp only [View.ld_unit_zero (S := S1x512x512) zeros3]
  pointwise
  simp only [pt, square, ← add_assoc]

variable (c : Dev nD) (i : grid1.Coords) (p1 p2 p3 p4 : PartRef) (p5 p6 p7 p8 p9 p10 p11 : BlockRef) (h1 : p1.IsWhole) (h2 : p2.IsWhole) (h3 : p3.IsWhole) (h4 : p4.IsWhole) (h5 : p5.IsWhole) (h6 : p6.IsWhole) (h7 : p7.IsWhole) (h8 : p8.IsWhole) (h9 : p9.IsWhole) (h10 : p10.IsWhole) (h11 : p11.IsWhole)

set_option maxHeartbeats 1000000 in
theorem last : out1_A_7 c i p1 h1 p2 h2 p3 h3 p4 h4 p5 h5 p6 h6 p7 h7 p8 h8 p9 h9 p10 h10 p11 h11 x0 x1 x2 x3 x4 x5 x6 = out0_7 x0 x1 x2 x3 x4 x5 x6 ∧
    out1_A_8 c i p1 h1 p2 h2 p3 h3 p4 h4 p5 h5 p6 h6 p7 h7 p8 h8 p9 h9 p10 h10 p11 h11 x0 x1 x2 x3 x4 x5 x6 = out0_8 x0 x1 x2 x3 x4 x5 x6 ∧
    out1_A_9 c i p1 h1 p2 h2 p3 h3 p4 h4 p5 h5 p6 h6 p7 h7 p8 h8 p9 h9 p10 h10 p11 h11 x0 x1 x2 x3 x4 x5 x6 = out0_9 x0 x1 x2 x3 x4 x5 x6 ∧
    out1_A_10 c i p1 h1 p2 h2 p3 h3 p4 h4 p5 h5 p6 h6 p7 h7 p8 h8 p9 h9 p10 h10 p11 h11 x0 x1 x2 x3 x4 x5 x6 = out0_10 x0 x1 x2 x3 x4 x5 x6 := by
  unfold out1_A_7 out1_A_8 out1_A_9 out1_A_10
  rw [View.read_writes_eq_canon _ _ _ (fun _ => cover1_A_7 ..), View.read_writes_eq_canon _ _ _ (fun _ => cover1_A_8 ..), View.read_writes_eq_canon _ _ _ (fun _ => cover1_A_9 ..), View.read_writes_eq_canon _ _ _ (fun _ => cover1_A_10 ..)]
  unfold kernelRun1_A
  dsimp only
  sl_unfold_words
  unfold out0_7 out0_8 out0_9 out0_10
  simp only [View.canon_unit_zero (S := S1x512x512) zeros3, View.readAt_eq_ld, h1.read_unread, h2.read_unread, h3.read_unread, h4.read_unread, h5.read_unread, h6.read_unread, h7.read_unread]
  exact ⟨rfl, rfl, rfl, rfl⟩

end

/-- A function of the second call's blocks at a point. -/
abbrev on (c : Dev nD) (t : Fin cfg1.N) (f : Part → Part → Part → Part → Block → Block → Block → Block) : Block :=
  f (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t)

theorem entry7 (c : Dev nD) (t : Fin cfg1.N) : (dat1 (V2 m ρ) c).after 7 t = on m ρ c t out0_7 := by
  rw [after1_7]; unfold outsAt1; dsimp only; rw [(last ..).1]
theorem entry8 (c : Dev nD) (t : Fin cfg1.N) : (dat1 (V2 m ρ) c).after 8 t = on m ρ c t out0_8 := by
  rw [after1_8]; unfold outsAt1; dsimp only; rw [(last ..).2.1]
theorem entry9 (c : Dev nD) (t : Fin cfg1.N) : (dat1 (V2 m ρ) c).after 9 t = on m ρ c t out0_9 := by
  rw [after1_9]; unfold outsAt1; dsimp only; rw [(last ..).2.2.1]
theorem entry10 (c : Dev nD) (t : Fin cfg1.N) : (dat1 (V2 m ρ) c).after 10 t = on m ρ c t out0_10 := by
  rw [after1_10]; unfold outsAt1; dsimp only; rw [(last ..).2.2.2]

section
variable (a0 a1 : Parts) (a2 a3 a4 : Whole) (r : Fin 1024) (s : Fin 512)
abbrev lay (l : Fin 2) (f : Step) : EReal :=
  f (a0 (ix3 0 r s)) (a0 (ix3 1 r s)) (a0 (ix3 2 r s)) (a0 (ix3 3 r s)) (a2 (ix3 l r s)) (a3 (ix3 l r s)) (a4 (ix3 l r s))

theorem reference7 : val_main_v6 (F := Ideal) a0 a1 (ix3 0 r s) = lay a0 a2 a3 a4 r s 0 grad ∧
    val_main_v6 (F := Ideal) a0 a1 (ix3 1 r s) = lay a1 a2 a3 a4 r s 1 grad := by
  unfold val_main_v6 val_main_v5 val_main_v3 val_main_cst_0 val_main_v2 val_main_v4 val_main_v1 val_main_cst val_main_v0
  constructor <;> pointwise <;> simp only [lay, grad, Fin.sum_univ_four, Fin.isValue, zero_add]

theorem reference9 : val_main_v11 (F := Ideal) a0 a1 a3 (ix3 0 r s) = lay a0 a2 a3 a4 r s 0 mean ∧
    val_main_v11 (F := Ideal) a0 a1 a3 (ix3 1 r s) = lay a1 a2 a3 a4 r s 1 mean := by
  unfold val_main_v11 val_main_v10 val_main_v9 val_main_cst_2 val_main_v8 val_main_v7 val_main_cst_1
  constructor <;> pointwise <;> simp only [lay, mean, grad, reference7 a0 a1 a2 a3 a4 r s]

theorem reference10 : val_main_v17 (F := Ideal) a0 a1 a4 (ix3 0 r s) = lay a0 a2 a3 a4 r s 0 square ∧
    val_main_v17 (F := Ideal) a0 a1 a4 (ix3 1 r s) = lay a1 a2 a3 a4 r s 1 square := by
  unfold val_main_v17 val_main_v16 val_main_v14 val_main_v15 val_main_cst_4 val_main_v13 val_main_v12 val_main_cst_3
  constructor <;> pointwise <;> simp only [lay, square, grad, reference7 a0 a1 a2 a3 a4 r s]

theorem reference8 : val_main_v30 (F := Ideal) a0 a1 a2 a3 a4 (ix3 0 r s) = lay a0 a2 a3 a4 r s 0 delta ∧
    val_main_v30 (F := Ideal) a0 a1 a2 a3 a4 (ix3 1 r s) = lay a1 a2 a3 a4 r s 1 delta := by
  unfold val_main_v30 val_main_v28 val_main_v27 val_main_v26 val_main_cst_8 val_main_v25 val_main_v24 val_main_v23 val_main_cst_7 val_main_v22 val_main_v21 val_main_v20 val_main_cst_6 val_main_v19 val_main_v18 val_main_cst_5 val_main_v29 val_main_cst_9
  constructor <;> pointwise <;> simp only [lay, delta, reference9 a0 a1 a2 a3 a4 r s, reference10 a0 a1 a2 a3 a4 r s]

end

theorem bound0 (t : Fin cfg0.N) : t.val < 2 := t.isLt.trans_eq N_0

theorem inputs0 : ∀ t : Fin cfg0.N, win0_0.index t = ![0, t.val, 0] ∧ win0_1.index t = ![1, t.val, 0] ∧ win0_2.index t = ![2, t.val, 0] ∧ win0_3.index t = ![3, t.val, 0] ∧ win0_4.index t = ![1, t.val, 0] ∧ win0_5.index t = ![1, t.val, 0] ∧ win0_6.index t = ![1, t.val, 0] := by
  intro (t : Fin grid0.N); revert t; decide +kernel

theorem output0 : ∀ t : Fin cfg0.N, win0_7.index t = ![1, t.val, 0] := by
  intro (t : Fin grid0.N); revert t; decide +kernel

theorem read0 (c : Dev nD) (t : Fin cfg0.N) (y1 : Fin 512) (y2 : Fin 512) (r : Fin 1024) (hr : r.val = t.val * 512 + y1.val) (f : Step) :
    pt (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) y1 y2 f = lay (arr1 m c) (arr2 m c) (arr3 m c) (arr4 m c) r y2 1 f := by
  obtain ⟨a0, a1, a2, a3, a4, a5, a6⟩ := inputs0 t
  refine seven f ?_ ?_ ?_ ?_ ?_ ?_ ?_ <;> unfold iblk0 <;> rw [View.read_apply]
  · exact slab (arr1 m c) _ _ r a0 hr rfl rfl rfl
  · exact slab (arr1 m c) _ _ r a1 hr rfl rfl rfl
  · exact slab (arr1 m c) _ _ r a2 hr rfl rfl rfl
  · exact slab (arr1 m c) _ _ r a3 hr rfl rfl rfl
  · exact slab (arr2 m c) _ _ r a4 hr rfl rfl rfl
  · exact slab (arr3 m c) _ _ r a5 hr rfl rfl rfl
  · exact slab (arr4 m c) _ _ r a6 hr rfl rfl rfl

theorem flushed0 (c : Dev nD) (t : Fin cfg0.N) : (dat0 (V0 m ρ) c).flushed 7 t = ((cfg0.win 7).blk t).view.read (Elt Ideal) (whole0 m c) ∧
    (dat0 (V0 m ρ) c).flushed 8 t = ((cfg0.win 8).blk t).view.read (Elt Ideal) (whole1 m c) ∧
    (dat0 (V0 m ρ) c).flushed 9 t = ((cfg0.win 9).blk t).view.read (Elt Ideal) (whole2 m c) ∧
    (dat0 (V0 m ρ) c).flushed 10 t = ((cfg0.win 10).blk t).view.read (Elt Ideal) (whole3 m c) := by
  have hb := bound0 t
  have a7 := output0 t
  refine ⟨(after0_7 (V0 m ρ) c t).trans ?_, (after0_8 (V0 m ρ) c t).trans ?_, (after0_9 (V0 m ρ) c t).trans ?_, (after0_10 (V0 m ρ) c t).trans ?_⟩ <;>
    (funext y
     idx_vars y
     obtain rfl : y0 = 0 := Subsingleton.elim _ _
     rw [View.read_apply]
     obtain ⟨r, hr⟩ : ∃ r : Fin 1024, r.val = t.val * 512 + y1.val := ⟨⟨_, by omega⟩, rfl⟩
     have h := read0 m ρ c t y1 y2 r hr)
  · exact chain (step7 ..) (h _) (reference7 ..).2 (slab (whole0 m c) _ 1 r a7 hr rfl rfl rfl)
  · exact chain (step8 ..) (h _) (reference8 ..).2 (slab (whole1 m c) _ 1 r a7 hr rfl rfl rfl)
  · exact chain (step9 ..) (h _) (reference9 ..).2 (slab (whole2 m c) _ 1 r a7 hr rfl rfl rfl)
  · exact chain (step10 ..) (h _) (reference10 ..).2 (slab (whole3 m c) _ 1 r a7 hr rfl rfl rfl)

theorem covered0 (i : S2x1024x512.Idx) (h : ¬(i 0).val = 0) : ∃ t : Fin cfg0.N, i ∈ ((cfg0.win 7).blk t).view.set :=
  reach (T := 512) (fun t ht => View.set_slice_whole main_v0_0 (win0_7.rect t) ▸ Rect.mem_set_unit.mpr ht) output0 (by have h0 : (i 0).val < 2 := (i 0).isLt; omega) (congrArg (512 * ·) N_0.symm) fun _ => ⟨rfl, rfl, rfl, rfl, rfl, rfl⟩

theorem bound1 (t : Fin cfg1.N) : t.val < 2 := t.isLt.trans_eq N_1

theorem inputs1 : ∀ t : Fin cfg1.N, win1_0.index t = ![0, t.val, 0] ∧ win1_1.index t = ![1, t.val, 0] ∧ win1_2.index t = ![2, t.val, 0] ∧ win1_3.index t = ![3, t.val, 0] ∧ win1_4.index t = ![0, t.val, 0] ∧ win1_5.index t = ![0, t.val, 0] ∧ win1_6.index t = ![0, t.val, 0] := by
  intro (t : Fin grid1.N); revert t; decide +kernel

theorem output1 : ∀ t : Fin cfg1.N, win1_7.index t = ![0, t.val, 0] := by
  intro (t : Fin grid1.N); revert t; decide +kernel

theorem read1 (c : Dev nD) (t : Fin cfg1.N) (y1 : Fin 512) (y2 : Fin 512) (r : Fin 1024) (hr : r.val = t.val * 512 + y1.val) (f : Step) :
    pt (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) y1 y2 f = lay (arr0 m c) (arr2 m c) (arr3 m c) (arr4 m c) r y2 0 f := by
  obtain ⟨a0, a1, a2, a3, a4, a5, a6⟩ := inputs1 t
  have p := congrFun (W2_args m ρ c main_arg0 (by decide))
  refine seven f ?_ ?_ ?_ ?_ ?_ ?_ ?_ <;> unfold iblk1 <;> rw [View.read_apply]
  · exact (p _).trans (slab (arr0 m c) _ _ r a0 hr rfl rfl rfl)
  · exact (p _).trans (slab (arr0 m c) _ _ r a1 hr rfl rfl rfl)
  · exact (p _).trans (slab (arr0 m c) _ _ r a2 hr rfl rfl rfl)
  · exact (p _).trans (slab (arr0 m c) _ _ r a3 hr rfl rfl rfl)
  · exact (congrFun (W2_args m ρ c main_arg2 (by decide)) _).trans (slab (arr2 m c) _ _ r a4 hr rfl rfl rfl)
  · exact (congrFun (W2_args m ρ c main_arg3 (by decide)) _).trans (slab (arr3 m c) _ _ r a5 hr rfl rfl rfl)
  · exact (congrFun (W2_args m ρ c main_arg4 (by decide)) _).trans (slab (arr4 m c) _ _ r a6 hr rfl rfl rfl)

theorem flushed1 (c : Dev nD) (t : Fin cfg1.N) : (dat1 (V2 m ρ) c).flushed 7 t = ((cfg1.win 7).blk t).view.read (Elt Ideal) (whole0 m c) ∧
    (dat1 (V2 m ρ) c).flushed 8 t = ((cfg1.win 8).blk t).view.read (Elt Ideal) (whole1 m c) ∧
    (dat1 (V2 m ρ) c).flushed 9 t = ((cfg1.win 9).blk t).view.read (Elt Ideal) (whole2 m c) ∧
    (dat1 (V2 m ρ) c).flushed 10 t = ((cfg1.win 10).blk t).view.read (Elt Ideal) (whole3 m c) := by
  have hb := bound1 t
  have a7 := output1 t
  refine ⟨(entry7 m ρ c t).trans ?_, (entry8 m ρ c t).trans ?_, (entry9 m ρ c t).trans ?_, (entry10 m ρ c t).trans ?_⟩ <;>
    (funext y
     idx_vars y
     obtain rfl : y0 = 0 := Subsingleton.elim _ _
     rw [View.read_apply]
     obtain ⟨r, hr⟩ : ∃ r : Fin 1024, r.val = t.val * 512 + y1.val := ⟨⟨_, by omega⟩, rfl⟩
     have h := read1 m ρ c t y1 y2 r hr)
  · exact chain (step7 ..) (h _) (reference7 ..).1 (slab (whole0 m c) _ 0 r a7 hr rfl rfl rfl)
  · exact chain (step8 ..) (h _) (reference8 ..).1 (slab (whole1 m c) _ 0 r a7 hr rfl rfl rfl)
  · exact chain (step9 ..) (h _) (reference9 ..).1 (slab (whole2 m c) _ 0 r a7 hr rfl rfl rfl)
  · exact chain (step10 ..) (h _) (reference10 ..).1 (slab (whole3 m c) _ 0 r a7 hr rfl rfl rfl)

theorem covered1 (i : S2x1024x512.Idx) (h : (i 0).val = 0) : ∃ t : Fin cfg1.N, i ∈ ((cfg1.win 7).blk t).view.set :=
  reach (T := 512) (fun t ht => View.set_slice_whole main_v1_0 (win1_7.rect t) ▸ Rect.mem_set_unit.mpr ht) output1 h (congrArg (512 * ·) N_1.symm) fun _ => ⟨rfl, rfl, rfl, rfl, rfl, rfl⟩

theorem away (i : S2x1024x512.Idx) (h : ¬(i 0).val = 0) (t : Fin cfg1.N) : i ∉ ((cfg1.win 7).blk t).view.set := fun hm =>
  apart (output1 t) h (Rect.mem_set_unit.mp (View.set_slice_whole main_v1_0 (win1_7.rect t) ▸ hm : i ∈ (win1_7.rect t).set) 0)

/-- The second call's results start as the first call's. -/
theorem handed (c : Dev nD) : W2 m ρ c (Proc.devRef .tc main_v1_0) = W1 m ρ c (Proc.devRef .tc main_v0_0) ∧ W2 m ρ c (Proc.devRef .tc main_v1_1) = W1 m ρ c (Proc.devRef .tc main_v0_1) ∧ W2 m ρ c (Proc.devRef .tc main_v1_2) = W1 m ρ c (Proc.devRef .tc main_v0_2) ∧ W2 m ρ c (Proc.devRef .tc main_v1_3) = W1 m ρ c (Proc.devRef .tc main_v0_3) := by
  refine ⟨?_, ?_, ?_, ?_⟩ <;> (show StableHlo.after hostOps1 (W1 m ρ c) _ = _; after_results_simp <;> rfl)

theorem results (c : Dev nD) : W3 m ρ c (Proc.devRef .tc main_v1_0) = whole0 m c ∧ W3 m ρ c (Proc.devRef .tc main_v1_1) = whole1 m c ∧ W3 m ρ c (Proc.devRef .tc main_v1_2) = whole2 m c ∧ W3 m ρ c (Proc.devRef .tc main_v1_3) = whole3 m c :=
  ⟨(W3_arr m ρ c 7).trans (Runs.joined (dat1 (V2 m ρ) c) 7 (whole0 m c) (fun t => (flushed1 m ρ c t).1) flush1_7 covered1 away fun i h => (congrFun ((A_eq1 (V2 m ρ) c 7).trans ((handed m ρ c).1.trans (W1_arr m ρ c 7))) i).trans
      (Runs.covered (dat0 (V0 m ρ) c) 7 (whole0 m c) (fun t => (flushed0 m ρ c t).1) flush0_7 (covered0 i h))),
    (W3_arr m ρ c 8).trans (Runs.joined (dat1 (V2 m ρ) c) 8 (whole1 m c) (fun t => (flushed1 m ρ c t).2.1) flush1_8 covered1 away fun i h => (congrFun ((A_eq1 (V2 m ρ) c 8).trans ((handed m ρ c).2.1.trans (W1_arr m ρ c 8))) i).trans
      (Runs.covered (dat0 (V0 m ρ) c) 8 (whole1 m c) (fun t => (flushed0 m ρ c t).2.1) flush0_8 (covered0 i h))),
    (W3_arr m ρ c 9).trans (Runs.joined (dat1 (V2 m ρ) c) 9 (whole2 m c) (fun t => (flushed1 m ρ c t).2.2.1) flush1_9 covered1 away fun i h => (congrFun ((A_eq1 (V2 m ρ) c 9).trans ((handed m ρ c).2.2.1.trans (W1_arr m ρ c 9))) i).trans
      (Runs.covered (dat0 (V0 m ρ) c) 9 (whole2 m c) (fun t => (flushed0 m ρ c t).2.2.1) flush0_9 (covered0 i h))),
    (W3_arr m ρ c 10).trans (Runs.joined (dat1 (V2 m ρ) c) 10 (whole3 m c) (fun t => (flushed1 m ρ c t).2.2.2) flush1_10 covered1 away fun i h => (congrFun ((A_eq1 (V2 m ρ) c 10).trans ((handed m ρ c).2.2.2.trans (W1_arr m ρ c 10))) i).trans
      (Runs.covered (dat0 (V0 m ρ) c) 10 (whole3 m c) (fun t => (flushed0 m ρ c t).2.2.2) flush0_10 (covered0 i h)))⟩

set_option backward.isDefEq.respectTransparency.types false in
/-- Every run ends with the last boundary's contents in every buffer the arguments and results live in. -/
theorem run : θ_run defs (onTc (τ := τ) (main (F := Ideal))) ⟨m, fun _ => 0, ρ⟩ (fun r => ∀ c : Dev nD,
    ∀ b ∈ Pipeline.ucRefs τ sig, r.2.mem ((c : Dev nD), b) = W3 m ρ c b) :=
  Runs.run pcfgs adm (pdats m ρ) cellOf_inj defs₀ m ρ main (segs m ρ) (main_run m ρ)
  (by simp only [segs, Pipeline.Seg.pipes_host, Pipeline.Seg.pipes_region, Pipeline.Seg.pipes_nil]; decide)
  (W3 m ρ) ⟨fun _ => .rfl, fun _ => .rfl, fun _ => .rfl, fun _ => .rfl⟩

end Cert.AdamGluIdeal.Product

namespace Cert.AdamGluClaims

open Idealize.ShloMosaic Idealize.ShloMosaic.TcCoe Idealize.SL.Sem Cert.AdamGluIdeal Cert.AdamGluIdeal.Gen Cert.AdamGluRefIdeal.Read

theorem frame_p : Cert.quiescent_AdamGlu := fun m ρ _ => Cert.AdamGlu.Gen.frame m ρ
theorem frame_pi : Cert.quiescent_AdamGluIdeal := fun m ρ _ => Cert.AdamGluIdeal.Gen.frame m ρ
theorem frame_ri : Cert.quiescent_AdamGluRefIdeal := fun m ρ _ =>
  (θ_run _ _ _).mono (fun r h => ⟨fun c => (h c).2.2.2.2, sem_eq_zero_of_no_sems (by decide) r.2⟩) (Cert.AdamGluRefIdeal.Value.run (F := Ideal) m ρ)

theorem preserves : Cert.preserves_AdamGlu_AdamGluIdeal := trivial

theorem algebraic : Cert.algebraic_AdamGluIdeal_AdamGluRefIdeal := fun m ρ m' ρ' _ hag =>
  ⟨fun c => Product.whole0 m c, fun c => Product.whole1 m c, fun c => Product.whole2 m c, fun c => Product.whole3 m c,
    (θ_run _ _ _).mono (fun r h c => ⟨(h c _ (mem_uc _ (by decide))).trans (Product.results m ρ c).1,
      (h c _ (mem_uc _ (by decide))).trans (Product.results m ρ c).2.1,
      (h c _ (mem_uc _ (by decide))).trans (Product.results m ρ c).2.2.1,
      (h c _ (mem_uc _ (by decide))).trans (Product.results m ρ c).2.2.2,
      (h c _ (mem_uc _ (by decide))).trans (W3_main_arg0 m ρ c),
      (h c _ (mem_uc _ (by decide))).trans (W3_main_arg1 m ρ c),
      (h c _ (mem_uc _ (by decide))).trans (W3_main_arg2 m ρ c),
      (h c _ (mem_uc _ (by decide))).trans (W3_main_arg3 m ρ c),
      (h c _ (mem_uc _ (by decide))).trans (W3_main_arg4 m ρ c)⟩)
      (Product.run m ρ),
    (θ_run _ _ _).mono (fun r h c => ⟨(h c).1.trans (by rw [val_main_v6_eq, (hag c).1, (hag c).2.1]; rfl),
      (h c).2.1.trans (by rw [val_main_v30_eq, (hag c).1, (hag c).2.1, (hag c).2.2.1, (hag c).2.2.2.1, (hag c).2.2.2.2]; rfl),
      (h c).2.2.1.trans (by rw [val_main_v11_eq, (hag c).1, (hag c).2.1, (hag c).2.2.2.1]; rfl),
      (h c).2.2.2.1.trans (by rw [val_main_v17_eq, (hag c).1, (hag c).2.1, (hag c).2.2.2.2]; rfl), (h c).2.2.2.2⟩)
      (Cert.AdamGluRefIdeal.Value.run (F := Ideal) m' ρ')⟩

end Cert.AdamGluClaims
end
-- ==== Proof.AdamInProduct.lean ====
/-
  The optimiser's step on both layers' weights of the projection in.
-/
module

public import proofs.«01_k».proof.Defs
public import proofs.«01_k».proof.Proof.Gen.AdamIn.Frame
public import proofs.«01_k».proof.Proof.Gen.AdamInIdeal.Frame
public import proofs.«01_k».proof.Proof.Gen.AdamInRefIdeal.Read
public import proofs.«01_k».proof.Proof.Runs
public import proofs.«01_k».proof.Proof.AdamStep
public import proofs.«01_k».proof.Proof.Zeros

@[expose] public section

set_option maxRecDepth 16384

noncomputable section

namespace Cert.AdamInIdeal.Product

open Cert.AdamInIdeal Cert.AdamInIdeal.Gen Idealize.ShloMosaic Idealize.ShloMosaic.TcCoe Idealize.SL.Sem
open Cert.AdamStep Cert.AdamInRefIdeal.Read

local notation "Part" => Vec Ideal S1x256x896 EltTy.bf16
abbrev PartRef := Memref sig .tc .vmem S1x256x896 EltTy.bf16
abbrev BlockRef := Memref sig .tc .vmem S1x256x896 EltTy.f32
local notation "Block" => Vec Ideal S1x256x896 EltTy.f32
local notation "Parts" => Vec Ideal S4x2048x896 EltTy.bf16
local notation "Whole" => Vec Ideal S2x2048x896 EltTy.f32

variable (m : (ℓ : Loc nD τ sig) → Buf (Elt Ideal) ℓ) (ρ : Dev nD → PrngReg)

abbrev arr0 (c : Dev nD) : Parts := m ((c : Thread nD τ).loc main_arg0)
abbrev arr1 (c : Dev nD) : Parts := m ((c : Thread nD τ).loc main_arg1)
abbrev arr2 (c : Dev nD) : Whole := m ((c : Thread nD τ).loc main_arg2)
abbrev arr3 (c : Dev nD) : Whole := m ((c : Thread nD τ).loc main_arg3)
abbrev arr4 (c : Dev nD) : Whole := m ((c : Thread nD τ).loc main_arg4)
def whole0 (c : Dev nD) : Whole := val_main_v6 (F := Ideal) (arr0 m c) (arr1 m c)
def whole1 (c : Dev nD) : Whole := val_main_v30 (F := Ideal) (arr0 m c) (arr1 m c) (arr2 m c) (arr3 m c) (arr4 m c)
def whole2 (c : Dev nD) : Whole := val_main_v11 (F := Ideal) (arr0 m c) (arr1 m c) (arr3 m c)
def whole3 (c : Dev nD) : Whole := val_main_v17 (F := Ideal) (arr0 m c) (arr1 m c) (arr4 m c)

section
variable (x0 x1 x2 x3 : Part) (x4 x5 x6 : Block)

abbrev pt (y1 : Fin 256) (y2 : Fin 896) (f : Step) : EReal :=
  f (x0 (ix3 0 y1 y2)) (x1 (ix3 0 y1 y2)) (x2 (ix3 0 y1 y2)) (x3 (ix3 0 y1 y2)) (x4 (ix3 0 y1 y2)) (x5 (ix3 0 y1 y2)) (x6 (ix3 0 y1 y2))

theorem step7 (y1 : Fin 256) (y2 : Fin 896) : out0_7 x0 x1 x2 x3 x4 x5 x6 (ix3 0 y1 y2) = pt x0 x1 x2 x3 x4 x5 x6 y1 y2 grad := by
  unfold out0_7
  rw [View.canon_unit_zero zeros3]
  unfold k0_pay5 k0_pay1
  simp only [View.ld_unit_zero (S := S1x256x896) zeros3]
  pointwise
  simp only [pt, grad, ← add_assoc]

theorem step8 (y1 : Fin 256) (y2 : Fin 896) : out0_8 x0 x1 x2 x3 x4 x5 x6 (ix3 0 y1 y2) = pt x0 x1 x2 x3 x4 x5 x6 y1 y2 delta := by
  unfold out0_8
  rw [View.canon_unit_zero zeros3]
  unfold k0_pay9 k0_pay11 k0_pay8 k0_pay10 k0_pay7 k0_pay5 k0_pay6 k0_pay2
  simp only [View.ld_unit_zero (S := S1x256x896) zeros3]
  pointwise
  simp only [pt, delta, mean, square, ← add_assoc]

theorem step9 (y1 : Fin 256) (y2 : Fin 896) : out0_9 x0 x1 x2 x3 x4 x5 x6 (ix3 0 y1 y2) = pt x0 x1 x2 x3 x4 x5 x6 y1 y2 mean := by
  unfold out0_9
  rw [View.canon_unit_zero zeros3]
  unfold k0_pay10 k0_pay7 k0_pay5 k0_pay3
  simp only [View.ld_unit_zero (S := S1x256x896) zeros3]
  pointwise
  simp only [pt, mean, ← add_assoc]

theorem step10 (y1 : Fin 256) (y2 : Fin 896) : out0_10 x0 x1 x2 x3 x4 x5 x6 (ix3 0 y1 y2) = pt x0 x1 x2 x3 x4 x5 x6 y1 y2 square := by
  unfold out0_10
  rw [View.canon_unit_zero zeros3]
  unfold k0_pay11 k0_pay8 k0_pay5 k0_pay4
  simp only [View.ld_unit_zero (S := S1x256x896) zeros3]
  pointwise
  simp only [pt, square, ← add_assoc]

variable (c : Dev nD) (i : grid1.Coords) (p1 p2 p3 p4 : PartRef) (p5 p6 p7 p8 p9 p10 p11 : BlockRef) (h1 : p1.IsWhole) (h2 : p2.IsWhole) (h3 : p3.IsWhole) (h4 : p4.IsWhole) (h5 : p5.IsWhole) (h6 : p6.IsWhole) (h7 : p7.IsWhole) (h8 : p8.IsWhole) (h9 : p9.IsWhole) (h10 : p10.IsWhole) (h11 : p11.IsWhole)

set_option maxHeartbeats 1000000 in
theorem last : out1_A_7 c i p1 h1 p2 h2 p3 h3 p4 h4 p5 h5 p6 h6 p7 h7 p8 h8 p9 h9 p10 h10 p11 h11 x0 x1 x2 x3 x4 x5 x6 = out0_7 x0 x1 x2 x3 x4 x5 x6 ∧
    out1_A_8 c i p1 h1 p2 h2 p3 h3 p4 h4 p5 h5 p6 h6 p7 h7 p8 h8 p9 h9 p10 h10 p11 h11 x0 x1 x2 x3 x4 x5 x6 = out0_8 x0 x1 x2 x3 x4 x5 x6 ∧
    out1_A_9 c i p1 h1 p2 h2 p3 h3 p4 h4 p5 h5 p6 h6 p7 h7 p8 h8 p9 h9 p10 h10 p11 h11 x0 x1 x2 x3 x4 x5 x6 = out0_9 x0 x1 x2 x3 x4 x5 x6 ∧
    out1_A_10 c i p1 h1 p2 h2 p3 h3 p4 h4 p5 h5 p6 h6 p7 h7 p8 h8 p9 h9 p10 h10 p11 h11 x0 x1 x2 x3 x4 x5 x6 = out0_10 x0 x1 x2 x3 x4 x5 x6 := by
  unfold out1_A_7 out1_A_8 out1_A_9 out1_A_10
  rw [View.read_writes_eq_canon _ _ _ (fun _ => cover1_A_7 ..), View.read_writes_eq_canon _ _ _ (fun _ => cover1_A_8 ..), View.read_writes_eq_canon _ _ _ (fun _ => cover1_A_9 ..), View.read_writes_eq_canon _ _ _ (fun _ => cover1_A_10 ..)]
  unfold kernelRun1_A
  dsimp only
  sl_unfold_words
  unfold out0_7 out0_8 out0_9 out0_10
  simp only [View.canon_unit_zero (S := S1x256x896) zeros3, View.readAt_eq_ld, h1.read_unread, h2.read_unread, h3.read_unread, h4.read_unread, h5.read_unread, h6.read_unread, h7.read_unread]
  exact ⟨rfl, rfl, rfl, rfl⟩

end

/-- A function of the second call's blocks at a point. -/
abbrev on (c : Dev nD) (t : Fin cfg1.N) (f : Part → Part → Part → Part → Block → Block → Block → Block) : Block :=
  f (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t)

theorem entry7 (c : Dev nD) (t : Fin cfg1.N) : (dat1 (V2 m ρ) c).after 7 t = on m ρ c t out0_7 := by
  rw [after1_7]; unfold outsAt1; dsimp only; rw [(last ..).1]
theorem entry8 (c : Dev nD) (t : Fin cfg1.N) : (dat1 (V2 m ρ) c).after 8 t = on m ρ c t out0_8 := by
  rw [after1_8]; unfold outsAt1; dsimp only; rw [(last ..).2.1]
theorem entry9 (c : Dev nD) (t : Fin cfg1.N) : (dat1 (V2 m ρ) c).after 9 t = on m ρ c t out0_9 := by
  rw [after1_9]; unfold outsAt1; dsimp only; rw [(last ..).2.2.1]
theorem entry10 (c : Dev nD) (t : Fin cfg1.N) : (dat1 (V2 m ρ) c).after 10 t = on m ρ c t out0_10 := by
  rw [after1_10]; unfold outsAt1; dsimp only; rw [(last ..).2.2.2]

section
variable (a0 a1 : Parts) (a2 a3 a4 : Whole) (r : Fin 2048) (s : Fin 896)
abbrev lay (l : Fin 2) (f : Step) : EReal :=
  f (a0 (ix3 0 r s)) (a0 (ix3 1 r s)) (a0 (ix3 2 r s)) (a0 (ix3 3 r s)) (a2 (ix3 l r s)) (a3 (ix3 l r s)) (a4 (ix3 l r s))

theorem reference7 : val_main_v6 (F := Ideal) a0 a1 (ix3 0 r s) = lay a0 a2 a3 a4 r s 0 grad ∧
    val_main_v6 (F := Ideal) a0 a1 (ix3 1 r s) = lay a1 a2 a3 a4 r s 1 grad := by
  unfold val_main_v6 val_main_v5 val_main_v3 val_main_cst_0 val_main_v2 val_main_v4 val_main_v1 val_main_cst val_main_v0
  constructor <;> pointwise <;> simp only [lay, grad, Fin.sum_univ_four, Fin.isValue, zero_add]

theorem reference9 : val_main_v11 (F := Ideal) a0 a1 a3 (ix3 0 r s) = lay a0 a2 a3 a4 r s 0 mean ∧
    val_main_v11 (F := Ideal) a0 a1 a3 (ix3 1 r s) = lay a1 a2 a3 a4 r s 1 mean := by
  unfold val_main_v11 val_main_v10 val_main_v9 val_main_cst_2 val_main_v8 val_main_v7 val_main_cst_1
  constructor <;> pointwise <;> simp only [lay, mean, grad, reference7 a0 a1 a2 a3 a4 r s]

theorem reference10 : val_main_v17 (F := Ideal) a0 a1 a4 (ix3 0 r s) = lay a0 a2 a3 a4 r s 0 square ∧
    val_main_v17 (F := Ideal) a0 a1 a4 (ix3 1 r s) = lay a1 a2 a3 a4 r s 1 square := by
  unfold val_main_v17 val_main_v16 val_main_v14 val_main_v15 val_main_cst_4 val_main_v13 val_main_v12 val_main_cst_3
  constructor <;> pointwise <;> simp only [lay, square, grad, reference7 a0 a1 a2 a3 a4 r s]

theorem reference8 : val_main_v30 (F := Ideal) a0 a1 a2 a3 a4 (ix3 0 r s) = lay a0 a2 a3 a4 r s 0 delta ∧
    val_main_v30 (F := Ideal) a0 a1 a2 a3 a4 (ix3 1 r s) = lay a1 a2 a3 a4 r s 1 delta := by
  unfold val_main_v30 val_main_v28 val_main_v27 val_main_v26 val_main_cst_8 val_main_v25 val_main_v24 val_main_v23 val_main_cst_7 val_main_v22 val_main_v21 val_main_v20 val_main_cst_6 val_main_v19 val_main_v18 val_main_cst_5 val_main_v29 val_main_cst_9
  constructor <;> pointwise <;> simp only [lay, delta, reference9 a0 a1 a2 a3 a4 r s, reference10 a0 a1 a2 a3 a4 r s]

end

theorem bound0 (t : Fin cfg0.N) : t.val < 8 := t.isLt.trans_eq N_0

theorem inputs0 : ∀ t : Fin cfg0.N, win0_0.index t = ![0, t.val, 0] ∧ win0_1.index t = ![1, t.val, 0] ∧ win0_2.index t = ![2, t.val, 0] ∧ win0_3.index t = ![3, t.val, 0] ∧ win0_4.index t = ![1, t.val, 0] ∧ win0_5.index t = ![1, t.val, 0] ∧ win0_6.index t = ![1, t.val, 0] := by
  intro (t : Fin grid0.N); revert t; decide +kernel

theorem output0 : ∀ t : Fin cfg0.N, win0_7.index t = ![1, t.val, 0] := by
  intro (t : Fin grid0.N); revert t; decide +kernel

theorem read0 (c : Dev nD) (t : Fin cfg0.N) (y1 : Fin 256) (y2 : Fin 896) (r : Fin 2048) (hr : r.val = t.val * 256 + y1.val) (f : Step) :
    pt (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) y1 y2 f = lay (arr1 m c) (arr2 m c) (arr3 m c) (arr4 m c) r y2 1 f := by
  obtain ⟨a0, a1, a2, a3, a4, a5, a6⟩ := inputs0 t
  refine seven f ?_ ?_ ?_ ?_ ?_ ?_ ?_ <;> unfold iblk0 <;> rw [View.read_apply]
  · exact slab (arr1 m c) _ _ r a0 hr rfl rfl rfl
  · exact slab (arr1 m c) _ _ r a1 hr rfl rfl rfl
  · exact slab (arr1 m c) _ _ r a2 hr rfl rfl rfl
  · exact slab (arr1 m c) _ _ r a3 hr rfl rfl rfl
  · exact slab (arr2 m c) _ _ r a4 hr rfl rfl rfl
  · exact slab (arr3 m c) _ _ r a5 hr rfl rfl rfl
  · exact slab (arr4 m c) _ _ r a6 hr rfl rfl rfl

theorem flushed0 (c : Dev nD) (t : Fin cfg0.N) : (dat0 (V0 m ρ) c).flushed 7 t = ((cfg0.win 7).blk t).view.read (Elt Ideal) (whole0 m c) ∧
    (dat0 (V0 m ρ) c).flushed 8 t = ((cfg0.win 8).blk t).view.read (Elt Ideal) (whole1 m c) ∧
    (dat0 (V0 m ρ) c).flushed 9 t = ((cfg0.win 9).blk t).view.read (Elt Ideal) (whole2 m c) ∧
    (dat0 (V0 m ρ) c).flushed 10 t = ((cfg0.win 10).blk t).view.read (Elt Ideal) (whole3 m c) := by
  have hb := bound0 t
  have a7 := output0 t
  refine ⟨(after0_7 (V0 m ρ) c t).trans ?_, (after0_8 (V0 m ρ) c t).trans ?_, (after0_9 (V0 m ρ) c t).trans ?_, (after0_10 (V0 m ρ) c t).trans ?_⟩ <;>
    (funext y
     idx_vars y
     obtain rfl : y0 = 0 := Subsingleton.elim _ _
     rw [View.read_apply]
     obtain ⟨r, hr⟩ : ∃ r : Fin 2048, r.val = t.val * 256 + y1.val := ⟨⟨_, by omega⟩, rfl⟩
     have h := read0 m ρ c t y1 y2 r hr)
  · exact chain (step7 ..) (h _) (reference7 ..).2 (slab (whole0 m c) _ 1 r a7 hr rfl rfl rfl)
  · exact chain (step8 ..) (h _) (reference8 ..).2 (slab (whole1 m c) _ 1 r a7 hr rfl rfl rfl)
  · exact chain (step9 ..) (h _) (reference9 ..).2 (slab (whole2 m c) _ 1 r a7 hr rfl rfl rfl)
  · exact chain (step10 ..) (h _) (reference10 ..).2 (slab (whole3 m c) _ 1 r a7 hr rfl rfl rfl)

theorem covered0 (i : S2x2048x896.Idx) (h : ¬(i 0).val = 0) : ∃ t : Fin cfg0.N, i ∈ ((cfg0.win 7).blk t).view.set :=
  reach (T := 256) (fun t ht => View.set_slice_whole main_v0_0 (win0_7.rect t) ▸ Rect.mem_set_unit.mpr ht) output0 (by have h0 : (i 0).val < 2 := (i 0).isLt; omega) (congrArg (256 * ·) N_0.symm) fun _ => ⟨rfl, rfl, rfl, rfl, rfl, rfl⟩

theorem bound1 (t : Fin cfg1.N) : t.val < 8 := t.isLt.trans_eq N_1

theorem inputs1 : ∀ t : Fin cfg1.N, win1_0.index t = ![0, t.val, 0] ∧ win1_1.index t = ![1, t.val, 0] ∧ win1_2.index t = ![2, t.val, 0] ∧ win1_3.index t = ![3, t.val, 0] ∧ win1_4.index t = ![0, t.val, 0] ∧ win1_5.index t = ![0, t.val, 0] ∧ win1_6.index t = ![0, t.val, 0] := by
  intro (t : Fin grid1.N); revert t; decide +kernel

theorem output1 : ∀ t : Fin cfg1.N, win1_7.index t = ![0, t.val, 0] := by
  intro (t : Fin grid1.N); revert t; decide +kernel

theorem read1 (c : Dev nD) (t : Fin cfg1.N) (y1 : Fin 256) (y2 : Fin 896) (r : Fin 2048) (hr : r.val = t.val * 256 + y1.val) (f : Step) :
    pt (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) y1 y2 f = lay (arr0 m c) (arr2 m c) (arr3 m c) (arr4 m c) r y2 0 f := by
  obtain ⟨a0, a1, a2, a3, a4, a5, a6⟩ := inputs1 t
  have p := congrFun (W2_args m ρ c main_arg0 (by decide))
  refine seven f ?_ ?_ ?_ ?_ ?_ ?_ ?_ <;> unfold iblk1 <;> rw [View.read_apply]
  · exact (p _).trans (slab (arr0 m c) _ _ r a0 hr rfl rfl rfl)
  · exact (p _).trans (slab (arr0 m c) _ _ r a1 hr rfl rfl rfl)
  · exact (p _).trans (slab (arr0 m c) _ _ r a2 hr rfl rfl rfl)
  · exact (p _).trans (slab (arr0 m c) _ _ r a3 hr rfl rfl rfl)
  · exact (congrFun (W2_args m ρ c main_arg2 (by decide)) _).trans (slab (arr2 m c) _ _ r a4 hr rfl rfl rfl)
  · exact (congrFun (W2_args m ρ c main_arg3 (by decide)) _).trans (slab (arr3 m c) _ _ r a5 hr rfl rfl rfl)
  · exact (congrFun (W2_args m ρ c main_arg4 (by decide)) _).trans (slab (arr4 m c) _ _ r a6 hr rfl rfl rfl)

theorem flushed1 (c : Dev nD) (t : Fin cfg1.N) : (dat1 (V2 m ρ) c).flushed 7 t = ((cfg1.win 7).blk t).view.read (Elt Ideal) (whole0 m c) ∧
    (dat1 (V2 m ρ) c).flushed 8 t = ((cfg1.win 8).blk t).view.read (Elt Ideal) (whole1 m c) ∧
    (dat1 (V2 m ρ) c).flushed 9 t = ((cfg1.win 9).blk t).view.read (Elt Ideal) (whole2 m c) ∧
    (dat1 (V2 m ρ) c).flushed 10 t = ((cfg1.win 10).blk t).view.read (Elt Ideal) (whole3 m c) := by
  have hb := bound1 t
  have a7 := output1 t
  refine ⟨(entry7 m ρ c t).trans ?_, (entry8 m ρ c t).trans ?_, (entry9 m ρ c t).trans ?_, (entry10 m ρ c t).trans ?_⟩ <;>
    (funext y
     idx_vars y
     obtain rfl : y0 = 0 := Subsingleton.elim _ _
     rw [View.read_apply]
     obtain ⟨r, hr⟩ : ∃ r : Fin 2048, r.val = t.val * 256 + y1.val := ⟨⟨_, by omega⟩, rfl⟩
     have h := read1 m ρ c t y1 y2 r hr)
  · exact chain (step7 ..) (h _) (reference7 ..).1 (slab (whole0 m c) _ 0 r a7 hr rfl rfl rfl)
  · exact chain (step8 ..) (h _) (reference8 ..).1 (slab (whole1 m c) _ 0 r a7 hr rfl rfl rfl)
  · exact chain (step9 ..) (h _) (reference9 ..).1 (slab (whole2 m c) _ 0 r a7 hr rfl rfl rfl)
  · exact chain (step10 ..) (h _) (reference10 ..).1 (slab (whole3 m c) _ 0 r a7 hr rfl rfl rfl)

theorem covered1 (i : S2x2048x896.Idx) (h : (i 0).val = 0) : ∃ t : Fin cfg1.N, i ∈ ((cfg1.win 7).blk t).view.set :=
  reach (T := 256) (fun t ht => View.set_slice_whole main_v1_0 (win1_7.rect t) ▸ Rect.mem_set_unit.mpr ht) output1 h (congrArg (256 * ·) N_1.symm) fun _ => ⟨rfl, rfl, rfl, rfl, rfl, rfl⟩

theorem away (i : S2x2048x896.Idx) (h : ¬(i 0).val = 0) (t : Fin cfg1.N) : i ∉ ((cfg1.win 7).blk t).view.set := fun hm =>
  apart (output1 t) h (Rect.mem_set_unit.mp (View.set_slice_whole main_v1_0 (win1_7.rect t) ▸ hm : i ∈ (win1_7.rect t).set) 0)

/-- The second call's results start as the first call's. -/
theorem handed (c : Dev nD) : W2 m ρ c (Proc.devRef .tc main_v1_0) = W1 m ρ c (Proc.devRef .tc main_v0_0) ∧ W2 m ρ c (Proc.devRef .tc main_v1_1) = W1 m ρ c (Proc.devRef .tc main_v0_1) ∧ W2 m ρ c (Proc.devRef .tc main_v1_2) = W1 m ρ c (Proc.devRef .tc main_v0_2) ∧ W2 m ρ c (Proc.devRef .tc main_v1_3) = W1 m ρ c (Proc.devRef .tc main_v0_3) := by
  refine ⟨?_, ?_, ?_, ?_⟩ <;> (show StableHlo.after hostOps1 (W1 m ρ c) _ = _; after_results_simp <;> rfl)

theorem results (c : Dev nD) : W3 m ρ c (Proc.devRef .tc main_v1_0) = whole0 m c ∧ W3 m ρ c (Proc.devRef .tc main_v1_1) = whole1 m c ∧ W3 m ρ c (Proc.devRef .tc main_v1_2) = whole2 m c ∧ W3 m ρ c (Proc.devRef .tc main_v1_3) = whole3 m c :=
  ⟨(W3_arr m ρ c 7).trans (Runs.joined (dat1 (V2 m ρ) c) 7 (whole0 m c) (fun t => (flushed1 m ρ c t).1) flush1_7 covered1 away fun i h => (congrFun ((A_eq1 (V2 m ρ) c 7).trans ((handed m ρ c).1.trans (W1_arr m ρ c 7))) i).trans
      (Runs.covered (dat0 (V0 m ρ) c) 7 (whole0 m c) (fun t => (flushed0 m ρ c t).1) flush0_7 (covered0 i h))),
    (W3_arr m ρ c 8).trans (Runs.joined (dat1 (V2 m ρ) c) 8 (whole1 m c) (fun t => (flushed1 m ρ c t).2.1) flush1_8 covered1 away fun i h => (congrFun ((A_eq1 (V2 m ρ) c 8).trans ((handed m ρ c).2.1.trans (W1_arr m ρ c 8))) i).trans
      (Runs.covered (dat0 (V0 m ρ) c) 8 (whole1 m c) (fun t => (flushed0 m ρ c t).2.1) flush0_8 (covered0 i h))),
    (W3_arr m ρ c 9).trans (Runs.joined (dat1 (V2 m ρ) c) 9 (whole2 m c) (fun t => (flushed1 m ρ c t).2.2.1) flush1_9 covered1 away fun i h => (congrFun ((A_eq1 (V2 m ρ) c 9).trans ((handed m ρ c).2.2.1.trans (W1_arr m ρ c 9))) i).trans
      (Runs.covered (dat0 (V0 m ρ) c) 9 (whole2 m c) (fun t => (flushed0 m ρ c t).2.2.1) flush0_9 (covered0 i h))),
    (W3_arr m ρ c 10).trans (Runs.joined (dat1 (V2 m ρ) c) 10 (whole3 m c) (fun t => (flushed1 m ρ c t).2.2.2) flush1_10 covered1 away fun i h => (congrFun ((A_eq1 (V2 m ρ) c 10).trans ((handed m ρ c).2.2.2.trans (W1_arr m ρ c 10))) i).trans
      (Runs.covered (dat0 (V0 m ρ) c) 10 (whole3 m c) (fun t => (flushed0 m ρ c t).2.2.2) flush0_10 (covered0 i h)))⟩

set_option backward.isDefEq.respectTransparency.types false in
/-- Every run ends with the last boundary's contents in every buffer the arguments and results live in. -/
theorem run : θ_run defs (onTc (τ := τ) (main (F := Ideal))) ⟨m, fun _ => 0, ρ⟩ (fun r => ∀ c : Dev nD,
    ∀ b ∈ Pipeline.ucRefs τ sig, r.2.mem ((c : Dev nD), b) = W3 m ρ c b) :=
  Runs.run pcfgs adm (pdats m ρ) cellOf_inj defs₀ m ρ main (segs m ρ) (main_run m ρ)
  (by simp only [segs, Pipeline.Seg.pipes_host, Pipeline.Seg.pipes_region, Pipeline.Seg.pipes_nil]; decide)
  (W3 m ρ) ⟨fun _ => .rfl, fun _ => .rfl, fun _ => .rfl, fun _ => .rfl⟩

end Cert.AdamInIdeal.Product

namespace Cert.AdamInClaims

open Idealize.ShloMosaic Idealize.ShloMosaic.TcCoe Idealize.SL.Sem Cert.AdamInIdeal Cert.AdamInIdeal.Gen Cert.AdamInRefIdeal.Read

theorem frame_p : Cert.quiescent_AdamIn := fun m ρ _ => Cert.AdamIn.Gen.frame m ρ
theorem frame_pi : Cert.quiescent_AdamInIdeal := fun m ρ _ => Cert.AdamInIdeal.Gen.frame m ρ
theorem frame_ri : Cert.quiescent_AdamInRefIdeal := fun m ρ _ =>
  (θ_run _ _ _).mono (fun r h => ⟨fun c => (h c).2.2.2.2, sem_eq_zero_of_no_sems (by decide) r.2⟩) (Cert.AdamInRefIdeal.Value.run (F := Ideal) m ρ)

theorem preserves : Cert.preserves_AdamIn_AdamInIdeal := trivial

theorem algebraic : Cert.algebraic_AdamInIdeal_AdamInRefIdeal := fun m ρ m' ρ' _ hag =>
  ⟨fun c => Product.whole0 m c, fun c => Product.whole1 m c, fun c => Product.whole2 m c, fun c => Product.whole3 m c,
    (θ_run _ _ _).mono (fun r h c => ⟨(h c _ (mem_uc _ (by decide))).trans (Product.results m ρ c).1,
      (h c _ (mem_uc _ (by decide))).trans (Product.results m ρ c).2.1,
      (h c _ (mem_uc _ (by decide))).trans (Product.results m ρ c).2.2.1,
      (h c _ (mem_uc _ (by decide))).trans (Product.results m ρ c).2.2.2,
      (h c _ (mem_uc _ (by decide))).trans (W3_main_arg0 m ρ c),
      (h c _ (mem_uc _ (by decide))).trans (W3_main_arg1 m ρ c),
      (h c _ (mem_uc _ (by decide))).trans (W3_main_arg2 m ρ c),
      (h c _ (mem_uc _ (by decide))).trans (W3_main_arg3 m ρ c),
      (h c _ (mem_uc _ (by decide))).trans (W3_main_arg4 m ρ c)⟩)
      (Product.run m ρ),
    (θ_run _ _ _).mono (fun r h c => ⟨(h c).1.trans (by rw [val_main_v6_eq, (hag c).1, (hag c).2.1]; rfl),
      (h c).2.1.trans (by rw [val_main_v30_eq, (hag c).1, (hag c).2.1, (hag c).2.2.1, (hag c).2.2.2.1, (hag c).2.2.2.2]; rfl),
      (h c).2.2.1.trans (by rw [val_main_v11_eq, (hag c).1, (hag c).2.1, (hag c).2.2.2.1]; rfl),
      (h c).2.2.2.1.trans (by rw [val_main_v17_eq, (hag c).1, (hag c).2.1, (hag c).2.2.2.2]; rfl), (h c).2.2.2.2⟩)
      (Cert.AdamInRefIdeal.Value.run (F := Ideal) m' ρ')⟩

end Cert.AdamInClaims
end
-- ==== Proof.AdamKvProduct.lean ====
/-
  The optimiser's step on both layers' weights of the keys and values.
-/
module

public import proofs.«01_k».proof.Defs
public import proofs.«01_k».proof.Proof.Gen.AdamKv.Frame
public import proofs.«01_k».proof.Proof.Gen.AdamKvIdeal.Frame
public import proofs.«01_k».proof.Proof.Gen.AdamKvRefIdeal.Read
public import proofs.«01_k».proof.Proof.Runs
public import proofs.«01_k».proof.Proof.AdamStep
public import proofs.«01_k».proof.Proof.Zeros

@[expose] public section

set_option maxRecDepth 16384

noncomputable section

namespace Cert.AdamKvIdeal.Product

open Cert.AdamKvIdeal Cert.AdamKvIdeal.Gen Idealize.ShloMosaic Idealize.ShloMosaic.TcCoe Idealize.SL.Sem
open Cert.AdamStep Cert.AdamKvRefIdeal.Read

local notation "Part" => Vec Ideal S1x512x512 EltTy.bf16
abbrev PartRef := Memref sig .tc .vmem S1x512x512 EltTy.bf16
abbrev BlockRef := Memref sig .tc .vmem S1x512x512 EltTy.f32
local notation "Block" => Vec Ideal S1x512x512 EltTy.f32
local notation "Parts" => Vec Ideal S4x2048x512 EltTy.bf16
local notation "Whole" => Vec Ideal S2x2048x512 EltTy.f32

variable (m : (ℓ : Loc nD τ sig) → Buf (Elt Ideal) ℓ) (ρ : Dev nD → PrngReg)

abbrev arr0 (c : Dev nD) : Parts := m ((c : Thread nD τ).loc main_arg0)
abbrev arr1 (c : Dev nD) : Parts := m ((c : Thread nD τ).loc main_arg1)
abbrev arr2 (c : Dev nD) : Whole := m ((c : Thread nD τ).loc main_arg2)
abbrev arr3 (c : Dev nD) : Whole := m ((c : Thread nD τ).loc main_arg3)
abbrev arr4 (c : Dev nD) : Whole := m ((c : Thread nD τ).loc main_arg4)
def whole0 (c : Dev nD) : Whole := val_main_v6 (F := Ideal) (arr0 m c) (arr1 m c)
def whole1 (c : Dev nD) : Whole := val_main_v30 (F := Ideal) (arr0 m c) (arr1 m c) (arr2 m c) (arr3 m c) (arr4 m c)
def whole2 (c : Dev nD) : Whole := val_main_v11 (F := Ideal) (arr0 m c) (arr1 m c) (arr3 m c)
def whole3 (c : Dev nD) : Whole := val_main_v17 (F := Ideal) (arr0 m c) (arr1 m c) (arr4 m c)

section
variable (x0 x1 x2 x3 : Part) (x4 x5 x6 : Block)

abbrev pt (y1 : Fin 512) (y2 : Fin 512) (f : Step) : EReal :=
  f (x0 (ix3 0 y1 y2)) (x1 (ix3 0 y1 y2)) (x2 (ix3 0 y1 y2)) (x3 (ix3 0 y1 y2)) (x4 (ix3 0 y1 y2)) (x5 (ix3 0 y1 y2)) (x6 (ix3 0 y1 y2))

theorem step7 (y1 : Fin 512) (y2 : Fin 512) : out0_7 x0 x1 x2 x3 x4 x5 x6 (ix3 0 y1 y2) = pt x0 x1 x2 x3 x4 x5 x6 y1 y2 grad := by
  unfold out0_7
  rw [View.canon_unit_zero zeros3]
  unfold k0_pay5 k0_pay1
  simp only [View.ld_unit_zero (S := S1x512x512) zeros3]
  pointwise
  simp only [pt, grad, ← add_assoc]

theorem step8 (y1 : Fin 512) (y2 : Fin 512) : out0_8 x0 x1 x2 x3 x4 x5 x6 (ix3 0 y1 y2) = pt x0 x1 x2 x3 x4 x5 x6 y1 y2 delta := by
  unfold out0_8
  rw [View.canon_unit_zero zeros3]
  unfold k0_pay9 k0_pay11 k0_pay8 k0_pay10 k0_pay7 k0_pay5 k0_pay6 k0_pay2
  simp only [View.ld_unit_zero (S := S1x512x512) zeros3]
  pointwise
  simp only [pt, delta, mean, square, ← add_assoc]

theorem step9 (y1 : Fin 512) (y2 : Fin 512) : out0_9 x0 x1 x2 x3 x4 x5 x6 (ix3 0 y1 y2) = pt x0 x1 x2 x3 x4 x5 x6 y1 y2 mean := by
  unfold out0_9
  rw [View.canon_unit_zero zeros3]
  unfold k0_pay10 k0_pay7 k0_pay5 k0_pay3
  simp only [View.ld_unit_zero (S := S1x512x512) zeros3]
  pointwise
  simp only [pt, mean, ← add_assoc]

theorem step10 (y1 : Fin 512) (y2 : Fin 512) : out0_10 x0 x1 x2 x3 x4 x5 x6 (ix3 0 y1 y2) = pt x0 x1 x2 x3 x4 x5 x6 y1 y2 square := by
  unfold out0_10
  rw [View.canon_unit_zero zeros3]
  unfold k0_pay11 k0_pay8 k0_pay5 k0_pay4
  simp only [View.ld_unit_zero (S := S1x512x512) zeros3]
  pointwise
  simp only [pt, square, ← add_assoc]

variable (c : Dev nD) (i : grid1.Coords) (p1 p2 p3 p4 : PartRef) (p5 p6 p7 p8 p9 p10 p11 : BlockRef) (h1 : p1.IsWhole) (h2 : p2.IsWhole) (h3 : p3.IsWhole) (h4 : p4.IsWhole) (h5 : p5.IsWhole) (h6 : p6.IsWhole) (h7 : p7.IsWhole) (h8 : p8.IsWhole) (h9 : p9.IsWhole) (h10 : p10.IsWhole) (h11 : p11.IsWhole)

set_option maxHeartbeats 1000000 in
theorem last : out1_A_7 c i p1 h1 p2 h2 p3 h3 p4 h4 p5 h5 p6 h6 p7 h7 p8 h8 p9 h9 p10 h10 p11 h11 x0 x1 x2 x3 x4 x5 x6 = out0_7 x0 x1 x2 x3 x4 x5 x6 ∧
    out1_A_8 c i p1 h1 p2 h2 p3 h3 p4 h4 p5 h5 p6 h6 p7 h7 p8 h8 p9 h9 p10 h10 p11 h11 x0 x1 x2 x3 x4 x5 x6 = out0_8 x0 x1 x2 x3 x4 x5 x6 ∧
    out1_A_9 c i p1 h1 p2 h2 p3 h3 p4 h4 p5 h5 p6 h6 p7 h7 p8 h8 p9 h9 p10 h10 p11 h11 x0 x1 x2 x3 x4 x5 x6 = out0_9 x0 x1 x2 x3 x4 x5 x6 ∧
    out1_A_10 c i p1 h1 p2 h2 p3 h3 p4 h4 p5 h5 p6 h6 p7 h7 p8 h8 p9 h9 p10 h10 p11 h11 x0 x1 x2 x3 x4 x5 x6 = out0_10 x0 x1 x2 x3 x4 x5 x6 := by
  unfold out1_A_7 out1_A_8 out1_A_9 out1_A_10
  rw [View.read_writes_eq_canon _ _ _ (fun _ => cover1_A_7 ..), View.read_writes_eq_canon _ _ _ (fun _ => cover1_A_8 ..), View.read_writes_eq_canon _ _ _ (fun _ => cover1_A_9 ..), View.read_writes_eq_canon _ _ _ (fun _ => cover1_A_10 ..)]
  unfold kernelRun1_A
  dsimp only
  sl_unfold_words
  unfold out0_7 out0_8 out0_9 out0_10
  simp only [View.canon_unit_zero (S := S1x512x512) zeros3, View.readAt_eq_ld, h1.read_unread, h2.read_unread, h3.read_unread, h4.read_unread, h5.read_unread, h6.read_unread, h7.read_unread]
  exact ⟨rfl, rfl, rfl, rfl⟩

end

/-- A function of the second call's blocks at a point. -/
abbrev on (c : Dev nD) (t : Fin cfg1.N) (f : Part → Part → Part → Part → Block → Block → Block → Block) : Block :=
  f (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t)

theorem entry7 (c : Dev nD) (t : Fin cfg1.N) : (dat1 (V2 m ρ) c).after 7 t = on m ρ c t out0_7 := by
  rw [after1_7]; unfold outsAt1; dsimp only; rw [(last ..).1]
theorem entry8 (c : Dev nD) (t : Fin cfg1.N) : (dat1 (V2 m ρ) c).after 8 t = on m ρ c t out0_8 := by
  rw [after1_8]; unfold outsAt1; dsimp only; rw [(last ..).2.1]
theorem entry9 (c : Dev nD) (t : Fin cfg1.N) : (dat1 (V2 m ρ) c).after 9 t = on m ρ c t out0_9 := by
  rw [after1_9]; unfold outsAt1; dsimp only; rw [(last ..).2.2.1]
theorem entry10 (c : Dev nD) (t : Fin cfg1.N) : (dat1 (V2 m ρ) c).after 10 t = on m ρ c t out0_10 := by
  rw [after1_10]; unfold outsAt1; dsimp only; rw [(last ..).2.2.2]

section
variable (a0 a1 : Parts) (a2 a3 a4 : Whole) (r : Fin 2048) (s : Fin 512)
abbrev lay (l : Fin 2) (f : Step) : EReal :=
  f (a0 (ix3 0 r s)) (a0 (ix3 1 r s)) (a0 (ix3 2 r s)) (a0 (ix3 3 r s)) (a2 (ix3 l r s)) (a3 (ix3 l r s)) (a4 (ix3 l r s))

theorem reference7 : val_main_v6 (F := Ideal) a0 a1 (ix3 0 r s) = lay a0 a2 a3 a4 r s 0 grad ∧
    val_main_v6 (F := Ideal) a0 a1 (ix3 1 r s) = lay a1 a2 a3 a4 r s 1 grad := by
  unfold val_main_v6 val_main_v5 val_main_v3 val_main_cst_0 val_main_v2 val_main_v4 val_main_v1 val_main_cst val_main_v0
  constructor <;> pointwise <;> simp only [lay, grad, Fin.sum_univ_four, Fin.isValue, zero_add]

theorem reference9 : val_main_v11 (F := Ideal) a0 a1 a3 (ix3 0 r s) = lay a0 a2 a3 a4 r s 0 mean ∧
    val_main_v11 (F := Ideal) a0 a1 a3 (ix3 1 r s) = lay a1 a2 a3 a4 r s 1 mean := by
  unfold val_main_v11 val_main_v10 val_main_v9 val_main_cst_2 val_main_v8 val_main_v7 val_main_cst_1
  constructor <;> pointwise <;> simp only [lay, mean, grad, reference7 a0 a1 a2 a3 a4 r s]

theorem reference10 : val_main_v17 (F := Ideal) a0 a1 a4 (ix3 0 r s) = lay a0 a2 a3 a4 r s 0 square ∧
    val_main_v17 (F := Ideal) a0 a1 a4 (ix3 1 r s) = lay a1 a2 a3 a4 r s 1 square := by
  unfold val_main_v17 val_main_v16 val_main_v14 val_main_v15 val_main_cst_4 val_main_v13 val_main_v12 val_main_cst_3
  constructor <;> pointwise <;> simp only [lay, square, grad, reference7 a0 a1 a2 a3 a4 r s]

theorem reference8 : val_main_v30 (F := Ideal) a0 a1 a2 a3 a4 (ix3 0 r s) = lay a0 a2 a3 a4 r s 0 delta ∧
    val_main_v30 (F := Ideal) a0 a1 a2 a3 a4 (ix3 1 r s) = lay a1 a2 a3 a4 r s 1 delta := by
  unfold val_main_v30 val_main_v28 val_main_v27 val_main_v26 val_main_cst_8 val_main_v25 val_main_v24 val_main_v23 val_main_cst_7 val_main_v22 val_main_v21 val_main_v20 val_main_cst_6 val_main_v19 val_main_v18 val_main_cst_5 val_main_v29 val_main_cst_9
  constructor <;> pointwise <;> simp only [lay, delta, reference9 a0 a1 a2 a3 a4 r s, reference10 a0 a1 a2 a3 a4 r s]

end

theorem bound0 (t : Fin cfg0.N) : t.val < 4 := t.isLt.trans_eq N_0

theorem inputs0 : ∀ t : Fin cfg0.N, win0_0.index t = ![0, t.val, 0] ∧ win0_1.index t = ![1, t.val, 0] ∧ win0_2.index t = ![2, t.val, 0] ∧ win0_3.index t = ![3, t.val, 0] ∧ win0_4.index t = ![1, t.val, 0] ∧ win0_5.index t = ![1, t.val, 0] ∧ win0_6.index t = ![1, t.val, 0] := by
  intro (t : Fin grid0.N); revert t; decide +kernel

theorem output0 : ∀ t : Fin cfg0.N, win0_7.index t = ![1, t.val, 0] := by
  intro (t : Fin grid0.N); revert t; decide +kernel

theorem read0 (c : Dev nD) (t : Fin cfg0.N) (y1 : Fin 512) (y2 : Fin 512) (r : Fin 2048) (hr : r.val = t.val * 512 + y1.val) (f : Step) :
    pt (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) y1 y2 f = lay (arr1 m c) (arr2 m c) (arr3 m c) (arr4 m c) r y2 1 f := by
  obtain ⟨a0, a1, a2, a3, a4, a5, a6⟩ := inputs0 t
  refine seven f ?_ ?_ ?_ ?_ ?_ ?_ ?_ <;> unfold iblk0 <;> rw [View.read_apply]
  · exact slab (arr1 m c) _ _ r a0 hr rfl rfl rfl
  · exact slab (arr1 m c) _ _ r a1 hr rfl rfl rfl
  · exact slab (arr1 m c) _ _ r a2 hr rfl rfl rfl
  · exact slab (arr1 m c) _ _ r a3 hr rfl rfl rfl
  · exact slab (arr2 m c) _ _ r a4 hr rfl rfl rfl
  · exact slab (arr3 m c) _ _ r a5 hr rfl rfl rfl
  · exact slab (arr4 m c) _ _ r a6 hr rfl rfl rfl

theorem flushed0 (c : Dev nD) (t : Fin cfg0.N) : (dat0 (V0 m ρ) c).flushed 7 t = ((cfg0.win 7).blk t).view.read (Elt Ideal) (whole0 m c) ∧
    (dat0 (V0 m ρ) c).flushed 8 t = ((cfg0.win 8).blk t).view.read (Elt Ideal) (whole1 m c) ∧
    (dat0 (V0 m ρ) c).flushed 9 t = ((cfg0.win 9).blk t).view.read (Elt Ideal) (whole2 m c) ∧
    (dat0 (V0 m ρ) c).flushed 10 t = ((cfg0.win 10).blk t).view.read (Elt Ideal) (whole3 m c) := by
  have hb := bound0 t
  have a7 := output0 t
  refine ⟨(after0_7 (V0 m ρ) c t).trans ?_, (after0_8 (V0 m ρ) c t).trans ?_, (after0_9 (V0 m ρ) c t).trans ?_, (after0_10 (V0 m ρ) c t).trans ?_⟩ <;>
    (funext y
     idx_vars y
     obtain rfl : y0 = 0 := Subsingleton.elim _ _
     rw [View.read_apply]
     obtain ⟨r, hr⟩ : ∃ r : Fin 2048, r.val = t.val * 512 + y1.val := ⟨⟨_, by omega⟩, rfl⟩
     have h := read0 m ρ c t y1 y2 r hr)
  · exact chain (step7 ..) (h _) (reference7 ..).2 (slab (whole0 m c) _ 1 r a7 hr rfl rfl rfl)
  · exact chain (step8 ..) (h _) (reference8 ..).2 (slab (whole1 m c) _ 1 r a7 hr rfl rfl rfl)
  · exact chain (step9 ..) (h _) (reference9 ..).2 (slab (whole2 m c) _ 1 r a7 hr rfl rfl rfl)
  · exact chain (step10 ..) (h _) (reference10 ..).2 (slab (whole3 m c) _ 1 r a7 hr rfl rfl rfl)

theorem covered0 (i : S2x2048x512.Idx) (h : ¬(i 0).val = 0) : ∃ t : Fin cfg0.N, i ∈ ((cfg0.win 7).blk t).view.set :=
  reach (T := 512) (fun t ht => View.set_slice_whole main_v0_0 (win0_7.rect t) ▸ Rect.mem_set_unit.mpr ht) output0 (by have h0 : (i 0).val < 2 := (i 0).isLt; omega) (congrArg (512 * ·) N_0.symm) fun _ => ⟨rfl, rfl, rfl, rfl, rfl, rfl⟩

theorem bound1 (t : Fin cfg1.N) : t.val < 4 := t.isLt.trans_eq N_1

theorem inputs1 : ∀ t : Fin cfg1.N, win1_0.index t = ![0, t.val, 0] ∧ win1_1.index t = ![1, t.val, 0] ∧ win1_2.index t = ![2, t.val, 0] ∧ win1_3.index t = ![3, t.val, 0] ∧ win1_4.index t = ![0, t.val, 0] ∧ win1_5.index t = ![0, t.val, 0] ∧ win1_6.index t = ![0, t.val, 0] := by
  intro (t : Fin grid1.N); revert t; decide +kernel

theorem output1 : ∀ t : Fin cfg1.N, win1_7.index t = ![0, t.val, 0] := by
  intro (t : Fin grid1.N); revert t; decide +kernel

theorem read1 (c : Dev nD) (t : Fin cfg1.N) (y1 : Fin 512) (y2 : Fin 512) (r : Fin 2048) (hr : r.val = t.val * 512 + y1.val) (f : Step) :
    pt (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) y1 y2 f = lay (arr0 m c) (arr2 m c) (arr3 m c) (arr4 m c) r y2 0 f := by
  obtain ⟨a0, a1, a2, a3, a4, a5, a6⟩ := inputs1 t
  have p := congrFun (W2_args m ρ c main_arg0 (by decide))
  refine seven f ?_ ?_ ?_ ?_ ?_ ?_ ?_ <;> unfold iblk1 <;> rw [View.read_apply]
  · exact (p _).trans (slab (arr0 m c) _ _ r a0 hr rfl rfl rfl)
  · exact (p _).trans (slab (arr0 m c) _ _ r a1 hr rfl rfl rfl)
  · exact (p _).trans (slab (arr0 m c) _ _ r a2 hr rfl rfl rfl)
  · exact (p _).trans (slab (arr0 m c) _ _ r a3 hr rfl rfl rfl)
  · exact (congrFun (W2_args m ρ c main_arg2 (by decide)) _).trans (slab (arr2 m c) _ _ r a4 hr rfl rfl rfl)
  · exact (congrFun (W2_args m ρ c main_arg3 (by decide)) _).trans (slab (arr3 m c) _ _ r a5 hr rfl rfl rfl)
  · exact (congrFun (W2_args m ρ c main_arg4 (by decide)) _).trans (slab (arr4 m c) _ _ r a6 hr rfl rfl rfl)

theorem flushed1 (c : Dev nD) (t : Fin cfg1.N) : (dat1 (V2 m ρ) c).flushed 7 t = ((cfg1.win 7).blk t).view.read (Elt Ideal) (whole0 m c) ∧
    (dat1 (V2 m ρ) c).flushed 8 t = ((cfg1.win 8).blk t).view.read (Elt Ideal) (whole1 m c) ∧
    (dat1 (V2 m ρ) c).flushed 9 t = ((cfg1.win 9).blk t).view.read (Elt Ideal) (whole2 m c) ∧
    (dat1 (V2 m ρ) c).flushed 10 t = ((cfg1.win 10).blk t).view.read (Elt Ideal) (whole3 m c) := by
  have hb := bound1 t
  have a7 := output1 t
  refine ⟨(entry7 m ρ c t).trans ?_, (entry8 m ρ c t).trans ?_, (entry9 m ρ c t).trans ?_, (entry10 m ρ c t).trans ?_⟩ <;>
    (funext y
     idx_vars y
     obtain rfl : y0 = 0 := Subsingleton.elim _ _
     rw [View.read_apply]
     obtain ⟨r, hr⟩ : ∃ r : Fin 2048, r.val = t.val * 512 + y1.val := ⟨⟨_, by omega⟩, rfl⟩
     have h := read1 m ρ c t y1 y2 r hr)
  · exact chain (step7 ..) (h _) (reference7 ..).1 (slab (whole0 m c) _ 0 r a7 hr rfl rfl rfl)
  · exact chain (step8 ..) (h _) (reference8 ..).1 (slab (whole1 m c) _ 0 r a7 hr rfl rfl rfl)
  · exact chain (step9 ..) (h _) (reference9 ..).1 (slab (whole2 m c) _ 0 r a7 hr rfl rfl rfl)
  · exact chain (step10 ..) (h _) (reference10 ..).1 (slab (whole3 m c) _ 0 r a7 hr rfl rfl rfl)

theorem covered1 (i : S2x2048x512.Idx) (h : (i 0).val = 0) : ∃ t : Fin cfg1.N, i ∈ ((cfg1.win 7).blk t).view.set :=
  reach (T := 512) (fun t ht => View.set_slice_whole main_v1_0 (win1_7.rect t) ▸ Rect.mem_set_unit.mpr ht) output1 h (congrArg (512 * ·) N_1.symm) fun _ => ⟨rfl, rfl, rfl, rfl, rfl, rfl⟩

theorem away (i : S2x2048x512.Idx) (h : ¬(i 0).val = 0) (t : Fin cfg1.N) : i ∉ ((cfg1.win 7).blk t).view.set := fun hm =>
  apart (output1 t) h (Rect.mem_set_unit.mp (View.set_slice_whole main_v1_0 (win1_7.rect t) ▸ hm : i ∈ (win1_7.rect t).set) 0)

/-- The second call's results start as the first call's. -/
theorem handed (c : Dev nD) : W2 m ρ c (Proc.devRef .tc main_v1_0) = W1 m ρ c (Proc.devRef .tc main_v0_0) ∧ W2 m ρ c (Proc.devRef .tc main_v1_1) = W1 m ρ c (Proc.devRef .tc main_v0_1) ∧ W2 m ρ c (Proc.devRef .tc main_v1_2) = W1 m ρ c (Proc.devRef .tc main_v0_2) ∧ W2 m ρ c (Proc.devRef .tc main_v1_3) = W1 m ρ c (Proc.devRef .tc main_v0_3) := by
  refine ⟨?_, ?_, ?_, ?_⟩ <;> (show StableHlo.after hostOps1 (W1 m ρ c) _ = _; after_results_simp <;> rfl)

theorem results (c : Dev nD) : W3 m ρ c (Proc.devRef .tc main_v1_0) = whole0 m c ∧ W3 m ρ c (Proc.devRef .tc main_v1_1) = whole1 m c ∧ W3 m ρ c (Proc.devRef .tc main_v1_2) = whole2 m c ∧ W3 m ρ c (Proc.devRef .tc main_v1_3) = whole3 m c :=
  ⟨(W3_arr m ρ c 7).trans (Runs.joined (dat1 (V2 m ρ) c) 7 (whole0 m c) (fun t => (flushed1 m ρ c t).1) flush1_7 covered1 away fun i h => (congrFun ((A_eq1 (V2 m ρ) c 7).trans ((handed m ρ c).1.trans (W1_arr m ρ c 7))) i).trans
      (Runs.covered (dat0 (V0 m ρ) c) 7 (whole0 m c) (fun t => (flushed0 m ρ c t).1) flush0_7 (covered0 i h))),
    (W3_arr m ρ c 8).trans (Runs.joined (dat1 (V2 m ρ) c) 8 (whole1 m c) (fun t => (flushed1 m ρ c t).2.1) flush1_8 covered1 away fun i h => (congrFun ((A_eq1 (V2 m ρ) c 8).trans ((handed m ρ c).2.1.trans (W1_arr m ρ c 8))) i).trans
      (Runs.covered (dat0 (V0 m ρ) c) 8 (whole1 m c) (fun t => (flushed0 m ρ c t).2.1) flush0_8 (covered0 i h))),
    (W3_arr m ρ c 9).trans (Runs.joined (dat1 (V2 m ρ) c) 9 (whole2 m c) (fun t => (flushed1 m ρ c t).2.2.1) flush1_9 covered1 away fun i h => (congrFun ((A_eq1 (V2 m ρ) c 9).trans ((handed m ρ c).2.2.1.trans (W1_arr m ρ c 9))) i).trans
      (Runs.covered (dat0 (V0 m ρ) c) 9 (whole2 m c) (fun t => (flushed0 m ρ c t).2.2.1) flush0_9 (covered0 i h))),
    (W3_arr m ρ c 10).trans (Runs.joined (dat1 (V2 m ρ) c) 10 (whole3 m c) (fun t => (flushed1 m ρ c t).2.2.2) flush1_10 covered1 away fun i h => (congrFun ((A_eq1 (V2 m ρ) c 10).trans ((handed m ρ c).2.2.2.trans (W1_arr m ρ c 10))) i).trans
      (Runs.covered (dat0 (V0 m ρ) c) 10 (whole3 m c) (fun t => (flushed0 m ρ c t).2.2.2) flush0_10 (covered0 i h)))⟩

set_option backward.isDefEq.respectTransparency.types false in
/-- Every run ends with the last boundary's contents in every buffer the arguments and results live in. -/
theorem run : θ_run defs (onTc (τ := τ) (main (F := Ideal))) ⟨m, fun _ => 0, ρ⟩ (fun r => ∀ c : Dev nD,
    ∀ b ∈ Pipeline.ucRefs τ sig, r.2.mem ((c : Dev nD), b) = W3 m ρ c b) :=
  Runs.run pcfgs adm (pdats m ρ) cellOf_inj defs₀ m ρ main (segs m ρ) (main_run m ρ)
  (by simp only [segs, Pipeline.Seg.pipes_host, Pipeline.Seg.pipes_region, Pipeline.Seg.pipes_nil]; decide)
  (W3 m ρ) ⟨fun _ => .rfl, fun _ => .rfl, fun _ => .rfl, fun _ => .rfl⟩

end Cert.AdamKvIdeal.Product

namespace Cert.AdamKvClaims

open Idealize.ShloMosaic Idealize.ShloMosaic.TcCoe Idealize.SL.Sem Cert.AdamKvIdeal Cert.AdamKvIdeal.Gen Cert.AdamKvRefIdeal.Read

theorem frame_p : Cert.quiescent_AdamKv := fun m ρ _ => Cert.AdamKv.Gen.frame m ρ
theorem frame_pi : Cert.quiescent_AdamKvIdeal := fun m ρ _ => Cert.AdamKvIdeal.Gen.frame m ρ
theorem frame_ri : Cert.quiescent_AdamKvRefIdeal := fun m ρ _ =>
  (θ_run _ _ _).mono (fun r h => ⟨fun c => (h c).2.2.2.2, sem_eq_zero_of_no_sems (by decide) r.2⟩) (Cert.AdamKvRefIdeal.Value.run (F := Ideal) m ρ)

theorem preserves : Cert.preserves_AdamKv_AdamKvIdeal := trivial

theorem algebraic : Cert.algebraic_AdamKvIdeal_AdamKvRefIdeal := fun m ρ m' ρ' _ hag =>
  ⟨fun c => Product.whole0 m c, fun c => Product.whole1 m c, fun c => Product.whole2 m c, fun c => Product.whole3 m c,
    (θ_run _ _ _).mono (fun r h c => ⟨(h c _ (mem_uc _ (by decide))).trans (Product.results m ρ c).1,
      (h c _ (mem_uc _ (by decide))).trans (Product.results m ρ c).2.1,
      (h c _ (mem_uc _ (by decide))).trans (Product.results m ρ c).2.2.1,
      (h c _ (mem_uc _ (by decide))).trans (Product.results m ρ c).2.2.2,
      (h c _ (mem_uc _ (by decide))).trans (W3_main_arg0 m ρ c),
      (h c _ (mem_uc _ (by decide))).trans (W3_main_arg1 m ρ c),
      (h c _ (mem_uc _ (by decide))).trans (W3_main_arg2 m ρ c),
      (h c _ (mem_uc _ (by decide))).trans (W3_main_arg3 m ρ c),
      (h c _ (mem_uc _ (by decide))).trans (W3_main_arg4 m ρ c)⟩)
      (Product.run m ρ),
    (θ_run _ _ _).mono (fun r h c => ⟨(h c).1.trans (by rw [val_main_v6_eq, (hag c).1, (hag c).2.1]; rfl),
      (h c).2.1.trans (by rw [val_main_v30_eq, (hag c).1, (hag c).2.1, (hag c).2.2.1, (hag c).2.2.2.1, (hag c).2.2.2.2]; rfl),
      (h c).2.2.1.trans (by rw [val_main_v11_eq, (hag c).1, (hag c).2.1, (hag c).2.2.2.1]; rfl),
      (h c).2.2.2.1.trans (by rw [val_main_v17_eq, (hag c).1, (hag c).2.1, (hag c).2.2.2.2]; rfl), (h c).2.2.2.2⟩)
      (Cert.AdamKvRefIdeal.Value.run (F := Ideal) m' ρ')⟩

end Cert.AdamKvClaims
end
-- ==== Proof.AdamOutProduct.lean ====
/-
  The optimiser's step on both layers' weights of the projection out.
-/
module

public import proofs.«01_k».proof.Defs
public import proofs.«01_k».proof.Proof.Gen.AdamOut.Frame
public import proofs.«01_k».proof.Proof.Gen.AdamOutIdeal.Frame
public import proofs.«01_k».proof.Proof.Gen.AdamOutRefIdeal.Read
public import proofs.«01_k».proof.Proof.Runs
public import proofs.«01_k».proof.Proof.AdamStep
public import proofs.«01_k».proof.Proof.Zeros

@[expose] public section

set_option maxRecDepth 16384

noncomputable section

namespace Cert.AdamOutIdeal.Product

open Cert.AdamOutIdeal Cert.AdamOutIdeal.Gen Idealize.ShloMosaic Idealize.ShloMosaic.TcCoe Idealize.SL.Sem
open Cert.AdamStep Cert.AdamOutRefIdeal.Read

local notation "Part" => Vec Ideal S1x128x2048 EltTy.bf16
abbrev PartRef := Memref sig .tc .vmem S1x128x2048 EltTy.bf16
abbrev BlockRef := Memref sig .tc .vmem S1x128x2048 EltTy.f32
local notation "Block" => Vec Ideal S1x128x2048 EltTy.f32
local notation "Parts" => Vec Ideal S4x256x2048 EltTy.bf16
local notation "Whole" => Vec Ideal S2x256x2048 EltTy.f32

variable (m : (ℓ : Loc nD τ sig) → Buf (Elt Ideal) ℓ) (ρ : Dev nD → PrngReg)

abbrev arr0 (c : Dev nD) : Parts := m ((c : Thread nD τ).loc main_arg0)
abbrev arr1 (c : Dev nD) : Parts := m ((c : Thread nD τ).loc main_arg1)
abbrev arr2 (c : Dev nD) : Whole := m ((c : Thread nD τ).loc main_arg2)
abbrev arr3 (c : Dev nD) : Whole := m ((c : Thread nD τ).loc main_arg3)
abbrev arr4 (c : Dev nD) : Whole := m ((c : Thread nD τ).loc main_arg4)
def whole0 (c : Dev nD) : Whole := val_main_v6 (F := Ideal) (arr0 m c) (arr1 m c)
def whole1 (c : Dev nD) : Whole := val_main_v30 (F := Ideal) (arr0 m c) (arr1 m c) (arr2 m c) (arr3 m c) (arr4 m c)
def whole2 (c : Dev nD) : Whole := val_main_v11 (F := Ideal) (arr0 m c) (arr1 m c) (arr3 m c)
def whole3 (c : Dev nD) : Whole := val_main_v17 (F := Ideal) (arr0 m c) (arr1 m c) (arr4 m c)

section
variable (x0 x1 x2 x3 : Part) (x4 x5 x6 : Block)

abbrev pt (y1 : Fin 128) (y2 : Fin 2048) (f : Step) : EReal :=
  f (x0 (ix3 0 y1 y2)) (x1 (ix3 0 y1 y2)) (x2 (ix3 0 y1 y2)) (x3 (ix3 0 y1 y2)) (x4 (ix3 0 y1 y2)) (x5 (ix3 0 y1 y2)) (x6 (ix3 0 y1 y2))

theorem step7 (y1 : Fin 128) (y2 : Fin 2048) : out0_7 x0 x1 x2 x3 x4 x5 x6 (ix3 0 y1 y2) = pt x0 x1 x2 x3 x4 x5 x6 y1 y2 grad := by
  unfold out0_7
  rw [View.canon_unit_zero zeros3]
  unfold k0_pay5 k0_pay1
  simp only [View.ld_unit_zero (S := S1x128x2048) zeros3]
  pointwise
  simp only [pt, grad, ← add_assoc]

theorem step8 (y1 : Fin 128) (y2 : Fin 2048) : out0_8 x0 x1 x2 x3 x4 x5 x6 (ix3 0 y1 y2) = pt x0 x1 x2 x3 x4 x5 x6 y1 y2 delta := by
  unfold out0_8
  rw [View.canon_unit_zero zeros3]
  unfold k0_pay9 k0_pay11 k0_pay8 k0_pay10 k0_pay7 k0_pay5 k0_pay6 k0_pay2
  simp only [View.ld_unit_zero (S := S1x128x2048) zeros3]
  pointwise
  simp only [pt, delta, mean, square, ← add_assoc]

theorem step9 (y1 : Fin 128) (y2 : Fin 2048) : out0_9 x0 x1 x2 x3 x4 x5 x6 (ix3 0 y1 y2) = pt x0 x1 x2 x3 x4 x5 x6 y1 y2 mean := by
  unfold out0_9
  rw [View.canon_unit_zero zeros3]
  unfold k0_pay10 k0_pay7 k0_pay5 k0_pay3
  simp only [View.ld_unit_zero (S := S1x128x2048) zeros3]
  pointwise
  simp only [pt, mean, ← add_assoc]

theorem step10 (y1 : Fin 128) (y2 : Fin 2048) : out0_10 x0 x1 x2 x3 x4 x5 x6 (ix3 0 y1 y2) = pt x0 x1 x2 x3 x4 x5 x6 y1 y2 square := by
  unfold out0_10
  rw [View.canon_unit_zero zeros3]
  unfold k0_pay11 k0_pay8 k0_pay5 k0_pay4
  simp only [View.ld_unit_zero (S := S1x128x2048) zeros3]
  pointwise
  simp only [pt, square, ← add_assoc]

variable (c : Dev nD) (i : grid1.Coords) (p1 p2 p3 p4 : PartRef) (p5 p6 p7 p8 p9 p10 p11 : BlockRef) (h1 : p1.IsWhole) (h2 : p2.IsWhole) (h3 : p3.IsWhole) (h4 : p4.IsWhole) (h5 : p5.IsWhole) (h6 : p6.IsWhole) (h7 : p7.IsWhole) (h8 : p8.IsWhole) (h9 : p9.IsWhole) (h10 : p10.IsWhole) (h11 : p11.IsWhole)

set_option maxHeartbeats 1000000 in
theorem last : out1_A_7 c i p1 h1 p2 h2 p3 h3 p4 h4 p5 h5 p6 h6 p7 h7 p8 h8 p9 h9 p10 h10 p11 h11 x0 x1 x2 x3 x4 x5 x6 = out0_7 x0 x1 x2 x3 x4 x5 x6 ∧
    out1_A_8 c i p1 h1 p2 h2 p3 h3 p4 h4 p5 h5 p6 h6 p7 h7 p8 h8 p9 h9 p10 h10 p11 h11 x0 x1 x2 x3 x4 x5 x6 = out0_8 x0 x1 x2 x3 x4 x5 x6 ∧
    out1_A_9 c i p1 h1 p2 h2 p3 h3 p4 h4 p5 h5 p6 h6 p7 h7 p8 h8 p9 h9 p10 h10 p11 h11 x0 x1 x2 x3 x4 x5 x6 = out0_9 x0 x1 x2 x3 x4 x5 x6 ∧
    out1_A_10 c i p1 h1 p2 h2 p3 h3 p4 h4 p5 h5 p6 h6 p7 h7 p8 h8 p9 h9 p10 h10 p11 h11 x0 x1 x2 x3 x4 x5 x6 = out0_10 x0 x1 x2 x3 x4 x5 x6 := by
  unfold out1_A_7 out1_A_8 out1_A_9 out1_A_10
  rw [View.read_writes_eq_canon _ _ _ (fun _ => cover1_A_7 ..), View.read_writes_eq_canon _ _ _ (fun _ => cover1_A_8 ..), View.read_writes_eq_canon _ _ _ (fun _ => cover1_A_9 ..), View.read_writes_eq_canon _ _ _ (fun _ => cover1_A_10 ..)]
  unfold kernelRun1_A
  dsimp only
  sl_unfold_words
  unfold out0_7 out0_8 out0_9 out0_10
  simp only [View.canon_unit_zero (S := S1x128x2048) zeros3, View.readAt_eq_ld, h1.read_unread, h2.read_unread, h3.read_unread, h4.read_unread, h5.read_unread, h6.read_unread, h7.read_unread]
  exact ⟨rfl, rfl, rfl, rfl⟩

end

/-- A function of the second call's blocks at a point. -/
abbrev on (c : Dev nD) (t : Fin cfg1.N) (f : Part → Part → Part → Part → Block → Block → Block → Block) : Block :=
  f (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t)

theorem entry7 (c : Dev nD) (t : Fin cfg1.N) : (dat1 (V2 m ρ) c).after 7 t = on m ρ c t out0_7 := by
  rw [after1_7]; unfold outsAt1; dsimp only; rw [(last ..).1]
theorem entry8 (c : Dev nD) (t : Fin cfg1.N) : (dat1 (V2 m ρ) c).after 8 t = on m ρ c t out0_8 := by
  rw [after1_8]; unfold outsAt1; dsimp only; rw [(last ..).2.1]
theorem entry9 (c : Dev nD) (t : Fin cfg1.N) : (dat1 (V2 m ρ) c).after 9 t = on m ρ c t out0_9 := by
  rw [after1_9]; unfold outsAt1; dsimp only; rw [(last ..).2.2.1]
theorem entry10 (c : Dev nD) (t : Fin cfg1.N) : (dat1 (V2 m ρ) c).after 10 t = on m ρ c t out0_10 := by
  rw [after1_10]; unfold outsAt1; dsimp only; rw [(last ..).2.2.2]

section
variable (a0 a1 : Parts) (a2 a3 a4 : Whole) (r : Fin 256) (s : Fin 2048)
abbrev lay (l : Fin 2) (f : Step) : EReal :=
  f (a0 (ix3 0 r s)) (a0 (ix3 1 r s)) (a0 (ix3 2 r s)) (a0 (ix3 3 r s)) (a2 (ix3 l r s)) (a3 (ix3 l r s)) (a4 (ix3 l r s))

theorem reference7 : val_main_v6 (F := Ideal) a0 a1 (ix3 0 r s) = lay a0 a2 a3 a4 r s 0 grad ∧
    val_main_v6 (F := Ideal) a0 a1 (ix3 1 r s) = lay a1 a2 a3 a4 r s 1 grad := by
  unfold val_main_v6 val_main_v5 val_main_v3 val_main_cst_0 val_main_v2 val_main_v4 val_main_v1 val_main_cst val_main_v0
  constructor <;> pointwise <;> simp only [lay, grad, Fin.sum_univ_four, Fin.isValue, zero_add]

theorem reference9 : val_main_v11 (F := Ideal) a0 a1 a3 (ix3 0 r s) = lay a0 a2 a3 a4 r s 0 mean ∧
    val_main_v11 (F := Ideal) a0 a1 a3 (ix3 1 r s) = lay a1 a2 a3 a4 r s 1 mean := by
  unfold val_main_v11 val_main_v10 val_main_v9 val_main_cst_2 val_main_v8 val_main_v7 val_main_cst_1
  constructor <;> pointwise <;> simp only [lay, mean, grad, reference7 a0 a1 a2 a3 a4 r s]

theorem reference10 : val_main_v17 (F := Ideal) a0 a1 a4 (ix3 0 r s) = lay a0 a2 a3 a4 r s 0 square ∧
    val_main_v17 (F := Ideal) a0 a1 a4 (ix3 1 r s) = lay a1 a2 a3 a4 r s 1 square := by
  unfold val_main_v17 val_main_v16 val_main_v14 val_main_v15 val_main_cst_4 val_main_v13 val_main_v12 val_main_cst_3
  constructor <;> pointwise <;> simp only [lay, square, grad, reference7 a0 a1 a2 a3 a4 r s]

theorem reference8 : val_main_v30 (F := Ideal) a0 a1 a2 a3 a4 (ix3 0 r s) = lay a0 a2 a3 a4 r s 0 delta ∧
    val_main_v30 (F := Ideal) a0 a1 a2 a3 a4 (ix3 1 r s) = lay a1 a2 a3 a4 r s 1 delta := by
  unfold val_main_v30 val_main_v28 val_main_v27 val_main_v26 val_main_cst_8 val_main_v25 val_main_v24 val_main_v23 val_main_cst_7 val_main_v22 val_main_v21 val_main_v20 val_main_cst_6 val_main_v19 val_main_v18 val_main_cst_5 val_main_v29 val_main_cst_9
  constructor <;> pointwise <;> simp only [lay, delta, reference9 a0 a1 a2 a3 a4 r s, reference10 a0 a1 a2 a3 a4 r s]

end

theorem bound0 (t : Fin cfg0.N) : t.val < 2 := t.isLt.trans_eq N_0

theorem inputs0 : ∀ t : Fin cfg0.N, win0_0.index t = ![0, t.val, 0] ∧ win0_1.index t = ![1, t.val, 0] ∧ win0_2.index t = ![2, t.val, 0] ∧ win0_3.index t = ![3, t.val, 0] ∧ win0_4.index t = ![1, t.val, 0] ∧ win0_5.index t = ![1, t.val, 0] ∧ win0_6.index t = ![1, t.val, 0] := by
  intro (t : Fin grid0.N); revert t; decide +kernel

theorem output0 : ∀ t : Fin cfg0.N, win0_7.index t = ![1, t.val, 0] := by
  intro (t : Fin grid0.N); revert t; decide +kernel

theorem read0 (c : Dev nD) (t : Fin cfg0.N) (y1 : Fin 128) (y2 : Fin 2048) (r : Fin 256) (hr : r.val = t.val * 128 + y1.val) (f : Step) :
    pt (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) y1 y2 f = lay (arr1 m c) (arr2 m c) (arr3 m c) (arr4 m c) r y2 1 f := by
  obtain ⟨a0, a1, a2, a3, a4, a5, a6⟩ := inputs0 t
  refine seven f ?_ ?_ ?_ ?_ ?_ ?_ ?_ <;> unfold iblk0 <;> rw [View.read_apply]
  · exact slab (arr1 m c) _ _ r a0 hr rfl rfl rfl
  · exact slab (arr1 m c) _ _ r a1 hr rfl rfl rfl
  · exact slab (arr1 m c) _ _ r a2 hr rfl rfl rfl
  · exact slab (arr1 m c) _ _ r a3 hr rfl rfl rfl
  · exact slab (arr2 m c) _ _ r a4 hr rfl rfl rfl
  · exact slab (arr3 m c) _ _ r a5 hr rfl rfl rfl
  · exact slab (arr4 m c) _ _ r a6 hr rfl rfl rfl

theorem flushed0 (c : Dev nD) (t : Fin cfg0.N) : (dat0 (V0 m ρ) c).flushed 7 t = ((cfg0.win 7).blk t).view.read (Elt Ideal) (whole0 m c) ∧
    (dat0 (V0 m ρ) c).flushed 8 t = ((cfg0.win 8).blk t).view.read (Elt Ideal) (whole1 m c) ∧
    (dat0 (V0 m ρ) c).flushed 9 t = ((cfg0.win 9).blk t).view.read (Elt Ideal) (whole2 m c) ∧
    (dat0 (V0 m ρ) c).flushed 10 t = ((cfg0.win 10).blk t).view.read (Elt Ideal) (whole3 m c) := by
  have hb := bound0 t
  have a7 := output0 t
  refine ⟨(after0_7 (V0 m ρ) c t).trans ?_, (after0_8 (V0 m ρ) c t).trans ?_, (after0_9 (V0 m ρ) c t).trans ?_, (after0_10 (V0 m ρ) c t).trans ?_⟩ <;>
    (funext y
     idx_vars y
     obtain rfl : y0 = 0 := Subsingleton.elim _ _
     rw [View.read_apply]
     obtain ⟨r, hr⟩ : ∃ r : Fin 256, r.val = t.val * 128 + y1.val := ⟨⟨_, by omega⟩, rfl⟩
     have h := read0 m ρ c t y1 y2 r hr)
  · exact chain (step7 ..) (h _) (reference7 ..).2 (slab (whole0 m c) _ 1 r a7 hr rfl rfl rfl)
  · exact chain (step8 ..) (h _) (reference8 ..).2 (slab (whole1 m c) _ 1 r a7 hr rfl rfl rfl)
  · exact chain (step9 ..) (h _) (reference9 ..).2 (slab (whole2 m c) _ 1 r a7 hr rfl rfl rfl)
  · exact chain (step10 ..) (h _) (reference10 ..).2 (slab (whole3 m c) _ 1 r a7 hr rfl rfl rfl)

theorem covered0 (i : S2x256x2048.Idx) (h : ¬(i 0).val = 0) : ∃ t : Fin cfg0.N, i ∈ ((cfg0.win 7).blk t).view.set :=
  reach (T := 128) (fun t ht => View.set_slice_whole main_v0_0 (win0_7.rect t) ▸ Rect.mem_set_unit.mpr ht) output0 (by have h0 : (i 0).val < 2 := (i 0).isLt; omega) (congrArg (128 * ·) N_0.symm) fun _ => ⟨rfl, rfl, rfl, rfl, rfl, rfl⟩

theorem bound1 (t : Fin cfg1.N) : t.val < 2 := t.isLt.trans_eq N_1

theorem inputs1 : ∀ t : Fin cfg1.N, win1_0.index t = ![0, t.val, 0] ∧ win1_1.index t = ![1, t.val, 0] ∧ win1_2.index t = ![2, t.val, 0] ∧ win1_3.index t = ![3, t.val, 0] ∧ win1_4.index t = ![0, t.val, 0] ∧ win1_5.index t = ![0, t.val, 0] ∧ win1_6.index t = ![0, t.val, 0] := by
  intro (t : Fin grid1.N); revert t; decide +kernel

theorem output1 : ∀ t : Fin cfg1.N, win1_7.index t = ![0, t.val, 0] := by
  intro (t : Fin grid1.N); revert t; decide +kernel

theorem read1 (c : Dev nD) (t : Fin cfg1.N) (y1 : Fin 128) (y2 : Fin 2048) (r : Fin 256) (hr : r.val = t.val * 128 + y1.val) (f : Step) :
    pt (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) y1 y2 f = lay (arr0 m c) (arr2 m c) (arr3 m c) (arr4 m c) r y2 0 f := by
  obtain ⟨a0, a1, a2, a3, a4, a5, a6⟩ := inputs1 t
  have p := congrFun (W2_args m ρ c main_arg0 (by decide))
  refine seven f ?_ ?_ ?_ ?_ ?_ ?_ ?_ <;> unfold iblk1 <;> rw [View.read_apply]
  · exact (p _).trans (slab (arr0 m c) _ _ r a0 hr rfl rfl rfl)
  · exact (p _).trans (slab (arr0 m c) _ _ r a1 hr rfl rfl rfl)
  · exact (p _).trans (slab (arr0 m c) _ _ r a2 hr rfl rfl rfl)
  · exact (p _).trans (slab (arr0 m c) _ _ r a3 hr rfl rfl rfl)
  · exact (congrFun (W2_args m ρ c main_arg2 (by decide)) _).trans (slab (arr2 m c) _ _ r a4 hr rfl rfl rfl)
  · exact (congrFun (W2_args m ρ c main_arg3 (by decide)) _).trans (slab (arr3 m c) _ _ r a5 hr rfl rfl rfl)
  · exact (congrFun (W2_args m ρ c main_arg4 (by decide)) _).trans (slab (arr4 m c) _ _ r a6 hr rfl rfl rfl)

theorem flushed1 (c : Dev nD) (t : Fin cfg1.N) : (dat1 (V2 m ρ) c).flushed 7 t = ((cfg1.win 7).blk t).view.read (Elt Ideal) (whole0 m c) ∧
    (dat1 (V2 m ρ) c).flushed 8 t = ((cfg1.win 8).blk t).view.read (Elt Ideal) (whole1 m c) ∧
    (dat1 (V2 m ρ) c).flushed 9 t = ((cfg1.win 9).blk t).view.read (Elt Ideal) (whole2 m c) ∧
    (dat1 (V2 m ρ) c).flushed 10 t = ((cfg1.win 10).blk t).view.read (Elt Ideal) (whole3 m c) := by
  have hb := bound1 t
  have a7 := output1 t
  refine ⟨(entry7 m ρ c t).trans ?_, (entry8 m ρ c t).trans ?_, (entry9 m ρ c t).trans ?_, (entry10 m ρ c t).trans ?_⟩ <;>
    (funext y
     idx_vars y
     obtain rfl : y0 = 0 := Subsingleton.elim _ _
     rw [View.read_apply]
     obtain ⟨r, hr⟩ : ∃ r : Fin 256, r.val = t.val * 128 + y1.val := ⟨⟨_, by omega⟩, rfl⟩
     have h := read1 m ρ c t y1 y2 r hr)
  · exact chain (step7 ..) (h _) (reference7 ..).1 (slab (whole0 m c) _ 0 r a7 hr rfl rfl rfl)
  · exact chain (step8 ..) (h _) (reference8 ..).1 (slab (whole1 m c) _ 0 r a7 hr rfl rfl rfl)
  · exact chain (step9 ..) (h _) (reference9 ..).1 (slab (whole2 m c) _ 0 r a7 hr rfl rfl rfl)
  · exact chain (step10 ..) (h _) (reference10 ..).1 (slab (whole3 m c) _ 0 r a7 hr rfl rfl rfl)

theorem covered1 (i : S2x256x2048.Idx) (h : (i 0).val = 0) : ∃ t : Fin cfg1.N, i ∈ ((cfg1.win 7).blk t).view.set :=
  reach (T := 128) (fun t ht => View.set_slice_whole main_v1_0 (win1_7.rect t) ▸ Rect.mem_set_unit.mpr ht) output1 h (congrArg (128 * ·) N_1.symm) fun _ => ⟨rfl, rfl, rfl, rfl, rfl, rfl⟩

theorem away (i : S2x256x2048.Idx) (h : ¬(i 0).val = 0) (t : Fin cfg1.N) : i ∉ ((cfg1.win 7).blk t).view.set := fun hm =>
  apart (output1 t) h (Rect.mem_set_unit.mp (View.set_slice_whole main_v1_0 (win1_7.rect t) ▸ hm : i ∈ (win1_7.rect t).set) 0)

/-- The second call's results start as the first call's. -/
theorem handed (c : Dev nD) : W2 m ρ c (Proc.devRef .tc main_v1_0) = W1 m ρ c (Proc.devRef .tc main_v0_0) ∧ W2 m ρ c (Proc.devRef .tc main_v1_1) = W1 m ρ c (Proc.devRef .tc main_v0_1) ∧ W2 m ρ c (Proc.devRef .tc main_v1_2) = W1 m ρ c (Proc.devRef .tc main_v0_2) ∧ W2 m ρ c (Proc.devRef .tc main_v1_3) = W1 m ρ c (Proc.devRef .tc main_v0_3) := by
  refine ⟨?_, ?_, ?_, ?_⟩ <;> (show StableHlo.after hostOps1 (W1 m ρ c) _ = _; after_results_simp <;> rfl)

theorem results (c : Dev nD) : W3 m ρ c (Proc.devRef .tc main_v1_0) = whole0 m c ∧ W3 m ρ c (Proc.devRef .tc main_v1_1) = whole1 m c ∧ W3 m ρ c (Proc.devRef .tc main_v1_2) = whole2 m c ∧ W3 m ρ c (Proc.devRef .tc main_v1_3) = whole3 m c :=
  ⟨(W3_arr m ρ c 7).trans (Runs.joined (dat1 (V2 m ρ) c) 7 (whole0 m c) (fun t => (flushed1 m ρ c t).1) flush1_7 covered1 away fun i h => (congrFun ((A_eq1 (V2 m ρ) c 7).trans ((handed m ρ c).1.trans (W1_arr m ρ c 7))) i).trans
      (Runs.covered (dat0 (V0 m ρ) c) 7 (whole0 m c) (fun t => (flushed0 m ρ c t).1) flush0_7 (covered0 i h))),
    (W3_arr m ρ c 8).trans (Runs.joined (dat1 (V2 m ρ) c) 8 (whole1 m c) (fun t => (flushed1 m ρ c t).2.1) flush1_8 covered1 away fun i h => (congrFun ((A_eq1 (V2 m ρ) c 8).trans ((handed m ρ c).2.1.trans (W1_arr m ρ c 8))) i).trans
      (Runs.covered (dat0 (V0 m ρ) c) 8 (whole1 m c) (fun t => (flushed0 m ρ c t).2.1) flush0_8 (covered0 i h))),
    (W3_arr m ρ c 9).trans (Runs.joined (dat1 (V2 m ρ) c) 9 (whole2 m c) (fun t => (flushed1 m ρ c t).2.2.1) flush1_9 covered1 away fun i h => (congrFun ((A_eq1 (V2 m ρ) c 9).trans ((handed m ρ c).2.2.1.trans (W1_arr m ρ c 9))) i).trans
      (Runs.covered (dat0 (V0 m ρ) c) 9 (whole2 m c) (fun t => (flushed0 m ρ c t).2.2.1) flush0_9 (covered0 i h))),
    (W3_arr m ρ c 10).trans (Runs.joined (dat1 (V2 m ρ) c) 10 (whole3 m c) (fun t => (flushed1 m ρ c t).2.2.2) flush1_10 covered1 away fun i h => (congrFun ((A_eq1 (V2 m ρ) c 10).trans ((handed m ρ c).2.2.2.trans (W1_arr m ρ c 10))) i).trans
      (Runs.covered (dat0 (V0 m ρ) c) 10 (whole3 m c) (fun t => (flushed0 m ρ c t).2.2.2) flush0_10 (covered0 i h)))⟩

set_option backward.isDefEq.respectTransparency.types false in
/-- Every run ends with the last boundary's contents in every buffer the arguments and results live in. -/
theorem run : θ_run defs (onTc (τ := τ) (main (F := Ideal))) ⟨m, fun _ => 0, ρ⟩ (fun r => ∀ c : Dev nD,
    ∀ b ∈ Pipeline.ucRefs τ sig, r.2.mem ((c : Dev nD), b) = W3 m ρ c b) :=
  Runs.run pcfgs adm (pdats m ρ) cellOf_inj defs₀ m ρ main (segs m ρ) (main_run m ρ)
  (by simp only [segs, Pipeline.Seg.pipes_host, Pipeline.Seg.pipes_region, Pipeline.Seg.pipes_nil]; decide)
  (W3 m ρ) ⟨fun _ => .rfl, fun _ => .rfl, fun _ => .rfl, fun _ => .rfl⟩

end Cert.AdamOutIdeal.Product

namespace Cert.AdamOutClaims

open Idealize.ShloMosaic Idealize.ShloMosaic.TcCoe Idealize.SL.Sem Cert.AdamOutIdeal Cert.AdamOutIdeal.Gen Cert.AdamOutRefIdeal.Read

theorem frame_p : Cert.quiescent_AdamOut := fun m ρ _ => Cert.AdamOut.Gen.frame m ρ
theorem frame_pi : Cert.quiescent_AdamOutIdeal := fun m ρ _ => Cert.AdamOutIdeal.Gen.frame m ρ
theorem frame_ri : Cert.quiescent_AdamOutRefIdeal := fun m ρ _ =>
  (θ_run _ _ _).mono (fun r h => ⟨fun c => (h c).2.2.2.2, sem_eq_zero_of_no_sems (by decide) r.2⟩) (Cert.AdamOutRefIdeal.Value.run (F := Ideal) m ρ)

theorem preserves : Cert.preserves_AdamOut_AdamOutIdeal := trivial

theorem algebraic : Cert.algebraic_AdamOutIdeal_AdamOutRefIdeal := fun m ρ m' ρ' _ hag =>
  ⟨fun c => Product.whole0 m c, fun c => Product.whole1 m c, fun c => Product.whole2 m c, fun c => Product.whole3 m c,
    (θ_run _ _ _).mono (fun r h c => ⟨(h c _ (mem_uc _ (by decide))).trans (Product.results m ρ c).1,
      (h c _ (mem_uc _ (by decide))).trans (Product.results m ρ c).2.1,
      (h c _ (mem_uc _ (by decide))).trans (Product.results m ρ c).2.2.1,
      (h c _ (mem_uc _ (by decide))).trans (Product.results m ρ c).2.2.2,
      (h c _ (mem_uc _ (by decide))).trans (W3_main_arg0 m ρ c),
      (h c _ (mem_uc _ (by decide))).trans (W3_main_arg1 m ρ c),
      (h c _ (mem_uc _ (by decide))).trans (W3_main_arg2 m ρ c),
      (h c _ (mem_uc _ (by decide))).trans (W3_main_arg3 m ρ c),
      (h c _ (mem_uc _ (by decide))).trans (W3_main_arg4 m ρ c)⟩)
      (Product.run m ρ),
    (θ_run _ _ _).mono (fun r h c => ⟨(h c).1.trans (by rw [val_main_v6_eq, (hag c).1, (hag c).2.1]; rfl),
      (h c).2.1.trans (by rw [val_main_v30_eq, (hag c).1, (hag c).2.1, (hag c).2.2.1, (hag c).2.2.2.1, (hag c).2.2.2.2]; rfl),
      (h c).2.2.1.trans (by rw [val_main_v11_eq, (hag c).1, (hag c).2.1, (hag c).2.2.2.1]; rfl),
      (h c).2.2.2.1.trans (by rw [val_main_v17_eq, (hag c).1, (hag c).2.1, (hag c).2.2.2.2]; rfl), (h c).2.2.2.2⟩)
      (Cert.AdamOutRefIdeal.Value.run (F := Ideal) m' ρ')⟩

end Cert.AdamOutClaims
end
-- ==== Proof.AdamPwProduct.lean ====
/-
  The optimiser's step on both layers' weights of the pointwise convolution.
-/
module

public import proofs.«01_k».proof.Defs
public import proofs.«01_k».proof.Proof.Gen.AdamPw.Frame
public import proofs.«01_k».proof.Proof.Gen.AdamPwIdeal.Frame
public import proofs.«01_k».proof.Proof.Gen.AdamPwRefIdeal.Read
public import proofs.«01_k».proof.Proof.Runs
public import proofs.«01_k».proof.Proof.AdamStep
public import proofs.«01_k».proof.Proof.Zeros

@[expose] public section

set_option maxRecDepth 16384

noncomputable section

namespace Cert.AdamPwIdeal.Product

open Cert.AdamPwIdeal Cert.AdamPwIdeal.Gen Idealize.ShloMosaic Idealize.ShloMosaic.TcCoe Idealize.SL.Sem
open Cert.AdamStep Cert.AdamPwRefIdeal.Read

local notation "Part" => Vec Ideal S1x1024x256 EltTy.bf16
abbrev PartRef := Memref sig .tc .vmem S1x1024x256 EltTy.bf16
abbrev BlockRef := Memref sig .tc .vmem S1x1024x256 EltTy.f32
local notation "Block" => Vec Ideal S1x1024x256 EltTy.f32
local notation "Parts" => Vec Ideal S4x1024x256 EltTy.bf16
local notation "Whole" => Vec Ideal S2x1024x256 EltTy.f32

variable (m : (ℓ : Loc nD τ sig) → Buf (Elt Ideal) ℓ) (ρ : Dev nD → PrngReg)

abbrev arr0 (c : Dev nD) : Parts := m ((c : Thread nD τ).loc main_arg0)
abbrev arr1 (c : Dev nD) : Parts := m ((c : Thread nD τ).loc main_arg1)
abbrev arr2 (c : Dev nD) : Whole := m ((c : Thread nD τ).loc main_arg2)
abbrev arr3 (c : Dev nD) : Whole := m ((c : Thread nD τ).loc main_arg3)
abbrev arr4 (c : Dev nD) : Whole := m ((c : Thread nD τ).loc main_arg4)
def whole0 (c : Dev nD) : Whole := val_main_v6 (F := Ideal) (arr0 m c) (arr1 m c)
def whole1 (c : Dev nD) : Whole := val_main_v30 (F := Ideal) (arr0 m c) (arr1 m c) (arr2 m c) (arr3 m c) (arr4 m c)
def whole2 (c : Dev nD) : Whole := val_main_v11 (F := Ideal) (arr0 m c) (arr1 m c) (arr3 m c)
def whole3 (c : Dev nD) : Whole := val_main_v17 (F := Ideal) (arr0 m c) (arr1 m c) (arr4 m c)

section
variable (x0 x1 x2 x3 : Part) (x4 x5 x6 : Block)

abbrev pt (y1 : Fin 1024) (y2 : Fin 256) (f : Step) : EReal :=
  f (x0 (ix3 0 y1 y2)) (x1 (ix3 0 y1 y2)) (x2 (ix3 0 y1 y2)) (x3 (ix3 0 y1 y2)) (x4 (ix3 0 y1 y2)) (x5 (ix3 0 y1 y2)) (x6 (ix3 0 y1 y2))

theorem step7 (y1 : Fin 1024) (y2 : Fin 256) : out0_7 x0 x1 x2 x3 x4 x5 x6 (ix3 0 y1 y2) = pt x0 x1 x2 x3 x4 x5 x6 y1 y2 grad := by
  unfold out0_7
  rw [View.canon_unit_zero zeros3]
  unfold k0_pay5 k0_pay1
  simp only [View.ld_unit_zero (S := S1x1024x256) zeros3]
  pointwise
  simp only [pt, grad, ← add_assoc]

theorem step8 (y1 : Fin 1024) (y2 : Fin 256) : out0_8 x0 x1 x2 x3 x4 x5 x6 (ix3 0 y1 y2) = pt x0 x1 x2 x3 x4 x5 x6 y1 y2 delta := by
  unfold out0_8
  rw [View.canon_unit_zero zeros3]
  unfold k0_pay9 k0_pay11 k0_pay8 k0_pay10 k0_pay7 k0_pay5 k0_pay6 k0_pay2
  simp only [View.ld_unit_zero (S := S1x1024x256) zeros3]
  pointwise
  simp only [pt, delta, mean, square, ← add_assoc]

theorem step9 (y1 : Fin 1024) (y2 : Fin 256) : out0_9 x0 x1 x2 x3 x4 x5 x6 (ix3 0 y1 y2) = pt x0 x1 x2 x3 x4 x5 x6 y1 y2 mean := by
  unfold out0_9
  rw [View.canon_unit_zero zeros3]
  unfold k0_pay10 k0_pay7 k0_pay5 k0_pay3
  simp only [View.ld_unit_zero (S := S1x1024x256) zeros3]
  pointwise
  simp only [pt, mean, ← add_assoc]

theorem step10 (y1 : Fin 1024) (y2 : Fin 256) : out0_10 x0 x1 x2 x3 x4 x5 x6 (ix3 0 y1 y2) = pt x0 x1 x2 x3 x4 x5 x6 y1 y2 square := by
  unfold out0_10
  rw [View.canon_unit_zero zeros3]
  unfold k0_pay11 k0_pay8 k0_pay5 k0_pay4
  simp only [View.ld_unit_zero (S := S1x1024x256) zeros3]
  pointwise
  simp only [pt, square, ← add_assoc]

variable (c : Dev nD) (i : grid1.Coords) (p1 p2 p3 p4 : PartRef) (p5 p6 p7 p8 p9 p10 p11 : BlockRef) (h1 : p1.IsWhole) (h2 : p2.IsWhole) (h3 : p3.IsWhole) (h4 : p4.IsWhole) (h5 : p5.IsWhole) (h6 : p6.IsWhole) (h7 : p7.IsWhole) (h8 : p8.IsWhole) (h9 : p9.IsWhole) (h10 : p10.IsWhole) (h11 : p11.IsWhole)

set_option maxHeartbeats 1000000 in
theorem last : out1_A_7 c i p1 h1 p2 h2 p3 h3 p4 h4 p5 h5 p6 h6 p7 h7 p8 h8 p9 h9 p10 h10 p11 h11 x0 x1 x2 x3 x4 x5 x6 = out0_7 x0 x1 x2 x3 x4 x5 x6 ∧
    out1_A_8 c i p1 h1 p2 h2 p3 h3 p4 h4 p5 h5 p6 h6 p7 h7 p8 h8 p9 h9 p10 h10 p11 h11 x0 x1 x2 x3 x4 x5 x6 = out0_8 x0 x1 x2 x3 x4 x5 x6 ∧
    out1_A_9 c i p1 h1 p2 h2 p3 h3 p4 h4 p5 h5 p6 h6 p7 h7 p8 h8 p9 h9 p10 h10 p11 h11 x0 x1 x2 x3 x4 x5 x6 = out0_9 x0 x1 x2 x3 x4 x5 x6 ∧
    out1_A_10 c i p1 h1 p2 h2 p3 h3 p4 h4 p5 h5 p6 h6 p7 h7 p8 h8 p9 h9 p10 h10 p11 h11 x0 x1 x2 x3 x4 x5 x6 = out0_10 x0 x1 x2 x3 x4 x5 x6 := by
  unfold out1_A_7 out1_A_8 out1_A_9 out1_A_10
  rw [View.read_writes_eq_canon _ _ _ (fun _ => cover1_A_7 ..), View.read_writes_eq_canon _ _ _ (fun _ => cover1_A_8 ..), View.read_writes_eq_canon _ _ _ (fun _ => cover1_A_9 ..), View.read_writes_eq_canon _ _ _ (fun _ => cover1_A_10 ..)]
  unfold kernelRun1_A
  dsimp only
  sl_unfold_words
  unfold out0_7 out0_8 out0_9 out0_10
  simp only [View.canon_unit_zero (S := S1x1024x256) zeros3, View.readAt_eq_ld, h1.read_unread, h2.read_unread, h3.read_unread, h4.read_unread, h5.read_unread, h6.read_unread, h7.read_unread]
  exact ⟨rfl, rfl, rfl, rfl⟩

end

/-- A function of the second call's blocks at a point. -/
abbrev on (c : Dev nD) (t : Fin cfg1.N) (f : Part → Part → Part → Part → Block → Block → Block → Block) : Block :=
  f (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t)

theorem entry7 (c : Dev nD) (t : Fin cfg1.N) : (dat1 (V2 m ρ) c).after 7 t = on m ρ c t out0_7 := by
  rw [after1_7]; unfold outsAt1; dsimp only; rw [(last ..).1]
theorem entry8 (c : Dev nD) (t : Fin cfg1.N) : (dat1 (V2 m ρ) c).after 8 t = on m ρ c t out0_8 := by
  rw [after1_8]; unfold outsAt1; dsimp only; rw [(last ..).2.1]
theorem entry9 (c : Dev nD) (t : Fin cfg1.N) : (dat1 (V2 m ρ) c).after 9 t = on m ρ c t out0_9 := by
  rw [after1_9]; unfold outsAt1; dsimp only; rw [(last ..).2.2.1]
theorem entry10 (c : Dev nD) (t : Fin cfg1.N) : (dat1 (V2 m ρ) c).after 10 t = on m ρ c t out0_10 := by
  rw [after1_10]; unfold outsAt1; dsimp only; rw [(last ..).2.2.2]

section
variable (a0 a1 : Parts) (a2 a3 a4 : Whole) (r : Fin 1024) (s : Fin 256)
abbrev lay (l : Fin 2) (f : Step) : EReal :=
  f (a0 (ix3 0 r s)) (a0 (ix3 1 r s)) (a0 (ix3 2 r s)) (a0 (ix3 3 r s)) (a2 (ix3 l r s)) (a3 (ix3 l r s)) (a4 (ix3 l r s))

theorem reference7 : val_main_v6 (F := Ideal) a0 a1 (ix3 0 r s) = lay a0 a2 a3 a4 r s 0 grad ∧
    val_main_v6 (F := Ideal) a0 a1 (ix3 1 r s) = lay a1 a2 a3 a4 r s 1 grad := by
  unfold val_main_v6 val_main_v5 val_main_v3 val_main_cst_0 val_main_v2 val_main_v4 val_main_v1 val_main_cst val_main_v0
  constructor <;> pointwise <;> simp only [lay, grad, Fin.sum_univ_four, Fin.isValue, zero_add]

theorem reference9 : val_main_v11 (F := Ideal) a0 a1 a3 (ix3 0 r s) = lay a0 a2 a3 a4 r s 0 mean ∧
    val_main_v11 (F := Ideal) a0 a1 a3 (ix3 1 r s) = lay a1 a2 a3 a4 r s 1 mean := by
  unfold val_main_v11 val_main_v10 val_main_v9 val_main_cst_2 val_main_v8 val_main_v7 val_main_cst_1
  constructor <;> pointwise <;> simp only [lay, mean, grad, reference7 a0 a1 a2 a3 a4 r s]

theorem reference10 : val_main_v17 (F := Ideal) a0 a1 a4 (ix3 0 r s) = lay a0 a2 a3 a4 r s 0 square ∧
    val_main_v17 (F := Ideal) a0 a1 a4 (ix3 1 r s) = lay a1 a2 a3 a4 r s 1 square := by
  unfold val_main_v17 val_main_v16 val_main_v14 val_main_v15 val_main_cst_4 val_main_v13 val_main_v12 val_main_cst_3
  constructor <;> pointwise <;> simp only [lay, square, grad, reference7 a0 a1 a2 a3 a4 r s]

theorem reference8 : val_main_v30 (F := Ideal) a0 a1 a2 a3 a4 (ix3 0 r s) = lay a0 a2 a3 a4 r s 0 delta ∧
    val_main_v30 (F := Ideal) a0 a1 a2 a3 a4 (ix3 1 r s) = lay a1 a2 a3 a4 r s 1 delta := by
  unfold val_main_v30 val_main_v28 val_main_v27 val_main_v26 val_main_cst_8 val_main_v25 val_main_v24 val_main_v23 val_main_cst_7 val_main_v22 val_main_v21 val_main_v20 val_main_cst_6 val_main_v19 val_main_v18 val_main_cst_5 val_main_v29 val_main_cst_9
  constructor <;> pointwise <;> simp only [lay, delta, reference9 a0 a1 a2 a3 a4 r s, reference10 a0 a1 a2 a3 a4 r s]

end

theorem bound0 (t : Fin cfg0.N) : t.val < 1 := t.isLt.trans_eq N_0

theorem inputs0 : ∀ t : Fin cfg0.N, win0_0.index t = ![0, 0, 0] ∧ win0_1.index t = ![1, 0, 0] ∧ win0_2.index t = ![2, 0, 0] ∧ win0_3.index t = ![3, 0, 0] ∧ win0_4.index t = ![1, 0, 0] ∧ win0_5.index t = ![1, 0, 0] ∧ win0_6.index t = ![1, 0, 0] := by
  intro (t : Fin grid0.N); revert t; decide +kernel

theorem output0 : ∀ t : Fin cfg0.N, win0_7.index t = ![1, 0, 0] := by
  intro (t : Fin grid0.N); revert t; decide +kernel

theorem read0 (c : Dev nD) (t : Fin cfg0.N) (y1 : Fin 1024) (y2 : Fin 256) (r : Fin 1024) (hr : r.val = 0 * 1024 + y1.val) (f : Step) :
    pt (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) y1 y2 f = lay (arr1 m c) (arr2 m c) (arr3 m c) (arr4 m c) r y2 1 f := by
  obtain ⟨a0, a1, a2, a3, a4, a5, a6⟩ := inputs0 t
  refine seven f ?_ ?_ ?_ ?_ ?_ ?_ ?_ <;> unfold iblk0 <;> rw [View.read_apply]
  · exact slab (arr1 m c) _ _ r a0 hr rfl rfl rfl
  · exact slab (arr1 m c) _ _ r a1 hr rfl rfl rfl
  · exact slab (arr1 m c) _ _ r a2 hr rfl rfl rfl
  · exact slab (arr1 m c) _ _ r a3 hr rfl rfl rfl
  · exact slab (arr2 m c) _ _ r a4 hr rfl rfl rfl
  · exact slab (arr3 m c) _ _ r a5 hr rfl rfl rfl
  · exact slab (arr4 m c) _ _ r a6 hr rfl rfl rfl

theorem flushed0 (c : Dev nD) (t : Fin cfg0.N) : (dat0 (V0 m ρ) c).flushed 7 t = ((cfg0.win 7).blk t).view.read (Elt Ideal) (whole0 m c) ∧
    (dat0 (V0 m ρ) c).flushed 8 t = ((cfg0.win 8).blk t).view.read (Elt Ideal) (whole1 m c) ∧
    (dat0 (V0 m ρ) c).flushed 9 t = ((cfg0.win 9).blk t).view.read (Elt Ideal) (whole2 m c) ∧
    (dat0 (V0 m ρ) c).flushed 10 t = ((cfg0.win 10).blk t).view.read (Elt Ideal) (whole3 m c) := by
  have hb := bound0 t
  have a7 := output0 t
  refine ⟨(after0_7 (V0 m ρ) c t).trans ?_, (after0_8 (V0 m ρ) c t).trans ?_, (after0_9 (V0 m ρ) c t).trans ?_, (after0_10 (V0 m ρ) c t).trans ?_⟩ <;>
    (funext y
     idx_vars y
     obtain rfl : y0 = 0 := Subsingleton.elim _ _
     rw [View.read_apply]
     obtain ⟨r, hr⟩ : ∃ r : Fin 1024, r.val = 0 * 1024 + y1.val := ⟨⟨_, by omega⟩, rfl⟩
     have h := read0 m ρ c t y1 y2 r hr)
  · exact chain (step7 ..) (h _) (reference7 ..).2 (slab (whole0 m c) _ 1 r a7 hr rfl rfl rfl)
  · exact chain (step8 ..) (h _) (reference8 ..).2 (slab (whole1 m c) _ 1 r a7 hr rfl rfl rfl)
  · exact chain (step9 ..) (h _) (reference9 ..).2 (slab (whole2 m c) _ 1 r a7 hr rfl rfl rfl)
  · exact chain (step10 ..) (h _) (reference10 ..).2 (slab (whole3 m c) _ 1 r a7 hr rfl rfl rfl)

theorem covered0 (i : S2x1024x256.Idx) (h : ¬(i 0).val = 0) : ∃ t : Fin cfg0.N, i ∈ ((cfg0.win 7).blk t).view.set :=
  reach (T := 1024) (fun t ht => View.set_slice_whole main_v0_0 (win0_7.rect t) ▸ Rect.mem_set_unit.mpr ht) (fun t => by rw [output0 t, Nat.lt_one_iff.mp (bound0 t)]) (by have h0 : (i 0).val < 2 := (i 0).isLt; omega) (congrArg (1024 * ·) N_0.symm) fun _ => ⟨rfl, rfl, rfl, rfl, rfl, rfl⟩

theorem bound1 (t : Fin cfg1.N) : t.val < 1 := t.isLt.trans_eq N_1

theorem inputs1 : ∀ t : Fin cfg1.N, win1_0.index t = ![0, 0, 0] ∧ win1_1.index t = ![1, 0, 0] ∧ win1_2.index t = ![2, 0, 0] ∧ win1_3.index t = ![3, 0, 0] ∧ win1_4.index t = ![0, 0, 0] ∧ win1_5.index t = ![0, 0, 0] ∧ win1_6.index t = ![0, 0, 0] := by
  intro (t : Fin grid1.N); revert t; decide +kernel

theorem output1 : ∀ t : Fin cfg1.N, win1_7.index t = ![0, 0, 0] := by
  intro (t : Fin grid1.N); revert t; decide +kernel

theorem read1 (c : Dev nD) (t : Fin cfg1.N) (y1 : Fin 1024) (y2 : Fin 256) (r : Fin 1024) (hr : r.val = 0 * 1024 + y1.val) (f : Step) :
    pt (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) y1 y2 f = lay (arr0 m c) (arr2 m c) (arr3 m c) (arr4 m c) r y2 0 f := by
  obtain ⟨a0, a1, a2, a3, a4, a5, a6⟩ := inputs1 t
  have p := congrFun (W2_args m ρ c main_arg0 (by decide))
  refine seven f ?_ ?_ ?_ ?_ ?_ ?_ ?_ <;> unfold iblk1 <;> rw [View.read_apply]
  · exact (p _).trans (slab (arr0 m c) _ _ r a0 hr rfl rfl rfl)
  · exact (p _).trans (slab (arr0 m c) _ _ r a1 hr rfl rfl rfl)
  · exact (p _).trans (slab (arr0 m c) _ _ r a2 hr rfl rfl rfl)
  · exact (p _).trans (slab (arr0 m c) _ _ r a3 hr rfl rfl rfl)
  · exact (congrFun (W2_args m ρ c main_arg2 (by decide)) _).trans (slab (arr2 m c) _ _ r a4 hr rfl rfl rfl)
  · exact (congrFun (W2_args m ρ c main_arg3 (by decide)) _).trans (slab (arr3 m c) _ _ r a5 hr rfl rfl rfl)
  · exact (congrFun (W2_args m ρ c main_arg4 (by decide)) _).trans (slab (arr4 m c) _ _ r a6 hr rfl rfl rfl)

theorem flushed1 (c : Dev nD) (t : Fin cfg1.N) : (dat1 (V2 m ρ) c).flushed 7 t = ((cfg1.win 7).blk t).view.read (Elt Ideal) (whole0 m c) ∧
    (dat1 (V2 m ρ) c).flushed 8 t = ((cfg1.win 8).blk t).view.read (Elt Ideal) (whole1 m c) ∧
    (dat1 (V2 m ρ) c).flushed 9 t = ((cfg1.win 9).blk t).view.read (Elt Ideal) (whole2 m c) ∧
    (dat1 (V2 m ρ) c).flushed 10 t = ((cfg1.win 10).blk t).view.read (Elt Ideal) (whole3 m c) := by
  have hb := bound1 t
  have a7 := output1 t
  refine ⟨(entry7 m ρ c t).trans ?_, (entry8 m ρ c t).trans ?_, (entry9 m ρ c t).trans ?_, (entry10 m ρ c t).trans ?_⟩ <;>
    (funext y
     idx_vars y
     obtain rfl : y0 = 0 := Subsingleton.elim _ _
     rw [View.read_apply]
     obtain ⟨r, hr⟩ : ∃ r : Fin 1024, r.val = 0 * 1024 + y1.val := ⟨⟨_, by omega⟩, rfl⟩
     have h := read1 m ρ c t y1 y2 r hr)
  · exact chain (step7 ..) (h _) (reference7 ..).1 (slab (whole0 m c) _ 0 r a7 hr rfl rfl rfl)
  · exact chain (step8 ..) (h _) (reference8 ..).1 (slab (whole1 m c) _ 0 r a7 hr rfl rfl rfl)
  · exact chain (step9 ..) (h _) (reference9 ..).1 (slab (whole2 m c) _ 0 r a7 hr rfl rfl rfl)
  · exact chain (step10 ..) (h _) (reference10 ..).1 (slab (whole3 m c) _ 0 r a7 hr rfl rfl rfl)

theorem covered1 (i : S2x1024x256.Idx) (h : (i 0).val = 0) : ∃ t : Fin cfg1.N, i ∈ ((cfg1.win 7).blk t).view.set :=
  reach (T := 1024) (fun t ht => View.set_slice_whole main_v1_0 (win1_7.rect t) ▸ Rect.mem_set_unit.mpr ht) (fun t => by rw [output1 t, Nat.lt_one_iff.mp (bound1 t)]) h (congrArg (1024 * ·) N_1.symm) fun _ => ⟨rfl, rfl, rfl, rfl, rfl, rfl⟩

theorem away (i : S2x1024x256.Idx) (h : ¬(i 0).val = 0) (t : Fin cfg1.N) : i ∉ ((cfg1.win 7).blk t).view.set := fun hm =>
  apart (output1 t) h (Rect.mem_set_unit.mp (View.set_slice_whole main_v1_0 (win1_7.rect t) ▸ hm : i ∈ (win1_7.rect t).set) 0)

/-- The second call's results start as the first call's. -/
theorem handed (c : Dev nD) : W2 m ρ c (Proc.devRef .tc main_v1_0) = W1 m ρ c (Proc.devRef .tc main_v0_0) ∧ W2 m ρ c (Proc.devRef .tc main_v1_1) = W1 m ρ c (Proc.devRef .tc main_v0_1) ∧ W2 m ρ c (Proc.devRef .tc main_v1_2) = W1 m ρ c (Proc.devRef .tc main_v0_2) ∧ W2 m ρ c (Proc.devRef .tc main_v1_3) = W1 m ρ c (Proc.devRef .tc main_v0_3) := by
  refine ⟨?_, ?_, ?_, ?_⟩ <;> (show StableHlo.after hostOps1 (W1 m ρ c) _ = _; after_results_simp <;> rfl)

theorem results (c : Dev nD) : W3 m ρ c (Proc.devRef .tc main_v1_0) = whole0 m c ∧ W3 m ρ c (Proc.devRef .tc main_v1_1) = whole1 m c ∧ W3 m ρ c (Proc.devRef .tc main_v1_2) = whole2 m c ∧ W3 m ρ c (Proc.devRef .tc main_v1_3) = whole3 m c :=
  ⟨(W3_arr m ρ c 7).trans (Runs.joined (dat1 (V2 m ρ) c) 7 (whole0 m c) (fun t => (flushed1 m ρ c t).1) flush1_7 covered1 away fun i h => (congrFun ((A_eq1 (V2 m ρ) c 7).trans ((handed m ρ c).1.trans (W1_arr m ρ c 7))) i).trans
      (Runs.covered (dat0 (V0 m ρ) c) 7 (whole0 m c) (fun t => (flushed0 m ρ c t).1) flush0_7 (covered0 i h))),
    (W3_arr m ρ c 8).trans (Runs.joined (dat1 (V2 m ρ) c) 8 (whole1 m c) (fun t => (flushed1 m ρ c t).2.1) flush1_8 covered1 away fun i h => (congrFun ((A_eq1 (V2 m ρ) c 8).trans ((handed m ρ c).2.1.trans (W1_arr m ρ c 8))) i).trans
      (Runs.covered (dat0 (V0 m ρ) c) 8 (whole1 m c) (fun t => (flushed0 m ρ c t).2.1) flush0_8 (covered0 i h))),
    (W3_arr m ρ c 9).trans (Runs.joined (dat1 (V2 m ρ) c) 9 (whole2 m c) (fun t => (flushed1 m ρ c t).2.2.1) flush1_9 covered1 away fun i h => (congrFun ((A_eq1 (V2 m ρ) c 9).trans ((handed m ρ c).2.2.1.trans (W1_arr m ρ c 9))) i).trans
      (Runs.covered (dat0 (V0 m ρ) c) 9 (whole2 m c) (fun t => (flushed0 m ρ c t).2.2.1) flush0_9 (covered0 i h))),
    (W3_arr m ρ c 10).trans (Runs.joined (dat1 (V2 m ρ) c) 10 (whole3 m c) (fun t => (flushed1 m ρ c t).2.2.2) flush1_10 covered1 away fun i h => (congrFun ((A_eq1 (V2 m ρ) c 10).trans ((handed m ρ c).2.2.2.trans (W1_arr m ρ c 10))) i).trans
      (Runs.covered (dat0 (V0 m ρ) c) 10 (whole3 m c) (fun t => (flushed0 m ρ c t).2.2.2) flush0_10 (covered0 i h)))⟩

set_option backward.isDefEq.respectTransparency.types false in
/-- Every run ends with the last boundary's contents in every buffer the arguments and results live in. -/
theorem run : θ_run defs (onTc (τ := τ) (main (F := Ideal))) ⟨m, fun _ => 0, ρ⟩ (fun r => ∀ c : Dev nD,
    ∀ b ∈ Pipeline.ucRefs τ sig, r.2.mem ((c : Dev nD), b) = W3 m ρ c b) :=
  Runs.run pcfgs adm (pdats m ρ) cellOf_inj defs₀ m ρ main (segs m ρ) (main_run m ρ)
  (by simp only [segs, Pipeline.Seg.pipes_host, Pipeline.Seg.pipes_region, Pipeline.Seg.pipes_nil]; decide)
  (W3 m ρ) ⟨fun _ => .rfl, fun _ => .rfl, fun _ => .rfl, fun _ => .rfl⟩

end Cert.AdamPwIdeal.Product

namespace Cert.AdamPwClaims

open Idealize.ShloMosaic Idealize.ShloMosaic.TcCoe Idealize.SL.Sem Cert.AdamPwIdeal Cert.AdamPwIdeal.Gen Cert.AdamPwRefIdeal.Read

theorem frame_p : Cert.quiescent_AdamPw := fun m ρ _ => Cert.AdamPw.Gen.frame m ρ
theorem frame_pi : Cert.quiescent_AdamPwIdeal := fun m ρ _ => Cert.AdamPwIdeal.Gen.frame m ρ
theorem frame_ri : Cert.quiescent_AdamPwRefIdeal := fun m ρ _ =>
  (θ_run _ _ _).mono (fun r h => ⟨fun c => (h c).2.2.2.2, sem_eq_zero_of_no_sems (by decide) r.2⟩) (Cert.AdamPwRefIdeal.Value.run (F := Ideal) m ρ)

theorem preserves : Cert.preserves_AdamPw_AdamPwIdeal := trivial

theorem algebraic : Cert.algebraic_AdamPwIdeal_AdamPwRefIdeal := fun m ρ m' ρ' _ hag =>
  ⟨fun c => Product.whole0 m c, fun c => Product.whole1 m c, fun c => Product.whole2 m c, fun c => Product.whole3 m c,
    (θ_run _ _ _).mono (fun r h c => ⟨(h c _ (mem_uc _ (by decide))).trans (Product.results m ρ c).1,
      (h c _ (mem_uc _ (by decide))).trans (Product.results m ρ c).2.1,
      (h c _ (mem_uc _ (by decide))).trans (Product.results m ρ c).2.2.1,
      (h c _ (mem_uc _ (by decide))).trans (Product.results m ρ c).2.2.2,
      (h c _ (mem_uc _ (by decide))).trans (W3_main_arg0 m ρ c),
      (h c _ (mem_uc _ (by decide))).trans (W3_main_arg1 m ρ c),
      (h c _ (mem_uc _ (by decide))).trans (W3_main_arg2 m ρ c),
      (h c _ (mem_uc _ (by decide))).trans (W3_main_arg3 m ρ c),
      (h c _ (mem_uc _ (by decide))).trans (W3_main_arg4 m ρ c)⟩)
      (Product.run m ρ),
    (θ_run _ _ _).mono (fun r h c => ⟨(h c).1.trans (by rw [val_main_v6_eq, (hag c).1, (hag c).2.1]; rfl),
      (h c).2.1.trans (by rw [val_main_v30_eq, (hag c).1, (hag c).2.1, (hag c).2.2.1, (hag c).2.2.2.1, (hag c).2.2.2.2]; rfl),
      (h c).2.2.1.trans (by rw [val_main_v11_eq, (hag c).1, (hag c).2.1, (hag c).2.2.2.1]; rfl),
      (h c).2.2.2.1.trans (by rw [val_main_v17_eq, (hag c).1, (hag c).2.1, (hag c).2.2.2.2]; rfl), (h c).2.2.2.2⟩)
      (Cert.AdamPwRefIdeal.Value.run (F := Ideal) m' ρ')⟩

end Cert.AdamPwClaims
end
-- ==== Proof.AdamUpProduct.lean ====
/-
  The optimiser's step on both layers' weights of the feed-forward up.
-/
module

public import proofs.«01_k».proof.Defs
public import proofs.«01_k».proof.Proof.Gen.AdamUp.Frame
public import proofs.«01_k».proof.Proof.Gen.AdamUpIdeal.Frame
public import proofs.«01_k».proof.Proof.Gen.AdamUpRefIdeal.Read
public import proofs.«01_k».proof.Proof.Runs
public import proofs.«01_k».proof.Proof.AdamStep
public import proofs.«01_k».proof.Proof.Zeros

@[expose] public section

set_option maxRecDepth 16384

noncomputable section

namespace Cert.AdamUpIdeal.Product

open Cert.AdamUpIdeal Cert.AdamUpIdeal.Gen Idealize.ShloMosaic Idealize.ShloMosaic.TcCoe Idealize.SL.Sem
open Cert.AdamStep Cert.AdamUpRefIdeal.Read

local notation "Part" => Vec Ideal S1x256x1408 EltTy.bf16
abbrev PartRef := Memref sig .tc .vmem S1x256x1408 EltTy.bf16
abbrev BlockRef := Memref sig .tc .vmem S1x256x1408 EltTy.f32
local notation "Block" => Vec Ideal S1x256x1408 EltTy.f32
local notation "Parts" => Vec Ideal S4x2048x1408 EltTy.bf16
local notation "Whole" => Vec Ideal S2x2048x1408 EltTy.f32

variable (m : (ℓ : Loc nD τ sig) → Buf (Elt Ideal) ℓ) (ρ : Dev nD → PrngReg)

abbrev arr0 (c : Dev nD) : Parts := m ((c : Thread nD τ).loc main_arg0)
abbrev arr1 (c : Dev nD) : Parts := m ((c : Thread nD τ).loc main_arg1)
abbrev arr2 (c : Dev nD) : Whole := m ((c : Thread nD τ).loc main_arg2)
abbrev arr3 (c : Dev nD) : Whole := m ((c : Thread nD τ).loc main_arg3)
abbrev arr4 (c : Dev nD) : Whole := m ((c : Thread nD τ).loc main_arg4)
def whole0 (c : Dev nD) : Whole := val_main_v6 (F := Ideal) (arr0 m c) (arr1 m c)
def whole1 (c : Dev nD) : Whole := val_main_v30 (F := Ideal) (arr0 m c) (arr1 m c) (arr2 m c) (arr3 m c) (arr4 m c)
def whole2 (c : Dev nD) : Whole := val_main_v11 (F := Ideal) (arr0 m c) (arr1 m c) (arr3 m c)
def whole3 (c : Dev nD) : Whole := val_main_v17 (F := Ideal) (arr0 m c) (arr1 m c) (arr4 m c)

section
variable (x0 x1 x2 x3 : Part) (x4 x5 x6 : Block)

abbrev pt (y1 : Fin 256) (y2 : Fin 1408) (f : Step) : EReal :=
  f (x0 (ix3 0 y1 y2)) (x1 (ix3 0 y1 y2)) (x2 (ix3 0 y1 y2)) (x3 (ix3 0 y1 y2)) (x4 (ix3 0 y1 y2)) (x5 (ix3 0 y1 y2)) (x6 (ix3 0 y1 y2))

theorem step7 (y1 : Fin 256) (y2 : Fin 1408) : out0_7 x0 x1 x2 x3 x4 x5 x6 (ix3 0 y1 y2) = pt x0 x1 x2 x3 x4 x5 x6 y1 y2 grad := by
  unfold out0_7
  rw [View.canon_unit_zero zeros3]
  unfold k0_pay5 k0_pay1
  simp only [View.ld_unit_zero (S := S1x256x1408) zeros3]
  pointwise
  simp only [pt, grad, ← add_assoc]

theorem step8 (y1 : Fin 256) (y2 : Fin 1408) : out0_8 x0 x1 x2 x3 x4 x5 x6 (ix3 0 y1 y2) = pt x0 x1 x2 x3 x4 x5 x6 y1 y2 delta := by
  unfold out0_8
  rw [View.canon_unit_zero zeros3]
  unfold k0_pay9 k0_pay11 k0_pay8 k0_pay10 k0_pay7 k0_pay5 k0_pay6 k0_pay2
  simp only [View.ld_unit_zero (S := S1x256x1408) zeros3]
  pointwise
  simp only [pt, delta, mean, square, ← add_assoc]

theorem step9 (y1 : Fin 256) (y2 : Fin 1408) : out0_9 x0 x1 x2 x3 x4 x5 x6 (ix3 0 y1 y2) = pt x0 x1 x2 x3 x4 x5 x6 y1 y2 mean := by
  unfold out0_9
  rw [View.canon_unit_zero zeros3]
  unfold k0_pay10 k0_pay7 k0_pay5 k0_pay3
  simp only [View.ld_unit_zero (S := S1x256x1408) zeros3]
  pointwise
  simp only [pt, mean, ← add_assoc]

theorem step10 (y1 : Fin 256) (y2 : Fin 1408) : out0_10 x0 x1 x2 x3 x4 x5 x6 (ix3 0 y1 y2) = pt x0 x1 x2 x3 x4 x5 x6 y1 y2 square := by
  unfold out0_10
  rw [View.canon_unit_zero zeros3]
  unfold k0_pay11 k0_pay8 k0_pay5 k0_pay4
  simp only [View.ld_unit_zero (S := S1x256x1408) zeros3]
  pointwise
  simp only [pt, square, ← add_assoc]

variable (c : Dev nD) (i : grid1.Coords) (p1 p2 p3 p4 : PartRef) (p5 p6 p7 p8 p9 p10 p11 : BlockRef) (h1 : p1.IsWhole) (h2 : p2.IsWhole) (h3 : p3.IsWhole) (h4 : p4.IsWhole) (h5 : p5.IsWhole) (h6 : p6.IsWhole) (h7 : p7.IsWhole) (h8 : p8.IsWhole) (h9 : p9.IsWhole) (h10 : p10.IsWhole) (h11 : p11.IsWhole)

set_option maxHeartbeats 1000000 in
theorem last : out1_A_7 c i p1 h1 p2 h2 p3 h3 p4 h4 p5 h5 p6 h6 p7 h7 p8 h8 p9 h9 p10 h10 p11 h11 x0 x1 x2 x3 x4 x5 x6 = out0_7 x0 x1 x2 x3 x4 x5 x6 ∧
    out1_A_8 c i p1 h1 p2 h2 p3 h3 p4 h4 p5 h5 p6 h6 p7 h7 p8 h8 p9 h9 p10 h10 p11 h11 x0 x1 x2 x3 x4 x5 x6 = out0_8 x0 x1 x2 x3 x4 x5 x6 ∧
    out1_A_9 c i p1 h1 p2 h2 p3 h3 p4 h4 p5 h5 p6 h6 p7 h7 p8 h8 p9 h9 p10 h10 p11 h11 x0 x1 x2 x3 x4 x5 x6 = out0_9 x0 x1 x2 x3 x4 x5 x6 ∧
    out1_A_10 c i p1 h1 p2 h2 p3 h3 p4 h4 p5 h5 p6 h6 p7 h7 p8 h8 p9 h9 p10 h10 p11 h11 x0 x1 x2 x3 x4 x5 x6 = out0_10 x0 x1 x2 x3 x4 x5 x6 := by
  unfold out1_A_7 out1_A_8 out1_A_9 out1_A_10
  rw [View.read_writes_eq_canon _ _ _ (fun _ => cover1_A_7 ..), View.read_writes_eq_canon _ _ _ (fun _ => cover1_A_8 ..), View.read_writes_eq_canon _ _ _ (fun _ => cover1_A_9 ..), View.read_writes_eq_canon _ _ _ (fun _ => cover1_A_10 ..)]
  unfold kernelRun1_A
  dsimp only
  sl_unfold_words
  unfold out0_7 out0_8 out0_9 out0_10
  simp only [View.canon_unit_zero (S := S1x256x1408) zeros3, View.readAt_eq_ld, h1.read_unread, h2.read_unread, h3.read_unread, h4.read_unread, h5.read_unread, h6.read_unread, h7.read_unread]
  exact ⟨rfl, rfl, rfl, rfl⟩

end

/-- A function of the second call's blocks at a point. -/
abbrev on (c : Dev nD) (t : Fin cfg1.N) (f : Part → Part → Part → Part → Block → Block → Block → Block) : Block :=
  f (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t)

theorem entry7 (c : Dev nD) (t : Fin cfg1.N) : (dat1 (V2 m ρ) c).after 7 t = on m ρ c t out0_7 := by
  rw [after1_7]; unfold outsAt1; dsimp only; rw [(last ..).1]
theorem entry8 (c : Dev nD) (t : Fin cfg1.N) : (dat1 (V2 m ρ) c).after 8 t = on m ρ c t out0_8 := by
  rw [after1_8]; unfold outsAt1; dsimp only; rw [(last ..).2.1]
theorem entry9 (c : Dev nD) (t : Fin cfg1.N) : (dat1 (V2 m ρ) c).after 9 t = on m ρ c t out0_9 := by
  rw [after1_9]; unfold outsAt1; dsimp only; rw [(last ..).2.2.1]
theorem entry10 (c : Dev nD) (t : Fin cfg1.N) : (dat1 (V2 m ρ) c).after 10 t = on m ρ c t out0_10 := by
  rw [after1_10]; unfold outsAt1; dsimp only; rw [(last ..).2.2.2]

section
variable (a0 a1 : Parts) (a2 a3 a4 : Whole) (r : Fin 2048) (s : Fin 1408)
abbrev lay (l : Fin 2) (f : Step) : EReal :=
  f (a0 (ix3 0 r s)) (a0 (ix3 1 r s)) (a0 (ix3 2 r s)) (a0 (ix3 3 r s)) (a2 (ix3 l r s)) (a3 (ix3 l r s)) (a4 (ix3 l r s))

theorem reference7 : val_main_v6 (F := Ideal) a0 a1 (ix3 0 r s) = lay a0 a2 a3 a4 r s 0 grad ∧
    val_main_v6 (F := Ideal) a0 a1 (ix3 1 r s) = lay a1 a2 a3 a4 r s 1 grad := by
  unfold val_main_v6 val_main_v5 val_main_v3 val_main_cst_0 val_main_v2 val_main_v4 val_main_v1 val_main_cst val_main_v0
  constructor <;> pointwise <;> simp only [lay, grad, Fin.sum_univ_four, Fin.isValue, zero_add]

theorem reference9 : val_main_v11 (F := Ideal) a0 a1 a3 (ix3 0 r s) = lay a0 a2 a3 a4 r s 0 mean ∧
    val_main_v11 (F := Ideal) a0 a1 a3 (ix3 1 r s) = lay a1 a2 a3 a4 r s 1 mean := by
  unfold val_main_v11 val_main_v10 val_main_v9 val_main_cst_2 val_main_v8 val_main_v7 val_main_cst_1
  constructor <;> pointwise <;> simp only [lay, mean, grad, reference7 a0 a1 a2 a3 a4 r s]

theorem reference10 : val_main_v17 (F := Ideal) a0 a1 a4 (ix3 0 r s) = lay a0 a2 a3 a4 r s 0 square ∧
    val_main_v17 (F := Ideal) a0 a1 a4 (ix3 1 r s) = lay a1 a2 a3 a4 r s 1 square := by
  unfold val_main_v17 val_main_v16 val_main_v14 val_main_v15 val_main_cst_4 val_main_v13 val_main_v12 val_main_cst_3
  constructor <;> pointwise <;> simp only [lay, square, grad, reference7 a0 a1 a2 a3 a4 r s]

theorem reference8 : val_main_v30 (F := Ideal) a0 a1 a2 a3 a4 (ix3 0 r s) = lay a0 a2 a3 a4 r s 0 delta ∧
    val_main_v30 (F := Ideal) a0 a1 a2 a3 a4 (ix3 1 r s) = lay a1 a2 a3 a4 r s 1 delta := by
  unfold val_main_v30 val_main_v28 val_main_v27 val_main_v26 val_main_cst_8 val_main_v25 val_main_v24 val_main_v23 val_main_cst_7 val_main_v22 val_main_v21 val_main_v20 val_main_cst_6 val_main_v19 val_main_v18 val_main_cst_5 val_main_v29 val_main_cst_9
  constructor <;> pointwise <;> simp only [lay, delta, reference9 a0 a1 a2 a3 a4 r s, reference10 a0 a1 a2 a3 a4 r s]

end

theorem bound0 (t : Fin cfg0.N) : t.val < 8 := t.isLt.trans_eq N_0

theorem inputs0 : ∀ t : Fin cfg0.N, win0_0.index t = ![0, t.val, 0] ∧ win0_1.index t = ![1, t.val, 0] ∧ win0_2.index t = ![2, t.val, 0] ∧ win0_3.index t = ![3, t.val, 0] ∧ win0_4.index t = ![1, t.val, 0] ∧ win0_5.index t = ![1, t.val, 0] ∧ win0_6.index t = ![1, t.val, 0] := by
  intro (t : Fin grid0.N); revert t; decide +kernel

theorem output0 : ∀ t : Fin cfg0.N, win0_7.index t = ![1, t.val, 0] := by
  intro (t : Fin grid0.N); revert t; decide +kernel

theorem read0 (c : Dev nD) (t : Fin cfg0.N) (y1 : Fin 256) (y2 : Fin 1408) (r : Fin 2048) (hr : r.val = t.val * 256 + y1.val) (f : Step) :
    pt (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) y1 y2 f = lay (arr1 m c) (arr2 m c) (arr3 m c) (arr4 m c) r y2 1 f := by
  obtain ⟨a0, a1, a2, a3, a4, a5, a6⟩ := inputs0 t
  refine seven f ?_ ?_ ?_ ?_ ?_ ?_ ?_ <;> unfold iblk0 <;> rw [View.read_apply]
  · exact slab (arr1 m c) _ _ r a0 hr rfl rfl rfl
  · exact slab (arr1 m c) _ _ r a1 hr rfl rfl rfl
  · exact slab (arr1 m c) _ _ r a2 hr rfl rfl rfl
  · exact slab (arr1 m c) _ _ r a3 hr rfl rfl rfl
  · exact slab (arr2 m c) _ _ r a4 hr rfl rfl rfl
  · exact slab (arr3 m c) _ _ r a5 hr rfl rfl rfl
  · exact slab (arr4 m c) _ _ r a6 hr rfl rfl rfl

theorem flushed0 (c : Dev nD) (t : Fin cfg0.N) : (dat0 (V0 m ρ) c).flushed 7 t = ((cfg0.win 7).blk t).view.read (Elt Ideal) (whole0 m c) ∧
    (dat0 (V0 m ρ) c).flushed 8 t = ((cfg0.win 8).blk t).view.read (Elt Ideal) (whole1 m c) ∧
    (dat0 (V0 m ρ) c).flushed 9 t = ((cfg0.win 9).blk t).view.read (Elt Ideal) (whole2 m c) ∧
    (dat0 (V0 m ρ) c).flushed 10 t = ((cfg0.win 10).blk t).view.read (Elt Ideal) (whole3 m c) := by
  have hb := bound0 t
  have a7 := output0 t
  refine ⟨(after0_7 (V0 m ρ) c t).trans ?_, (after0_8 (V0 m ρ) c t).trans ?_, (after0_9 (V0 m ρ) c t).trans ?_, (after0_10 (V0 m ρ) c t).trans ?_⟩ <;>
    (funext y
     idx_vars y
     obtain rfl : y0 = 0 := Subsingleton.elim _ _
     rw [View.read_apply]
     obtain ⟨r, hr⟩ : ∃ r : Fin 2048, r.val = t.val * 256 + y1.val := ⟨⟨_, by omega⟩, rfl⟩
     have h := read0 m ρ c t y1 y2 r hr)
  · exact chain (step7 ..) (h _) (reference7 ..).2 (slab (whole0 m c) _ 1 r a7 hr rfl rfl rfl)
  · exact chain (step8 ..) (h _) (reference8 ..).2 (slab (whole1 m c) _ 1 r a7 hr rfl rfl rfl)
  · exact chain (step9 ..) (h _) (reference9 ..).2 (slab (whole2 m c) _ 1 r a7 hr rfl rfl rfl)
  · exact chain (step10 ..) (h _) (reference10 ..).2 (slab (whole3 m c) _ 1 r a7 hr rfl rfl rfl)

theorem covered0 (i : S2x2048x1408.Idx) (h : ¬(i 0).val = 0) : ∃ t : Fin cfg0.N, i ∈ ((cfg0.win 7).blk t).view.set :=
  reach (T := 256) (fun t ht => View.set_slice_whole main_v0_0 (win0_7.rect t) ▸ Rect.mem_set_unit.mpr ht) output0 (by have h0 : (i 0).val < 2 := (i 0).isLt; omega) (congrArg (256 * ·) N_0.symm) fun _ => ⟨rfl, rfl, rfl, rfl, rfl, rfl⟩

theorem bound1 (t : Fin cfg1.N) : t.val < 8 := t.isLt.trans_eq N_1

theorem inputs1 : ∀ t : Fin cfg1.N, win1_0.index t = ![0, t.val, 0] ∧ win1_1.index t = ![1, t.val, 0] ∧ win1_2.index t = ![2, t.val, 0] ∧ win1_3.index t = ![3, t.val, 0] ∧ win1_4.index t = ![0, t.val, 0] ∧ win1_5.index t = ![0, t.val, 0] ∧ win1_6.index t = ![0, t.val, 0] := by
  intro (t : Fin grid1.N); revert t; decide +kernel

theorem output1 : ∀ t : Fin cfg1.N, win1_7.index t = ![0, t.val, 0] := by
  intro (t : Fin grid1.N); revert t; decide +kernel

theorem read1 (c : Dev nD) (t : Fin cfg1.N) (y1 : Fin 256) (y2 : Fin 1408) (r : Fin 2048) (hr : r.val = t.val * 256 + y1.val) (f : Step) :
    pt (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) y1 y2 f = lay (arr0 m c) (arr2 m c) (arr3 m c) (arr4 m c) r y2 0 f := by
  obtain ⟨a0, a1, a2, a3, a4, a5, a6⟩ := inputs1 t
  have p := congrFun (W2_args m ρ c main_arg0 (by decide))
  refine seven f ?_ ?_ ?_ ?_ ?_ ?_ ?_ <;> unfold iblk1 <;> rw [View.read_apply]
  · exact (p _).trans (slab (arr0 m c) _ _ r a0 hr rfl rfl rfl)
  · exact (p _).trans (slab (arr0 m c) _ _ r a1 hr rfl rfl rfl)
  · exact (p _).trans (slab (arr0 m c) _ _ r a2 hr rfl rfl rfl)
  · exact (p _).trans (slab (arr0 m c) _ _ r a3 hr rfl rfl rfl)
  · exact (congrFun (W2_args m ρ c main_arg2 (by decide)) _).trans (slab (arr2 m c) _ _ r a4 hr rfl rfl rfl)
  · exact (congrFun (W2_args m ρ c main_arg3 (by decide)) _).trans (slab (arr3 m c) _ _ r a5 hr rfl rfl rfl)
  · exact (congrFun (W2_args m ρ c main_arg4 (by decide)) _).trans (slab (arr4 m c) _ _ r a6 hr rfl rfl rfl)

theorem flushed1 (c : Dev nD) (t : Fin cfg1.N) : (dat1 (V2 m ρ) c).flushed 7 t = ((cfg1.win 7).blk t).view.read (Elt Ideal) (whole0 m c) ∧
    (dat1 (V2 m ρ) c).flushed 8 t = ((cfg1.win 8).blk t).view.read (Elt Ideal) (whole1 m c) ∧
    (dat1 (V2 m ρ) c).flushed 9 t = ((cfg1.win 9).blk t).view.read (Elt Ideal) (whole2 m c) ∧
    (dat1 (V2 m ρ) c).flushed 10 t = ((cfg1.win 10).blk t).view.read (Elt Ideal) (whole3 m c) := by
  have hb := bound1 t
  have a7 := output1 t
  refine ⟨(entry7 m ρ c t).trans ?_, (entry8 m ρ c t).trans ?_, (entry9 m ρ c t).trans ?_, (entry10 m ρ c t).trans ?_⟩ <;>
    (funext y
     idx_vars y
     obtain rfl : y0 = 0 := Subsingleton.elim _ _
     rw [View.read_apply]
     obtain ⟨r, hr⟩ : ∃ r : Fin 2048, r.val = t.val * 256 + y1.val := ⟨⟨_, by omega⟩, rfl⟩
     have h := read1 m ρ c t y1 y2 r hr)
  · exact chain (step7 ..) (h _) (reference7 ..).1 (slab (whole0 m c) _ 0 r a7 hr rfl rfl rfl)
  · exact chain (step8 ..) (h _) (reference8 ..).1 (slab (whole1 m c) _ 0 r a7 hr rfl rfl rfl)
  · exact chain (step9 ..) (h _) (reference9 ..).1 (slab (whole2 m c) _ 0 r a7 hr rfl rfl rfl)
  · exact chain (step10 ..) (h _) (reference10 ..).1 (slab (whole3 m c) _ 0 r a7 hr rfl rfl rfl)

theorem covered1 (i : S2x2048x1408.Idx) (h : (i 0).val = 0) : ∃ t : Fin cfg1.N, i ∈ ((cfg1.win 7).blk t).view.set :=
  reach (T := 256) (fun t ht => View.set_slice_whole main_v1_0 (win1_7.rect t) ▸ Rect.mem_set_unit.mpr ht) output1 h (congrArg (256 * ·) N_1.symm) fun _ => ⟨rfl, rfl, rfl, rfl, rfl, rfl⟩

theorem away (i : S2x2048x1408.Idx) (h : ¬(i 0).val = 0) (t : Fin cfg1.N) : i ∉ ((cfg1.win 7).blk t).view.set := fun hm =>
  apart (output1 t) h (Rect.mem_set_unit.mp (View.set_slice_whole main_v1_0 (win1_7.rect t) ▸ hm : i ∈ (win1_7.rect t).set) 0)

/-- The second call's results start as the first call's. -/
theorem handed (c : Dev nD) : W2 m ρ c (Proc.devRef .tc main_v1_0) = W1 m ρ c (Proc.devRef .tc main_v0_0) ∧ W2 m ρ c (Proc.devRef .tc main_v1_1) = W1 m ρ c (Proc.devRef .tc main_v0_1) ∧ W2 m ρ c (Proc.devRef .tc main_v1_2) = W1 m ρ c (Proc.devRef .tc main_v0_2) ∧ W2 m ρ c (Proc.devRef .tc main_v1_3) = W1 m ρ c (Proc.devRef .tc main_v0_3) := by
  refine ⟨?_, ?_, ?_, ?_⟩ <;> (show StableHlo.after hostOps1 (W1 m ρ c) _ = _; after_results_simp <;> rfl)

theorem results (c : Dev nD) : W3 m ρ c (Proc.devRef .tc main_v1_0) = whole0 m c ∧ W3 m ρ c (Proc.devRef .tc main_v1_1) = whole1 m c ∧ W3 m ρ c (Proc.devRef .tc main_v1_2) = whole2 m c ∧ W3 m ρ c (Proc.devRef .tc main_v1_3) = whole3 m c :=
  ⟨(W3_arr m ρ c 7).trans (Runs.joined (dat1 (V2 m ρ) c) 7 (whole0 m c) (fun t => (flushed1 m ρ c t).1) flush1_7 covered1 away fun i h => (congrFun ((A_eq1 (V2 m ρ) c 7).trans ((handed m ρ c).1.trans (W1_arr m ρ c 7))) i).trans
      (Runs.covered (dat0 (V0 m ρ) c) 7 (whole0 m c) (fun t => (flushed0 m ρ c t).1) flush0_7 (covered0 i h))),
    (W3_arr m ρ c 8).trans (Runs.joined (dat1 (V2 m ρ) c) 8 (whole1 m c) (fun t => (flushed1 m ρ c t).2.1) flush1_8 covered1 away fun i h => (congrFun ((A_eq1 (V2 m ρ) c 8).trans ((handed m ρ c).2.1.trans (W1_arr m ρ c 8))) i).trans
      (Runs.covered (dat0 (V0 m ρ) c) 8 (whole1 m c) (fun t => (flushed0 m ρ c t).2.1) flush0_8 (covered0 i h))),
    (W3_arr m ρ c 9).trans (Runs.joined (dat1 (V2 m ρ) c) 9 (whole2 m c) (fun t => (flushed1 m ρ c t).2.2.1) flush1_9 covered1 away fun i h => (congrFun ((A_eq1 (V2 m ρ) c 9).trans ((handed m ρ c).2.2.1.trans (W1_arr m ρ c 9))) i).trans
      (Runs.covered (dat0 (V0 m ρ) c) 9 (whole2 m c) (fun t => (flushed0 m ρ c t).2.2.1) flush0_9 (covered0 i h))),
    (W3_arr m ρ c 10).trans (Runs.joined (dat1 (V2 m ρ) c) 10 (whole3 m c) (fun t => (flushed1 m ρ c t).2.2.2) flush1_10 covered1 away fun i h => (congrFun ((A_eq1 (V2 m ρ) c 10).trans ((handed m ρ c).2.2.2.trans (W1_arr m ρ c 10))) i).trans
      (Runs.covered (dat0 (V0 m ρ) c) 10 (whole3 m c) (fun t => (flushed0 m ρ c t).2.2.2) flush0_10 (covered0 i h)))⟩

set_option backward.isDefEq.respectTransparency.types false in
/-- Every run ends with the last boundary's contents in every buffer the arguments and results live in. -/
theorem run : θ_run defs (onTc (τ := τ) (main (F := Ideal))) ⟨m, fun _ => 0, ρ⟩ (fun r => ∀ c : Dev nD,
    ∀ b ∈ Pipeline.ucRefs τ sig, r.2.mem ((c : Dev nD), b) = W3 m ρ c b) :=
  Runs.run pcfgs adm (pdats m ρ) cellOf_inj defs₀ m ρ main (segs m ρ) (main_run m ρ)
  (by simp only [segs, Pipeline.Seg.pipes_host, Pipeline.Seg.pipes_region, Pipeline.Seg.pipes_nil]; decide)
  (W3 m ρ) ⟨fun _ => .rfl, fun _ => .rfl, fun _ => .rfl, fun _ => .rfl⟩

end Cert.AdamUpIdeal.Product

namespace Cert.AdamUpClaims

open Idealize.ShloMosaic Idealize.ShloMosaic.TcCoe Idealize.SL.Sem Cert.AdamUpIdeal Cert.AdamUpIdeal.Gen Cert.AdamUpRefIdeal.Read

theorem frame_p : Cert.quiescent_AdamUp := fun m ρ _ => Cert.AdamUp.Gen.frame m ρ
theorem frame_pi : Cert.quiescent_AdamUpIdeal := fun m ρ _ => Cert.AdamUpIdeal.Gen.frame m ρ
theorem frame_ri : Cert.quiescent_AdamUpRefIdeal := fun m ρ _ =>
  (θ_run _ _ _).mono (fun r h => ⟨fun c => (h c).2.2.2.2, sem_eq_zero_of_no_sems (by decide) r.2⟩) (Cert.AdamUpRefIdeal.Value.run (F := Ideal) m ρ)

theorem preserves : Cert.preserves_AdamUp_AdamUpIdeal := trivial

theorem algebraic : Cert.algebraic_AdamUpIdeal_AdamUpRefIdeal := fun m ρ m' ρ' _ hag =>
  ⟨fun c => Product.whole0 m c, fun c => Product.whole1 m c, fun c => Product.whole2 m c, fun c => Product.whole3 m c,
    (θ_run _ _ _).mono (fun r h c => ⟨(h c _ (mem_uc _ (by decide))).trans (Product.results m ρ c).1,
      (h c _ (mem_uc _ (by decide))).trans (Product.results m ρ c).2.1,
      (h c _ (mem_uc _ (by decide))).trans (Product.results m ρ c).2.2.1,
      (h c _ (mem_uc _ (by decide))).trans (Product.results m ρ c).2.2.2,
      (h c _ (mem_uc _ (by decide))).trans (W3_main_arg0 m ρ c),
      (h c _ (mem_uc _ (by decide))).trans (W3_main_arg1 m ρ c),
      (h c _ (mem_uc _ (by decide))).trans (W3_main_arg2 m ρ c),
      (h c _ (mem_uc _ (by decide))).trans (W3_main_arg3 m ρ c),
      (h c _ (mem_uc _ (by decide))).trans (W3_main_arg4 m ρ c)⟩)
      (Product.run m ρ),
    (θ_run _ _ _).mono (fun r h c => ⟨(h c).1.trans (by rw [val_main_v6_eq, (hag c).1, (hag c).2.1]; rfl),
      (h c).2.1.trans (by rw [val_main_v30_eq, (hag c).1, (hag c).2.1, (hag c).2.2.1, (hag c).2.2.2.1, (hag c).2.2.2.2]; rfl),
      (h c).2.2.1.trans (by rw [val_main_v11_eq, (hag c).1, (hag c).2.1, (hag c).2.2.2.1]; rfl),
      (h c).2.2.2.1.trans (by rw [val_main_v17_eq, (hag c).1, (hag c).2.1, (hag c).2.2.2.2]; rfl), (h c).2.2.2.2⟩)
      (Cert.AdamUpRefIdeal.Value.run (F := Ideal) m' ρ')⟩

end Cert.AdamUpClaims
end
-- ==== Proof.LateSumProduct.lean ====
/-
  The sum of the gradients of the first norm's weight.
-/
module

public import proofs.«01_k».proof.Defs
public import proofs.«01_k».proof.Proof.Gen.LateSum.Frame
public import proofs.«01_k».proof.Proof.Gen.LateSumIdeal.Value
public import proofs.«01_k».proof.Proof.Gen.LateSumRefIdeal.Read
public import proofs.«01_k».proof.Proof.Zeros

@[expose] public section

set_option maxRecDepth 16384

noncomputable section

namespace Cert.LateSumIdeal.Product

open Cert.LateSumIdeal Cert.LateSumIdeal.Gen Idealize.ShloMosaic Idealize.ShloMosaic.TcCoe Idealize.SL.Sem
open Cert.LateSumRefIdeal.Read

variable (m : (ℓ : Loc nD τ sig) → Buf (Elt Ideal) ℓ)

abbrev arr0 (c : Dev nD) : Vec Ideal S640x1024 .f32 := m ((c : Thread nD τ).loc main_arg0)
abbrev arr1 (c : Dev nD) : Vec Ideal S64x1024 .f32 := m ((c : Thread nD τ).loc main_arg1)

/-- The reference's result at the kernel's arguments. -/
def whole (c : Dev nD) : Vec Ideal S8x1024 .f32 := val_main_v3 (F := Ideal) (arr0 m c) (arr1 m c)

theorem bound (t : Fin cfg0.N) : t.val < 1 := t.isLt.trans_eq N_0

/-- An element of a block of `8` rows from block row `n` on. -/
theorem rows {R : Nat} (A : (⟨2, ![R, 1024]⟩ : Shape).Idx → EReal) (e : (⟨2, ![R, 1024]⟩ : Shape).Idx) {at' : Fin 2 → Nat} {n : Nat}
    (r : Fin R) {y0 : Fin 8} {y1 : Fin 1024} (h : at' = ![n, 0]) (hr : r.val = n * 8 + y0.val)
    (h0 : (e 0).val = at' 0 * 8 + 1 * y0.val) (h1 : (e 1).val = at' 1 * 1024 + 1 * y1.val) : A e = A (ix2 r y1) := by
  subst h
  refine congrArg A (funext fun a => Fin.ext ?_)
  match a with
  | ⟨0, _⟩ => exact h0.trans (by show n * 8 + 1 * y0.val = r.val; omega)
  | ⟨1, _⟩ => exact h1.trans (by show 0 * 1024 + 1 * y1.val = y1.val; omega)

theorem index : ∀ t : Fin cfg0.N, win0_0.index t = ![0, 0] ∧ win0_1.index t = ![0, 0] ∧ win0_2.index t = ![1, 0] ∧ win0_3.index t = ![2, 0] ∧ win0_4.index t = ![3, 0] ∧ win0_5.index t = ![4, 0] ∧ win0_6.index t = ![5, 0] ∧ win0_7.index t = ![6, 0] ∧ win0_8.index t = ![7, 0] ∧ win0_9.index t = ![0, 0] := by
  intro (t : Fin grid0.N); revert t; decide +kernel

theorem reference_at (a0 : Vec Ideal S640x1024 .f32) (a1 : Vec Ideal S64x1024 .f32) (r : Fin 8) (s : Fin 1024) : val_main_v3 (F := Ideal) a0 a1 (ix2 r s) = a0 (ix2 ⟨r.val, by omega⟩ s) + ∑ k : Fin 8, a1 (ix2 ⟨k.val * 8 + r.val, by omega⟩ s) := by
  unfold val_main_v3 val_main_v2 val_main_cst val_main_v1 val_main_v0
  pointwise

theorem step (x0 x1 x2 x3 x4 x5 x6 x7 x8 : Vec Ideal S8x1024 .f32) (y0 : Fin 8) (y1 : Fin 1024) :
    out0_9 (F := Ideal) x0 x1 x2 x3 x4 x5 x6 x7 x8 (ix2 y0 y1) = x0 (ix2 y0 y1) + x1 (ix2 y0 y1) + x2 (ix2 y0 y1) + x3 (ix2 y0 y1) + x4 (ix2 y0 y1) + x5 (ix2 y0 y1) + x6 (ix2 y0 y1) + x7 (ix2 y0 y1) + x8 (ix2 y0 y1) := by
  unfold out0_9
  rw [View.canon_unit_zero zeros2]
  simp only [View.ld_unit_zero (S := S8x1024) zeros2]
  unfold k0_pay1
  pointwise

theorem flushed (c : Dev nD) (t : Fin cfg0.N) :
    (dats m 0 c).flushed 9 t = ((cfg0.win 9).blk t).view.read (Elt Ideal) (whole m c) := by
  rw [Value.flushed9]
  show out0_9 (F := Ideal) (iblk m c 0 t) (iblk m c 1 t) (iblk m c 2 t) (iblk m c 3 t) (iblk m c 4 t) (iblk m c 5 t) (iblk m c 6 t) (iblk m c 7 t) (iblk m c 8 t) = _
  have hb := bound t
  obtain ⟨b0, b1, b2, b3, b4, b5, b6, b7, b8, b9⟩ := index t
  funext y
  idx_vars y
  rw [View.read_apply]
  obtain ⟨r, hr⟩ : ∃ r : Fin 8, r.val = 0 * 8 + y0.val := ⟨⟨_, by omega⟩, rfl⟩
  refine (step _ _ _ _ _ _ _ _ _ y0 y1).trans (Eq.trans ?_ ((rows (whole m c) _ r b9 hr rfl rfl).trans (reference_at (arr0 m c) (arr1 m c) r y1)).symm)
  have e0 : (iblk m c 0 t : Vec Ideal S8x1024 .f32) (ix2 y0 y1) = arr0 m c (ix2 ⟨r.val, by omega⟩ y1) := rows (y0 := y0) (arr0 m c) _ _ b0 (by simp only []; omega) rfl rfl
  have e1 : (iblk m c 1 t : Vec Ideal S8x1024 .f32) (ix2 y0 y1) = arr1 m c (ix2 ⟨0 * 8 + r.val, by omega⟩ y1) := rows (y0 := y0) (arr1 m c) _ _ b1 (by simp only []; omega) rfl rfl
  have e2 : (iblk m c 2 t : Vec Ideal S8x1024 .f32) (ix2 y0 y1) = arr1 m c (ix2 ⟨1 * 8 + r.val, by omega⟩ y1) := rows (y0 := y0) (arr1 m c) _ _ b2 (by simp only []; omega) rfl rfl
  have e3 : (iblk m c 3 t : Vec Ideal S8x1024 .f32) (ix2 y0 y1) = arr1 m c (ix2 ⟨2 * 8 + r.val, by omega⟩ y1) := rows (y0 := y0) (arr1 m c) _ _ b3 (by simp only []; omega) rfl rfl
  have e4 : (iblk m c 4 t : Vec Ideal S8x1024 .f32) (ix2 y0 y1) = arr1 m c (ix2 ⟨3 * 8 + r.val, by omega⟩ y1) := rows (y0 := y0) (arr1 m c) _ _ b4 (by simp only []; omega) rfl rfl
  have e5 : (iblk m c 5 t : Vec Ideal S8x1024 .f32) (ix2 y0 y1) = arr1 m c (ix2 ⟨4 * 8 + r.val, by omega⟩ y1) := rows (y0 := y0) (arr1 m c) _ _ b5 (by simp only []; omega) rfl rfl
  have e6 : (iblk m c 6 t : Vec Ideal S8x1024 .f32) (ix2 y0 y1) = arr1 m c (ix2 ⟨5 * 8 + r.val, by omega⟩ y1) := rows (y0 := y0) (arr1 m c) _ _ b6 (by simp only []; omega) rfl rfl
  have e7 : (iblk m c 7 t : Vec Ideal S8x1024 .f32) (ix2 y0 y1) = arr1 m c (ix2 ⟨6 * 8 + r.val, by omega⟩ y1) := rows (y0 := y0) (arr1 m c) _ _ b7 (by simp only []; omega) rfl rfl
  have e8 : (iblk m c 8 t : Vec Ideal S8x1024 .f32) (ix2 y0 y1) = arr1 m c (ix2 ⟨7 * 8 + r.val, by omega⟩ y1) := rows (y0 := y0) (arr1 m c) _ _ b8 (by simp only []; omega) rfl rfl
  rw [e0, e1, e2, e3, e4, e5, e6, e7, e8, Fin.sum_univ_eight]
  simp only [← add_assoc]
  rfl

theorem cover (i : S8x1024.Idx) : ∃ t : Fin cfg0.N, (cfg0.win 9).flush t = true ∧ i ∈ ((cfg0.win 9).blk t).view.set := by
  have h0 : (i 0).val < 8 := (i 0).isLt
  have h1 : (i 1).val < 1024 := (i 1).isLt
  obtain ⟨t, ht⟩ : ∃ t : Fin cfg0.N, t.val = (i 0).val / 8 := ⟨⟨_, lt_of_lt_of_eq (by omega : (i 0).val / 8 < 1) N_0.symm⟩, rfl⟩
  obtain ⟨b0, b1, b2, b3, b4, b5, b6, b7, b8, b9⟩ := index t
  refine ⟨t, flush0_9 t, View.set_slice_whole main_v0 (win0_9.rect t) ▸ Rect.mem_set_unit.mpr fun a => ?_⟩
  match a with
  | ⟨0, _⟩ => show win0_9.index t 0 * 8 ≤ (i 0).val ∧ (i 0).val < win0_9.index t 0 * 8 + 8; rw [b9]; show 0 * 8 ≤ _ ∧ _ < 0 * 8 + 8; omega
  | ⟨1, _⟩ => show win0_9.index t 1 * 1024 ≤ (i 1).val ∧ (i 1).val < win0_9.index t 1 * 1024 + 1024; rw [b9]; show 0 * 1024 ≤ _ ∧ _ < 0 * 1024 + 1024; omega

theorem array9 (c : Dev nD) : (dats m 0 c).arrAt 9 cfg0.N = whole m c :=
  (dats m 0 c).arrAt_eq_of_cover 9 (whole m c) (fun t _ => flushed m c t) cover

end Cert.LateSumIdeal.Product

namespace Cert.LateSumClaims

open Idealize.ShloMosaic Idealize.ShloMosaic.TcCoe Idealize.SL.Sem Cert.LateSumRefIdeal.Read Cert.LateSumIdeal

theorem frame_p : Cert.quiescent_LateSum := fun m ρ _ => Cert.LateSum.Gen.frame m ρ
theorem frame_pi : Cert.quiescent_LateSumIdeal := fun m ρ _ => Cert.LateSumIdeal.Gen.frame m ρ
theorem frame_ri : Cert.quiescent_LateSumRefIdeal := fun m ρ _ =>
  (θ_run _ _ _).mono (fun r h => ⟨fun c => (h c).2, sem_eq_zero_of_no_sems (by decide) r.2⟩) (Cert.LateSumRefIdeal.Value.run (F := Ideal) m ρ)

theorem preserves : Cert.preserves_LateSum_LateSumIdeal := trivial

theorem algebraic : Cert.algebraic_LateSumIdeal_LateSumRefIdeal := fun m ρ m' ρ' _ hag =>
  ⟨fun c => Product.whole m c,
    (θ_run _ _ _).mono (fun r h c => ⟨(h c).1.trans (Product.array9 m c), (h c).2⟩)
      (Cert.LateSumIdeal.Value.run_blocks (F := Ideal) m ρ),
    (θ_run _ _ _).mono (fun r h c => ⟨(h c).1.trans (by rw [val_main_v3_eq, (hag c).1, (hag c).2]; rfl), (h c).2⟩)
      (Cert.LateSumRefIdeal.Value.run (F := Ideal) m' ρ')⟩

end Cert.LateSumClaims
end
-- ==== Proof.RmsProduct.lean ====
/-
  The root-mean-square norm of the layer's input.
-/
module

public import proofs.«01_k».proof.Defs
public import proofs.«01_k».proof.Proof.Gen.Rms.Frame
public import proofs.«01_k».proof.Proof.Gen.RmsIdeal.Value
public import proofs.«01_k».proof.Proof.Gen.RmsRefIdeal.Read
public import proofs.«01_k».proof.Proof.Tiles
public import proofs.«01_k».proof.Proof.Zeros

@[expose] public section

set_option maxRecDepth 16384

noncomputable section

namespace Cert.RmsIdeal.Product

open Cert.RmsIdeal Cert.RmsIdeal.Gen Cert.Tiles Idealize.ShloMosaic Idealize.ShloMosaic.TcCoe Idealize.SL.Sem Cert.RmsRefIdeal.Read

variable (m : (ℓ : Loc nD τ sig) → Buf (Elt Ideal) ℓ)

abbrev arr0 (c : Dev nD) : Vec Ideal S4096x2048 .f32 := m ((c : Thread nD τ).loc main_arg0)
abbrev arr1 (c : Dev nD) : Vec Ideal S2x2048 .f32 := m ((c : Thread nD τ).loc main_arg1)

theorem bound (t : Fin cfg0.N) : t.val < 16 := t.isLt.trans_eq N_0

theorem index0 : ∀ t : Fin cfg0.N, win0_0.index t 0 = t.val ∧ win0_0.index t 1 = 0 := by
  intro (t : Fin grid0.N); revert t; decide +kernel

theorem index1 : ∀ t : Fin cfg0.N, win0_1.index t 0 = 0 ∧ win0_1.index t 1 = 0 := by
  intro (t : Fin grid0.N); revert t; decide +kernel

/-! ### The input blocks of a grid point -/

theorem blk0 (c : Dev nD) (t : Fin cfg0.N) (y0 : Fin 256) (y1 : Fin 2048) :
    (iblk m c 0 t : Vec Ideal S256x2048 .f32) (ix2 y0 y1)
      = arr0 m c (ix2 ⟨t.val * 256 + y0.val, by have h := bound t; omega⟩ y1) :=
  (View.read_apply ..).trans (tile_rows (arr0 m c) _ (index0 t) _ _ rfl rfl rfl rfl)

theorem blk1 (c : Dev nD) (t : Fin cfg0.N) (y0 : Fin 2) (y1 : Fin 2048) :
    (iblk m c 1 t : Vec Ideal S2x2048 .f32) (ix2 y0 y1)
      = arr1 m c (ix2 y0 y1) :=
  (View.read_apply ..).trans (tile_rows (arr1 m c) _ (index1 t) _ _ (by show 0 * 2 + y0.val = y0.val; omega) rfl rfl rfl)

/-! ### What a grid point leaves in its output blocks -/

/-- Result 0 of the reference, at the kernel's arguments. -/
def whole2 (c : Dev nD) : Vec Ideal S4096x2048 .bf16 := val_main_v15 (F := Ideal) (arr0 m c) (arr1 m c)

theorem index2 : ∀ t : Fin cfg0.N, win0_2.index t 0 = t.val ∧ win0_2.index t 1 = 0 := by
  intro (t : Fin grid0.N); revert t; decide +kernel

theorem core2 (x0 : Vec Ideal S256x2048 .f32)
    (x1 : Vec Ideal S2x2048 .f32)
    (a0 : Vec Ideal S4096x2048 .f32) (a1 : Vec Ideal S2x2048 .f32) (t : Nat) (ht : t < 16)
    (h0 : ∀ (y0 : Fin 256) (y1 : Fin 2048), x0 (ix2 y0 y1) = a0 (ix2 ⟨t * 256 + y0.val, by omega⟩ y1))
    (h1 : ∀ (y0 : Fin 2) (y1 : Fin 2048), x1 (ix2 y0 y1) = a1 (ix2 y0 y1))
    (y0 : Fin 256) (y1 : Fin 2048) :
    out0_2 (F := Ideal) x0 x1 (ix2 y0 y1)
      = val_main_v15 (F := Ideal) a0 a1 (ix2 ⟨t * 256 + y0.val, by omega⟩ y1) := by
  unfold out0_2
  rw [View.canon_unit_zero zeros2]
  simp only [View.ld_unit_zero (S := S256x2048) zeros2, View.ld_unit_zero (S := S2x2048) zeros2]
  unfold k0_pay1
  unfold val_main_v15 val_main_v14 val_main_v13 val_main_v12 val_main_v1 val_main_v0 val_main_v11 val_main_v10 val_main_v9 val_main_v8 val_main_v7 val_main_cst_1 val_main_v6 val_main_v5 val_main_cst_0 val_main_v4 val_main_v3 val_main_cst val_main_v2
  pointwise
  simp only [h0, h1]

theorem flushed2 (c : Dev nD) (t : Fin cfg0.N) (hf : (cfg0.win 2).flush t = true) :
    (dats m 0 c).flushed 2 t = ((cfg0.win 2).blk t).view.read (Elt Ideal) (whole2 m c) := by
  rw [Value.flushed2]
  show out0_2 (F := Ideal) (iblk m c 0 t) (iblk m c 1 t) = _
  have hb := bound t
  funext y
  idx_vars y
  rw [View.read_apply]
  show _ = whole2 m c _
  refine Eq.trans ?_ (congrArg (whole2 m c) (?_ : ((ix2 ⟨t.val * 256 + y0.val, by omega⟩ y1) : S4096x2048.Idx) = _))
  · exact core2 (iblk m c 0 t) (iblk m c 1 t) (arr0 m c) (arr1 m c) t.val hb (blk0 m c t) (blk1 m c t) y0 y1
  · funext a
    apply Fin.ext
    match a with
    | ⟨0, _⟩ => show t.val * 256 + y0.val = win0_2.index t 0 * 256 + 1 * y0.val; rw [(index2 t).1] <;> omega
    | ⟨1, _⟩ => show y1.val = win0_2.index t 1 * 2048 + 1 * y1.val; rw [(index2 t).2] <;> omega

theorem cover2 (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : (i 0).val / 256 < cfg0.N := lt_of_lt_of_eq (by omega : (i 0).val / 256 < 16) N_0.symm
  refine ⟨⟨(i 0).val / 256, hN⟩, flush0_2 _, ?_⟩
  refine View.set_slice_whole main_v0 (win0_2.rect ⟨(i 0).val / 256, hN⟩) ▸ Rect.mem_set_unit.mpr ?_
  exact within (a := 256) (b := 2048) (index2 _) (by dsimp only; omega) (by dsimp only; omega) rfl rfl rfl rfl

/-- Result 0 after the call. -/
theorem array2 (c : Dev nD) : (dats m 0 c).arrAt 2 cfg0.N = whole2 m c :=
  (dats m 0 c).arrAt_eq_of_cover 2 (whole2 m c) (fun t hf => flushed2 m c t hf) cover2

end Cert.RmsIdeal.Product

namespace Cert.RmsClaims

open Idealize.ShloMosaic Idealize.ShloMosaic.TcCoe Idealize.SL.Sem Cert.RmsRefIdeal.Read Cert.RmsIdeal

theorem frame_p : Cert.quiescent_Rms := fun m ρ _ => Cert.Rms.Gen.frame m ρ
theorem frame_pi : Cert.quiescent_RmsIdeal := fun m ρ _ => Cert.RmsIdeal.Gen.frame m ρ
theorem frame_ri : Cert.quiescent_RmsRefIdeal := fun m ρ _ =>
  (θ_run _ _ _).mono (fun r h => ⟨fun c => (h c).2, sem_eq_zero_of_no_sems (by decide) r.2⟩) (Cert.RmsRefIdeal.Value.run (F := Ideal) m ρ)

theorem preserves : Cert.preserves_Rms_RmsIdeal := trivial

theorem algebraic : Cert.algebraic_RmsIdeal_RmsRefIdeal := fun m ρ m' ρ' _ hag =>
  ⟨fun c => Product.whole2 m c,
    (θ_run _ _ _).mono (fun r h c => ⟨(h c).1.trans (Product.array2 m c), (h c).2⟩)
      (Cert.RmsIdeal.Value.run_blocks (F := Ideal) m ρ),
    (θ_run _ _ _).mono (fun r h c => ⟨(h c).1.trans (by rw [val_main_v15_eq, (hag c).1, (hag c).2]; rfl), (h c).2⟩)
      (Cert.RmsRefIdeal.Value.run (F := Ideal) m' ρ')⟩

end Cert.RmsClaims
end
-- ==== Proof.RmsMemProduct.lean ====
/-
  The root-mean-square norm of the memory tokens.
-/
module

public import proofs.«01_k».proof.Defs
public import proofs.«01_k».proof.Proof.Gen.RmsMem.Frame
public import proofs.«01_k».proof.Proof.Gen.RmsMemIdeal.Value
public import proofs.«01_k».proof.Proof.Gen.RmsMemRefIdeal.Read
public import proofs.«01_k».proof.Proof.Tiles
public import proofs.«01_k».proof.Proof.Zeros

@[expose] public section

set_option maxRecDepth 16384

noncomputable section

namespace Cert.RmsMemIdeal.Product

open Cert.RmsMemIdeal Cert.RmsMemIdeal.Gen Cert.Tiles Idealize.ShloMosaic Idealize.ShloMosaic.TcCoe Idealize.SL.Sem Cert.RmsMemRefIdeal.Read

variable (m : (ℓ : Loc nD τ sig) → Buf (Elt Ideal) ℓ)

abbrev arr0 (c : Dev nD) : Vec Ideal S256x2048 .f32 := m ((c : Thread nD τ).loc main_arg0)
abbrev arr1 (c : Dev nD) : Vec Ideal S2x2048 .f32 := m ((c : Thread nD τ).loc main_arg1)

theorem bound (t : Fin cfg0.N) : t.val < 1 := t.isLt.trans_eq N_0

theorem index0 : ∀ t : Fin cfg0.N, win0_0.index t 0 = 0 ∧ win0_0.index t 1 = 0 := by
  intro (t : Fin grid0.N); revert t; decide +kernel

theorem index1 : ∀ t : Fin cfg0.N, win0_1.index t 0 = 0 ∧ win0_1.index t 1 = 0 := by
  intro (t : Fin grid0.N); revert t; decide +kernel

/-! ### The input blocks of a grid point -/

theorem blk0 (c : Dev nD) (t : Fin cfg0.N) (y0 : Fin 256) (y1 : Fin 2048) :
    (iblk m c 0 t : Vec Ideal S256x2048 .f32) (ix2 y0 y1)
      = arr0 m c (ix2 y0 y1) :=
  (View.read_apply ..).trans (tile_rows (arr0 m c) _ (index0 t) _ _ (by show 0 * 256 + y0.val = y0.val; omega) rfl rfl rfl)

theorem blk1 (c : Dev nD) (t : Fin cfg0.N) (y0 : Fin 2) (y1 : Fin 2048) :
    (iblk m c 1 t : Vec Ideal S2x2048 .f32) (ix2 y0 y1)
      = arr1 m c (ix2 y0 y1) :=
  (View.read_apply ..).trans (tile_rows (arr1 m c) _ (index1 t) _ _ (by show 0 * 2 + y0.val = y0.val; omega) rfl rfl rfl)

/-! ### What a grid point leaves in its output blocks -/

/-- Result 0 of the reference, at the kernel's arguments. -/
def whole2 (c : Dev nD) : Vec Ideal S256x2048 .bf16 := val_main_v15 (F := Ideal) (arr0 m c) (arr1 m c)

theorem index2 : ∀ t : Fin cfg0.N, win0_2.index t 0 = 0 ∧ win0_2.index t 1 = 0 := by
  intro (t : Fin grid0.N); revert t; decide +kernel

theorem core2 (x0 : Vec Ideal S256x2048 .f32)
    (x1 : Vec Ideal S2x2048 .f32)
    (a0 : Vec Ideal S256x2048 .f32) (a1 : Vec Ideal S2x2048 .f32) (t : Nat) (ht : t < 1)
    (h0 : ∀ (y0 : Fin 256) (y1 : Fin 2048), x0 (ix2 y0 y1) = a0 (ix2 y0 y1))
    (h1 : ∀ (y0 : Fin 2) (y1 : Fin 2048), x1 (ix2 y0 y1) = a1 (ix2 y0 y1))
    (y0 : Fin 256) (y1 : Fin 2048) :
    out0_2 (F := Ideal) x0 x1 (ix2 y0 y1)
      = val_main_v15 (F := Ideal) a0 a1 (ix2 y0 y1) := by
  unfold out0_2
  rw [View.canon_unit_zero zeros2]
  simp only [View.ld_unit_zero (S := S256x2048) zeros2, View.ld_unit_zero (S := S2x2048) zeros2]
  unfold k0_pay1
  unfold val_main_v15 val_main_v14 val_main_v13 val_main_v12 val_main_v1 val_main_v0 val_main_v11 val_main_v10 val_main_v9 val_main_v8 val_main_v7 val_main_cst_1 val_main_v6 val_main_v5 val_main_cst_0 val_main_v4 val_main_v3 val_main_cst val_main_v2
  pointwise
  simp only [h0, h1]

theorem flushed2 (c : Dev nD) (t : Fin cfg0.N) (hf : (cfg0.win 2).flush t = true) :
    (dats m 0 c).flushed 2 t = ((cfg0.win 2).blk t).view.read (Elt Ideal) (whole2 m c) := by
  rw [Value.flushed2]
  show out0_2 (F := Ideal) (iblk m c 0 t) (iblk m c 1 t) = _
  have hb := bound t
  funext y
  idx_vars y
  rw [View.read_apply]
  show _ = whole2 m c _
  refine Eq.trans ?_ (congrArg (whole2 m c) (?_ : ((ix2 y0 y1) : S256x2048.Idx) = _))
  · exact core2 (iblk m c 0 t) (iblk m c 1 t) (arr0 m c) (arr1 m c) t.val hb (blk0 m c t) (blk1 m c t) y0 y1
  · funext a
    apply Fin.ext
    match a with
    | ⟨0, _⟩ => show y0.val = win0_2.index t 0 * 256 + 1 * y0.val; rw [(index2 t).1] <;> omega
    | ⟨1, _⟩ => show y1.val = win0_2.index t 1 * 2048 + 1 * y1.val; rw [(index2 t).2] <;> omega

theorem cover2 (i : S256x2048.Idx) : ∃ t : Fin cfg0.N, (cfg0.win 2).flush t = true ∧ i ∈ ((cfg0.win 2).blk t).view.set := by
  have h0 : (i 0).val < 256 := (i 0).isLt
  have h1 : (i 1).val < 2048 := (i 1).isLt
  have hN : 0 < cfg0.N := lt_of_lt_of_eq (by omega : 0 < 1) N_0.symm
  refine ⟨⟨0, hN⟩, flush0_2 _, ?_⟩
  refine View.set_slice_whole main_v0 (win0_2.rect ⟨0, hN⟩) ▸ Rect.mem_set_unit.mpr ?_
  exact within (a := 256) (b := 2048) (index2 _) (by dsimp only; omega) (by dsimp only; omega) rfl rfl rfl rfl

/-- Result 0 after the call. -/
theorem array2 (c : Dev nD) : (dats m 0 c).arrAt 2 cfg0.N = whole2 m c :=
  (dats m 0 c).arrAt_eq_of_cover 2 (whole2 m c) (fun t hf => flushed2 m c t hf) cover2

end Cert.RmsMemIdeal.Product

namespace Cert.RmsMemClaims

open Idealize.ShloMosaic Idealize.ShloMosaic.TcCoe Idealize.SL.Sem Cert.RmsMemRefIdeal.Read Cert.RmsMemIdeal

theorem frame_p : Cert.quiescent_RmsMem := fun m ρ _ => Cert.RmsMem.Gen.frame m ρ
theorem frame_pi : Cert.quiescent_RmsMemIdeal := fun m ρ _ => Cert.RmsMemIdeal.Gen.frame m ρ
theorem frame_ri : Cert.quiescent_RmsMemRefIdeal := fun m ρ _ =>
  (θ_run _ _ _).mono (fun r h => ⟨fun c => (h c).2, sem_eq_zero_of_no_sems (by decide) r.2⟩) (Cert.RmsMemRefIdeal.Value.run (F := Ideal) m ρ)

theorem preserves : Cert.preserves_RmsMem_RmsMemIdeal := trivial

theorem algebraic : Cert.algebraic_RmsMemIdeal_RmsMemRefIdeal := fun m ρ m' ρ' _ hag =>
  ⟨fun c => Product.whole2 m c,
    (θ_run _ _ _).mono (fun r h c => ⟨(h c).1.trans (Product.array2 m c), (h c).2⟩)
      (Cert.RmsMemIdeal.Value.run_blocks (F := Ideal) m ρ),
    (θ_run _ _ _).mono (fun r h c => ⟨(h c).1.trans (by rw [val_main_v15_eq, (hag c).1, (hag c).2]; rfl), (h c).2⟩)
      (Cert.RmsMemRefIdeal.Value.run (F := Ideal) m' ρ')⟩

end Cert.RmsMemClaims
end
-- ==== Proof.SparseProduct.lean ====
/-
  The optimiser's step on the recurrence's two input matrices.
-/
module

public import proofs.«01_k».proof.Defs
public import proofs.«01_k».proof.Proof.Gen.Sparse.Frame
public import proofs.«01_k».proof.Proof.Gen.SparseIdeal.Value
public import proofs.«01_k».proof.Proof.Gen.SparseRefIdeal.Read
public import proofs.«01_k».proof.Proof.Zeros

@[expose] public section

set_option maxRecDepth 16384

noncomputable section

namespace Cert.SparseIdeal.Product

open Cert.SparseIdeal Cert.SparseIdeal.Gen Idealize.ShloMosaic Idealize.ShloMosaic.TcCoe Idealize.SL.Sem
open Cert.SparseRefIdeal.Read

local notation "Block" => Vec Ideal S1x16x64x16 EltTy.f32
local notation "Whole" => Vec Ideal S2x64x64x16 EltTy.f32

variable (m : (ℓ : Loc nD τ sig) → Buf (Elt Ideal) ℓ)

abbrev arr0 (c : Dev nD) : Whole := m ((c : Thread nD τ).loc main_arg0)
abbrev arr1 (c : Dev nD) : Whole := m ((c : Thread nD τ).loc main_arg1)
abbrev arr2 (c : Dev nD) : Whole := m ((c : Thread nD τ).loc main_arg2)
abbrev arr3 (c : Dev nD) : Whole := m ((c : Thread nD τ).loc main_arg3)
abbrev arr4 (c : Dev nD) : Whole := m ((c : Thread nD τ).loc main_arg4)
abbrev arr5 (c : Dev nD) : Whole := m ((c : Thread nD τ).loc main_arg5)
abbrev arr6 (c : Dev nD) : Whole := m ((c : Thread nD τ).loc main_arg6)
abbrev arr7 (c : Dev nD) : Whole := m ((c : Thread nD τ).loc main_arg7)

/-- An index is the tuple of its coordinates. -/
theorem split (i : S2x64x64x16.Idx) : ∃ (i0 : Fin 2) (i1 i2 : Fin 64) (i3 : Fin 16), i = ix4 i0 i1 i2 i3 :=
  ⟨i 0, i 1, i 2, i 3, funext fun a => by fin_cases a <;> rfl⟩

theorem bound (t : Fin cfg0.N) : t.val < 8 := t.isLt.trans_eq N_0

section
variable (x0 x1 x2 x3 x4 x5 x6 x7 : Block) (a0 a1 a2 a3 a4 a5 a6 a7 : Whole) (i : S2x64x64x16.Idx) (y1 : Fin 16) (y2 : Fin 64) (y3 : Fin 16)
  (h0 : x0 (ix4 0 y1 y2 y3) = a0 i) (h1 : x1 (ix4 0 y1 y2 y3) = a1 i) (h2 : x2 (ix4 0 y1 y2 y3) = a2 i) (h3 : x3 (ix4 0 y1 y2 y3) = a3 i) (h4 : x4 (ix4 0 y1 y2 y3) = a4 i) (h5 : x5 (ix4 0 y1 y2 y3) = a5 i) (h6 : x6 (ix4 0 y1 y2 y3) = a6 i) (h7 : x7 (ix4 0 y1 y2 y3) = a7 i)
include h0 h1 h2 h3 h4 h5 h6 h7

theorem core8 : out0_8 x0 x1 x2 x3 x4 x5 x6 x7 (ix4 0 y1 y2 y3) = val_main_v23 (F := Ideal) a0 a2 a4 a6 i := by
  obtain ⟨i0, i1, i2, i3, rfl⟩ := split i
  unfold out0_8
  rw [View.canon_unit_zero zeros4]
  simp only [View.ld_unit_zero (S := S1x16x64x16) zeros4]
  unfold k0_pay4 k0_pay3 k0_pay2
  unfold val_main_v23 val_main_v21 val_main_v20 val_main_v19 val_main_cst_6 val_main_v18 val_main_v17 val_main_v16 val_main_cst_5 val_main_v15 val_main_v14 val_main_v13 val_main_cst_4 val_main_v10 val_main_v9 val_main_v7 val_main_v8 val_main_cst_2 val_main_v6 val_main_v5 val_main_cst_1 val_main_v12 val_main_v11 val_main_cst_3 val_main_v4 val_main_v3 val_main_v2 val_main_cst_0 val_main_v1 val_main_v0 val_main_cst val_main_v22 val_main_cst_7
  pointwise
  simp only [h0, h1, h2, h3, h4, h5, h6, h7]

theorem core9 : out0_9 x0 x1 x2 x3 x4 x5 x6 x7 (ix4 0 y1 y2 y3) = val_main_v47 (F := Ideal) a1 a3 a5 a7 i := by
  obtain ⟨i0, i1, i2, i3, rfl⟩ := split i
  unfold out0_9
  rw [View.canon_unit_zero zeros4]
  simp only [View.ld_unit_zero (S := S1x16x64x16) zeros4]
  unfold k0_pay7 k0_pay6 k0_pay5 k0_pay1
  unfold val_main_v47 val_main_v45 val_main_v44 val_main_v43 val_main_cst_15 val_main_v42 val_main_v41 val_main_v40 val_main_cst_14 val_main_v39 val_main_v38 val_main_v37 val_main_cst_13 val_main_v34 val_main_v33 val_main_v31 val_main_v32 val_main_cst_11 val_main_v30 val_main_v29 val_main_cst_10 val_main_v36 val_main_v35 val_main_cst_12 val_main_v28 val_main_v27 val_main_v26 val_main_cst_9 val_main_v25 val_main_v24 val_main_cst_8 val_main_v46 val_main_cst_16
  pointwise
  simp only [h0, h1, h2, h3, h4, h5, h6, h7]

theorem core10 : out0_10 x0 x1 x2 x3 x4 x5 x6 x7 (ix4 0 y1 y2 y3) = val_main_v4 (F := Ideal) a0 a4 i := by
  obtain ⟨i0, i1, i2, i3, rfl⟩ := split i
  unfold out0_10
  rw [View.canon_unit_zero zeros4]
  simp only [View.ld_unit_zero (S := S1x16x64x16) zeros4]
  unfold k0_pay2
  unfold val_main_v4 val_main_v3 val_main_v2 val_main_cst_0 val_main_v1 val_main_v0 val_main_cst
  pointwise
  simp only [h0, h1, h2, h3, h4, h5, h6, h7]

theorem core11 : out0_11 x0 x1 x2 x3 x4 x5 x6 x7 (ix4 0 y1 y2 y3) = val_main_v28 (F := Ideal) a1 a5 i := by
  obtain ⟨i0, i1, i2, i3, rfl⟩ := split i
  unfold out0_11
  rw [View.canon_unit_zero zeros4]
  simp only [View.ld_unit_zero (S := S1x16x64x16) zeros4]
  unfold k0_pay5
  unfold val_main_v28 val_main_v27 val_main_v26 val_main_cst_9 val_main_v25 val_main_v24 val_main_cst_8
  pointwise
  simp only [h0, h1, h2, h3, h4, h5, h6, h7]

theorem core12 : out0_12 x0 x1 x2 x3 x4 x5 x6 x7 (ix4 0 y1 y2 y3) = val_main_v10 (F := Ideal) a0 a6 i := by
  obtain ⟨i0, i1, i2, i3, rfl⟩ := split i
  unfold out0_12
  rw [View.canon_unit_zero zeros4]
  simp only [View.ld_unit_zero (S := S1x16x64x16) zeros4]
  unfold k0_pay3
  unfold val_main_v10 val_main_v9 val_main_v7 val_main_v8 val_main_cst_2 val_main_v6 val_main_v5 val_main_cst_1
  pointwise
  simp only [h0, h1, h2, h3, h4, h5, h6, h7]

theorem core13 : out0_13 x0 x1 x2 x3 x4 x5 x6 x7 (ix4 0 y1 y2 y3) = val_main_v34 (F := Ideal) a1 a7 i := by
  obtain ⟨i0, i1, i2, i3, rfl⟩ := split i
  unfold out0_13
  rw [View.canon_unit_zero zeros4]
  simp only [View.ld_unit_zero (S := S1x16x64x16) zeros4]
  unfold k0_pay6
  unfold val_main_v34 val_main_v33 val_main_v31 val_main_v32 val_main_cst_11 val_main_v30 val_main_v29 val_main_cst_10
  pointwise
  simp only [h0, h1, h2, h3, h4, h5, h6, h7]

end

/-- Result 0 of the reference, at the kernel's arguments. -/
def whole8 (c : Dev nD) : Whole := val_main_v23 (F := Ideal) (arr0 m c) (arr2 m c) (arr4 m c) (arr6 m c)

theorem flushed8 (c : Dev nD) (t : Fin cfg0.N) :
    (dats m 0 c).flushed 8 t = ((cfg0.win 8).blk t).view.read (Elt Ideal) (whole8 m c) := by
  rw [Value.flushed8]
  show out0_8 (iblk m c 0 t) (iblk m c 1 t) (iblk m c 2 t) (iblk m c 3 t) (iblk m c 4 t) (iblk m c 5 t) (iblk m c 6 t) (iblk m c 7 t) = _
  funext y
  idx_vars y
  obtain rfl : y0 = 0 := Subsingleton.elim _ _
  rw [View.read_apply]
  exact core8 (iblk m c 0 t) (iblk m c 1 t) (iblk m c 2 t) (iblk m c 3 t) (iblk m c 4 t) (iblk m c 5 t) (iblk m c 6 t) (iblk m c 7 t) (arr0 m c) (arr1 m c) (arr2 m c) (arr3 m c) (arr4 m c) (arr5 m c) (arr6 m c) (arr7 m c) _ y1 y2 y3 rfl rfl rfl rfl rfl rfl rfl rfl

theorem index8 : ∀ t : Fin cfg0.N, win0_8.index t 0 = t.val / 4 ∧ win0_8.index t 1 = t.val % 4 ∧ win0_8.index t 2 = 0 ∧ win0_8.index t 3 = 0 := by
  intro (t : Fin grid0.N); revert t; decide +kernel

theorem cover8 (i : S2x64x64x16.Idx) : ∃ t : Fin cfg0.N, (cfg0.win 8).flush t = true ∧ i ∈ ((cfg0.win 8).blk t).view.set := by
  have h0 : (i 0).val < 2 := (i 0).isLt
  have h1 : (i 1).val < 64 := (i 1).isLt
  have h2 : (i 2).val < 64 := (i 2).isLt
  have h3 : (i 3).val < 16 := (i 3).isLt
  obtain ⟨t, ht⟩ : ∃ t : Fin cfg0.N, t.val = (i 0).val * 4 + (i 1).val / 16 :=
    ⟨⟨_, lt_of_lt_of_eq (by omega : (i 0).val * 4 + (i 1).val / 16 < 8) N_0.symm⟩, rfl⟩
  refine ⟨t, flush0_8 t, View.set_slice_whole main_v0_0 (win0_8.rect t) ▸ Rect.mem_set_unit.mpr fun a => ?_⟩
  match a with
  | ⟨0, _⟩ => show win0_8.index t 0 * 1 ≤ (i 0).val ∧ (i 0).val < win0_8.index t 0 * 1 + 1; rw [(index8 t).1] <;> omega
  | ⟨1, _⟩ => show win0_8.index t 1 * 16 ≤ (i 1).val ∧ (i 1).val < win0_8.index t 1 * 16 + 16; rw [(index8 t).2.1] <;> omega
  | ⟨2, _⟩ => show win0_8.index t 2 * 64 ≤ (i 2).val ∧ (i 2).val < win0_8.index t 2 * 64 + 64; rw [(index8 t).2.2.1] <;> omega
  | ⟨3, _⟩ => show win0_8.index t 3 * 16 ≤ (i 3).val ∧ (i 3).val < win0_8.index t 3 * 16 + 16; rw [(index8 t).2.2.2] <;> omega

theorem array8 (c : Dev nD) : (dats m 0 c).arrAt 8 cfg0.N = whole8 m c :=
  (dats m 0 c).arrAt_eq_of_cover 8 (whole8 m c) (fun t _ => flushed8 m c t) cover8

/-- Result 1 of the reference, at the kernel's arguments. -/
def whole9 (c : Dev nD) : Whole := val_main_v47 (F := Ideal) (arr1 m c) (arr3 m c) (arr5 m c) (arr7 m c)

theorem flushed9 (c : Dev nD) (t : Fin cfg0.N) :
    (dats m 0 c).flushed 9 t = ((cfg0.win 9).blk t).view.read (Elt Ideal) (whole9 m c) := by
  rw [Value.flushed9]
  show out0_9 (iblk m c 0 t) (iblk m c 1 t) (iblk m c 2 t) (iblk m c 3 t) (iblk m c 4 t) (iblk m c 5 t) (iblk m c 6 t) (iblk m c 7 t) = _
  funext y
  idx_vars y
  obtain rfl : y0 = 0 := Subsingleton.elim _ _
  rw [View.read_apply]
  exact core9 (iblk m c 0 t) (iblk m c 1 t) (iblk m c 2 t) (iblk m c 3 t) (iblk m c 4 t) (iblk m c 5 t) (iblk m c 6 t) (iblk m c 7 t) (arr0 m c) (arr1 m c) (arr2 m c) (arr3 m c) (arr4 m c) (arr5 m c) (arr6 m c) (arr7 m c) _ y1 y2 y3 rfl rfl rfl rfl rfl rfl rfl rfl

theorem cover9 (i : S2x64x64x16.Idx) : ∃ t : Fin cfg0.N, (cfg0.win 9).flush t = true ∧ i ∈ ((cfg0.win 9).blk t).view.set :=
  let ⟨t, _, h⟩ := cover8 i
  ⟨t, flush0_9 t, h⟩

theorem array9 (c : Dev nD) : (dats m 0 c).arrAt 9 cfg0.N = whole9 m c :=
  (dats m 0 c).arrAt_eq_of_cover 9 (whole9 m c) (fun t _ => flushed9 m c t) cover9

/-- Result 2 of the reference, at the kernel's arguments. -/
def whole10 (c : Dev nD) : Whole := val_main_v4 (F := Ideal) (arr0 m c) (arr4 m c)

theorem flushed10 (c : Dev nD) (t : Fin cfg0.N) :
    (dats m 0 c).flushed 10 t = ((cfg0.win 10).blk t).view.read (Elt Ideal) (whole10 m c) := by
  rw [Value.flushed10]
  show out0_10 (iblk m c 0 t) (iblk m c 1 t) (iblk m c 2 t) (iblk m c 3 t) (iblk m c 4 t) (iblk m c 5 t) (iblk m c 6 t) (iblk m c 7 t) = _
  funext y
  idx_vars y
  obtain rfl : y0 = 0 := Subsingleton.elim _ _
  rw [View.read_apply]
  exact core10 (iblk m c 0 t) (iblk m c 1 t) (iblk m c 2 t) (iblk m c 3 t) (iblk m c 4 t) (iblk m c 5 t) (iblk m c 6 t) (iblk m c 7 t) (arr0 m c) (arr1 m c) (arr2 m c) (arr3 m c) (arr4 m c) (arr5 m c) (arr6 m c) (arr7 m c) _ y1 y2 y3 rfl rfl rfl rfl rfl rfl rfl rfl

theorem cover10 (i : S2x64x64x16.Idx) : ∃ t : Fin cfg0.N, (cfg0.win 10).flush t = true ∧ i ∈ ((cfg0.win 10).blk t).view.set :=
  let ⟨t, _, h⟩ := cover8 i
  ⟨t, flush0_10 t, h⟩

theorem array10 (c : Dev nD) : (dats m 0 c).arrAt 10 cfg0.N = whole10 m c :=
  (dats m 0 c).arrAt_eq_of_cover 10 (whole10 m c) (fun t _ => flushed10 m c t) cover10

/-- Result 3 of the reference, at the kernel's arguments. -/
def whole11 (c : Dev nD) : Whole := val_main_v28 (F := Ideal) (arr1 m c) (arr5 m c)

theorem flushed11 (c : Dev nD) (t : Fin cfg0.N) :
    (dats m 0 c).flushed 11 t = ((cfg0.win 11).blk t).view.read (Elt Ideal) (whole11 m c) := by
  rw [Value.flushed11]
  show out0_11 (iblk m c 0 t) (iblk m c 1 t) (iblk m c 2 t) (iblk m c 3 t) (iblk m c 4 t) (iblk m c 5 t) (iblk m c 6 t) (iblk m c 7 t) = _
  funext y
  idx_vars y
  obtain rfl : y0 = 0 := Subsingleton.elim _ _
  rw [View.read_apply]
  exact core11 (iblk m c 0 t) (iblk m c 1 t) (iblk m c 2 t) (iblk m c 3 t) (iblk m c 4 t) (iblk m c 5 t) (iblk m c 6 t) (iblk m c 7 t) (arr0 m c) (arr1 m c) (arr2 m c) (arr3 m c) (arr4 m c) (arr5 m c) (arr6 m c) (arr7 m c) _ y1 y2 y3 rfl rfl rfl rfl rfl rfl rfl rfl

theorem cover11 (i : S2x64x64x16.Idx) : ∃ t : Fin cfg0.N, (cfg0.win 11).flush t = true ∧ i ∈ ((cfg0.win 11).blk t).view.set :=
  let ⟨t, _, h⟩ := cover8 i
  ⟨t, flush0_11 t, h⟩

theorem array11 (c : Dev nD) : (dats m 0 c).arrAt 11 cfg0.N = whole11 m c :=
  (dats m 0 c).arrAt_eq_of_cover 11 (whole11 m c) (fun t _ => flushed11 m c t) cover11

/-- Result 4 of the reference, at the kernel's arguments. -/
def whole12 (c : Dev nD) : Whole := val_main_v10 (F := Ideal) (arr0 m c) (arr6 m c)

theorem flushed12 (c : Dev nD) (t : Fin cfg0.N) :
    (dats m 0 c).flushed 12 t = ((cfg0.win 12).blk t).view.read (Elt Ideal) (whole12 m c) := by
  rw [Value.flushed12]
  show out0_12 (iblk m c 0 t) (iblk m c 1 t) (iblk m c 2 t) (iblk m c 3 t) (iblk m c 4 t) (iblk m c 5 t) (iblk m c 6 t) (iblk m c 7 t) = _
  funext y
  idx_vars y
  obtain rfl : y0 = 0 := Subsingleton.elim _ _
  rw [View.read_apply]
  exact core12 (iblk m c 0 t) (iblk m c 1 t) (iblk m c 2 t) (iblk m c 3 t) (iblk m c 4 t) (iblk m c 5 t) (iblk m c 6 t) (iblk m c 7 t) (arr0 m c) (arr1 m c) (arr2 m c) (arr3 m c) (arr4 m c) (arr5 m c) (arr6 m c) (arr7 m c) _ y1 y2 y3 rfl rfl rfl rfl rfl rfl rfl rfl

theorem cover12 (i : S2x64x64x16.Idx) : ∃ t : Fin cfg0.N, (cfg0.win 12).flush t = true ∧ i ∈ ((cfg0.win 12).blk t).view.set :=
  let ⟨t, _, h⟩ := cover8 i
  ⟨t, flush0_12 t, h⟩

theorem array12 (c : Dev nD) : (dats m 0 c).arrAt 12 cfg0.N = whole12 m c :=
  (dats m 0 c).arrAt_eq_of_cover 12 (whole12 m c) (fun t _ => flushed12 m c t) cover12

/-- Result 5 of the reference, at the kernel's arguments. -/
def whole13 (c : Dev nD) : Whole := val_main_v34 (F := Ideal) (arr1 m c) (arr7 m c)

theorem flushed13 (c : Dev nD) (t : Fin cfg0.N) :
    (dats m 0 c).flushed 13 t = ((cfg0.win 13).blk t).view.read (Elt Ideal) (whole13 m c) := by
  rw [Value.flushed13]
  show out0_13 (iblk m c 0 t) (iblk m c 1 t) (iblk m c 2 t) (iblk m c 3 t) (iblk m c 4 t) (iblk m c 5 t) (iblk m c 6 t) (iblk m c 7 t) = _
  funext y
  idx_vars y
  obtain rfl : y0 = 0 := Subsingleton.elim _ _
  rw [View.read_apply]
  exact core13 (iblk m c 0 t) (iblk m c 1 t) (iblk m c 2 t) (iblk m c 3 t) (iblk m c 4 t) (iblk m c 5 t) (iblk m c 6 t) (iblk m c 7 t) (arr0 m c) (arr1 m c) (arr2 m c) (arr3 m c) (arr4 m c) (arr5 m c) (arr6 m c) (arr7 m c) _ y1 y2 y3 rfl rfl rfl rfl rfl rfl rfl rfl

theorem cover13 (i : S2x64x64x16.Idx) : ∃ t : Fin cfg0.N, (cfg0.win 13).flush t = true ∧ i ∈ ((cfg0.win 13).blk t).view.set :=
  let ⟨t, _, h⟩ := cover8 i
  ⟨t, flush0_13 t, h⟩

theorem array13 (c : Dev nD) : (dats m 0 c).arrAt 13 cfg0.N = whole13 m c :=
  (dats m 0 c).arrAt_eq_of_cover 13 (whole13 m c) (fun t _ => flushed13 m c t) cover13

end Cert.SparseIdeal.Product

namespace Cert.SparseClaims

open Idealize.ShloMosaic Idealize.ShloMosaic.TcCoe Idealize.SL.Sem Cert.SparseRefIdeal.Read Cert.SparseIdeal

theorem frame_p : Cert.quiescent_Sparse := fun m ρ _ => Cert.Sparse.Gen.frame m ρ
theorem frame_pi : Cert.quiescent_SparseIdeal := fun m ρ _ => Cert.SparseIdeal.Gen.frame m ρ
theorem frame_ri : Cert.quiescent_SparseRefIdeal := fun m ρ _ =>
  (θ_run _ _ _).mono (fun r h => ⟨fun c => (h c).2.2.2.2.2.2, sem_eq_zero_of_no_sems (by decide) r.2⟩) (Cert.SparseRefIdeal.Value.run (F := Ideal) m ρ)

theorem preserves : Cert.preserves_Sparse_SparseIdeal := trivial

theorem algebraic : Cert.algebraic_SparseIdeal_SparseRefIdeal := fun m ρ m' ρ' _ hag =>
  ⟨fun c => Product.whole8 m c, fun c => Product.whole9 m c, fun c => Product.whole10 m c, fun c => Product.whole11 m c, fun c => Product.whole12 m c, fun c => Product.whole13 m c,
    (θ_run _ _ _).mono (fun r h c => ⟨(h c).1.trans (Product.array8 m c), (h c).2.1.trans (Product.array9 m c), (h c).2.2.1.trans (Product.array10 m c), (h c).2.2.2.1.trans (Product.array11 m c), (h c).2.2.2.2.1.trans (Product.array12 m c), (h c).2.2.2.2.2.1.trans (Product.array13 m c), (h c).2.2.2.2.2.2⟩)
      (Cert.SparseIdeal.Value.run_blocks (F := Ideal) m ρ),
    (θ_run _ _ _).mono (fun r h c => ⟨(h c).1.trans (by rw [val_main_v23_eq, (hag c).1, (hag c).2.2.1, (hag c).2.2.2.2.1, (hag c).2.2.2.2.2.2.1]; rfl),
      (h c).2.1.trans (by rw [val_main_v47_eq, (hag c).2.1, (hag c).2.2.2.1, (hag c).2.2.2.2.2.1, (hag c).2.2.2.2.2.2.2]; rfl),
      (h c).2.2.1.trans (by rw [val_main_v4_eq, (hag c).1, (hag c).2.2.2.2.1]; rfl),
      (h c).2.2.2.1.trans (by rw [val_main_v28_eq, (hag c).2.1, (hag c).2.2.2.2.2.1]; rfl),
      (h c).2.2.2.2.1.trans (by rw [val_main_v10_eq, (hag c).1, (hag c).2.2.2.2.2.2.1]; rfl),
      (h c).2.2.2.2.2.1.trans (by rw [val_main_v34_eq, (hag c).2.1, (hag c).2.2.2.2.2.2.2]; rfl), (h c).2.2.2.2.2.2⟩)
      (Cert.SparseRefIdeal.Value.run (F := Ideal) m' ρ')⟩

end Cert.SparseClaims
end
-- ==== Proof.SumProduct.lean ====
/-
  The sum of the eight devices' gradients of the small weights.
-/
module

public import proofs.«01_k».proof.Defs
public import proofs.«01_k».proof.Proof.Gen.Sum.Frame
public import proofs.«01_k».proof.Proof.Gen.SumIdeal.Value
public import proofs.«01_k».proof.Proof.Gen.SumRefIdeal.Read
public import proofs.«01_k».proof.Proof.Zeros

@[expose] public section

set_option maxRecDepth 16384

noncomputable section

namespace Cert.SumIdeal.Product

open Cert.SumIdeal Cert.SumIdeal.Gen Idealize.ShloMosaic Idealize.ShloMosaic.TcCoe Idealize.SL.Sem
open Cert.SumRefIdeal.Read

variable (m : (ℓ : Loc nD τ sig) → Buf (Elt Ideal) ℓ)

abbrev arr0 (c : Dev nD) : Vec Ideal S5120x1024 .f32 := m ((c : Thread nD τ).loc main_arg0)

/-- The reference's result at the kernel's arguments. -/
def whole (c : Dev nD) : Vec Ideal S640x1024 .f32 := val_main_v1 (F := Ideal) (arr0 m c)

theorem bound (t : Fin cfg0.N) : t.val < 5 := t.isLt.trans_eq N_0

/-- An element of a block of `128` rows from block row `n` on. -/
theorem rows {R : Nat} (A : (⟨2, ![R, 1024]⟩ : Shape).Idx → EReal) (e : (⟨2, ![R, 1024]⟩ : Shape).Idx) {at' : Fin 2 → Nat} {n : Nat}
    (r : Fin R) {y0 : Fin 128} {y1 : Fin 1024} (h : at' = ![n, 0]) (hr : r.val = n * 128 + y0.val)
    (h0 : (e 0).val = at' 0 * 128 + 1 * y0.val) (h1 : (e 1).val = at' 1 * 1024 + 1 * y1.val) : A e = A (ix2 r y1) := by
  subst h
  refine congrArg A (funext fun a => Fin.ext ?_)
  match a with
  | ⟨0, _⟩ => exact h0.trans (by show n * 128 + 1 * y0.val = r.val; omega)
  | ⟨1, _⟩ => exact h1.trans (by show 0 * 1024 + 1 * y1.val = y1.val; omega)

theorem index : ∀ t : Fin cfg0.N, win0_0.index t = ![t.val, 0] ∧ win0_1.index t = ![t.val + 5, 0] ∧ win0_2.index t = ![t.val + 10, 0] ∧ win0_3.index t = ![t.val + 15, 0] ∧ win0_4.index t = ![t.val + 20, 0] ∧ win0_5.index t = ![t.val + 25, 0] ∧ win0_6.index t = ![t.val + 30, 0] ∧ win0_7.index t = ![t.val + 35, 0] ∧ win0_8.index t = ![t.val, 0] := by
  intro (t : Fin grid0.N); revert t; decide +kernel

theorem reference_at (a0 : Vec Ideal S5120x1024 .f32) (r : Fin 640) (s : Fin 1024) : val_main_v1 (F := Ideal) a0 (ix2 r s) = ∑ k : Fin 8, a0 (ix2 ⟨k.val * 640 + r.val, by omega⟩ s) := by
  unfold val_main_v1 val_main_cst val_main_v0
  pointwise

theorem step (x0 x1 x2 x3 x4 x5 x6 x7 : Vec Ideal S128x1024 .f32) (y0 : Fin 128) (y1 : Fin 1024) :
    out0_8 (F := Ideal) x0 x1 x2 x3 x4 x5 x6 x7 (ix2 y0 y1) = x0 (ix2 y0 y1) + x1 (ix2 y0 y1) + x2 (ix2 y0 y1) + x3 (ix2 y0 y1) + x4 (ix2 y0 y1) + x5 (ix2 y0 y1) + x6 (ix2 y0 y1) + x7 (ix2 y0 y1) := by
  unfold out0_8
  rw [View.canon_unit_zero zeros2]
  simp only [View.ld_unit_zero (S := S128x1024) zeros2]
  unfold k0_pay1
  pointwise

theorem flushed (c : Dev nD) (t : Fin cfg0.N) :
    (dats m 0 c).flushed 8 t = ((cfg0.win 8).blk t).view.read (Elt Ideal) (whole m c) := by
  rw [Value.flushed8]
  show out0_8 (F := Ideal) (iblk m c 0 t) (iblk m c 1 t) (iblk m c 2 t) (iblk m c 3 t) (iblk m c 4 t) (iblk m c 5 t) (iblk m c 6 t) (iblk m c 7 t) = _
  have hb := bound t
  obtain ⟨b0, b1, b2, b3, b4, b5, b6, b7, b8⟩ := index t
  funext y
  idx_vars y
  rw [View.read_apply]
  obtain ⟨r, hr⟩ : ∃ r : Fin 640, r.val = t.val * 128 + y0.val := ⟨⟨_, by omega⟩, rfl⟩
  refine (step _ _ _ _ _ _ _ _ y0 y1).trans (Eq.trans ?_ ((rows (whole m c) _ r b8 hr rfl rfl).trans (reference_at (arr0 m c) r y1)).symm)
  have e0 : (iblk m c 0 t : Vec Ideal S128x1024 .f32) (ix2 y0 y1) = arr0 m c (ix2 ⟨0 * 640 + r.val, by omega⟩ y1) := rows (y0 := y0) (arr0 m c) _ _ b0 (by simp only []; omega) rfl rfl
  have e1 : (iblk m c 1 t : Vec Ideal S128x1024 .f32) (ix2 y0 y1) = arr0 m c (ix2 ⟨1 * 640 + r.val, by omega⟩ y1) := rows (y0 := y0) (arr0 m c) _ _ b1 (by simp only []; omega) rfl rfl
  have e2 : (iblk m c 2 t : Vec Ideal S128x1024 .f32) (ix2 y0 y1) = arr0 m c (ix2 ⟨2 * 640 + r.val, by omega⟩ y1) := rows (y0 := y0) (arr0 m c) _ _ b2 (by simp only []; omega) rfl rfl
  have e3 : (iblk m c 3 t : Vec Ideal S128x1024 .f32) (ix2 y0 y1) = arr0 m c (ix2 ⟨3 * 640 + r.val, by omega⟩ y1) := rows (y0 := y0) (arr0 m c) _ _ b3 (by simp only []; omega) rfl rfl
  have e4 : (iblk m c 4 t : Vec Ideal S128x1024 .f32) (ix2 y0 y1) = arr0 m c (ix2 ⟨4 * 640 + r.val, by omega⟩ y1) := rows (y0 := y0) (arr0 m c) _ _ b4 (by simp only []; omega) rfl rfl
  have e5 : (iblk m c 5 t : Vec Ideal S128x1024 .f32) (ix2 y0 y1) = arr0 m c (ix2 ⟨5 * 640 + r.val, by omega⟩ y1) := rows (y0 := y0) (arr0 m c) _ _ b5 (by simp only []; omega) rfl rfl
  have e6 : (iblk m c 6 t : Vec Ideal S128x1024 .f32) (ix2 y0 y1) = arr0 m c (ix2 ⟨6 * 640 + r.val, by omega⟩ y1) := rows (y0 := y0) (arr0 m c) _ _ b6 (by simp only []; omega) rfl rfl
  have e7 : (iblk m c 7 t : Vec Ideal S128x1024 .f32) (ix2 y0 y1) = arr0 m c (ix2 ⟨7 * 640 + r.val, by omega⟩ y1) := rows (y0 := y0) (arr0 m c) _ _ b7 (by simp only []; omega) rfl rfl
  rw [e0, e1, e2, e3, e4, e5, e6, e7, Fin.sum_univ_eight]

  rfl

theorem cover (i : S640x1024.Idx) : ∃ t : Fin cfg0.N, (cfg0.win 8).flush t = true ∧ i ∈ ((cfg0.win 8).blk t).view.set := by
  have h0 : (i 0).val < 640 := (i 0).isLt
  have h1 : (i 1).val < 1024 := (i 1).isLt
  obtain ⟨t, ht⟩ : ∃ t : Fin cfg0.N, t.val = (i 0).val / 128 := ⟨⟨_, lt_of_lt_of_eq (by omega : (i 0).val / 128 < 5) N_0.symm⟩, rfl⟩
  obtain ⟨b0, b1, b2, b3, b4, b5, b6, b7, b8⟩ := index t
  refine ⟨t, flush0_8 t, View.set_slice_whole main_v0 (win0_8.rect t) ▸ Rect.mem_set_unit.mpr fun a => ?_⟩
  match a with
  | ⟨0, _⟩ => show win0_8.index t 0 * 128 ≤ (i 0).val ∧ (i 0).val < win0_8.index t 0 * 128 + 128; rw [b8]; show t.val * 128 ≤ _ ∧ _ < t.val * 128 + 128; omega
  | ⟨1, _⟩ => show win0_8.index t 1 * 1024 ≤ (i 1).val ∧ (i 1).val < win0_8.index t 1 * 1024 + 1024; rw [b8]; show 0 * 1024 ≤ _ ∧ _ < 0 * 1024 + 1024; omega

theorem array8 (c : Dev nD) : (dats m 0 c).arrAt 8 cfg0.N = whole m c :=
  (dats m 0 c).arrAt_eq_of_cover 8 (whole m c) (fun t _ => flushed m c t) cover

end Cert.SumIdeal.Product

namespace Cert.SumClaims

open Idealize.ShloMosaic Idealize.ShloMosaic.TcCoe Idealize.SL.Sem Cert.SumRefIdeal.Read Cert.SumIdeal

theorem frame_p : Cert.quiescent_Sum := fun m ρ _ => Cert.Sum.Gen.frame m ρ
theorem frame_pi : Cert.quiescent_SumIdeal := fun m ρ _ => Cert.SumIdeal.Gen.frame m ρ
theorem frame_ri : Cert.quiescent_SumRefIdeal := fun m ρ _ =>
  (θ_run _ _ _).mono (fun r h => ⟨fun c => (h c).2, sem_eq_zero_of_no_sems (by decide) r.2⟩) (Cert.SumRefIdeal.Value.run (F := Ideal) m ρ)

theorem preserves : Cert.preserves_Sum_SumIdeal := trivial

theorem algebraic : Cert.algebraic_SumIdeal_SumRefIdeal := fun m ρ m' ρ' _ hag =>
  ⟨fun c => Product.whole m c,
    (θ_run _ _ _).mono (fun r h c => ⟨(h c).1.trans (Product.array8 m c), (h c).2⟩)
      (Cert.SumIdeal.Value.run_blocks (F := Ideal) m ρ),
    (θ_run _ _ _).mono (fun r h c => ⟨(h c).1.trans (by rw [val_main_v1_eq, (hag c)]; rfl), (h c).2⟩)
      (Cert.SumRefIdeal.Value.run (F := Ideal) m' ρ')⟩

end Cert.SumClaims
end
-- ==== Proof.Sigmoid.lean ====
/-
  The logistic function over the extended reals: the two ways its derivative is written agree.
-/
module

public import Idealize.ShloMosaic.PureOps.Ideal.Laws
public import Idealize.ShloMosaic.Lib.Pointwise

@[expose] public section

noncomputable section

namespace Cert.Sigmoid

open Idealize.ShloMosaic

theorem zero_sub_eq (a : EReal) : 0 - a = -a := by rw [sub_eq_add_neg, zero_add]

/-- An exponential is a nonnegative real or infinite. -/
theorem exp_cases (a : EReal) : (∃ r : ℝ, 0 ≤ r ∧ Ideal.exp a = (r : EReal)) ∨ Ideal.exp a = ⊤ := by
  induction a with
  | bot => exact Or.inl ⟨0, le_rfl, rfl⟩
  | top => exact Or.inr rfl
  | coe r => exact Or.inl ⟨Real.exp r, (Real.exp_pos r).le, rfl⟩

/-- The derivative as the quotient rule writes it is the derivative written with the function's own value. -/
theorem slope_at (e : EReal) (h : (∃ r : ℝ, 0 ≤ r ∧ e = (r : EReal)) ∨ e = ⊤) :
    Ideal.div 1 ((1 + e) * (1 + e)) * e = Ideal.div 1 (1 + e) * (1 - Ideal.div 1 (1 + e)) := by
  rcases h with ⟨r, hr, rfl⟩ | rfl
  · have h1 : (1 : EReal) + (r : EReal) = ((1 + r : ℝ) : EReal) := by rw [EReal.coe_add, EReal.coe_one]
    have hne : (1 + r : ℝ) ≠ 0 := by positivity
    rw [h1, ← EReal.coe_mul, Ideal.div_coe (mul_ne_zero hne hne), Ideal.div_coe hne, one_mul, one_mul, ← EReal.coe_mul,
      ← EReal.coe_one, ← EReal.coe_sub, ← EReal.coe_mul]
    congr 1
    field_simp
    ring
  · have h1 : (1 : EReal) + ⊤ = ⊤ := by rw [← EReal.coe_one]; exact EReal.coe_add_top 1
    have h2 : Ideal.div 1 (⊤ : EReal) = 0 := by unfold Ideal.div; simp
    rw [h1, EReal.top_mul_top, h2, zero_mul, zero_mul]

/-- The quotient rule's two negations cancel. -/
theorem slope (d a : EReal) :
    -(-(d * Ideal.div 1 ((1 + Ideal.exp a) * (1 + Ideal.exp a))) * Ideal.exp a)
      = d * (Ideal.div 1 (1 + Ideal.exp a) * (1 - Ideal.div 1 (1 + Ideal.exp a))) := by
  rw [EReal.neg_mul, neg_neg, mul_assoc, slope_at _ (exp_cases a)]

end Cert.Sigmoid

end
-- ==== Proof.MixProduct.lean ====
/-
  The gated sum of the two branches.
-/
module

public import proofs.«01_k».proof.Defs
public import proofs.«01_k».proof.Proof.Gen.Mix.Frame
public import proofs.«01_k».proof.Proof.Gen.MixIdeal.Value
public import proofs.«01_k».proof.Proof.Gen.MixRefIdeal.Read
public import proofs.«01_k».proof.Proof.Sigmoid
public import proofs.«01_k».proof.Proof.Tiles
public import proofs.«01_k».proof.Proof.Zeros

@[expose] public section

set_option maxRecDepth 16384

noncomputable section

namespace Cert.MixIdeal.Product

open Cert.MixIdeal Cert.MixIdeal.Gen Cert.Tiles Idealize.ShloMosaic Idealize.ShloMosaic.TcCoe Idealize.SL.Sem Cert.MixRefIdeal.Read

variable (m : (ℓ : Loc nD τ sig) → Buf (Elt Ideal) ℓ)

/-- Argument 0. -/
abbrev arr0 (c : Dev nD) : Vec Ideal S4096x7168 .f32 := m ((c : Thread nD τ).loc main_arg0)
/-- Argument 1. -/
abbrev arr1 (c : Dev nD) : Vec Ideal S4096x2048 .f32 := m ((c : Thread nD τ).loc main_arg1)
/-- Argument 2. -/
abbrev arr2 (c : Dev nD) : Vec Ideal S4096x4096 .f32 := m ((c : Thread nD τ).loc main_arg2)

theorem bound (t : Fin cfg0.N) : t.val < 32 := t.isLt.trans_eq N_0

theorem index0 : ∀ t : Fin cfg0.N, win0_0.index t 0 = t.val % 16 ∧ win0_0.index t 1 = 3 + t.val / 16 := by
  intro (t : Fin grid0.N); revert t; decide +kernel

theorem index1 : ∀ t : Fin cfg0.N, win0_1.index t 0 = t.val % 16 ∧ win0_1.index t 1 = 5 + t.val / 16 := by
  intro (t : Fin grid0.N); revert t; decide +kernel

theorem index2 : ∀ t : Fin cfg0.N, win0_2.index t 0 = t.val % 16 ∧ win0_2.index t 1 = t.val / 16 := by
  intro (t : Fin grid0.N); revert t; decide +kernel

theorem index3 : ∀ t : Fin cfg0.N, win0_3.index t 0 = t.val % 16 ∧ win0_3.index t 1 = t.val / 16 := by
  intro (t : Fin grid0.N); revert t; decide +kernel

theorem index4 : ∀ t : Fin cfg0.N, win0_4.index t 0 = t.val % 16 ∧ win0_4.index t 1 = 2 + t.val / 16 := by
  intro (t : Fin grid0.N); revert t; decide +kernel

/-! ### The input blocks of a grid point -/

theorem blk0 (c : Dev nD) (t : Fin cfg0.N) (y0 : Fin 256) (y1 : Fin 1024) :
    (iblk m c 0 t : Vec Ideal S256x1024 .f32) (ix2 y0 y1)
      = arr0 m c (ix2 ⟨t.val % 16 * 256 + y0.val, by have h := bound t; omega⟩ ⟨3072 + (t.val / 16 * 1024 + y1.val), by have h := bound t; omega⟩) :=
  (View.read_apply ..).trans (tile (arr0 m c) _ (index0 t) _ _ rfl (by show (3 + t.val / 16) * 1024 + y1.val = 3072 + (t.val / 16 * 1024 + y1.val); omega) rfl rfl)

theorem blk1 (c : Dev nD) (t : Fin cfg0.N) (y0 : Fin 256) (y1 : Fin 1024) :
    (iblk m c 1 t : Vec Ideal S256x1024 .f32) (ix2 y0 y1)
      = arr0 m c (ix2 ⟨t.val % 16 * 256 + y0.val, by have h := bound t; omega⟩ ⟨3072 + (2048 + (t.val / 16 * 1024 + y1.val)), by have h := bound t; omega⟩) :=
  (View.read_apply ..).trans (tile (arr0 m c) _ (index1 t) _ _ rfl (by show (5 + t.val / 16) * 1024 + y1.val = 3072 + (2048 + (t.val / 16 * 1024 + y1.val)); omega) rfl rfl)

theorem blk2 (c : Dev nD) (t : Fin cfg0.N) (y0 : Fin 256) (y1 : Fin 1024) :
    (iblk m c 2 t : Vec Ideal S256x1024 .f32) (ix2 y0 y1)
      = arr1 m c (ix2 ⟨t.val % 16 * 256 + y0.val, by have h := bound t; omega⟩ ⟨t.val / 16 * 1024 + y1.val, by have h := bound t; omega⟩) :=
  (View.read_apply ..).trans (tile (arr1 m c) _ (index2 t) _ _ rfl rfl rfl rfl)

theorem blk3 (c : Dev nD) (t : Fin cfg0.N) (y0 : Fin 256) (y1 : Fin 1024) :
    (iblk m c 3 t : Vec Ideal S256x1024 .f32) (ix2 y0 y1)
      = arr2 m c (ix2 ⟨t.val % 16 * 256 + y0.val, by have h := bound t; omega⟩ ⟨t.val / 16 * 1024 + y1.val, by have h := bound t; omega⟩) :=
  (View.read_apply ..).trans (tile (arr2 m c) _ (index3 t) _ _ rfl rfl rfl rfl)

theorem blk4 (c : Dev nD) (t : Fin cfg0.N) (y0 : Fin 256) (y1 : Fin 1024) :
    (iblk m c 4 t : Vec Ideal S256x1024 .f32) (ix2 y0 y1)
      = arr2 m c (ix2 ⟨t.val % 16 * 256 + y0.val, by have h := bound t; omega⟩ ⟨2048 + (t.val / 16 * 1024 + y1.val), by have h := bound t; omega⟩) :=
  (View.read_apply ..).trans (tile (arr2 m c) _ (index4 t) _ _ rfl (by show (2 + t.val / 16) * 1024 + y1.val = 2048 + (t.val / 16 * 1024 + y1.val); omega) rfl rfl)

/-! ### What a grid point leaves in its output blocks -/

/-- Result 0 of the reference, at the kernel's arguments. -/
def whole5 (c : Dev nD) : Vec Ideal S4096x2048 .bf16 := val_main_v21 (F := Ideal) (arr0 m c) (arr1 m c) (arr2 m c)

theorem index5 : ∀ t : Fin cfg0.N, win0_5.index t 0 = t.val % 16 ∧ win0_5.index t 1 = t.val / 16 := by
  intro (t : Fin grid0.N); revert t; decide +kernel

theorem core5 (x0 : Vec Ideal S256x1024 .f32)
    (x1 : Vec Ideal S256x1024 .f32)
    (x2 : Vec Ideal S256x1024 .f32)
    (x3 : Vec Ideal S256x1024 .f32)
    (x4 : Vec Ideal S256x1024 .f32)
    (a0 : Vec Ideal S4096x7168 .f32) (a1 : Vec Ideal S4096x2048 .f32) (a2 : Vec Ideal S4096x4096 .f32) (t : Nat) (ht : t < 32)
    (h0 : ∀ (y0 : Fin 256) (y1 : Fin 1024), x0 (ix2 y0 y1) = a0 (ix2 ⟨t % 16 * 256 + y0.val, by omega⟩ ⟨3072 + (t / 16 * 1024 + y1.val), by omega⟩))
    (h1 : ∀ (y0 : Fin 256) (y1 : Fin 1024), x1 (ix2 y0 y1) = a0 (ix2 ⟨t % 16 * 256 + y0.val, by omega⟩ ⟨3072 + (2048 + (t / 16 * 1024 + y1.val)), by omega⟩))
    (h2 : ∀ (y0 : Fin 256) (y1 : Fin 1024), x2 (ix2 y0 y1) = a1 (ix2 ⟨t % 16 * 256 + y0.val, by omega⟩ ⟨t / 16 * 1024 + y1.val, by omega⟩))
    (h3 : ∀ (y0 : Fin 256) (y1 : Fin 1024), x3 (ix2 y0 y1) = a2 (ix2 ⟨t % 16 * 256 + y0.val, by omega⟩ ⟨t / 16 * 1024 + y1.val, by omega⟩))
    (h4 : ∀ (y0 : Fin 256) (y1 : Fin 1024), x4 (ix2 y0 y1) = a2 (ix2 ⟨t % 16 * 256 + y0.val, by omega⟩ ⟨2048 + (t / 16 * 1024 + y1.val), by omega⟩))
    (y0 : Fin 256) (y1 : Fin 1024) :
    out0_5 (F := Ideal) x0 x1 x2 x3 x4 (ix2 y0 y1)
      = val_main_v21 (F := Ideal) a0 a1 a2 (ix2 ⟨t % 16 * 256 + y0.val, by omega⟩ ⟨t / 16 * 1024 + y1.val, by omega⟩) := by
  unfold out0_5
  rw [View.canon_unit_zero zeros2]
  simp only [View.ld_unit_zero (S := S256x1024) zeros2]
  unfold k0_pay1
  unfold val_main_v21 val_main_v20 val_main_v19 val_main_v9 val_main_v8 val_main_v6 val_main_v4 val_main_v3 val_main_v2 val_main_v5 val_main_cst val_main_v7 val_main_cst_0 val_main_v1 val_main_v17 val_main_v18 val_main_v16 val_main_v15 val_main_v13 val_main_v11 val_main_v10 val_main_v0 val_main_v12 val_main_cst_1 val_main_v14 val_main_cst_2
  pointwise
  simp only [h0, h1, h2, h3, h4]
  simp only [Cert.Sigmoid.zero_sub_eq]

theorem flushed5 (c : Dev nD) (t : Fin cfg0.N) (hf : (cfg0.win 5).flush t = true) :
    (dats m 0 c).flushed 5 t = ((cfg0.win 5).blk t).view.read (Elt Ideal) (whole5 m c) := by
  rw [Value.flushed5]
  show out0_5 (F := Ideal) (iblk m c 0 t) (iblk m c 1 t) (iblk m c 2 t) (iblk m c 3 t) (iblk m c 4 t) = _
  have hb := bound t
  funext y
  idx_vars y
  rw [View.read_apply]
  show _ = whole5 m c _
  refine Eq.trans ?_ (congrArg (whole5 m c) (?_ : ((ix2 ⟨t.val % 16 * 256 + y0.val, by omega⟩ ⟨t.val / 16 * 1024 + y1.val, by omega⟩) : S4096x2048.Idx) = _))
  · exact core5 (iblk m c 0 t) (iblk m c 1 t) (iblk m c 2 t) (iblk m c 3 t) (iblk m c 4 t) (arr0 m c) (arr1 m c) (arr2 m c) t.val hb (blk0 m c t) (blk1 m c t) (blk2 m c t) (blk3 m c t) (blk4 m c t) y0 y1
  · funext a
    apply Fin.ext
    match a with
    | ⟨0, _⟩ => show t.val % 16 * 256 + y0.val = win0_5.index t 0 * 256 + 1 * y0.val; rw [(index5 t).1] <;> omega
    | ⟨1, _⟩ => show t.val / 16 * 1024 + y1.val = win0_5.index t 1 * 1024 + 1 * y1.val; rw [(index5 t).2] <;> omega

theorem cover5 (i : S4096x2048.Idx) : ∃ t : Fin cfg0.N, (cfg0.win 5).flush t = true ∧ i ∈ ((cfg0.win 5).blk t).view.set := by
  have h0 : (i 0).val < 4096 := (i 0).isLt
  have h1 : (i 1).val < 2048 := (i 1).isLt
  have hN : (i 0).val / 256 + (i 1).val / 1024 * 16 < cfg0.N := lt_of_lt_of_eq (by omega : (i 0).val / 256 + (i 1).val / 1024 * 16 < 32) N_0.symm
  refine ⟨⟨(i 0).val / 256 + (i 1).val / 1024 * 16, hN⟩, flush0_5 _, ?_⟩
  refine View.set_slice_whole main_v0 (win0_5.rect ⟨(i 0).val / 256 + (i 1).val / 1024 * 16, hN⟩) ▸ Rect.mem_set_unit.mpr ?_
  exact within (a := 256) (b := 1024) (index5 _) (by dsimp only; omega) (by dsimp only; omega) rfl rfl rfl rfl

/-- Result 0 after the call. -/
theorem array5 (c : Dev nD) : (dats m 0 c).arrAt 5 cfg0.N = whole5 m c :=
  (dats m 0 c).arrAt_eq_of_cover 5 (whole5 m c) (fun t hf => flushed5 m c t hf) cover5

end Cert.MixIdeal.Product

namespace Cert.MixClaims

open Idealize.ShloMosaic Idealize.ShloMosaic.TcCoe Idealize.SL.Sem Cert.MixRefIdeal.Read Cert.MixIdeal

theorem frame_p : Cert.quiescent_Mix := fun m ρ _ => Cert.Mix.Gen.frame m ρ
theorem frame_pi : Cert.quiescent_MixIdeal := fun m ρ _ => Cert.MixIdeal.Gen.frame m ρ
theorem frame_ri : Cert.quiescent_MixRefIdeal := fun m ρ _ =>
  (θ_run _ _ _).mono (fun r h => ⟨fun c => (h c).2, sem_eq_zero_of_no_sems (by decide) r.2⟩) (Cert.MixRefIdeal.Value.run (F := Ideal) m ρ)

theorem preserves : Cert.preserves_Mix_MixIdeal := trivial

theorem algebraic : Cert.algebraic_MixIdeal_MixRefIdeal := fun m ρ m' ρ' _ hag =>
  ⟨fun c => Product.whole5 m c,
    (θ_run _ _ _).mono (fun r h c => ⟨(h c).1.trans (Product.array5 m c), (h c).2⟩)
      (Cert.MixIdeal.Value.run_blocks (F := Ideal) m ρ),
    (θ_run _ _ _).mono (fun r h c => ⟨(h c).1.trans (by rw [val_main_v21_eq, (hag c).1, (hag c).2.1, (hag c).2.2]; rfl), (h c).2⟩)
      (Cert.MixRefIdeal.Value.run (F := Ideal) m' ρ')⟩

end Cert.MixClaims
end
-- ==== Proof.PostProduct.lean ====
/-
  The layer norm and activation after the convolution.
-/
module

public import proofs.«01_k».proof.Defs
public import proofs.«01_k».proof.Proof.Gen.Post.Frame
public import proofs.«01_k».proof.Proof.Gen.PostIdeal.Value
public import proofs.«01_k».proof.Proof.Gen.PostRefIdeal.Read
public import proofs.«01_k».proof.Proof.Sigmoid
public import proofs.«01_k».proof.Proof.Tiles
public import proofs.«01_k».proof.Proof.Zeros

@[expose] public section

set_option maxRecDepth 16384

noncomputable section

namespace Cert.PostIdeal.Product

open Cert.PostIdeal Cert.PostIdeal.Gen Cert.Tiles Idealize.ShloMosaic Idealize.ShloMosaic.TcCoe Idealize.SL.Sem Cert.PostRefIdeal.Read

variable (m : (ℓ : Loc nD τ sig) → Buf (Elt Ideal) ℓ)

/-- Argument 0. -/
abbrev arr0 (c : Dev nD) : Vec Ideal S4096x1024 .f32 := m ((c : Thread nD τ).loc main_arg0)
/-- Argument 1. -/
abbrev arr1 (c : Dev nD) : Vec Ideal S2x1024 .f32 := m ((c : Thread nD τ).loc main_arg1)
/-- Argument 2. -/
abbrev arr2 (c : Dev nD) : Vec Ideal S2x1024 .f32 := m ((c : Thread nD τ).loc main_arg2)
/-- Argument 3. -/
abbrev arr3 (c : Dev nD) : Vec Ideal S2x1024 .f32 := m ((c : Thread nD τ).loc main_arg3)

theorem bound (t : Fin cfg0.N) : t.val < 16 := t.isLt.trans_eq N_0

theorem index0 : ∀ t : Fin cfg0.N, win0_0.index t 0 = t.val ∧ win0_0.index t 1 = 0 := by
  intro (t : Fin grid0.N); revert t; decide +kernel

theorem index1 : ∀ t : Fin cfg0.N, win0_1.index t 0 = 0 ∧ win0_1.index t 1 = 0 := by
  intro (t : Fin grid0.N); revert t; decide +kernel

theorem index2 : ∀ t : Fin cfg0.N, win0_2.index t 0 = 0 ∧ win0_2.index t 1 = 0 := by
  intro (t : Fin grid0.N); revert t; decide +kernel

theorem index3 : ∀ t : Fin cfg0.N, win0_3.index t 0 = 0 ∧ win0_3.index t 1 = 0 := by
  intro (t : Fin grid0.N); revert t; decide +kernel

/-! ### The input blocks of a grid point -/

theorem blk0 (c : Dev nD) (t : Fin cfg0.N) (y0 : Fin 256) (y1 : Fin 1024) :
    (iblk m c 0 t : Vec Ideal S256x1024 .f32) (ix2 y0 y1)
      = arr0 m c (ix2 ⟨t.val * 256 + y0.val, by have h := bound t; omega⟩ y1) :=
  (View.read_apply ..).trans (tile_rows (arr0 m c) _ (index0 t) _ _ rfl rfl rfl rfl)

theorem blk1 (c : Dev nD) (t : Fin cfg0.N) (y0 : Fin 2) (y1 : Fin 1024) :
    (iblk m c 1 t : Vec Ideal S2x1024 .f32) (ix2 y0 y1)
      = arr1 m c (ix2 y0 y1) :=
  (View.read_apply ..).trans (tile_rows (arr1 m c) _ (index1 t) _ _ (by show 0 * 2 + y0.val = y0.val; omega) rfl rfl rfl)

theorem blk2 (c : Dev nD) (t : Fin cfg0.N) (y0 : Fin 2) (y1 : Fin 1024) :
    (iblk m c 2 t : Vec Ideal S2x1024 .f32) (ix2 y0 y1)
      = arr2 m c (ix2 y0 y1) :=
  (View.read_apply ..).trans (tile_rows (arr2 m c) _ (index2 t) _ _ (by show 0 * 2 + y0.val = y0.val; omega) rfl rfl rfl)

theorem blk3 (c : Dev nD) (t : Fin cfg0.N) (y0 : Fin 2) (y1 : Fin 1024) :
    (iblk m c 3 t : Vec Ideal S2x1024 .f32) (ix2 y0 y1)
      = arr3 m c (ix2 y0 y1) :=
  (View.read_apply ..).trans (tile_rows (arr3 m c) _ (index3 t) _ _ (by show 0 * 2 + y0.val = y0.val; omega) rfl rfl rfl)

/-! ### What a grid point leaves in its output blocks -/

/-- Result 0 of the reference, at the kernel's arguments. -/
def whole4 (c : Dev nD) : Vec Ideal S4096x1024 .bf16 := val_main_v32 (F := Ideal) (arr0 m c) (arr1 m c) (arr2 m c) (arr3 m c)

theorem index4 : ∀ t : Fin cfg0.N, win0_4.index t 0 = t.val ∧ win0_4.index t 1 = 0 := by
  intro (t : Fin grid0.N); revert t; decide +kernel

theorem core4 (x0 : Vec Ideal S256x1024 .f32)
    (x1 : Vec Ideal S2x1024 .f32)
    (x2 : Vec Ideal S2x1024 .f32)
    (x3 : Vec Ideal S2x1024 .f32)
    (a0 : Vec Ideal S4096x1024 .f32) (a1 : Vec Ideal S2x1024 .f32) (a2 : Vec Ideal S2x1024 .f32) (a3 : Vec Ideal S2x1024 .f32) (t : Nat) (ht : t < 16)
    (h0 : ∀ (y0 : Fin 256) (y1 : Fin 1024), x0 (ix2 y0 y1) = a0 (ix2 ⟨t * 256 + y0.val, by omega⟩ y1))
    (h1 : ∀ (y0 : Fin 2) (y1 : Fin 1024), x1 (ix2 y0 y1) = a1 (ix2 y0 y1))
    (h2 : ∀ (y0 : Fin 2) (y1 : Fin 1024), x2 (ix2 y0 y1) = a2 (ix2 y0 y1))
    (h3 : ∀ (y0 : Fin 2) (y1 : Fin 1024), x3 (ix2 y0 y1) = a3 (ix2 y0 y1))
    (y0 : Fin 256) (y1 : Fin 1024) :
    out0_4 (F := Ideal) x0 x1 x2 x3 (ix2 y0 y1)
      = val_main_v32 (F := Ideal) a0 a1 a2 a3 (ix2 ⟨t * 256 + y0.val, by omega⟩ y1) := by
  unfold out0_4
  rw [View.canon_unit_zero zeros2]
  simp only [View.ld_unit_zero (S := S256x1024) zeros2, View.ld_unit_zero (S := S2x1024) zeros2]
  unfold k0_pay1
  unfold val_main_v32 val_main_v31 val_main_call0_v5 val_main_call0_v3 val_main_call0_v1 val_main_call0_v0 val_main_call0_v2 val_main_call0_cst val_main_call0_v4 val_main_call0_cst_0 val_main_v30 val_main_v29 val_main_v28 val_main_v5 val_main_v4 val_main_v27 val_main_v26 val_main_v25 val_main_v3 val_main_v2 val_main_v24 val_main_v23 val_main_v22 val_main_v21 val_main_v20 val_main_cst_3 val_main_v19 val_main_v18 val_main_cst_2 val_main_v17 val_main_v16 val_main_cst_1 val_main_v15 val_main_v14 val_main_v13 val_main_v12 val_main_v11 val_main_cst_0 val_main_v10 val_main_v9 val_main_cst val_main_v8 val_main_v7 val_main_v6 val_main_v1 val_main_v0
  pointwise
  simp only [h0, h1, h2, h3]
  simp only [Cert.Sigmoid.zero_sub_eq]

theorem flushed4 (c : Dev nD) (t : Fin cfg0.N) (hf : (cfg0.win 4).flush t = true) :
    (dats m 0 c).flushed 4 t = ((cfg0.win 4).blk t).view.read (Elt Ideal) (whole4 m c) := by
  rw [Value.flushed4]
  show out0_4 (F := Ideal) (iblk m c 0 t) (iblk m c 1 t) (iblk m c 2 t) (iblk m c 3 t) = _
  have hb := bound t
  funext y
  idx_vars y
  rw [View.read_apply]
  show _ = whole4 m c _
  refine Eq.trans ?_ (congrArg (whole4 m c) (?_ : ((ix2 ⟨t.val * 256 + y0.val, by omega⟩ y1) : S4096x1024.Idx) = _))
  · exact core4 (iblk m c 0 t) (iblk m c 1 t) (iblk m c 2 t) (iblk m c 3 t) (arr0 m c) (arr1 m c) (arr2 m c) (arr3 m c) t.val hb (blk0 m c t) (blk1 m c t) (blk2 m c t) (blk3 m c t) y0 y1
  · funext a
    apply Fin.ext
    match a with
    | ⟨0, _⟩ => show t.val * 256 + y0.val = win0_4.index t 0 * 256 + 1 * y0.val; rw [(index4 t).1] <;> omega
    | ⟨1, _⟩ => show y1.val = win0_4.index t 1 * 1024 + 1 * y1.val; rw [(index4 t).2] <;> omega

theorem cover4 (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  have hN : (i 0).val / 256 < cfg0.N := lt_of_lt_of_eq (by omega : (i 0).val / 256 < 16) N_0.symm
  refine ⟨⟨(i 0).val / 256, hN⟩, flush0_4 _, ?_⟩
  refine View.set_slice_whole main_v0 (win0_4.rect ⟨(i 0).val / 256, hN⟩) ▸ Rect.mem_set_unit.mpr ?_
  exact within (a := 256) (b := 1024) (index4 _) (by dsimp only; omega) (by dsimp only; omega) rfl rfl rfl rfl

/-- Result 0 after the call. -/
theorem array4 (c : Dev nD) : (dats m 0 c).arrAt 4 cfg0.N = whole4 m c :=
  (dats m 0 c).arrAt_eq_of_cover 4 (whole4 m c) (fun t hf => flushed4 m c t hf) cover4

end Cert.PostIdeal.Product

namespace Cert.PostClaims

open Idealize.ShloMosaic Idealize.ShloMosaic.TcCoe Idealize.SL.Sem Cert.PostRefIdeal.Read Cert.PostIdeal

theorem frame_p : Cert.quiescent_Post := fun m ρ _ => Cert.Post.Gen.frame m ρ
theorem frame_pi : Cert.quiescent_PostIdeal := fun m ρ _ => Cert.PostIdeal.Gen.frame m ρ
theorem frame_ri : Cert.quiescent_PostRefIdeal := fun m ρ _ =>
  (θ_run _ _ _).mono (fun r h => ⟨fun c => (h c).2, sem_eq_zero_of_no_sems (by decide) r.2⟩) (Cert.PostRefIdeal.Value.run (F := Ideal) m ρ)

theorem preserves : Cert.preserves_Post_PostIdeal := trivial

theorem algebraic : Cert.algebraic_PostIdeal_PostRefIdeal := fun m ρ m' ρ' _ hag =>
  ⟨fun c => Product.whole4 m c,
    (θ_run _ _ _).mono (fun r h c => ⟨(h c).1.trans (Product.array4 m c), (h c).2⟩)
      (Cert.PostIdeal.Value.run_blocks (F := Ideal) m ρ),
    (θ_run _ _ _).mono (fun r h c => ⟨(h c).1.trans (by rw [val_main_v32_eq, (hag c).1, (hag c).2.1, (hag c).2.2.1, (hag c).2.2.2]; rfl), (h c).2⟩)
      (Cert.PostRefIdeal.Value.run (F := Ideal) m' ρ')⟩

end Cert.PostClaims
end
-- ==== Proof.RmsBwdProduct.lean ====
/-
  The gradient of the layer's input: the backward step of the first norm, and what its scale gets.
-/
module

public import proofs.«01_k».proof.Defs
public import proofs.«01_k».proof.Proof.Gen.RmsBwd.Frame
public import proofs.«01_k».proof.Proof.Gen.RmsBwdIdeal.Value
public import proofs.«01_k».proof.Proof.Gen.RmsBwdRefIdeal.Read
public import proofs.«01_k».proof.Proof.Tiles
public import proofs.«01_k».proof.Proof.Zeros

@[expose] public section

set_option maxRecDepth 16384

noncomputable section

namespace Cert.RmsBwdIdeal.Product

open Cert.RmsBwdIdeal Cert.RmsBwdIdeal.Gen Cert.RmsBwdRefIdeal.Read Cert.Tiles Idealize.ShloMosaic Idealize.ShloMosaic.TcCoe Idealize.SL.Sem

variable (m : (ℓ : Loc nD τ sig) → Buf (Elt Ideal) ℓ)

abbrev arr0 (c : Dev nD) : Vec Ideal S4096x2048 .f32 := m ((c : Thread nD τ).loc main_arg0)
abbrev arr1 (c : Dev nD) : Vec Ideal S2x2048 .f32 := m ((c : Thread nD τ).loc main_arg1)
abbrev arr2 (c : Dev nD) : Vec Ideal S4096x2048 .bf16 := m ((c : Thread nD τ).loc main_arg2)
abbrev arr3 (c : Dev nD) : Vec Ideal S4096x2048 .f32 := m ((c : Thread nD τ).loc main_arg3)

theorem bound (t : Fin cfg0.N) : t.val < 16 := t.isLt.trans_eq N_0

theorem rows : ∀ t : Fin cfg0.N, win0_0.index t 0 = t.val ∧ win0_0.index t 1 = 0 := by
  intro (t : Fin grid0.N); revert t; decide +kernel

theorem rows4 : ∀ t : Fin cfg0.N, win0_4.index t 0 = t.val ∧ win0_4.index t 1 = 0 := by
  intro (t : Fin grid0.N); revert t; decide +kernel

theorem fixed3 : ∀ t : Fin cfg0.N, win0_3.index t 0 = 0 ∧ win0_3.index t 1 = 0 := by
  intro (t : Fin grid0.N); revert t; decide +kernel

theorem fixed6 : ∀ t : Fin cfg0.N, win0_6.index t 0 = 0 ∧ win0_6.index t 1 = 0 := by
  intro (t : Fin grid0.N); revert t; decide +kernel

/-! ### The input blocks of a grid point -/

theorem blk0 (c : Dev nD) (t : Fin cfg0.N) (y0 : Fin 256) (y1 : Fin 2048) :
    (iblk m c 0 t : Vec Ideal S256x2048 .f32) (ix2 y0 y1) = arr0 m c (ix2 ⟨t.val * 256 + y0.val, by have h := bound t; omega⟩ y1) :=
  (View.read_apply ..).trans (tile_rows (arr0 m c) _ (rows t) _ _ rfl rfl rfl rfl)

theorem blk1 (c : Dev nD) (t : Fin cfg0.N) (y0 : Fin 256) (y1 : Fin 2048) :
    (iblk m c 1 t : Vec Ideal S256x2048 .bf16) (ix2 y0 y1) = arr2 m c (ix2 ⟨t.val * 256 + y0.val, by have h := bound t; omega⟩ y1) :=
  (View.read_apply ..).trans (tile_rows (arr2 m c) _ (rows t) _ _ rfl rfl rfl rfl)

theorem blk2 (c : Dev nD) (t : Fin cfg0.N) (y0 : Fin 256) (y1 : Fin 2048) :
    (iblk m c 2 t : Vec Ideal S256x2048 .f32) (ix2 y0 y1) = arr3 m c (ix2 ⟨t.val * 256 + y0.val, by have h := bound t; omega⟩ y1) :=
  (View.read_apply ..).trans (tile_rows (arr3 m c) _ (rows t) _ _ rfl rfl rfl rfl)

theorem blk3 (c : Dev nD) (t : Fin cfg0.N) (y0 : Fin 2) (y1 : Fin 2048) :
    (iblk m c 3 t : Vec Ideal S2x2048 .f32) (ix2 y0 y1) = arr1 m c (ix2 y0 y1) :=
  (View.read_apply ..).trans (tile_rows (arr1 m c) _ (fixed3 t) _ _ (by show 0 * 2 + y0.val = y0.val; omega) rfl rfl rfl)

/-! ### What a grid point leaves in its output blocks -/

/-- The first row of the scales. -/
def row (x : Vec Ideal S2x2048 .f32) : Vec Ideal S1x2048 .f32 := fun i => x (ix2 0 (i 1))

theorem load_row (x : Vec Ideal S2x2048 .f32) (h : ∀ a, (![0, 0] : Fin 2 → Nat) a + (![1, 2048] : Fin 2 → Nat) a ≤ S2x2048.size a) :
    View.ld x (Rect.unit (s := S2x2048) ![0, 0] ![1, 2048] h) = row x := by
  funext (i : S1x2048.Idx)
  refine congrArg x (funext fun a => Fin.ext ?_)
  have h0 : (i 0).val < 1 := (i 0).isLt
  match a with
  | ⟨0, _⟩ => show 0 + 1 * (i 0).val = 0; omega
  | ⟨1, _⟩ => show 0 + 1 * (i 1).val = (i 1).val; omega

section
variable (c : Dev nD) (i : grid0.Coords) (a2 : Memref sig .tc .vmem S256x2048 .f32) (h2 : a2.IsWhole) (a3 : Memref sig .tc .vmem S256x2048 .bf16) (h3 : a3.IsWhole) (a4 : Memref sig .tc .vmem S256x2048 .f32) (h4 : a4.IsWhole) (a5 : Memref sig .tc .vmem S2x2048 .f32) (h5 : a5.IsWhole) (a6 : Memref sig .tc .vmem S256x2048 .f32) (h6 : a6.IsWhole) (a7 : Memref sig .tc .vmem S256x2048 .bf16) (h7 : a7.IsWhole) (a8 : Memref sig .tc .vmem S1x2048 .f32) (h8 : a8.IsWhole)
  (x0 : Vec Ideal S256x2048 .f32) (x1 : Vec Ideal S256x2048 .bf16) (x2 : Vec Ideal S256x2048 .f32) (x3 : Vec Ideal S2x2048 .f32) (s : Vec Ideal S1x2048 .f32)

theorem pointA (hc0 : cond0_0 i) (hc1 : ¬cond0_1 i) :
    out0_A_4 (F := Ideal) c i a2 h2 a3 h3 a4 h4 a5 h5 a6 h6 a7 h7 a8 h8 hc0 hc1 x0 x1 x2 x3 = k0_pay6 x0 x1 x2 (row x3)
      ∧ out0_A_5 (F := Ideal) c i a2 h2 a3 h3 a4 h4 a5 h5 a6 h6 a7 h7 a8 h8 hc0 hc1 x0 x1 x2 x3 = k0_pay1 (k0_pay6 x0 x1 x2 (row x3))
      ∧ out0_A_6 (F := Ideal) c i a2 h2 a3 h3 a4 h4 a5 h5 a6 h6 a7 h7 a8 h8 hc0 hc1 x0 x1 x2 x3 = k0_pay7 x0 x1 := by
  unfold out0_A_4 out0_A_5 out0_A_6
  rw [View.read_writes_eq_canon _ _ _ (fun _ => cover0_A_4 ..), View.read_writes_eq_canon _ _ _ (fun _ => cover0_A_5 ..), View.read_writes_eq_canon _ _ _ (fun _ => cover0_A_6 ..)]
  unfold kernelRun0_A
  dsimp only
  sl_unfold_words
  simp only [View.canon_unit_zero (S := S256x2048) zeros2, View.canon_unit_zero (S := S1x2048) zeros2, View.readAt_eq_ld, h2.read_unread, h3.read_unread, h4.read_unread, h5.read_unread, load_row, View.ld_unit_zero (S := S256x2048) zeros2, View.ld_unit_zero (S := S1x2048) zeros2]
  exact ⟨trivial, trivial, trivial⟩

theorem pointB (hc0 : ¬cond0_0 i) (hc1 : cond0_1 i) :
    out0_B_4 (F := Ideal) c i a2 h2 a3 h3 a4 h4 a5 h5 a6 h6 a7 h7 a8 h8 hc0 hc1 x0 x1 x2 x3 s = k0_pay6 x0 x1 x2 (row x3)
      ∧ out0_B_5 (F := Ideal) c i a2 h2 a3 h3 a4 h4 a5 h5 a6 h6 a7 h7 a8 h8 hc0 hc1 x0 x1 x2 x3 s = k0_pay1 (k0_pay6 x0 x1 x2 (row x3))
      ∧ out0_B_6 (F := Ideal) c i a2 h2 a3 h3 a4 h4 a5 h5 a6 h6 a7 h7 a8 h8 hc0 hc1 x0 x1 x2 x3 s = k0_pay2 (k0_pay7 x0 x1) s := by
  unfold out0_B_4 out0_B_5 out0_B_6
  rw [View.read_writes_eq_canon _ _ _ (fun _ => cover0_B_4 ..), View.read_writes_eq_canon _ _ _ (fun _ => cover0_B_5 ..), View.read_writes_eq_canon _ _ _ (fun _ => cover0_B_6 ..)]
  unfold kernelRun0_B
  dsimp only
  sl_unfold_words
  simp only [View.canon_unit_zero (S := S256x2048) zeros2, View.canon_unit_zero (S := S1x2048) zeros2, View.readAt_eq_ld, h2.read_unread, h3.read_unread, h4.read_unread, h5.read_unread, h8.read_unread, load_row, View.ld_unit_zero (S := S256x2048) zeros2, View.ld_unit_zero (S := S1x2048) zeros2]
  exact ⟨trivial, trivial, trivial⟩

end

theorem input_at (x0 : Vec Ideal S256x2048 .f32) (x1 : Vec Ideal S256x2048 .bf16) (x2 : Vec Ideal S256x2048 .f32) (x3 : Vec Ideal S1x2048 .f32)
    (a0 : Vec Ideal S4096x2048 .f32) (a1 : Vec Ideal S2x2048 .f32) (a2 : Vec Ideal S4096x2048 .bf16) (a3 : Vec Ideal S4096x2048 .f32) (t : Nat) (ht : t < 16)
    (h0 : ∀ (y0 : Fin 256) (y1 : Fin 2048), x0 (ix2 y0 y1) = a0 (ix2 ⟨t * 256 + y0.val, by omega⟩ y1))
    (h1 : ∀ (y0 : Fin 256) (y1 : Fin 2048), x1 (ix2 y0 y1) = a2 (ix2 ⟨t * 256 + y0.val, by omega⟩ y1))
    (h2 : ∀ (y0 : Fin 256) (y1 : Fin 2048), x2 (ix2 y0 y1) = a3 (ix2 ⟨t * 256 + y0.val, by omega⟩ y1))
    (h3 : ∀ y1 : Fin 2048, x3 (ix2 0 y1) = a1 (ix2 0 y1)) (y0 : Fin 256) (y1 : Fin 2048) :
    k0_pay6 (F := Ideal) x0 x1 x2 x3 (ix2 y0 y1) = val_main_v39 (F := Ideal) a0 a1 a2 a3 (ix2 ⟨t * 256 + y0.val, by omega⟩ y1) := by
  unfold k0_pay6 k0_pay5 k0_pay4 k0_pay3
  unfold val_main_v39 val_main_v38 val_main_v37 val_main_v36 val_main_v35 val_main_v34 val_main_v33 val_main_cst_7 val_main_v32 val_main_v31 val_main_cst_6 val_main_v30 val_main_v12 val_main_v10 val_main_v11 val_main_cst_2 val_main_v27 val_main_v26 val_main_cst_5 val_main_v25 val_main_v29 val_main_v28 val_main_v9 val_main_v8 val_main_v7 val_main_cst_1 val_main_v6 val_main_v5 val_main_cst_0 val_main_v4 val_main_v3 val_main_cst val_main_v2 val_main_v23 val_main_v22 val_main_v15 val_main_v1 val_main_v0 val_main_v18
  pointwise
  simp only [h0, h1, h2, h3]

/-- The sum over the rows of a point's blocks is the sum of the reference's terms over those rows. -/
theorem scale_at (x0 : Vec Ideal S256x2048 .f32) (x1 : Vec Ideal S256x2048 .bf16)
    (a0 : Vec Ideal S4096x2048 .f32) (a2 : Vec Ideal S4096x2048 .bf16) (t : Nat) (ht : t < 16)
    (h0 : ∀ (y0 : Fin 256) (y1 : Fin 2048), x0 (ix2 y0 y1) = a0 (ix2 ⟨t * 256 + y0.val, by omega⟩ y1))
    (h1 : ∀ (y0 : Fin 256) (y1 : Fin 2048), x1 (ix2 y0 y1) = a2 (ix2 ⟨t * 256 + y0.val, by omega⟩ y1)) (y1 : Fin 2048) :
    k0_pay7 (F := Ideal) x0 x1 (ix2 0 y1) = ∑ s : Fin 256, val_main_v19 (F := Ideal) a0 a2 (ix2 ⟨t * 256 + s.val, by omega⟩ y1) := by
  unfold k0_pay7 k0_pay5 k0_pay4 k0_pay3
  unfold val_main_v19 val_main_v18 val_main_v14 val_main_v13 val_main_v9 val_main_v8 val_main_v7 val_main_cst_1 val_main_v6 val_main_v5 val_main_cst_0 val_main_v4 val_main_v3 val_main_cst val_main_v2
  pointwise
  simp only [h0, h1, Fin.sum_univ_one]

theorem add_at (x s : Vec Ideal S1x2048 .f32) (k : Fin 2048) : k0_pay2 (F := Ideal) x s (ix2 0 k) = s (ix2 0 k) + x (ix2 0 k) := by
  unfold k0_pay2
  pointwise

theorem reference_scale (a0 : Vec Ideal S4096x2048 .f32) (a2 : Vec Ideal S4096x2048 .bf16) (k : Fin 2048) :
    val_main_v41 (F := Ideal) a0 a2 (ix2 0 k) = ∑ j : Fin 16, ∑ s : Fin 256, val_main_v19 (F := Ideal) a0 a2 (ix2 ⟨j.val * 256 + s.val, by omega⟩ k) := by
  unfold val_main_v41 val_main_v24 val_main_cst_4 val_main_v21 val_main_v20 val_main_cst_3
  pointwise
  rw [Fin.sum_univ_one, Fin.sum_univ_tiles 16 256 (by decide)]

/-- The results of the reference, at the kernel's arguments. -/
def whole4 (c : Dev nD) : Vec Ideal S4096x2048 .f32 := val_main_v39 (F := Ideal) (arr0 m c) (arr1 m c) (arr2 m c) (arr3 m c)
def whole5 (c : Dev nD) : Vec Ideal S4096x2048 .bf16 := val_main_v40 (F := Ideal) (arr0 m c) (arr1 m c) (arr2 m c) (arr3 m c)
def whole6 (c : Dev nD) : Vec Ideal S1x2048 .f32 := val_main_v41 (F := Ideal) (arr0 m c) (arr2 m c)

/-- The part of the scale's gradient that point `j` adds. -/
def part (c : Dev nD) (k : Fin 2048) (j : ℕ) : EReal :=
  if h : j < 16 then ∑ s : Fin 256, val_main_v19 (F := Ideal) (arr0 m c) (arr2 m c) (ix2 ⟨j * 256 + s.val, by omega⟩ k) else 0

theorem part_at (c : Dev nD) (t : Fin cfg0.N) (k : Fin 2048) :
    k0_pay7 (F := Ideal) (iblk m c 0 t) (iblk m c 1 t) (ix2 0 k) = part m c k t.val := by
  unfold part
  rw [dif_pos (bound t)]
  exact scale_at _ _ (arr0 m c) (arr2 m c) t.val (bound t) (blk0 m c t) (blk1 m c t) k

theorem acc_at (c : Dev nD) (k : Fin 2048) : ∀ (n : ℕ) (hn : n < cfg0.N),
    (outsAt0 m c n hn).2.2 (ix2 0 k) = ∑ j ∈ Finset.range (n + 1), part m c k j := by
  intro n
  induction n with
  | zero =>
    intro hn
    rw [outsAt0_A m c ⟨0, hn⟩ rfl (by show ¬1 ≤ 0; decide)]
    dsimp only
    rw [(pointA ..).2.2, part_at, Finset.sum_range_one]
  | succ n ih =>
    intro hn
    have hb : n + 1 < 16 := hn.trans_eq N_0
    rw [outsAt0_B m c ⟨n + 1, hn⟩ (by show ¬(n + 1) % 16 = 0; omega) (by show 1 ≤ n + 1; omega)]
    dsimp only
    rw [(pointB ..).2.2, add_at, part_at, Finset.sum_range_succ _ (n + 1)]
    exact congrArg (· + _) (ih (Nat.lt_of_succ_lt hn))

theorem outs_at (c : Dev nD) (t : Fin cfg0.N) :
    (outsAt0 m c t.val t.isLt).1 = k0_pay6 (iblk m c 0 t) (iblk m c 1 t) (iblk m c 2 t) (row (iblk m c 3 t))
      ∧ (outsAt0 m c t.val t.isLt).2.1 = k0_pay1 (k0_pay6 (iblk m c 0 t) (iblk m c 1 t) (iblk m c 2 t) (row (iblk m c 3 t))) := by
  have hb := bound t
  by_cases h : t.val % 16 = 0
  · rw [outsAt0_A m c t h (by omega)]
    dsimp only
    rw [(pointA ..).1, (pointA ..).2.1]
    exact ⟨rfl, rfl⟩
  · rw [outsAt0_B m c t h (by omega)]
    dsimp only
    rw [(pointB ..).1, (pointB ..).2.1]
    exact ⟨rfl, rfl⟩

theorem entry_at (c : Dev nD) (t : Fin cfg0.N) (y0 : Fin 256) (y1 : Fin 2048) :
    k0_pay6 (F := Ideal) (iblk m c 0 t) (iblk m c 1 t) (iblk m c 2 t) (row (iblk m c 3 t)) (ix2 y0 y1)
      = ((cfg0.win 4).blk t).view.read (Elt Ideal) (whole4 m c) (ix2 y0 y1) := by
  have hb := bound t
  rw [View.read_apply]
  refine Eq.trans ?_ (tile_rows (whole4 m c) _ (rows4 t) ⟨t.val * 256 + y0.val, by omega⟩ y1 rfl rfl rfl rfl).symm
  exact input_at _ _ _ _ (arr0 m c) (arr1 m c) (arr2 m c) (arr3 m c) t.val hb (blk0 m c t) (blk1 m c t) (blk2 m c t) (blk3 m c t 0) y0 y1

theorem flushed4 (c : Dev nD) (t : Fin cfg0.N) :
    (dats m 0 c).flushed 4 t = ((cfg0.win 4).blk t).view.read (Elt Ideal) (whole4 m c) := by
  rw [Value.flushed4]
  show (outsAt0 m c t.val t.isLt).1 = _
  rw [(outs_at m c t).1]
  funext y
  idx_vars y
  exact entry_at m c t y0 y1

theorem flushed5 (c : Dev nD) (t : Fin cfg0.N) :
    (dats m 0 c).flushed 5 t = ((cfg0.win 5).blk t).view.read (Elt Ideal) (whole5 m c) := by
  rw [Value.flushed5]
  show (outsAt0 m c t.val t.isLt).2.1 = _
  rw [(outs_at m c t).2]
  funext y
  idx_vars y
  exact entry_at m c t y0 y1

theorem flushed6 (c : Dev nD) (t : Fin cfg0.N) (hf : (cfg0.win 6).flush t = true) :
    (dats m 0 c).flushed 6 t = ((cfg0.win 6).blk t).view.read (Elt Ideal) (whole6 m c) := by
  have h15 : t.val = 15 := by have h := (flush0_6 t).mp hf; have hb := bound t; omega
  rw [Value.flushed6]
  show (outsAt0 m c t.val t.isLt).2.2 = _
  funext y
  idx_vars y
  obtain rfl : y0 = 0 := Subsingleton.elim _ _
  rw [View.read_apply]
  refine (acc_at m c y1 t.val t.isLt).trans (Eq.trans ?_ (tile_rows (whole6 m c) _ (fixed6 t) 0 y1 (by show 0 * 1 + 0 = 0; rfl) rfl rfl rfl).symm)
  rw [h15, ← Fin.sum_univ_eq_sum_range]
  refine Eq.trans ?_ (reference_scale _ _ y1).symm
  exact Finset.sum_congr rfl fun j _ => dif_pos j.isLt

theorem cover4 (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  have hN : (i 0).val / 256 < cfg0.N := lt_of_lt_of_eq (by omega : (i 0).val / 256 < 16) N_0.symm
  refine ⟨⟨(i 0).val / 256, hN⟩, flush0_4 _, ?_⟩
  refine View.set_slice_whole main_v0_0 (win0_4.rect ⟨(i 0).val / 256, hN⟩) ▸ Rect.mem_set_unit.mpr ?_
  exact within (a := 256) (b := 2048) (rows4 _) (by dsimp only; omega) (by dsimp only; omega) rfl rfl rfl rfl

theorem cover6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  have hN : 15 < cfg0.N := lt_of_lt_of_eq (by decide : 15 < 16) N_0.symm
  refine ⟨⟨15, hN⟩, (flush0_6 _).mpr rfl, ?_⟩
  refine View.set_slice_whole main_v0_2 (win0_6.rect ⟨15, hN⟩) ▸ Rect.mem_set_unit.mpr ?_
  exact within (a := 1) (b := 2048) (fixed6 _) (by dsimp only; omega) (by dsimp only; omega) rfl rfl rfl rfl

/-- The results after the call. -/
theorem arrays (c : Dev nD) : (dats m 0 c).arrAt 4 cfg0.N = whole4 m c ∧ (dats m 0 c).arrAt 5 cfg0.N = whole5 m c ∧ (dats m 0 c).arrAt 6 cfg0.N = whole6 m c :=
  ⟨(dats m 0 c).arrAt_eq_of_cover 4 _ (fun t _ => flushed4 m c t) cover4,
    (dats m 0 c).arrAt_eq_of_cover 5 _ (fun t _ => flushed5 m c t) (fun i => let ⟨t, _, h⟩ := cover4 i; ⟨t, flush0_5 t, h⟩),
    (dats m 0 c).arrAt_eq_of_cover 6 _ (fun t hf => flushed6 m c t hf) cover6⟩

end Cert.RmsBwdIdeal.Product

namespace Cert.RmsBwdClaims

open Idealize.ShloMosaic Idealize.ShloMosaic.TcCoe Idealize.SL.Sem Cert.RmsBwdIdeal.Product Cert.RmsBwdRefIdeal.Read

theorem frame_p : Cert.quiescent_RmsBwd := fun m ρ _ => Cert.RmsBwd.Gen.frame m ρ
theorem frame_pi : Cert.quiescent_RmsBwdIdeal := fun m ρ _ => Cert.RmsBwdIdeal.Gen.frame m ρ
theorem frame_ri : Cert.quiescent_RmsBwdRefIdeal := fun m ρ _ =>
  (θ_run _ _ _).mono (fun r h => ⟨fun c => (h c).2.2.2, sem_eq_zero_of_no_sems (by decide) r.2⟩) (Cert.RmsBwdRefIdeal.Value.run (F := Ideal) m ρ)

theorem preserves : Cert.preserves_RmsBwd_RmsBwdIdeal := trivial

theorem algebraic : Cert.algebraic_RmsBwdIdeal_RmsBwdRefIdeal := fun m ρ m' ρ' _ hag =>
  ⟨fun c => whole4 m c, fun c => whole5 m c, fun c => whole6 m c,
    (θ_run _ _ _).mono (fun r h c => ⟨(h c).1.trans (arrays m c).1, (h c).2.1.trans (arrays m c).2.1, (h c).2.2.1.trans (arrays m c).2.2, (h c).2.2.2⟩)
      (Cert.RmsBwdIdeal.Value.run_blocks (F := Ideal) m ρ),
    (θ_run _ _ _).mono (fun r h c => ⟨(h c).1.trans (by rw [val_main_v39_eq, (hag c).1, (hag c).2.1, (hag c).2.2.1, (hag c).2.2.2]; rfl),
        (h c).2.1.trans (by rw [val_main_v40_eq, (hag c).1, (hag c).2.1, (hag c).2.2.1, (hag c).2.2.2]; rfl),
        (h c).2.2.1.trans (by rw [(hag c).1, (hag c).2.2.1]; rfl), (h c).2.2.2⟩)
      (Cert.RmsBwdRefIdeal.Value.run (F := Ideal) m' ρ')⟩

end Cert.RmsBwdClaims
end
-- ==== Proof.Softmax.lean ====
/-
  The gradient of a softmax row over the extended reals, in the two forms that the attention's backward call and the
  derivative of the plain attention give it. For a row of finite scores the weights are positive reals, and the two
  forms are the same number, whatever the incoming gradient is.
-/
module

public import Idealize.ShloMosaic.Lib.Pointwise
public import Idealize.ShloMosaic.Lib.IdealHost

@[expose] public section

noncomputable section

namespace Cert.SoftmaxRow

open Idealize.ShloMosaic

variable {n : Nat}

/-- The largest score of a row. -/
def peak (s : Fin n → EReal) : EReal := Finset.fold max ⊥ s Finset.univ

/-- The exponential of a score's distance below the largest. -/
def weight (s : Fin n → EReal) (j : Fin n) : EReal := Ideal.exp (s j - peak s)

/-- The sum of a row's weights. -/
def total (s : Fin n → EReal) : EReal := ∑ j, weight s j

/-- The softmax of a row. -/
def prob (s : Fin n → EReal) (j : Fin n) : EReal := Ideal.div (weight s j) (total s)

/-- The scores' gradient from the probabilities' gradient `g`: `p (g - Σ g p) c`. -/
def grad (c : EReal) (s g : Fin n → EReal) (j : Fin n) : EReal :=
  prob s j * (g j - ∑ i, g i * prob s i) * c

/-- The same as the quotient rule writes it: `(g / t - Σ g (1 / t²) w) w c`. -/
def gradQuot (c : EReal) (s g : Fin n → EReal) (j : Fin n) : EReal :=
  (Ideal.div (g j) (total s) + -∑ i, g i * Ideal.div 1 (total s * total s) * weight s i) * weight s j * c

/-- A finite extended real is a real. -/
theorem real_of_finite {x : EReal} (h₁ : x ≠ ⊥) (h₂ : x ≠ ⊤) : ∃ r : ℝ, x = r :=
  ⟨x.toReal, (EReal.coe_toReal h₂ h₁).symm⟩

/-- The sum of real numbers is real. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A nonnegative real factor goes inside a sum. -/
theorem sum_mul_real {ι : Type*} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (by exact_mod_cast hr) (EReal.coe_ne_top r), ih]

/-- The largest of finitely many real scores, of which there is one, is real. -/
theorem peak_real (s : Fin n → ℝ) (j : Fin n) : ∃ r : ℝ, peak (fun i => (s i : EReal)) = r := by
  refine real_of_finite ?_ ?_
  · intro h
    have hle : (s j : EReal) ≤ peak (fun i => (s i : EReal)) :=
      Finset.le_fold_max _ |>.mpr (Or.inr ⟨j, Finset.mem_univ j, le_rfl⟩)
    rw [h] at hle
    exact EReal.coe_ne_bot _ (le_bot_iff.mp hle)
  · intro h
    have hlt : peak (fun i => (s i : EReal)) < ⊤ :=
      (Finset.fold_max_lt _).mpr ⟨bot_lt_top, fun i _ => EReal.coe_lt_top _⟩
    exact absurd h hlt.ne

/-- The two forms agree on a row of real scores. -/
theorem gradQuot_eq (c : EReal) (s g : Fin n → EReal) (hs : ∀ i, ∃ r : ℝ, s i = r) (j : Fin n) :
    gradQuot c s g j = grad c s g j := by
  choose r hr using hs
  obtain rfl : s = fun i => (r i : EReal) := funext hr
  obtain ⟨M, hM⟩ := peak_real r j
  have hw : ∀ i, weight (fun i => (r i : EReal)) i = ((Real.exp (r i - M) : ℝ) : EReal) := fun i => by
    unfold weight
    rw [hM, ← EReal.coe_sub, Ideal.exp_coe]
  have ht : total (fun i => (r i : EReal)) = ((∑ i, Real.exp (r i - M) : ℝ) : EReal) := by
    unfold total
    rw [coe_sum]
    exact Finset.sum_congr rfl fun i _ => hw i
  have hpos : 0 < ∑ i, Real.exp (r i - M) :=
    Finset.sum_pos (fun i _ => Real.exp_pos _) ⟨j, Finset.mem_univ j⟩
  set t : ℝ := ∑ i, Real.exp (r i - M) with htd
  have hdiv : ∀ x : EReal, Ideal.div x (t : EReal) = x * ((1 / t : ℝ) : EReal) := Ideal.div_coe hpos.ne'
  have hdiv2 : Ideal.div 1 ((t : EReal) * t) = ((1 / t : ℝ) : EReal) * ((1 / t : ℝ) : EReal) := by
    rw [← EReal.coe_mul, Ideal.div_coe (mul_pos hpos hpos).ne', one_mul, ← EReal.coe_mul]
    congr 1
    rw [one_div_mul_one_div]
  have hi : (0 : ℝ) ≤ 1 / t := (one_div_pos.mpr hpos).le
  unfold gradQuot grad prob
  simp only [ht, hw, hdiv, hdiv2]
  congr 1
  have hsum : ∑ i, g i * (((1 / t : ℝ) : EReal) * ((1 / t : ℝ) : EReal)) * ((Real.exp (r i - M) : ℝ) : EReal)
      = (∑ i, g i * (((Real.exp (r i - M) : ℝ) : EReal) * ((1 / t : ℝ) : EReal))) * ((1 / t : ℝ) : EReal) := by
    rw [sum_mul_real _ _ hi]
    refine Finset.sum_congr rfl fun i _ => ?_
    ac_rfl
  rw [hsum, ← neg_mul, ← EReal.right_distrib_of_nonneg_of_ne_top (by exact_mod_cast hi) (EReal.coe_ne_top _), sub_eq_add_neg]
  ac_rfl

end Cert.SoftmaxRow

end
-- ==== Proof.Attention.lean ====
/-
  The gradient of one device's attention as functions of its arrays: four heads of 512 columns, 4096 queries and 256
  keys. `kv` holds the keys in its first 2048 columns and the values in the rest; `o` is the gradient of the result.
-/
module

public import proofs.«01_k».proof.Proof.Softmax

@[expose] public section

noncomputable section

namespace Cert.Attention

open Idealize.ShloMosaic Cert.SoftmaxRow

/-- The scale `512 ^ (-1/2)`, rounded to a word as both programs carry it. -/
def scale : EReal := Ideal.ofBits .f32 0x3D3504F3#32

/-- The minus infinity that both programs' maxima start from. -/
theorem negInf_eq : Ideal.ofBits .f32 0xFF800000#32 = ⊥ := by simp [Ideal.ofBits, Ideal.ieee]

/-- The scale is a real number. -/
theorem scale_real : ∃ r : ℝ, scale = r :=
  ⟨11863283 * (2 ^ 28)⁻¹, by simp [scale, Ideal.ofBits, Ideal.ieee]⟩

/-- Column `d` of head `h` among the queries' columns. -/
def qcol (h : Fin 4) (d : Fin 512) : Fin 2048 := ⟨h.val * 512 + d.val, by omega⟩
/-- Column `d` of head `h` among the keys' columns. -/
def kcol (h : Fin 4) (d : Fin 512) : Fin 4096 := ⟨h.val * 512 + d.val, by omega⟩
/-- Column `d` of head `h` among the values' columns. -/
def vcol (h : Fin 4) (d : Fin 512) : Fin 4096 := ⟨2048 + (h.val * 512 + d.val), by omega⟩

variable (q : Fin 4096 → Fin 2048 → EReal) (kv : Fin 256 → Fin 4096 → EReal) (o : Fin 4096 → Fin 2048 → EReal)

/-- The score of query `l` against key `j` in head `h`. -/
def score (h : Fin 4) (l : Fin 4096) (j : Fin 256) : EReal := (∑ d : Fin 512, q l (qcol h d) * kv j (kcol h d)) * scale

/-- The gradient of the probability of key `j` for query `l` in head `h`. -/
def dprob (h : Fin 4) (l : Fin 4096) (j : Fin 256) : EReal := ∑ d : Fin 512, o l (qcol h d) * kv j (vcol h d)

/-- The gradient of the unscaled score. -/
def dscore (h : Fin 4) (l : Fin 4096) (j : Fin 256) : EReal := grad scale (score q kv h l) (dprob kv o h l) j

/-- The gradient of the queries. -/
def dq (h : Fin 4) (l : Fin 4096) (d : Fin 512) : EReal := ∑ j : Fin 256, dscore q kv o h l j * kv j (kcol h d)

/-- The gradient of the keys. -/
def dk (h : Fin 4) (j : Fin 256) (d : Fin 512) : EReal := ∑ l : Fin 4096, dscore q kv o h l j * q l (qcol h d)

/-- The gradient of the values. -/
def dv (h : Fin 4) (j : Fin 256) (d : Fin 512) : EReal := ∑ l : Fin 4096, prob (score q kv h l) j * o l (qcol h d)

/-- Scores of finite queries and keys are real. -/
theorem score_real (hq : ∀ l n, ∃ r : ℝ, q l n = r) (hk : ∀ j h d, ∃ r : ℝ, kv j (kcol h d) = r)
    (h : Fin 4) (l : Fin 4096) (j : Fin 256) : ∃ r : ℝ, score q kv h l j = r := by
  obtain ⟨c, hc⟩ := scale_real
  choose a ha using hq
  choose b hb using hk
  refine ⟨(∑ d : Fin 512, a l (qcol h d) * b j h d) * c, ?_⟩
  unfold score
  simp only [ha, hb, hc, EReal.coe_mul, coe_sum]

end Cert.Attention

end
-- ==== Proof.AttnFwdProduct.lean ====
/-
  The attention's forward call: grid point `8 h + i` computes query block `i` of head `h`, and the whole array is the
  reference's softmax of the scores times the values. No precondition is needed: both divide by the same sum.
-/
module

public import proofs.«01_k».proof.Defs
public import proofs.«01_k».proof.Proof.Gen.AttnFwd.Frame
public import proofs.«01_k».proof.Proof.Gen.AttnFwdIdeal.Value
public import proofs.«01_k».proof.Proof.Gen.AttnFwdRefIdeal.Read
public import proofs.«01_k».proof.Proof.Attention
public import proofs.«01_k».proof.Proof.Zeros
public import proofs.«01_k».proof.Proof.Tiles
public import Idealize.ShloMosaic.Lib.Pointwise

@[expose] public section

set_option maxRecDepth 16384

noncomputable section

namespace Cert.AttnFwdIdeal.Product

open Cert.AttnFwdIdeal Cert.AttnFwdIdeal.Gen Idealize.ShloMosaic Idealize.ShloMosaic.TcCoe Idealize.SL.Sem
open Cert.SoftmaxRow Cert.Attention Cert.Tiles Cert.AttnFwdRefIdeal.Read

/-- Query `l`'s result in head `h`: the values weighted by the softmax of its scores. -/
def att (q : Fin 4096 → Fin 2048 → EReal) (kv : Fin 256 → Fin 4096 → EReal) (h : Fin 4) (l : Fin 4096) (d : Fin 512) : EReal :=
  ∑ j : Fin 256, prob (score q kv h l) j * kv j (vcol h d)

/-! ### The reference -/

section
variable (x0 : Vec Ideal S4096x2048 .bf16) (x1 : Vec Ideal S256x4096 .bf16)

/-- The scores of query `l` in head `h`. -/
abbrev sc (h : Fin 4) (l : Fin 4096) : Fin 256 → EReal := score (fun l n => x0 (ix2 l n)) (fun j n => x1 (ix2 j n)) h l

theorem v9_at (h : Fin 4) (l : Fin 4096) (j : Fin 256) : val_main_v9 (F := Ideal) x0 x1 (ix3 h l j) = sc x0 x1 h l j := by
  unfold val_main_v9 val_main_v8 val_main_cst val_main_v7 val_main_v4 val_main_v0 val_main_v5 val_main_v2 val_main_v1
  pointwise
  rfl

theorem v10_at (h : Fin 4) (l : Fin 4096) : val_main_v10 (F := Ideal) x0 x1 (ix2 h l) = peak (sc x0 x1 h l) := by
  unfold val_main_v10
  have e := funext fun j => v9_at x0 x1 h l j
  generalize val_main_v9 (F := Ideal) x0 x1 = w at e ⊢
  rw [← e]
  pointwise [val_main_cst_0_apply]
  exact congrArg (fun b => Finset.fold max b (fun x => w (ix3 h l x)) Finset.univ) negInf_eq

theorem v12_at (h : Fin 4) (l : Fin 4096) : val_main_v12 (F := Ideal) x0 x1 (ix2 h l) = peak (sc x0 x1 h l) := by
  rw [val_main_v12_apply, val_main_v11_apply, val_main_cst_1_apply, v10_at]
  show max (Ideal.ofBits .f32 0xFF800000#32) _ = _
  rw [negInf_eq]
  exact max_eq_right bot_le

theorem v16_at (h : Fin 4) (l : Fin 4096) (j : Fin 256) : val_main_v16 (F := Ideal) x0 x1 (ix3 h l j) = weight (sc x0 x1 h l) j := by
  unfold val_main_v16 val_main_v15 val_main_v14 val_main_v13
  pointwise [v9_at, v12_at]
  rfl

theorem v20_at (h : Fin 4) (l : Fin 4096) (j : Fin 256) : val_main_v20 (F := Ideal) x0 x1 (ix3 h l j) = prob (sc x0 x1 h l) j := by
  unfold val_main_v20 val_main_v19 val_main_v18 val_main_v17 val_main_cst_2
  pointwise [v16_at]
  rfl

theorem v24_at (l : Fin 4096) (n : Fin 2048) : val_main_v24 (F := Ideal) x0 x1 (ix2 l n)
    = att (fun l n => x0 (ix2 l n)) (fun j n => x1 (ix2 j n)) ⟨n.val / 512, by omega⟩ l ⟨n.val % 512, Nat.mod_lt _ (by decide)⟩ := by
  unfold val_main_v24 val_main_v23 val_main_v22 val_main_v21 val_main_v6 val_main_v3 val_main_v1
  pointwise [v20_at]
  exact Finset.sum_congr rfl fun j _ => (mul_comm _ _).trans (congrArg (fun n => prob (sc x0 x1 _ l) j * x1 (ix2 j n))
    (Fin.ext (by show 2048 + n.val = 2048 + (n.val / 512 * 512 + n.val % 512); omega)))
end

/-! ### The kernel -/

variable (m : (ℓ : Loc nD τ sig) → Buf (Elt Ideal) ℓ)

/-- The queries. -/
abbrev arr0 (c : Dev nD) : Vec Ideal S4096x2048 .bf16 := m ((c : Thread nD τ).loc main_arg0)
/-- The keys and values. -/
abbrev arr1 (c : Dev nD) : Vec Ideal S256x4096 .bf16 := m ((c : Thread nD τ).loc main_arg1)

/-- The head of a grid point. -/
def hd (t : Fin cfg0.N) : Fin 4 := ⟨t.val / 8, by have h : t.val < 32 := t.isLt.trans_eq N_0; omega⟩
/-- Row `r` of a grid point's query block. -/
def row (t : Fin cfg0.N) (r : Fin 512) : Fin 4096 := ⟨t.val % 8 * 512 + r.val, by omega⟩

theorem index : ∀ t : Fin cfg0.N, (win0_0.index t 0 = t.val % 8 ∧ win0_0.index t 1 = t.val / 8)
    ∧ (win0_1.index t 0 = 0 ∧ win0_1.index t 1 = t.val / 8) ∧ (win0_2.index t 0 = 0 ∧ win0_2.index t 1 = 4 + t.val / 8)
    ∧ win0_3.index t 0 = t.val % 8 ∧ win0_3.index t 1 = t.val / 8 := by
  intro (t : Fin grid0.N); revert t; decide +kernel

theorem blk0 (c : Dev nD) (t : Fin cfg0.N) (r d : Fin 512) :
    (iblk m c 0 t : Vec Ideal S512x512 .bf16) (ix2 r d) = arr0 m c (ix2 (row t r) (qcol (hd t) d)) :=
  (View.read_apply ..).trans (tile (arr0 m c) _ (index t).1 _ _ rfl rfl rfl rfl)

theorem blk1 (c : Dev nD) (t : Fin cfg0.N) (j : Fin 256) (d : Fin 512) :
    (iblk m c 1 t : Vec Ideal S256x512 .bf16) (ix2 j d) = arr1 m c (ix2 j (kcol (hd t) d)) :=
  (View.read_apply ..).trans (tile (arr1 m c) _ (index t).2.1 _ _ (by show 0 * 256 + j.val = j.val; omega) rfl rfl rfl)

theorem blk2 (c : Dev nD) (t : Fin cfg0.N) (j : Fin 256) (d : Fin 512) :
    (iblk m c 2 t : Vec Ideal S256x512 .bf16) (ix2 j d) = arr1 m c (ix2 j (vcol (hd t) d)) :=
  (View.read_apply ..).trans (tile (arr1 m c) _ (index t).2.2.1 _ _ (by show 0 * 256 + j.val = j.val; omega) (by show (4 + t.val / 8) * 512 + d.val = 2048 + (t.val / 8 * 512 + d.val); omega) rfl rfl)

/-- What a body leaves, of the blocks it reads. -/
theorem body_at (x : Vec Ideal S512x512 .bf16) (k v : Vec Ideal S256x512 .bf16) (r d : Fin 512) :
    out0_3 (F := Ideal) x k v (ix2 r d)
      = ∑ j : Fin 256, prob (fun j => (∑ e : Fin 512, x (ix2 r e) * k (ix2 j e)) * scale) j * v (ix2 j d) := by
  unfold out0_3
  rw [View.canon_unit_zero zeros2]
  simp only [View.ld_unit_zero (S := S512x512) zeros2, View.ld_unit_zero (S := S256x512) zeros2]
  unfold_payloads
  pointwise
  simp only [negInf_eq]
  rfl

/-- The result as an array. -/
def whole (c : Dev nD) : Vec Ideal S4096x2048 .bf16 := val_main_v24 (F := Ideal) (arr0 m c) (arr1 m c)

theorem flushed (c : Dev nD) (t : Fin cfg0.N) :
    (dats m 0 c).flushed 3 t = ((cfg0.win 3).blk t).view.read (Elt Ideal) (whole m c) := by
  rw [Value.flushed3]
  show out0_3 (F := Ideal) (iblk m c 0 t) (iblk m c 1 t) (iblk m c 2 t) = _
  funext y
  idx_vars y
  rw [View.read_apply, body_at]
  have hb : t.val < 32 := t.isLt.trans_eq N_0
  show _ = whole m c _
  refine Eq.trans ?_ (tile (whole m c) _ (index t).2.2.2 (row t y0) (qcol (hd t) y1) rfl rfl rfl rfl).symm
  unfold whole
  rw [v24_at, show (⟨(qcol (hd t) y1).val / 512, by omega⟩ : Fin 4) = hd t from Fin.ext (by show (t.val / 8 * 512 + y1.val) / 512 = t.val / 8; omega),
    show (⟨(qcol (hd t) y1).val % 512, Nat.mod_lt _ (by decide)⟩ : Fin 512) = y1 from Fin.ext (by show (t.val / 8 * 512 + y1.val) % 512 = y1.val; omega)]
  unfold att score
  simp only [blk0, blk1, blk2]

/-- Every cell lies in the block of its head and its row block. -/
theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  obtain ⟨t, ht⟩ : ∃ t : Fin cfg0.N, t.val = (i 1).val / 512 * 8 + (i 0).val / 512 := ⟨⟨_, lt_of_lt_of_eq (by omega) N_0.symm⟩, rfl⟩
  refine ⟨t, flush0_3 _, ?_⟩
  refine View.set_slice_whole main_v0 (win0_3.rect t) ▸ Rect.mem_set_unit.mpr ?_
  exact within (a := 512) (b := 512) (index t).2.2.2 (by omega) (by omega) rfl rfl rfl rfl

end Cert.AttnFwdIdeal.Product

namespace Cert.AttnFwdClaims

open Idealize.ShloMosaic Idealize.ShloMosaic.TcCoe Idealize.SL.Sem Cert.AttnFwdRefIdeal.Read Cert.AttnFwdIdeal

theorem frame_p : Cert.quiescent_AttnFwd := fun m ρ _ => Cert.AttnFwd.Gen.frame m ρ
theorem frame_pi : Cert.quiescent_AttnFwdIdeal := fun m ρ _ => Cert.AttnFwdIdeal.Gen.frame m ρ
theorem frame_ri : Cert.quiescent_AttnFwdRefIdeal := fun m ρ _ =>
  (θ_run _ _ _).mono (fun r h => ⟨fun c => (h c).2, sem_eq_zero_of_no_sems (by decide) r.2⟩) (Cert.AttnFwdRefIdeal.Value.run (F := Ideal) m ρ)

theorem preserves : Cert.preserves_AttnFwd_AttnFwdIdeal := trivial

theorem algebraic : Cert.algebraic_AttnFwdIdeal_AttnFwdRefIdeal := fun m ρ m' ρ' _ hag =>
  ⟨fun c => Product.whole m c,
    (θ_run _ _ _).mono (fun r h c => ⟨(h c).1.trans ((Gen.dats m 0 c).arrAt_eq_of_cover 3 (Product.whole m c) (fun t _ => Product.flushed m c t) Product.cover), (h c).2⟩)
      (Cert.AttnFwdIdeal.Value.run_blocks (F := Ideal) m ρ),
    (θ_run _ _ _).mono (fun r h c => ⟨(h c).1.trans (by rw [val_main_v24_eq, (hag c).1, (hag c).2]; rfl), (h c).2⟩)
      (Cert.AttnFwdRefIdeal.Value.run (F := Ideal) m' ρ')⟩

end Cert.AttnFwdClaims
end
-- ==== Proof.LossHeadProduct.lean ====
/-
  The loss of the last layer's output, and its gradients.
-/
module

public import proofs.«01_k».proof.Defs
public import proofs.«01_k».proof.Proof.Gen.LossHead.Frame
public import proofs.«01_k».proof.Proof.Gen.LossHeadIdeal.Value
public import proofs.«01_k».proof.Proof.Gen.LossHeadRefIdeal.Read
public import proofs.«01_k».proof.Proof.Zeros
public import proofs.«01_k».proof.Proof.Tiles

@[expose] public section

set_option maxRecDepth 16384

noncomputable section

namespace Cert.LossHeadIdeal.Product

open Cert.LossHeadIdeal Cert.LossHeadIdeal.Gen Cert.LossHeadRefIdeal.Read Cert.Tiles Idealize.ShloMosaic Idealize.ShloMosaic.TcCoe Idealize.SL.Sem

local notation "Rows" => Vec Ideal S128x2048 EltTy.f32
local notation "All" => Vec Ideal S4096x2048 EltTy.f32
local notation "Row" => Vec Ideal S1x2048 EltTy.f32
local notation "Tile" => Vec Ideal S8x128 EltTy.f32

theorem two : Ideal.ofBits .f32 0x40000000#32 = ((2 : ℝ) : EReal) := by
  refine (by simp [Ideal.ofBits, Ideal.ieee] : _ = ((8388608 * (2 ^ 22)⁻¹ : ℝ) : EReal)).trans (congrArg _ (by norm_num))

theorem half : ∃ r : ℝ, 0 ≤ r ∧ Ideal.ofBits .f32 0x3F000000#32 = (r : EReal) :=
  ⟨8388608 * (2 ^ 24)⁻¹, by norm_num, by simp [Ideal.ofBits, Ideal.ieee]⟩

/-- The two ways to write a square's gradient. -/
theorem twice (e k : EReal) : e * k + k * e = k * (Ideal.ofBits .f32 0x40000000#32 * e) := by
  rw [two, mul_comm e k, mul_left_comm]
  generalize k * e = x
  induction x using EReal.rec with
  | bot => rw [EReal.coe_mul_bot_of_pos two_pos]; rfl
  | top => rw [EReal.coe_mul_top_of_pos two_pos]; rfl
  | coe r => rw [← EReal.coe_add, ← EReal.coe_mul, two_mul]

section
variable (x0 x1 : Rows) (x2 : Row) (a0 a2 : All) (a1 : Row) (t : Nat) (ht : t < 32)

/-- The rows `x` are those of point `t` in `a`. -/
def Of (x : Rows) (a : All) : Prop := ∀ (y0 : Fin 128) (y1 : Fin 2048), x (ix2 y0 y1) = a (ix2 ⟨t * 128 + y0.val, by omega⟩ y1)

variable (h0 : Of t ht x0 a0) (h1 : Of t ht x1 a2) (h2 : ∀ y1 : Fin 2048, x2 (ix2 0 y1) = a1 (ix2 0 y1))
include h0 h1 h2

theorem err_at : Of t ht (k0_pay11 (F := Ideal) x0 x1 x2) (val_main_v17 (F := Ideal) a0 a1 a2) := by
  intro y0 y1
  unfold k0_pay11 k0_pay10 k0_pay8 k0_pay7
  unfold val_main_v17 val_main_v16 val_main_v15 val_main_v14 val_main_v13 val_main_v12 val_main_v8 val_main_v7 val_main_v6 val_main_cst_1 val_main_v5 val_main_v4 val_main_cst_0 val_main_v3 val_main_v2 val_main_cst val_main_v1 val_main_v0
  pointwise
  simp only [h0 _, h1 _, h2]

theorem cot_at : Of t ht (k0_pay13 (F := Ideal) x0 x1 x2) (val_main_v31 (F := Ideal) a0 a1 a2) := by
  intro y0 y1
  have h := err_at x0 x1 x2 a0 a2 a1 t ht h0 h1 h2
  unfold k0_pay13
  unfold val_main_v31 val_main_v30 val_main_v29 val_main_v28 val_main_cst_10 val_main_v27 val_main_v26 val_main_cst_9 val_main_cst_8 val_main_v20 val_main_v19 val_main_cst_3
  pointwise
  simp only [show ∀ y0 y1, k0_pay11 (F := Ideal) x0 x1 x2 (ix2 y0 y1) = _ from h, Fin.sum_univ_one, zero_add]
  exact twice _ _

theorem loss_at : k0_pay12 (F := Ideal) x0 x1 x2 = Ideal.ofBits .f32 0x3F000000#32 * ∑ s : Fin 128, val_main_v23 (F := Ideal) a0 a1 a2 (ix1 ⟨t * 128 + s.val, by omega⟩) := by
  have h := err_at x0 x1 x2 a0 a2 a1 t ht h0 h1 h2
  unfold k0_pay12
  unfold val_main_v23 val_main_v22 val_main_cst_5 val_main_v21 val_main_cst_4 val_main_v18
  pointwise
  simp only [show ∀ y0 y1, k0_pay11 (F := Ideal) x0 x1 x2 (ix2 y0 y1) = _ from h, Fin.sum_univ_one, Fin.isValue]

theorem scale_at (y1 : Fin 2048) : k0_pay3 (F := Ideal) (k0_pay14 x0 x1 x2) (ix2 0 y1) = ∑ s : Fin 128, val_main_v32 (F := Ideal) a0 a1 a2 (ix2 ⟨t * 128 + s.val, by omega⟩ y1) := by
  have h := cot_at x0 x1 x2 a0 a2 a1 t ht h0 h1 h2
  unfold k0_pay3 k0_pay14 k0_pay10 k0_pay8 k0_pay7
  unfold val_main_v32 val_main_v13 val_main_v12 val_main_v8 val_main_v7 val_main_v6 val_main_cst_1 val_main_v5 val_main_v4 val_main_cst_0 val_main_v3 val_main_v2 val_main_cst val_main_v1
  pointwise
  simp only [show ∀ y0 y1, k0_pay13 (F := Ideal) x0 x1 x2 (ix2 y0 y1) = _ from h, h0 _, Fin.sum_univ_one]

theorem input_at : Of t ht (k0_pay1 (F := Ideal) x0 x2 (k0_pay8 x0) (k0_pay9 x0) (k0_pay13 x0 x1 x2)) (val_main_v51 (F := Ideal) a0 a1 a2) := by
  intro y0 y1
  have h := cot_at x0 x1 x2 a0 a2 a1 t ht h0 h1 h2
  unfold k0_pay1 k0_pay9 k0_pay8 k0_pay7
  unfold val_main_v51 val_main_v50 val_main_v49 val_main_v48 val_main_v47 val_main_v46 val_main_cst_15 val_main_v45 val_main_v44 val_main_cst_14 val_main_v43 val_main_v42 val_main_v41 val_main_v40 val_main_v39 val_main_cst_13 val_main_v38 val_main_v36 val_main_v35 val_main_v14 val_main_v0 val_main_v11 val_main_v10 val_main_cst_2 val_main_v9 val_main_v8 val_main_v7 val_main_v6 val_main_cst_1 val_main_v5 val_main_v4 val_main_cst_0 val_main_v3 val_main_v2 val_main_cst val_main_v1
  pointwise
  simp only [show ∀ y0 y1, k0_pay13 (F := Ideal) x0 x1 x2 (ix2 y0 y1) = _ from h, h0 _, h2]

end

theorem half_sum {ι : Type} (f : ι → EReal) (u : Finset ι) : Ideal.ofBits .f32 0x3F000000#32 * ∑ j ∈ u, f j = ∑ j ∈ u, Ideal.ofBits .f32 0x3F000000#32 * f j := by
  obtain ⟨r, hr, h⟩ := half
  rw [h]
  induction u using Finset.cons_induction with
  | empty => simp
  | cons a u ha ih => rw [Finset.sum_cons, Finset.sum_cons, EReal.left_distrib_of_nonneg_of_ne_top (EReal.coe_nonneg.mpr hr) (EReal.coe_ne_top r), ih]

theorem reference_loss (a0 a2 : All) (a1 : Row) (y0 : Fin 8) (y1 : Fin 128) :
    val_main_v53 (F := Ideal) a0 a1 a2 (ix2 y0 y1) = ∑ j : Fin 32, Ideal.ofBits .f32 0x3F000000#32 * ∑ s : Fin 128, val_main_v23 (F := Ideal) a0 a1 a2 (ix1 ⟨j.val * 128 + s.val, by omega⟩) := by
  unfold val_main_v53 val_main_v25 val_main_v24 val_main_cst_6 val_main_cst_7
  pointwise
  rw [Fin.sum_univ_tiles 32 128 (by decide)]
  exact half_sum _ _

theorem reference_scale (a0 a2 : All) (a1 : Row) (k : Fin 2048) :
    val_main_v54 (F := Ideal) a0 a1 a2 (ix2 0 k) = ∑ j : Fin 32, ∑ s : Fin 128, val_main_v32 (F := Ideal) a0 a1 a2 (ix2 ⟨j.val * 128 + s.val, by omega⟩ k) := by
  unfold val_main_v54 val_main_v37 val_main_cst_12 val_main_v34 val_main_v33 val_main_cst_11
  pointwise
  rw [Fin.sum_univ_one, Fin.sum_univ_tiles 32 128 (by decide)]

variable (m : (ℓ : Loc nD τ sig) → Buf (Elt Ideal) ℓ)

abbrev arr0 (c : Dev nD) : All := m ((c : Thread nD τ).loc main_arg0)
abbrev arr1 (c : Dev nD) : Row := m ((c : Thread nD τ).loc main_arg1)
abbrev arr2 (c : Dev nD) : All := m ((c : Thread nD τ).loc main_arg2)

theorem bound (t : Fin cfg0.N) : t.val < 32 := t.isLt.trans_eq N_0

theorem places : ∀ t : Fin cfg0.N, (win0_0.index t 0 = t.val ∧ win0_0.index t 1 = 0) ∧ (win0_2.index t 0 = 0 ∧ win0_2.index t 1 = 0)
    ∧ (win0_5.index t 0 = 0 ∧ win0_5.index t 1 = 0) ∧ (win0_6.index t 0 = 0 ∧ win0_6.index t 1 = 0) ∧ win0_3.index t 0 = t.val ∧ win0_3.index t 1 = 0 := by
  intro (t : Fin grid0.N); revert t; decide +kernel

theorem blk0 (c : Dev nD) (t : Fin cfg0.N) : Of t.val (bound t) (iblk m c 0 t : Rows) (arr0 m c) := by
  intro y0 y1
  exact (View.read_apply ..).trans (tile_rows (arr0 m c) _ (places t).1 _ _ rfl rfl rfl rfl)

theorem blk1 (c : Dev nD) (t : Fin cfg0.N) : Of t.val (bound t) (iblk m c 1 t : Rows) (arr2 m c) := by
  intro y0 y1
  exact (View.read_apply ..).trans (tile_rows (arr2 m c) _ (places t).1 _ _ rfl rfl rfl rfl)

theorem blk2 (c : Dev nD) (t : Fin cfg0.N) (y1 : Fin 2048) : (iblk m c 2 t : Row) (ix2 0 y1) = arr1 m c (ix2 0 y1) :=
  (View.read_apply ..).trans (tile_rows (arr1 m c) _ (y0 := (0 : Fin 1)) (places t).2.1 _ _ rfl rfl rfl rfl)

section
variable (c : Dev nD) (i : grid0.Coords) (a2 : Memref sig .tc .vmem S128x2048 .f32) (h2 : a2.IsWhole) (a3 : Memref sig .tc .vmem S128x2048 .f32) (h3 : a3.IsWhole) (a4 : Memref sig .tc .vmem S1x2048 .f32) (h4 : a4.IsWhole) (a5 : Memref sig .tc .vmem S128x2048 .f32) (h5 : a5.IsWhole) (a6 : Memref sig .tc .vmem S128x2048 .bf16) (h6 : a6.IsWhole) (a7 : Memref sig .tc .vmem S8x128 .f32) (h7 : a7.IsWhole) (a8 : Memref sig .tc .vmem S1x2048 .f32) (h8 : a8.IsWhole)
  (x0 x1 : Rows) (x2 : Row) (s : Tile) (u : Row)

/-- The gradient of a point's rows. -/
def dx : Rows := k0_pay1 x0 x2 (k0_pay8 x0) (k0_pay9 x0) (k0_pay13 x0 x1 x2)

theorem pointA (hc0 : cond0_0 i) (hc1 : ¬cond0_1 i) (hc2 : cond0_2 i) (hc3 : ¬cond0_3 i) :
    out0_A_3 (F := Ideal) c i a2 h2 a3 h3 a4 h4 a5 h5 a6 h6 a7 h7 a8 h8 hc0 hc1 hc2 hc3 x0 x1 x2 = dx x0 x1 x2
      ∧ out0_A_4 (F := Ideal) c i a2 h2 a3 h3 a4 h4 a5 h5 a6 h6 a7 h7 a8 h8 hc0 hc1 hc2 hc3 x0 x1 x2 = dx x0 x1 x2
      ∧ out0_A_5 (F := Ideal) c i a2 h2 a3 h3 a4 h4 a5 h5 a6 h6 a7 h7 a8 h8 hc0 hc1 hc2 hc3 x0 x1 x2 = k0_pay2 (k0_pay12 x0 x1 x2)
      ∧ out0_A_6 (F := Ideal) c i a2 h2 a3 h3 a4 h4 a5 h5 a6 h6 a7 h7 a8 h8 hc0 hc1 hc2 hc3 x0 x1 x2 = k0_pay3 (k0_pay14 x0 x1 x2) := by
  unfold out0_A_3 out0_A_4 out0_A_5 out0_A_6
  rw [View.read_writes_eq_canon _ _ _ (fun _ => cover0_A_3 ..), View.read_writes_eq_canon _ _ _ (fun _ => cover0_A_4 ..), View.read_writes_eq_canon _ _ _ (fun _ => cover0_A_5 ..), View.read_writes_eq_canon _ _ _ (fun _ => cover0_A_6 ..)]
  unfold kernelRun0_A
  dsimp only
  sl_unfold_words
  simp only [View.canon_unit_zero (S := S128x2048) zeros2, View.canon_unit_zero (S := S8x128) zeros2, View.canon_unit_zero (S := S1x2048) zeros2, View.readAt_eq_ld, h2.read_unread, h3.read_unread, h4.read_unread, View.ld_unit_zero (S := S128x2048) zeros2, View.ld_unit_zero (S := S8x128) zeros2, View.ld_unit_zero (S := S1x2048) zeros2]
  exact ⟨rfl, rfl, trivial, trivial⟩

theorem pointB (hc0 : ¬cond0_0 i) (hc1 : cond0_1 i) (hc2 : ¬cond0_2 i) (hc3 : cond0_3 i) :
    out0_B_3 (F := Ideal) c i a2 h2 a3 h3 a4 h4 a5 h5 a6 h6 a7 h7 a8 h8 hc0 hc1 hc2 hc3 x0 x1 x2 s u = dx x0 x1 x2
      ∧ out0_B_4 (F := Ideal) c i a2 h2 a3 h3 a4 h4 a5 h5 a6 h6 a7 h7 a8 h8 hc0 hc1 hc2 hc3 x0 x1 x2 s u = dx x0 x1 x2
      ∧ out0_B_5 (F := Ideal) c i a2 h2 a3 h3 a4 h4 a5 h5 a6 h6 a7 h7 a8 h8 hc0 hc1 hc2 hc3 x0 x1 x2 s u = k0_pay5 (k0_pay12 x0 x1 x2) s
      ∧ out0_B_6 (F := Ideal) c i a2 h2 a3 h3 a4 h4 a5 h5 a6 h6 a7 h7 a8 h8 hc0 hc1 hc2 hc3 x0 x1 x2 s u = k0_pay6 (k0_pay14 x0 x1 x2) u := by
  unfold out0_B_3 out0_B_4 out0_B_5 out0_B_6
  rw [View.read_writes_eq_canon _ _ _ (fun _ => cover0_B_3 ..), View.read_writes_eq_canon _ _ _ (fun _ => cover0_B_4 ..), View.read_writes_eq_canon _ _ _ (fun _ => cover0_B_5 ..), View.read_writes_eq_canon _ _ _ (fun _ => cover0_B_6 ..)]
  unfold kernelRun0_B
  dsimp only
  sl_unfold_words
  simp only [View.canon_unit_zero (S := S128x2048) zeros2, View.canon_unit_zero (S := S8x128) zeros2, View.canon_unit_zero (S := S1x2048) zeros2, View.readAt_eq_ld, h2.read_unread, h3.read_unread, h4.read_unread, h7.read_unread, h8.read_unread, View.ld_unit_zero (S := S128x2048) zeros2, View.ld_unit_zero (S := S8x128) zeros2, View.ld_unit_zero (S := S1x2048) zeros2]
  exact ⟨rfl, rfl, trivial, trivial⟩

end

theorem add_at (x : Rows) (s : Row) (k : Fin 2048) : k0_pay6 (F := Ideal) x s (ix2 0 k) = s (ix2 0 k) + k0_pay3 (F := Ideal) x (ix2 0 k) := by
  unfold k0_pay6
  pointwise

theorem put_at (x : EReal) (k : Fin 8) (l : Fin 128) : k0_pay2 (F := Ideal) x (ix2 k l) = x := by
  unfold k0_pay2
  pointwise

theorem plus_at (x : EReal) (s : Tile) (k : Fin 8) (l : Fin 128) : k0_pay5 (F := Ideal) x s (ix2 k l) = s (ix2 k l) + x := by
  unfold k0_pay5 k0_pay2
  pointwise

/-- The results of the reference, at the kernel's arguments. -/
def whole3 (c : Dev nD) : All := val_main_v51 (F := Ideal) (arr0 m c) (arr1 m c) (arr2 m c)
def whole4 (c : Dev nD) : Vec Ideal S4096x2048 .bf16 := val_main_v52 (F := Ideal) (arr0 m c) (arr1 m c) (arr2 m c)
def whole5 (c : Dev nD) : Tile := val_main_v53 (F := Ideal) (arr0 m c) (arr1 m c) (arr2 m c)
def whole6 (c : Dev nD) : Row := val_main_v54 (F := Ideal) (arr0 m c) (arr1 m c) (arr2 m c)

/-- What point `j` adds to the loss, and to the scale's gradient. -/
def cost (c : Dev nD) (j : ℕ) : EReal :=
  if h : j < 32 then Ideal.ofBits .f32 0x3F000000#32 * ∑ s : Fin 128, val_main_v23 (F := Ideal) (arr0 m c) (arr1 m c) (arr2 m c) (ix1 ⟨j * 128 + s.val, by omega⟩) else 0
def part (c : Dev nD) (k : Fin 2048) (j : ℕ) : EReal :=
  if h : j < 32 then ∑ s : Fin 128, val_main_v32 (F := Ideal) (arr0 m c) (arr1 m c) (arr2 m c) (ix2 ⟨j * 128 + s.val, by omega⟩ k) else 0

theorem cost_at (c : Dev nD) (t : Fin cfg0.N) : k0_pay12 (F := Ideal) (iblk m c 0 t) (iblk m c 1 t) (iblk m c 2 t) = cost m c t.val := by
  unfold cost
  rw [dif_pos (bound t)]
  exact loss_at _ _ _ _ _ _ t.val (bound t) (blk0 m c t) (blk1 m c t) (blk2 m c t)

theorem part_at (c : Dev nD) (t : Fin cfg0.N) (k : Fin 2048) :
    k0_pay3 (F := Ideal) (k0_pay14 (iblk m c 0 t) (iblk m c 1 t) (iblk m c 2 t)) (ix2 0 k) = part m c k t.val := by
  unfold part
  rw [dif_pos (bound t)]
  exact scale_at _ _ _ _ _ _ t.val (bound t) (blk0 m c t) (blk1 m c t) (blk2 m c t) k

theorem acc_at (c : Dev nD) (k : Fin 2048) (y0 : Fin 8) (y1 : Fin 128) : ∀ (n : ℕ) (hn : n < cfg0.N),
    (outsAt0 m c n hn).2.2.1 (ix2 y0 y1) = ∑ j ∈ Finset.range (n + 1), cost m c j
      ∧ (outsAt0 m c n hn).2.2.2 (ix2 0 k) = ∑ j ∈ Finset.range (n + 1), part m c k j := by
  intro n
  induction n with
  | zero =>
    intro hn
    rw [outsAt0_A m c ⟨0, hn⟩ rfl (by show ¬1 ≤ 0; decide) rfl (by show ¬1 ≤ 0; decide)]
    dsimp only
    rw [(pointA ..).2.2.1, (pointA ..).2.2.2, put_at, cost_at, part_at, Finset.sum_range_one, Finset.sum_range_one]
    exact ⟨rfl, rfl⟩
  | succ n ih =>
    intro hn
    have hb : n + 1 < 32 := hn.trans_eq N_0
    have h : ¬(n + 1) % 32 = 0 := by omega
    rw [outsAt0_B m c ⟨n + 1, hn⟩ h (Nat.le_add_left 1 n) h (Nat.le_add_left 1 n)]
    dsimp only
    rw [(pointB ..).2.2.1, (pointB ..).2.2.2, plus_at, add_at, cost_at, part_at, Finset.sum_range_succ _ (n + 1), Finset.sum_range_succ _ (n + 1)]
    exact ⟨congrArg (· + _) (ih (Nat.lt_of_succ_lt hn)).1, congrArg (· + _) (ih (Nat.lt_of_succ_lt hn)).2⟩

theorem outs_at (c : Dev nD) (t : Fin cfg0.N) :
    (outsAt0 m c t.val t.isLt).1 = dx (iblk m c 0 t) (iblk m c 1 t) (iblk m c 2 t)
      ∧ (outsAt0 m c t.val t.isLt).2.1 = dx (iblk m c 0 t) (iblk m c 1 t) (iblk m c 2 t) := by
  have hb := bound t
  by_cases h : t.val % 32 = 0
  · rw [outsAt0_A m c t h (by omega) h (by omega)]
    dsimp only
    exact ⟨by rw [(pointA ..).1], by rw [(pointA ..).2.1]⟩
  · rw [outsAt0_B m c t h (by omega) h (by omega)]
    dsimp only
    exact ⟨by rw [(pointB ..).1], by rw [(pointB ..).2.1]⟩

theorem entry_at (c : Dev nD) (t : Fin cfg0.N) (y0 : Fin 128) (y1 : Fin 2048) :
    dx (iblk m c 0 t) (iblk m c 1 t) (iblk m c 2 t) (ix2 y0 y1) = ((cfg0.win 3).blk t).view.read (Elt Ideal) (whole3 m c) (ix2 y0 y1) := by
  rw [View.read_apply]
  refine (input_at _ _ _ _ _ _ t.val (bound t) (blk0 m c t) (blk1 m c t) (blk2 m c t) y0 y1).trans ?_
  exact (tile_rows (whole3 m c) _ (places t).2.2.2.2 _ _ rfl rfl rfl rfl).symm

theorem flushed3 (c : Dev nD) (t : Fin cfg0.N) : (dats m 0 c).flushed 3 t = ((cfg0.win 3).blk t).view.read (Elt Ideal) (whole3 m c) := by
  rw [Value.flushed3]
  show (outsAt0 m c t.val t.isLt).1 = _
  rw [(outs_at m c t).1]
  funext y
  idx_vars y
  exact entry_at m c t y0 y1

theorem flushed4 (c : Dev nD) (t : Fin cfg0.N) : (dats m 0 c).flushed 4 t = ((cfg0.win 4).blk t).view.read (Elt Ideal) (whole4 m c) := by
  rw [Value.flushed4]
  show (outsAt0 m c t.val t.isLt).2.1 = _
  rw [(outs_at m c t).2]
  funext y
  idx_vars y
  exact entry_at m c t y0 y1

theorem flushed5 (c : Dev nD) (t : Fin cfg0.N) (hf : (cfg0.win 5).flush t = true) :
    (dats m 0 c).flushed 5 t = ((cfg0.win 5).blk t).view.read (Elt Ideal) (whole5 m c) := by
  have h31 : t.val = 31 := by have h := (flush0_5 t).mp hf; have hb := bound t; omega
  rw [Value.flushed5]
  show (outsAt0 m c t.val t.isLt).2.2.1 = _
  funext y
  idx_vars y
  rw [View.read_apply]
  refine (acc_at m c 0 y0 y1 t.val t.isLt).1.trans (Eq.trans ?_ (tile_rows (whole5 m c) _ (places t).2.2.1 y0 y1 (by show 0 * 8 + y0.val = y0.val; omega) rfl rfl rfl).symm)
  rw [h31, ← Fin.sum_univ_eq_sum_range]
  refine Eq.trans ?_ (reference_loss _ _ _ y0 y1).symm
  exact Finset.sum_congr rfl fun j _ => dif_pos j.isLt

theorem flushed6 (c : Dev nD) (t : Fin cfg0.N) (hf : (cfg0.win 6).flush t = true) :
    (dats m 0 c).flushed 6 t = ((cfg0.win 6).blk t).view.read (Elt Ideal) (whole6 m c) := by
  have h31 : t.val = 31 := by have h := (flush0_6 t).mp hf; have hb := bound t; omega
  rw [Value.flushed6]
  show (outsAt0 m c t.val t.isLt).2.2.2 = _
  funext y
  idx_vars y
  obtain rfl : y0 = 0 := Subsingleton.elim _ _
  rw [View.read_apply]
  refine (acc_at m c y1 0 0 t.val t.isLt).2.trans (Eq.trans ?_ (tile_rows (whole6 m c) _ (places t).2.2.2.1 0 y1 (by show 0 * 1 + 0 = 0; omega) rfl rfl rfl).symm)
  rw [h31, ← Fin.sum_univ_eq_sum_range]
  refine Eq.trans ?_ (reference_scale _ _ _ y1).symm
  exact Finset.sum_congr rfl fun j _ => dif_pos j.isLt

theorem cover3 (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : (i 0).val / 128 < cfg0.N := lt_of_lt_of_eq (by omega : (i 0).val / 128 < 32) N_0.symm
  refine ⟨⟨(i 0).val / 128, hN⟩, flush0_3 _, ?_⟩
  refine View.set_slice_whole main_v0_0 (win0_3.rect ⟨(i 0).val / 128, hN⟩) ▸ Rect.mem_set_unit.mpr ?_
  exact within (a := 128) (b := 2048) (places _).2.2.2.2 (by dsimp only; omega) (by dsimp only; omega) rfl rfl rfl rfl

theorem last_lt : 31 < cfg0.N := lt_of_lt_of_eq (by decide : 31 < 32) N_0.symm

theorem cover5 (i : S8x128.Idx) : ∃ t : Fin cfg0.N, (cfg0.win 5).flush t = true ∧ i ∈ ((cfg0.win 5).blk t).view.set := by
  have h0 : (i 0).val < 8 := (i 0).isLt
  have h1 : (i 1).val < 128 := (i 1).isLt
  refine ⟨⟨31, last_lt⟩, (flush0_5 _).mpr rfl, ?_⟩
  refine View.set_slice_whole main_v0_2 (win0_5.rect ⟨31, last_lt⟩) ▸ Rect.mem_set_unit.mpr ?_
  exact within (a := 8) (b := 128) (places _).2.2.1 (by dsimp only; omega) (by dsimp only; omega) rfl rfl rfl rfl

theorem cover6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  refine ⟨⟨31, last_lt⟩, (flush0_6 _).mpr rfl, ?_⟩
  refine View.set_slice_whole main_v0_3 (win0_6.rect ⟨31, last_lt⟩) ▸ Rect.mem_set_unit.mpr ?_
  exact within (a := 1) (b := 2048) (places _).2.2.2.1 (by dsimp only; omega) (by dsimp only; omega) rfl rfl rfl rfl

/-- The results after the call. -/
theorem arrays (c : Dev nD) : (dats m 0 c).arrAt 3 cfg0.N = whole3 m c ∧ (dats m 0 c).arrAt 4 cfg0.N = whole4 m c ∧ (dats m 0 c).arrAt 5 cfg0.N = whole5 m c ∧ (dats m 0 c).arrAt 6 cfg0.N = whole6 m c :=
  ⟨(dats m 0 c).arrAt_eq_of_cover 3 _ (fun t _ => flushed3 m c t) cover3,
    (dats m 0 c).arrAt_eq_of_cover 4 _ (fun t _ => flushed4 m c t) (fun i => let ⟨t, _, h⟩ := cover3 i; ⟨t, flush0_4 t, h⟩),
    (dats m 0 c).arrAt_eq_of_cover 5 _ (fun t hf => flushed5 m c t hf) cover5,
    (dats m 0 c).arrAt_eq_of_cover 6 _ (fun t hf => flushed6 m c t hf) cover6⟩

end Cert.LossHeadIdeal.Product

namespace Cert.LossHeadClaims

open Idealize.ShloMosaic Idealize.ShloMosaic.TcCoe Idealize.SL.Sem Cert.LossHeadIdeal.Product Cert.LossHeadRefIdeal.Read

theorem frame_p : Cert.quiescent_LossHead := fun m ρ _ => Cert.LossHead.Gen.frame m ρ
theorem frame_pi : Cert.quiescent_LossHeadIdeal := fun m ρ _ => Cert.LossHeadIdeal.Gen.frame m ρ
theorem frame_ri : Cert.quiescent_LossHeadRefIdeal := fun m ρ _ =>
  (θ_run _ _ _).mono (fun r h => ⟨fun c => (h c).2.2.2.2, sem_eq_zero_of_no_sems (by decide) r.2⟩) (Cert.LossHeadRefIdeal.Value.run (F := Ideal) m ρ)

theorem preserves : Cert.preserves_LossHead_LossHeadIdeal := trivial

theorem algebraic : Cert.algebraic_LossHeadIdeal_LossHeadRefIdeal := fun m ρ m' ρ' _ hag =>
  ⟨fun c => whole3 m c, fun c => whole4 m c, fun c => whole5 m c, fun c => whole6 m c,
    (θ_run _ _ _).mono (fun r h c => ⟨(h c).1.trans (arrays m c).1, (h c).2.1.trans (arrays m c).2.1, (h c).2.2.1.trans (arrays m c).2.2.1, (h c).2.2.2.1.trans (arrays m c).2.2.2, (h c).2.2.2.2⟩)
      (Cert.LossHeadIdeal.Value.run_blocks (F := Ideal) m ρ),
    (θ_run _ _ _).mono (fun r h c => ⟨(h c).1.trans (by rw [val_main_v51_eq, (hag c).1, (hag c).2.1, (hag c).2.2]; rfl),
        (h c).2.1.trans (by rw [val_main_v52_eq, (hag c).1, (hag c).2.1, (hag c).2.2]; rfl),
        (h c).2.2.1.trans (by rw [val_main_v53_eq, (hag c).1, (hag c).2.1, (hag c).2.2]; rfl),
        (h c).2.2.2.1.trans (by rw [val_main_v54_eq, (hag c).1, (hag c).2.1, (hag c).2.2]; rfl), (h c).2.2.2.2⟩)
      (Cert.LossHeadRefIdeal.Value.run (F := Ideal) m' ρ')⟩

end Cert.LossHeadClaims
end
-- ==== Proof.MemBwdProduct.lean ====
/-
  What the scale of the memory's norm gets.
-/
module

public import proofs.«01_k».proof.Defs
public import proofs.«01_k».proof.Proof.Gen.MemBwd.Frame
public import proofs.«01_k».proof.Proof.Gen.MemBwdIdeal.Value
public import proofs.«01_k».proof.Proof.Gen.MemBwdRefIdeal.Read
public import proofs.«01_k».proof.Proof.Tiles
public import proofs.«01_k».proof.Proof.Zeros

@[expose] public section

set_option maxRecDepth 16384

noncomputable section

namespace Cert.MemBwdIdeal.Product

open Cert.MemBwdIdeal Cert.MemBwdIdeal.Gen Cert.MemBwdRefIdeal.Read Cert.Tiles Idealize.ShloMosaic Idealize.ShloMosaic.TcCoe Idealize.SL.Sem

variable (m : (ℓ : Loc nD τ sig) → Buf (Elt Ideal) ℓ)

abbrev arr0 (c : Dev nD) : Vec Ideal S256x2048 .f32 := m ((c : Thread nD τ).loc main_arg0)
abbrev arr2 (c : Dev nD) : Vec Ideal S256x2048 .bf16 := m ((c : Thread nD τ).loc main_arg2)

theorem bound (t : Fin cfg0.N) : t.val < 2 := t.isLt.trans_eq N_0

theorem index0 : ∀ t : Fin cfg0.N, win0_0.index t 0 = t.val ∧ win0_0.index t 1 = 0 := by
  intro (t : Fin grid0.N); revert t; decide +kernel

theorem index3 : ∀ t : Fin cfg0.N, win0_3.index t 0 = 0 ∧ win0_3.index t 1 = 0 := by
  intro (t : Fin grid0.N); revert t; decide +kernel

section
variable (c : Dev nD) (i : grid0.Coords) (a2 : Memref sig .tc .vmem S128x2048 .f32) (h2 : a2.IsWhole) (a3 : Memref sig .tc .vmem S128x2048 .bf16) (h3 : a3.IsWhole) (a4 : Memref sig .tc .vmem S2x2048 .f32) (h4 : a4.IsWhole) (a5 : Memref sig .tc .vmem S1x2048 .f32) (h5 : a5.IsWhole)
  (x0 : Vec Ideal S128x2048 .f32) (x1 : Vec Ideal S128x2048 .bf16) (x2 : Vec Ideal S2x2048 .f32) (s : Vec Ideal S1x2048 .f32)

theorem first (hc0 : cond0_0 i) (hc1 : ¬cond0_1 i) : out0_A_3 (F := Ideal) c i a2 h2 a3 h3 a4 h4 a5 h5 hc0 hc1 x0 x1 x2 = k0_pay1 x0 x1 := by
  unfold out0_A_3
  rw [View.read_writes_eq_canon _ _ _ (fun _ => cover0_A_3 ..)]
  unfold kernelRun0_A
  dsimp only
  sl_unfold_words
  simp only [View.canon_unit_zero (S := S1x2048) zeros2, View.readAt_eq_ld, h2.read_unread, h3.read_unread, View.ld_unit_zero (S := S128x2048) zeros2]

theorem second (hc0 : ¬cond0_0 i) (hc1 : cond0_1 i) : out0_B_3 (F := Ideal) c i a2 h2 a3 h3 a4 h4 a5 h5 hc0 hc1 x0 x1 x2 s = k0_pay2 x0 x1 s := by
  unfold out0_B_3
  rw [View.read_writes_eq_canon _ _ _ (fun _ => cover0_B_3 ..)]
  unfold kernelRun0_B
  dsimp only
  sl_unfold_words
  simp only [View.canon_unit_zero (S := S1x2048) zeros2, View.readAt_eq_ld, h2.read_unread, h3.read_unread, h5.read_unread, View.ld_unit_zero (S := S128x2048) zeros2, View.ld_unit_zero (S := S1x2048) zeros2]

end

/-- The sum over the rows of a point's blocks is the sum of the reference's terms over those rows. -/
theorem scale_at (c : Dev nD) (t : Fin cfg0.N) (k : Fin 2048) : k0_pay1 (F := Ideal) (iblk m c 0 t) (iblk m c 1 t) (ix2 0 k)
    = ∑ s : Fin 128, val_main_v16 (F := Ideal) (arr0 m c) (arr2 m c) (ix2 ⟨t.val * 128 + s.val, by have h := bound t; omega⟩ k) := by
  have hb := bound t
  have h0 : ∀ (y0 : Fin 128) (y1 : Fin 2048), (iblk m c 0 t : Vec Ideal S128x2048 .f32) (ix2 y0 y1) = arr0 m c (ix2 ⟨t.val * 128 + y0.val, by omega⟩ y1) :=
    fun y0 y1 => (View.read_apply ..).trans (tile (arr0 m c) _ (index0 t) _ _ rfl (by show 0 * 2048 + y1.val = y1.val; omega) rfl rfl)
  have h1 : ∀ (y0 : Fin 128) (y1 : Fin 2048), (iblk m c 1 t : Vec Ideal S128x2048 .bf16) (ix2 y0 y1) = arr2 m c (ix2 ⟨t.val * 128 + y0.val, by omega⟩ y1) :=
    fun y0 y1 => (View.read_apply ..).trans (tile (arr2 m c) _ (index0 t) _ _ rfl (by show 0 * 2048 + y1.val = y1.val; omega) rfl rfl)
  generalize (iblk m c 0 t : Vec Ideal S128x2048 .f32) = x0 at h0 ⊢
  generalize (iblk m c 1 t : Vec Ideal S128x2048 .bf16) = x1 at h1 ⊢
  unfold k0_pay1
  unfold val_main_v16 val_main_v15 val_main_v11 val_main_v10 val_main_v9 val_main_v8 val_main_v7 val_main_cst_1 val_main_v6 val_main_v5 val_main_cst_0 val_main_v4 val_main_v3 val_main_cst val_main_v2
  pointwise
  simp only [h0, h1, Fin.sum_univ_one]

theorem add_at (x0 : Vec Ideal S128x2048 .f32) (x1 : Vec Ideal S128x2048 .bf16) (s : Vec Ideal S1x2048 .f32) (k : Fin 2048) :
    k0_pay2 (F := Ideal) x0 x1 s (ix2 0 k) = s (ix2 0 k) + k0_pay1 (F := Ideal) x0 x1 (ix2 0 k) := by
  unfold k0_pay2 k0_pay1
  pointwise

theorem reference (a0 : Vec Ideal S256x2048 .f32) (a2 : Vec Ideal S256x2048 .bf16) (k : Fin 2048) :
    val_main_v20 (F := Ideal) a0 a2 (ix2 0 k) = ∑ j : Fin 2, ∑ s : Fin 128, val_main_v16 (F := Ideal) a0 a2 (ix2 ⟨j.val * 128 + s.val, by omega⟩ k) := by
  unfold val_main_v20 val_main_v19 val_main_cst_3 val_main_v18 val_main_v17 val_main_cst_2
  pointwise
  rw [Fin.sum_univ_one, Fin.sum_univ_tiles 2 128 (by decide)]

/-- The result of the reference, at the kernel's arguments. -/
def whole (c : Dev nD) : Vec Ideal S1x2048 .f32 := val_main_v20 (F := Ideal) (arr0 m c) (arr2 m c)

theorem last (c : Dev nD) (t : Fin cfg0.N) (h : t.val = 1) (k : Fin 2048) : outsAt0 m c t.val t.isLt (ix2 0 k) = whole m c (ix2 0 k) := by
  have h0 := outsAt0_A m c ⟨t.val - 1, Nat.lt_of_le_of_lt (Nat.sub_le _ _) t.isLt⟩ (by show (t.val - 1) % 2 = 0; omega) (by show ¬(t.val - 1) % 2 = 1; omega)
  rw [first] at h0
  rw [outsAt0_B m c t (by omega) (by omega), second, add_at]
  unfold whole
  rw [reference, Fin.sum_univ_two]
  refine congrArg₂ (· + ·) ((congrFun h0 _).trans ((scale_at m c _ k).trans (Finset.sum_congr rfl fun s _ => congrArg _ (congrArg (ix2 · k) (Fin.ext ?_)))))
    ((scale_at m c t k).trans (Finset.sum_congr rfl fun s _ => congrArg _ (congrArg (ix2 · k) (Fin.ext ?_))))
  · show (t.val - 1) * 128 + s.val = 0 * 128 + s.val; omega
  · show t.val * 128 + s.val = 1 * 128 + s.val; omega

/-- An element of an array of the result's size, read through the block of a point. -/
theorem read_at (A : Vec Ideal S1x2048 .f32) (t : Fin cfg0.N) (k : Fin 2048) : ((cfg0.win 3).blk t).view.read (Elt Ideal) A (ix2 0 k) = A (ix2 0 k) :=
  (View.read_apply ..).trans (tile A _ (index3 t) _ _ rfl (by show 0 * 2048 + k.val = k.val; omega) rfl rfl)

theorem flushed (c : Dev nD) (t : Fin cfg0.N) (hf : (cfg0.win 3).flush t = true) :
    (dats m 0 c).flushed 3 t = ((cfg0.win 3).blk t).view.read (Elt Ideal) (whole m c) := by
  have h1 : t.val = 1 := by have h := (flush0_3 t).mp hf; have hb := bound t; omega
  rw [Value.flushed3]
  show outsAt0 m c t.val t.isLt = _
  funext y
  idx_vars y
  obtain rfl : y0 = 0 := Subsingleton.elim _ _
  exact (last m c t h1 y1).trans (read_at (whole m c) t y1).symm

theorem cover (i : S1x2048.Idx) : ∃ t : Fin cfg0.N, (cfg0.win 3).flush t = true ∧ i ∈ ((cfg0.win 3).blk t).view.set := by
  have h0 : (i 0).val < 1 := (i 0).isLt
  have h1 : (i 1).val < 2048 := (i 1).isLt
  have hN : 1 < cfg0.N := lt_of_lt_of_eq (by decide : 1 < 2) N_0.symm
  refine ⟨⟨1, hN⟩, (flush0_3 _).mpr rfl, ?_⟩
  refine View.set_slice_whole main_v0 (win0_3.rect ⟨1, hN⟩) ▸ Rect.mem_set_unit.mpr ?_
  exact within (a := 1) (b := 2048) (index3 _) (by omega) (by omega) rfl rfl rfl rfl

/-- The result after the call. -/
theorem array (c : Dev nD) : (dats m 0 c).arrAt 3 cfg0.N = whole m c := (dats m 0 c).arrAt_eq_of_cover 3 _ (fun t hf => flushed m c t hf) cover

end Cert.MemBwdIdeal.Product

namespace Cert.MemBwdClaims

open Idealize.ShloMosaic Idealize.ShloMosaic.TcCoe Idealize.SL.Sem Cert.MemBwdIdeal.Product Cert.MemBwdRefIdeal.Read

theorem frame_p : Cert.quiescent_MemBwd := fun m ρ _ => Cert.MemBwd.Gen.frame m ρ
theorem frame_pi : Cert.quiescent_MemBwdIdeal := fun m ρ _ => Cert.MemBwdIdeal.Gen.frame m ρ
theorem frame_ri : Cert.quiescent_MemBwdRefIdeal := fun m ρ _ =>
  (θ_run _ _ _).mono (fun r h => ⟨fun c => (h c).2, sem_eq_zero_of_no_sems (by decide) r.2⟩) (Cert.MemBwdRefIdeal.Value.run (F := Ideal) m ρ)

theorem preserves : Cert.preserves_MemBwd_MemBwdIdeal := trivial

theorem algebraic : Cert.algebraic_MemBwdIdeal_MemBwdRefIdeal := fun m ρ m' ρ' _ hag =>
  ⟨fun c => whole m c,
    (θ_run _ _ _).mono (fun r h c => ⟨(h c).1.trans (array m c), (h c).2⟩) (Cert.MemBwdIdeal.Value.run_blocks (F := Ideal) m ρ),
    (θ_run _ _ _).mono (fun r h c => ⟨(h c).1.trans (by rw [(hag c).1, (hag c).2.2]; rfl), (h c).2⟩) (Cert.MemBwdRefIdeal.Value.run (F := Ideal) m' ρ')⟩

end Cert.MemBwdClaims
end
-- ==== Proof.MixBwdProduct.lean ====
/-
  The gradient of the gated sum of the two branches.
-/
module

public import proofs.«01_k».proof.Defs
public import proofs.«01_k».proof.Proof.Gen.MixBwd.Frame
public import proofs.«01_k».proof.Proof.Gen.MixBwdIdeal.Value
public import proofs.«01_k».proof.Proof.Gen.MixBwdRefIdeal.Read
public import proofs.«01_k».proof.Proof.Sigmoid
public import proofs.«01_k».proof.Proof.Tiles
public import proofs.«01_k».proof.Proof.Zeros

@[expose] public section

set_option maxRecDepth 16384

noncomputable section

namespace Cert.MixBwdIdeal.Product

open Cert.MixBwdIdeal Cert.MixBwdIdeal.Gen Cert.MixBwdRefIdeal.Read Cert.Tiles Idealize.ShloMosaic Idealize.ShloMosaic.TcCoe Idealize.SL.Sem

variable (m : (ℓ : Loc nD τ sig) → Buf (Elt Ideal) ℓ)

abbrev arr0 (c : Dev nD) : Vec Ideal S4096x7168 .f32 := m ((c : Thread nD τ).loc main_arg0)
abbrev arr1 (c : Dev nD) : Vec Ideal S4096x2048 .f32 := m ((c : Thread nD τ).loc main_arg1)
abbrev arr2 (c : Dev nD) : Vec Ideal S4096x4096 .f32 := m ((c : Thread nD τ).loc main_arg2)
abbrev arr3 (c : Dev nD) : Vec Ideal S4096x2048 .bf16 := m ((c : Thread nD τ).loc main_arg3)

theorem bound (t : Fin cfg0.N) : t.val < 32 := t.isLt.trans_eq N_0

/-! Windows 2, 3 and 5 go through the blocks in the same order; so do the results; the others start some columns further on. -/

theorem index2 : ∀ t : Fin cfg0.N, win0_2.index t 0 = t.val % 16 ∧ win0_2.index t 1 = t.val / 16 := by
  intro (t : Fin grid0.N); revert t; decide +kernel

theorem index0 : ∀ t : Fin cfg0.N, win0_0.index t 0 = t.val % 16 ∧ win0_0.index t 1 = 3 + t.val / 16 := by
  intro (t : Fin grid0.N); revert t; decide +kernel

theorem index1 : ∀ t : Fin cfg0.N, win0_1.index t 0 = t.val % 16 ∧ win0_1.index t 1 = 5 + t.val / 16 := by
  intro (t : Fin grid0.N); revert t; decide +kernel

theorem index4 : ∀ t : Fin cfg0.N, win0_4.index t 0 = t.val % 16 ∧ win0_4.index t 1 = 2 + t.val / 16 := by
  intro (t : Fin grid0.N); revert t; decide +kernel

theorem index6 : ∀ t : Fin cfg0.N, win0_6.index t 0 = t.val % 16 ∧ win0_6.index t 1 = t.val / 16 := by
  intro (t : Fin grid0.N); revert t; decide +kernel

/-- The five results of a block, at one element, are those of the reference at the corresponding element. -/
def Agree (x0 x1 x2 x3 x4 : Vec Ideal S256x1024 .f32) (x5 : Vec Ideal S256x1024 .bf16)
    (a0 : Vec Ideal S4096x7168 .f32) (a1 : Vec Ideal S4096x2048 .f32) (a2 : Vec Ideal S4096x4096 .f32) (a3 : Vec Ideal S4096x2048 .bf16)
    (y0 : Fin 256) (y1 : Fin 1024) (r : Fin 4096) (s : Fin 2048) : Prop :=
  out0_6 (F := Ideal) x0 x1 x2 x3 x4 x5 (ix2 y0 y1) = val_main_v39 (F := Ideal) a0 a1 a2 a3 (ix2 r s)
    ∧ out0_7 (F := Ideal) x0 x1 x2 x3 x4 x5 (ix2 y0 y1) = val_main_v41 (F := Ideal) a0 a1 a2 a3 (ix2 r s)
    ∧ out0_8 (F := Ideal) x0 x1 x2 x3 x4 x5 (ix2 y0 y1) = val_main_v42 (F := Ideal) a0 a3 (ix2 r s)
    ∧ out0_9 (F := Ideal) x0 x1 x2 x3 x4 x5 (ix2 y0 y1) = val_main_v44 (F := Ideal) a0 a2 a3 (ix2 r s)
    ∧ out0_10 (F := Ideal) x0 x1 x2 x3 x4 x5 (ix2 y0 y1) = val_main_v46 (F := Ideal) a0 a2 a3 (ix2 r s)

/-- An element of the results at the corresponding elements of the arguments' blocks. -/
theorem core (x0 x1 x2 x3 x4 : Vec Ideal S256x1024 .f32) (x5 : Vec Ideal S256x1024 .bf16)
    (a0 : Vec Ideal S4096x7168 .f32) (a1 : Vec Ideal S4096x2048 .f32) (a2 : Vec Ideal S4096x4096 .f32) (a3 : Vec Ideal S4096x2048 .bf16)
    (y0 : Fin 256) (y1 : Fin 1024) (r : Fin 4096) (s : Fin 2048)
    (h0 : x0 (ix2 y0 y1) = a0 (ix2 r ⟨3072 + s.val, by omega⟩)) (h1 : x1 (ix2 y0 y1) = a0 (ix2 r ⟨3072 + (2048 + s.val), by omega⟩))
    (h2 : x2 (ix2 y0 y1) = a1 (ix2 r s)) (h3 : x3 (ix2 y0 y1) = a2 (ix2 r ⟨s.val, by omega⟩))
    (h4 : x4 (ix2 y0 y1) = a2 (ix2 r ⟨2048 + s.val, by omega⟩)) (h5 : x5 (ix2 y0 y1) = a3 (ix2 r s)) :
    Agree x0 x1 x2 x3 x4 x5 a0 a1 a2 a3 y0 y1 r s := by
  have hc := s.isLt
  have hd : ¬2048 + s.val < 2048 := by omega
  unfold Agree out0_6 out0_7 out0_8 out0_9 out0_10
  simp only [View.canon_unit_zero (S := S256x1024) zeros2, View.ld_unit_zero (S := S256x1024) zeros2]
  unfold k0_pay13 k0_pay4 k0_pay22 k0_pay12 k0_pay11 k0_pay10 k0_pay9 k0_pay21 k0_pay8 k0_pay7 k0_pay6 k0_pay18 k0_pay20 k0_pay16 k0_pay15 k0_pay5 k0_pay3 k0_pay2 k0_pay19 k0_pay17 k0_pay14 k0_pay1
  unfold val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst_4 val_main_cst_2 val_main_cst_3 val_main_cst val_main_cst_0 val_main_cst_1
  refine ⟨?_, ?_, ?_, ?_, ?_⟩
  all_goals
    pointwise
    simp only [h0, h1, h2, h3, h4, h5]
    simp only [Cert.Sigmoid.zero_sub_eq, Cert.Sigmoid.slope, hc, hd, dite_true, dite_false, Nat.add_sub_cancel_left]

/-- The row and the column of an element of point `t`'s blocks. -/
abbrev row (t : Fin cfg0.N) (y : Fin 256) : Fin 4096 := ⟨t.val % 16 * 256 + y.val, by omega⟩
abbrev col (t : Fin cfg0.N) (y : Fin 1024) : Fin 2048 := ⟨t.val / 16 * 1024 + y.val, by have h := bound t; omega⟩

theorem point (c : Dev nD) (t : Fin cfg0.N) (y0 : Fin 256) (y1 : Fin 1024) :
    Agree (iblk m c 0 t) (iblk m c 1 t) (iblk m c 2 t) (iblk m c 3 t) (iblk m c 4 t) (iblk m c 5 t) (arr0 m c) (arr1 m c) (arr2 m c) (arr3 m c) y0 y1 (row t y0) (col t y1) :=
  core _ _ _ _ _ _ _ _ _ _ y0 y1 _ _
    ((View.read_apply ..).trans (tile (arr0 m c) _ (index0 t) _ _ rfl (by show (3 + t.val / 16) * 1024 + y1.val = 3072 + (t.val / 16 * 1024 + y1.val); omega) rfl rfl))
    ((View.read_apply ..).trans (tile (arr0 m c) _ (index1 t) _ _ rfl (by show (5 + t.val / 16) * 1024 + y1.val = 3072 + (2048 + (t.val / 16 * 1024 + y1.val)); omega) rfl rfl))
    ((View.read_apply ..).trans (tile (arr1 m c) _ (index2 t) _ _ rfl rfl rfl rfl))
    ((View.read_apply ..).trans (tile (arr2 m c) _ (index2 t) _ _ rfl rfl rfl rfl))
    ((View.read_apply ..).trans (tile (arr2 m c) _ (index4 t) _ _ rfl (by show (2 + t.val / 16) * 1024 + y1.val = 2048 + (t.val / 16 * 1024 + y1.val); omega) rfl rfl))
    ((View.read_apply ..).trans (tile (arr3 m c) _ (index2 t) _ _ rfl rfl rfl rfl))

/-- An element of an array of the results' size, read through the block of point `t`. -/
theorem read_at (A : Vec Ideal S4096x2048 .bf16) (t : Fin cfg0.N) (y0 : Fin 256) (y1 : Fin 1024) :
    ((cfg0.win 6).blk t).view.read (Elt Ideal) A (ix2 y0 y1) = A (ix2 (row t y0) (col t y1)) :=
  (View.read_apply ..).trans (tile A _ (index6 t) _ _ rfl rfl rfl rfl)

/-! The results of the reference, at the kernel's arguments. -/

def whole6 (c : Dev nD) : Vec Ideal S4096x2048 .bf16 := val_main_v39 (F := Ideal) (arr0 m c) (arr1 m c) (arr2 m c) (arr3 m c)
def whole7 (c : Dev nD) : Vec Ideal S4096x2048 .bf16 := val_main_v41 (F := Ideal) (arr0 m c) (arr1 m c) (arr2 m c) (arr3 m c)
def whole8 (c : Dev nD) : Vec Ideal S4096x2048 .bf16 := val_main_v42 (F := Ideal) (arr0 m c) (arr3 m c)
def whole9 (c : Dev nD) : Vec Ideal S4096x2048 .bf16 := val_main_v44 (F := Ideal) (arr0 m c) (arr2 m c) (arr3 m c)
def whole10 (c : Dev nD) : Vec Ideal S4096x2048 .bf16 := val_main_v46 (F := Ideal) (arr0 m c) (arr2 m c) (arr3 m c)

theorem flushed6 (c : Dev nD) (t : Fin cfg0.N) : (dats m 0 c).flushed 6 t = ((cfg0.win 6).blk t).view.read (Elt Ideal) (whole6 m c) := by
  rw [Value.flushed6]
  funext y
  idx_vars y
  exact (point m c t y0 y1).1.trans (read_at (whole6 m c) t y0 y1).symm

theorem flushed7 (c : Dev nD) (t : Fin cfg0.N) : (dats m 0 c).flushed 7 t = ((cfg0.win 7).blk t).view.read (Elt Ideal) (whole7 m c) := by
  rw [Value.flushed7]
  funext y
  idx_vars y
  exact (point m c t y0 y1).2.1.trans (read_at (whole7 m c) t y0 y1).symm

theorem flushed8 (c : Dev nD) (t : Fin cfg0.N) : (dats m 0 c).flushed 8 t = ((cfg0.win 8).blk t).view.read (Elt Ideal) (whole8 m c) := by
  rw [Value.flushed8]
  funext y
  idx_vars y
  exact (point m c t y0 y1).2.2.1.trans (read_at (whole8 m c) t y0 y1).symm

theorem flushed9 (c : Dev nD) (t : Fin cfg0.N) : (dats m 0 c).flushed 9 t = ((cfg0.win 9).blk t).view.read (Elt Ideal) (whole9 m c) := by
  rw [Value.flushed9]
  funext y
  idx_vars y
  exact (point m c t y0 y1).2.2.2.1.trans (read_at (whole9 m c) t y0 y1).symm

theorem flushed10 (c : Dev nD) (t : Fin cfg0.N) : (dats m 0 c).flushed 10 t = ((cfg0.win 10).blk t).view.read (Elt Ideal) (whole10 m c) := by
  rw [Value.flushed10]
  funext y
  idx_vars y
  exact (point m c t y0 y1).2.2.2.2.trans (read_at (whole10 m c) t y0 y1).symm

theorem cover6 (i : S4096x2048.Idx) : ∃ t : Fin cfg0.N, (cfg0.win 6).flush t = true ∧ i ∈ ((cfg0.win 6).blk t).view.set := by
  have h0 : (i 0).val < 4096 := (i 0).isLt
  have h1 : (i 1).val < 2048 := (i 1).isLt
  have hN : (i 0).val / 256 + (i 1).val / 1024 * 16 < cfg0.N := lt_of_lt_of_eq (by omega : (i 0).val / 256 + (i 1).val / 1024 * 16 < 32) N_0.symm
  refine ⟨⟨(i 0).val / 256 + (i 1).val / 1024 * 16, hN⟩, flush0_6 _, ?_⟩
  refine View.set_slice_whole main_v0_0 (win0_6.rect ⟨(i 0).val / 256 + (i 1).val / 1024 * 16, hN⟩) ▸ Rect.mem_set_unit.mpr ?_
  exact within (a := 256) (b := 1024) (index6 _) (by dsimp only; omega) (by dsimp only; omega) rfl rfl rfl rfl

/-- The results after the call. -/
theorem arrays (c : Dev nD) : (dats m 0 c).arrAt 6 cfg0.N = whole6 m c ∧ (dats m 0 c).arrAt 7 cfg0.N = whole7 m c ∧ (dats m 0 c).arrAt 8 cfg0.N = whole8 m c ∧ (dats m 0 c).arrAt 9 cfg0.N = whole9 m c ∧ (dats m 0 c).arrAt 10 cfg0.N = whole10 m c :=
  ⟨(dats m 0 c).arrAt_eq_of_cover 6 _ (fun t _ => flushed6 m c t) cover6,
    (dats m 0 c).arrAt_eq_of_cover 7 _ (fun t _ => flushed7 m c t) (fun i => let ⟨t, _, h⟩ := cover6 i; ⟨t, flush0_7 t, h⟩),
    (dats m 0 c).arrAt_eq_of_cover 8 _ (fun t _ => flushed8 m c t) (fun i => let ⟨t, _, h⟩ := cover6 i; ⟨t, flush0_8 t, h⟩),
    (dats m 0 c).arrAt_eq_of_cover 9 _ (fun t _ => flushed9 m c t) (fun i => let ⟨t, _, h⟩ := cover6 i; ⟨t, flush0_9 t, h⟩),
    (dats m 0 c).arrAt_eq_of_cover 10 _ (fun t _ => flushed10 m c t) (fun i => let ⟨t, _, h⟩ := cover6 i; ⟨t, flush0_10 t, h⟩)⟩

end Cert.MixBwdIdeal.Product

namespace Cert.MixBwdClaims

open Idealize.ShloMosaic Idealize.ShloMosaic.TcCoe Idealize.SL.Sem Cert.MixBwdIdeal.Product Cert.MixBwdRefIdeal.Read

theorem frame_p : Cert.quiescent_MixBwd := fun m ρ _ => Cert.MixBwd.Gen.frame m ρ
theorem frame_pi : Cert.quiescent_MixBwdIdeal := fun m ρ _ => Cert.MixBwdIdeal.Gen.frame m ρ
theorem frame_ri : Cert.quiescent_MixBwdRefIdeal := fun m ρ _ =>
  (θ_run _ _ _).mono (fun r h => ⟨fun c => (h c).2.2.2.2.2, sem_eq_zero_of_no_sems (by decide) r.2⟩) (Cert.MixBwdRefIdeal.Value.run (F := Ideal) m ρ)

theorem preserves : Cert.preserves_MixBwd_MixBwdIdeal := trivial

theorem algebraic : Cert.algebraic_MixBwdIdeal_MixBwdRefIdeal := fun m ρ m' ρ' _ hag =>
  ⟨fun c => whole6 m c, fun c => whole7 m c, fun c => whole8 m c, fun c => whole9 m c, fun c => whole10 m c,
    (θ_run _ _ _).mono (fun r h c => ⟨(h c).1.trans (arrays m c).1, (h c).2.1.trans (arrays m c).2.1, (h c).2.2.1.trans (arrays m c).2.2.1, (h c).2.2.2.1.trans (arrays m c).2.2.2.1, (h c).2.2.2.2.1.trans (arrays m c).2.2.2.2, (h c).2.2.2.2.2⟩)
      (Cert.MixBwdIdeal.Value.run_blocks (F := Ideal) m ρ),
    (θ_run _ _ _).mono (fun r h c => ⟨(h c).1.trans (by rw [val_main_v39_eq, (hag c).1, (hag c).2.1, (hag c).2.2.1, (hag c).2.2.2]; rfl),
        (h c).2.1.trans (by rw [val_main_v41_eq, (hag c).1, (hag c).2.1, (hag c).2.2.1, (hag c).2.2.2]; rfl),
        (h c).2.2.1.trans (by rw [val_main_v42_eq, (hag c).1, (hag c).2.2.2]; rfl),
        (h c).2.2.2.1.trans (by rw [val_main_v44_eq, (hag c).1, (hag c).2.2.1, (hag c).2.2.2]; rfl),
        (h c).2.2.2.2.1.trans (by rw [val_main_v46_eq, (hag c).1, (hag c).2.2.1, (hag c).2.2.2]; rfl), (h c).2.2.2.2.2⟩)
      (Cert.MixBwdRefIdeal.Value.run (F := Ideal) m' ρ')⟩

end Cert.MixBwdClaims
end
-- ==== Proof.PostBwdProduct.lean ====
/-
  The gradient of the convolution branch's end: what its input, its bias, and the scale and shift of its norm get.
-/
module

public import proofs.«01_k».proof.Defs
public import proofs.«01_k».proof.Proof.Gen.PostBwd.Frame
public import proofs.«01_k».proof.Proof.Gen.PostBwdIdeal.Value
public import proofs.«01_k».proof.Proof.Gen.PostBwdRefIdeal.Read
public import proofs.«01_k».proof.Proof.Sigmoid
public import proofs.«01_k».proof.Proof.Tiles
public import proofs.«01_k».proof.Proof.Zeros

@[expose] public section

set_option maxRecDepth 16384

noncomputable section

namespace Cert.PostBwdIdeal.Product

open Cert.PostBwdIdeal Cert.PostBwdIdeal.Gen Cert.PostBwdRefIdeal.Read Cert.Tiles Idealize.ShloMosaic Idealize.ShloMosaic.TcCoe Idealize.SL.Sem

variable (m : (ℓ : Loc nD τ sig) → Buf (Elt Ideal) ℓ)

abbrev arr0 (c : Dev nD) : Vec Ideal S4096x1024 .f32 := m ((c : Thread nD τ).loc main_arg0)
abbrev arr1 (c : Dev nD) : Vec Ideal S2x1024 .f32 := m ((c : Thread nD τ).loc main_arg1)
abbrev arr2 (c : Dev nD) : Vec Ideal S2x1024 .f32 := m ((c : Thread nD τ).loc main_arg2)
abbrev arr3 (c : Dev nD) : Vec Ideal S2x1024 .f32 := m ((c : Thread nD τ).loc main_arg3)
abbrev arr4 (c : Dev nD) : Vec Ideal S4096x1024 .bf16 := m ((c : Thread nD τ).loc main_arg4)

theorem bound (t : Fin cfg0.N) : t.val < 16 := t.isLt.trans_eq N_0

/-! Windows 0, 1 and 5 go through the rows; the others stay. -/

theorem index0 : ∀ t : Fin cfg0.N, win0_0.index t 0 = t.val ∧ win0_0.index t 1 = 0 := by
  intro (t : Fin grid0.N); revert t; decide +kernel

theorem index2 : ∀ t : Fin cfg0.N, win0_2.index t 0 = 0 ∧ win0_2.index t 1 = 0 := by
  intro (t : Fin grid0.N); revert t; decide +kernel

theorem index5 : ∀ t : Fin cfg0.N, win0_5.index t 0 = t.val ∧ win0_5.index t 1 = 0 := by
  intro (t : Fin grid0.N); revert t; decide +kernel

theorem index6 : ∀ t : Fin cfg0.N, win0_6.index t 0 = 0 ∧ win0_6.index t 1 = 0 := by
  intro (t : Fin grid0.N); revert t; decide +kernel

/-! ### What a point computes -/

/-- The first row of a pair of rows. -/
def row (x : Vec Ideal S2x1024 .f32) : Vec Ideal S1x1024 .f32 := fun i => x (ix2 0 (i 1))

theorem load_row (x : Vec Ideal S2x1024 .f32) (h : ∀ a, (![0, 0] : Fin 2 → Nat) a + (![1, 1024] : Fin 2 → Nat) a ≤ S2x1024.size a) :
    View.ld x (Rect.unit (s := S2x1024) ![0, 0] ![1, 1024] h) = row x := by
  funext (i : S1x1024.Idx)
  refine congrArg x (funext fun a => Fin.ext ?_)
  have h0 : (i 0).val < 1 := (i 0).isLt
  match a with
  | ⟨0, _⟩ => show 0 + 1 * (i 0).val = 0; omega
  | ⟨1, _⟩ => show 0 + 1 * (i 1).val = (i 1).val; omega

section
variable (x0 : Vec Ideal S256x1024 .f32) (x1 : Vec Ideal S256x1024 .bf16) (x2 x3 x4 : Vec Ideal S2x1024 .f32)

/-- The gradient of what the norm gives. -/
def grad : Vec Ideal S256x1024 .f32 :=
  k0_pay17 x1 (k0_pay12 x0 (row x2) (row x3) (row x4)) (k0_pay13 x0 (row x2) (row x3) (row x4)) (k0_pay15 x0 (row x2) (row x3) (row x4)) (k0_pay16 x0 (row x2) (row x3) (row x4)) (Scalar.ofBits .f32 0x3F800000#32)

theorem grad_eq : k0_pay17 (F := Ideal) x1 (k0_pay12 x0 (row x2) (row x3) (row x4)) (k0_pay13 x0 (row x2) (row x3) (row x4)) (k0_pay15 x0 (row x2) (row x3) (row x4)) (k0_pay16 x0 (row x2) (row x3) (row x4)) (Scalar.ofBits .f32 0x3F800000#32) = grad x0 x1 x2 x3 x4 := rfl

/-- The gradient of the input. -/
def input : Vec Ideal S256x1024 .f32 :=
  k0_pay20 x1 (row x3) (k0_pay7 x0 (row x2)) (k0_pay9 x0 (row x2)) (k0_pay10 x0 (row x2)) (k0_pay12 x0 (row x2) (row x3) (row x4)) (k0_pay13 x0 (row x2) (row x3) (row x4)) (k0_pay15 x0 (row x2) (row x3) (row x4)) (k0_pay16 x0 (row x2) (row x3) (row x4)) (Scalar.ofBits .f32 0x3F800000#32)

/-- The three sums over the rows of a point's blocks. -/
def bias : Vec Ideal S1024 .f32 :=
  k0_pay21 x1 (row x3) (k0_pay7 x0 (row x2)) (k0_pay9 x0 (row x2)) (k0_pay10 x0 (row x2)) (k0_pay12 x0 (row x2) (row x3) (row x4)) (k0_pay13 x0 (row x2) (row x3) (row x4)) (k0_pay15 x0 (row x2) (row x3) (row x4)) (k0_pay16 x0 (row x2) (row x3) (row x4)) (Scalar.ofBits .f32 0x3F800000#32)
def scale : Vec Ideal S1x1024 .f32 :=
  k0_pay19 x1 (k0_pay11 x0 (row x2)) (k0_pay12 x0 (row x2) (row x3) (row x4)) (k0_pay13 x0 (row x2) (row x3) (row x4)) (k0_pay15 x0 (row x2) (row x3) (row x4)) (k0_pay16 x0 (row x2) (row x3) (row x4)) (Scalar.ofBits .f32 0x3F800000#32)
def shift : Vec Ideal S1x1024 .f32 :=
  k0_pay18 x1 (k0_pay12 x0 (row x2) (row x3) (row x4)) (k0_pay13 x0 (row x2) (row x3) (row x4)) (k0_pay15 x0 (row x2) (row x3) (row x4)) (k0_pay16 x0 (row x2) (row x3) (row x4)) (Scalar.ofBits .f32 0x3F800000#32)

variable (c : Dev nD) (i : grid0.Coords) (a2 : Memref sig .tc .vmem S256x1024 .f32) (h2 : a2.IsWhole) (a3 : Memref sig .tc .vmem S256x1024 .bf16) (h3 : a3.IsWhole) (a4 : Memref sig .tc .vmem S2x1024 .f32) (h4 : a4.IsWhole) (a5 : Memref sig .tc .vmem S2x1024 .f32) (h5 : a5.IsWhole) (a6 : Memref sig .tc .vmem S2x1024 .f32) (h6 : a6.IsWhole) (a7 : Memref sig .tc .vmem S256x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole)
  (s6 s7 s8 : Vec Ideal S1x1024 .f32)

theorem pointA (hc0 : cond0_0 i) (hc1 : ¬cond0_1 i) (hc2 : cond0_2 i) (hc3 : ¬cond0_3 i) (hc4 : cond0_4 i) (hc5 : ¬cond0_5 i) :
    out0_A_5 (F := Ideal) c i a2 h2 a3 h3 a4 h4 a5 h5 a6 h6 a7 h7 a8 h8 a9 h9 a10 h10 hc0 hc1 hc2 hc3 hc4 hc5 x0 x1 x2 x3 x4 = input x0 x1 x2 x3 x4
      ∧ out0_A_6 (F := Ideal) c i a2 h2 a3 h3 a4 h4 a5 h5 a6 h6 a7 h7 a8 h8 a9 h9 a10 h10 hc0 hc1 hc2 hc3 hc4 hc5 x0 x1 x2 x3 x4 = k0_pay1 (F := Ideal) (bias x0 x1 x2 x3 x4)
      ∧ out0_A_7 (F := Ideal) c i a2 h2 a3 h3 a4 h4 a5 h5 a6 h6 a7 h7 a8 h8 a9 h9 a10 h10 hc0 hc1 hc2 hc3 hc4 hc5 x0 x1 x2 x3 x4 = k0_pay2 (F := Ideal) (scale x0 x1 x2 x3 x4)
      ∧ out0_A_8 (F := Ideal) c i a2 h2 a3 h3 a4 h4 a5 h5 a6 h6 a7 h7 a8 h8 a9 h9 a10 h10 hc0 hc1 hc2 hc3 hc4 hc5 x0 x1 x2 x3 x4 = k0_pay3 (F := Ideal) (shift x0 x1 x2 x3 x4) := by
  unfold out0_A_5 out0_A_6 out0_A_7 out0_A_8
  rw [View.read_writes_eq_canon _ _ _ (fun _ => cover0_A_5 ..), View.read_writes_eq_canon _ _ _ (fun _ => cover0_A_6 ..), View.read_writes_eq_canon _ _ _ (fun _ => cover0_A_7 ..), View.read_writes_eq_canon _ _ _ (fun _ => cover0_A_8 ..)]
  unfold kernelRun0_A
  dsimp only
  sl_unfold_words
  simp only [View.canon_unit_zero (S := S256x1024) zeros2, View.canon_unit_zero (S := S1x1024) zeros2, View.readAt_eq_ld, h2.read_unread, h3.read_unread, h4.read_unread, h5.read_unread, h6.read_unread, load_row, View.ld_unit_zero (S := S256x1024) zeros2, View.ld_unit_zero (S := S1x1024) zeros2]
  exact ⟨rfl, rfl, rfl, rfl⟩

theorem pointB (hc0 : ¬cond0_0 i) (hc1 : cond0_1 i) (hc2 : ¬cond0_2 i) (hc3 : cond0_3 i) (hc4 : ¬cond0_4 i) (hc5 : cond0_5 i) :
    out0_B_5 (F := Ideal) c i a2 h2 a3 h3 a4 h4 a5 h5 a6 h6 a7 h7 a8 h8 a9 h9 a10 h10 hc0 hc1 hc2 hc3 hc4 hc5 x0 x1 x2 x3 x4 s6 s7 s8 = input x0 x1 x2 x3 x4
      ∧ out0_B_6 (F := Ideal) c i a2 h2 a3 h3 a4 h4 a5 h5 a6 h6 a7 h7 a8 h8 a9 h9 a10 h10 hc0 hc1 hc2 hc3 hc4 hc5 x0 x1 x2 x3 x4 s6 s7 s8 = k0_pay4 (F := Ideal) (bias x0 x1 x2 x3 x4) s6
      ∧ out0_B_7 (F := Ideal) c i a2 h2 a3 h3 a4 h4 a5 h5 a6 h6 a7 h7 a8 h8 a9 h9 a10 h10 hc0 hc1 hc2 hc3 hc4 hc5 x0 x1 x2 x3 x4 s6 s7 s8 = k0_pay5 (F := Ideal) (scale x0 x1 x2 x3 x4) s7
      ∧ out0_B_8 (F := Ideal) c i a2 h2 a3 h3 a4 h4 a5 h5 a6 h6 a7 h7 a8 h8 a9 h9 a10 h10 hc0 hc1 hc2 hc3 hc4 hc5 x0 x1 x2 x3 x4 s6 s7 s8 = k0_pay6 (F := Ideal) (shift x0 x1 x2 x3 x4) s8 := by
  unfold out0_B_5 out0_B_6 out0_B_7 out0_B_8
  rw [View.read_writes_eq_canon _ _ _ (fun _ => cover0_B_5 ..), View.read_writes_eq_canon _ _ _ (fun _ => cover0_B_6 ..), View.read_writes_eq_canon _ _ _ (fun _ => cover0_B_7 ..), View.read_writes_eq_canon _ _ _ (fun _ => cover0_B_8 ..)]
  unfold kernelRun0_B
  dsimp only
  sl_unfold_words
  simp only [View.canon_unit_zero (S := S256x1024) zeros2, View.canon_unit_zero (S := S1x1024) zeros2, View.readAt_eq_ld, h2.read_unread, h3.read_unread, h4.read_unread, h5.read_unread, h6.read_unread, h8.read_unread, h9.read_unread, h10.read_unread, load_row, View.ld_unit_zero (S := S256x1024) zeros2, View.ld_unit_zero (S := S1x1024) zeros2]
  exact ⟨rfl, rfl, rfl, rfl⟩
end

/-! ### Its elements are the reference's -/

section
variable (x0 : Vec Ideal S256x1024 .f32) (x1 : Vec Ideal S256x1024 .bf16) (x2 x3 x4 : Vec Ideal S2x1024 .f32)
  (a0 : Vec Ideal S4096x1024 .f32) (a1 a2 a3 : Vec Ideal S2x1024 .f32) (a4 : Vec Ideal S4096x1024 .bf16) (t : Nat) (ht : t < 16)
  (h0 : ∀ (y0 : Fin 256) (y1 : Fin 1024), x0 (ix2 y0 y1) = a0 (ix2 ⟨t * 256 + y0.val, by omega⟩ y1))
  (h1 : ∀ (y0 : Fin 256) (y1 : Fin 1024), x1 (ix2 y0 y1) = a4 (ix2 ⟨t * 256 + y0.val, by omega⟩ y1))
  (h2 : ∀ y1 : Fin 1024, row x2 (ix2 0 y1) = a1 (ix2 0 y1)) (h3 : ∀ y1 : Fin 1024, row x3 (ix2 0 y1) = a2 (ix2 0 y1))
  (h4 : ∀ y1 : Fin 1024, row x4 (ix2 0 y1) = a3 (ix2 0 y1)) (y0 : Fin 256) (y1 : Fin 1024)
include h0 h2

theorem centred_at : k0_pay7 (F := Ideal) x0 (row x2) (ix2 y0 y1) = val_main_v14 (F := Ideal) a0 a1 (ix2 ⟨t * 256 + y0.val, by omega⟩ y1) := by
  unfold k0_pay7
  unfold val_main_v14 val_main_v13 val_main_v12 val_main_v11 val_main_cst_0 val_main_v10 val_main_v9 val_main_cst val_main_v8 val_main_v7 val_main_v6 val_main_v1 val_main_v0
  pointwise
  simp only [h0, h2]

theorem root_at : k0_pay9 (F := Ideal) x0 (row x2) (ix2 y0 0) = val_main_v22 (F := Ideal) a0 a1 (ix2 ⟨t * 256 + y0.val, by omega⟩ 0)
    ∧ k0_pay10 (F := Ideal) x0 (row x2) (ix2 y0 0) = val_main_v25 (F := Ideal) a0 a1 (ix2 ⟨t * 256 + y0.val, by omega⟩ 0) := by
  unfold k0_pay10 k0_pay9 k0_pay8
  unfold val_main_v25 val_main_v24 val_main_v23 val_main_v22 val_main_v21 val_main_v20 val_main_v19 val_main_v18 val_main_v17 val_main_v16 val_main_v15 val_main_cst_1 val_main_cst_2 val_main_cst_3 val_main_cst_4
  constructor <;> (pointwise; simp only [centred_at x0 x2 a0 a1 t ht h0 h2])

theorem normed_at : k0_pay11 (F := Ideal) x0 (row x2) (ix2 y0 y1) = val_main_v27 (F := Ideal) a0 a1 (ix2 ⟨t * 256 + y0.val, by omega⟩ y1) := by
  unfold k0_pay11 val_main_v27 val_main_v26
  pointwise
  simp only [centred_at x0 x2 a0 a1 t ht h0 h2, (root_at x0 x2 a0 a1 t ht h0 h2 _).1]

include h1 h3 h4

theorem grad_at : grad x0 x1 x2 x3 x4 (ix2 y0 y1) = val_main_v36 (F := Ideal) a0 a1 a2 a3 a4 (ix2 ⟨t * 256 + y0.val, by omega⟩ y1) := by
  unfold grad k0_pay17 k0_pay16 k0_pay15 k0_pay14 k0_pay13 k0_pay12
  unfold val_main_v36 val_main_call1_v2 val_main_call1_v1 val_main_call1_v0 val_main_v35 val_main_v34_1 val_main_call0_v7 val_main_call0_v6 val_main_call0_cst_1 val_main_v34_2 val_main_call0_v4 val_main_call0_cst_0 val_main_call0_v3 val_main_call0_v2 val_main_call0_cst val_main_call0_v1 val_main_call0_v0 val_main_v33 val_main_v32 val_main_v31 val_main_v30 val_main_v29 val_main_v28 val_main_v5 val_main_v4 val_main_v3 val_main_v2
  pointwise
  simp only [normed_at x0 x2 a0 a1 t ht h0 h2, h1, h3, h4, Cert.Sigmoid.zero_sub_eq, Cert.Sigmoid.slope]

theorem input_at : input x0 x1 x2 x3 x4 (ix2 y0 y1) = val_main_v67 (F := Ideal) a0 a1 a2 a3 a4 (ix2 ⟨t * 256 + y0.val, by omega⟩ y1) := by
  unfold input k0_pay20
  unfold val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v44 val_main_v43 val_main_v28 val_main_v3 val_main_v2 val_main_cst_9 val_main_cst_10 val_main_cst_11 val_main_cst_12 val_main_cst_13 val_main_cst_14
  rw [grad_eq]
  pointwise
  simp only [grad_at x0 x1 x2 x3 x4 a0 a1 a2 a3 a4 t ht h0 h1 h2 h3 h4, centred_at x0 x2 a0 a1 t ht h0 h2, root_at x0 x2 a0 a1 t ht h0 h2, h3, Cert.Sigmoid.zero_sub_eq, Fin.sum_univ_one]

/-- The three sums over the rows of a point's blocks are the sums of the reference's terms over those rows. -/
theorem sums_at : k0_pay1 (F := Ideal) (bias x0 x1 x2 x3 x4) (ix2 0 y1) = ∑ s : Fin 256, val_main_v67 (F := Ideal) a0 a1 a2 a3 a4 (ix2 ⟨t * 256 + s.val, by omega⟩ y1)
    ∧ k0_pay2 (F := Ideal) (scale x0 x1 x2 x3 x4) (ix2 0 y1) = ∑ s : Fin 256, val_main_v40 (F := Ideal) a0 a1 a2 a3 a4 (ix2 ⟨t * 256 + s.val, by omega⟩ y1)
    ∧ k0_pay3 (F := Ideal) (shift x0 x1 x2 x3 x4) (ix2 0 y1) = ∑ s : Fin 256, val_main_v36 (F := Ideal) a0 a1 a2 a3 a4 (ix2 ⟨t * 256 + s.val, by omega⟩ y1) := by
  unfold bias scale shift k0_pay1 k0_pay2 k0_pay3 k0_pay18 k0_pay19 k0_pay21 val_main_v40
  rw [grad_eq,
    show k0_pay20 (F := Ideal) x1 (row x3) (k0_pay7 x0 (row x2)) (k0_pay9 x0 (row x2)) (k0_pay10 x0 (row x2)) (k0_pay12 x0 (row x2) (row x3) (row x4)) (k0_pay13 x0 (row x2) (row x3) (row x4)) (k0_pay15 x0 (row x2) (row x3) (row x4)) (k0_pay16 x0 (row x2) (row x3) (row x4)) (Scalar.ofBits .f32 0x3F800000#32) = input x0 x1 x2 x3 x4 from rfl]
  refine ⟨?_, ?_, ?_⟩ <;>
    (pointwise; simp only [input_at x0 x1 x2 x3 x4 a0 a1 a2 a3 a4 t ht h0 h1 h2 h3 h4, grad_at x0 x1 x2 x3 x4 a0 a1 a2 a3 a4 t ht h0 h1 h2 h3 h4, normed_at x0 x2 a0 a1 t ht h0 h2, Fin.sum_univ_one])
end

theorem add_at (x : Vec Ideal S1024 .f32) (x' s : Vec Ideal S1x1024 .f32) (k : Fin 1024) : k0_pay4 (F := Ideal) x s (ix2 0 k) = s (ix2 0 k) + k0_pay1 x (ix2 0 k)
    ∧ k0_pay5 (F := Ideal) x' s (ix2 0 k) = s (ix2 0 k) + k0_pay2 x' (ix2 0 k) ∧ k0_pay6 (F := Ideal) x' s (ix2 0 k) = s (ix2 0 k) + k0_pay3 x' (ix2 0 k) := by
  unfold k0_pay4 k0_pay5 k0_pay6
  refine ⟨?_, ?_, ?_⟩ <;> pointwise

/-- The three sums of the reference, one block of rows after the other. -/
theorem reference_sums (a0 : Vec Ideal S4096x1024 .f32) (a1 a2 a3 : Vec Ideal S2x1024 .f32) (a4 : Vec Ideal S4096x1024 .bf16) (k : Fin 1024) :
    val_main_v71 (F := Ideal) a0 a1 a2 a3 a4 (ix2 0 k) = ∑ j : Fin 16, ∑ s : Fin 256, val_main_v67 (F := Ideal) a0 a1 a2 a3 a4 (ix2 ⟨j.val * 256 + s.val, by omega⟩ k)
      ∧ val_main_v72 (F := Ideal) a0 a1 a2 a3 a4 (ix2 0 k) = ∑ j : Fin 16, ∑ s : Fin 256, val_main_v40 (F := Ideal) a0 a1 a2 a3 a4 (ix2 ⟨j.val * 256 + s.val, by omega⟩ k)
      ∧ val_main_v73 (F := Ideal) a0 a1 a2 a3 a4 (ix2 0 k) = ∑ j : Fin 16, ∑ s : Fin 256, val_main_v36 (F := Ideal) a0 a1 a2 a3 a4 (ix2 ⟨j.val * 256 + s.val, by omega⟩ k) := by
  unfold val_main_v73 val_main_v72 val_main_v71 val_main_v70 val_main_v69 val_main_v68 val_main_v45 val_main_v42 val_main_v41 val_main_v39 val_main_v38 val_main_v37 val_main_cst_5 val_main_cst_6 val_main_cst_7 val_main_cst_8 val_main_cst_15 val_main_cst_16
  refine ⟨?_, ?_, ?_⟩ <;> (pointwise; rw [Fin.sum_univ_one, Fin.sum_univ_tiles 16 256 (by decide)])

/-! ### The results after the call -/

section
variable (c : Dev nD)

/-- The results of the reference, at the kernel's arguments. -/
abbrev whole5 : Vec Ideal S4096x1024 .f32 := val_main_v67 (F := Ideal) (arr0 m c) (arr1 m c) (arr2 m c) (arr3 m c) (arr4 m c)
def whole6 : Vec Ideal S1x1024 .f32 := val_main_v71 (F := Ideal) (arr0 m c) (arr1 m c) (arr2 m c) (arr3 m c) (arr4 m c)
def whole7 : Vec Ideal S1x1024 .f32 := val_main_v72 (F := Ideal) (arr0 m c) (arr1 m c) (arr2 m c) (arr3 m c) (arr4 m c)
def whole8 : Vec Ideal S1x1024 .f32 := val_main_v73 (F := Ideal) (arr0 m c) (arr1 m c) (arr2 m c) (arr3 m c) (arr4 m c)

theorem blk0 (t : Fin cfg0.N) (y0 : Fin 256) (y1 : Fin 1024) :
    (iblk m c 0 t : Vec Ideal S256x1024 .f32) (ix2 y0 y1) = arr0 m c (ix2 ⟨t.val * 256 + y0.val, by have h := bound t; omega⟩ y1) :=
  (View.read_apply ..).trans (tile_rows (arr0 m c) _ (index0 t) _ _ rfl rfl rfl rfl)

theorem blk1 (t : Fin cfg0.N) (y0 : Fin 256) (y1 : Fin 1024) :
    (iblk m c 1 t : Vec Ideal S256x1024 .bf16) (ix2 y0 y1) = arr4 m c (ix2 ⟨t.val * 256 + y0.val, by have h := bound t; omega⟩ y1) :=
  (View.read_apply ..).trans (tile_rows (arr4 m c) _ (index0 t) _ _ rfl rfl rfl rfl)

/-- A row is the same at every point. -/
theorem row_at (A : Vec Ideal S2x1024 .f32) (t : Fin cfg0.N) (y1 : Fin 1024) : row (((cfg0.win 2).blk t).view.read (Elt Ideal) A) (ix2 0 y1) = A (ix2 0 y1) :=
  (View.read_apply ..).trans (tile_rows A _ (index2 t) _ _ (y0 := (0 : Fin 2)) rfl rfl rfl rfl)

/-- The sum, over the rows of point `j`'s blocks, of a column's terms. -/
def part (f : Vec Ideal S4096x1024 .f32) (k : Fin 1024) (j : ℕ) : EReal :=
  if h : j < 16 then ∑ s : Fin 256, f (ix2 ⟨j * 256 + s.val, by omega⟩ k) else 0

/-- The terms of the other two sums. -/
abbrev term7 : Vec Ideal S4096x1024 .f32 := val_main_v40 (F := Ideal) (arr0 m c) (arr1 m c) (arr2 m c) (arr3 m c) (arr4 m c)
abbrev term8 : Vec Ideal S4096x1024 .f32 := val_main_v36 (F := Ideal) (arr0 m c) (arr1 m c) (arr2 m c) (arr3 m c) (arr4 m c)

theorem part_at (t : Fin cfg0.N) (k : Fin 1024) :
    k0_pay1 (F := Ideal) (bias (iblk m c 0 t) (iblk m c 1 t) (iblk m c 2 t) (iblk m c 3 t) (iblk m c 4 t)) (ix2 0 k) = part (whole5 m c) k t.val
      ∧ k0_pay2 (F := Ideal) (scale (iblk m c 0 t) (iblk m c 1 t) (iblk m c 2 t) (iblk m c 3 t) (iblk m c 4 t)) (ix2 0 k) = part (term7 m c) k t.val
      ∧ k0_pay3 (F := Ideal) (shift (iblk m c 0 t) (iblk m c 1 t) (iblk m c 2 t) (iblk m c 3 t) (iblk m c 4 t)) (ix2 0 k) = part (term8 m c) k t.val := by
  unfold part
  rw [dif_pos (bound t), dif_pos (bound t), dif_pos (bound t)]
  exact sums_at _ _ _ _ _ _ _ _ _ _ t.val (bound t) (blk0 m c t) (blk1 m c t) (row_at (arr1 m c) t) (row_at (arr2 m c) t) (row_at (arr3 m c) t) k

theorem acc_at (k : Fin 1024) : ∀ (n : ℕ) (hn : n < cfg0.N),
    (outsAt0 m c n hn).2.1 (ix2 0 k) = ∑ j ∈ Finset.range (n + 1), part (whole5 m c) k j
      ∧ (outsAt0 m c n hn).2.2.1 (ix2 0 k) = ∑ j ∈ Finset.range (n + 1), part (term7 m c) k j
      ∧ (outsAt0 m c n hn).2.2.2 (ix2 0 k) = ∑ j ∈ Finset.range (n + 1), part (term8 m c) k j := by
  intro n
  induction n with
  | zero =>
    intro hn
    have hp := part_at m c ⟨0, hn⟩ k
    rw [outsAt0_A m c ⟨0, hn⟩ rfl (by show ¬1 ≤ 0; decide) rfl (by show ¬1 ≤ 0; decide) rfl (by show ¬1 ≤ 0; decide)]
    dsimp only
    rw [(pointA ..).2.1, (pointA ..).2.2.1, (pointA ..).2.2.2, hp.1, hp.2.1, hp.2.2, Finset.sum_range_one, Finset.sum_range_one, Finset.sum_range_one]
    exact ⟨rfl, rfl, rfl⟩
  | succ n ih =>
    intro hn
    have hb : n + 1 < 16 := hn.trans_eq N_0
    have h0 : ¬(n + 1) % 16 = 0 := by omega
    have h1 : 1 ≤ n + 1 := by omega
    have hp := part_at m c ⟨n + 1, hn⟩ k
    have hi := ih (Nat.lt_of_succ_lt hn)
    rw [outsAt0_B m c ⟨n + 1, hn⟩ h0 h1 h0 h1 h0 h1]
    dsimp only
    rw [(pointB ..).2.1, (pointB ..).2.2.1, (pointB ..).2.2.2, (add_at _ 0 _ k).1, (add_at 0 _ _ k).2.1, (add_at 0 _ _ k).2.2, hp.1, hp.2.1, hp.2.2,
      Finset.sum_range_succ _ (n + 1), Finset.sum_range_succ _ (n + 1), Finset.sum_range_succ _ (n + 1)]
    exact ⟨congrArg (· + _) hi.1, congrArg (· + _) hi.2.1, congrArg (· + _) hi.2.2⟩

/-- The sums after the last point. -/
theorem last (t : Fin cfg0.N) (h : t.val % 16 = 15) (k : Fin 1024) :
    (outsAt0 m c t.val t.isLt).2.1 (ix2 0 k) = whole6 m c (ix2 0 k) ∧ (outsAt0 m c t.val t.isLt).2.2.1 (ix2 0 k) = whole7 m c (ix2 0 k)
      ∧ (outsAt0 m c t.val t.isLt).2.2.2 (ix2 0 k) = whole8 m c (ix2 0 k) := by
  have hb := bound t
  have h15 : t.val + 1 = 16 := by omega
  have ha := acc_at m c k t.val t.isLt
  rw [h15] at ha
  simp only [← Fin.sum_univ_eq_sum_range] at ha
  have hs := reference_sums (arr0 m c) (arr1 m c) (arr2 m c) (arr3 m c) (arr4 m c) k
  have hp (f : Vec Ideal S4096x1024 .f32) : (∑ j : Fin 16, part f k j.val) = ∑ j : Fin 16, ∑ s : Fin 256, f (ix2 ⟨j.val * 256 + s.val, by omega⟩ k) :=
    Finset.sum_congr rfl fun j _ => dif_pos j.isLt
  exact ⟨ha.1.trans ((hp _).trans hs.1.symm), ha.2.1.trans ((hp _).trans hs.2.1.symm), ha.2.2.trans ((hp _).trans hs.2.2.symm)⟩

theorem input_out (t : Fin cfg0.N) : (outsAt0 m c t.val t.isLt).1 = input (iblk m c 0 t) (iblk m c 1 t) (iblk m c 2 t) (iblk m c 3 t) (iblk m c 4 t) := by
  have hb := bound t
  by_cases h : t.val % 16 = 0
  · rw [outsAt0_A m c t h (by omega) h (by omega) h (by omega)]
    dsimp only
    rw [(pointA ..).1]
  · rw [outsAt0_B m c t h (by omega) h (by omega) h (by omega)]
    dsimp only
    rw [(pointB ..).1]

/-- An array, and a row of sums, read through their blocks. -/
theorem read5 (A : Vec Ideal S4096x1024 .f32) (t : Fin cfg0.N) (y0 : Fin 256) (y1 : Fin 1024) : ((cfg0.win 5).blk t).view.read (Elt Ideal) A (ix2 y0 y1) = A (ix2 ⟨t.val * 256 + y0.val, by have h := bound t; omega⟩ y1) :=
  (View.read_apply ..).trans (tile_rows A _ (index5 t) _ _ rfl rfl rfl rfl)

theorem read_at (A : Vec Ideal S1x1024 .f32) (t : Fin cfg0.N) (k : Fin 1024) : ((cfg0.win 6).blk t).view.read (Elt Ideal) A (ix2 0 k) = A (ix2 0 k) :=
  (View.read_apply ..).trans (tile_rows A _ (index6 t) _ _ rfl rfl rfl rfl)

theorem flushed5 (t : Fin cfg0.N) : (dats m 0 c).flushed 5 t = ((cfg0.win 5).blk t).view.read (Elt Ideal) (whole5 m c) := by
  rw [Value.flushed5]
  show (outsAt0 m c t.val t.isLt).1 = _
  rw [input_out]
  funext y
  idx_vars y
  exact (input_at _ _ _ _ _ _ _ _ _ _ t.val (bound t) (blk0 m c t) (blk1 m c t) (row_at (arr1 m c) t) (row_at (arr2 m c) t) (row_at (arr3 m c) t) y0 y1).trans (read5 (whole5 m c) t y0 y1).symm

theorem flushed6 (t : Fin cfg0.N) (hf : (cfg0.win 6).flush t = true) : (dats m 0 c).flushed 6 t = ((cfg0.win 6).blk t).view.read (Elt Ideal) (whole6 m c) := by
  rw [Value.flushed6]
  show (outsAt0 m c t.val t.isLt).2.1 = _
  funext y
  idx_vars y
  obtain rfl : y0 = 0 := Subsingleton.elim _ _
  exact (last m c t ((flush0_6 t).mp hf) y1).1.trans (read_at (whole6 m c) t y1).symm

theorem flushed7 (t : Fin cfg0.N) (hf : (cfg0.win 7).flush t = true) : (dats m 0 c).flushed 7 t = ((cfg0.win 7).blk t).view.read (Elt Ideal) (whole7 m c) := by
  rw [Value.flushed7]
  show (outsAt0 m c t.val t.isLt).2.2.1 = _
  funext y
  idx_vars y
  obtain rfl : y0 = 0 := Subsingleton.elim _ _
  exact (last m c t ((flush0_7 t).mp hf) y1).2.1.trans (read_at (whole7 m c) t y1).symm

theorem flushed8 (t : Fin cfg0.N) (hf : (cfg0.win 8).flush t = true) : (dats m 0 c).flushed 8 t = ((cfg0.win 8).blk t).view.read (Elt Ideal) (whole8 m c) := by
  rw [Value.flushed8]
  show (outsAt0 m c t.val t.isLt).2.2.2 = _
  funext y
  idx_vars y
  obtain rfl : y0 = 0 := Subsingleton.elim _ _
  exact (last m c t ((flush0_8 t).mp hf) y1).2.2.trans (read_at (whole8 m c) t y1).symm

theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have hN : (i 0).val / 256 < cfg0.N := lt_of_lt_of_eq (by omega : (i 0).val / 256 < 16) N_0.symm
  refine ⟨⟨(i 0).val / 256, hN⟩, flush0_5 _, ?_⟩
  refine View.set_slice_whole main_v0_0 (win0_5.rect ⟨(i 0).val / 256, hN⟩) ▸ Rect.mem_set_unit.mpr ?_
  exact within (a := 256) (b := 1024) (index5 _) (by dsimp only; omega) (by omega) rfl rfl rfl rfl

theorem cover6 (i : S1x1024.Idx) : ∃ t : Fin cfg0.N, t.val % 16 = 15 ∧ i ∈ ((cfg0.win 6).blk t).view.set := by
  have h0 : (i 0).val < 1 := (i 0).isLt
  have h1 : (i 1).val < 1024 := (i 1).isLt
  have hN : 15 < cfg0.N := lt_of_lt_of_eq (by decide : 15 < 16) N_0.symm
  refine ⟨⟨15, hN⟩, rfl, ?_⟩
  refine View.set_slice_whole main_v0_1 (win0_6.rect ⟨15, hN⟩) ▸ Rect.mem_set_unit.mpr ?_
  exact within (a := 1) (b := 1024) (index6 _) (by omega) (by omega) rfl rfl rfl rfl

theorem arrays : (dats m 0 c).arrAt 5 cfg0.N = whole5 m c ∧ (dats m 0 c).arrAt 6 cfg0.N = whole6 m c ∧ (dats m 0 c).arrAt 7 cfg0.N = whole7 m c ∧ (dats m 0 c).arrAt 8 cfg0.N = whole8 m c :=
  ⟨(dats m 0 c).arrAt_eq_of_cover 5 _ (fun t _ => flushed5 m c t) cover5,
    (dats m 0 c).arrAt_eq_of_cover 6 _ (fun t hf => flushed6 m c t hf) (fun i => let ⟨t, ht, h⟩ := cover6 i; ⟨t, (flush0_6 t).mpr ht, h⟩),
    (dats m 0 c).arrAt_eq_of_cover 7 _ (fun t hf => flushed7 m c t hf) (fun i => let ⟨t, ht, h⟩ := cover6 i; ⟨t, (flush0_7 t).mpr ht, h⟩),
    (dats m 0 c).arrAt_eq_of_cover 8 _ (fun t hf => flushed8 m c t hf) (fun i => let ⟨t, ht, h⟩ := cover6 i; ⟨t, (flush0_8 t).mpr ht, h⟩)⟩
end

end Cert.PostBwdIdeal.Product

namespace Cert.PostBwdClaims

open Idealize.ShloMosaic Idealize.ShloMosaic.TcCoe Idealize.SL.Sem Cert.PostBwdIdeal.Product Cert.PostBwdRefIdeal.Read

theorem frame_p : Cert.quiescent_PostBwd := fun m ρ _ => Cert.PostBwd.Gen.frame m ρ
theorem frame_pi : Cert.quiescent_PostBwdIdeal := fun m ρ _ => Cert.PostBwdIdeal.Gen.frame m ρ
theorem frame_ri : Cert.quiescent_PostBwdRefIdeal := fun m ρ _ =>
  (θ_run _ _ _).mono (fun r h => ⟨fun c => (h c).2.2.2.2, sem_eq_zero_of_no_sems (by decide) r.2⟩) (Cert.PostBwdRefIdeal.Value.run (F := Ideal) m ρ)

theorem preserves : Cert.preserves_PostBwd_PostBwdIdeal := trivial

/-- Equal arguments give equal values. -/
theorem agree {A B C D E α : Type} (f : A → B → C → D → E → α) {a a' : A} {b b' : B} {c c' : C} {d d' : D} {e e' : E}
    (h : a = a' ∧ b = b' ∧ c = c' ∧ d = d' ∧ e = e') : f a b c d e = f a' b' c' d' e' := by
  obtain ⟨rfl, rfl, rfl, rfl, rfl⟩ := h
  rfl

theorem algebraic : Cert.algebraic_PostBwdIdeal_PostBwdRefIdeal := fun m ρ m' ρ' _ hag =>
  ⟨fun c => whole5 m c, fun c => whole6 m c, fun c => whole7 m c, fun c => whole8 m c,
    (θ_run _ _ _).mono (fun r h c => ⟨(h c).1.trans (arrays m c).1, (h c).2.1.trans (arrays m c).2.1, (h c).2.2.1.trans (arrays m c).2.2.1, (h c).2.2.2.1.trans (arrays m c).2.2.2, (h c).2.2.2.2⟩)
      (Cert.PostBwdIdeal.Value.run_blocks (F := Ideal) m ρ),
    (θ_run _ _ _).mono (fun r h c => ⟨(h c).1.trans ((val_main_v67_eq _).trans (agree (val_main_v67 (F := Ideal)) (hag c))),
        (h c).2.1.trans ((val_main_v71_eq _).trans (agree (val_main_v71 (F := Ideal)) (hag c))),
        (h c).2.2.1.trans ((val_main_v72_eq _).trans (agree (val_main_v72 (F := Ideal)) (hag c))),
        (h c).2.2.2.1.trans ((val_main_v73_eq _).trans (agree (val_main_v73 (F := Ideal)) (hag c))), (h c).2.2.2.2⟩)
      (Cert.PostBwdRefIdeal.Value.run (F := Ideal) m' ρ')⟩

end Cert.PostBwdClaims
end
-- ==== Proof.AttnBlock.lean ====
/-
  What the attention's backward body computes at one grid point, element by element: the softmax of a block of queries
  against a head's keys, the scores' gradient, and the three products made of them.
-/
module

public import proofs.«01_k».proof.Proof.Gen.AttnIdeal.Value
public import proofs.«01_k».proof.Proof.Attention

@[expose] public section

set_option maxRecDepth 16384

noncomputable section

namespace Cert.AttnIdeal.Block

open Cert.AttnIdeal Cert.AttnIdeal.Gen Idealize.ShloMosaic Cert.SoftmaxRow Cert.Attention

/-- The scores of a block's query `r`. -/
def bscore (x : Vec Ideal S512x512 .bf16) (k : Vec Ideal S256x512 .bf16) (r : Fin 512) (j : Fin 256) : EReal :=
  (∑ d : Fin 512, x (ix2 r d) * k (ix2 j d)) * scale

/-- The gradient of the probabilities of a block's query `r`. -/
def bdprob (g : Vec Ideal S512x512 .bf16) (v : Vec Ideal S256x512 .bf16) (r : Fin 512) (j : Fin 256) : EReal :=
  ∑ d : Fin 512, g (ix2 r d) * v (ix2 j d)

theorem prob_at (x : Vec Ideal S512x512 .bf16) (k : Vec Ideal S256x512 .bf16) (r : Fin 512) (j : Fin 256) :
    k0_pay6 (F := Ideal) x k (ix2 r j) = prob (bscore x k r) j := by
  unfold_payloads
  pointwise
  simp only [negInf_eq]
  rfl

theorem dscore_at (x : Vec Ideal S512x512 .bf16) (k v : Vec Ideal S256x512 .bf16) (g : Vec Ideal S512x512 .bf16)
    (r : Fin 512) (j : Fin 256) :
    k0_pay8 (F := Ideal) x k v g (ix2 r j) = grad scale (bscore x k r) (bdprob g v r) j := by
  unfold k0_pay8
  pointwise [prob_at]
  rfl

theorem dv_at (x : Vec Ideal S512x512 .bf16) (k : Vec Ideal S256x512 .bf16) (g : Vec Ideal S512x512 .bf16)
    (a : Vec Ideal S256x512 .f32) (j : Fin 256) (d : Fin 512) :
    k0_pay7 (F := Ideal) x k g a (ix2 j d) = a (ix2 j d) + ∑ r : Fin 512, prob (bscore x k r) j * g (ix2 r d) := by
  unfold k0_pay7
  pointwise [prob_at]

theorem dk_at (x : Vec Ideal S512x512 .bf16) (k v : Vec Ideal S256x512 .bf16) (g : Vec Ideal S512x512 .bf16)
    (a : Vec Ideal S256x512 .f32) (j : Fin 256) (d : Fin 512) :
    k0_pay3 (F := Ideal) x (k0_pay8 x k v g) a (ix2 j d)
      = a (ix2 j d) + ∑ r : Fin 512, grad scale (bscore x k r) (bdprob g v r) j * x (ix2 r d) := by
  unfold k0_pay3 k0_pay1
  pointwise [dscore_at]

theorem dq_at (x : Vec Ideal S512x512 .bf16) (k v : Vec Ideal S256x512 .bf16) (g : Vec Ideal S512x512 .bf16)
    (r : Fin 512) (d : Fin 512) :
    k0_pay2 (F := Ideal) k (k0_pay8 x k v g) (ix2 r d)
      = ∑ j : Fin 256, grad scale (bscore x k r) (bdprob g v r) j * k (ix2 j d) := by
  unfold k0_pay2 k0_pay1
  pointwise [dscore_at]

/-! ### What the two cases of the body leave in the outputs -/

theorem hz : (![0, 0] : Fin 2 → Nat) = fun _ => 0 := funext fun a => by fin_cases a <;> rfl

section
variable (c : Dev nD) (i : grid0.Coords) (a2 : Memref sig .tc .vmem S512x512 .bf16) (h2 : a2.IsWhole)
  (a3 : Memref sig .tc .vmem S256x512 .bf16) (h3 : a3.IsWhole) (a4 : Memref sig .tc .vmem S256x512 .bf16) (h4 : a4.IsWhole)
  (a5 : Memref sig .tc .vmem S512x512 .bf16) (h5 : a5.IsWhole) (a6 : Memref sig .tc .vmem S512x512 .bf16) (h6 : a6.IsWhole)
  (a7 : Memref sig .tc .vmem S256x512 .f32) (h7 : a7.IsWhole) (a8 : Memref sig .tc .vmem S256x512 .f32) (h8 : a8.IsWhole)
  (x : Vec Ideal S512x512 .bf16) (k v : Vec Ideal S256x512 .bf16) (g : Vec Ideal S512x512 .bf16)
  (dk dv : Vec Ideal S256x512 .f32)

theorem out_A_4 (hc : cond0_0 i) : out0_A_4 (F := Ideal) c i a2 h2 a3 h3 a4 h4 a5 h5 a6 h6 a7 h7 a8 h8 hc x k v g
    = k0_pay2 k (k0_pay8 x k v g) := by
  unfold out0_A_4
  rw [View.read_writes_eq_canon _ _ _ (fun _ => cover0_A_4 ..)]
  unfold kernelRun0_A
  dsimp only
  sl_unfold_words
  rw [View.canon_unit_zero hz]
  simp only [View.readAt_eq_ld, h2.read_unread, h3.read_unread, h4.read_unread, h5.read_unread, View.ld_unit_zero (S := S512x512) hz,
    View.ld_unit_zero (S := S256x512) hz]

theorem out_B_4 (hc : ¬cond0_0 i) : out0_B_4 (F := Ideal) c i a2 h2 a3 h3 a4 h4 a5 h5 a6 h6 a7 h7 a8 h8 hc x k v g dk dv
    = k0_pay2 k (k0_pay8 x k v g) := by
  unfold out0_B_4
  rw [View.read_writes_eq_canon _ _ _ (fun _ => cover0_B_4 ..)]
  unfold kernelRun0_B
  dsimp only
  sl_unfold_words
  rw [View.canon_unit_zero hz]
  simp only [View.readAt_eq_ld, h2.read_unread, h3.read_unread, h4.read_unread, h5.read_unread, View.ld_unit_zero (S := S512x512) hz,
    View.ld_unit_zero (S := S256x512) hz]

theorem out_A_5 (hc : cond0_0 i) : out0_A_5 (F := Ideal) c i a2 h2 a3 h3 a4 h4 a5 h5 a6 h6 a7 h7 a8 h8 hc x k v g
    = k0_pay3 x (k0_pay8 x k v g) (k0_pay4 (F := Ideal)) := by
  unfold out0_A_5
  rw [View.read_writes_eq_canon _ _ _ (fun _ => cover0_A_5 ..)]
  unfold kernelRun0_A
  dsimp only
  sl_unfold_words
  rw [View.canon_cons_unit_zero (S := S256x512) hz, View.readCov_unit_zero (S := S256x512) _ hz]
  simp only [View.readAt_eq_ld, h2.read_unread, h3.read_unread, h4.read_unread, h5.read_unread, View.ld_unit_zero (S := S512x512) hz,
    View.ld_unit_zero (S := S256x512) hz]

theorem out_B_5 (hc : ¬cond0_0 i) : out0_B_5 (F := Ideal) c i a2 h2 a3 h3 a4 h4 a5 h5 a6 h6 a7 h7 a8 h8 hc x k v g dk dv
    = k0_pay3 x (k0_pay8 x k v g) dk := by
  unfold out0_B_5
  rw [View.read_writes_eq_canon _ _ _ (fun _ => cover0_B_5 ..)]
  unfold kernelRun0_B
  dsimp only
  sl_unfold_words
  rw [View.canon_unit_zero hz]
  simp only [View.readAt_eq_ld, h2.read_unread, h3.read_unread, h4.read_unread, h5.read_unread, h7.read_unread,
    View.ld_unit_zero (S := S512x512) hz, View.ld_unit_zero (S := S256x512) hz]

theorem out_A_6 (hc : cond0_0 i) : out0_A_6 (F := Ideal) c i a2 h2 a3 h3 a4 h4 a5 h5 a6 h6 a7 h7 a8 h8 hc x k v g
    = k0_pay7 x k g (k0_pay5 (F := Ideal)) := by
  unfold out0_A_6
  rw [View.read_writes_eq_canon _ _ _ (fun _ => cover0_A_6 ..)]
  unfold kernelRun0_A
  dsimp only
  sl_unfold_words
  rw [View.canon_cons_unit_zero (S := S256x512) hz, View.readCov_unit_zero (S := S256x512) _ hz]
  simp only [View.readAt_eq_ld, h2.read_unread, h3.read_unread, h4.read_unread, h5.read_unread, View.ld_unit_zero (S := S512x512) hz,
    View.ld_unit_zero (S := S256x512) hz]

theorem out_B_6 (hc : ¬cond0_0 i) : out0_B_6 (F := Ideal) c i a2 h2 a3 h3 a4 h4 a5 h5 a6 h6 a7 h7 a8 h8 hc x k v g dk dv
    = k0_pay7 x k g dv := by
  unfold out0_B_6
  rw [View.read_writes_eq_canon _ _ _ (fun _ => cover0_B_6 ..)]
  unfold kernelRun0_B
  dsimp only
  sl_unfold_words
  rw [View.canon_unit_zero hz]
  simp only [View.readAt_eq_ld, h2.read_unread, h3.read_unread, h4.read_unread, h5.read_unread, h8.read_unread,
    View.ld_unit_zero (S := S512x512) hz, View.ld_unit_zero (S := S256x512) hz]

end

end Cert.AttnIdeal.Block
end
-- ==== Proof.AttnArray.lean ====
/-
  What the attention's backward call leaves in its three result arrays: the gradients of the queries, keys and values,
  as functions of the argument arrays. Grid point `8 h + i` handles query block `i` of head `h`; the keys' and values'
  gradients are sums over a head's eight blocks.
-/
module

public import proofs.«01_k».proof.Proof.AttnBlock
public import proofs.«01_k».proof.Proof.Tiles

@[expose] public section

set_option maxRecDepth 16384

noncomputable section

namespace Cert.AttnIdeal.Arrays

open Cert.AttnIdeal Cert.AttnIdeal.Gen Cert.AttnIdeal.Block Idealize.ShloMosaic Idealize.ShloMosaic.TcCoe Idealize.SL.Sem
open Cert.SoftmaxRow Cert.Attention Cert.Tiles

variable (m : (ℓ : Loc nD τ sig) → Buf (Elt Ideal) ℓ)

/-- The queries. -/
def Q (c : Dev nD) (l : Fin 4096) (n : Fin 2048) : EReal := m ((c : Thread nD τ).loc main_arg0) (ix2 l n)
/-- The keys and values. -/
def KV (c : Dev nD) (j : Fin 256) (n : Fin 4096) : EReal := m ((c : Thread nD τ).loc main_arg1) (ix2 j n)
/-- The gradient of the attention's result. -/
def O (c : Dev nD) (l : Fin 4096) (n : Fin 2048) : EReal := m ((c : Thread nD τ).loc main_arg2) (ix2 l n)

/-- The head of a grid point. -/
def hd (t : Fin cfg0.N) : Fin 4 := ⟨t.val / 8, by have h : t.val < 32 := t.isLt.trans_eq N_0; omega⟩
/-- Row `r` of a grid point's query block. -/
def row (t : Fin cfg0.N) (r : Fin 512) : Fin 4096 := ⟨t.val % 8 * 512 + r.val, by omega⟩

theorem index0 : ∀ t : Fin cfg0.N, win0_0.index t 0 = t.val % 8 ∧ win0_0.index t 1 = t.val / 8 := by
  intro (t : Fin grid0.N); revert t; decide +kernel
theorem index1 : ∀ t : Fin cfg0.N, win0_1.index t 0 = 0 ∧ win0_1.index t 1 = t.val / 8 := by
  intro (t : Fin grid0.N); revert t; decide +kernel
theorem index2 : ∀ t : Fin cfg0.N, win0_2.index t 0 = 0 ∧ win0_2.index t 1 = 4 + t.val / 8 := by
  intro (t : Fin grid0.N); revert t; decide +kernel
theorem index3 : ∀ t : Fin cfg0.N, win0_3.index t 0 = t.val % 8 ∧ win0_3.index t 1 = t.val / 8 := by
  intro (t : Fin grid0.N); revert t; decide +kernel
theorem index4 : ∀ t : Fin cfg0.N, win0_4.index t 0 = t.val % 8 ∧ win0_4.index t 1 = t.val / 8 := by
  intro (t : Fin grid0.N); revert t; decide +kernel
theorem index5 : ∀ t : Fin cfg0.N, win0_5.index t 0 = 0 ∧ win0_5.index t 1 = t.val / 8 := by
  intro (t : Fin grid0.N); revert t; decide +kernel
theorem index6 : ∀ t : Fin cfg0.N, win0_6.index t 0 = 0 ∧ win0_6.index t 1 = t.val / 8 := by
  intro (t : Fin grid0.N); revert t; decide +kernel

/-! ### The input blocks -/

theorem blk0 (c : Dev nD) (t : Fin cfg0.N) (r d : Fin 512) :
    (iblk m c 0 t : Vec Ideal S512x512 .bf16) (ix2 r d) = Q m c (row t r) (qcol (hd t) d) :=
  (View.read_apply ..).trans (tile (m ((c : Thread nD τ).loc main_arg0) : Vec Ideal S4096x2048 .bf16) _ (index0 t) _ _ rfl rfl rfl rfl)

theorem blk1 (c : Dev nD) (t : Fin cfg0.N) (j : Fin 256) (d : Fin 512) :
    (iblk m c 1 t : Vec Ideal S256x512 .bf16) (ix2 j d) = KV m c j (kcol (hd t) d) :=
  (View.read_apply ..).trans (tile (m ((c : Thread nD τ).loc main_arg1) : Vec Ideal S256x4096 .bf16) _ (index1 t) _ _ (by show 0 * 256 + j.val = j.val; omega) rfl rfl rfl)

theorem blk2 (c : Dev nD) (t : Fin cfg0.N) (j : Fin 256) (d : Fin 512) :
    (iblk m c 2 t : Vec Ideal S256x512 .bf16) (ix2 j d) = KV m c j (vcol (hd t) d) :=
  (View.read_apply ..).trans (tile (m ((c : Thread nD τ).loc main_arg1) : Vec Ideal S256x4096 .bf16) _ (index2 t) _ _ (by show 0 * 256 + j.val = j.val; omega) (by show (4 + t.val / 8) * 512 + d.val = 2048 + (t.val / 8 * 512 + d.val); omega) rfl rfl)

theorem blk3 (c : Dev nD) (t : Fin cfg0.N) (r d : Fin 512) :
    (iblk m c 3 t : Vec Ideal S512x512 .bf16) (ix2 r d) = O m c (row t r) (qcol (hd t) d) :=
  (View.read_apply ..).trans (tile (m ((c : Thread nD τ).loc main_arg2) : Vec Ideal S4096x2048 .bf16) _ (index3 t) _ _ rfl rfl rfl rfl)

theorem bscore_eq (c : Dev nD) (t : Fin cfg0.N) (r : Fin 512) :
    bscore (iblk m c 0 t) (iblk m c 1 t) r = score (Q m c) (KV m c) (hd t) (row t r) := by
  funext j
  unfold bscore score
  simp only [blk0, blk1]

theorem bdprob_eq (c : Dev nD) (t : Fin cfg0.N) (r : Fin 512) :
    bdprob (iblk m c 3 t) (iblk m c 2 t) r = dprob (KV m c) (O m c) (hd t) (row t r) := by
  funext j
  unfold bdprob dprob
  simp only [blk3, blk2]

/-! ### The queries' gradient: written block by block -/

theorem out4_at (c : Dev nD) (t : Fin cfg0.N) (r d : Fin 512) :
    (outsAt0 m c t.val t.isLt).1 (ix2 r d) = dq (Q m c) (KV m c) (O m c) (hd t) (row t r) d := by
  have key : (outsAt0 m c t.val t.isLt).1
      = k0_pay2 (F := Ideal) (iblk m c 1 t) (k0_pay8 (iblk m c 0 t) (iblk m c 1 t) (iblk m c 2 t) (iblk m c 3 t)) := by
    by_cases h0 : t.val % 8 = 0
    · rw [outsAt0_A m c t h0]; dsimp only; rw [out_A_4]
    · rw [outsAt0_B m c t h0]; dsimp only; rw [out_B_4]
  rw [key]
  refine (dq_at _ _ _ _ r d).trans ?_
  unfold dq dscore
  rw [bscore_eq, bdprob_eq]
  simp only [blk1]

/-! ### The keys' and values' gradients: a head's blocks, summed -/

/-- Query block `i`'s part of the keys' gradient in head `h`. -/
def dkPart (c : Dev nD) (h : Fin 4) (j : Fin 256) (d : Fin 512) (i : Nat) : EReal :=
  if hi : i < 8 then ∑ r : Fin 512, dscore (Q m c) (KV m c) (O m c) h ⟨i * 512 + r.val, by omega⟩ j * Q m c ⟨i * 512 + r.val, by omega⟩ (qcol h d) else 0

/-- Query block `i`'s part of the values' gradient in head `h`. -/
def dvPart (c : Dev nD) (h : Fin 4) (j : Fin 256) (d : Fin 512) (i : Nat) : EReal :=
  if hi : i < 8 then ∑ r : Fin 512, prob (score (Q m c) (KV m c) h ⟨i * 512 + r.val, by omega⟩) j * O m c ⟨i * 512 + r.val, by omega⟩ (qcol h d) else 0

theorem dkPart_at (c : Dev nD) (t : Fin cfg0.N) (j : Fin 256) (d : Fin 512) :
    ∑ r : Fin 512, grad scale (bscore (iblk m c 0 t) (iblk m c 1 t) r) (bdprob (iblk m c 3 t) (iblk m c 2 t) r) j * (iblk m c 0 t : Vec Ideal S512x512 .bf16) (ix2 r d)
      = dkPart m c (hd t) j d (t.val % 8) := by
  unfold dkPart
  rw [dif_pos (Nat.mod_lt _ (by decide))]
  refine Finset.sum_congr rfl fun r _ => ?_
  rw [bscore_eq, bdprob_eq, blk0]
  rfl

theorem dvPart_at (c : Dev nD) (t : Fin cfg0.N) (j : Fin 256) (d : Fin 512) :
    ∑ r : Fin 512, prob (bscore (iblk m c 0 t) (iblk m c 1 t) r) j * (iblk m c 3 t : Vec Ideal S512x512 .bf16) (ix2 r d)
      = dvPart m c (hd t) j d (t.val % 8) := by
  unfold dvPart
  rw [dif_pos (Nat.mod_lt _ (by decide))]
  refine Finset.sum_congr rfl fun r _ => ?_
  rw [bscore_eq, blk3]
  rfl

theorem zero5_at (j : Fin 256) (d : Fin 512) : k0_pay4 (F := Ideal) (ix2 j d) = (0 : EReal) := by unfold k0_pay4; pointwise
theorem zero6_at (j : Fin 256) (d : Fin 512) : k0_pay5 (F := Ideal) (ix2 j d) = (0 : EReal) := by unfold k0_pay5; pointwise

/-- After a point, the keys' block holds the sum of the parts so far. -/
theorem out5_at (c : Dev nD) (j : Fin 256) (d : Fin 512) : ∀ (n : ℕ) (hn : n < cfg0.N),
    (outsAt0 m c n hn).2.1 (ix2 j d) = ∑ i ∈ Finset.range (n % 8 + 1), dkPart m c (hd ⟨n, hn⟩) j d i := by
  intro n
  induction n with
  | zero =>
    intro hn
    rw [outsAt0_A m c ⟨0, hn⟩ rfl]
    dsimp only
    rw [out_A_5, dk_at, zero5_at, zero_add, dkPart_at]
    simp
  | succ n ih =>
    intro hn
    by_cases h0 : (n + 1) % 8 = 0
    · rw [outsAt0_A m c ⟨n + 1, hn⟩ h0]
      dsimp only
      rw [out_A_5, dk_at, zero5_at, zero_add, dkPart_at]
      simp [h0]
    · rw [outsAt0_B m c ⟨n + 1, hn⟩ h0]
      dsimp only
      rw [out_B_5, dk_at, dkPart_at]
      have e1 : (n + 1) % 8 = n % 8 + 1 := by omega
      have e2 : hd ⟨n, Nat.lt_of_succ_lt hn⟩ = hd ⟨n + 1, hn⟩ := Fin.ext (by show n / 8 = (n + 1) / 8; omega)
      show (outsAt0 m c n _).2.1 (ix2 j d) + dkPart m c (hd ⟨n + 1, hn⟩) j d ((n + 1) % 8) = _
      rw [ih (Nat.lt_of_succ_lt hn), e1, Finset.sum_range_succ _ (n % 8 + 1), e2]

/-- After a point, the values' block holds the sum of the parts so far. -/
theorem out6_at (c : Dev nD) (j : Fin 256) (d : Fin 512) : ∀ (n : ℕ) (hn : n < cfg0.N),
    (outsAt0 m c n hn).2.2 (ix2 j d) = ∑ i ∈ Finset.range (n % 8 + 1), dvPart m c (hd ⟨n, hn⟩) j d i := by
  intro n
  induction n with
  | zero =>
    intro hn
    rw [outsAt0_A m c ⟨0, hn⟩ rfl]
    dsimp only
    rw [out_A_6, dv_at, zero6_at, zero_add, dvPart_at]
    simp
  | succ n ih =>
    intro hn
    by_cases h0 : (n + 1) % 8 = 0
    · rw [outsAt0_A m c ⟨n + 1, hn⟩ h0]
      dsimp only
      rw [out_A_6, dv_at, zero6_at, zero_add, dvPart_at]
      simp [h0]
    · rw [outsAt0_B m c ⟨n + 1, hn⟩ h0]
      dsimp only
      rw [out_B_6, dv_at, dvPart_at]
      have e1 : (n + 1) % 8 = n % 8 + 1 := by omega
      have e2 : hd ⟨n, Nat.lt_of_succ_lt hn⟩ = hd ⟨n + 1, hn⟩ := Fin.ext (by show n / 8 = (n + 1) / 8; omega)
      show (outsAt0 m c n _).2.2 (ix2 j d) + dvPart m c (hd ⟨n + 1, hn⟩) j d ((n + 1) % 8) = _
      rw [ih (Nat.lt_of_succ_lt hn), e1, Finset.sum_range_succ _ (n % 8 + 1), e2]

theorem dkSum (c : Dev nD) (h : Fin 4) (j : Fin 256) (d : Fin 512) :
    ∑ i ∈ Finset.range 8, dkPart m c h j d i = dk (Q m c) (KV m c) (O m c) h j d := by
  unfold dk
  rw [Fin.sum_univ_tiles 8 512 (by decide), ← Fin.sum_univ_eq_sum_range]
  refine Finset.sum_congr rfl fun i _ => ?_
  unfold dkPart
  rw [dif_pos i.isLt]

theorem dvSum (c : Dev nD) (h : Fin 4) (j : Fin 256) (d : Fin 512) :
    ∑ i ∈ Finset.range 8, dvPart m c h j d i = dv (Q m c) (KV m c) (O m c) h j d := by
  unfold dv
  rw [Fin.sum_univ_tiles 8 512 (by decide), ← Fin.sum_univ_eq_sum_range]
  refine Finset.sum_congr rfl fun i _ => ?_
  unfold dvPart
  rw [dif_pos i.isLt]

/-! ### The result arrays -/

/-- The head and the column in it of one of 2048 columns. -/
def headOf (n : Fin 2048) : Fin 4 := ⟨n.val / 512, by omega⟩
def colOf (n : Fin 2048) : Fin 512 := ⟨n.val % 512, Nat.mod_lt _ (by decide)⟩

/-- The queries' gradient as an array. -/
def DQ (c : Dev nD) : Buf (Elt Ideal) ((c : Thread nD τ).loc main_v0_0) := fun i =>
  dq (Q m c) (KV m c) (O m c) (headOf (i 1)) (i 0) (colOf (i 1))
/-- The keys' gradient as an array. -/
def DK (c : Dev nD) : Buf (Elt Ideal) ((c : Thread nD τ).loc main_v0_1) := fun i =>
  dk (Q m c) (KV m c) (O m c) (headOf (i 1)) (i 0) (colOf (i 1))
/-- The values' gradient as an array. -/
def DV (c : Dev nD) : Buf (Elt Ideal) ((c : Thread nD τ).loc main_v0_2) := fun i =>
  dv (Q m c) (KV m c) (O m c) (headOf (i 1)) (i 0) (colOf (i 1))

/-- The grid point of head `h` and query block `i`. -/
def point (h i : Nat) (hh : h < 4) (hi : i < 8) : Fin cfg0.N := ⟨h * 8 + i, by rw [show cfg0.N = 32 from N_0]; omega⟩

theorem headOf_eq (h : Fin 4) (d : Fin 512) (n : Fin 2048) (e : n.val = h.val * 512 + d.val) : headOf n = h :=
  Fin.ext (by show n.val / 512 = h.val; omega)
theorem colOf_eq (h : Fin 4) (d : Fin 512) (n : Fin 2048) (e : n.val = h.val * 512 + d.val) : colOf n = d :=
  Fin.ext (by show n.val % 512 = d.val; omega)

theorem flushed4_eq (c : Dev nD) (t : Fin cfg0.N) :
    (dats m 0 c).flushed 4 t = ((cfg0.win 4).blk t).view.read (Elt Ideal) (DQ m c) := by
  rw [Value.flushed4]
  show (outsAt0 m c t.val t.isLt).1 = _
  funext y
  idx_vars y
  rw [out4_at, View.read_apply]
  show _ = DQ m c _
  unfold DQ
  have hb : t.val < 32 := t.isLt.trans_eq N_0
  have e0 : (((cfg0.win 4).blk t).view.emb (ix2 y0 y1) 0) = row t y0 := Fin.ext (by
    show win0_4.index t 0 * 512 + 1 * y0.val = _; rw [(index4 t).1]; show _ = t.val % 8 * 512 + y0.val; omega)
  have e1 : (((cfg0.win 4).blk t).view.emb (ix2 y0 y1) 1).val = (hd t).val * 512 + y1.val := by
    show win0_4.index t 1 * 512 + 1 * y1.val = _; rw [(index4 t).2]; show _ = t.val / 8 * 512 + y1.val; omega
  rw [e0, headOf_eq _ _ _ e1, colOf_eq _ _ _ e1]

theorem last_point (t : Fin cfg0.N) (j : Fin 256) (d : Fin 512) (h7 : t.val % 8 = 7) (c : Dev nD) :
    (outsAt0 m c t.val t.isLt).2.1 (ix2 j d) = dk (Q m c) (KV m c) (O m c) (hd t) j d
    ∧ (outsAt0 m c t.val t.isLt).2.2 (ix2 j d) = dv (Q m c) (KV m c) (O m c) (hd t) j d := by
  rw [out5_at, out6_at, h7]
  exact ⟨dkSum m c _ j d, dvSum m c _ j d⟩

theorem flushed5_eq (c : Dev nD) (t : Fin cfg0.N) (hf : (cfg0.win 5).flush t = true) :
    (dats m 0 c).flushed 5 t = ((cfg0.win 5).blk t).view.read (Elt Ideal) (DK m c) := by
  have h7 : t.val % 8 = 7 := (flush0_5 t).mp hf
  rw [Value.flushed5]
  show (outsAt0 m c t.val t.isLt).2.1 = _
  funext y
  idx_vars y
  rw [(last_point m t y0 y1 h7 c).1, View.read_apply]
  show _ = DK m c _
  unfold DK
  have e0 : (((cfg0.win 5).blk t).view.emb (ix2 y0 y1) 0) = y0 := Fin.ext (by
    show win0_5.index t 0 * 256 + 1 * y0.val = _; rw [(index5 t).1]; omega)
  have e1 : (((cfg0.win 5).blk t).view.emb (ix2 y0 y1) 1).val = (hd t).val * 512 + y1.val := by
    show win0_5.index t 1 * 512 + 1 * y1.val = _; rw [(index5 t).2]; show _ = t.val / 8 * 512 + y1.val; omega
  rw [e0, headOf_eq _ _ _ e1, colOf_eq _ _ _ e1]

theorem flushed6_eq (c : Dev nD) (t : Fin cfg0.N) (hf : (cfg0.win 6).flush t = true) :
    (dats m 0 c).flushed 6 t = ((cfg0.win 6).blk t).view.read (Elt Ideal) (DV m c) := by
  have h7 : t.val % 8 = 7 := (flush0_6 t).mp hf
  rw [Value.flushed6]
  show (outsAt0 m c t.val t.isLt).2.2 = _
  funext y
  idx_vars y
  rw [(last_point m t y0 y1 h7 c).2, View.read_apply]
  show _ = DV m c _
  unfold DV
  have e0 : (((cfg0.win 6).blk t).view.emb (ix2 y0 y1) 0) = y0 := Fin.ext (by
    show win0_6.index t 0 * 256 + 1 * y0.val = _; rw [(index6 t).1]; omega)
  have e1 : (((cfg0.win 6).blk t).view.emb (ix2 y0 y1) 1).val = (hd t).val * 512 + y1.val := by
    show win0_6.index t 1 * 512 + 1 * y1.val = _; rw [(index6 t).2]; show _ = t.val / 8 * 512 + y1.val; omega
  rw [e0, headOf_eq _ _ _ e1, colOf_eq _ _ _ e1]

/-- Every cell of the queries' gradient lies in the block of its head and its row block. -/
theorem cover4 (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  refine ⟨point ((i 1).val / 512) ((i 0).val / 512) (by omega) (by omega), flush0_4 _, ?_⟩
  refine View.set_slice_whole main_v0_0 (win0_4.rect (point ((i 1).val / 512) ((i 0).val / 512) (by omega) (by omega))) ▸ Rect.mem_set_unit.mpr ?_
  generalize ht : point ((i 1).val / 512) ((i 0).val / 512) (by omega) (by omega) = t
  have hv : t.val = (i 1).val / 512 * 8 + (i 0).val / 512 := by rw [← ht]; rfl
  exact within (a := 512) (b := 512) (index4 t) (by omega) (by omega) rfl rfl rfl rfl

/-- Every cell of the keys' gradient lies in the block of its head. -/
theorem cover5 (i : S256x2048.Idx) : ∃ t : Fin cfg0.N, (cfg0.win 5).flush t = true ∧ i ∈ ((cfg0.win 5).blk t).view.set := by
  have h0 : (i 0).val < 256 := (i 0).isLt
  have h1 : (i 1).val < 2048 := (i 1).isLt
  refine ⟨point ((i 1).val / 512) 7 (by omega) (by omega), (flush0_5 _).mpr (by show ((i 1).val / 512 * 8 + 7) % 8 = 7; omega), ?_⟩
  refine View.set_slice_whole main_v0_1 (win0_5.rect (point ((i 1).val / 512) 7 (by omega) (by omega))) ▸ Rect.mem_set_unit.mpr ?_
  generalize ht : point ((i 1).val / 512) 7 (by omega) (by omega) = t
  have hv : t.val = (i 1).val / 512 * 8 + 7 := by rw [← ht]; rfl
  exact within (a := 256) (b := 512) (index5 t) (by omega) (by omega) rfl rfl rfl rfl

/-- Every cell of the values' gradient lies in the block of its head. -/
theorem cover6 (i : S256x2048.Idx) : ∃ t : Fin cfg0.N, (cfg0.win 6).flush t = true ∧ i ∈ ((cfg0.win 6).blk t).view.set := by
  have h0 : (i 0).val < 256 := (i 0).isLt
  have h1 : (i 1).val < 2048 := (i 1).isLt
  refine ⟨point ((i 1).val / 512) 7 (by omega) (by omega), (flush0_6 _).mpr (by show ((i 1).val / 512 * 8 + 7) % 8 = 7; omega), ?_⟩
  refine View.set_slice_whole main_v0_2 (win0_6.rect (point ((i 1).val / 512) 7 (by omega) (by omega))) ▸ Rect.mem_set_unit.mpr ?_
  generalize ht : point ((i 1).val / 512) 7 (by omega) (by omega) = t
  have hv : t.val = (i 1).val / 512 * 8 + 7 := by rw [← ht]; rfl
  exact within (a := 256) (b := 512) (index6 t) (by omega) (by omega) rfl rfl rfl rfl

theorem arr4 (c : Dev nD) : (dats m 0 c).arrAt 4 cfg0.N = DQ m c :=
  (dats m 0 c).arrAt_eq_of_cover 4 (DQ m c) (fun t _ => flushed4_eq m c t) cover4
theorem arr5 (c : Dev nD) : (dats m 0 c).arrAt 5 cfg0.N = DK m c :=
  (dats m 0 c).arrAt_eq_of_cover 5 (DK m c) (fun t hf => flushed5_eq m c t hf) cover5
theorem arr6 (c : Dev nD) : (dats m 0 c).arrAt 6 cfg0.N = DV m c :=
  (dats m 0 c).arrAt_eq_of_cover 6 (DV m c) (fun t hf => flushed6_eq m c t hf) cover6

end Cert.AttnIdeal.Arrays
end
-- ==== Proof.AttnReference.lean ====
/-
  The reference of the attention's backward call, read index by index: its three results are the same gradients of the
  queries, keys and values, when the scores are real.
-/
module

public import proofs.«01_k».proof.Proof.Attention
public import proofs.«01_k».proof.Proof.Gen.AttnRefIdeal.Read
public import Idealize.ShloMosaic.Lib.Pointwise

@[expose] public section

set_option maxRecDepth 16384

noncomputable section

namespace Cert.AttnRefIdeal.Stages

open Cert.AttnRefIdeal Cert.AttnRefIdeal.Read Idealize.ShloMosaic Idealize.ShloMosaic.TcCoe
open Cert.SoftmaxRow Cert.Attention

variable (x0 : (⟨S4096x2048, .bf16⟩ : BufTy).Contents (Elt Ideal)) (x1 : (⟨S256x4096, .bf16⟩ : BufTy).Contents (Elt Ideal))
  (x2 : (⟨S4096x2048, .bf16⟩ : BufTy).Contents (Elt Ideal))

/-- The queries. -/
def q (l : Fin 4096) (n : Fin 2048) : EReal := x0 (ix2 l n)
/-- The keys and values. -/
def kv (j : Fin 256) (n : Fin 4096) : EReal := x1 (ix2 j n)

theorem v4_at (l : Fin 4096) (h : Fin 4) (d : Fin 512) : val_main_v4 (F := Ideal) x0 (ix3 l h d) = q x0 l (qcol h d) := by
  unfold val_main_v4 val_main_v0
  pointwise
  rfl

theorem v5_at (j : Fin 256) (h : Fin 4) (d : Fin 512) : val_main_v5 (F := Ideal) x1 (ix3 j h d) = kv x1 j (kcol h d) := by
  unfold val_main_v5 val_main_v2 val_main_v1
  pointwise
  rfl

theorem v6_at (j : Fin 256) (h : Fin 4) (d : Fin 512) : val_main_v6 (F := Ideal) x1 (ix3 j h d) = kv x1 j (vcol h d) := by
  unfold val_main_v6 val_main_v3 val_main_v1
  pointwise
  rfl

theorem v9_at (h : Fin 4) (l : Fin 4096) (j : Fin 256) : val_main_v9 (F := Ideal) x0 x1 (ix3 h l j) = score (q x0) (kv x1) h l j := by
  unfold val_main_v9 val_main_v8 val_main_cst val_main_v7
  pointwise [v4_at, v5_at]
  rfl

theorem v10_at (h : Fin 4) (l : Fin 4096) : val_main_v10 (F := Ideal) x0 x1 (ix2 h l) = peak (score (q x0) (kv x1) h l) := by
  unfold val_main_v10
  have e := funext fun j => v9_at x0 x1 h l j
  generalize val_main_v9 (F := Ideal) x0 x1 = w at e ⊢
  rw [← e]
  pointwise [val_main_cst_0_apply]
  exact congrArg (fun b => Finset.fold max b (fun x => w (ix3 h l x)) Finset.univ) negInf_eq

theorem v17_at (h : Fin 4) (l : Fin 4096) : val_main_v17 (F := Ideal) x0 x1 (ix2 h l) = peak (score (q x0) (kv x1) h l) := by
  rw [val_main_v17_apply, val_main_v16_apply, val_main_cst_2_apply, v10_at]
  show max (Ideal.ofBits .f32 0xFF800000#32) _ = _
  rw [negInf_eq]
  exact max_eq_right bot_le

theorem v28_at (h : Fin 4) (l : Fin 4096) (j : Fin 256) : val_main_v28 (F := Ideal) x0 x1 (ix3 h l j) = peak (score (q x0) (kv x1) h l) := by
  unfold val_main_v28 val_main_v27
  pointwise [v17_at]

theorem v30_at (h : Fin 4) (l : Fin 4096) (j : Fin 256) : val_main_v30 (F := Ideal) x0 x1 (ix3 h l j) = weight (score (q x0) (kv x1) h l) j := by
  unfold val_main_v30 val_main_v29
  pointwise [v9_at, v28_at]
  rfl

theorem v31_at (h : Fin 4) (l : Fin 4096) : val_main_v31 (F := Ideal) x0 x1 (ix2 h l) = total (score (q x0) (kv x1) h l) := by
  unfold val_main_v31 val_main_cst_8
  pointwise [v30_at]
  rfl

theorem v34_at (h : Fin 4) (l : Fin 4096) (j : Fin 256) : val_main_v34 (F := Ideal) x0 x1 (ix3 h l j) = prob (score (q x0) (kv x1) h l) j := by
  unfold val_main_v34 val_main_v33 val_main_v32
  pointwise [v30_at, v31_at]
  rfl

theorem v43_at (h : Fin 4) (d : Fin 512) (l : Fin 4096) : val_main_v43 (F := Ideal) x2 (ix3 h d l) = q x2 l (qcol h d) := by
  unfold val_main_v43 val_main_v42 val_main_v41
  pointwise
  rfl

theorem v44_at (h : Fin 4) (l : Fin 4096) (j : Fin 256) : val_main_v44 (F := Ideal) x1 x2 (ix3 h l j) = dprob (kv x1) (q x2) h l j := by
  unfold val_main_v44
  pointwise [v43_at, v6_at]
  rfl

theorem v50_at (h : Fin 4) (l : Fin 4096) : val_main_v50 (F := Ideal) x0 x1 x2 (ix2 h l)
    = ∑ i, dprob (kv x1) (q x2) h l i * Ideal.div 1 (total (score (q x0) (kv x1) h l) * total (score (q x0) (kv x1) h l)) * weight (score (q x0) (kv x1) h l) i := by
  unfold val_main_v50 val_main_cst_10 val_main_v49 val_main_v48 val_main_v47 val_main_v37 val_main_v36 val_main_cst_9 val_main_v35 val_main_v32
  pointwise [v30_at, v31_at, v44_at]

theorem v57_at (h : Fin 4) (l : Fin 4096) (j : Fin 256) : val_main_v57 (F := Ideal) x0 x1 x2 (ix3 h l j)
    = Ideal.div (dprob (kv x1) (q x2) h l j) (total (score (q x0) (kv x1) h l)) + -∑ i, dprob (kv x1) (q x2) h l i * Ideal.div 1 (total (score (q x0) (kv x1) h l) * total (score (q x0) (kv x1) h l)) * weight (score (q x0) (kv x1) h l) i := by
  unfold val_main_v57 val_main_v56 val_main_v55 val_main_cst_11 val_main_v54 val_main_v53 val_main_v52 val_main_v51 val_main_v32
  pointwise [v50_at, v31_at, v44_at]
  exact congrArg _ (Fin.sum_univ_one _)

theorem v60_at (h : Fin 4) (l : Fin 4096) (j : Fin 256) : val_main_v60 (F := Ideal) x0 x1 x2 (ix3 h l j)
    = gradQuot scale (score (q x0) (kv x1) h l) (dprob (kv x1) (q x2) h l) j := by
  unfold val_main_v60 val_main_v59 val_main_cst_12 val_main_v58
  pointwise [v57_at, v30_at]
  rfl

/-- The queries' gradient, head by head, when the scores are real. -/
theorem v64_at (hs : ∀ h l j, ∃ r : ℝ, score (q x0) (kv x1) h l j = r) (l : Fin 4096) (h : Fin 4) (d : Fin 512) :
    val_main_v64 (F := Ideal) x0 x1 x2 (ix3 l h d) = dq (q x0) (kv x1) (q x2) h l d := by
  unfold val_main_v64 val_main_v63
  pointwise [v60_at, v5_at]
  unfold dq dscore
  exact Finset.sum_congr rfl fun j _ => by rw [gradQuot_eq _ _ _ (hs h l)]

/-- The keys' gradient, head by head, when the scores are real. -/
theorem v62_at (hs : ∀ h l j, ∃ r : ℝ, score (q x0) (kv x1) h l j = r) (j : Fin 256) (h : Fin 4) (d : Fin 512) :
    val_main_v62 (F := Ideal) x0 x1 x2 (ix3 j h d) = dk (q x0) (kv x1) (q x2) h j d := by
  unfold val_main_v62 val_main_v61
  pointwise [v60_at, v4_at]
  unfold dk dscore
  exact Finset.sum_congr rfl fun l _ => by rw [gradQuot_eq _ _ _ (hs h l)]

/-- The values' gradient, head by head. -/
theorem v46_at (j : Fin 256) (h : Fin 4) (d : Fin 512) :
    val_main_v46 (F := Ideal) x0 x1 x2 (ix3 j h d) = dv (q x0) (kv x1) (q x2) h j d := by
  unfold val_main_v46 val_main_v45
  pointwise [v43_at, v34_at]
  unfold dv
  exact Finset.sum_congr rfl fun l _ => mul_comm _ _

theorem v69_at (l : Fin 4096) (n : Fin 2048) :
    val_main_v69 (F := Ideal) x0 x1 x2 (ix2 l n) = val_main_v64 (F := Ideal) x0 x1 x2 (ix3 l ⟨n.val / 512, by omega⟩ ⟨n.val % 512, Nat.mod_lt _ (by decide)⟩) := by
  unfold val_main_v69 val_main_v67
  pointwise

theorem v70_at (j : Fin 256) (n : Fin 2048) :
    val_main_v70 (F := Ideal) x0 x1 x2 (ix2 j n) = val_main_v62 (F := Ideal) x0 x1 x2 (ix3 j ⟨n.val / 512, by omega⟩ ⟨n.val % 512, Nat.mod_lt _ (by decide)⟩) := by
  unfold val_main_v70 val_main_v68 val_main_v66 val_main_v65
  pointwise

theorem v71_at (j : Fin 256) (n : Fin 2048) :
    val_main_v71 (F := Ideal) x0 x1 x2 (ix2 j n) = val_main_v46 (F := Ideal) x0 x1 x2 (ix3 j ⟨n.val / 512, by omega⟩ ⟨n.val % 512, Nat.mod_lt _ (by decide)⟩) := by
  unfold val_main_v71 val_main_v68 val_main_v66 val_main_v65
  pointwise

end Cert.AttnRefIdeal.Stages
end
-- ==== Proof.AttnClaims.lean ====
/-
  The claims about the attention's backward call: the frame of the reference, and the equality of the kernel's gradients
  with the reference's when the queries and keys are finite.
-/
module

public import proofs.«01_k».proof.Defs
public import proofs.«01_k».proof.Proof.AttnArray
public import proofs.«01_k».proof.Proof.AttnReference
public import proofs.«01_k».proof.Proof.Gen.Attn.Frame
public import proofs.«01_k».proof.Proof.Gen.Pre_finite
public import Idealize.ShloMosaic.Adequacy
public import Idealize.ShloMosaic.Init

@[expose] public section

set_option maxRecDepth 16384

noncomputable section

namespace Cert.AttnClaims

open Idealize.ShloMosaic Idealize.ShloMosaic.TcCoe Idealize.SL.Sem
open Cert.SoftmaxRow Cert.Attention

/-- The bound of the precondition is plus infinity. -/
theorem inf_eq : Ideal.ofBits .bf16 0x7F80#16 = ⊤ := by simp [Ideal.ofBits, Ideal.ieee]

/-- A number whose absolute value is below plus infinity is real. -/
theorem real_of_abs {x : EReal} (h : max x (-x) < ⊤) : ∃ r : ℝ, x = r := by
  refine real_of_finite ?_ ?_
  · rintro rfl; simp at h
  · rintro rfl; simp at h

/-- A comparison's flag that is set says the comparison holds. -/
theorem lt_of_flag {x : EReal} (e : BitVec.ofBool (decide (max x (-x) < Ideal.ofBits .bf16 0x7F80#16)) = 1#1) : max x (-x) < ⊤ := by
  rw [inf_eq] at e
  by_contra h
  rw [decide_eq_false h] at e
  exact absurd e (by decide)

/-- What the precondition says: every query and every key is a real number. -/
theorem real_of_pre (m : (ℓ : Loc Cert.AttnIdeal.nD Cert.AttnIdeal.τ Cert.AttnIdeal.sig) → Buf (Elt Ideal) ℓ)
    (hpre : Cert.Pre_AttnIdeal_finite m) (c : Dev Cert.AttnIdeal.nD) :
    (∀ l n, ∃ r : ℝ, Cert.AttnIdeal.Arrays.Q m c l n = r) ∧ (∀ j h d, ∃ r : ℝ, Cert.AttnIdeal.Arrays.KV m c j (kcol h d) = r) := by
  obtain ⟨h1, h2⟩ := hpre c
  constructor
  · intro l n
    refine real_of_abs ?_
    have e := congrFun h1 (ix2 l n)
    unfold Cert.Pre_finite.fn at e
    pointwise at e
    exact lt_of_flag e
  · intro j h d
    refine real_of_abs ?_
    have e := congrFun h2 (ix2 j ⟨h.val * 512 + d.val, by omega⟩)
    unfold Cert.Pre_finite.fn at e
    pointwise at e
    exact lt_of_flag e

/-- The scores are real. -/
theorem score_of_pre (m : (ℓ : Loc Cert.AttnIdeal.nD Cert.AttnIdeal.τ Cert.AttnIdeal.sig) → Buf (Elt Ideal) ℓ)
    (hpre : Cert.Pre_AttnIdeal_finite m) (c : Dev Cert.AttnIdeal.nD) (h : Fin 4) (l : Fin 4096) (j : Fin 256) :
    ∃ r : ℝ, score (Cert.AttnIdeal.Arrays.Q m c) (Cert.AttnIdeal.Arrays.KV m c) h l j = r :=
  score_real _ _ (real_of_pre m hpre c).1 (real_of_pre m hpre c).2 h l j

theorem frame_p : Cert.quiescent_Attn := fun m ρ _ => Cert.Attn.Gen.frame m ρ
theorem frame_pi : Cert.quiescent_AttnIdeal := fun m ρ _ => Cert.AttnIdeal.Gen.frame m ρ
theorem frame_pi' : Cert.quiescent_AttnIdeal_pre_finite := fun m ρ _ => Cert.AttnIdeal.Gen.frame m ρ

theorem reference (m : (ℓ : Loc Cert.AttnRefIdeal.nD Cert.AttnRefIdeal.τ Cert.AttnRefIdeal.sig) → Buf (Elt Ideal) ℓ) (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0) :=
  (θ_run _ _ _).mono (fun r h => ⟨fun c => (h c).2.2.2, sem_eq_zero_of_no_sems (by decide) r.2⟩) (Cert.AttnRefIdeal.Value.run (F := Ideal) m ρ)

theorem frame_ri : Cert.quiescent_AttnRefIdeal := fun m ρ _ => reference m ρ
theorem frame_ri' : Cert.quiescent_AttnRefIdeal_pre_finite := fun m ρ _ => reference m ρ

theorem preserves : Cert.preserves_Attn_AttnIdeal := trivial

theorem algebraic : Cert.algebraic_AttnIdeal_AttnRefIdeal_pre_finite := fun m ρ m' ρ' hpre hag =>
  ⟨fun c => Cert.AttnIdeal.Arrays.DQ m c, fun c => Cert.AttnIdeal.Arrays.DK m c, fun c => Cert.AttnIdeal.Arrays.DV m c,
    (θ_run _ _ _).mono (fun r h c => by
      obtain ⟨h4, h5, h6, hk⟩ := h c
      exact ⟨h4.trans (Cert.AttnIdeal.Arrays.arr4 m c), h5.trans (Cert.AttnIdeal.Arrays.arr5 m c), h6.trans (Cert.AttnIdeal.Arrays.arr6 m c), hk⟩)
      (Cert.AttnIdeal.Value.run_blocks (F := Ideal) m ρ),
    (θ_run _ _ _).mono (fun r h c => by
      obtain ⟨h69, h70, h71, hk⟩ := h c
      obtain ⟨e0, e1, e2⟩ := hag c
      refine ⟨h69.trans ?_, h70.trans ?_, h71.trans ?_, hk⟩
      · rw [Cert.AttnRefIdeal.Read.val_main_v69_eq, e0, e1, e2]
        funext i
        idx_vars i
        rw [Cert.AttnRefIdeal.Stages.v69_at]
        exact Cert.AttnRefIdeal.Stages.v64_at _ _ _ (score_of_pre m hpre c) _ _ _
      · rw [Cert.AttnRefIdeal.Read.val_main_v70_eq, e0, e1, e2]
        funext i
        idx_vars i
        rw [Cert.AttnRefIdeal.Stages.v70_at]
        exact Cert.AttnRefIdeal.Stages.v62_at _ _ _ (score_of_pre m hpre c) _ _ _
      · rw [Cert.AttnRefIdeal.Read.val_main_v71_eq, e0, e1, e2]
        funext i
        idx_vars i
        rw [Cert.AttnRefIdeal.Stages.v71_at]
        exact Cert.AttnRefIdeal.Stages.v46_at _ _ _ _ _ _)
      (Cert.AttnRefIdeal.Value.run (F := Ideal) m' ρ')⟩

end Cert.AttnClaims
end
-- ==== Proof.lean ====
/- The claims of this certificate, proved module by module. -/
module

public import proofs.«01_k».proof.Defs
public import proofs.«01_k».proof.Proof.Gen.Pre_finite
public import proofs.«01_k».proof.Proof.Gen.AttnIdeal.Value
public import proofs.«01_k».proof.Proof.Gen.AttnRefIdeal.Read
public import proofs.«01_k».proof.Proof.Gen.DwUpIdeal.Value
public import proofs.«01_k».proof.Proof.Gen.DwUpRefIdeal.Read
public import proofs.«01_k».proof.Proof.Gen.DwOutIdeal.Value
public import proofs.«01_k».proof.Proof.Gen.DwOutRefIdeal.Read
public import proofs.«01_k».proof.Proof.Gen.UpTIdeal.Value
public import proofs.«01_k».proof.Proof.Gen.UpTRefIdeal.Read
public import proofs.«01_k».proof.Proof.Gen.UpIdeal.Value
public import proofs.«01_k».proof.Proof.Gen.UpRefIdeal.Read
public import proofs.«01_k».proof.Proof.Gen.DwInIdeal.Value
public import proofs.«01_k».proof.Proof.Gen.DwInRefIdeal.Read
public import proofs.«01_k».proof.Proof.Gen.DwGluIdeal.Value
public import proofs.«01_k».proof.Proof.Gen.DwGluRefIdeal.Read
public import proofs.«01_k».proof.Proof.Gen.DwPwIdeal.Value
public import proofs.«01_k».proof.Proof.Gen.DwPwRefIdeal.Read
public import proofs.«01_k».proof.Proof.Gen.DwKvIdeal.Value
public import proofs.«01_k».proof.Proof.Gen.DwKvRefIdeal.Read
public import proofs.«01_k».proof.Proof.Gen.DwDownIdeal.Value
public import proofs.«01_k».proof.Proof.Gen.DwDownRefIdeal.Read
public import proofs.«01_k».proof.Proof.Gen.InTIdeal.Value
public import proofs.«01_k».proof.Proof.Gen.InTRefIdeal.Read
public import proofs.«01_k».proof.Proof.Gen.GluTIdeal.Value
public import proofs.«01_k».proof.Proof.Gen.GluTRefIdeal.Read
public import proofs.«01_k».proof.Proof.Gen.PwTIdeal.Value
public import proofs.«01_k».proof.Proof.Gen.PwTRefIdeal.Read
public import proofs.«01_k».proof.Proof.Gen.KvTIdeal.Value
public import proofs.«01_k».proof.Proof.Gen.KvTRefIdeal.Read
public import proofs.«01_k».proof.Proof.Gen.DownTIdeal.Value
public import proofs.«01_k».proof.Proof.Gen.DownTRefIdeal.Read
public import proofs.«01_k».proof.Proof.Gen.OutTIdeal.Value
public import proofs.«01_k».proof.Proof.Gen.OutTRefIdeal.Read
public import proofs.«01_k».proof.Proof.Gen.InIdeal.Value
public import proofs.«01_k».proof.Proof.Gen.InRefIdeal.Read
public import proofs.«01_k».proof.Proof.Gen.GluIdeal.Value
public import proofs.«01_k».proof.Proof.Gen.GluRefIdeal.Read
public import proofs.«01_k».proof.Proof.Gen.PwIdeal.Value
public import proofs.«01_k».proof.Proof.Gen.PwRefIdeal.Read
public import proofs.«01_k».proof.Proof.Gen.KvIdeal.Value
public import proofs.«01_k».proof.Proof.Gen.KvRefIdeal.Read
public import proofs.«01_k».proof.Proof.Gen.QueryIdeal.Value
public import proofs.«01_k».proof.Proof.Gen.QueryRefIdeal.Read
public import proofs.«01_k».proof.Proof.Gen.DownIdeal.Value
public import proofs.«01_k».proof.Proof.Gen.DownRefIdeal.Read
public import proofs.«01_k».proof.Proof.Gen.OutIdeal.Value
public import proofs.«01_k».proof.Proof.Gen.OutRefIdeal.Read
public import proofs.«01_k».proof.Proof.DownProduct
public import proofs.«01_k».proof.Proof.DownTProduct
public import proofs.«01_k».proof.Proof.DwDownProduct
public import proofs.«01_k».proof.Proof.DwGluProduct
public import proofs.«01_k».proof.Proof.DwInProduct
public import proofs.«01_k».proof.Proof.DwKvProduct
public import proofs.«01_k».proof.Proof.DwOutProduct
public import proofs.«01_k».proof.Proof.DwPwProduct
public import proofs.«01_k».proof.Proof.DwUpProduct
public import proofs.«01_k».proof.Proof.GluProduct
public import proofs.«01_k».proof.Proof.GluTProduct
public import proofs.«01_k».proof.Proof.InProduct
public import proofs.«01_k».proof.Proof.InTProduct
public import proofs.«01_k».proof.Proof.KvProduct
public import proofs.«01_k».proof.Proof.KvTProduct
public import proofs.«01_k».proof.Proof.OutProduct
public import proofs.«01_k».proof.Proof.OutTProduct
public import proofs.«01_k».proof.Proof.PwProduct
public import proofs.«01_k».proof.Proof.PwTProduct
public import proofs.«01_k».proof.Proof.QueryProduct
public import proofs.«01_k».proof.Proof.UpProduct
public import proofs.«01_k».proof.Proof.UpTProduct
public import proofs.«01_k».proof.Proof.Gen.RmsIdeal.Value
public import proofs.«01_k».proof.Proof.Gen.MixIdeal.Value
public import proofs.«01_k».proof.Proof.Gen.PostIdeal.Value
public import proofs.«01_k».proof.Proof.Gen.RmsBwdIdeal.Value
public import proofs.«01_k».proof.Proof.Gen.RmsRefIdeal.Read
public import proofs.«01_k».proof.Proof.Gen.MixRefIdeal.Read
public import proofs.«01_k».proof.Proof.Gen.PostRefIdeal.Read
public import proofs.«01_k».proof.Proof.Gen.RmsBwdRefIdeal.Read
public import proofs.«01_k».proof.Proof.Gen.RmsMemIdeal.Value
public import proofs.«01_k».proof.Proof.Gen.RmsMemRefIdeal.Read
public import proofs.«01_k».proof.Proof.Gen.SparseIdeal.Value
public import proofs.«01_k».proof.Proof.Gen.SparseRefIdeal.Read
public import proofs.«01_k».proof.Proof.Gen.AdamInRefIdeal.Read
public import proofs.«01_k».proof.Proof.Gen.SumIdeal.Value
public import proofs.«01_k».proof.Proof.Gen.SumRefIdeal.Read
public import proofs.«01_k».proof.Proof.Gen.LateSumIdeal.Value
public import proofs.«01_k».proof.Proof.Gen.LateSumRefIdeal.Read
public import proofs.«01_k».proof.Proof.Gen.AdamDwRefIdeal.Read
public import proofs.«01_k».proof.Proof.Gen.AdamPwRefIdeal.Read
public import proofs.«01_k».proof.Proof.Gen.AdamGluRefIdeal.Read
public import proofs.«01_k».proof.Proof.Gen.AdamKvRefIdeal.Read
public import proofs.«01_k».proof.Proof.Gen.AdamUpRefIdeal.Read
public import proofs.«01_k».proof.Proof.Gen.AdamFdwRefIdeal.Read
public import proofs.«01_k».proof.Proof.Gen.AdamOutRefIdeal.Read
public import proofs.«01_k».proof.Proof.Gen.AdamDownRefIdeal.Read
public import proofs.«01_k».proof.Proof.AdamDownProduct
public import proofs.«01_k».proof.Proof.AdamDwProduct
public import proofs.«01_k».proof.Proof.AdamFdwProduct
public import proofs.«01_k».proof.Proof.AdamGluProduct
public import proofs.«01_k».proof.Proof.AdamInProduct
public import proofs.«01_k».proof.Proof.AdamKvProduct
public import proofs.«01_k».proof.Proof.AdamOutProduct
public import proofs.«01_k».proof.Proof.AdamPwProduct
public import proofs.«01_k».proof.Proof.AdamUpProduct
public import proofs.«01_k».proof.Proof.LateSumProduct
public import proofs.«01_k».proof.Proof.RmsProduct
public import proofs.«01_k».proof.Proof.RmsMemProduct
public import proofs.«01_k».proof.Proof.SparseProduct
public import proofs.«01_k».proof.Proof.SumProduct
public import proofs.«01_k».proof.Proof.MixProduct
public import proofs.«01_k».proof.Proof.PostProduct
public import proofs.«01_k».proof.Proof.RmsBwdProduct
public import proofs.«01_k».proof.Proof.AttnFwdProduct
public import proofs.«01_k».proof.Proof.Gen.AttnFwdRefIdeal.Read
public import proofs.«01_k».proof.Proof.Gen.AttnFwdIdeal.Value
public import proofs.«01_k».proof.Proof.Gen.LossHead.Frame
public import proofs.«01_k».proof.Proof.Gen.LossHeadIdeal.Value
public import proofs.«01_k».proof.Proof.Gen.LossHeadIdeal.Frame
public import proofs.«01_k».proof.Proof.Gen.LossHeadRefIdeal.Read
public import proofs.«01_k».proof.Proof.LossHeadProduct
public import proofs.«01_k».proof.Proof.MemBwdProduct
public import proofs.«01_k».proof.Proof.MixBwdProduct
public import proofs.«01_k».proof.Proof.PostBwdProduct
public import proofs.«01_k».proof.Proof.AttnClaims
public import Idealize.ShloMosaic.Adequacy
public import Idealize.ShloMosaic.Init

@[expose] public section

noncomputable section

namespace Cert.Proof

open Idealize.ShloMosaic

theorem claim : Cert.Claim := ⟨
  Cert.Attn.Gen.facts, Cert.AttnIdeal.Gen.facts, Cert.AttnRefIdeal.Gen.facts, Cert.DwUp.Gen.facts,
  Cert.DwUpIdeal.Gen.facts, Cert.DwUpRefIdeal.Gen.facts, Cert.DwIn.Gen.facts, Cert.DwInIdeal.Gen.facts,
  Cert.DwInRefIdeal.Gen.facts, Cert.DwGlu.Gen.facts, Cert.DwGluIdeal.Gen.facts, Cert.DwGluRefIdeal.Gen.facts,
  Cert.DwPw.Gen.facts, Cert.DwPwIdeal.Gen.facts, Cert.DwPwRefIdeal.Gen.facts, Cert.DwKv.Gen.facts,
  Cert.DwKvIdeal.Gen.facts, Cert.DwKvRefIdeal.Gen.facts, Cert.DwDown.Gen.facts, Cert.DwDownIdeal.Gen.facts,
  Cert.DwDownRefIdeal.Gen.facts, Cert.DwOut.Gen.facts, Cert.DwOutIdeal.Gen.facts, Cert.DwOutRefIdeal.Gen.facts,
  Cert.UpT.Gen.facts, Cert.UpTIdeal.Gen.facts, Cert.UpTRefIdeal.Gen.facts, Cert.InT.Gen.facts,
  Cert.InTIdeal.Gen.facts, Cert.InTRefIdeal.Gen.facts, Cert.GluT.Gen.facts, Cert.GluTIdeal.Gen.facts,
  Cert.GluTRefIdeal.Gen.facts, Cert.PwT.Gen.facts, Cert.PwTIdeal.Gen.facts, Cert.PwTRefIdeal.Gen.facts,
  Cert.KvT.Gen.facts, Cert.KvTIdeal.Gen.facts, Cert.KvTRefIdeal.Gen.facts, Cert.DownT.Gen.facts,
  Cert.DownTIdeal.Gen.facts, Cert.DownTRefIdeal.Gen.facts, Cert.OutT.Gen.facts, Cert.OutTIdeal.Gen.facts,
  Cert.OutTRefIdeal.Gen.facts, Cert.Up.Gen.facts, Cert.UpIdeal.Gen.facts, Cert.UpRefIdeal.Gen.facts,
  Cert.In.Gen.facts, Cert.InIdeal.Gen.facts, Cert.InRefIdeal.Gen.facts, Cert.Glu.Gen.facts, Cert.GluIdeal.Gen.facts,
  Cert.GluRefIdeal.Gen.facts, Cert.Pw.Gen.facts, Cert.PwIdeal.Gen.facts, Cert.PwRefIdeal.Gen.facts, Cert.Kv.Gen.facts,
  Cert.KvIdeal.Gen.facts, Cert.KvRefIdeal.Gen.facts, Cert.Query.Gen.facts, Cert.QueryIdeal.Gen.facts,
  Cert.QueryRefIdeal.Gen.facts, Cert.Down.Gen.facts, Cert.DownIdeal.Gen.facts, Cert.DownRefIdeal.Gen.facts,
  Cert.Out.Gen.facts, Cert.OutIdeal.Gen.facts, Cert.OutRefIdeal.Gen.facts, Cert.RmsBwd.Gen.facts,
  Cert.RmsBwdIdeal.Gen.facts, Cert.RmsBwdRefIdeal.Gen.facts, Cert.Rms.Gen.facts, Cert.RmsIdeal.Gen.facts,
  Cert.RmsRefIdeal.Gen.facts, Cert.RmsMem.Gen.facts, Cert.RmsMemIdeal.Gen.facts, Cert.RmsMemRefIdeal.Gen.facts,
  Cert.Sparse.Gen.facts, Cert.SparseIdeal.Gen.facts, Cert.SparseRefIdeal.Gen.facts, Cert.AdamIn.Gen.facts,
  Cert.AdamInIdeal.Gen.facts, Cert.AdamInRefIdeal.Gen.facts, Cert.Sum.Gen.facts, Cert.SumIdeal.Gen.facts,
  Cert.SumRefIdeal.Gen.facts, Cert.LateSum.Gen.facts, Cert.LateSumIdeal.Gen.facts, Cert.LateSumRefIdeal.Gen.facts,
  Cert.AdamDw.Gen.facts, Cert.AdamDwIdeal.Gen.facts, Cert.AdamDwRefIdeal.Gen.facts, Cert.AdamPw.Gen.facts,
  Cert.AdamPwIdeal.Gen.facts, Cert.AdamPwRefIdeal.Gen.facts, Cert.AdamGlu.Gen.facts, Cert.AdamGluIdeal.Gen.facts,
  Cert.AdamGluRefIdeal.Gen.facts, Cert.AdamKv.Gen.facts, Cert.AdamKvIdeal.Gen.facts, Cert.AdamKvRefIdeal.Gen.facts,
  Cert.AdamUp.Gen.facts, Cert.AdamUpIdeal.Gen.facts, Cert.AdamUpRefIdeal.Gen.facts, Cert.AdamFdw.Gen.facts,
  Cert.AdamFdwIdeal.Gen.facts, Cert.AdamFdwRefIdeal.Gen.facts, Cert.AdamOut.Gen.facts, Cert.AdamOutIdeal.Gen.facts,
  Cert.AdamOutRefIdeal.Gen.facts, Cert.AdamDown.Gen.facts, Cert.AdamDownIdeal.Gen.facts,
  Cert.AdamDownRefIdeal.Gen.facts, Cert.Post.Gen.facts, Cert.PostIdeal.Gen.facts, Cert.PostRefIdeal.Gen.facts,
  Cert.Mix.Gen.facts, Cert.MixIdeal.Gen.facts, Cert.MixRefIdeal.Gen.facts, Cert.AttnFwd.Gen.facts,
  Cert.AttnFwdIdeal.Gen.facts, Cert.AttnFwdRefIdeal.Gen.facts, Cert.MixBwd.Gen.facts, Cert.MixBwdIdeal.Gen.facts,
  Cert.MixBwdRefIdeal.Gen.facts, Cert.MemBwd.Gen.facts, Cert.MemBwdIdeal.Gen.facts, Cert.MemBwdRefIdeal.Gen.facts,
  Cert.PostBwd.Gen.facts, Cert.PostBwdIdeal.Gen.facts, Cert.PostBwdRefIdeal.Gen.facts, Cert.LossHead.Gen.facts,
  Cert.LossHeadIdeal.Gen.facts, Cert.LossHeadRefIdeal.Gen.facts, Cert.Pre_finite.Gen.facts, Cert.AttnClaims.frame_p,
  Cert.AttnClaims.frame_pi, Cert.AttnClaims.frame_pi', Cert.AttnClaims.frame_ri, Cert.AttnClaims.frame_ri',
  Cert.DwUpClaims.frame_p, Cert.DwUpClaims.frame_pi, Cert.DwUpClaims.frame_ri, Cert.DwInClaims.frame_p,
  Cert.DwInClaims.frame_pi, Cert.DwInClaims.frame_ri, Cert.DwGluClaims.frame_p, Cert.DwGluClaims.frame_pi,
  Cert.DwGluClaims.frame_ri, Cert.DwPwClaims.frame_p, Cert.DwPwClaims.frame_pi, Cert.DwPwClaims.frame_ri,
  Cert.DwKvClaims.frame_p, Cert.DwKvClaims.frame_pi, Cert.DwKvClaims.frame_ri, Cert.DwDownClaims.frame_p,
  Cert.DwDownClaims.frame_pi, Cert.DwDownClaims.frame_ri, Cert.DwOutClaims.frame_p, Cert.DwOutClaims.frame_pi,
  Cert.DwOutClaims.frame_ri, Cert.UpTClaims.frame_p, Cert.UpTClaims.frame_pi, Cert.UpTClaims.frame_ri,
  Cert.InTClaims.frame_p, Cert.InTClaims.frame_pi, Cert.InTClaims.frame_ri, Cert.GluTClaims.frame_p,
  Cert.GluTClaims.frame_pi, Cert.GluTClaims.frame_ri, Cert.PwTClaims.frame_p, Cert.PwTClaims.frame_pi,
  Cert.PwTClaims.frame_ri, Cert.KvTClaims.frame_p, Cert.KvTClaims.frame_pi, Cert.KvTClaims.frame_ri,
  Cert.DownTClaims.frame_p, Cert.DownTClaims.frame_pi, Cert.DownTClaims.frame_ri, Cert.OutTClaims.frame_p,
  Cert.OutTClaims.frame_pi, Cert.OutTClaims.frame_ri, Cert.UpClaims.frame_p, Cert.UpClaims.frame_pi,
  Cert.UpClaims.frame_ri, Cert.InClaims.frame_p, Cert.InClaims.frame_pi, Cert.InClaims.frame_ri,
  Cert.GluClaims.frame_p, Cert.GluClaims.frame_pi, Cert.GluClaims.frame_ri, Cert.PwClaims.frame_p,
  Cert.PwClaims.frame_pi, Cert.PwClaims.frame_ri, Cert.KvClaims.frame_p, Cert.KvClaims.frame_pi,
  Cert.KvClaims.frame_ri, Cert.QueryClaims.frame_p, Cert.QueryClaims.frame_pi, Cert.QueryClaims.frame_ri,
  Cert.DownClaims.frame_p, Cert.DownClaims.frame_pi, Cert.DownClaims.frame_ri, Cert.OutClaims.frame_p,
  Cert.OutClaims.frame_pi, Cert.OutClaims.frame_ri, Cert.RmsBwdClaims.frame_p, Cert.RmsBwdClaims.frame_pi,
  Cert.RmsBwdClaims.frame_ri, Cert.RmsClaims.frame_p, Cert.RmsClaims.frame_pi, Cert.RmsClaims.frame_ri,
  Cert.RmsMemClaims.frame_p, Cert.RmsMemClaims.frame_pi, Cert.RmsMemClaims.frame_ri, Cert.SparseClaims.frame_p,
  Cert.SparseClaims.frame_pi, Cert.SparseClaims.frame_ri, Cert.AdamInClaims.frame_p, Cert.AdamInClaims.frame_pi,
  Cert.AdamInClaims.frame_ri, Cert.SumClaims.frame_p, Cert.SumClaims.frame_pi, Cert.SumClaims.frame_ri,
  Cert.LateSumClaims.frame_p, Cert.LateSumClaims.frame_pi, Cert.LateSumClaims.frame_ri, Cert.AdamDwClaims.frame_p,
  Cert.AdamDwClaims.frame_pi, Cert.AdamDwClaims.frame_ri, Cert.AdamPwClaims.frame_p, Cert.AdamPwClaims.frame_pi,
  Cert.AdamPwClaims.frame_ri, Cert.AdamGluClaims.frame_p, Cert.AdamGluClaims.frame_pi, Cert.AdamGluClaims.frame_ri,
  Cert.AdamKvClaims.frame_p, Cert.AdamKvClaims.frame_pi, Cert.AdamKvClaims.frame_ri, Cert.AdamUpClaims.frame_p,
  Cert.AdamUpClaims.frame_pi, Cert.AdamUpClaims.frame_ri, Cert.AdamFdwClaims.frame_p, Cert.AdamFdwClaims.frame_pi,
  Cert.AdamFdwClaims.frame_ri, Cert.AdamOutClaims.frame_p, Cert.AdamOutClaims.frame_pi, Cert.AdamOutClaims.frame_ri,
  Cert.AdamDownClaims.frame_p, Cert.AdamDownClaims.frame_pi, Cert.AdamDownClaims.frame_ri, Cert.PostClaims.frame_p,
  Cert.PostClaims.frame_pi, Cert.PostClaims.frame_ri, Cert.MixClaims.frame_p, Cert.MixClaims.frame_pi,
  Cert.MixClaims.frame_ri, Cert.AttnFwdClaims.frame_p, Cert.AttnFwdClaims.frame_pi, Cert.AttnFwdClaims.frame_ri,
  Cert.MixBwdClaims.frame_p, Cert.MixBwdClaims.frame_pi, Cert.MixBwdClaims.frame_ri, Cert.MemBwdClaims.frame_p,
  Cert.MemBwdClaims.frame_pi, Cert.MemBwdClaims.frame_ri, Cert.PostBwdClaims.frame_p, Cert.PostBwdClaims.frame_pi,
  Cert.PostBwdClaims.frame_ri, Cert.LossHeadClaims.frame_p, Cert.LossHeadClaims.frame_pi,
  Cert.LossHeadClaims.frame_ri, Cert.AttnClaims.preserves, Cert.AttnClaims.algebraic, Cert.DwUpClaims.preserves,
  Cert.DwUpClaims.algebraic, Cert.DwInClaims.preserves, Cert.DwInClaims.algebraic, Cert.DwGluClaims.preserves,
  Cert.DwGluClaims.algebraic, Cert.DwPwClaims.preserves, Cert.DwPwClaims.algebraic, Cert.DwKvClaims.preserves,
  Cert.DwKvClaims.algebraic, Cert.DwDownClaims.preserves, Cert.DwDownClaims.algebraic, Cert.DwOutClaims.preserves,
  Cert.DwOutClaims.algebraic, Cert.UpTClaims.preserves, Cert.UpTClaims.algebraic, Cert.InTClaims.preserves,
  Cert.InTClaims.algebraic, Cert.GluTClaims.preserves, Cert.GluTClaims.algebraic, Cert.PwTClaims.preserves,
  Cert.PwTClaims.algebraic, Cert.KvTClaims.preserves, Cert.KvTClaims.algebraic, Cert.DownTClaims.preserves,
  Cert.DownTClaims.algebraic, Cert.OutTClaims.preserves, Cert.OutTClaims.algebraic, Cert.UpClaims.preserves,
  Cert.UpClaims.algebraic, Cert.InClaims.preserves, Cert.InClaims.algebraic, Cert.GluClaims.preserves,
  Cert.GluClaims.algebraic, Cert.PwClaims.preserves, Cert.PwClaims.algebraic, Cert.KvClaims.preserves,
  Cert.KvClaims.algebraic, Cert.QueryClaims.preserves, Cert.QueryClaims.algebraic, Cert.DownClaims.preserves,
  Cert.DownClaims.algebraic, Cert.OutClaims.preserves, Cert.OutClaims.algebraic, Cert.RmsBwdClaims.preserves,
  Cert.RmsBwdClaims.algebraic, Cert.RmsClaims.preserves, Cert.RmsClaims.algebraic, Cert.RmsMemClaims.preserves,
  Cert.RmsMemClaims.algebraic, Cert.SparseClaims.preserves, Cert.SparseClaims.algebraic, Cert.AdamInClaims.preserves,
  Cert.AdamInClaims.algebraic, Cert.SumClaims.preserves, Cert.SumClaims.algebraic, Cert.LateSumClaims.preserves,
  Cert.LateSumClaims.algebraic, Cert.AdamDwClaims.preserves, Cert.AdamDwClaims.algebraic, Cert.AdamPwClaims.preserves,
  Cert.AdamPwClaims.algebraic, Cert.AdamGluClaims.preserves, Cert.AdamGluClaims.algebraic,
  Cert.AdamKvClaims.preserves, Cert.AdamKvClaims.algebraic, Cert.AdamUpClaims.preserves, Cert.AdamUpClaims.algebraic,
  Cert.AdamFdwClaims.preserves, Cert.AdamFdwClaims.algebraic, Cert.AdamOutClaims.preserves,
  Cert.AdamOutClaims.algebraic, Cert.AdamDownClaims.preserves, Cert.AdamDownClaims.algebraic,
  Cert.PostClaims.preserves, Cert.PostClaims.algebraic, Cert.MixClaims.preserves, Cert.MixClaims.algebraic,
  Cert.AttnFwdClaims.preserves, Cert.AttnFwdClaims.algebraic, Cert.MixBwdClaims.preserves,
  Cert.MixBwdClaims.algebraic, Cert.MemBwdClaims.preserves, Cert.MemBwdClaims.algebraic, Cert.PostBwdClaims.preserves,
  Cert.PostBwdClaims.algebraic, Cert.LossHeadClaims.preserves, Cert.LossHeadClaims.algebraic⟩

end Cert.Proof

end
